-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_nonneg [hPre_weights_nonneg : Cert.Pre_weights_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_weights_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_nonneg [hPre_weights_nonneg : Cert.Pre_weights_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_weights_nonneg [hKernelIdeal : Cert.KernelIdeal.Facts] [hPre_weights_nonneg : Cert.Pre_weights_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_weights_nonneg [hReferenceIdeal : Cert.ReferenceIdeal.Facts] [hPre_weights_nonneg : Cert.Pre_weights_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_weights_nonneg [hKernelIdeal : Cert.KernelIdeal.Facts] [hReferenceIdeal : Cert.ReferenceIdeal.Facts] [hPre_weights_nonneg : Cert.Pre_weights_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_weights_nonneg : Cert.Pre_weights_nonneg.Facts),
    quiescent_Kernel (hKernel := hKernel)
    ∧ quiescent_KernelIdeal (hKernelIdeal := hKernelIdeal)
    ∧ quiescent_KernelIdeal_pre_weights_nonneg (hKernelIdeal := hKernelIdeal) (hPre_weights_nonneg := hPre_weights_nonneg)
    ∧ quiescent_ReferenceIdeal (hReferenceIdeal := hReferenceIdeal)
    ∧ quiescent_ReferenceIdeal_pre_weights_nonneg (hReferenceIdeal := hReferenceIdeal) (hPre_weights_nonneg := hPre_weights_nonneg)
    ∧ preserves_Kernel_KernelIdeal
    ∧ algebraic_KernelIdeal_ReferenceIdeal_pre_weights_nonneg (hKernelIdeal := hKernelIdeal) (hReferenceIdeal := hReferenceIdeal) (hPre_weights_nonneg := hPre_weights_nonneg)
-- ==== Pre_weights_nonneg.lean ====
abbrev S96x1x3072 : Shape := ⟨3, ![96, 1, 3072]⟩
abbrev S96x1x8 : Shape := ⟨3, ![96, 1, 8]⟩
abbrev S16x1536x4096 : Shape := ⟨3, ![16, 1536, 4096]⟩
abbrev S16x24x4096 : Shape := ⟨3, ![16, 24, 4096]⟩
abbrev S16x24x2048 : Shape := ⟨3, ![16, 24, 2048]⟩
abbrev S16x1024x3072 : Shape := ⟨3, ![16, 1024, 3072]⟩
abbrev S16x16x3072 : Shape := ⟨3, ![16, 16, 3072]⟩
abbrev S16x16x1536 : Shape := ⟨3, ![16, 16, 1536]⟩
abbrev S_ : Shape := ⟨0, ![]⟩

class Facts : Prop where
  bcast_S_S96x1x8 : S_.BroadcastsInDim S96x1x8 (![] : Fin 0 → Fin S96x1x8.rank)

variable [Facts]

def fn {F : FTy → Type} [FloatOps F] (main_arg0 : FVec F S96x1x3072 .bf16) (main_arg1 : IVec S96x1x8 32) (main_arg2 : FVec F S96x1x8 .f32) (main_arg3 : IVec S16x1536x4096 8) (main_arg4 : FVec F S16x24x4096 .bf16) (main_arg5 : IVec S16x24x2048 8) (main_arg6 : IVec S16x1024x3072 8) (main_arg7 : FVec F S16x16x3072 .bf16) (main_arg8 : IVec S16x16x1536 8) : IVec S96x1x8 1 :=
  let main_cst : FVec F S_ .f32 := constant S_ .f32 0x00000000#32
  let main_v0 : FVec F S96x1x8 .f32 := broadcastInDim S96x1x8 ![] bcast_S_S96x1x8 main_cst
  let main_v1 : IVec S96x1x8 1 := cmpf .oge main_arg2 main_v0
  main_v1
-- ==== Kernel.lean ====
abbrev S96x1x3072 : Shape := ⟨3, ![96, 1, 3072]⟩
abbrev S96x1x8 : Shape := ⟨3, ![96, 1, 8]⟩
abbrev S16x1536x4096 : Shape := ⟨3, ![16, 1536, 4096]⟩
abbrev S16x24x4096 : Shape := ⟨3, ![16, 24, 4096]⟩
abbrev S16x24x2048 : Shape := ⟨3, ![16, 24, 2048]⟩
abbrev S16x1024x3072 : Shape := ⟨3, ![16, 1024, 3072]⟩
abbrev S16x16x3072 : Shape := ⟨3, ![16, 16, 3072]⟩
abbrev S16x16x1536 : Shape := ⟨3, ![16, 16, 1536]⟩
abbrev S96x3072 : Shape := ⟨2, ![96, 3072]⟩
abbrev S96x8 : Shape := ⟨2, ![96, 8]⟩
abbrev S2x1536x4096 : Shape := ⟨3, ![2, 1536, 4096]⟩
abbrev S2x1024x3072 : Shape := ⟨3, ![2, 1024, 3072]⟩
abbrev S2x24x4096 : Shape := ⟨3, ![2, 24, 4096]⟩
abbrev S2x24x2048 : Shape := ⟨3, ![2, 24, 2048]⟩
abbrev S2x16x3072 : Shape := ⟨3, ![2, 16, 3072]⟩
abbrev S2x16x1536 : Shape := ⟨3, ![2, 16, 1536]⟩
abbrev S24x4096 : Shape := ⟨2, ![24, 4096]⟩
abbrev S16x3072 : Shape := ⟨2, ![16, 3072]⟩
abbrev S96x2048 : Shape := ⟨2, ![96, 2048]⟩
abbrev S16x2x96x128 : Shape := ⟨4, ![16, 2, 96, 128]⟩
abbrev S17 : Shape := ⟨1, ![17]⟩
abbrev S2x4 : Shape := ⟨2, ![2, 4]⟩
abbrev S2x2 : Shape := ⟨2, ![2, 2]⟩
abbrev S96 : Shape := ⟨1, ![96]⟩
abbrev S96x1 : Shape := ⟨2, ![96, 1]⟩
abbrev S96x128 : Shape := ⟨2, ![96, 128]⟩
abbrev S1x1x96x128 : Shape := ⟨4, ![1, 1, 96, 128]⟩
abbrev S1 : Shape := ⟨1, ![1]⟩
abbrev S1x96x1 : Shape := ⟨3, ![1, 96, 1]⟩
abbrev S1x1x1 : Shape := ⟨3, ![1, 1, 1]⟩
abbrev S1x1 : Shape := ⟨2, ![1, 1]⟩
abbrev S_ : Shape := ⟨0, ![]⟩
abbrev S1x24x4096 : Shape := ⟨3, ![1, 24, 4096]⟩
abbrev S1x24x2048 : Shape := ⟨3, ![1, 24, 2048]⟩
abbrev S24x2048 : Shape := ⟨2, ![24, 2048]⟩
abbrev S1x16x3072 : Shape := ⟨3, ![1, 16, 3072]⟩
abbrev S1x16x1536 : Shape := ⟨3, ![1, 16, 1536]⟩
abbrev S16x1536 : Shape := ⟨2, ![16, 1536]⟩
abbrev S1x1536x512 : Shape := ⟨3, ![1, 1536, 512]⟩
abbrev S1536x512 : Shape := ⟨2, ![1536, 512]⟩
abbrev S1x1024x1536 : Shape := ⟨3, ![1, 1024, 1536]⟩
abbrev S1024x1536 : Shape := ⟨2, ![1024, 1536]⟩
abbrev S96x256 : Shape := ⟨2, ![96, 256]⟩
abbrev S1x64x256 : Shape := ⟨3, ![1, 64, 256]⟩
abbrev S64x256 : Shape := ⟨2, ![64, 256]⟩
abbrev S1x256 : Shape := ⟨2, ![1, 256]⟩
abbrev S16x256 : Shape := ⟨2, ![16, 256]⟩
abbrev S64x1x256 : Shape := ⟨3, ![64, 1, 256]⟩
abbrev S64x2x256 : Shape := ⟨3, ![64, 2, 256]⟩
abbrev S128x256 : Shape := ⟨2, ![128, 256]⟩
abbrev S8x16x256 : Shape := ⟨3, ![8, 16, 256]⟩
abbrev S1x16x256 : Shape := ⟨3, ![1, 16, 256]⟩
abbrev S256x256 : Shape := ⟨2, ![256, 256]⟩

abbrev nBuf : Space → Nat
  | .hbm => 14
  | .vmem => 17
  | .smem => 1
  | _ => 0

abbrev bufTy : (tb : Table) → Fin (tcTables nBuf tb) → BufTy
  | .hbm, ⟨0, _⟩ => ⟨S96x1x3072, .bf16⟩
  | .hbm, ⟨1, _⟩ => ⟨S96x1x8, .i32⟩
  | .hbm, ⟨2, _⟩ => ⟨S96x1x8, .f32⟩
  | .hbm, ⟨3, _⟩ => ⟨S16x1536x4096, .i8⟩
  | .hbm, ⟨4, _⟩ => ⟨S16x24x4096, .bf16⟩
  | .hbm, ⟨5, _⟩ => ⟨S16x24x2048, .i8⟩
  | .hbm, ⟨6, _⟩ => ⟨S16x1024x3072, .i8⟩
  | .hbm, ⟨7, _⟩ => ⟨S16x16x3072, .bf16⟩
  | .hbm, ⟨8, _⟩ => ⟨S16x16x1536, .i8⟩
  | .hbm, ⟨9, _⟩ => ⟨S96x3072, .bf16⟩
  | .hbm, ⟨10, _⟩ => ⟨S96x8, .i32⟩
  | .hbm, ⟨11, _⟩ => ⟨S96x8, .f32⟩
  | .hbm, ⟨12, _⟩ => ⟨S96x3072, .bf16⟩
  | .hbm, ⟨13, _⟩ => ⟨S96x1x3072, .bf16⟩
  | .local _ .vmem, ⟨0, _⟩ => ⟨S96x3072, .bf16⟩
  | .local _ .vmem, ⟨1, _⟩ => ⟨S96x8, .i32⟩
  | .local _ .vmem, ⟨2, _⟩ => ⟨S96x8, .f32⟩
  | .local _ .vmem, ⟨3, _⟩ => ⟨S96x3072, .bf16⟩
  | .local _ .vmem, ⟨4, _⟩ => ⟨S2x1536x4096, .i8⟩
  | .local _ .vmem, ⟨5, _⟩ => ⟨S2x1024x3072, .i8⟩
  | .local _ .vmem, ⟨6, _⟩ => ⟨S2x24x4096, .bf16⟩
  | .local _ .vmem, ⟨7, _⟩ => ⟨S2x24x2048, .i8⟩
  | .local _ .vmem, ⟨8, _⟩ => ⟨S2x16x3072, .bf16⟩
  | .local _ .vmem, ⟨9, _⟩ => ⟨S2x16x1536, .i8⟩
  | .local _ .vmem, ⟨10, _⟩ => ⟨S24x4096, .f32⟩
  | .local _ .vmem, ⟨11, _⟩ => ⟨S24x4096, .f32⟩
  | .local _ .vmem, ⟨12, _⟩ => ⟨S16x3072, .f32⟩
  | .local _ .vmem, ⟨13, _⟩ => ⟨S16x3072, .f32⟩
  | .local _ .vmem, ⟨14, _⟩ => ⟨S96x2048, .bf16⟩
  | .local _ .vmem, ⟨15, _⟩ => ⟨S96x3072, .f32⟩
  | .local _ .vmem, ⟨16, _⟩ => ⟨S16x2x96x128, .f32⟩
  | .local _ .smem, ⟨0, _⟩ => ⟨S17, .i32⟩
  | _, _ => ⟨S96x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_3 : BitVec 32 := 0#32
  let c16_i32 : BitVec 32 := 16#32
  let v4 : BitVec 32 := Scalar.addi c0_i32_3 c16_i32
  let c1_i32 : BitVec 32 := 1#32
  ⟨c0_i32_3, v4, c1_i32⟩
def k0_off1 (k0_t1 : Fin k0_t1_loop.trips) : Fin 4 → Nat :=
  let c0_i32_3 : BitVec 32 := 0#32
  let c1_i32 : BitVec 32 := 1#32
  let arg27 : BitVec 32 := Scf.iv c0_i32_3 c1_i32 k0_t1
  let v34 : Index := Scalar.indexCast arg27
  let c0_23 : Index := 0#32
  let c0_24 : Index := 0#32
  let c0_25 : Index := 0#32
  ![v34.toNat, 0, 0, 0]
def k0_off2 (k0_t1 : Fin k0_t1_loop.trips) : Fin 4 → Nat :=
  let c0_i32_3 : BitVec 32 := 0#32
  let c1_i32 : BitVec 32 := 1#32
  let arg27 : BitVec 32 := Scf.iv c0_i32_3 c1_i32 k0_t1
  let v40 : Index := Scalar.indexCast arg27
  let c1 : Index := 1#32
  let c0_26 : Index := 0#32
  let c0_27 : Index := 0#32
  ![v40.toNat, 1, 0, 0]
def k0_off3 (arg28 : BitVec 32) : Fin 1 → Nat :=
  let v44 : Index := Scalar.indexCast arg28
  ![v44.toNat]

def k0_chk1 (arg28 : BitVec 32) : Prop :=
  (∀ a, (k0_off3 arg28) a + S1.size a ≤ S17.size a)
theorem k0_off3_inb : ∀ (arg28 : BitVec 32) (k0_hw1 : k0_chk1 arg28), ∀ a, (k0_off3 arg28) a + S1.size a ≤ S17.size a := fun arg28 k0_hw1 => k0_hw1

def k0_off4 (v21 : BitVec 32) : Fin 3 → Nat :=
  let c0_i32_24 : BitVec 32 := 0#32
  let c0_i32_25 : BitVec 32 := 0#32
  ![v21.toNat, 0, 0]
def k0_cond1 (v5 : BitVec 32) : BitVec 1 :=
  let c0_i32_5 : BitVec 32 := 0#32
  let v6 : BitVec 1 := Scalar.cmpi .sgt v5 c0_i32_5
  let v7 : BitVec 32 := Scalar.extui v6
  let c0_i32_6 : BitVec 32 := 0#32
  let v8 : BitVec 1 := Scalar.cmpi .ne v7 c0_i32_6
  v8

def k0_off5 (v21 : BitVec 32) : Fin 3 → Nat :=
  let c0_i32_31 : BitVec 32 := 0#32
  let c0_i32_32 : BitVec 32 := 0#32
  ![v21.toNat, 0, 0]
def k0_off6 (v21 : BitVec 32) : Fin 3 → Nat :=
  let c0_i32_37 : BitVec 32 := 0#32
  let c0_i32_38 : BitVec 32 := 0#32
  ![v21.toNat, 0, 0]
def k0_off7 (v21 : BitVec 32) : Fin 3 → Nat :=
  let c0_i32_43 : BitVec 32 := 0#32
  let c0_i32_44 : BitVec 32 := 0#32
  ![v21.toNat, 0, 0]
def k0_off8 (v21 : BitVec 32) : Fin 3 → Nat :=
  let c0_i32_50 : BitVec 32 := 0#32
  let c0_i32_51 : BitVec 32 := 0#32
  ![v21.toNat, 0, 0]
def k0_off9 (v21 : BitVec 32) : Fin 3 → Nat :=
  let c0_i32_56 : BitVec 32 := 0#32
  let c2048_i32_57 : BitVec 32 := 2048#32
  ![v21.toNat, 0, 2048]
def k0_off10 (v21 : BitVec 32) : Fin 3 → Nat :=
  let c0_i32_62 : BitVec 32 := 0#32
  let c512_i32_63 : BitVec 32 := 512#32
  ![v21.toNat, 0, 512]
def k0_off11 (v21 : BitVec 32) : Fin 3 → Nat :=
  let c0_i32_68 : BitVec 32 := 0#32
  let c2560_i32_69 : BitVec 32 := 2560#32
  ![v21.toNat, 0, 2560]
def k0_off12 (v21 : BitVec 32) : Fin 3 → Nat :=
  let c0_i32_74 : BitVec 32 := 0#32
  let c1024_i32_75 : BitVec 32 := 1024#32
  ![v21.toNat, 0, 1024]
def k0_off13 (v21 : BitVec 32) : Fin 3 → Nat :=
  let c0_i32_80 : BitVec 32 := 0#32
  let c3072_i32_81 : BitVec 32 := 3072#32
  ![v21.toNat, 0, 3072]
def k0_off14 (v21 : BitVec 32) : Fin 3 → Nat :=
  let c0_i32_86 : BitVec 32 := 0#32
  let c1536_i32_87 : BitVec 32 := 1536#32
  ![v21.toNat, 0, 1536]
def k0_off15 (v21 : BitVec 32) : Fin 3 → Nat :=
  let c0_i32_92 : BitVec 32 := 0#32
  let c3584_i32_93 : BitVec 32 := 3584#32
  ![v21.toNat, 0, 3584]
def k0_off16 (v21 : BitVec 32) : Fin 3 → Nat :=
  let c0_i32_99 : BitVec 32 := 0#32
  let c0_i32_100 : BitVec 32 := 0#32
  ![v21.toNat, 0, 0]
def k0_off17 (v21 : BitVec 32) : Fin 3 → Nat :=
  let c0_i32_106 : BitVec 32 := 0#32
  let c1536_i32_107 : BitVec 32 := 1536#32
  ![v21.toNat, 0, 1536]

def k0_chk2 (v5 : BitVec 32) (v21 : BitVec 32) : Prop :=
  (∀ (k0_h1 : k0_cond1 v5 = 1#1), ∀ a, (k0_off4 v21) a + S1x24x4096.size a ≤ S16x24x4096.size a) ∧
  (∀ (k0_h1 : k0_cond1 v5 = 1#1), ∀ (hinb : ∀ a, (k0_off4 v21) a + S1x24x4096.size a ≤ S16x24x4096.size a), (Rect.unit (s := S16x24x4096) (k0_off4 v21) S1x24x4096.size hinb).WholeWords (EltTy.packing .bf16)) ∧
  (∀ (k0_h1 : k0_cond1 v5 = 1#1), ∀ a, (k0_off5 v21) a + S1x24x2048.size a ≤ S16x24x2048.size a) ∧
  (∀ (k0_h1 : k0_cond1 v5 = 1#1), ∀ (hinb : ∀ a, (k0_off5 v21) a + S1x24x2048.size a ≤ S16x24x2048.size a), (Rect.unit (s := S16x24x2048) (k0_off5 v21) S1x24x2048.size hinb).WholeWords (EltTy.packing .i8)) ∧
  (∀ (k0_h1 : k0_cond1 v5 = 1#1), ∀ a, (k0_off6 v21) a + S1x16x3072.size a ≤ S16x16x3072.size a) ∧
  (∀ (k0_h1 : k0_cond1 v5 = 1#1), ∀ (hinb : ∀ a, (k0_off6 v21) a + S1x16x3072.size a ≤ S16x16x3072.size a), (Rect.unit (s := S16x16x3072) (k0_off6 v21) S1x16x3072.size hinb).WholeWords (EltTy.packing .bf16)) ∧
  (∀ (k0_h1 : k0_cond1 v5 = 1#1), ∀ a, (k0_off7 v21) a + S1x16x1536.size a ≤ S16x16x1536.size a) ∧
  (∀ (k0_h1 : k0_cond1 v5 = 1#1), ∀ (hinb : ∀ a, (k0_off7 v21) a + S1x16x1536.size a ≤ S16x16x1536.size a), (Rect.unit (s := S16x16x1536) (k0_off7 v21) S1x16x1536.size hinb).WholeWords (EltTy.packing .i8)) ∧
  (∀ (k0_h1 : k0_cond1 v5 = 1#1), ∀ a, (k0_off8 v21) a + S1x1536x512.size a ≤ S16x1536x4096.size a) ∧
  (∀ (k0_h1 : k0_cond1 v5 = 1#1), ∀ (hinb : ∀ a, (k0_off8 v21) a + S1x1536x512.size a ≤ S16x1536x4096.size a), (Rect.unit (s := S16x1536x4096) (k0_off8 v21) S1x1536x512.size hinb).WholeWords (EltTy.packing .i8)) ∧
  (∀ (k0_h1 : k0_cond1 v5 = 1#1), ∀ a, (k0_off9 v21) a + S1x1536x512.size a ≤ S16x1536x4096.size a) ∧
  (∀ (k0_h1 : k0_cond1 v5 = 1#1), ∀ (hinb : ∀ a, (k0_off9 v21) a + S1x1536x512.size a ≤ S16x1536x4096.size a), (Rect.unit (s := S16x1536x4096) (k0_off9 v21) S1x1536x512.size hinb).WholeWords (EltTy.packing .i8)) ∧
  (∀ (k0_h1 : k0_cond1 v5 = 1#1), ∀ a, (k0_off10 v21) a + S1x1536x512.size a ≤ S16x1536x4096.size a) ∧
  (∀ (k0_h1 : k0_cond1 v5 = 1#1), ∀ (hinb : ∀ a, (k0_off10 v21) a + S1x1536x512.size a ≤ S16x1536x4096.size a), (Rect.unit (s := S16x1536x4096) (k0_off10 v21) S1x1536x512.size hinb).WholeWords (EltTy.packing .i8)) ∧
  (∀ (k0_h1 : k0_cond1 v5 = 1#1), ∀ a, (k0_off11 v21) a + S1x1536x512.size a ≤ S16x1536x4096.size a) ∧
  (∀ (k0_h1 : k0_cond1 v5 = 1#1), ∀ (hinb : ∀ a, (k0_off11 v21) a + S1x1536x512.size a ≤ S16x1536x4096.size a), (Rect.unit (s := S16x1536x4096) (k0_off11 v21) S1x1536x512.size hinb).WholeWords (EltTy.packing .i8)) ∧
  (∀ (k0_h1 : k0_cond1 v5 = 1#1), ∀ a, (k0_off12 v21) a + S1x1536x512.size a ≤ S16x1536x4096.size a) ∧
  (∀ (k0_h1 : k0_cond1 v5 = 1#1), ∀ (hinb : ∀ a, (k0_off12 v21) a + S1x1536x512.size a ≤ S16x1536x4096.size a), (Rect.unit (s := S16x1536x4096) (k0_off12 v21) S1x1536x512.size hinb).WholeWords (EltTy.packing .i8)) ∧
  (∀ (k0_h1 : k0_cond1 v5 = 1#1), ∀ a, (k0_off13 v21) a + S1x1536x512.size a ≤ S16x1536x4096.size a) ∧
  (∀ (k0_h1 : k0_cond1 v5 = 1#1), ∀ (hinb : ∀ a, (k0_off13 v21) a + S1x1536x512.size a ≤ S16x1536x4096.size a), (Rect.unit (s := S16x1536x4096) (k0_off13 v21) S1x1536x512.size hinb).WholeWords (EltTy.packing .i8)) ∧
  (∀ (k0_h1 : k0_cond1 v5 = 1#1), ∀ a, (k0_off14 v21) a + S1x1536x512.size a ≤ S16x1536x4096.size a) ∧
  (∀ (k0_h1 : k0_cond1 v5 = 1#1), ∀ (hinb : ∀ a, (k0_off14 v21) a + S1x1536x512.size a ≤ S16x1536x4096.size a), (Rect.unit (s := S16x1536x4096) (k0_off14 v21) S1x1536x512.size hinb).WholeWords (EltTy.packing .i8)) ∧
  (∀ (k0_h1 : k0_cond1 v5 = 1#1), ∀ a, (k0_off15 v21) a + S1x1536x512.size a ≤ S16x1536x4096.size a) ∧
  (∀ (k0_h1 : k0_cond1 v5 = 1#1), ∀ (hinb : ∀ a, (k0_off15 v21) a + S1x1536x512.size a ≤ S16x1536x4096.size a), (Rect.unit (s := S16x1536x4096) (k0_off15 v21) S1x1536x512.size hinb).WholeWords (EltTy.packing .i8)) ∧
  (∀ (k0_h1 : k0_cond1 v5 = 1#1), ∀ a, (k0_off16 v21) a + S1x1024x1536.size a ≤ S16x1024x3072.size a) ∧
  (∀ (k0_h1 : k0_cond1 v5 = 1#1), ∀ (hinb : ∀ a, (k0_off16 v21) a + S1x1024x1536.size a ≤ S16x1024x3072.size a), (Rect.unit (s := S16x1024x3072) (k0_off16 v21) S1x1024x1536.size hinb).WholeWords (EltTy.packing .i8)) ∧
  (∀ (k0_h1 : k0_cond1 v5 = 1#1), ∀ a, (k0_off17 v21) a + S1x1024x1536.size a ≤ S16x1024x3072.size a) ∧
  (∀ (k0_h1 : k0_cond1 v5 = 1#1), ∀ (hinb : ∀ a, (k0_off17 v21) a + S1x1024x1536.size a ≤ S16x1024x3072.size a), (Rect.unit (s := S16x1024x3072) (k0_off17 v21) S1x1024x1536.size hinb).WholeWords (EltTy.packing .i8))
theorem k0_off4_inb : ∀ (v5 : BitVec 32) (v21 : BitVec 32) (k0_hw2 : k0_chk2 v5 v21), ∀ (k0_h1 : k0_cond1 v5 = 1#1), ∀ a, (k0_off4 v21) a + S1x24x4096.size a ≤ S16x24x4096.size a := fun v5 v21 k0_hw2 k0_h1 => k0_hw2.1 k0_h1
theorem k0_off4_wordsbf16 : ∀ (v5 : BitVec 32) (v21 : BitVec 32) (k0_hw2 : k0_chk2 v5 v21), ∀ (k0_h1 : k0_cond1 v5 = 1#1), (Rect.unit (s := S16x24x4096) (k0_off4 v21) S1x24x4096.size (k0_off4_inb v5 v21 k0_hw2 k0_h1)).WholeWords (EltTy.packing .bf16) := fun v5 v21 k0_hw2 k0_h1 => k0_hw2.2.1 k0_h1 (k0_off4_inb v5 v21 k0_hw2 k0_h1)
theorem k0_off5_inb : ∀ (v5 : BitVec 32) (v21 : BitVec 32) (k0_hw2 : k0_chk2 v5 v21), ∀ (k0_h1 : k0_cond1 v5 = 1#1), ∀ a, (k0_off5 v21) a + S1x24x2048.size a ≤ S16x24x2048.size a := fun v5 v21 k0_hw2 k0_h1 => k0_hw2.2.2.1 k0_h1
theorem k0_off5_wordsi8 : ∀ (v5 : BitVec 32) (v21 : BitVec 32) (k0_hw2 : k0_chk2 v5 v21), ∀ (k0_h1 : k0_cond1 v5 = 1#1), (Rect.unit (s := S16x24x2048) (k0_off5 v21) S1x24x2048.size (k0_off5_inb v5 v21 k0_hw2 k0_h1)).WholeWords (EltTy.packing .i8) := fun v5 v21 k0_hw2 k0_h1 => k0_hw2.2.2.2.1 k0_h1 (k0_off5_inb v5 v21 k0_hw2 k0_h1)
theorem k0_off6_inb : ∀ (v5 : BitVec 32) (v21 : BitVec 32) (k0_hw2 : k0_chk2 v5 v21), ∀ (k0_h1 : k0_cond1 v5 = 1#1), ∀ a, (k0_off6 v21) a + S1x16x3072.size a ≤ S16x16x3072.size a := fun v5 v21 k0_hw2 k0_h1 => k0_hw2.2.2.2.2.1 k0_h1
theorem k0_off6_wordsbf16 : ∀ (v5 : BitVec 32) (v21 : BitVec 32) (k0_hw2 : k0_chk2 v5 v21), ∀ (k0_h1 : k0_cond1 v5 = 1#1), (Rect.unit (s := S16x16x3072) (k0_off6 v21) S1x16x3072.size (k0_off6_inb v5 v21 k0_hw2 k0_h1)).WholeWords (EltTy.packing .bf16) := fun v5 v21 k0_hw2 k0_h1 => k0_hw2.2.2.2.2.2.1 k0_h1 (k0_off6_inb v5 v21 k0_hw2 k0_h1)
theorem k0_off7_inb : ∀ (v5 : BitVec 32) (v21 : BitVec 32) (k0_hw2 : k0_chk2 v5 v21), ∀ (k0_h1 : k0_cond1 v5 = 1#1), ∀ a, (k0_off7 v21) a + S1x16x1536.size a ≤ S16x16x1536.size a := fun v5 v21 k0_hw2 k0_h1 => k0_hw2.2.2.2.2.2.2.1 k0_h1
theorem k0_off7_wordsi8 : ∀ (v5 : BitVec 32) (v21 : BitVec 32) (k0_hw2 : k0_chk2 v5 v21), ∀ (k0_h1 : k0_cond1 v5 = 1#1), (Rect.unit (s := S16x16x1536) (k0_off7 v21) S1x16x1536.size (k0_off7_inb v5 v21 k0_hw2 k0_h1)).WholeWords (EltTy.packing .i8) := fun v5 v21 k0_hw2 k0_h1 => k0_hw2.2.2.2.2.2.2.2.1 k0_h1 (k0_off7_inb v5 v21 k0_hw2 k0_h1)
theorem k0_off8_inb : ∀ (v5 : BitVec 32) (v21 : BitVec 32) (k0_hw2 : k0_chk2 v5 v21), ∀ (k0_h1 : k0_cond1 v5 = 1#1), ∀ a, (k0_off8 v21) a + S1x1536x512.size a ≤ S16x1536x4096.size a := fun v5 v21 k0_hw2 k0_h1 => k0_hw2.2.2.2.2.2.2.2.2.1 k0_h1
theorem k0_off8_wordsi8 : ∀ (v5 : BitVec 32) (v21 : BitVec 32) (k0_hw2 : k0_chk2 v5 v21), ∀ (k0_h1 : k0_cond1 v5 = 1#1), (Rect.unit (s := S16x1536x4096) (k0_off8 v21) S1x1536x512.size (k0_off8_inb v5 v21 k0_hw2 k0_h1)).WholeWords (EltTy.packing .i8) := fun v5 v21 k0_hw2 k0_h1 => k0_hw2.2.2.2.2.2.2.2.2.2.1 k0_h1 (k0_off8_inb v5 v21 k0_hw2 k0_h1)
theorem k0_off9_inb : ∀ (v5 : BitVec 32) (v21 : BitVec 32) (k0_hw2 : k0_chk2 v5 v21), ∀ (k0_h1 : k0_cond1 v5 = 1#1), ∀ a, (k0_off9 v21) a + S1x1536x512.size a ≤ S16x1536x4096.size a := fun v5 v21 k0_hw2 k0_h1 => k0_hw2.2.2.2.2.2.2.2.2.2.2.1 k0_h1
theorem k0_off9_wordsi8 : ∀ (v5 : BitVec 32) (v21 : BitVec 32) (k0_hw2 : k0_chk2 v5 v21), ∀ (k0_h1 : k0_cond1 v5 = 1#1), (Rect.unit (s := S16x1536x4096) (k0_off9 v21) S1x1536x512.size (k0_off9_inb v5 v21 k0_hw2 k0_h1)).WholeWords (EltTy.packing .i8) := fun v5 v21 k0_hw2 k0_h1 => k0_hw2.2.2.2.2.2.2.2.2.2.2.2.1 k0_h1 (k0_off9_inb v5 v21 k0_hw2 k0_h1)
theorem k0_off10_inb : ∀ (v5 : BitVec 32) (v21 : BitVec 32) (k0_hw2 : k0_chk2 v5 v21), ∀ (k0_h1 : k0_cond1 v5 = 1#1), ∀ a, (k0_off10 v21) a + S1x1536x512.size a ≤ S16x1536x4096.size a := fun v5 v21 k0_hw2 k0_h1 => k0_hw2.2.2.2.2.2.2.2.2.2.2.2.2.1 k0_h1
theorem k0_off10_wordsi8 : ∀ (v5 : BitVec 32) (v21 : BitVec 32) (k0_hw2 : k0_chk2 v5 v21), ∀ (k0_h1 : k0_cond1 v5 = 1#1), (Rect.unit (s := S16x1536x4096) (k0_off10 v21) S1x1536x512.size (k0_off10_inb v5 v21 k0_hw2 k0_h1)).WholeWords (EltTy.packing .i8) := fun v5 v21 k0_hw2 k0_h1 => k0_hw2.2.2.2.2.2.2.2.2.2.2.2.2.2.1 k0_h1 (k0_off10_inb v5 v21 k0_hw2 k0_h1)
theorem k0_off11_inb : ∀ (v5 : BitVec 32) (v21 : BitVec 32) (k0_hw2 : k0_chk2 v5 v21), ∀ (k0_h1 : k0_cond1 v5 = 1#1), ∀ a, (k0_off11 v21) a + S1x1536x512.size a ≤ S16x1536x4096.size a := fun v5 v21 k0_hw2 k0_h1 => k0_hw2.2.2.2.2.2.2.2.2.2.2.2.2.2.2.1 k0_h1
theorem k0_off11_wordsi8 : ∀ (v5 : BitVec 32) (v21 : BitVec 32) (k0_hw2 : k0_chk2 v5 v21), ∀ (k0_h1 : k0_cond1 v5 = 1#1), (Rect.unit (s := S16x1536x4096) (k0_off11 v21) S1x1536x512.size (k0_off11_inb v5 v21 k0_hw2 k0_h1)).WholeWords (EltTy.packing .i8) := fun v5 v21 k0_hw2 k0_h1 => k0_hw2.2.2.2.2.2.2.2.2.2.2.2.2.2.2.2.1 k0_h1 (k0_off11_inb v5 v21 k0_hw2 k0_h1)
theorem k0_off12_inb : ∀ (v5 : BitVec 32) (v21 : BitVec 32) (k0_hw2 : k0_chk2 v5 v21), ∀ (k0_h1 : k0_cond1 v5 = 1#1), ∀ a, (k0_off12 v21) a + S1x1536x512.size a ≤ S16x1536x4096.size a := fun v5 v21 k0_hw2 k0_h1 => k0_hw2.2.2.2.2.2.2.2.2.2.2.2.2.2.2.2.2.1 k0_h1
theorem k0_off12_wordsi8 : ∀ (v5 : BitVec 32) (v21 : BitVec 32) (k0_hw2 : k0_chk2 v5 v21), ∀ (k0_h1 : k0_cond1 v5 = 1#1), (Rect.unit (s := S16x1536x4096) (k0_off12 v21) S1x1536x512.size (k0_off12_inb v5 v21 k0_hw2 k0_h1)).WholeWords (EltTy.packing .i8) := fun v5 v21 k0_hw2 k0_h1 => k0_hw2.2.2.2.2.2.2.2.2.2.2.2.2.2.2.2.2.2.1 k0_h1 (k0_off12_inb v5 v21 k0_hw2 k0_h1)
theorem k0_off13_inb : ∀ (v5 : BitVec 32) (v21 : BitVec 32) (k0_hw2 : k0_chk2 v5 v21), ∀ (k0_h1 : k0_cond1 v5 = 1#1), ∀ a, (k0_off13 v21) a + S1x1536x512.size a ≤ S16x1536x4096.size a := fun v5 v21 k0_hw2 k0_h1 => k0_hw2.2.2.2.2.2.2.2.2.2.2.2.2.2.2.2.2.2.2.1 k0_h1
theorem k0_off13_wordsi8 : ∀ (v5 : BitVec 32) (v21 : BitVec 32) (k0_hw2 : k0_chk2 v5 v21), ∀ (k0_h1 : k0_cond1 v5 = 1#1), (Rect.unit (s := S16x1536x4096) (k0_off13 v21) S1x1536x512.size (k0_off13_inb v5 v21 k0_hw2 k0_h1)).WholeWords (EltTy.packing .i8) := fun v5 v21 k0_hw2 k0_h1 => k0_hw2.2.2.2.2.2.2.2.2.2.2.2.2.2.2.2.2.2.2.2.1 k0_h1 (k0_off13_inb v5 v21 k0_hw2 k0_h1)
theorem k0_off14_inb : ∀ (v5 : BitVec 32) (v21 : BitVec 32) (k0_hw2 : k0_chk2 v5 v21), ∀ (k0_h1 : k0_cond1 v5 = 1#1), ∀ a, (k0_off14 v21) a + S1x1536x512.size a ≤ S16x1536x4096.size a := fun v5 v21 k0_hw2 k0_h1 => k0_hw2.2.2.2.2.2.2.2.2.2.2.2.2.2.2.2.2.2.2.2.2.1 k0_h1
theorem k0_off14_wordsi8 : ∀ (v5 : BitVec 32) (v21 : BitVec 32) (k0_hw2 : k0_chk2 v5 v21), ∀ (k0_h1 : k0_cond1 v5 = 1#1), (Rect.unit (s := S16x1536x4096) (k0_off14 v21) S1x1536x512.size (k0_off14_inb v5 v21 k0_hw2 k0_h1)).WholeWords (EltTy.packing .i8) := fun v5 v21 k0_hw2 k0_h1 => k0_hw2.2.2.2.2.2.2.2.2.2.2.2.2.2.2.2.2.2.2.2.2.2.1 k0_h1 (k0_off14_inb v5 v21 k0_hw2 k0_h1)
theorem k0_off15_inb : ∀ (v5 : BitVec 32) (v21 : BitVec 32) (k0_hw2 : k0_chk2 v5 v21), ∀ (k0_h1 : k0_cond1 v5 = 1#1), ∀ a, (k0_off15 v21) a + S1x1536x512.size a ≤ S16x1536x4096.size a := fun v5 v21 k0_hw2 k0_h1 => k0_hw2.2.2.2.2.2.2.2.2.2.2.2.2.2.2.2.2.2.2.2.2.2.2.1 k0_h1
theorem k0_off15_wordsi8 : ∀ (v5 : BitVec 32) (v21 : BitVec 32) (k0_hw2 : k0_chk2 v5 v21), ∀ (k0_h1 : k0_cond1 v5 = 1#1), (Rect.unit (s := S16x1536x4096) (k0_off15 v21) S1x1536x512.size (k0_off15_inb v5 v21 k0_hw2 k0_h1)).WholeWords (EltTy.packing .i8) := fun v5 v21 k0_hw2 k0_h1 => k0_hw2.2.2.2.2.2.2.2.2.2.2.2.2.2.2.2.2.2.2.2.2.2.2.2.1 k0_h1 (k0_off15_inb v5 v21 k0_hw2 k0_h1)
theorem k0_off16_inb : ∀ (v5 : BitVec 32) (v21 : BitVec 32) (k0_hw2 : k0_chk2 v5 v21), ∀ (k0_h1 : k0_cond1 v5 = 1#1), ∀ a, (k0_off16 v21) a + S1x1024x1536.size a ≤ S16x1024x3072.size a := fun v5 v21 k0_hw2 k0_h1 => k0_hw2.2.2.2.2.2.2.2.2.2.2.2.2.2.2.2.2.2.2.2.2.2.2.2.2.1 k0_h1
theorem k0_off16_wordsi8 : ∀ (v5 : BitVec 32) (v21 : BitVec 32) (k0_hw2 : k0_chk2 v5 v21), ∀ (k0_h1 : k0_cond1 v5 = 1#1), (Rect.unit (s := S16x1024x3072) (k0_off16 v21) S1x1024x1536.size (k0_off16_inb v5 v21 k0_hw2 k0_h1)).WholeWords (EltTy.packing .i8) := fun v5 v21 k0_hw2 k0_h1 => k0_hw2.2.2.2.2.2.2.2.2.2.2.2.2.2.2.2.2.2.2.2.2.2.2.2.2.2.1 k0_h1 (k0_off16_inb v5 v21 k0_hw2 k0_h1)
theorem k0_off17_inb : ∀ (v5 : BitVec 32) (v21 : BitVec 32) (k0_hw2 : k0_chk2 v5 v21), ∀ (k0_h1 : k0_cond1 v5 = 1#1), ∀ a, (k0_off17 v21) a + S1x1024x1536.size a ≤ S16x1024x3072.size a := fun v5 v21 k0_hw2 k0_h1 => k0_hw2.2.2.2.2.2.2.2.2.2.2.2.2.2.2.2.2.2.2.2.2.2.2.2.2.2.2.1 k0_h1
theorem k0_off17_wordsi8 : ∀ (v5 : BitVec 32) (v21 : BitVec 32) (k0_hw2 : k0_chk2 v5 v21), ∀ (k0_h1 : k0_cond1 v5 = 1#1), (Rect.unit (s := S16x1024x3072) (k0_off17 v21) S1x1024x1536.size (k0_off17_inb v5 v21 k0_hw2 k0_h1)).WholeWords (EltTy.packing .i8) := fun v5 v21 k0_hw2 k0_h1 => k0_hw2.2.2.2.2.2.2.2.2.2.2.2.2.2.2.2.2.2.2.2.2.2.2.2.2.2.2.2 k0_h1 (k0_off17_inb v5 v21 k0_hw2 k0_h1)

@[reducible] def k0_t2_loop (v5 : BitVec 32) : Scf.Loop 32 :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_12 : BitVec 32 := 1#32
  ⟨c0_i32_10, v17, c1_i32_12⟩

def k0_off18 (v5 : BitVec 32) (k0_t2 : Fin (k0_t2_loop v5).trips) : Fin 1 → Nat :=
  let c0_i32_10 : BitVec 32 := 0#32
  let c1_i32_12 : BitVec 32 := 1#32
  let arg27 : BitVec 32 := Scf.iv c0_i32_10 c1_i32_12 k0_t2
  let v22 : Index := Scalar.indexCast arg27
  ![v22.toNat]
def k0_off19 (v5 : BitVec 32) (k0_t2 : Fin (k0_t2_loop v5).trips) : Fin 1 → Nat :=
  let c0_i32_10 : BitVec 32 := 0#32
  let c1_i32_12 : BitVec 32 := 1#32
  let arg27 : BitVec 32 := Scf.iv c0_i32_10 c1_i32_12 k0_t2
  let c1_i32_75 : BitVec 32 := 1#32
  let v110 : BitVec 32 := Scalar.addi arg27 c1_i32_75
  let v111 : Index := Scalar.indexCast v110
  ![v111.toNat]
def k0_cond2 (v5 : BitVec 32) (k0_t2 : Fin (k0_t2_loop v5).trips) : BitVec 1 :=
  let c0_i32_10 : BitVec 32 := 0#32
  let c1_i32_12 : BitVec 32 := 1#32
  let arg27 : BitVec 32 := Scf.iv c0_i32_10 c1_i32_12 k0_t2
  let c1_i32_18 : BitVec 32 := 1#32
  let v24 : BitVec 32 := Scalar.addi arg27 c1_i32_18
  let v25 : BitVec 1 := Scalar.cmpi .slt v24 v5
  let v26 : BitVec 32 := Scalar.extui v25
  let c0_i32_19 : BitVec 32 := 0#32
  let v27 : BitVec 1 := Scalar.cmpi .ne v26 c0_i32_19
  v27

def k0_off20 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_78 : BitVec 32 := 0#32
  ![v114.toNat, 0]
def k0_off21 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_79 : BitVec 32 := 0#32
  let c0_i32_80 : BitVec 32 := 0#32
  ![v114.toNat, 0, 0]
def k0_off22 (v112 : BitVec 32) : Fin 3 → Nat :=
  let c0_i32_81 : BitVec 32 := 0#32
  let c0_i32_82 : BitVec 32 := 0#32
  ![v112.toNat, 0, 0]

def k0_off23 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c1_i32_83 : BitVec 32 := 1#32
  ![v114.toNat, 1]
def k0_off24 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_84 : BitVec 32 := 0#32
  let c0_i32_85 : BitVec 32 := 0#32
  ![v114.toNat, 0, 0]
def k0_off25 (v112 : BitVec 32) : Fin 3 → Nat :=
  let c0_i32_86 : BitVec 32 := 0#32
  let c0_i32_87 : BitVec 32 := 0#32
  ![v112.toNat, 0, 0]
def k0_off26 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c2_i32_88 : BitVec 32 := 2#32
  ![v114.toNat, 2]
def k0_off27 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_89 : BitVec 32 := 0#32
  let c0_i32_90 : BitVec 32 := 0#32
  ![v114.toNat, 0, 0]
def k0_off28 (v112 : BitVec 32) : Fin 3 → Nat :=
  let c0_i32_91 : BitVec 32 := 0#32
  let c0_i32_92 : BitVec 32 := 0#32
  ![v112.toNat, 0, 0]
def k0_off29 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c3_i32_93 : BitVec 32 := 3#32
  ![v114.toNat, 3]
def k0_off30 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_94 : BitVec 32 := 0#32
  let c0_i32_95 : BitVec 32 := 0#32
  ![v114.toNat, 0, 0]
def k0_off31 (v112 : BitVec 32) : Fin 3 → Nat :=
  let c0_i32_96 : BitVec 32 := 0#32
  let c0_i32_97 : BitVec 32 := 0#32
  ![v112.toNat, 0, 0]
def k0_off32 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_98 : BitVec 32 := 0#32
  ![v114.toNat, 0]
def k0_off33 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_99 : BitVec 32 := 0#32
  let c0_i32_100 : BitVec 32 := 0#32
  ![v114.toNat, 0, 0]
def k0_off34 (v112 : BitVec 32) : Fin 3 → Nat :=
  let c0_i32_101 : BitVec 32 := 0#32
  let c0_i32_102 : BitVec 32 := 0#32
  ![v112.toNat, 0, 0]
def k0_off35 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_104 : BitVec 32 := 0#32
  let c2048_i32 : BitVec 32 := 2048#32
  ![v114.toNat, 0, 2048]
def k0_off36 (v112 : BitVec 32) : Fin 3 → Nat :=
  let c0_i32_105 : BitVec 32 := 0#32
  let c2048_i32_106 : BitVec 32 := 2048#32
  ![v112.toNat, 0, 2048]
def k0_off37 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_108 : BitVec 32 := 0#32
  let c512_i32 : BitVec 32 := 512#32
  ![v114.toNat, 0, 512]
def k0_off38 (v112 : BitVec 32) : Fin 3 → Nat :=
  let c0_i32_109 : BitVec 32 := 0#32
  let c512_i32_110 : BitVec 32 := 512#32
  ![v112.toNat, 0, 512]
def k0_off39 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_112 : BitVec 32 := 0#32
  let c2560_i32 : BitVec 32 := 2560#32
  ![v114.toNat, 0, 2560]
def k0_off40 (v112 : BitVec 32) : Fin 3 → Nat :=
  let c0_i32_113 : BitVec 32 := 0#32
  let c2560_i32_114 : BitVec 32 := 2560#32
  ![v112.toNat, 0, 2560]
def k0_off41 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_116 : BitVec 32 := 0#32
  let c1024_i32 : BitVec 32 := 1024#32
  ![v114.toNat, 0, 1024]
def k0_off42 (v112 : BitVec 32) : Fin 3 → Nat :=
  let c0_i32_117 : BitVec 32 := 0#32
  let c1024_i32_118 : BitVec 32 := 1024#32
  ![v112.toNat, 0, 1024]
def k0_off43 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_120 : BitVec 32 := 0#32
  let c3072_i32 : BitVec 32 := 3072#32
  ![v114.toNat, 0, 3072]
def k0_off44 (v112 : BitVec 32) : Fin 3 → Nat :=
  let c0_i32_121 : BitVec 32 := 0#32
  let c3072_i32_122 : BitVec 32 := 3072#32
  ![v112.toNat, 0, 3072]
def k0_off45 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_124 : BitVec 32 := 0#32
  let c1536_i32 : BitVec 32 := 1536#32
  ![v114.toNat, 0, 1536]
def k0_off46 (v112 : BitVec 32) : Fin 3 → Nat :=
  let c0_i32_125 : BitVec 32 := 0#32
  let c1536_i32_126 : BitVec 32 := 1536#32
  ![v112.toNat, 0, 1536]
def k0_off47 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_128 : BitVec 32 := 0#32
  let c3584_i32 : BitVec 32 := 3584#32
  ![v114.toNat, 0, 3584]
def k0_off48 (v112 : BitVec 32) : Fin 3 → Nat :=
  let c0_i32_129 : BitVec 32 := 0#32
  let c3584_i32_130 : BitVec 32 := 3584#32
  ![v112.toNat, 0, 3584]
def k0_off49 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_131 : BitVec 32 := 0#32
  ![v114.toNat, 0]
def k0_off50 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_132 : BitVec 32 := 0#32
  let c0_i32_133 : BitVec 32 := 0#32
  ![v114.toNat, 0, 0]
def k0_off51 (v112 : BitVec 32) : Fin 3 → Nat :=
  let c0_i32_134 : BitVec 32 := 0#32
  let c0_i32_135 : BitVec 32 := 0#32
  ![v112.toNat, 0, 0]
def k0_off52 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c1_i32_136 : BitVec 32 := 1#32
  ![v114.toNat, 1]
def k0_off53 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c1_i32_76 : BitVec 32 := 1#32
  let v113 : BitVec 32 := Scalar.addi arg27 c1_i32_76
  let c2_i32_77 : BitVec 32 := 2#32
  let v114 : BitVec 32 := Scalar.remsi v113 c2_i32_77
  let c0_i32_137 : BitVec 32 := 0#32
  let c1536_i32_138 : BitVec 32 := 1536#32
  ![v114.toNat, 0, 1536]
def k0_off54 (v112 : BitVec 32) : Fin 3 → Nat :=
  let c0_i32_139 : BitVec 32 := 0#32
  let c1536_i32_140 : BitVec 32 := 1536#32
  ![v112.toNat, 0, 1536]

def k0_chk4 (v5 : BitVec 32) (k0_t2 : Fin (k0_t2_loop v5).trips) (v112 : BitVec 32) : Prop :=
  (∀ (k0_h2 : k0_cond2 v5 k0_t2 = 1#1), ∀ a, (k0_off22 v112) a + S1x24x4096.size a ≤ S16x24x4096.size a) ∧
  (∀ (k0_h2 : k0_cond2 v5 k0_t2 = 1#1), ∀ (hinb : ∀ a, (k0_off22 v112) a + S1x24x4096.size a ≤ S16x24x4096.size a), (Rect.unit (s := S16x24x4096) (k0_off22 v112) S1x24x4096.size hinb).WholeWords (EltTy.packing .bf16)) ∧
  (∀ (k0_h2 : k0_cond2 v5 k0_t2 = 1#1), ∀ a, (k0_off25 v112) a + S1x24x2048.size a ≤ S16x24x2048.size a) ∧
  (∀ (k0_h2 : k0_cond2 v5 k0_t2 = 1#1), ∀ (hinb : ∀ a, (k0_off25 v112) a + S1x24x2048.size a ≤ S16x24x2048.size a), (Rect.unit (s := S16x24x2048) (k0_off25 v112) S1x24x2048.size hinb).WholeWords (EltTy.packing .i8)) ∧
  (∀ (k0_h2 : k0_cond2 v5 k0_t2 = 1#1), ∀ a, (k0_off28 v112) a + S1x16x3072.size a ≤ S16x16x3072.size a) ∧
  (∀ (k0_h2 : k0_cond2 v5 k0_t2 = 1#1), ∀ (hinb : ∀ a, (k0_off28 v112) a + S1x16x3072.size a ≤ S16x16x3072.size a), (Rect.unit (s := S16x16x3072) (k0_off28 v112) S1x16x3072.size hinb).WholeWords (EltTy.packing .bf16)) ∧
  (∀ (k0_h2 : k0_cond2 v5 k0_t2 = 1#1), ∀ a, (k0_off31 v112) a + S1x16x1536.size a ≤ S16x16x1536.size a) ∧
  (∀ (k0_h2 : k0_cond2 v5 k0_t2 = 1#1), ∀ (hinb : ∀ a, (k0_off31 v112) a + S1x16x1536.size a ≤ S16x16x1536.size a), (Rect.unit (s := S16x16x1536) (k0_off31 v112) S1x16x1536.size hinb).WholeWords (EltTy.packing .i8)) ∧
  (∀ (k0_h2 : k0_cond2 v5 k0_t2 = 1#1), ∀ a, (k0_off34 v112) a + S1x1536x512.size a ≤ S16x1536x4096.size a) ∧
  (∀ (k0_h2 : k0_cond2 v5 k0_t2 = 1#1), ∀ (hinb : ∀ a, (k0_off34 v112) a + S1x1536x512.size a ≤ S16x1536x4096.size a), (Rect.unit (s := S16x1536x4096) (k0_off34 v112) S1x1536x512.size hinb).WholeWords (EltTy.packing .i8)) ∧
  (∀ (k0_h2 : k0_cond2 v5 k0_t2 = 1#1), ∀ a, (k0_off36 v112) a + S1x1536x512.size a ≤ S16x1536x4096.size a) ∧
  (∀ (k0_h2 : k0_cond2 v5 k0_t2 = 1#1), ∀ (hinb : ∀ a, (k0_off36 v112) a + S1x1536x512.size a ≤ S16x1536x4096.size a), (Rect.unit (s := S16x1536x4096) (k0_off36 v112) S1x1536x512.size hinb).WholeWords (EltTy.packing .i8)) ∧
  (∀ (k0_h2 : k0_cond2 v5 k0_t2 = 1#1), ∀ a, (k0_off38 v112) a + S1x1536x512.size a ≤ S16x1536x4096.size a) ∧
  (∀ (k0_h2 : k0_cond2 v5 k0_t2 = 1#1), ∀ (hinb : ∀ a, (k0_off38 v112) a + S1x1536x512.size a ≤ S16x1536x4096.size a), (Rect.unit (s := S16x1536x4096) (k0_off38 v112) S1x1536x512.size hinb).WholeWords (EltTy.packing .i8)) ∧
  (∀ (k0_h2 : k0_cond2 v5 k0_t2 = 1#1), ∀ a, (k0_off40 v112) a + S1x1536x512.size a ≤ S16x1536x4096.size a) ∧
  (∀ (k0_h2 : k0_cond2 v5 k0_t2 = 1#1), ∀ (hinb : ∀ a, (k0_off40 v112) a + S1x1536x512.size a ≤ S16x1536x4096.size a), (Rect.unit (s := S16x1536x4096) (k0_off40 v112) S1x1536x512.size hinb).WholeWords (EltTy.packing .i8)) ∧
  (∀ (k0_h2 : k0_cond2 v5 k0_t2 = 1#1), ∀ a, (k0_off42 v112) a + S1x1536x512.size a ≤ S16x1536x4096.size a) ∧
  (∀ (k0_h2 : k0_cond2 v5 k0_t2 = 1#1), ∀ (hinb : ∀ a, (k0_off42 v112) a + S1x1536x512.size a ≤ S16x1536x4096.size a), (Rect.unit (s := S16x1536x4096) (k0_off42 v112) S1x1536x512.size hinb).WholeWords (EltTy.packing .i8)) ∧
  (∀ (k0_h2 : k0_cond2 v5 k0_t2 = 1#1), ∀ a, (k0_off44 v112) a + S1x1536x512.size a ≤ S16x1536x4096.size a) ∧
  (∀ (k0_h2 : k0_cond2 v5 k0_t2 = 1#1), ∀ (hinb : ∀ a, (k0_off44 v112) a + S1x1536x512.size a ≤ S16x1536x4096.size a), (Rect.unit (s := S16x1536x4096) (k0_off44 v112) S1x1536x512.size hinb).WholeWords (EltTy.packing .i8)) ∧
  (∀ (k0_h2 : k0_cond2 v5 k0_t2 = 1#1), ∀ a, (k0_off46 v112) a + S1x1536x512.size a ≤ S16x1536x4096.size a) ∧
  (∀ (k0_h2 : k0_cond2 v5 k0_t2 = 1#1), ∀ (hinb : ∀ a, (k0_off46 v112) a + S1x1536x512.size a ≤ S16x1536x4096.size a), (Rect.unit (s := S16x1536x4096) (k0_off46 v112) S1x1536x512.size hinb).WholeWords (EltTy.packing .i8)) ∧
  (∀ (k0_h2 : k0_cond2 v5 k0_t2 = 1#1), ∀ a, (k0_off48 v112) a + S1x1536x512.size a ≤ S16x1536x4096.size a) ∧
  (∀ (k0_h2 : k0_cond2 v5 k0_t2 = 1#1), ∀ (hinb : ∀ a, (k0_off48 v112) a + S1x1536x512.size a ≤ S16x1536x4096.size a), (Rect.unit (s := S16x1536x4096) (k0_off48 v112) S1x1536x512.size hinb).WholeWords (EltTy.packing .i8)) ∧
  (∀ (k0_h2 : k0_cond2 v5 k0_t2 = 1#1), ∀ a, (k0_off51 v112) a + S1x1024x1536.size a ≤ S16x1024x3072.size a) ∧
  (∀ (k0_h2 : k0_cond2 v5 k0_t2 = 1#1), ∀ (hinb : ∀ a, (k0_off51 v112) a + S1x1024x1536.size a ≤ S16x1024x3072.size a), (Rect.unit (s := S16x1024x3072) (k0_off51 v112) S1x1024x1536.size hinb).WholeWords (EltTy.packing .i8)) ∧
  (∀ (k0_h2 : k0_cond2 v5 k0_t2 = 1#1), ∀ a, (k0_off54 v112) a + S1x1024x1536.size a ≤ S16x1024x3072.size a) ∧
  (∀ (k0_h2 : k0_cond2 v5 k0_t2 = 1#1), ∀ (hinb : ∀ a, (k0_off54 v112) a + S1x1024x1536.size a ≤ S16x1024x3072.size a), (Rect.unit (s := S16x1024x3072) (k0_off54 v112) S1x1024x1536.size hinb).WholeWords (EltTy.packing .i8))
theorem k0_off22_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off22 v112) a + S1x24x4096.size a ≤ S16x24x4096.size a := fun v5 k0_t2 v112 k0_hw4 k0_h2 => k0_hw4.1 k0_h2
theorem k0_off22_wordsbf16 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x24x4096) (k0_off22 v112) S1x24x4096.size (k0_off22_inb v5 k0_t2 v112 k0_hw4 k0_h2)).WholeWords (EltTy.packing .bf16) := fun v5 k0_t2 v112 k0_hw4 k0_h2 => k0_hw4.2.1 k0_h2 (k0_off22_inb v5 k0_t2 v112 k0_hw4 k0_h2)
theorem k0_off25_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off25 v112) a + S1x24x2048.size a ≤ S16x24x2048.size a := fun v5 k0_t2 v112 k0_hw4 k0_h2 => k0_hw4.2.2.1 k0_h2
theorem k0_off25_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x24x2048) (k0_off25 v112) S1x24x2048.size (k0_off25_inb v5 k0_t2 v112 k0_hw4 k0_h2)).WholeWords (EltTy.packing .i8) := fun v5 k0_t2 v112 k0_hw4 k0_h2 => k0_hw4.2.2.2.1 k0_h2 (k0_off25_inb v5 k0_t2 v112 k0_hw4 k0_h2)
theorem k0_off28_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off28 v112) a + S1x16x3072.size a ≤ S16x16x3072.size a := fun v5 k0_t2 v112 k0_hw4 k0_h2 => k0_hw4.2.2.2.2.1 k0_h2
theorem k0_off28_wordsbf16 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x16x3072) (k0_off28 v112) S1x16x3072.size (k0_off28_inb v5 k0_t2 v112 k0_hw4 k0_h2)).WholeWords (EltTy.packing .bf16) := fun v5 k0_t2 v112 k0_hw4 k0_h2 => k0_hw4.2.2.2.2.2.1 k0_h2 (k0_off28_inb v5 k0_t2 v112 k0_hw4 k0_h2)
theorem k0_off31_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off31 v112) a + S1x16x1536.size a ≤ S16x16x1536.size a := fun v5 k0_t2 v112 k0_hw4 k0_h2 => k0_hw4.2.2.2.2.2.2.1 k0_h2
theorem k0_off31_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x16x1536) (k0_off31 v112) S1x16x1536.size (k0_off31_inb v5 k0_t2 v112 k0_hw4 k0_h2)).WholeWords (EltTy.packing .i8) := fun v5 k0_t2 v112 k0_hw4 k0_h2 => k0_hw4.2.2.2.2.2.2.2.1 k0_h2 (k0_off31_inb v5 k0_t2 v112 k0_hw4 k0_h2)
theorem k0_off34_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off34 v112) a + S1x1536x512.size a ≤ S16x1536x4096.size a := fun v5 k0_t2 v112 k0_hw4 k0_h2 => k0_hw4.2.2.2.2.2.2.2.2.1 k0_h2
theorem k0_off34_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1536x4096) (k0_off34 v112) S1x1536x512.size (k0_off34_inb v5 k0_t2 v112 k0_hw4 k0_h2)).WholeWords (EltTy.packing .i8) := fun v5 k0_t2 v112 k0_hw4 k0_h2 => k0_hw4.2.2.2.2.2.2.2.2.2.1 k0_h2 (k0_off34_inb v5 k0_t2 v112 k0_hw4 k0_h2)
theorem k0_off36_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off36 v112) a + S1x1536x512.size a ≤ S16x1536x4096.size a := fun v5 k0_t2 v112 k0_hw4 k0_h2 => k0_hw4.2.2.2.2.2.2.2.2.2.2.1 k0_h2
theorem k0_off36_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1536x4096) (k0_off36 v112) S1x1536x512.size (k0_off36_inb v5 k0_t2 v112 k0_hw4 k0_h2)).WholeWords (EltTy.packing .i8) := fun v5 k0_t2 v112 k0_hw4 k0_h2 => k0_hw4.2.2.2.2.2.2.2.2.2.2.2.1 k0_h2 (k0_off36_inb v5 k0_t2 v112 k0_hw4 k0_h2)
theorem k0_off38_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off38 v112) a + S1x1536x512.size a ≤ S16x1536x4096.size a := fun v5 k0_t2 v112 k0_hw4 k0_h2 => k0_hw4.2.2.2.2.2.2.2.2.2.2.2.2.1 k0_h2
theorem k0_off38_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1536x4096) (k0_off38 v112) S1x1536x512.size (k0_off38_inb v5 k0_t2 v112 k0_hw4 k0_h2)).WholeWords (EltTy.packing .i8) := fun v5 k0_t2 v112 k0_hw4 k0_h2 => k0_hw4.2.2.2.2.2.2.2.2.2.2.2.2.2.1 k0_h2 (k0_off38_inb v5 k0_t2 v112 k0_hw4 k0_h2)
theorem k0_off40_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off40 v112) a + S1x1536x512.size a ≤ S16x1536x4096.size a := fun v5 k0_t2 v112 k0_hw4 k0_h2 => k0_hw4.2.2.2.2.2.2.2.2.2.2.2.2.2.2.1 k0_h2
theorem k0_off40_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1536x4096) (k0_off40 v112) S1x1536x512.size (k0_off40_inb v5 k0_t2 v112 k0_hw4 k0_h2)).WholeWords (EltTy.packing .i8) := fun v5 k0_t2 v112 k0_hw4 k0_h2 => k0_hw4.2.2.2.2.2.2.2.2.2.2.2.2.2.2.2.1 k0_h2 (k0_off40_inb v5 k0_t2 v112 k0_hw4 k0_h2)
theorem k0_off42_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off42 v112) a + S1x1536x512.size a ≤ S16x1536x4096.size a := fun v5 k0_t2 v112 k0_hw4 k0_h2 => k0_hw4.2.2.2.2.2.2.2.2.2.2.2.2.2.2.2.2.1 k0_h2
theorem k0_off42_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1536x4096) (k0_off42 v112) S1x1536x512.size (k0_off42_inb v5 k0_t2 v112 k0_hw4 k0_h2)).WholeWords (EltTy.packing .i8) := fun v5 k0_t2 v112 k0_hw4 k0_h2 => k0_hw4.2.2.2.2.2.2.2.2.2.2.2.2.2.2.2.2.2.1 k0_h2 (k0_off42_inb v5 k0_t2 v112 k0_hw4 k0_h2)
theorem k0_off44_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off44 v112) a + S1x1536x512.size a ≤ S16x1536x4096.size a := fun v5 k0_t2 v112 k0_hw4 k0_h2 => k0_hw4.2.2.2.2.2.2.2.2.2.2.2.2.2.2.2.2.2.2.1 k0_h2
theorem k0_off44_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1536x4096) (k0_off44 v112) S1x1536x512.size (k0_off44_inb v5 k0_t2 v112 k0_hw4 k0_h2)).WholeWords (EltTy.packing .i8) := fun v5 k0_t2 v112 k0_hw4 k0_h2 => k0_hw4.2.2.2.2.2.2.2.2.2.2.2.2.2.2.2.2.2.2.2.1 k0_h2 (k0_off44_inb v5 k0_t2 v112 k0_hw4 k0_h2)
theorem k0_off46_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off46 v112) a + S1x1536x512.size a ≤ S16x1536x4096.size a := fun v5 k0_t2 v112 k0_hw4 k0_h2 => k0_hw4.2.2.2.2.2.2.2.2.2.2.2.2.2.2.2.2.2.2.2.2.1 k0_h2
theorem k0_off46_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1536x4096) (k0_off46 v112) S1x1536x512.size (k0_off46_inb v5 k0_t2 v112 k0_hw4 k0_h2)).WholeWords (EltTy.packing .i8) := fun v5 k0_t2 v112 k0_hw4 k0_h2 => k0_hw4.2.2.2.2.2.2.2.2.2.2.2.2.2.2.2.2.2.2.2.2.2.1 k0_h2 (k0_off46_inb v5 k0_t2 v112 k0_hw4 k0_h2)
theorem k0_off48_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off48 v112) a + S1x1536x512.size a ≤ S16x1536x4096.size a := fun v5 k0_t2 v112 k0_hw4 k0_h2 => k0_hw4.2.2.2.2.2.2.2.2.2.2.2.2.2.2.2.2.2.2.2.2.2.2.1 k0_h2
theorem k0_off48_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1536x4096) (k0_off48 v112) S1x1536x512.size (k0_off48_inb v5 k0_t2 v112 k0_hw4 k0_h2)).WholeWords (EltTy.packing .i8) := fun v5 k0_t2 v112 k0_hw4 k0_h2 => k0_hw4.2.2.2.2.2.2.2.2.2.2.2.2.2.2.2.2.2.2.2.2.2.2.2.1 k0_h2 (k0_off48_inb v5 k0_t2 v112 k0_hw4 k0_h2)
theorem k0_off51_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off51 v112) a + S1x1024x1536.size a ≤ S16x1024x3072.size a := fun v5 k0_t2 v112 k0_hw4 k0_h2 => k0_hw4.2.2.2.2.2.2.2.2.2.2.2.2.2.2.2.2.2.2.2.2.2.2.2.2.1 k0_h2
theorem k0_off51_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1024x3072) (k0_off51 v112) S1x1024x1536.size (k0_off51_inb v5 k0_t2 v112 k0_hw4 k0_h2)).WholeWords (EltTy.packing .i8) := fun v5 k0_t2 v112 k0_hw4 k0_h2 => k0_hw4.2.2.2.2.2.2.2.2.2.2.2.2.2.2.2.2.2.2.2.2.2.2.2.2.2.1 k0_h2 (k0_off51_inb v5 k0_t2 v112 k0_hw4 k0_h2)
theorem k0_off54_inb : ∀ (v5 : BitVec 32) (k0_t2 : Fin (k0_t2_loop v5).trips) (v112 : BitVec 32) (k0_hw4 : k0_chk4 v5 k0_t2 v112), ∀ (k0_h2 : k0_cond2 v5 k0_t2 = 1#1), ∀ a, (k0_off54 v112) a + S1x1024x1536.size a ≤ S16x1024x3072.size a := fun v5 k0_t2 v112 k0_hw4 k0_h2 => k0_hw4.2.2.2.2.2.2.2.2.2.2.2.2.2.2.2.2.2.2.2.2.2.2.2.2.2.2.1 k0_h2
theorem k0_off54_wordsi8 : ∀ (v5 : BitVec 32) (k0_t2 : Fin (k0_t2_loop v5).trips) (v112 : BitVec 32) (k0_hw4 : k0_chk4 v5 k0_t2 v112), ∀ (k0_h2 : k0_cond2 v5 k0_t2 = 1#1), (Rect.unit (s := S16x1024x3072) (k0_off54 v112) S1x1024x1536.size (k0_off54_inb v5 k0_t2 v112 k0_hw4 k0_h2)).WholeWords (EltTy.packing .i8) := fun v5 k0_t2 v112 k0_hw4 k0_h2 => k0_hw4.2.2.2.2.2.2.2.2.2.2.2.2.2.2.2.2.2.2.2.2.2.2.2.2.2.2.2 k0_h2 (k0_off54_inb v5 k0_t2 v112 k0_hw4 k0_h2)

def k0_off55 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c0_i32_20 : BitVec 32 := 0#32
  ![v21.toNat, 0]
def k0_off56 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c0_i32_21 : BitVec 32 := 0#32
  let c0_i32_22 : BitVec 32 := 0#32
  ![v21.toNat, 0, 0]
def k0_off57 (v23 : BitVec 32) : Fin 3 → Nat :=
  let c0_i32_23 : BitVec 32 := 0#32
  let c0_i32_24 : BitVec 32 := 0#32
  ![v23.toNat, 0, 0]

def k0_off58 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c1_i32_25 : BitVec 32 := 1#32
  ![v21.toNat, 1]
def k0_off59 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c0_i32_26 : BitVec 32 := 0#32
  let c0_i32_27 : BitVec 32 := 0#32
  ![v21.toNat, 0, 0]
def k0_off60 (v23 : BitVec 32) : Fin 3 → Nat :=
  let c0_i32_28 : BitVec 32 := 0#32
  let c0_i32_29 : BitVec 32 := 0#32
  ![v23.toNat, 0, 0]
def k0_off61 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c2_i32_30 : BitVec 32 := 2#32
  ![v21.toNat, 2]
def k0_off62 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c0_i32_31 : BitVec 32 := 0#32
  let c0_i32_32 : BitVec 32 := 0#32
  ![v21.toNat, 0, 0]
def k0_off63 (v23 : BitVec 32) : Fin 3 → Nat :=
  let c0_i32_33 : BitVec 32 := 0#32
  let c0_i32_34 : BitVec 32 := 0#32
  ![v23.toNat, 0, 0]
def k0_off64 (v5 : BitVec 32) (k0_t2 : Fin (k0_t2_loop v5).trips) : Fin 2 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c3_i32 : BitVec 32 := 3#32
  ![v21.toNat, 3]
def k0_off65 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c0_i32_35 : BitVec 32 := 0#32
  let c0_i32_36 : BitVec 32 := 0#32
  ![v21.toNat, 0, 0]
def k0_off66 (v23 : BitVec 32) : Fin 3 → Nat :=
  let c0_i32_37 : BitVec 32 := 0#32
  let c0_i32_38 : BitVec 32 := 0#32
  ![v23.toNat, 0, 0]
def k0_off67 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v52 : Index := Scalar.indexCast v21
  let c0_39 : Index := 0#32
  let c0_40 : Index := 0#32
  ![v52.toNat, 0, 0]
def k0_off68 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v59 : Index := Scalar.indexCast v21
  let c0_43 : Index := 0#32
  let c0_44 : Index := 0#32
  ![v59.toNat, 0, 0]
def k0_off69 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v66 : Index := Scalar.indexCast v21
  let c0_47 : Index := 0#32
  let c0_48 : Index := 0#32
  ![v66.toNat, 0, 0]
def k0_off70 (v5 : BitVec 32) (k0_t2 : Fin (k0_t2_loop v5).trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v82 : Index := Scalar.indexCast v21
  let c0_52 : Index := 0#32
  let c0_53 : Index := 0#32
  ![v82.toNat, 0, 0]
def k0_off71 (v23 : BitVec 32) : Fin 4 → Nat :=
  let v98 : Index := Scalar.indexCast v23
  let c1 : Index := 1#32
  let c0_59 : Index := 0#32
  let c0_60 : Index := 0#32
  ![v98.toNat, 1, 0, 0]
@[reducible] def k0_t3_loop : Scf.Loop 32 :=
  let c0_i32_63 : BitVec 32 := 0#32
  let c4_i32_64 : BitVec 32 := 4#32
  let v104 : BitVec 32 := Scalar.addi c0_i32_63 c4_i32_64
  let c1_i32_65 : BitVec 32 := 1#32
  ⟨c0_i32_63, v104, c1_i32_65⟩
def k0_off72 (v5 : BitVec 32) (k0_t2 : Fin (k0_t2_loop v5).trips) (k0_t3 : Fin k0_t3_loop.trips) : Fin 2 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c0_i32_63 : BitVec 32 := 0#32
  let c1_i32_65 : BitVec 32 := 1#32
  let arg28 : BitVec 32 := Scf.iv c0_i32_63 c1_i32_65 k0_t3
  ![v21.toNat, arg28.toNat]
def k0_off73 (v5 : BitVec 32) (k0_t2 : Fin (k0_t2_loop v5).trips) (k0_t3 : Fin k0_t3_loop.trips) (c0_i32_75 : BitVec 32) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c0_i32_76 : BitVec 32 := 0#32
  let c0_i32_63 : BitVec 32 := 0#32
  let c1_i32_65 : BitVec 32 := 1#32
  let arg28 : BitVec 32 := Scf.iv c0_i32_63 c1_i32_65 k0_t3
  let c512_i32 : BitVec 32 := 512#32
  let v110 : BitVec 32 := Scalar.muli arg28 c512_i32
  let v111 : BitVec 32 := Scalar.addi c0_i32_75 v110
  ![v21.toNat, 0, v111.toNat]
def k0_off74 (v23 : BitVec 32) (k0_t3 : Fin k0_t3_loop.trips) (c0_i32_75 : BitVec 32) : Fin 3 → Nat :=
  let c0_i32_77 : BitVec 32 := 0#32
  let c0_i32_63 : BitVec 32 := 0#32
  let c1_i32_65 : BitVec 32 := 1#32
  let arg28 : BitVec 32 := Scf.iv c0_i32_63 c1_i32_65 k0_t3
  let c512_i32 : BitVec 32 := 512#32
  let v110 : BitVec 32 := Scalar.muli arg28 c512_i32
  let v111 : BitVec 32 := Scalar.addi c0_i32_75 v110
  ![v23.toNat, 0, v111.toNat]
@[reducible] def k0_t4_loop : Scf.Loop 32 :=
  let c0_i32_81 : BitVec 32 := 0#32
  let c2_i32_82 : BitVec 32 := 2#32
  let v126 : BitVec 32 := Scalar.addi c0_i32_81 c2_i32_82
  let c1_i32_83 : BitVec 32 := 1#32
  ⟨c0_i32_81, v126, c1_i32_83⟩
def k0_mult1 (k0_t3 : Fin k0_t3_loop.trips) (k0_t4 : Fin k0_t4_loop.trips) : BitVec 32 :=
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32 : BitVec 32 := 256#32
  let v129 : BitVec 32 := Scalar.muli v128 c256_i32
  v129
def k0_mult2 (k0_t3 : Fin k0_t3_loop.trips) (k0_t4 : Fin k0_t4_loop.trips) : BitVec 32 :=
  let c2048_i32_87 : BitVec 32 := 2048#32
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32_86 : BitVec 32 := 256#32
  let v131 : BitVec 32 := Scalar.muli v128 c256_i32_86
  let v132 : BitVec 32 := Scalar.addi c2048_i32_87 v131
  v132
@[reducible] def k0_t5_loop : Scf.Loop 32 :=
  let c0_i32_89 : BitVec 32 := 0#32
  let c12_i32 : BitVec 32 := 12#32
  let v135 : BitVec 32 := Scalar.addi c0_i32_89 c12_i32
  let c1_i32_90 : BitVec 32 := 1#32
  ⟨c0_i32_89, v135, c1_i32_90⟩
def k0_mult3 (k0_t5 : Fin k0_t5_loop.trips) : BitVec 32 :=
  let c0_i32_89 : BitVec 32 := 0#32
  let c1_i32_90 : BitVec 32 := 1#32
  let arg30 : BitVec 32 := Scf.iv c0_i32_89 c1_i32_90 k0_t5
  let c256_i32_97 : BitVec 32 := 256#32
  let v153 : BitVec 32 := Scalar.muli arg30 c256_i32_97
  v153
def k0_off75 (k0_t5 : Fin k0_t5_loop.trips) : Fin 2 → Nat :=
  let c0_98 : Index := 0#32
  let c0_i32_89 : BitVec 32 := 0#32
  let c1_i32_90 : BitVec 32 := 1#32
  let arg30 : BitVec 32 := Scf.iv c0_i32_89 c1_i32_90 k0_t5
  let c256_i32_97 : BitVec 32 := 256#32
  let v153 : BitVec 32 := Scalar.muli arg30 c256_i32_97
  let v154 : BitVec 32 := v153
  let v155 : Index := Scalar.indexCast v154
  ![0, v155.toNat]
def k0_off76 (v5 : BitVec 32) (k0_t2 : Fin (k0_t2_loop v5).trips) (k0_t3 : Fin k0_t3_loop.trips) (k0_t4 : Fin k0_t4_loop.trips) (k0_t5 : Fin k0_t5_loop.trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v162 : Index := Scalar.indexCast v21
  let c2_i32_99 : BitVec 32 := 2#32
  let c0_i32_89 : BitVec 32 := 0#32
  let c1_i32_90 : BitVec 32 := 1#32
  let arg30 : BitVec 32 := Scf.iv c0_i32_89 c1_i32_90 k0_t5
  let v158 : BitVec 32 := Scalar.muli c2_i32_99 arg30
  let c64_i32 : BitVec 32 := 64#32
  let v161 : BitVec 32 := Scalar.muli v158 c64_i32
  let v163 : Index := Scalar.indexCast v161
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32 : BitVec 32 := 256#32
  let v129 : BitVec 32 := Scalar.muli v128 c256_i32
  let v130 : BitVec 32 := v129
  let v164 : Index := Scalar.indexCast v130
  ![v162.toNat, v163.toNat, v164.toNat]
def k0_off77 (k0_t3 : Fin k0_t3_loop.trips) (k0_t4 : Fin k0_t4_loop.trips) (k0_t5 : Fin k0_t5_loop.trips) : Fin 2 → Nat :=
  let c2_i32_99 : BitVec 32 := 2#32
  let c0_i32_89 : BitVec 32 := 0#32
  let c1_i32_90 : BitVec 32 := 1#32
  let arg30 : BitVec 32 := Scf.iv c0_i32_89 c1_i32_90 k0_t5
  let v158 : BitVec 32 := Scalar.muli c2_i32_99 arg30
  let v167 : Index := Scalar.indexCast v158
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32 : BitVec 32 := 256#32
  let v129 : BitVec 32 := Scalar.muli v128 c256_i32
  let v130 : BitVec 32 := v129
  let v168 : Index := Scalar.indexCast v130
  ![v167.toNat, v168.toNat]
def k0_off78 (v5 : BitVec 32) (k0_t2 : Fin (k0_t2_loop v5).trips) (k0_t3 : Fin k0_t3_loop.trips) (k0_t4 : Fin k0_t4_loop.trips) (k0_t5 : Fin k0_t5_loop.trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v198 : Index := Scalar.indexCast v21
  let c2_i32_100 : BitVec 32 := 2#32
  let c0_i32_89 : BitVec 32 := 0#32
  let c1_i32_90 : BitVec 32 := 1#32
  let arg30 : BitVec 32 := Scf.iv c0_i32_89 c1_i32_90 k0_t5
  let v159 : BitVec 32 := Scalar.muli c2_i32_100 arg30
  let c1_i32_101 : BitVec 32 := 1#32
  let v160 : BitVec 32 := Scalar.addi v159 c1_i32_101
  let c64_i32_104 : BitVec 32 := 64#32
  let v197 : BitVec 32 := Scalar.muli v160 c64_i32_104
  let v199 : Index := Scalar.indexCast v197
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32 : BitVec 32 := 256#32
  let v129 : BitVec 32 := Scalar.muli v128 c256_i32
  let v130 : BitVec 32 := v129
  let v200 : Index := Scalar.indexCast v130
  ![v198.toNat, v199.toNat, v200.toNat]
def k0_off79 (k0_t3 : Fin k0_t3_loop.trips) (k0_t4 : Fin k0_t4_loop.trips) (k0_t5 : Fin k0_t5_loop.trips) : Fin 2 → Nat :=
  let c2_i32_100 : BitVec 32 := 2#32
  let c0_i32_89 : BitVec 32 := 0#32
  let c1_i32_90 : BitVec 32 := 1#32
  let arg30 : BitVec 32 := Scf.iv c0_i32_89 c1_i32_90 k0_t5
  let v159 : BitVec 32 := Scalar.muli c2_i32_100 arg30
  let c1_i32_101 : BitVec 32 := 1#32
  let v160 : BitVec 32 := Scalar.addi v159 c1_i32_101
  let v203 : Index := Scalar.indexCast v160
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32 : BitVec 32 := 256#32
  let v129 : BitVec 32 := Scalar.muli v128 c256_i32
  let v130 : BitVec 32 := v129
  let v204 : Index := Scalar.indexCast v130
  ![v203.toNat, v204.toNat]
def k0_off80 (v5 : BitVec 32) (k0_t2 : Fin (k0_t2_loop v5).trips) (k0_t3 : Fin k0_t3_loop.trips) (k0_t4 : Fin k0_t4_loop.trips) (k0_t5 : Fin k0_t5_loop.trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v240 : Index := Scalar.indexCast v21
  let c2_i32_108 : BitVec 32 := 2#32
  let c0_i32_89 : BitVec 32 := 0#32
  let c1_i32_90 : BitVec 32 := 1#32
  let arg30 : BitVec 32 := Scf.iv c0_i32_89 c1_i32_90 k0_t5
  let v236 : BitVec 32 := Scalar.muli c2_i32_108 arg30
  let c64_i32_111 : BitVec 32 := 64#32
  let v239 : BitVec 32 := Scalar.muli v236 c64_i32_111
  let v241 : Index := Scalar.indexCast v239
  let c2048_i32_87 : BitVec 32 := 2048#32
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32_86 : BitVec 32 := 256#32
  let v131 : BitVec 32 := Scalar.muli v128 c256_i32_86
  let v132 : BitVec 32 := Scalar.addi c2048_i32_87 v131
  let v133 : BitVec 32 := v132
  let v242 : Index := Scalar.indexCast v133
  ![v240.toNat, v241.toNat, v242.toNat]
def k0_off81 (k0_t3 : Fin k0_t3_loop.trips) (k0_t4 : Fin k0_t4_loop.trips) (k0_t5 : Fin k0_t5_loop.trips) : Fin 2 → Nat :=
  let c2_i32_108 : BitVec 32 := 2#32
  let c0_i32_89 : BitVec 32 := 0#32
  let c1_i32_90 : BitVec 32 := 1#32
  let arg30 : BitVec 32 := Scf.iv c0_i32_89 c1_i32_90 k0_t5
  let v236 : BitVec 32 := Scalar.muli c2_i32_108 arg30
  let v245 : Index := Scalar.indexCast v236
  let c2048_i32_87 : BitVec 32 := 2048#32
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32_86 : BitVec 32 := 256#32
  let v131 : BitVec 32 := Scalar.muli v128 c256_i32_86
  let v132 : BitVec 32 := Scalar.addi c2048_i32_87 v131
  let v133 : BitVec 32 := v132
  let v246 : Index := Scalar.indexCast v133
  ![v245.toNat, v246.toNat]
def k0_off82 (v5 : BitVec 32) (k0_t2 : Fin (k0_t2_loop v5).trips) (k0_t3 : Fin k0_t3_loop.trips) (k0_t4 : Fin k0_t4_loop.trips) (k0_t5 : Fin k0_t5_loop.trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v276 : Index := Scalar.indexCast v21
  let c2_i32_109 : BitVec 32 := 2#32
  let c0_i32_89 : BitVec 32 := 0#32
  let c1_i32_90 : BitVec 32 := 1#32
  let arg30 : BitVec 32 := Scf.iv c0_i32_89 c1_i32_90 k0_t5
  let v237 : BitVec 32 := Scalar.muli c2_i32_109 arg30
  let c1_i32_110 : BitVec 32 := 1#32
  let v238 : BitVec 32 := Scalar.addi v237 c1_i32_110
  let c64_i32_114 : BitVec 32 := 64#32
  let v275 : BitVec 32 := Scalar.muli v238 c64_i32_114
  let v277 : Index := Scalar.indexCast v275
  let c2048_i32_87 : BitVec 32 := 2048#32
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32_86 : BitVec 32 := 256#32
  let v131 : BitVec 32 := Scalar.muli v128 c256_i32_86
  let v132 : BitVec 32 := Scalar.addi c2048_i32_87 v131
  let v133 : BitVec 32 := v132
  let v278 : Index := Scalar.indexCast v133
  ![v276.toNat, v277.toNat, v278.toNat]
def k0_off83 (k0_t3 : Fin k0_t3_loop.trips) (k0_t4 : Fin k0_t4_loop.trips) (k0_t5 : Fin k0_t5_loop.trips) : Fin 2 → Nat :=
  let c2_i32_109 : BitVec 32 := 2#32
  let c0_i32_89 : BitVec 32 := 0#32
  let c1_i32_90 : BitVec 32 := 1#32
  let arg30 : BitVec 32 := Scf.iv c0_i32_89 c1_i32_90 k0_t5
  let v237 : BitVec 32 := Scalar.muli c2_i32_109 arg30
  let c1_i32_110 : BitVec 32 := 1#32
  let v238 : BitVec 32 := Scalar.addi v237 c1_i32_110
  let v281 : Index := Scalar.indexCast v238
  let c2048_i32_87 : BitVec 32 := 2048#32
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32_86 : BitVec 32 := 256#32
  let v131 : BitVec 32 := Scalar.muli v128 c256_i32_86
  let v132 : BitVec 32 := Scalar.addi c2048_i32_87 v131
  let v133 : BitVec 32 := v132
  let v282 : Index := Scalar.indexCast v133
  ![v281.toNat, v282.toNat]
def k0_off84 (k0_t3 : Fin k0_t3_loop.trips) (k0_t4 : Fin k0_t4_loop.trips) : Fin 2 → Nat :=
  let c0_96 : Index := 0#32
  let c0_i32_63 : BitVec 32 := 0#32
  let c1_i32_65 : BitVec 32 := 1#32
  let arg28 : BitVec 32 := Scf.iv c0_i32_63 c1_i32_65 k0_t3
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t4
  let v128 : BitVec 32 := Scalar.addi v127 arg29
  let c256_i32 : BitVec 32 := 256#32
  let v129 : BitVec 32 := Scalar.muli v128 c256_i32
  let v130 : BitVec 32 := v129
  let v149 : Index := Scalar.indexCast v130
  ![0, v149.toNat]
def k0_off85 (v23 : BitVec 32) : Fin 4 → Nat :=
  let v105 : Index := Scalar.indexCast v23
  let c0_67 : Index := 0#32
  let c0_68 : Index := 0#32
  let c0_69 : Index := 0#32
  ![v105.toNat, 0, 0, 0]
@[reducible] def k0_t6_loop : Scf.Loop 32 :=
  let c0_i32_71 : BitVec 32 := 0#32
  let c2_i32_72 : BitVec 32 := 2#32
  let v109 : BitVec 32 := Scalar.addi c0_i32_71 c2_i32_72
  let c1_i32_73 : BitVec 32 := 1#32
  ⟨c0_i32_71, v109, c1_i32_73⟩
def k0_off86 (v5 : BitVec 32) (k0_t2 : Fin (k0_t2_loop v5).trips) (k0_t6 : Fin k0_t6_loop.trips) : Fin 2 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c0_i32_71 : BitVec 32 := 0#32
  let c1_i32_73 : BitVec 32 := 1#32
  let arg28 : BitVec 32 := Scf.iv c0_i32_71 c1_i32_73 k0_t6
  ![v21.toNat, arg28.toNat]
def k0_off87 (v5 : BitVec 32) (k0_t2 : Fin (k0_t2_loop v5).trips) (k0_t6 : Fin k0_t6_loop.trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let c0_i32_75 : BitVec 32 := 0#32
  let c0_i32_71 : BitVec 32 := 0#32
  let c1_i32_73 : BitVec 32 := 1#32
  let arg28 : BitVec 32 := Scf.iv c0_i32_71 c1_i32_73 k0_t6
  let c1536_i32 : BitVec 32 := 1536#32
  let v110 : BitVec 32 := Scalar.muli arg28 c1536_i32
  ![v21.toNat, 0, v110.toNat]
def k0_off88 (v23 : BitVec 32) (k0_t6 : Fin k0_t6_loop.trips) : Fin 3 → Nat :=
  let c0_i32_76 : BitVec 32 := 0#32
  let c0_i32_71 : BitVec 32 := 0#32
  let c1_i32_73 : BitVec 32 := 1#32
  let arg28 : BitVec 32 := Scf.iv c0_i32_71 c1_i32_73 k0_t6
  let c1536_i32 : BitVec 32 := 1536#32
  let v110 : BitVec 32 := Scalar.muli arg28 c1536_i32
  ![v23.toNat, 0, v110.toNat]

def k0_chk5 (v23 : BitVec 32) : Prop :=
  (∀ a, (k0_off57 v23) a + S1x24x4096.size a ≤ S16x24x4096.size a) ∧
  (∀ (hinb : ∀ a, (k0_off57 v23) a + S1x24x4096.size a ≤ S16x24x4096.size a), (Rect.unit (s := S16x24x4096) (k0_off57 v23) S1x24x4096.size hinb).WholeWords (EltTy.packing .bf16)) ∧
  (∀ a, (k0_off60 v23) a + S1x24x2048.size a ≤ S16x24x2048.size a) ∧
  (∀ (hinb : ∀ a, (k0_off60 v23) a + S1x24x2048.size a ≤ S16x24x2048.size a), (Rect.unit (s := S16x24x2048) (k0_off60 v23) S1x24x2048.size hinb).WholeWords (EltTy.packing .i8)) ∧
  (∀ a, (k0_off63 v23) a + S1x16x3072.size a ≤ S16x16x3072.size a) ∧
  (∀ (hinb : ∀ a, (k0_off63 v23) a + S1x16x3072.size a ≤ S16x16x3072.size a), (Rect.unit (s := S16x16x3072) (k0_off63 v23) S1x16x3072.size hinb).WholeWords (EltTy.packing .bf16)) ∧
  (∀ a, (k0_off66 v23) a + S1x16x1536.size a ≤ S16x16x1536.size a) ∧
  (∀ (hinb : ∀ a, (k0_off66 v23) a + S1x16x1536.size a ≤ S16x16x1536.size a), (Rect.unit (s := S16x16x1536) (k0_off66 v23) S1x16x1536.size hinb).WholeWords (EltTy.packing .i8)) ∧
  (∀ a, (k0_off71 v23) a + S1x1x96x128.size a ≤ S16x2x96x128.size a) ∧
  (∀ k0_t3 : Fin k0_t3_loop.trips, ∀ (r : Fin 2), ∀ a, (k0_off74 v23 k0_t3 (BitVec.ofNat 32 (2048 * r.val))) a + S1x1536x512.size a ≤ S16x1536x4096.size a) ∧
  (∀ k0_t3 : Fin k0_t3_loop.trips, ∀ (r : Fin 2), ∀ (hinb : ∀ a, (k0_off74 v23 k0_t3 (BitVec.ofNat 32 (2048 * r.val))) a + S1x1536x512.size a ≤ S16x1536x4096.size a), (Rect.unit (s := S16x1536x4096) (k0_off74 v23 k0_t3 (BitVec.ofNat 32 (2048 * r.val))) S1x1536x512.size hinb).WholeWords (EltTy.packing .i8)) ∧
  (∀ a, (k0_off85 v23) a + S1x1x96x128.size a ≤ S16x2x96x128.size a) ∧
  (∀ k0_t6 : Fin k0_t6_loop.trips, ∀ a, (k0_off88 v23 k0_t6) a + S1x1024x1536.size a ≤ S16x1024x3072.size a) ∧
  (∀ k0_t6 : Fin k0_t6_loop.trips, ∀ (hinb : ∀ a, (k0_off88 v23 k0_t6) a + S1x1024x1536.size a ≤ S16x1024x3072.size a), (Rect.unit (s := S16x1024x3072) (k0_off88 v23 k0_t6) S1x1024x1536.size hinb).WholeWords (EltTy.packing .i8))
theorem k0_off57_inb : ∀ (v23 : BitVec 32) (k0_hw5 : k0_chk5 v23), ∀ a, (k0_off57 v23) a + S1x24x4096.size a ≤ S16x24x4096.size a := fun v23 k0_hw5 => k0_hw5.1
theorem k0_off57_wordsbf16 : ∀ (v23 : BitVec 32) (k0_hw5 : k0_chk5 v23), (Rect.unit (s := S16x24x4096) (k0_off57 v23) S1x24x4096.size (k0_off57_inb v23 k0_hw5)).WholeWords (EltTy.packing .bf16) := fun v23 k0_hw5 => k0_hw5.2.1 (k0_off57_inb v23 k0_hw5)
theorem k0_off60_inb : ∀ (v23 : BitVec 32) (k0_hw5 : k0_chk5 v23), ∀ a, (k0_off60 v23) a + S1x24x2048.size a ≤ S16x24x2048.size a := fun v23 k0_hw5 => k0_hw5.2.2.1
theorem k0_off60_wordsi8 : ∀ (v23 : BitVec 32) (k0_hw5 : k0_chk5 v23), (Rect.unit (s := S16x24x2048) (k0_off60 v23) S1x24x2048.size (k0_off60_inb v23 k0_hw5)).WholeWords (EltTy.packing .i8) := fun v23 k0_hw5 => k0_hw5.2.2.2.1 (k0_off60_inb v23 k0_hw5)
theorem k0_off63_inb : ∀ (v23 : BitVec 32) (k0_hw5 : k0_chk5 v23), ∀ a, (k0_off63 v23) a + S1x16x3072.size a ≤ S16x16x3072.size a := fun v23 k0_hw5 => k0_hw5.2.2.2.2.1
theorem k0_off63_wordsbf16 : ∀ (v23 : BitVec 32) (k0_hw5 : k0_chk5 v23), (Rect.unit (s := S16x16x3072) (k0_off63 v23) S1x16x3072.size (k0_off63_inb v23 k0_hw5)).WholeWords (EltTy.packing .bf16) := fun v23 k0_hw5 => k0_hw5.2.2.2.2.2.1 (k0_off63_inb v23 k0_hw5)
theorem k0_off66_inb : ∀ (v23 : BitVec 32) (k0_hw5 : k0_chk5 v23), ∀ a, (k0_off66 v23) a + S1x16x1536.size a ≤ S16x16x1536.size a := fun v23 k0_hw5 => k0_hw5.2.2.2.2.2.2.1
theorem k0_off66_wordsi8 : ∀ (v23 : BitVec 32) (k0_hw5 : k0_chk5 v23), (Rect.unit (s := S16x16x1536) (k0_off66 v23) S1x16x1536.size (k0_off66_inb v23 k0_hw5)).WholeWords (EltTy.packing .i8) := fun v23 k0_hw5 => k0_hw5.2.2.2.2.2.2.2.1 (k0_off66_inb v23 k0_hw5)
theorem k0_off71_inb : ∀ (v23 : BitVec 32) (k0_hw5 : k0_chk5 v23), ∀ a, (k0_off71 v23) a + S1x1x96x128.size a ≤ S16x2x96x128.size a := fun v23 k0_hw5 => k0_hw5.2.2.2.2.2.2.2.2.1
theorem k0_off74_inb : ∀ (v23 : BitVec 32) (k0_hw5 : k0_chk5 v23) (k0_t3 : Fin k0_t3_loop.trips), ∀ (r : Fin 2), ∀ a, (k0_off74 v23 k0_t3 (BitVec.ofNat 32 (2048 * r.val))) a + S1x1536x512.size a ≤ S16x1536x4096.size a := fun v23 k0_hw5 k0_t3 r => k0_hw5.2.2.2.2.2.2.2.2.2.1 k0_t3 r
theorem k0_off74_wordsi8 : ∀ (v23 : BitVec 32) (k0_hw5 : k0_chk5 v23) (k0_t3 : Fin k0_t3_loop.trips), ∀ (r : Fin 2), (Rect.unit (s := S16x1536x4096) (k0_off74 v23 k0_t3 (BitVec.ofNat 32 (2048 * r.val))) S1x1536x512.size (k0_off74_inb v23 k0_hw5 k0_t3 r)).WholeWords (EltTy.packing .i8) := fun v23 k0_hw5 k0_t3 r => k0_hw5.2.2.2.2.2.2.2.2.2.2.1 k0_t3 r (k0_off74_inb v23 k0_hw5 k0_t3 r)
theorem k0_off85_inb : ∀ (v23 : BitVec 32) (k0_hw5 : k0_chk5 v23), ∀ a, (k0_off85 v23) a + S1x1x96x128.size a ≤ S16x2x96x128.size a := fun v23 k0_hw5 => k0_hw5.2.2.2.2.2.2.2.2.2.2.2.1
theorem k0_off88_inb : ∀ (v23 : BitVec 32) (k0_hw5 : k0_chk5 v23) (k0_t6 : Fin k0_t6_loop.trips), ∀ a, (k0_off88 v23 k0_t6) a + S1x1024x1536.size a ≤ S16x1024x3072.size a := fun v23 k0_hw5 k0_t6 => k0_hw5.2.2.2.2.2.2.2.2.2.2.2.2.1 k0_t6
theorem k0_off88_wordsi8 : ∀ (v23 : BitVec 32) (k0_hw5 : k0_chk5 v23) (k0_t6 : Fin k0_t6_loop.trips), (Rect.unit (s := S16x1024x3072) (k0_off88 v23 k0_t6) S1x1024x1536.size (k0_off88_inb v23 k0_hw5 k0_t6)).WholeWords (EltTy.packing .i8) := fun v23 k0_hw5 k0_t6 => k0_hw5.2.2.2.2.2.2.2.2.2.2.2.2.2 k0_t6 (k0_off88_inb v23 k0_hw5 k0_t6)

@[reducible] def k0_t7_loop : Scf.Loop 32 :=
  let c0_i32_77 : BitVec 32 := 0#32
  let c6_i32 : BitVec 32 := 6#32
  let v117 : BitVec 32 := Scalar.addi c0_i32_77 c6_i32
  let c1_i32_78 : BitVec 32 := 1#32
  ⟨c0_i32_77, v117, c1_i32_78⟩
def k0_mult4 (k0_t6 : Fin k0_t6_loop.trips) (k0_t7 : Fin k0_t7_loop.trips) : BitVec 32 :=
  let c0_i32_71 : BitVec 32 := 0#32
  let c1_i32_73 : BitVec 32 := 1#32
  let arg28 : BitVec 32 := Scf.iv c0_i32_71 c1_i32_73 k0_t6
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t7
  let v119 : BitVec 32 := Scalar.addi v118 arg29
  let c256_i32 : BitVec 32 := 256#32
  let v120 : BitVec 32 := Scalar.muli v119 c256_i32
  v120
@[reducible] def k0_t8_loop : Scf.Loop 32 :=
  let c0_i32_82 : BitVec 32 := 0#32
  let c8_i32 : BitVec 32 := 8#32
  let v123 : BitVec 32 := Scalar.addi c0_i32_82 c8_i32
  let c1_i32_83 : BitVec 32 := 1#32
  ⟨c0_i32_82, v123, c1_i32_83⟩
def k0_mult5 (k0_t8 : Fin k0_t8_loop.trips) : BitVec 32 :=
  let c0_i32_82 : BitVec 32 := 0#32
  let c1_i32_83 : BitVec 32 := 1#32
  let arg30 : BitVec 32 := Scf.iv c0_i32_82 c1_i32_83 k0_t8
  let c256_i32_87 : BitVec 32 := 256#32
  let v133 : BitVec 32 := Scalar.muli arg30 c256_i32_87
  v133
def k0_off89 (k0_t8 : Fin k0_t8_loop.trips) : Fin 2 → Nat :=
  let c0_88 : Index := 0#32
  let c0_i32_82 : BitVec 32 := 0#32
  let c1_i32_83 : BitVec 32 := 1#32
  let arg30 : BitVec 32 := Scf.iv c0_i32_82 c1_i32_83 k0_t8
  let c256_i32_87 : BitVec 32 := 256#32
  let v133 : BitVec 32 := Scalar.muli arg30 c256_i32_87
  let v134 : BitVec 32 := v133
  let v135 : Index := Scalar.indexCast v134
  ![0, v135.toNat]
def k0_off90 (v5 : BitVec 32) (k0_t2 : Fin (k0_t2_loop v5).trips) (k0_t6 : Fin k0_t6_loop.trips) (k0_t7 : Fin k0_t7_loop.trips) (k0_t8 : Fin k0_t8_loop.trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v141 : Index := Scalar.indexCast v21
  let c2_i32_89 : BitVec 32 := 2#32
  let c0_i32_82 : BitVec 32 := 0#32
  let c1_i32_83 : BitVec 32 := 1#32
  let arg30 : BitVec 32 := Scf.iv c0_i32_82 c1_i32_83 k0_t8
  let v137 : BitVec 32 := Scalar.muli c2_i32_89 arg30
  let c64_i32 : BitVec 32 := 64#32
  let v140 : BitVec 32 := Scalar.muli v137 c64_i32
  let v142 : Index := Scalar.indexCast v140
  let c0_i32_71 : BitVec 32 := 0#32
  let c1_i32_73 : BitVec 32 := 1#32
  let arg28 : BitVec 32 := Scf.iv c0_i32_71 c1_i32_73 k0_t6
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t7
  let v119 : BitVec 32 := Scalar.addi v118 arg29
  let c256_i32 : BitVec 32 := 256#32
  let v120 : BitVec 32 := Scalar.muli v119 c256_i32
  let v121 : BitVec 32 := v120
  let v143 : Index := Scalar.indexCast v121
  ![v141.toNat, v142.toNat, v143.toNat]
def k0_off91 (k0_t6 : Fin k0_t6_loop.trips) (k0_t7 : Fin k0_t7_loop.trips) (k0_t8 : Fin k0_t8_loop.trips) : Fin 2 → Nat :=
  let c2_i32_89 : BitVec 32 := 2#32
  let c0_i32_82 : BitVec 32 := 0#32
  let c1_i32_83 : BitVec 32 := 1#32
  let arg30 : BitVec 32 := Scf.iv c0_i32_82 c1_i32_83 k0_t8
  let v137 : BitVec 32 := Scalar.muli c2_i32_89 arg30
  let v146 : Index := Scalar.indexCast v137
  let c0_i32_71 : BitVec 32 := 0#32
  let c1_i32_73 : BitVec 32 := 1#32
  let arg28 : BitVec 32 := Scf.iv c0_i32_71 c1_i32_73 k0_t6
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t7
  let v119 : BitVec 32 := Scalar.addi v118 arg29
  let c256_i32 : BitVec 32 := 256#32
  let v120 : BitVec 32 := Scalar.muli v119 c256_i32
  let v121 : BitVec 32 := v120
  let v147 : Index := Scalar.indexCast v121
  ![v146.toNat, v147.toNat]
def k0_off92 (v5 : BitVec 32) (k0_t2 : Fin (k0_t2_loop v5).trips) (k0_t6 : Fin k0_t6_loop.trips) (k0_t7 : Fin k0_t7_loop.trips) (k0_t8 : Fin k0_t8_loop.trips) : Fin 3 → Nat :=
  let c0_i32_10 : BitVec 32 := 0#32
  let c1_i32_12 : BitVec 32 := 1#32
  let arg27 : BitVec 32 := Scf.iv c0_i32_10 c1_i32_12 k0_t2
  let c2_i32 : BitVec 32 := 2#32
  let v21 : BitVec 32 := Scalar.remsi arg27 c2_i32
  let v177 : Index := Scalar.indexCast v21
  let c2_i32_90 : BitVec 32 := 2#32
  let c0_i32_82 : BitVec 32 := 0#32
  let c1_i32_83 : BitVec 32 := 1#32
  let arg30 : BitVec 32 := Scf.iv c0_i32_82 c1_i32_83 k0_t8
  let v138 : BitVec 32 := Scalar.muli c2_i32_90 arg30
  let c1_i32_91 : BitVec 32 := 1#32
  let v139 : BitVec 32 := Scalar.addi v138 c1_i32_91
  let c64_i32_94 : BitVec 32 := 64#32
  let v176 : BitVec 32 := Scalar.muli v139 c64_i32_94
  let v178 : Index := Scalar.indexCast v176
  let c0_i32_71 : BitVec 32 := 0#32
  let c1_i32_73 : BitVec 32 := 1#32
  let arg28 : BitVec 32 := Scf.iv c0_i32_71 c1_i32_73 k0_t6
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t7
  let v119 : BitVec 32 := Scalar.addi v118 arg29
  let c256_i32 : BitVec 32 := 256#32
  let v120 : BitVec 32 := Scalar.muli v119 c256_i32
  let v121 : BitVec 32 := v120
  let v179 : Index := Scalar.indexCast v121
  ![v177.toNat, v178.toNat, v179.toNat]
def k0_off93 (k0_t6 : Fin k0_t6_loop.trips) (k0_t7 : Fin k0_t7_loop.trips) (k0_t8 : Fin k0_t8_loop.trips) : Fin 2 → Nat :=
  let c2_i32_90 : BitVec 32 := 2#32
  let c0_i32_82 : BitVec 32 := 0#32
  let c1_i32_83 : BitVec 32 := 1#32
  let arg30 : BitVec 32 := Scf.iv c0_i32_82 c1_i32_83 k0_t8
  let v138 : BitVec 32 := Scalar.muli c2_i32_90 arg30
  let c1_i32_91 : BitVec 32 := 1#32
  let v139 : BitVec 32 := Scalar.addi v138 c1_i32_91
  let v182 : Index := Scalar.indexCast v139
  let c0_i32_71 : BitVec 32 := 0#32
  let c1_i32_73 : BitVec 32 := 1#32
  let arg28 : BitVec 32 := Scf.iv c0_i32_71 c1_i32_73 k0_t6
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t7
  let v119 : BitVec 32 := Scalar.addi v118 arg29
  let c256_i32 : BitVec 32 := 256#32
  let v120 : BitVec 32 := Scalar.muli v119 c256_i32
  let v121 : BitVec 32 := v120
  let v183 : Index := Scalar.indexCast v121
  ![v182.toNat, v183.toNat]
def k0_off94 (k0_t6 : Fin k0_t6_loop.trips) (k0_t7 : Fin k0_t7_loop.trips) : Fin 2 → Nat :=
  let c0_85 : Index := 0#32
  let c0_i32_71 : BitVec 32 := 0#32
  let c1_i32_73 : BitVec 32 := 1#32
  let arg28 : BitVec 32 := Scf.iv c0_i32_71 c1_i32_73 k0_t6
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t7
  let v119 : BitVec 32 := Scalar.addi v118 arg29
  let c256_i32 : BitVec 32 := 256#32
  let v120 : BitVec 32 := Scalar.muli v119 c256_i32
  let v121 : BitVec 32 := v120
  let v125 : Index := Scalar.indexCast v121
  ![0, v125.toNat]
@[reducible] def k0_t9_loop (v5 : BitVec 32) : Scf.Loop 32 :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let v14 : BitVec 32 := Scalar.addi c0_i32_10 v13
  let c1_i32_13 : BitVec 32 := 1#32
  ⟨v17, v14, c1_i32_13⟩
def k0_off95 (v5 : BitVec 32) (k0_t9 : Fin (k0_t9_loop v5).trips) : Fin 1 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let v22 : Index := Scalar.indexCast arg27
  ![v22.toNat]
def k0_off96 (v5 : BitVec 32) (k0_t9 : Fin (k0_t9_loop v5).trips) : Fin 1 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_75 : BitVec 32 := 1#32
  let v110 : BitVec 32 := Scalar.addi arg27 c1_i32_75
  let v111 : Index := Scalar.indexCast v110
  ![v111.toNat]
def k0_cond3 (v5 : BitVec 32) (k0_t9 : Fin (k0_t9_loop v5).trips) : BitVec 1 :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_18 : BitVec 32 := 1#32
  let v24 : BitVec 32 := Scalar.addi arg27 c1_i32_18
  let v25 : BitVec 1 := Scalar.cmpi .slt v24 v5
  let v26 : BitVec 32 := Scalar.extui v25
  let c0_i32_19 : BitVec 32 := 0#32
  let v27 : BitVec 1 := Scalar.cmpi .ne v26 c0_i32_19
  v27

def k0_off97 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_78 : BitVec 32 := 0#32
  ![v114.toNat, 0]
def k0_off98 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_79 : BitVec 32 := 0#32
  let c0_i32_80 : BitVec 32 := 0#32
  ![v114.toNat, 0, 0]
def k0_off99 (v112 : BitVec 32) : Fin 3 → Nat :=
  let c0_i32_81 : BitVec 32 := 0#32
  let c0_i32_82 : BitVec 32 := 0#32
  ![v112.toNat, 0, 0]

def k0_off100 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c1_i32_83 : BitVec 32 := 1#32
  ![v114.toNat, 1]
def k0_off101 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_84 : BitVec 32 := 0#32
  let c0_i32_85 : BitVec 32 := 0#32
  ![v114.toNat, 0, 0]
def k0_off102 (v112 : BitVec 32) : Fin 3 → Nat :=
  let c0_i32_86 : BitVec 32 := 0#32
  let c0_i32_87 : BitVec 32 := 0#32
  ![v112.toNat, 0, 0]
def k0_off103 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c2_i32_88 : BitVec 32 := 2#32
  ![v114.toNat, 2]
def k0_off104 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_89 : BitVec 32 := 0#32
  let c0_i32_90 : BitVec 32 := 0#32
  ![v114.toNat, 0, 0]
def k0_off105 (v112 : BitVec 32) : Fin 3 → Nat :=
  let c0_i32_91 : BitVec 32 := 0#32
  let c0_i32_92 : BitVec 32 := 0#32
  ![v112.toNat, 0, 0]
def k0_off106 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c3_i32_93 : BitVec 32 := 3#32
  ![v114.toNat, 3]
def k0_off107 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_94 : BitVec 32 := 0#32
  let c0_i32_95 : BitVec 32 := 0#32
  ![v114.toNat, 0, 0]
def k0_off108 (v112 : BitVec 32) : Fin 3 → Nat :=
  let c0_i32_96 : BitVec 32 := 0#32
  let c0_i32_97 : BitVec 32 := 0#32
  ![v112.toNat, 0, 0]
def k0_off109 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_98 : BitVec 32 := 0#32
  ![v114.toNat, 0]
def k0_off110 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_99 : BitVec 32 := 0#32
  let c0_i32_100 : BitVec 32 := 0#32
  ![v114.toNat, 0, 0]
def k0_off111 (v112 : BitVec 32) : Fin 3 → Nat :=
  let c0_i32_101 : BitVec 32 := 0#32
  let c0_i32_102 : BitVec 32 := 0#32
  ![v112.toNat, 0, 0]
def k0_off112 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_104 : BitVec 32 := 0#32
  let c2048_i32 : BitVec 32 := 2048#32
  ![v114.toNat, 0, 2048]
def k0_off113 (v112 : BitVec 32) : Fin 3 → Nat :=
  let c0_i32_105 : BitVec 32 := 0#32
  let c2048_i32_106 : BitVec 32 := 2048#32
  ![v112.toNat, 0, 2048]
def k0_off114 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_108 : BitVec 32 := 0#32
  let c512_i32 : BitVec 32 := 512#32
  ![v114.toNat, 0, 512]
def k0_off115 (v112 : BitVec 32) : Fin 3 → Nat :=
  let c0_i32_109 : BitVec 32 := 0#32
  let c512_i32_110 : BitVec 32 := 512#32
  ![v112.toNat, 0, 512]
def k0_off116 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_112 : BitVec 32 := 0#32
  let c2560_i32 : BitVec 32 := 2560#32
  ![v114.toNat, 0, 2560]
def k0_off117 (v112 : BitVec 32) : Fin 3 → Nat :=
  let c0_i32_113 : BitVec 32 := 0#32
  let c2560_i32_114 : BitVec 32 := 2560#32
  ![v112.toNat, 0, 2560]
def k0_off118 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_116 : BitVec 32 := 0#32
  let c1024_i32 : BitVec 32 := 1024#32
  ![v114.toNat, 0, 1024]
def k0_off119 (v112 : BitVec 32) : Fin 3 → Nat :=
  let c0_i32_117 : BitVec 32 := 0#32
  let c1024_i32_118 : BitVec 32 := 1024#32
  ![v112.toNat, 0, 1024]
def k0_off120 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_120 : BitVec 32 := 0#32
  let c3072_i32 : BitVec 32 := 3072#32
  ![v114.toNat, 0, 3072]
def k0_off121 (v112 : BitVec 32) : Fin 3 → Nat :=
  let c0_i32_121 : BitVec 32 := 0#32
  let c3072_i32_122 : BitVec 32 := 3072#32
  ![v112.toNat, 0, 3072]
def k0_off122 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_124 : BitVec 32 := 0#32
  let c1536_i32 : BitVec 32 := 1536#32
  ![v114.toNat, 0, 1536]
def k0_off123 (v112 : BitVec 32) : Fin 3 → Nat :=
  let c0_i32_125 : BitVec 32 := 0#32
  let c1536_i32_126 : BitVec 32 := 1536#32
  ![v112.toNat, 0, 1536]
def k0_off124 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_128 : BitVec 32 := 0#32
  let c3584_i32 : BitVec 32 := 3584#32
  ![v114.toNat, 0, 3584]
def k0_off125 (v112 : BitVec 32) : Fin 3 → Nat :=
  let c0_i32_129 : BitVec 32 := 0#32
  let c3584_i32_130 : BitVec 32 := 3584#32
  ![v112.toNat, 0, 3584]
def k0_off126 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_131 : BitVec 32 := 0#32
  ![v114.toNat, 0]
def k0_off127 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_132 : BitVec 32 := 0#32
  let c0_i32_133 : BitVec 32 := 0#32
  ![v114.toNat, 0, 0]
def k0_off128 (v112 : BitVec 32) : Fin 3 → Nat :=
  let c0_i32_134 : BitVec 32 := 0#32
  let c0_i32_135 : BitVec 32 := 0#32
  ![v112.toNat, 0, 0]
def k0_off129 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c1_i32_136 : BitVec 32 := 1#32
  ![v114.toNat, 1]
def k0_off130 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c1_i32_76 : BitVec 32 := 1#32
  let v113 : BitVec 32 := Scalar.addi arg27 c1_i32_76
  let c2_i32_77 : BitVec 32 := 2#32
  let v114 : BitVec 32 := Scalar.remsi v113 c2_i32_77
  let c0_i32_137 : BitVec 32 := 0#32
  let c1536_i32_138 : BitVec 32 := 1536#32
  ![v114.toNat, 0, 1536]
def k0_off131 (v112 : BitVec 32) : Fin 3 → Nat :=
  let c0_i32_139 : BitVec 32 := 0#32
  let c1536_i32_140 : BitVec 32 := 1536#32
  ![v112.toNat, 0, 1536]

def k0_chk6 (v5 : BitVec 32) (k0_t9 : Fin (k0_t9_loop v5).trips) (v112 : BitVec 32) : Prop :=
  (∀ (k0_h3 : k0_cond3 v5 k0_t9 = 1#1), ∀ a, (k0_off99 v112) a + S1x24x4096.size a ≤ S16x24x4096.size a) ∧
  (∀ (k0_h3 : k0_cond3 v5 k0_t9 = 1#1), ∀ (hinb : ∀ a, (k0_off99 v112) a + S1x24x4096.size a ≤ S16x24x4096.size a), (Rect.unit (s := S16x24x4096) (k0_off99 v112) S1x24x4096.size hinb).WholeWords (EltTy.packing .bf16)) ∧
  (∀ (k0_h3 : k0_cond3 v5 k0_t9 = 1#1), ∀ a, (k0_off102 v112) a + S1x24x2048.size a ≤ S16x24x2048.size a) ∧
  (∀ (k0_h3 : k0_cond3 v5 k0_t9 = 1#1), ∀ (hinb : ∀ a, (k0_off102 v112) a + S1x24x2048.size a ≤ S16x24x2048.size a), (Rect.unit (s := S16x24x2048) (k0_off102 v112) S1x24x2048.size hinb).WholeWords (EltTy.packing .i8)) ∧
  (∀ (k0_h3 : k0_cond3 v5 k0_t9 = 1#1), ∀ a, (k0_off105 v112) a + S1x16x3072.size a ≤ S16x16x3072.size a) ∧
  (∀ (k0_h3 : k0_cond3 v5 k0_t9 = 1#1), ∀ (hinb : ∀ a, (k0_off105 v112) a + S1x16x3072.size a ≤ S16x16x3072.size a), (Rect.unit (s := S16x16x3072) (k0_off105 v112) S1x16x3072.size hinb).WholeWords (EltTy.packing .bf16)) ∧
  (∀ (k0_h3 : k0_cond3 v5 k0_t9 = 1#1), ∀ a, (k0_off108 v112) a + S1x16x1536.size a ≤ S16x16x1536.size a) ∧
  (∀ (k0_h3 : k0_cond3 v5 k0_t9 = 1#1), ∀ (hinb : ∀ a, (k0_off108 v112) a + S1x16x1536.size a ≤ S16x16x1536.size a), (Rect.unit (s := S16x16x1536) (k0_off108 v112) S1x16x1536.size hinb).WholeWords (EltTy.packing .i8)) ∧
  (∀ (k0_h3 : k0_cond3 v5 k0_t9 = 1#1), ∀ a, (k0_off111 v112) a + S1x1536x512.size a ≤ S16x1536x4096.size a) ∧
  (∀ (k0_h3 : k0_cond3 v5 k0_t9 = 1#1), ∀ (hinb : ∀ a, (k0_off111 v112) a + S1x1536x512.size a ≤ S16x1536x4096.size a), (Rect.unit (s := S16x1536x4096) (k0_off111 v112) S1x1536x512.size hinb).WholeWords (EltTy.packing .i8)) ∧
  (∀ (k0_h3 : k0_cond3 v5 k0_t9 = 1#1), ∀ a, (k0_off113 v112) a + S1x1536x512.size a ≤ S16x1536x4096.size a) ∧
  (∀ (k0_h3 : k0_cond3 v5 k0_t9 = 1#1), ∀ (hinb : ∀ a, (k0_off113 v112) a + S1x1536x512.size a ≤ S16x1536x4096.size a), (Rect.unit (s := S16x1536x4096) (k0_off113 v112) S1x1536x512.size hinb).WholeWords (EltTy.packing .i8)) ∧
  (∀ (k0_h3 : k0_cond3 v5 k0_t9 = 1#1), ∀ a, (k0_off115 v112) a + S1x1536x512.size a ≤ S16x1536x4096.size a) ∧
  (∀ (k0_h3 : k0_cond3 v5 k0_t9 = 1#1), ∀ (hinb : ∀ a, (k0_off115 v112) a + S1x1536x512.size a ≤ S16x1536x4096.size a), (Rect.unit (s := S16x1536x4096) (k0_off115 v112) S1x1536x512.size hinb).WholeWords (EltTy.packing .i8)) ∧
  (∀ (k0_h3 : k0_cond3 v5 k0_t9 = 1#1), ∀ a, (k0_off117 v112) a + S1x1536x512.size a ≤ S16x1536x4096.size a) ∧
  (∀ (k0_h3 : k0_cond3 v5 k0_t9 = 1#1), ∀ (hinb : ∀ a, (k0_off117 v112) a + S1x1536x512.size a ≤ S16x1536x4096.size a), (Rect.unit (s := S16x1536x4096) (k0_off117 v112) S1x1536x512.size hinb).WholeWords (EltTy.packing .i8)) ∧
  (∀ (k0_h3 : k0_cond3 v5 k0_t9 = 1#1), ∀ a, (k0_off119 v112) a + S1x1536x512.size a ≤ S16x1536x4096.size a) ∧
  (∀ (k0_h3 : k0_cond3 v5 k0_t9 = 1#1), ∀ (hinb : ∀ a, (k0_off119 v112) a + S1x1536x512.size a ≤ S16x1536x4096.size a), (Rect.unit (s := S16x1536x4096) (k0_off119 v112) S1x1536x512.size hinb).WholeWords (EltTy.packing .i8)) ∧
  (∀ (k0_h3 : k0_cond3 v5 k0_t9 = 1#1), ∀ a, (k0_off121 v112) a + S1x1536x512.size a ≤ S16x1536x4096.size a) ∧
  (∀ (k0_h3 : k0_cond3 v5 k0_t9 = 1#1), ∀ (hinb : ∀ a, (k0_off121 v112) a + S1x1536x512.size a ≤ S16x1536x4096.size a), (Rect.unit (s := S16x1536x4096) (k0_off121 v112) S1x1536x512.size hinb).WholeWords (EltTy.packing .i8)) ∧
  (∀ (k0_h3 : k0_cond3 v5 k0_t9 = 1#1), ∀ a, (k0_off123 v112) a + S1x1536x512.size a ≤ S16x1536x4096.size a) ∧
  (∀ (k0_h3 : k0_cond3 v5 k0_t9 = 1#1), ∀ (hinb : ∀ a, (k0_off123 v112) a + S1x1536x512.size a ≤ S16x1536x4096.size a), (Rect.unit (s := S16x1536x4096) (k0_off123 v112) S1x1536x512.size hinb).WholeWords (EltTy.packing .i8)) ∧
  (∀ (k0_h3 : k0_cond3 v5 k0_t9 = 1#1), ∀ a, (k0_off125 v112) a + S1x1536x512.size a ≤ S16x1536x4096.size a) ∧
  (∀ (k0_h3 : k0_cond3 v5 k0_t9 = 1#1), ∀ (hinb : ∀ a, (k0_off125 v112) a + S1x1536x512.size a ≤ S16x1536x4096.size a), (Rect.unit (s := S16x1536x4096) (k0_off125 v112) S1x1536x512.size hinb).WholeWords (EltTy.packing .i8)) ∧
  (∀ (k0_h3 : k0_cond3 v5 k0_t9 = 1#1), ∀ a, (k0_off128 v112) a + S1x1024x1536.size a ≤ S16x1024x3072.size a) ∧
  (∀ (k0_h3 : k0_cond3 v5 k0_t9 = 1#1), ∀ (hinb : ∀ a, (k0_off128 v112) a + S1x1024x1536.size a ≤ S16x1024x3072.size a), (Rect.unit (s := S16x1024x3072) (k0_off128 v112) S1x1024x1536.size hinb).WholeWords (EltTy.packing .i8)) ∧
  (∀ (k0_h3 : k0_cond3 v5 k0_t9 = 1#1), ∀ a, (k0_off131 v112) a + S1x1024x1536.size a ≤ S16x1024x3072.size a) ∧
  (∀ (k0_h3 : k0_cond3 v5 k0_t9 = 1#1), ∀ (hinb : ∀ a, (k0_off131 v112) a + S1x1024x1536.size a ≤ S16x1024x3072.size a), (Rect.unit (s := S16x1024x3072) (k0_off131 v112) S1x1024x1536.size hinb).WholeWords (EltTy.packing .i8))
theorem k0_off99_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off99 v112) a + S1x24x4096.size a ≤ S16x24x4096.size a := fun v5 k0_t9 v112 k0_hw6 k0_h3 => k0_hw6.1 k0_h3
theorem k0_off99_wordsbf16 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x24x4096) (k0_off99 v112) S1x24x4096.size (k0_off99_inb v5 k0_t9 v112 k0_hw6 k0_h3)).WholeWords (EltTy.packing .bf16) := fun v5 k0_t9 v112 k0_hw6 k0_h3 => k0_hw6.2.1 k0_h3 (k0_off99_inb v5 k0_t9 v112 k0_hw6 k0_h3)
theorem k0_off102_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off102 v112) a + S1x24x2048.size a ≤ S16x24x2048.size a := fun v5 k0_t9 v112 k0_hw6 k0_h3 => k0_hw6.2.2.1 k0_h3
theorem k0_off102_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x24x2048) (k0_off102 v112) S1x24x2048.size (k0_off102_inb v5 k0_t9 v112 k0_hw6 k0_h3)).WholeWords (EltTy.packing .i8) := fun v5 k0_t9 v112 k0_hw6 k0_h3 => k0_hw6.2.2.2.1 k0_h3 (k0_off102_inb v5 k0_t9 v112 k0_hw6 k0_h3)
theorem k0_off105_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off105 v112) a + S1x16x3072.size a ≤ S16x16x3072.size a := fun v5 k0_t9 v112 k0_hw6 k0_h3 => k0_hw6.2.2.2.2.1 k0_h3
theorem k0_off105_wordsbf16 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x16x3072) (k0_off105 v112) S1x16x3072.size (k0_off105_inb v5 k0_t9 v112 k0_hw6 k0_h3)).WholeWords (EltTy.packing .bf16) := fun v5 k0_t9 v112 k0_hw6 k0_h3 => k0_hw6.2.2.2.2.2.1 k0_h3 (k0_off105_inb v5 k0_t9 v112 k0_hw6 k0_h3)
theorem k0_off108_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off108 v112) a + S1x16x1536.size a ≤ S16x16x1536.size a := fun v5 k0_t9 v112 k0_hw6 k0_h3 => k0_hw6.2.2.2.2.2.2.1 k0_h3
theorem k0_off108_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x16x1536) (k0_off108 v112) S1x16x1536.size (k0_off108_inb v5 k0_t9 v112 k0_hw6 k0_h3)).WholeWords (EltTy.packing .i8) := fun v5 k0_t9 v112 k0_hw6 k0_h3 => k0_hw6.2.2.2.2.2.2.2.1 k0_h3 (k0_off108_inb v5 k0_t9 v112 k0_hw6 k0_h3)
theorem k0_off111_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off111 v112) a + S1x1536x512.size a ≤ S16x1536x4096.size a := fun v5 k0_t9 v112 k0_hw6 k0_h3 => k0_hw6.2.2.2.2.2.2.2.2.1 k0_h3
theorem k0_off111_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1536x4096) (k0_off111 v112) S1x1536x512.size (k0_off111_inb v5 k0_t9 v112 k0_hw6 k0_h3)).WholeWords (EltTy.packing .i8) := fun v5 k0_t9 v112 k0_hw6 k0_h3 => k0_hw6.2.2.2.2.2.2.2.2.2.1 k0_h3 (k0_off111_inb v5 k0_t9 v112 k0_hw6 k0_h3)
theorem k0_off113_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off113 v112) a + S1x1536x512.size a ≤ S16x1536x4096.size a := fun v5 k0_t9 v112 k0_hw6 k0_h3 => k0_hw6.2.2.2.2.2.2.2.2.2.2.1 k0_h3
theorem k0_off113_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1536x4096) (k0_off113 v112) S1x1536x512.size (k0_off113_inb v5 k0_t9 v112 k0_hw6 k0_h3)).WholeWords (EltTy.packing .i8) := fun v5 k0_t9 v112 k0_hw6 k0_h3 => k0_hw6.2.2.2.2.2.2.2.2.2.2.2.1 k0_h3 (k0_off113_inb v5 k0_t9 v112 k0_hw6 k0_h3)
theorem k0_off115_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off115 v112) a + S1x1536x512.size a ≤ S16x1536x4096.size a := fun v5 k0_t9 v112 k0_hw6 k0_h3 => k0_hw6.2.2.2.2.2.2.2.2.2.2.2.2.1 k0_h3
theorem k0_off115_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1536x4096) (k0_off115 v112) S1x1536x512.size (k0_off115_inb v5 k0_t9 v112 k0_hw6 k0_h3)).WholeWords (EltTy.packing .i8) := fun v5 k0_t9 v112 k0_hw6 k0_h3 => k0_hw6.2.2.2.2.2.2.2.2.2.2.2.2.2.1 k0_h3 (k0_off115_inb v5 k0_t9 v112 k0_hw6 k0_h3)
theorem k0_off117_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off117 v112) a + S1x1536x512.size a ≤ S16x1536x4096.size a := fun v5 k0_t9 v112 k0_hw6 k0_h3 => k0_hw6.2.2.2.2.2.2.2.2.2.2.2.2.2.2.1 k0_h3
theorem k0_off117_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1536x4096) (k0_off117 v112) S1x1536x512.size (k0_off117_inb v5 k0_t9 v112 k0_hw6 k0_h3)).WholeWords (EltTy.packing .i8) := fun v5 k0_t9 v112 k0_hw6 k0_h3 => k0_hw6.2.2.2.2.2.2.2.2.2.2.2.2.2.2.2.1 k0_h3 (k0_off117_inb v5 k0_t9 v112 k0_hw6 k0_h3)
theorem k0_off119_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off119 v112) a + S1x1536x512.size a ≤ S16x1536x4096.size a := fun v5 k0_t9 v112 k0_hw6 k0_h3 => k0_hw6.2.2.2.2.2.2.2.2.2.2.2.2.2.2.2.2.1 k0_h3
theorem k0_off119_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1536x4096) (k0_off119 v112) S1x1536x512.size (k0_off119_inb v5 k0_t9 v112 k0_hw6 k0_h3)).WholeWords (EltTy.packing .i8) := fun v5 k0_t9 v112 k0_hw6 k0_h3 => k0_hw6.2.2.2.2.2.2.2.2.2.2.2.2.2.2.2.2.2.1 k0_h3 (k0_off119_inb v5 k0_t9 v112 k0_hw6 k0_h3)
theorem k0_off121_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off121 v112) a + S1x1536x512.size a ≤ S16x1536x4096.size a := fun v5 k0_t9 v112 k0_hw6 k0_h3 => k0_hw6.2.2.2.2.2.2.2.2.2.2.2.2.2.2.2.2.2.2.1 k0_h3
theorem k0_off121_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1536x4096) (k0_off121 v112) S1x1536x512.size (k0_off121_inb v5 k0_t9 v112 k0_hw6 k0_h3)).WholeWords (EltTy.packing .i8) := fun v5 k0_t9 v112 k0_hw6 k0_h3 => k0_hw6.2.2.2.2.2.2.2.2.2.2.2.2.2.2.2.2.2.2.2.1 k0_h3 (k0_off121_inb v5 k0_t9 v112 k0_hw6 k0_h3)
theorem k0_off123_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off123 v112) a + S1x1536x512.size a ≤ S16x1536x4096.size a := fun v5 k0_t9 v112 k0_hw6 k0_h3 => k0_hw6.2.2.2.2.2.2.2.2.2.2.2.2.2.2.2.2.2.2.2.2.1 k0_h3
theorem k0_off123_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1536x4096) (k0_off123 v112) S1x1536x512.size (k0_off123_inb v5 k0_t9 v112 k0_hw6 k0_h3)).WholeWords (EltTy.packing .i8) := fun v5 k0_t9 v112 k0_hw6 k0_h3 => k0_hw6.2.2.2.2.2.2.2.2.2.2.2.2.2.2.2.2.2.2.2.2.2.1 k0_h3 (k0_off123_inb v5 k0_t9 v112 k0_hw6 k0_h3)
theorem k0_off125_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off125 v112) a + S1x1536x512.size a ≤ S16x1536x4096.size a := fun v5 k0_t9 v112 k0_hw6 k0_h3 => k0_hw6.2.2.2.2.2.2.2.2.2.2.2.2.2.2.2.2.2.2.2.2.2.2.1 k0_h3
theorem k0_off125_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1536x4096) (k0_off125 v112) S1x1536x512.size (k0_off125_inb v5 k0_t9 v112 k0_hw6 k0_h3)).WholeWords (EltTy.packing .i8) := fun v5 k0_t9 v112 k0_hw6 k0_h3 => k0_hw6.2.2.2.2.2.2.2.2.2.2.2.2.2.2.2.2.2.2.2.2.2.2.2.1 k0_h3 (k0_off125_inb v5 k0_t9 v112 k0_hw6 k0_h3)
theorem k0_off128_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off128 v112) a + S1x1024x1536.size a ≤ S16x1024x3072.size a := fun v5 k0_t9 v112 k0_hw6 k0_h3 => k0_hw6.2.2.2.2.2.2.2.2.2.2.2.2.2.2.2.2.2.2.2.2.2.2.2.2.1 k0_h3
theorem k0_off128_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1024x3072) (k0_off128 v112) S1x1024x1536.size (k0_off128_inb v5 k0_t9 v112 k0_hw6 k0_h3)).WholeWords (EltTy.packing .i8) := fun v5 k0_t9 v112 k0_hw6 k0_h3 => k0_hw6.2.2.2.2.2.2.2.2.2.2.2.2.2.2.2.2.2.2.2.2.2.2.2.2.2.1 k0_h3 (k0_off128_inb v5 k0_t9 v112 k0_hw6 k0_h3)
theorem k0_off131_inb : ∀ (v5 : BitVec 32) (k0_t9 : Fin (k0_t9_loop v5).trips) (v112 : BitVec 32) (k0_hw6 : k0_chk6 v5 k0_t9 v112), ∀ (k0_h3 : k0_cond3 v5 k0_t9 = 1#1), ∀ a, (k0_off131 v112) a + S1x1024x1536.size a ≤ S16x1024x3072.size a := fun v5 k0_t9 v112 k0_hw6 k0_h3 => k0_hw6.2.2.2.2.2.2.2.2.2.2.2.2.2.2.2.2.2.2.2.2.2.2.2.2.2.2.1 k0_h3
theorem k0_off131_wordsi8 : ∀ (v5 : BitVec 32) (k0_t9 : Fin (k0_t9_loop v5).trips) (v112 : BitVec 32) (k0_hw6 : k0_chk6 v5 k0_t9 v112), ∀ (k0_h3 : k0_cond3 v5 k0_t9 = 1#1), (Rect.unit (s := S16x1024x3072) (k0_off131 v112) S1x1024x1536.size (k0_off131_inb v5 k0_t9 v112 k0_hw6 k0_h3)).WholeWords (EltTy.packing .i8) := fun v5 k0_t9 v112 k0_hw6 k0_h3 => k0_hw6.2.2.2.2.2.2.2.2.2.2.2.2.2.2.2.2.2.2.2.2.2.2.2.2.2.2.2 k0_h3 (k0_off131_inb v5 k0_t9 v112 k0_hw6 k0_h3)

def k0_off132 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c0_i32_20 : BitVec 32 := 0#32
  ![v21.toNat, 0]
def k0_off133 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c0_i32_21 : BitVec 32 := 0#32
  let c0_i32_22 : BitVec 32 := 0#32
  ![v21.toNat, 0, 0]
def k0_off134 (v23 : BitVec 32) : Fin 3 → Nat :=
  let c0_i32_23 : BitVec 32 := 0#32
  let c0_i32_24 : BitVec 32 := 0#32
  ![v23.toNat, 0, 0]

def k0_off135 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c1_i32_25 : BitVec 32 := 1#32
  ![v21.toNat, 1]
def k0_off136 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c0_i32_26 : BitVec 32 := 0#32
  let c0_i32_27 : BitVec 32 := 0#32
  ![v21.toNat, 0, 0]
def k0_off137 (v23 : BitVec 32) : Fin 3 → Nat :=
  let c0_i32_28 : BitVec 32 := 0#32
  let c0_i32_29 : BitVec 32 := 0#32
  ![v23.toNat, 0, 0]
def k0_off138 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c2_i32_30 : BitVec 32 := 2#32
  ![v21.toNat, 2]
def k0_off139 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c0_i32_31 : BitVec 32 := 0#32
  let c0_i32_32 : BitVec 32 := 0#32
  ![v21.toNat, 0, 0]
def k0_off140 (v23 : BitVec 32) : Fin 3 → Nat :=
  let c0_i32_33 : BitVec 32 := 0#32
  let c0_i32_34 : BitVec 32 := 0#32
  ![v23.toNat, 0, 0]
def k0_off141 (v5 : BitVec 32) (k0_t9 : Fin (k0_t9_loop v5).trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c3_i32 : BitVec 32 := 3#32
  ![v21.toNat, 3]
def k0_off142 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c0_i32_35 : BitVec 32 := 0#32
  let c0_i32_36 : BitVec 32 := 0#32
  ![v21.toNat, 0, 0]
def k0_off143 (v23 : BitVec 32) : Fin 3 → Nat :=
  let c0_i32_37 : BitVec 32 := 0#32
  let c0_i32_38 : BitVec 32 := 0#32
  ![v23.toNat, 0, 0]
def k0_off144 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v52 : Index := Scalar.indexCast v21
  let c0_39 : Index := 0#32
  let c0_40 : Index := 0#32
  ![v52.toNat, 0, 0]
def k0_off145 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v59 : Index := Scalar.indexCast v21
  let c0_43 : Index := 0#32
  let c0_44 : Index := 0#32
  ![v59.toNat, 0, 0]
def k0_off146 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v66 : Index := Scalar.indexCast v21
  let c0_47 : Index := 0#32
  let c0_48 : Index := 0#32
  ![v66.toNat, 0, 0]
def k0_off147 (v5 : BitVec 32) (k0_t9 : Fin (k0_t9_loop v5).trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v82 : Index := Scalar.indexCast v21
  let c0_52 : Index := 0#32
  let c0_53 : Index := 0#32
  ![v82.toNat, 0, 0]
def k0_off148 (v23 : BitVec 32) : Fin 4 → Nat :=
  let v98 : Index := Scalar.indexCast v23
  let c1 : Index := 1#32
  let c0_59 : Index := 0#32
  let c0_60 : Index := 0#32
  ![v98.toNat, 1, 0, 0]
@[reducible] def k0_t10_loop : Scf.Loop 32 :=
  let c0_i32_63 : BitVec 32 := 0#32
  let c4_i32_64 : BitVec 32 := 4#32
  let v104 : BitVec 32 := Scalar.addi c0_i32_63 c4_i32_64
  let c1_i32_65 : BitVec 32 := 1#32
  ⟨c0_i32_63, v104, c1_i32_65⟩
def k0_off149 (v5 : BitVec 32) (k0_t9 : Fin (k0_t9_loop v5).trips) (k0_t10 : Fin k0_t10_loop.trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c0_i32_63 : BitVec 32 := 0#32
  let c1_i32_65 : BitVec 32 := 1#32
  let arg28 : BitVec 32 := Scf.iv c0_i32_63 c1_i32_65 k0_t10
  ![v21.toNat, arg28.toNat]
def k0_off150 (v5 : BitVec 32) (k0_t9 : Fin (k0_t9_loop v5).trips) (k0_t10 : Fin k0_t10_loop.trips) (c0_i32_75 : BitVec 32) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c0_i32_76 : BitVec 32 := 0#32
  let c0_i32_63 : BitVec 32 := 0#32
  let c1_i32_65 : BitVec 32 := 1#32
  let arg28 : BitVec 32 := Scf.iv c0_i32_63 c1_i32_65 k0_t10
  let c512_i32 : BitVec 32 := 512#32
  let v110 : BitVec 32 := Scalar.muli arg28 c512_i32
  let v111 : BitVec 32 := Scalar.addi c0_i32_75 v110
  ![v21.toNat, 0, v111.toNat]
def k0_off151 (v23 : BitVec 32) (k0_t10 : Fin k0_t10_loop.trips) (c0_i32_75 : BitVec 32) : Fin 3 → Nat :=
  let c0_i32_77 : BitVec 32 := 0#32
  let c0_i32_63 : BitVec 32 := 0#32
  let c1_i32_65 : BitVec 32 := 1#32
  let arg28 : BitVec 32 := Scf.iv c0_i32_63 c1_i32_65 k0_t10
  let c512_i32 : BitVec 32 := 512#32
  let v110 : BitVec 32 := Scalar.muli arg28 c512_i32
  let v111 : BitVec 32 := Scalar.addi c0_i32_75 v110
  ![v23.toNat, 0, v111.toNat]
@[reducible] def k0_t11_loop : Scf.Loop 32 :=
  let c0_i32_81 : BitVec 32 := 0#32
  let c2_i32_82 : BitVec 32 := 2#32
  let v126 : BitVec 32 := Scalar.addi c0_i32_81 c2_i32_82
  let c1_i32_83 : BitVec 32 := 1#32
  ⟨c0_i32_81, v126, c1_i32_83⟩
def k0_mult6 (k0_t10 : Fin k0_t10_loop.trips) (k0_t11 : Fin k0_t11_loop.trips) : BitVec 32 :=
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32 : BitVec 32 := 256#32
  let v129 : BitVec 32 := Scalar.muli v128 c256_i32
  v129
def k0_mult7 (k0_t10 : Fin k0_t10_loop.trips) (k0_t11 : Fin k0_t11_loop.trips) : BitVec 32 :=
  let c2048_i32_87 : BitVec 32 := 2048#32
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32_86 : BitVec 32 := 256#32
  let v131 : BitVec 32 := Scalar.muli v128 c256_i32_86
  let v132 : BitVec 32 := Scalar.addi c2048_i32_87 v131
  v132
@[reducible] def k0_t12_loop : Scf.Loop 32 :=
  let c0_i32_89 : BitVec 32 := 0#32
  let c12_i32 : BitVec 32 := 12#32
  let v135 : BitVec 32 := Scalar.addi c0_i32_89 c12_i32
  let c1_i32_90 : BitVec 32 := 1#32
  ⟨c0_i32_89, v135, c1_i32_90⟩
def k0_mult8 (k0_t12 : Fin k0_t12_loop.trips) : BitVec 32 :=
  let c0_i32_89 : BitVec 32 := 0#32
  let c1_i32_90 : BitVec 32 := 1#32
  let arg30 : BitVec 32 := Scf.iv c0_i32_89 c1_i32_90 k0_t12
  let c256_i32_97 : BitVec 32 := 256#32
  let v153 : BitVec 32 := Scalar.muli arg30 c256_i32_97
  v153
def k0_off152 (k0_t12 : Fin k0_t12_loop.trips) : Fin 2 → Nat :=
  let c0_98 : Index := 0#32
  let c0_i32_89 : BitVec 32 := 0#32
  let c1_i32_90 : BitVec 32 := 1#32
  let arg30 : BitVec 32 := Scf.iv c0_i32_89 c1_i32_90 k0_t12
  let c256_i32_97 : BitVec 32 := 256#32
  let v153 : BitVec 32 := Scalar.muli arg30 c256_i32_97
  let v154 : BitVec 32 := v153
  let v155 : Index := Scalar.indexCast v154
  ![0, v155.toNat]
def k0_off153 (v5 : BitVec 32) (k0_t9 : Fin (k0_t9_loop v5).trips) (k0_t10 : Fin k0_t10_loop.trips) (k0_t11 : Fin k0_t11_loop.trips) (k0_t12 : Fin k0_t12_loop.trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v162 : Index := Scalar.indexCast v21
  let c2_i32_99 : BitVec 32 := 2#32
  let c0_i32_89 : BitVec 32 := 0#32
  let c1_i32_90 : BitVec 32 := 1#32
  let arg30 : BitVec 32 := Scf.iv c0_i32_89 c1_i32_90 k0_t12
  let v158 : BitVec 32 := Scalar.muli c2_i32_99 arg30
  let c64_i32 : BitVec 32 := 64#32
  let v161 : BitVec 32 := Scalar.muli v158 c64_i32
  let v163 : Index := Scalar.indexCast v161
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32 : BitVec 32 := 256#32
  let v129 : BitVec 32 := Scalar.muli v128 c256_i32
  let v130 : BitVec 32 := v129
  let v164 : Index := Scalar.indexCast v130
  ![v162.toNat, v163.toNat, v164.toNat]
def k0_off154 (k0_t10 : Fin k0_t10_loop.trips) (k0_t11 : Fin k0_t11_loop.trips) (k0_t12 : Fin k0_t12_loop.trips) : Fin 2 → Nat :=
  let c2_i32_99 : BitVec 32 := 2#32
  let c0_i32_89 : BitVec 32 := 0#32
  let c1_i32_90 : BitVec 32 := 1#32
  let arg30 : BitVec 32 := Scf.iv c0_i32_89 c1_i32_90 k0_t12
  let v158 : BitVec 32 := Scalar.muli c2_i32_99 arg30
  let v167 : Index := Scalar.indexCast v158
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32 : BitVec 32 := 256#32
  let v129 : BitVec 32 := Scalar.muli v128 c256_i32
  let v130 : BitVec 32 := v129
  let v168 : Index := Scalar.indexCast v130
  ![v167.toNat, v168.toNat]
def k0_off155 (v5 : BitVec 32) (k0_t9 : Fin (k0_t9_loop v5).trips) (k0_t10 : Fin k0_t10_loop.trips) (k0_t11 : Fin k0_t11_loop.trips) (k0_t12 : Fin k0_t12_loop.trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v198 : Index := Scalar.indexCast v21
  let c2_i32_100 : BitVec 32 := 2#32
  let c0_i32_89 : BitVec 32 := 0#32
  let c1_i32_90 : BitVec 32 := 1#32
  let arg30 : BitVec 32 := Scf.iv c0_i32_89 c1_i32_90 k0_t12
  let v159 : BitVec 32 := Scalar.muli c2_i32_100 arg30
  let c1_i32_101 : BitVec 32 := 1#32
  let v160 : BitVec 32 := Scalar.addi v159 c1_i32_101
  let c64_i32_104 : BitVec 32 := 64#32
  let v197 : BitVec 32 := Scalar.muli v160 c64_i32_104
  let v199 : Index := Scalar.indexCast v197
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32 : BitVec 32 := 256#32
  let v129 : BitVec 32 := Scalar.muli v128 c256_i32
  let v130 : BitVec 32 := v129
  let v200 : Index := Scalar.indexCast v130
  ![v198.toNat, v199.toNat, v200.toNat]
def k0_off156 (k0_t10 : Fin k0_t10_loop.trips) (k0_t11 : Fin k0_t11_loop.trips) (k0_t12 : Fin k0_t12_loop.trips) : Fin 2 → Nat :=
  let c2_i32_100 : BitVec 32 := 2#32
  let c0_i32_89 : BitVec 32 := 0#32
  let c1_i32_90 : BitVec 32 := 1#32
  let arg30 : BitVec 32 := Scf.iv c0_i32_89 c1_i32_90 k0_t12
  let v159 : BitVec 32 := Scalar.muli c2_i32_100 arg30
  let c1_i32_101 : BitVec 32 := 1#32
  let v160 : BitVec 32 := Scalar.addi v159 c1_i32_101
  let v203 : Index := Scalar.indexCast v160
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32 : BitVec 32 := 256#32
  let v129 : BitVec 32 := Scalar.muli v128 c256_i32
  let v130 : BitVec 32 := v129
  let v204 : Index := Scalar.indexCast v130
  ![v203.toNat, v204.toNat]
def k0_off157 (v5 : BitVec 32) (k0_t9 : Fin (k0_t9_loop v5).trips) (k0_t10 : Fin k0_t10_loop.trips) (k0_t11 : Fin k0_t11_loop.trips) (k0_t12 : Fin k0_t12_loop.trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v240 : Index := Scalar.indexCast v21
  let c2_i32_108 : BitVec 32 := 2#32
  let c0_i32_89 : BitVec 32 := 0#32
  let c1_i32_90 : BitVec 32 := 1#32
  let arg30 : BitVec 32 := Scf.iv c0_i32_89 c1_i32_90 k0_t12
  let v236 : BitVec 32 := Scalar.muli c2_i32_108 arg30
  let c64_i32_111 : BitVec 32 := 64#32
  let v239 : BitVec 32 := Scalar.muli v236 c64_i32_111
  let v241 : Index := Scalar.indexCast v239
  let c2048_i32_87 : BitVec 32 := 2048#32
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32_86 : BitVec 32 := 256#32
  let v131 : BitVec 32 := Scalar.muli v128 c256_i32_86
  let v132 : BitVec 32 := Scalar.addi c2048_i32_87 v131
  let v133 : BitVec 32 := v132
  let v242 : Index := Scalar.indexCast v133
  ![v240.toNat, v241.toNat, v242.toNat]
def k0_off158 (k0_t10 : Fin k0_t10_loop.trips) (k0_t11 : Fin k0_t11_loop.trips) (k0_t12 : Fin k0_t12_loop.trips) : Fin 2 → Nat :=
  let c2_i32_108 : BitVec 32 := 2#32
  let c0_i32_89 : BitVec 32 := 0#32
  let c1_i32_90 : BitVec 32 := 1#32
  let arg30 : BitVec 32 := Scf.iv c0_i32_89 c1_i32_90 k0_t12
  let v236 : BitVec 32 := Scalar.muli c2_i32_108 arg30
  let v245 : Index := Scalar.indexCast v236
  let c2048_i32_87 : BitVec 32 := 2048#32
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32_86 : BitVec 32 := 256#32
  let v131 : BitVec 32 := Scalar.muli v128 c256_i32_86
  let v132 : BitVec 32 := Scalar.addi c2048_i32_87 v131
  let v133 : BitVec 32 := v132
  let v246 : Index := Scalar.indexCast v133
  ![v245.toNat, v246.toNat]
def k0_off159 (v5 : BitVec 32) (k0_t9 : Fin (k0_t9_loop v5).trips) (k0_t10 : Fin k0_t10_loop.trips) (k0_t11 : Fin k0_t11_loop.trips) (k0_t12 : Fin k0_t12_loop.trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v276 : Index := Scalar.indexCast v21
  let c2_i32_109 : BitVec 32 := 2#32
  let c0_i32_89 : BitVec 32 := 0#32
  let c1_i32_90 : BitVec 32 := 1#32
  let arg30 : BitVec 32 := Scf.iv c0_i32_89 c1_i32_90 k0_t12
  let v237 : BitVec 32 := Scalar.muli c2_i32_109 arg30
  let c1_i32_110 : BitVec 32 := 1#32
  let v238 : BitVec 32 := Scalar.addi v237 c1_i32_110
  let c64_i32_114 : BitVec 32 := 64#32
  let v275 : BitVec 32 := Scalar.muli v238 c64_i32_114
  let v277 : Index := Scalar.indexCast v275
  let c2048_i32_87 : BitVec 32 := 2048#32
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32_86 : BitVec 32 := 256#32
  let v131 : BitVec 32 := Scalar.muli v128 c256_i32_86
  let v132 : BitVec 32 := Scalar.addi c2048_i32_87 v131
  let v133 : BitVec 32 := v132
  let v278 : Index := Scalar.indexCast v133
  ![v276.toNat, v277.toNat, v278.toNat]
def k0_off160 (k0_t10 : Fin k0_t10_loop.trips) (k0_t11 : Fin k0_t11_loop.trips) (k0_t12 : Fin k0_t12_loop.trips) : Fin 2 → Nat :=
  let c2_i32_109 : BitVec 32 := 2#32
  let c0_i32_89 : BitVec 32 := 0#32
  let c1_i32_90 : BitVec 32 := 1#32
  let arg30 : BitVec 32 := Scf.iv c0_i32_89 c1_i32_90 k0_t12
  let v237 : BitVec 32 := Scalar.muli c2_i32_109 arg30
  let c1_i32_110 : BitVec 32 := 1#32
  let v238 : BitVec 32 := Scalar.addi v237 c1_i32_110
  let v281 : Index := Scalar.indexCast v238
  let c2048_i32_87 : BitVec 32 := 2048#32
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32_86 : BitVec 32 := 256#32
  let v131 : BitVec 32 := Scalar.muli v128 c256_i32_86
  let v132 : BitVec 32 := Scalar.addi c2048_i32_87 v131
  let v133 : BitVec 32 := v132
  let v282 : Index := Scalar.indexCast v133
  ![v281.toNat, v282.toNat]
def k0_off161 (k0_t10 : Fin k0_t10_loop.trips) (k0_t11 : Fin k0_t11_loop.trips) : Fin 2 → Nat :=
  let c0_96 : Index := 0#32
  let c0_i32_63 : BitVec 32 := 0#32
  let c1_i32_65 : BitVec 32 := 1#32
  let arg28 : BitVec 32 := Scf.iv c0_i32_63 c1_i32_65 k0_t10
  let c2_i32_85 : BitVec 32 := 2#32
  let v127 : BitVec 32 := Scalar.muli arg28 c2_i32_85
  let c0_i32_81 : BitVec 32 := 0#32
  let c1_i32_83 : BitVec 32 := 1#32
  let arg29 : BitVec 32 := Scf.iv c0_i32_81 c1_i32_83 k0_t11
  let v128 : BitVec 32 := Scalar.addi v127 arg29
  let c256_i32 : BitVec 32 := 256#32
  let v129 : BitVec 32 := Scalar.muli v128 c256_i32
  let v130 : BitVec 32 := v129
  let v149 : Index := Scalar.indexCast v130
  ![0, v149.toNat]
def k0_off162 (v23 : BitVec 32) : Fin 4 → Nat :=
  let v105 : Index := Scalar.indexCast v23
  let c0_67 : Index := 0#32
  let c0_68 : Index := 0#32
  let c0_69 : Index := 0#32
  ![v105.toNat, 0, 0, 0]
@[reducible] def k0_t13_loop : Scf.Loop 32 :=
  let c0_i32_71 : BitVec 32 := 0#32
  let c2_i32_72 : BitVec 32 := 2#32
  let v109 : BitVec 32 := Scalar.addi c0_i32_71 c2_i32_72
  let c1_i32_73 : BitVec 32 := 1#32
  ⟨c0_i32_71, v109, c1_i32_73⟩
def k0_off163 (v5 : BitVec 32) (k0_t9 : Fin (k0_t9_loop v5).trips) (k0_t13 : Fin k0_t13_loop.trips) : Fin 2 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c0_i32_71 : BitVec 32 := 0#32
  let c1_i32_73 : BitVec 32 := 1#32
  let arg28 : BitVec 32 := Scf.iv c0_i32_71 c1_i32_73 k0_t13
  ![v21.toNat, arg28.toNat]
def k0_off164 (v5 : BitVec 32) (k0_t9 : Fin (k0_t9_loop v5).trips) (k0_t13 : Fin k0_t13_loop.trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let c0_i32_75 : BitVec 32 := 0#32
  let c0_i32_71 : BitVec 32 := 0#32
  let c1_i32_73 : BitVec 32 := 1#32
  let arg28 : BitVec 32 := Scf.iv c0_i32_71 c1_i32_73 k0_t13
  let c1536_i32 : BitVec 32 := 1536#32
  let v110 : BitVec 32 := Scalar.muli arg28 c1536_i32
  ![v21.toNat, 0, v110.toNat]
def k0_off165 (v23 : BitVec 32) (k0_t13 : Fin k0_t13_loop.trips) : Fin 3 → Nat :=
  let c0_i32_76 : BitVec 32 := 0#32
  let c0_i32_71 : BitVec 32 := 0#32
  let c1_i32_73 : BitVec 32 := 1#32
  let arg28 : BitVec 32 := Scf.iv c0_i32_71 c1_i32_73 k0_t13
  let c1536_i32 : BitVec 32 := 1536#32
  let v110 : BitVec 32 := Scalar.muli arg28 c1536_i32
  ![v23.toNat, 0, v110.toNat]

def k0_chk7 (v23 : BitVec 32) : Prop :=
  (∀ a, (k0_off134 v23) a + S1x24x4096.size a ≤ S16x24x4096.size a) ∧
  (∀ (hinb : ∀ a, (k0_off134 v23) a + S1x24x4096.size a ≤ S16x24x4096.size a), (Rect.unit (s := S16x24x4096) (k0_off134 v23) S1x24x4096.size hinb).WholeWords (EltTy.packing .bf16)) ∧
  (∀ a, (k0_off137 v23) a + S1x24x2048.size a ≤ S16x24x2048.size a) ∧
  (∀ (hinb : ∀ a, (k0_off137 v23) a + S1x24x2048.size a ≤ S16x24x2048.size a), (Rect.unit (s := S16x24x2048) (k0_off137 v23) S1x24x2048.size hinb).WholeWords (EltTy.packing .i8)) ∧
  (∀ a, (k0_off140 v23) a + S1x16x3072.size a ≤ S16x16x3072.size a) ∧
  (∀ (hinb : ∀ a, (k0_off140 v23) a + S1x16x3072.size a ≤ S16x16x3072.size a), (Rect.unit (s := S16x16x3072) (k0_off140 v23) S1x16x3072.size hinb).WholeWords (EltTy.packing .bf16)) ∧
  (∀ a, (k0_off143 v23) a + S1x16x1536.size a ≤ S16x16x1536.size a) ∧
  (∀ (hinb : ∀ a, (k0_off143 v23) a + S1x16x1536.size a ≤ S16x16x1536.size a), (Rect.unit (s := S16x16x1536) (k0_off143 v23) S1x16x1536.size hinb).WholeWords (EltTy.packing .i8)) ∧
  (∀ a, (k0_off148 v23) a + S1x1x96x128.size a ≤ S16x2x96x128.size a) ∧
  (∀ k0_t10 : Fin k0_t10_loop.trips, ∀ (r : Fin 2), ∀ a, (k0_off151 v23 k0_t10 (BitVec.ofNat 32 (2048 * r.val))) a + S1x1536x512.size a ≤ S16x1536x4096.size a) ∧
  (∀ k0_t10 : Fin k0_t10_loop.trips, ∀ (r : Fin 2), ∀ (hinb : ∀ a, (k0_off151 v23 k0_t10 (BitVec.ofNat 32 (2048 * r.val))) a + S1x1536x512.size a ≤ S16x1536x4096.size a), (Rect.unit (s := S16x1536x4096) (k0_off151 v23 k0_t10 (BitVec.ofNat 32 (2048 * r.val))) S1x1536x512.size hinb).WholeWords (EltTy.packing .i8)) ∧
  (∀ a, (k0_off162 v23) a + S1x1x96x128.size a ≤ S16x2x96x128.size a) ∧
  (∀ k0_t13 : Fin k0_t13_loop.trips, ∀ a, (k0_off165 v23 k0_t13) a + S1x1024x1536.size a ≤ S16x1024x3072.size a) ∧
  (∀ k0_t13 : Fin k0_t13_loop.trips, ∀ (hinb : ∀ a, (k0_off165 v23 k0_t13) a + S1x1024x1536.size a ≤ S16x1024x3072.size a), (Rect.unit (s := S16x1024x3072) (k0_off165 v23 k0_t13) S1x1024x1536.size hinb).WholeWords (EltTy.packing .i8))
theorem k0_off134_inb : ∀ (v23 : BitVec 32) (k0_hw7 : k0_chk7 v23), ∀ a, (k0_off134 v23) a + S1x24x4096.size a ≤ S16x24x4096.size a := fun v23 k0_hw7 => k0_hw7.1
theorem k0_off134_wordsbf16 : ∀ (v23 : BitVec 32) (k0_hw7 : k0_chk7 v23), (Rect.unit (s := S16x24x4096) (k0_off134 v23) S1x24x4096.size (k0_off134_inb v23 k0_hw7)).WholeWords (EltTy.packing .bf16) := fun v23 k0_hw7 => k0_hw7.2.1 (k0_off134_inb v23 k0_hw7)
theorem k0_off137_inb : ∀ (v23 : BitVec 32) (k0_hw7 : k0_chk7 v23), ∀ a, (k0_off137 v23) a + S1x24x2048.size a ≤ S16x24x2048.size a := fun v23 k0_hw7 => k0_hw7.2.2.1
theorem k0_off137_wordsi8 : ∀ (v23 : BitVec 32) (k0_hw7 : k0_chk7 v23), (Rect.unit (s := S16x24x2048) (k0_off137 v23) S1x24x2048.size (k0_off137_inb v23 k0_hw7)).WholeWords (EltTy.packing .i8) := fun v23 k0_hw7 => k0_hw7.2.2.2.1 (k0_off137_inb v23 k0_hw7)
theorem k0_off140_inb : ∀ (v23 : BitVec 32) (k0_hw7 : k0_chk7 v23), ∀ a, (k0_off140 v23) a + S1x16x3072.size a ≤ S16x16x3072.size a := fun v23 k0_hw7 => k0_hw7.2.2.2.2.1
theorem k0_off140_wordsbf16 : ∀ (v23 : BitVec 32) (k0_hw7 : k0_chk7 v23), (Rect.unit (s := S16x16x3072) (k0_off140 v23) S1x16x3072.size (k0_off140_inb v23 k0_hw7)).WholeWords (EltTy.packing .bf16) := fun v23 k0_hw7 => k0_hw7.2.2.2.2.2.1 (k0_off140_inb v23 k0_hw7)
theorem k0_off143_inb : ∀ (v23 : BitVec 32) (k0_hw7 : k0_chk7 v23), ∀ a, (k0_off143 v23) a + S1x16x1536.size a ≤ S16x16x1536.size a := fun v23 k0_hw7 => k0_hw7.2.2.2.2.2.2.1
theorem k0_off143_wordsi8 : ∀ (v23 : BitVec 32) (k0_hw7 : k0_chk7 v23), (Rect.unit (s := S16x16x1536) (k0_off143 v23) S1x16x1536.size (k0_off143_inb v23 k0_hw7)).WholeWords (EltTy.packing .i8) := fun v23 k0_hw7 => k0_hw7.2.2.2.2.2.2.2.1 (k0_off143_inb v23 k0_hw7)
theorem k0_off148_inb : ∀ (v23 : BitVec 32) (k0_hw7 : k0_chk7 v23), ∀ a, (k0_off148 v23) a + S1x1x96x128.size a ≤ S16x2x96x128.size a := fun v23 k0_hw7 => k0_hw7.2.2.2.2.2.2.2.2.1
theorem k0_off151_inb : ∀ (v23 : BitVec 32) (k0_hw7 : k0_chk7 v23) (k0_t10 : Fin k0_t10_loop.trips), ∀ (r : Fin 2), ∀ a, (k0_off151 v23 k0_t10 (BitVec.ofNat 32 (2048 * r.val))) a + S1x1536x512.size a ≤ S16x1536x4096.size a := fun v23 k0_hw7 k0_t10 r => k0_hw7.2.2.2.2.2.2.2.2.2.1 k0_t10 r
theorem k0_off151_wordsi8 : ∀ (v23 : BitVec 32) (k0_hw7 : k0_chk7 v23) (k0_t10 : Fin k0_t10_loop.trips), ∀ (r : Fin 2), (Rect.unit (s := S16x1536x4096) (k0_off151 v23 k0_t10 (BitVec.ofNat 32 (2048 * r.val))) S1x1536x512.size (k0_off151_inb v23 k0_hw7 k0_t10 r)).WholeWords (EltTy.packing .i8) := fun v23 k0_hw7 k0_t10 r => k0_hw7.2.2.2.2.2.2.2.2.2.2.1 k0_t10 r (k0_off151_inb v23 k0_hw7 k0_t10 r)
theorem k0_off162_inb : ∀ (v23 : BitVec 32) (k0_hw7 : k0_chk7 v23), ∀ a, (k0_off162 v23) a + S1x1x96x128.size a ≤ S16x2x96x128.size a := fun v23 k0_hw7 => k0_hw7.2.2.2.2.2.2.2.2.2.2.2.1
theorem k0_off165_inb : ∀ (v23 : BitVec 32) (k0_hw7 : k0_chk7 v23) (k0_t13 : Fin k0_t13_loop.trips), ∀ a, (k0_off165 v23 k0_t13) a + S1x1024x1536.size a ≤ S16x1024x3072.size a := fun v23 k0_hw7 k0_t13 => k0_hw7.2.2.2.2.2.2.2.2.2.2.2.2.1 k0_t13
theorem k0_off165_wordsi8 : ∀ (v23 : BitVec 32) (k0_hw7 : k0_chk7 v23) (k0_t13 : Fin k0_t13_loop.trips), (Rect.unit (s := S16x1024x3072) (k0_off165 v23 k0_t13) S1x1024x1536.size (k0_off165_inb v23 k0_hw7 k0_t13)).WholeWords (EltTy.packing .i8) := fun v23 k0_hw7 k0_t13 => k0_hw7.2.2.2.2.2.2.2.2.2.2.2.2.2 k0_t13 (k0_off165_inb v23 k0_hw7 k0_t13)

@[reducible] def k0_t14_loop : Scf.Loop 32 :=
  let c0_i32_77 : BitVec 32 := 0#32
  let c6_i32 : BitVec 32 := 6#32
  let v117 : BitVec 32 := Scalar.addi c0_i32_77 c6_i32
  let c1_i32_78 : BitVec 32 := 1#32
  ⟨c0_i32_77, v117, c1_i32_78⟩
def k0_mult9 (k0_t13 : Fin k0_t13_loop.trips) (k0_t14 : Fin k0_t14_loop.trips) : BitVec 32 :=
  let c0_i32_71 : BitVec 32 := 0#32
  let c1_i32_73 : BitVec 32 := 1#32
  let arg28 : BitVec 32 := Scf.iv c0_i32_71 c1_i32_73 k0_t13
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t14
  let v119 : BitVec 32 := Scalar.addi v118 arg29
  let c256_i32 : BitVec 32 := 256#32
  let v120 : BitVec 32 := Scalar.muli v119 c256_i32
  v120
@[reducible] def k0_t15_loop : Scf.Loop 32 :=
  let c0_i32_82 : BitVec 32 := 0#32
  let c8_i32 : BitVec 32 := 8#32
  let v123 : BitVec 32 := Scalar.addi c0_i32_82 c8_i32
  let c1_i32_83 : BitVec 32 := 1#32
  ⟨c0_i32_82, v123, c1_i32_83⟩
def k0_mult10 (k0_t15 : Fin k0_t15_loop.trips) : BitVec 32 :=
  let c0_i32_82 : BitVec 32 := 0#32
  let c1_i32_83 : BitVec 32 := 1#32
  let arg30 : BitVec 32 := Scf.iv c0_i32_82 c1_i32_83 k0_t15
  let c256_i32_87 : BitVec 32 := 256#32
  let v133 : BitVec 32 := Scalar.muli arg30 c256_i32_87
  v133
def k0_off166 (k0_t15 : Fin k0_t15_loop.trips) : Fin 2 → Nat :=
  let c0_88 : Index := 0#32
  let c0_i32_82 : BitVec 32 := 0#32
  let c1_i32_83 : BitVec 32 := 1#32
  let arg30 : BitVec 32 := Scf.iv c0_i32_82 c1_i32_83 k0_t15
  let c256_i32_87 : BitVec 32 := 256#32
  let v133 : BitVec 32 := Scalar.muli arg30 c256_i32_87
  let v134 : BitVec 32 := v133
  let v135 : Index := Scalar.indexCast v134
  ![0, v135.toNat]
def k0_off167 (v5 : BitVec 32) (k0_t9 : Fin (k0_t9_loop v5).trips) (k0_t13 : Fin k0_t13_loop.trips) (k0_t14 : Fin k0_t14_loop.trips) (k0_t15 : Fin k0_t15_loop.trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v141 : Index := Scalar.indexCast v21
  let c2_i32_89 : BitVec 32 := 2#32
  let c0_i32_82 : BitVec 32 := 0#32
  let c1_i32_83 : BitVec 32 := 1#32
  let arg30 : BitVec 32 := Scf.iv c0_i32_82 c1_i32_83 k0_t15
  let v137 : BitVec 32 := Scalar.muli c2_i32_89 arg30
  let c64_i32 : BitVec 32 := 64#32
  let v140 : BitVec 32 := Scalar.muli v137 c64_i32
  let v142 : Index := Scalar.indexCast v140
  let c0_i32_71 : BitVec 32 := 0#32
  let c1_i32_73 : BitVec 32 := 1#32
  let arg28 : BitVec 32 := Scf.iv c0_i32_71 c1_i32_73 k0_t13
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t14
  let v119 : BitVec 32 := Scalar.addi v118 arg29
  let c256_i32 : BitVec 32 := 256#32
  let v120 : BitVec 32 := Scalar.muli v119 c256_i32
  let v121 : BitVec 32 := v120
  let v143 : Index := Scalar.indexCast v121
  ![v141.toNat, v142.toNat, v143.toNat]
def k0_off168 (k0_t13 : Fin k0_t13_loop.trips) (k0_t14 : Fin k0_t14_loop.trips) (k0_t15 : Fin k0_t15_loop.trips) : Fin 2 → Nat :=
  let c2_i32_89 : BitVec 32 := 2#32
  let c0_i32_82 : BitVec 32 := 0#32
  let c1_i32_83 : BitVec 32 := 1#32
  let arg30 : BitVec 32 := Scf.iv c0_i32_82 c1_i32_83 k0_t15
  let v137 : BitVec 32 := Scalar.muli c2_i32_89 arg30
  let v146 : Index := Scalar.indexCast v137
  let c0_i32_71 : BitVec 32 := 0#32
  let c1_i32_73 : BitVec 32 := 1#32
  let arg28 : BitVec 32 := Scf.iv c0_i32_71 c1_i32_73 k0_t13
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t14
  let v119 : BitVec 32 := Scalar.addi v118 arg29
  let c256_i32 : BitVec 32 := 256#32
  let v120 : BitVec 32 := Scalar.muli v119 c256_i32
  let v121 : BitVec 32 := v120
  let v147 : Index := Scalar.indexCast v121
  ![v146.toNat, v147.toNat]
def k0_off169 (v5 : BitVec 32) (k0_t9 : Fin (k0_t9_loop v5).trips) (k0_t13 : Fin k0_t13_loop.trips) (k0_t14 : Fin k0_t14_loop.trips) (k0_t15 : Fin k0_t15_loop.trips) : Fin 3 → Nat :=
  let c0_i32_10 : BitVec 32 := 0#32
  let v13 : BitVec 32 := Scalar.subi v5 c0_i32_10
  let c1_i32_11 : BitVec 32 := 1#32
  let v15 : BitVec 32 := Scalar.divsi v13 c1_i32_11
  let v16 : BitVec 32 := Scalar.muli v15 c1_i32_11
  let v17 : BitVec 32 := Scalar.addi c0_i32_10 v16
  let c1_i32_13 : BitVec 32 := 1#32
  let arg27 : BitVec 32 := Scf.iv v17 c1_i32_13 k0_t9
  let c2_i32 : BitVec 32 := 2#32
  let v21 : BitVec 32 := Scalar.remsi arg27 c2_i32
  let v177 : Index := Scalar.indexCast v21
  let c2_i32_90 : BitVec 32 := 2#32
  let c0_i32_82 : BitVec 32 := 0#32
  let c1_i32_83 : BitVec 32 := 1#32
  let arg30 : BitVec 32 := Scf.iv c0_i32_82 c1_i32_83 k0_t15
  let v138 : BitVec 32 := Scalar.muli c2_i32_90 arg30
  let c1_i32_91 : BitVec 32 := 1#32
  let v139 : BitVec 32 := Scalar.addi v138 c1_i32_91
  let c64_i32_94 : BitVec 32 := 64#32
  let v176 : BitVec 32 := Scalar.muli v139 c64_i32_94
  let v178 : Index := Scalar.indexCast v176
  let c0_i32_71 : BitVec 32 := 0#32
  let c1_i32_73 : BitVec 32 := 1#32
  let arg28 : BitVec 32 := Scf.iv c0_i32_71 c1_i32_73 k0_t13
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t14
  let v119 : BitVec 32 := Scalar.addi v118 arg29
  let c256_i32 : BitVec 32 := 256#32
  let v120 : BitVec 32 := Scalar.muli v119 c256_i32
  let v121 : BitVec 32 := v120
  let v179 : Index := Scalar.indexCast v121
  ![v177.toNat, v178.toNat, v179.toNat]

def k0_chk3_0 (v5 : BitVec 32) : Prop :=
  ((k0_t2_loop v5).OK) ∧
  (∀ k0_t2 : Fin (k0_t2_loop v5).trips, ∀ a, (k0_off18 v5 k0_t2) a + S1.size a ≤ S17.size a) ∧
  (∀ k0_t2 : Fin (k0_t2_loop v5).trips, ∀ (k0_h2 : k0_cond2 v5 k0_t2 = 1#1), ∀ a, (k0_off19 v5 k0_t2) a + S1.size a ≤ S17.size a) ∧
  (∀ k0_t2 : Fin (k0_t2_loop v5).trips, ∀ (k0_h2 : k0_cond2 v5 k0_t2 = 1#1), ∀ a, (k0_off20 v5 k0_t2) a + S1x1.size a ≤ S2x4.size a) ∧
  (∀ k0_t2 : Fin (k0_t2_loop v5).trips, ∀ (k0_h2 : k0_cond2 v5 k0_t2 = 1#1), ∀ a, (k0_off21 v5 k0_t2) a + S1x24x4096.size a ≤ S2x24x4096.size a) ∧
  (∀ k0_t2 : Fin (k0_t2_loop v5).trips, ∀ (k0_h2 : k0_cond2 v5 k0_t2 = 1#1), ∀ (hinb : ∀ a, (k0_off21 v5 k0_t2) a + S1x24x4096.size a ≤ S2x24x4096.size a), (Rect.unit (s := S2x24x4096) (k0_off21 v5 k0_t2) S1x24x4096.size hinb).WholeWords (EltTy.packing .bf16)) ∧
  (∀ k0_t2 : Fin (k0_t2_loop v5).trips, ∀ (k0_h2 : k0_cond2 v5 k0_t2 = 1#1), ∀ a, (k0_off23 v5 k0_t2) a + S1x1.size a ≤ S2x4.size a) ∧
  (∀ k0_t2 : Fin (k0_t2_loop v5).trips, ∀ (k0_h2 : k0_cond2 v5 k0_t2 = 1#1), ∀ a, (k0_off24 v5 k0_t2) a + S1x24x2048.size a ≤ S2x24x2048.size a) ∧
  (∀ k0_t2 : Fin (k0_t2_loop v5).trips, ∀ (k0_h2 : k0_cond2 v5 k0_t2 = 1#1), ∀ (hinb : ∀ a, (k0_off24 v5 k0_t2) a + S1x24x2048.size a ≤ S2x24x2048.size a), (Rect.unit (s := S2x24x2048) (k0_off24 v5 k0_t2) S1x24x2048.size hinb).WholeWords (EltTy.packing .i8)) ∧
  (∀ k0_t2 : Fin (k0_t2_loop v5).trips, ∀ (k0_h2 : k0_cond2 v5 k0_t2 = 1#1), ∀ a, (k0_off26 v5 k0_t2) a + S1x1.size a ≤ S2x4.size a) ∧
  (∀ k0_t2 : Fin (k0_t2_loop v5).trips, ∀ (k0_h2 : k0_cond2 v5 k0_t2 = 1#1), ∀ a, (k0_off27 v5 k0_t2) a + S1x16x3072.size a ≤ S2x16x3072.size a) ∧
  (∀ k0_t2 : Fin (k0_t2_loop v5).trips, ∀ (k0_h2 : k0_cond2 v5 k0_t2 = 1#1), ∀ (hinb : ∀ a, (k0_off27 v5 k0_t2) a + S1x16x3072.size a ≤ S2x16x3072.size a), (Rect.unit (s := S2x16x3072) (k0_off27 v5 k0_t2) S1x16x3072.size hinb).WholeWords (EltTy.packing .bf16)) ∧
  (∀ k0_t2 : Fin (k0_t2_loop v5).trips, ∀ (k0_h2 : k0_cond2 v5 k0_t2 = 1#1), ∀ a, (k0_off29 v5 k0_t2) a + S1x1.size a ≤ S2x4.size a) ∧
  (∀ k0_t2 : Fin (k0_t2_loop v5).trips, ∀ (k0_h2 : k0_cond2 v5 k0_t2 = 1#1), ∀ a, (k0_off30 v5 k0_t2) a + S1x16x1536.size a ≤ S2x16x1536.size a) ∧
  (∀ k0_t2 : Fin (k0_t2_loop v5).trips, ∀ (k0_h2 : k0_cond2 v5 k0_t2 = 1#1), ∀ (hinb : ∀ a, (k0_off30 v5 k0_t2) a + S1x16x1536.size a ≤ S2x16x1536.size a), (Rect.unit (s := S2x16x1536) (k0_off30 v5 k0_t2) S1x16x1536.size hinb).WholeWords (EltTy.packing .i8)) ∧
  (∀ k0_t2 : Fin (k0_t2_loop v5).trips, ∀ (k0_h2 : k0_cond2 v5 k0_t2 = 1#1), ∀ a, (k0_off32 v5 k0_t2) a + S1x1.size a ≤ S2x4.size a) ∧
  (∀ k0_t2 : Fin (k0_t2_loop v5).trips, ∀ (k0_h2 : k0_cond2 v5 k0_t2 = 1#1), ∀ a, (k0_off33 v5 k0_t2) a + S1x1536x512.size a ≤ S2x1536x4096.size a) ∧
  (∀ k0_t2 : Fin (k0_t2_loop v5).trips, ∀ (k0_h2 : k0_cond2 v5 k0_t2 = 1#1), ∀ (hinb : ∀ a, (k0_off33 v5 k0_t2) a + S1x1536x512.size a ≤ S2x1536x4096.size a), (Rect.unit (s := S2x1536x4096) (k0_off33 v5 k0_t2) S1x1536x512.size hinb).WholeWords (EltTy.packing .i8)) ∧
  (∀ k0_t2 : Fin (k0_t2_loop v5).trips, ∀ (k0_h2 : k0_cond2 v5 k0_t2 = 1#1), ∀ a, (k0_off35 v5 k0_t2) a + S1x1536x512.size a ≤ S2x1536x4096.size a) ∧
  (∀ k0_t2 : Fin (k0_t2_loop v5).trips, ∀ (k0_h2 : k0_cond2 v5 k0_t2 = 1#1), ∀ (hinb : ∀ a, (k0_off35 v5 k0_t2) a + S1x1536x512.size a ≤ S2x1536x4096.size a), (Rect.unit (s := S2x1536x4096) (k0_off35 v5 k0_t2) S1x1536x512.size hinb).WholeWords (EltTy.packing .i8)) ∧
  (∀ k0_t2 : Fin (k0_t2_loop v5).trips, ∀ (k0_h2 : k0_cond2 v5 k0_t2 = 1#1), ∀ a, (k0_off37 v5 k0_t2) a + S1x1536x512.size a ≤ S2x1536x4096.size a) ∧
  (∀ k0_t2 : Fin (k0_t2_loop v5).trips, ∀ (k0_h2 : k0_cond2 v5 k0_t2 = 1#1), ∀ (hinb : ∀ a, (k0_off37 v5 k0_t2) a + S1x1536x512.size a ≤ S2x1536x4096.size a), (Rect.unit (s := S2x1536x4096) (k0_off37 v5 k0_t2) S1x1536x512.size hinb).WholeWords (EltTy.packing .i8)) ∧
  (∀ k0_t2 : Fin (k0_t2_loop v5).trips, ∀ (k0_h2 : k0_cond2 v5 k0_t2 = 1#1), ∀ a, (k0_off39 v5 k0_t2) a + S1x1536x512.size a ≤ S2x1536x4096.size a) ∧
  (∀ k0_t2 : Fin (k0_t2_loop v5).trips, ∀ (k0_h2 : k0_cond2 v5 k0_t2 = 1#1), ∀ (hinb : ∀ a, (k0_off39 v5 k0_t2) a + S1x1536x512.size a ≤ S2x1536x4096.size a), (Rect.unit (s := S2x1536x4096) (k0_off39 v5 k0_t2) S1x1536x512.size hinb).WholeWords (EltTy.packing .i8)) ∧
  (∀ k0_t2 : Fin (k0_t2_loop v5).trips, ∀ (k0_h2 : k0_cond2 v5 k0_t2 = 1#1), ∀ a, (k0_off41 v5 k0_t2) a + S1x1536x512.size a ≤ S2x1536x4096.size a) ∧
  (∀ k0_t2 : Fin (k0_t2_loop v5).trips, ∀ (k0_h2 : k0_cond2 v5 k0_t2 = 1#1), ∀ (hinb : ∀ a, (k0_off41 v5 k0_t2) a + S1x1536x512.size a ≤ S2x1536x4096.size a), (Rect.unit (s := S2x1536x4096) (k0_off41 v5 k0_t2) S1x1536x512.size hinb).WholeWords (EltTy.packing .i8)) ∧
  (∀ k0_t2 : Fin (k0_t2_loop v5).trips, ∀ (k0_h2 : k0_cond2 v5 k0_t2 = 1#1), ∀ a, (k0_off43 v5 k0_t2) a + S1x1536x512.size a ≤ S2x1536x4096.size a) ∧
  (∀ k0_t2 : Fin (k0_t2_loop v5).trips, ∀ (k0_h2 : k0_cond2 v5 k0_t2 = 1#1), ∀ (hinb : ∀ a, (k0_off43 v5 k0_t2) a + S1x1536x512.size a ≤ S2x1536x4096.size a), (Rect.unit (s := S2x1536x4096) (k0_off43 v5 k0_t2) S1x1536x512.size hinb).WholeWords (EltTy.packing .i8)) ∧
  (∀ k0_t2 : Fin (k0_t2_loop v5).trips, ∀ (k0_h2 : k0_cond2 v5 k0_t2 = 1#1), ∀ a, (k0_off45 v5 k0_t2) a + S1x1536x512.size a ≤ S2x1536x4096.size a) ∧
  (∀ k0_t2 : Fin (k0_t2_loop v5).trips, ∀ (k0_h2 : k0_cond2 v5 k0_t2 = 1#1), ∀ (hinb : ∀ a, (k0_off45 v5 k0_t2) a + S1x1536x512.size a ≤ S2x1536x4096.size a), (Rect.unit (s := S2x1536x4096) (k0_off45 v5 k0_t2) S1x1536x512.size hinb).WholeWords (EltTy.packing .i8)) ∧
  (∀ k0_t2 : Fin (k0_t2_loop v5).trips, ∀ (k0_h2 : k0_cond2 v5 k0_t2 = 1#1), ∀ a, (k0_off47 v5 k0_t2) a + S1x1536x512.size a ≤ S2x1536x4096.size a) ∧
  (∀ k0_t2 : Fin (k0_t2_loop v5).trips, ∀ (k0_h2 : k0_cond2 v5 k0_t2 = 1#1), ∀ (hinb : ∀ a, (k0_off47 v5 k0_t2) a + S1x1536x512.size a ≤ S2x1536x4096.size a), (Rect.unit (s := S2x1536x4096) (k0_off47 v5 k0_t2) S1x1536x512.size hinb).WholeWords (EltTy.packing .i8))
def k0_chk3_1 (v5 : BitVec 32) : Prop :=
  (∀ k0_t2 : Fin (k0_t2_loop v5).trips, ∀ (k0_h2 : k0_cond2 v5 k0_t2 = 1#1), ∀ a, (k0_off49 v5 k0_t2) a + S1x1.size a ≤ S2x2.size a) ∧
  (∀ k0_t2 : Fin (k0_t2_loop v5).trips, ∀ (k0_h2 : k0_cond2 v5 k0_t2 = 1#1), ∀ a, (k0_off50 v5 k0_t2) a + S1x1024x1536.size a ≤ S2x1024x3072.size a) ∧
  (∀ k0_t2 : Fin (k0_t2_loop v5).trips, ∀ (k0_h2 : k0_cond2 v5 k0_t2 = 1#1), ∀ (hinb : ∀ a, (k0_off50 v5 k0_t2) a + S1x1024x1536.size a ≤ S2x1024x3072.size a), (Rect.unit (s := S2x1024x3072) (k0_off50 v5 k0_t2) S1x1024x1536.size hinb).WholeWords (EltTy.packing .i8)) ∧
  (∀ k0_t2 : Fin (k0_t2_loop v5).trips, ∀ (k0_h2 : k0_cond2 v5 k0_t2 = 1#1), ∀ a, (k0_off52 v5 k0_t2) a + S1x1.size a ≤ S2x2.size a) ∧
  (∀ k0_t2 : Fin (k0_t2_loop v5).trips, ∀ (k0_h2 : k0_cond2 v5 k0_t2 = 1#1), ∀ a, (k0_off53 v5 k0_t2) a + S1x1024x1536.size a ≤ S2x1024x3072.size a) ∧
  (∀ k0_t2 : Fin (k0_t2_loop v5).trips, ∀ (k0_h2 : k0_cond2 v5 k0_t2 = 1#1), ∀ (hinb : ∀ a, (k0_off53 v5 k0_t2) a + S1x1024x1536.size a ≤ S2x1024x3072.size a), (Rect.unit (s := S2x1024x3072) (k0_off53 v5 k0_t2) S1x1024x1536.size hinb).WholeWords (EltTy.packing .i8)) ∧
  (∀ k0_t2 : Fin (k0_t2_loop v5).trips, ∀ a, (k0_off55 v5 k0_t2) a + S1x1.size a ≤ S2x4.size a) ∧
  (∀ k0_t2 : Fin (k0_t2_loop v5).trips, ∀ a, (k0_off56 v5 k0_t2) a + S1x24x4096.size a ≤ S2x24x4096.size a) ∧
  (∀ k0_t2 : Fin (k0_t2_loop v5).trips, ∀ (hinb : ∀ a, (k0_off56 v5 k0_t2) a + S1x24x4096.size a ≤ S2x24x4096.size a), (Rect.unit (s := S2x24x4096) (k0_off56 v5 k0_t2) S1x24x4096.size hinb).WholeWords (EltTy.packing .bf16)) ∧
  (∀ k0_t2 : Fin (k0_t2_loop v5).trips, ∀ a, (k0_off58 v5 k0_t2) a + S1x1.size a ≤ S2x4.size a) ∧
  (∀ k0_t2 : Fin (k0_t2_loop v5).trips, ∀ a, (k0_off59 v5 k0_t2) a + S1x24x2048.size a ≤ S2x24x2048.size a) ∧
  (∀ k0_t2 : Fin (k0_t2_loop v5).trips, ∀ (hinb : ∀ a, (k0_off59 v5 k0_t2) a + S1x24x2048.size a ≤ S2x24x2048.size a), (Rect.unit (s := S2x24x2048) (k0_off59 v5 k0_t2) S1x24x2048.size hinb).WholeWords (EltTy.packing .i8)) ∧
  (∀ k0_t2 : Fin (k0_t2_loop v5).trips, ∀ a, (k0_off61 v5 k0_t2) a + S1x1.size a ≤ S2x4.size a) ∧
  (∀ k0_t2 : Fin (k0_t2_loop v5).trips, ∀ a, (k0_off62 v5 k0_t2) a + S1x16x3072.size a ≤ S2x16x3072.size a) ∧
  (∀ k0_t2 : Fin (k0_t2_loop v5).trips, ∀ (hinb : ∀ a, (k0_off62 v5 k0_t2) a + S1x16x3072.size a ≤ S2x16x3072.size a), (Rect.unit (s := S2x16x3072) (k0_off62 v5 k0_t2) S1x16x3072.size hinb).WholeWords (EltTy.packing .bf16)) ∧
  (∀ k0_t2 : Fin (k0_t2_loop v5).trips, ∀ a, (k0_off64 v5 k0_t2) a + S1x1.size a ≤ S2x4.size a) ∧
  (∀ k0_t2 : Fin (k0_t2_loop v5).trips, ∀ a, (k0_off65 v5 k0_t2) a + S1x16x1536.size a ≤ S2x16x1536.size a) ∧
  (∀ k0_t2 : Fin (k0_t2_loop v5).trips, ∀ (hinb : ∀ a, (k0_off65 v5 k0_t2) a + S1x16x1536.size a ≤ S2x16x1536.size a), (Rect.unit (s := S2x16x1536) (k0_off65 v5 k0_t2) S1x16x1536.size hinb).WholeWords (EltTy.packing .i8)) ∧
  (∀ k0_t2 : Fin (k0_t2_loop v5).trips, ∀ a, (k0_off67 v5 k0_t2) a + S1x24x4096.size a ≤ S2x24x4096.size a) ∧
  (∀ k0_t2 : Fin (k0_t2_loop v5).trips, ∀ a, (k0_off68 v5 k0_t2) a + S1x16x3072.size a ≤ S2x16x3072.size a) ∧
  (∀ k0_t2 : Fin (k0_t2_loop v5).trips, ∀ a, (k0_off69 v5 k0_t2) a + S1x24x2048.size a ≤ S2x24x2048.size a) ∧
  (∀ k0_t2 : Fin (k0_t2_loop v5).trips, ∀ a, (k0_off70 v5 k0_t2) a + S1x16x1536.size a ≤ S2x16x1536.size a) ∧
  (∀ (k0_t2 : Fin (k0_t2_loop v5).trips) (k0_t3 : Fin k0_t3_loop.trips), ∀ a, (k0_off72 v5 k0_t2 k0_t3) a + S1x1.size a ≤ S2x4.size a) ∧
  (∀ (k0_t2 : Fin (k0_t2_loop v5).trips) (k0_t3 : Fin k0_t3_loop.trips), ∀ (r : Fin 2), ∀ a, (k0_off73 v5 k0_t2 k0_t3 (BitVec.ofNat 32 (2048 * r.val))) a + S1x1536x512.size a ≤ S2x1536x4096.size a) ∧
  (∀ (k0_t2 : Fin (k0_t2_loop v5).trips) (k0_t3 : Fin k0_t3_loop.trips), ∀ (r : Fin 2), ∀ (hinb : ∀ a, (k0_off73 v5 k0_t2 k0_t3 (BitVec.ofNat 32 (2048 * r.val))) a + S1x1536x512.size a ≤ S2x1536x4096.size a), (Rect.unit (s := S2x1536x4096) (k0_off73 v5 k0_t2 k0_t3 (BitVec.ofNat 32 (2048 * r.val))) S1x1536x512.size hinb).WholeWords (EltTy.packing .i8)) ∧
  (∀ (k0_t2 : Fin (k0_t2_loop v5).trips) (k0_t3 : Fin k0_t3_loop.trips) (k0_t4 : Fin k0_t4_loop.trips) (k0_t5 : Fin k0_t5_loop.trips), ∀ a, (k0_off76 v5 k0_t2 k0_t3 k0_t4 k0_t5) a + S1x64x256.size a ≤ S2x1536x4096.size a) ∧
  (∀ (k0_t2 : Fin (k0_t2_loop v5).trips) (k0_t3 : Fin k0_t3_loop.trips) (k0_t4 : Fin k0_t4_loop.trips) (k0_t5 : Fin k0_t5_loop.trips), ∀ a, (k0_off78 v5 k0_t2 k0_t3 k0_t4 k0_t5) a + S1x64x256.size a ≤ S2x1536x4096.size a) ∧
  (∀ (k0_t2 : Fin (k0_t2_loop v5).trips) (k0_t3 : Fin k0_t3_loop.trips) (k0_t4 : Fin k0_t4_loop.trips) (k0_t5 : Fin k0_t5_loop.trips), ∀ a, (k0_off80 v5 k0_t2 k0_t3 k0_t4 k0_t5) a + S1x64x256.size a ≤ S2x1536x4096.size a) ∧
  (∀ (k0_t2 : Fin (k0_t2_loop v5).trips) (k0_t3 : Fin k0_t3_loop.trips) (k0_t4 : Fin k0_t4_loop.trips) (k0_t5 : Fin k0_t5_loop.trips), ∀ a, (k0_off82 v5 k0_t2 k0_t3 k0_t4 k0_t5) a + S1x64x256.size a ≤ S2x1536x4096.size a) ∧
  (∀ (k0_t2 : Fin (k0_t2_loop v5).trips) (k0_t6 : Fin k0_t6_loop.trips), ∀ a, (k0_off86 v5 k0_t2 k0_t6) a + S1x1.size a ≤ S2x2.size a) ∧
  (∀ (k0_t2 : Fin (k0_t2_loop v5).trips) (k0_t6 : Fin k0_t6_loop.trips), ∀ a, (k0_off87 v5 k0_t2 k0_t6) a + S1x1024x1536.size a ≤ S2x1024x3072.size a) ∧
  (∀ (k0_t2 : Fin (k0_t2_loop v5).trips) (k0_t6 : Fin k0_t6_loop.trips), ∀ (hinb : ∀ a, (k0_off87 v5 k0_t2 k0_t6) a + S1x1024x1536.size a ≤ S2x1024x3072.size a), (Rect.unit (s := S2x1024x3072) (k0_off87 v5 k0_t2 k0_t6) S1x1024x1536.size hinb).WholeWords (EltTy.packing .i8))
def k0_chk3_2 (v5 : BitVec 32) : Prop :=
  (∀ (k0_t2 : Fin (k0_t2_loop v5).trips) (k0_t6 : Fin k0_t6_loop.trips) (k0_t7 : Fin k0_t7_loop.trips) (k0_t8 : Fin k0_t8_loop.trips), ∀ a, (k0_off90 v5 k0_t2 k0_t6 k0_t7 k0_t8) a + S1x64x256.size a ≤ S2x1024x3072.size a) ∧
  (∀ (k0_t2 : Fin (k0_t2_loop v5).trips) (k0_t6 : Fin k0_t6_loop.trips) (k0_t7 : Fin k0_t7_loop.trips) (k0_t8 : Fin k0_t8_loop.trips), ∀ a, (k0_off92 v5 k0_t2 k0_t6 k0_t7 k0_t8) a + S1x64x256.size a ≤ S2x1024x3072.size a) ∧
  ((k0_t9_loop v5).OK) ∧
  (∀ k0_t9 : Fin (k0_t9_loop v5).trips, ∀ a, (k0_off95 v5 k0_t9) a + S1.size a ≤ S17.size a) ∧
  (∀ k0_t9 : Fin (k0_t9_loop v5).trips, ∀ (k0_h3 : k0_cond3 v5 k0_t9 = 1#1), ∀ a, (k0_off96 v5 k0_t9) a + S1.size a ≤ S17.size a) ∧
  (∀ k0_t9 : Fin (k0_t9_loop v5).trips, ∀ (k0_h3 : k0_cond3 v5 k0_t9 = 1#1), ∀ a, (k0_off97 v5 k0_t9) a + S1x1.size a ≤ S2x4.size a) ∧
  (∀ k0_t9 : Fin (k0_t9_loop v5).trips, ∀ (k0_h3 : k0_cond3 v5 k0_t9 = 1#1), ∀ a, (k0_off98 v5 k0_t9) a + S1x24x4096.size a ≤ S2x24x4096.size a) ∧
  (∀ k0_t9 : Fin (k0_t9_loop v5).trips, ∀ (k0_h3 : k0_cond3 v5 k0_t9 = 1#1), ∀ (hinb : ∀ a, (k0_off98 v5 k0_t9) a + S1x24x4096.size a ≤ S2x24x4096.size a), (Rect.unit (s := S2x24x4096) (k0_off98 v5 k0_t9) S1x24x4096.size hinb).WholeWords (EltTy.packing .bf16)) ∧
  (∀ k0_t9 : Fin (k0_t9_loop v5).trips, ∀ (k0_h3 : k0_cond3 v5 k0_t9 = 1#1), ∀ a, (k0_off100 v5 k0_t9) a + S1x1.size a ≤ S2x4.size a) ∧
  (∀ k0_t9 : Fin (k0_t9_loop v5).trips, ∀ (k0_h3 : k0_cond3 v5 k0_t9 = 1#1), ∀ a, (k0_off101 v5 k0_t9) a + S1x24x2048.size a ≤ S2x24x2048.size a) ∧
  (∀ k0_t9 : Fin (k0_t9_loop v5).trips, ∀ (k0_h3 : k0_cond3 v5 k0_t9 = 1#1), ∀ (hinb : ∀ a, (k0_off101 v5 k0_t9) a + S1x24x2048.size a ≤ S2x24x2048.size a), (Rect.unit (s := S2x24x2048) (k0_off101 v5 k0_t9) S1x24x2048.size hinb).WholeWords (EltTy.packing .i8)) ∧
  (∀ k0_t9 : Fin (k0_t9_loop v5).trips, ∀ (k0_h3 : k0_cond3 v5 k0_t9 = 1#1), ∀ a, (k0_off103 v5 k0_t9) a + S1x1.size a ≤ S2x4.size a) ∧
  (∀ k0_t9 : Fin (k0_t9_loop v5).trips, ∀ (k0_h3 : k0_cond3 v5 k0_t9 = 1#1), ∀ a, (k0_off104 v5 k0_t9) a + S1x16x3072.size a ≤ S2x16x3072.size a) ∧
  (∀ k0_t9 : Fin (k0_t9_loop v5).trips, ∀ (k0_h3 : k0_cond3 v5 k0_t9 = 1#1), ∀ (hinb : ∀ a, (k0_off104 v5 k0_t9) a + S1x16x3072.size a ≤ S2x16x3072.size a), (Rect.unit (s := S2x16x3072) (k0_off104 v5 k0_t9) S1x16x3072.size hinb).WholeWords (EltTy.packing .bf16)) ∧
  (∀ k0_t9 : Fin (k0_t9_loop v5).trips, ∀ (k0_h3 : k0_cond3 v5 k0_t9 = 1#1), ∀ a, (k0_off106 v5 k0_t9) a + S1x1.size a ≤ S2x4.size a) ∧
  (∀ k0_t9 : Fin (k0_t9_loop v5).trips, ∀ (k0_h3 : k0_cond3 v5 k0_t9 = 1#1), ∀ a, (k0_off107 v5 k0_t9) a + S1x16x1536.size a ≤ S2x16x1536.size a) ∧
  (∀ k0_t9 : Fin (k0_t9_loop v5).trips, ∀ (k0_h3 : k0_cond3 v5 k0_t9 = 1#1), ∀ (hinb : ∀ a, (k0_off107 v5 k0_t9) a + S1x16x1536.size a ≤ S2x16x1536.size a), (Rect.unit (s := S2x16x1536) (k0_off107 v5 k0_t9) S1x16x1536.size hinb).WholeWords (EltTy.packing .i8)) ∧
  (∀ k0_t9 : Fin (k0_t9_loop v5).trips, ∀ (k0_h3 : k0_cond3 v5 k0_t9 = 1#1), ∀ a, (k0_off109 v5 k0_t9) a + S1x1.size a ≤ S2x4.size a) ∧
  (∀ k0_t9 : Fin (k0_t9_loop v5).trips, ∀ (k0_h3 : k0_cond3 v5 k0_t9 = 1#1), ∀ a, (k0_off110 v5 k0_t9) a + S1x1536x512.size a ≤ S2x1536x4096.size a) ∧
  (∀ k0_t9 : Fin (k0_t9_loop v5).trips, ∀ (k0_h3 : k0_cond3 v5 k0_t9 = 1#1), ∀ (hinb : ∀ a, (k0_off110 v5 k0_t9) a + S1x1536x512.size a ≤ S2x1536x4096.size a), (Rect.unit (s := S2x1536x4096) (k0_off110 v5 k0_t9) S1x1536x512.size hinb).WholeWords (EltTy.packing .i8)) ∧
  (∀ k0_t9 : Fin (k0_t9_loop v5).trips, ∀ (k0_h3 : k0_cond3 v5 k0_t9 = 1#1), ∀ a, (k0_off112 v5 k0_t9) a + S1x1536x512.size a ≤ S2x1536x4096.size a) ∧
  (∀ k0_t9 : Fin (k0_t9_loop v5).trips, ∀ (k0_h3 : k0_cond3 v5 k0_t9 = 1#1), ∀ (hinb : ∀ a, (k0_off112 v5 k0_t9) a + S1x1536x512.size a ≤ S2x1536x4096.size a), (Rect.unit (s := S2x1536x4096) (k0_off112 v5 k0_t9) S1x1536x512.size hinb).WholeWords (EltTy.packing .i8)) ∧
  (∀ k0_t9 : Fin (k0_t9_loop v5).trips, ∀ (k0_h3 : k0_cond3 v5 k0_t9 = 1#1), ∀ a, (k0_off114 v5 k0_t9) a + S1x1536x512.size a ≤ S2x1536x4096.size a) ∧
  (∀ k0_t9 : Fin (k0_t9_loop v5).trips, ∀ (k0_h3 : k0_cond3 v5 k0_t9 = 1#1), ∀ (hinb : ∀ a, (k0_off114 v5 k0_t9) a + S1x1536x512.size a ≤ S2x1536x4096.size a), (Rect.unit (s := S2x1536x4096) (k0_off114 v5 k0_t9) S1x1536x512.size hinb).WholeWords (EltTy.packing .i8)) ∧
  (∀ k0_t9 : Fin (k0_t9_loop v5).trips, ∀ (k0_h3 : k0_cond3 v5 k0_t9 = 1#1), ∀ a, (k0_off116 v5 k0_t9) a + S1x1536x512.size a ≤ S2x1536x4096.size a) ∧
  (∀ k0_t9 : Fin (k0_t9_loop v5).trips, ∀ (k0_h3 : k0_cond3 v5 k0_t9 = 1#1), ∀ (hinb : ∀ a, (k0_off116 v5 k0_t9) a + S1x1536x512.size a ≤ S2x1536x4096.size a), (Rect.unit (s := S2x1536x4096) (k0_off116 v5 k0_t9) S1x1536x512.size hinb).WholeWords (EltTy.packing .i8)) ∧
  (∀ k0_t9 : Fin (k0_t9_loop v5).trips, ∀ (k0_h3 : k0_cond3 v5 k0_t9 = 1#1), ∀ a, (k0_off118 v5 k0_t9) a + S1x1536x512.size a ≤ S2x1536x4096.size a) ∧
  (∀ k0_t9 : Fin (k0_t9_loop v5).trips, ∀ (k0_h3 : k0_cond3 v5 k0_t9 = 1#1), ∀ (hinb : ∀ a, (k0_off118 v5 k0_t9) a + S1x1536x512.size a ≤ S2x1536x4096.size a), (Rect.unit (s := S2x1536x4096) (k0_off118 v5 k0_t9) S1x1536x512.size hinb).WholeWords (EltTy.packing .i8)) ∧
  (∀ k0_t9 : Fin (k0_t9_loop v5).trips, ∀ (k0_h3 : k0_cond3 v5 k0_t9 = 1#1), ∀ a, (k0_off120 v5 k0_t9) a + S1x1536x512.size a ≤ S2x1536x4096.size a) ∧
  (∀ k0_t9 : Fin (k0_t9_loop v5).trips, ∀ (k0_h3 : k0_cond3 v5 k0_t9 = 1#1), ∀ (hinb : ∀ a, (k0_off120 v5 k0_t9) a + S1x1536x512.size a ≤ S2x1536x4096.size a), (Rect.unit (s := S2x1536x4096) (k0_off120 v5 k0_t9) S1x1536x512.size hinb).WholeWords (EltTy.packing .i8)) ∧
  (∀ k0_t9 : Fin (k0_t9_loop v5).trips, ∀ (k0_h3 : k0_cond3 v5 k0_t9 = 1#1), ∀ a, (k0_off122 v5 k0_t9) a + S1x1536x512.size a ≤ S2x1536x4096.size a) ∧
  (∀ k0_t9 : Fin (k0_t9_loop v5).trips, ∀ (k0_h3 : k0_cond3 v5 k0_t9 = 1#1), ∀ (hinb : ∀ a, (k0_off122 v5 k0_t9) a + S1x1536x512.size a ≤ S2x1536x4096.size a), (Rect.unit (s := S2x1536x4096) (k0_off122 v5 k0_t9) S1x1536x512.size hinb).WholeWords (EltTy.packing .i8))
def k0_chk3_3 (v5 : BitVec 32) : Prop :=
  (∀ k0_t9 : Fin (k0_t9_loop v5).trips, ∀ (k0_h3 : k0_cond3 v5 k0_t9 = 1#1), ∀ a, (k0_off124 v5 k0_t9) a + S1x1536x512.size a ≤ S2x1536x4096.size a) ∧
  (∀ k0_t9 : Fin (k0_t9_loop v5).trips, ∀ (k0_h3 : k0_cond3 v5 k0_t9 = 1#1), ∀ (hinb : ∀ a, (k0_off124 v5 k0_t9) a + S1x1536x512.size a ≤ S2x1536x4096.size a), (Rect.unit (s := S2x1536x4096) (k0_off124 v5 k0_t9) S1x1536x512.size hinb).WholeWords (EltTy.packing .i8)) ∧
  (∀ k0_t9 : Fin (k0_t9_loop v5).trips, ∀ (k0_h3 : k0_cond3 v5 k0_t9 = 1#1), ∀ a, (k0_off126 v5 k0_t9) a + S1x1.size a ≤ S2x2.size a) ∧
  (∀ k0_t9 : Fin (k0_t9_loop v5).trips, ∀ (k0_h3 : k0_cond3 v5 k0_t9 = 1#1), ∀ a, (k0_off127 v5 k0_t9) a + S1x1024x1536.size a ≤ S2x1024x3072.size a) ∧
  (∀ k0_t9 : Fin (k0_t9_loop v5).trips, ∀ (k0_h3 : k0_cond3 v5 k0_t9 = 1#1), ∀ (hinb : ∀ a, (k0_off127 v5 k0_t9) a + S1x1024x1536.size a ≤ S2x1024x3072.size a), (Rect.unit (s := S2x1024x3072) (k0_off127 v5 k0_t9) S1x1024x1536.size hinb).WholeWords (EltTy.packing .i8)) ∧
  (∀ k0_t9 : Fin (k0_t9_loop v5).trips, ∀ (k0_h3 : k0_cond3 v5 k0_t9 = 1#1), ∀ a, (k0_off129 v5 k0_t9) a + S1x1.size a ≤ S2x2.size a) ∧
  (∀ k0_t9 : Fin (k0_t9_loop v5).trips, ∀ (k0_h3 : k0_cond3 v5 k0_t9 = 1#1), ∀ a, (k0_off130 v5 k0_t9) a + S1x1024x1536.size a ≤ S2x1024x3072.size a) ∧
  (∀ k0_t9 : Fin (k0_t9_loop v5).trips, ∀ (k0_h3 : k0_cond3 v5 k0_t9 = 1#1), ∀ (hinb : ∀ a, (k0_off130 v5 k0_t9) a + S1x1024x1536.size a ≤ S2x1024x3072.size a), (Rect.unit (s := S2x1024x3072) (k0_off130 v5 k0_t9) S1x1024x1536.size hinb).WholeWords (EltTy.packing .i8)) ∧
  (∀ k0_t9 : Fin (k0_t9_loop v5).trips, ∀ a, (k0_off132 v5 k0_t9) a + S1x1.size a ≤ S2x4.size a) ∧
  (∀ k0_t9 : Fin (k0_t9_loop v5).trips, ∀ a, (k0_off133 v5 k0_t9) a + S1x24x4096.size a ≤ S2x24x4096.size a) ∧
  (∀ k0_t9 : Fin (k0_t9_loop v5).trips, ∀ (hinb : ∀ a, (k0_off133 v5 k0_t9) a + S1x24x4096.size a ≤ S2x24x4096.size a), (Rect.unit (s := S2x24x4096) (k0_off133 v5 k0_t9) S1x24x4096.size hinb).WholeWords (EltTy.packing .bf16)) ∧
  (∀ k0_t9 : Fin (k0_t9_loop v5).trips, ∀ a, (k0_off135 v5 k0_t9) a + S1x1.size a ≤ S2x4.size a) ∧
  (∀ k0_t9 : Fin (k0_t9_loop v5).trips, ∀ a, (k0_off136 v5 k0_t9) a + S1x24x2048.size a ≤ S2x24x2048.size a) ∧
  (∀ k0_t9 : Fin (k0_t9_loop v5).trips, ∀ (hinb : ∀ a, (k0_off136 v5 k0_t9) a + S1x24x2048.size a ≤ S2x24x2048.size a), (Rect.unit (s := S2x24x2048) (k0_off136 v5 k0_t9) S1x24x2048.size hinb).WholeWords (EltTy.packing .i8)) ∧
  (∀ k0_t9 : Fin (k0_t9_loop v5).trips, ∀ a, (k0_off138 v5 k0_t9) a + S1x1.size a ≤ S2x4.size a) ∧
  (∀ k0_t9 : Fin (k0_t9_loop v5).trips, ∀ a, (k0_off139 v5 k0_t9) a + S1x16x3072.size a ≤ S2x16x3072.size a) ∧
  (∀ k0_t9 : Fin (k0_t9_loop v5).trips, ∀ (hinb : ∀ a, (k0_off139 v5 k0_t9) a + S1x16x3072.size a ≤ S2x16x3072.size a), (Rect.unit (s := S2x16x3072) (k0_off139 v5 k0_t9) S1x16x3072.size hinb).WholeWords (EltTy.packing .bf16)) ∧
  (∀ k0_t9 : Fin (k0_t9_loop v5).trips, ∀ a, (k0_off141 v5 k0_t9) a + S1x1.size a ≤ S2x4.size a) ∧
  (∀ k0_t9 : Fin (k0_t9_loop v5).trips, ∀ a, (k0_off142 v5 k0_t9) a + S1x16x1536.size a ≤ S2x16x1536.size a) ∧
  (∀ k0_t9 : Fin (k0_t9_loop v5).trips, ∀ (hinb : ∀ a, (k0_off142 v5 k0_t9) a + S1x16x1536.size a ≤ S2x16x1536.size a), (Rect.unit (s := S2x16x1536) (k0_off142 v5 k0_t9) S1x16x1536.size hinb).WholeWords (EltTy.packing .i8)) ∧
  (∀ k0_t9 : Fin (k0_t9_loop v5).trips, ∀ a, (k0_off144 v5 k0_t9) a + S1x24x4096.size a ≤ S2x24x4096.size a) ∧
  (∀ k0_t9 : Fin (k0_t9_loop v5).trips, ∀ a, (k0_off145 v5 k0_t9) a + S1x16x3072.size a ≤ S2x16x3072.size a) ∧
  (∀ k0_t9 : Fin (k0_t9_loop v5).trips, ∀ a, (k0_off146 v5 k0_t9) a + S1x24x2048.size a ≤ S2x24x2048.size a) ∧
  (∀ k0_t9 : Fin (k0_t9_loop v5).trips, ∀ a, (k0_off147 v5 k0_t9) a + S1x16x1536.size a ≤ S2x16x1536.size a) ∧
  (∀ (k0_t9 : Fin (k0_t9_loop v5).trips) (k0_t10 : Fin k0_t10_loop.trips), ∀ a, (k0_off149 v5 k0_t9 k0_t10) a + S1x1.size a ≤ S2x4.size a) ∧
  (∀ (k0_t9 : Fin (k0_t9_loop v5).trips) (k0_t10 : Fin k0_t10_loop.trips), ∀ (r : Fin 2), ∀ a, (k0_off150 v5 k0_t9 k0_t10 (BitVec.ofNat 32 (2048 * r.val))) a + S1x1536x512.size a ≤ S2x1536x4096.size a) ∧
  (∀ (k0_t9 : Fin (k0_t9_loop v5).trips) (k0_t10 : Fin k0_t10_loop.trips), ∀ (r : Fin 2), ∀ (hinb : ∀ a, (k0_off150 v5 k0_t9 k0_t10 (BitVec.ofNat 32 (2048 * r.val))) a + S1x1536x512.size a ≤ S2x1536x4096.size a), (Rect.unit (s := S2x1536x4096) (k0_off150 v5 k0_t9 k0_t10 (BitVec.ofNat 32 (2048 * r.val))) S1x1536x512.size hinb).WholeWords (EltTy.packing .i8)) ∧
  (∀ (k0_t9 : Fin (k0_t9_loop v5).trips) (k0_t10 : Fin k0_t10_loop.trips) (k0_t11 : Fin k0_t11_loop.trips) (k0_t12 : Fin k0_t12_loop.trips), ∀ a, (k0_off153 v5 k0_t9 k0_t10 k0_t11 k0_t12) a + S1x64x256.size a ≤ S2x1536x4096.size a) ∧
  (∀ (k0_t9 : Fin (k0_t9_loop v5).trips) (k0_t10 : Fin k0_t10_loop.trips) (k0_t11 : Fin k0_t11_loop.trips) (k0_t12 : Fin k0_t12_loop.trips), ∀ a, (k0_off155 v5 k0_t9 k0_t10 k0_t11 k0_t12) a + S1x64x256.size a ≤ S2x1536x4096.size a) ∧
  (∀ (k0_t9 : Fin (k0_t9_loop v5).trips) (k0_t10 : Fin k0_t10_loop.trips) (k0_t11 : Fin k0_t11_loop.trips) (k0_t12 : Fin k0_t12_loop.trips), ∀ a, (k0_off157 v5 k0_t9 k0_t10 k0_t11 k0_t12) a + S1x64x256.size a ≤ S2x1536x4096.size a) ∧
  (∀ (k0_t9 : Fin (k0_t9_loop v5).trips) (k0_t10 : Fin k0_t10_loop.trips) (k0_t11 : Fin k0_t11_loop.trips) (k0_t12 : Fin k0_t12_loop.trips), ∀ a, (k0_off159 v5 k0_t9 k0_t10 k0_t11 k0_t12) a + S1x64x256.size a ≤ S2x1536x4096.size a) ∧
  (∀ (k0_t9 : Fin (k0_t9_loop v5).trips) (k0_t13 : Fin k0_t13_loop.trips), ∀ a, (k0_off163 v5 k0_t9 k0_t13) a + S1x1.size a ≤ S2x2.size a)
def k0_chk3_4 (v5 : BitVec 32) : Prop :=
  (∀ (k0_t9 : Fin (k0_t9_loop v5).trips) (k0_t13 : Fin k0_t13_loop.trips), ∀ a, (k0_off164 v5 k0_t9 k0_t13) a + S1x1024x1536.size a ≤ S2x1024x3072.size a) ∧
  (∀ (k0_t9 : Fin (k0_t9_loop v5).trips) (k0_t13 : Fin k0_t13_loop.trips), ∀ (hinb : ∀ a, (k0_off164 v5 k0_t9 k0_t13) a + S1x1024x1536.size a ≤ S2x1024x3072.size a), (Rect.unit (s := S2x1024x3072) (k0_off164 v5 k0_t9 k0_t13) S1x1024x1536.size hinb).WholeWords (EltTy.packing .i8)) ∧
  (∀ (k0_t9 : Fin (k0_t9_loop v5).trips) (k0_t13 : Fin k0_t13_loop.trips) (k0_t14 : Fin k0_t14_loop.trips) (k0_t15 : Fin k0_t15_loop.trips), ∀ a, (k0_off167 v5 k0_t9 k0_t13 k0_t14 k0_t15) a + S1x64x256.size a ≤ S2x1024x3072.size a) ∧
  (∀ (k0_t9 : Fin (k0_t9_loop v5).trips) (k0_t13 : Fin k0_t13_loop.trips) (k0_t14 : Fin k0_t14_loop.trips) (k0_t15 : Fin k0_t15_loop.trips), ∀ a, (k0_off169 v5 k0_t9 k0_t13 k0_t14 k0_t15) a + S1x64x256.size a ≤ S2x1024x3072.size a)
def k0_chk3 (v5 : BitVec 32) : Prop :=
  k0_chk3_0 v5 ∧
  k0_chk3_1 v5 ∧
  k0_chk3_2 v5 ∧
  k0_chk3_3 v5 ∧
  k0_chk3_4 v5
theorem k0_t2_ok : ∀ (v5 : BitVec 32) (k0_hw3 : k0_chk3 v5), (k0_t2_loop v5).OK := fun v5 k0_hw3 => k0_hw3.1.1
theorem k0_off18_inb : ∀ (v5 : BitVec 32) (k0_hw3 : k0_chk3 v5) (k0_t2 : Fin (k0_t2_loop v5).trips), ∀ a, (k0_off18 v5 k0_t2) a + S1.size a ≤ S17.size a := fun v5 k0_hw3 k0_t2 => k0_hw3.1.2.1 k0_t2
theorem k0_off19_inb : ∀ (v5 : BitVec 32) (k0_hw3 : k0_chk3 v5) (k0_t2 : Fin (k0_t2_loop v5).trips), ∀ (k0_h2 : k0_cond2 v5 k0_t2 = 1#1), ∀ a, (k0_off19 v5 k0_t2) a + S1.size a ≤ S17.size a := fun v5 k0_hw3 k0_t2 k0_h2 => k0_hw3.1.2.2.1 k0_t2 k0_h2
theorem k0_off20_inb : ∀ (v5 : BitVec 32) (k0_hw3 : k0_chk3 v5) (k0_t2 : Fin (k0_t2_loop v5).trips), ∀ (k0_h2 : k0_cond2 v5 k0_t2 = 1#1), ∀ a, (k0_off20 v5 k0_t2) a + S1x1.size a ≤ S2x4.size a := fun v5 k0_hw3 k0_t2 k0_h2 => k0_hw3.1.2.2.2.1 k0_t2 k0_h2
theorem k0_off21_inb : ∀ (v5 : BitVec 32) (k0_hw3 : k0_chk3 v5) (k0_t2 : Fin (k0_t2_loop v5).trips), ∀ (k0_h2 : k0_cond2 v5 k0_t2 = 1#1), ∀ a, (k0_off21 v5 k0_t2) a + S1x24x4096.size a ≤ S2x24x4096.size a := fun v5 k0_hw3 k0_t2 k0_h2 => k0_hw3.1.2.2.2.2.1 k0_t2 k0_h2
theorem k0_off21_wordsbf16 : ∀ (v5 : BitVec 32) (k0_hw3 : k0_chk3 v5) (k0_t2 : Fin (k0_t2_loop v5).trips), ∀ (k0_h2 : k0_cond2 v5 k0_t2 = 1#1), (Rect.unit (s := S2x24x4096) (k0_off21 v5 k0_t2) S1x24x4096.size (k0_off21_inb v5 k0_hw3 k0_t2 k0_h2)).WholeWords (EltTy.packing .bf16) := fun v5 k0_hw3 k0_t2 k0_h2 => k0_hw3.1.2.2.2.2.2.1 k0_t2 k0_h2 (k0_off21_inb v5 k0_hw3 k0_t2 k0_h2)
theorem k0_off23_inb : ∀ (v5 : BitVec 32) (k0_hw3 : k0_chk3 v5) (k0_t2 : Fin (k0_t2_loop v5).trips), ∀ (k0_h2 : k0_cond2 v5 k0_t2 = 1#1), ∀ a, (k0_off23 v5 k0_t2) a + S1x1.size a ≤ S2x4.size a := fun v5 k0_hw3 k0_t2 k0_h2 => k0_hw3.1.2.2.2.2.2.2.1 k0_t2 k0_h2
theorem k0_off24_inb : ∀ (v5 : BitVec 32) (k0_hw3 : k0_chk3 v5) (k0_t2 : Fin (k0_t2_loop v5).trips), ∀ (k0_h2 : k0_cond2 v5 k0_t2 = 1#1), ∀ a, (k0_off24 v5 k0_t2) a + S1x24x2048.size a ≤ S2x24x2048.size a := fun v5 k0_hw3 k0_t2 k0_h2 => k0_hw3.1.2.2.2.2.2.2.2.1 k0_t2 k0_h2
theorem k0_off24_wordsi8 : ∀ (v5 : BitVec 32) (k0_hw3 : k0_chk3 v5) (k0_t2 : Fin (k0_t2_loop v5).trips), ∀ (k0_h2 : k0_cond2 v5 k0_t2 = 1#1), (Rect.unit (s := S2x24x2048) (k0_off24 v5 k0_t2) S1x24x2048.size (k0_off24_inb v5 k0_hw3 k0_t2 k0_h2)).WholeWords (EltTy.packing .i8) := fun v5 k0_hw3 k0_t2 k0_h2 => k0_hw3.1.2.2.2.2.2.2.2.2.1 k0_t2 k0_h2 (k0_off24_inb v5 k0_hw3 k0_t2 k0_h2)
theorem k0_off26_inb : ∀ (v5 : BitVec 32) (k0_hw3 : k0_chk3 v5) (k0_t2 : Fin (k0_t2_loop v5).trips), ∀ (k0_h2 : k0_cond2 v5 k0_t2 = 1#1), ∀ a, (k0_off26 v5 k0_t2) a + S1x1.size a ≤ S2x4.size a := fun v5 k0_hw3 k0_t2 k0_h2 => k0_hw3.1.2.2.2.2.2.2.2.2.2.1 k0_t2 k0_h2
theorem k0_off27_inb : ∀ (v5 : BitVec 32) (k0_hw3 : k0_chk3 v5) (k0_t2 : Fin (k0_t2_loop v5).trips), ∀ (k0_h2 : k0_cond2 v5 k0_t2 = 1#1), ∀ a, (k0_off27 v5 k0_t2) a + S1x16x3072.size a ≤ S2x16x3072.size a := fun v5 k0_hw3 k0_t2 k0_h2 => k0_hw3.1.2.2.2.2.2.2.2.2.2.2.1 k0_t2 k0_h2
theorem k0_off27_wordsbf16 : ∀ (v5 : BitVec 32) (k0_hw3 : k0_chk3 v5) (k0_t2 : Fin (k0_t2_loop v5).trips), ∀ (k0_h2 : k0_cond2 v5 k0_t2 = 1#1), (Rect.unit (s := S2x16x3072) (k0_off27 v5 k0_t2) S1x16x3072.size (k0_off27_inb v5 k0_hw3 k0_t2 k0_h2)).WholeWords (EltTy.packing .bf16) := fun v5 k0_hw3 k0_t2 k0_h2 => k0_hw3.1.2.2.2.2.2.2.2.2.2.2.2.1 k0_t2 k0_h2 (k0_off27_inb v5 k0_hw3 k0_t2 k0_h2)
theorem k0_off29_inb : ∀ (v5 : BitVec 32) (k0_hw3 : k0_chk3 v5) (k0_t2 : Fin (k0_t2_loop v5).trips), ∀ (k0_h2 : k0_cond2 v5 k0_t2 = 1#1), ∀ a, (k0_off29 v5 k0_t2) a + S1x1.size a ≤ S2x4.size a := fun v5 k0_hw3 k0_t2 k0_h2 => k0_hw3.1.2.2.2.2.2.2.2.2.2.2.2.2.1 k0_t2 k0_h2
theorem k0_off30_inb : ∀ (v5 : BitVec 32) (k0_hw3 : k0_chk3 v5) (k0_t2 : Fin (k0_t2_loop v5).trips), ∀ (k0_h2 : k0_cond2 v5 k0_t2 = 1#1), ∀ a, (k0_off30 v5 k0_t2) a + S1x16x1536.size a ≤ S2x16x1536.size a := fun v5 k0_hw3 k0_t2 k0_h2 => k0_hw3.1.2.2.2.2.2.2.2.2.2.2.2.2.2.1 k0_t2 k0_h2
theorem k0_off30_wordsi8 : ∀ (v5 : BitVec 32) (k0_hw3 : k0_chk3 v5) (k0_t2 : Fin (k0_t2_loop v5).trips), ∀ (k0_h2 : k0_cond2 v5 k0_t2 = 1#1), (Rect.unit (s := S2x16x1536) (k0_off30 v5 k0_t2) S1x16x1536.size (k0_off30_inb v5 k0_hw3 k0_t2 k0_h2)).WholeWords (EltTy.packing .i8) := fun v5 k0_hw3 k0_t2 k0_h2 => k0_hw3.1.2.2.2.2.2.2.2.2.2.2.2.2.2.2.1 k0_t2 k0_h2 (k0_off30_inb v5 k0_hw3 k0_t2 k0_h2)
theorem k0_off32_inb : ∀ (v5 : BitVec 32) (k0_hw3 : k0_chk3 v5) (k0_t2 : Fin (k0_t2_loop v5).trips), ∀ (k0_h2 : k0_cond2 v5 k0_t2 = 1#1), ∀ a, (k0_off32 v5 k0_t2) a + S1x1.size a ≤ S2x4.size a := fun v5 k0_hw3 k0_t2 k0_h2 => k0_hw3.1.2.2.2.2.2.2.2.2.2.2.2.2.2.2.2.1 k0_t2 k0_h2
theorem k0_off33_inb : ∀ (v5 : BitVec 32) (k0_hw3 : k0_chk3 v5) (k0_t2 : Fin (k0_t2_loop v5).trips), ∀ (k0_h2 : k0_cond2 v5 k0_t2 = 1#1), ∀ a, (k0_off33 v5 k0_t2) a + S1x1536x512.size a ≤ S2x1536x4096.size a := fun v5 k0_hw3 k0_t2 k0_h2 => k0_hw3.1.2.2.2.2.2.2.2.2.2.2.2.2.2.2.2.2.1 k0_t2 k0_h2
theorem k0_off33_wordsi8 : ∀ (v5 : BitVec 32) (k0_hw3 : k0_chk3 v5) (k0_t2 : Fin (k0_t2_loop v5).trips), ∀ (k0_h2 : k0_cond2 v5 k0_t2 = 1#1), (Rect.unit (s := S2x1536x4096) (k0_off33 v5 k0_t2) S1x1536x512.size (k0_off33_inb v5 k0_hw3 k0_t2 k0_h2)).WholeWords (EltTy.packing .i8) := fun v5 k0_hw3 k0_t2 k0_h2 => k0_hw3.1.2.2.2.2.2.2.2.2.2.2.2.2.2.2.2.2.2.1 k0_t2 k0_h2 (k0_off33_inb v5 k0_hw3 k0_t2 k0_h2)
theorem k0_off35_inb : ∀ (v5 : BitVec 32) (k0_hw3 : k0_chk3 v5) (k0_t2 : Fin (k0_t2_loop v5).trips), ∀ (k0_h2 : k0_cond2 v5 k0_t2 = 1#1), ∀ a, (k0_off35 v5 k0_t2) a + S1x1536x512.size a ≤ S2x1536x4096.size a := fun v5 k0_hw3 k0_t2 k0_h2 => k0_hw3.1.2.2.2.2.2.2.2.2.2.2.2.2.2.2.2.2.2.2.1 k0_t2 k0_h2
theorem k0_off35_wordsi8 : ∀ (v5 : BitVec 32) (k0_hw3 : k0_chk3 v5) (k0_t2 : Fin (k0_t2_loop v5).trips), ∀ (k0_h2 : k0_cond2 v5 k0_t2 = 1#1), (Rect.unit (s := S2x1536x4096) (k0_off35 v5 k0_t2) S1x1536x512.size (k0_off35_inb v5 k0_hw3 k0_t2 k0_h2)).WholeWords (EltTy.packing .i8) := fun v5 k0_hw3 k0_t2 k0_h2 => k0_hw3.1.2.2.2.2.2.2.2.2.2.2.2.2.2.2.2.2.2.2.2.1 k0_t2 k0_h2 (k0_off35_inb v5 k0_hw3 k0_t2 k0_h2)
theorem k0_off37_inb : ∀ (v5 : BitVec 32) (k0_hw3 : k0_chk3 v5) (k0_t2 : Fin (k0_t2_loop v5).trips), ∀ (k0_h2 : k0_cond2 v5 k0_t2 = 1#1), ∀ a, (k0_off37 v5 k0_t2) a + S1x1536x512.size a ≤ S2x1536x4096.size a := fun v5 k0_hw3 k0_t2 k0_h2 => k0_hw3.1.2.2.2.2.2.2.2.2.2.2.2.2.2.2.2.2.2.2.2.2.1 k0_t2 k0_h2
theorem k0_off37_wordsi8 : ∀ (v5 : BitVec 32) (k0_hw3 : k0_chk3 v5) (k0_t2 : Fin (k0_t2_loop v5).trips), ∀ (k0_h2 : k0_cond2 v5 k0_t2 = 1#1), (Rect.unit (s := S2x1536x4096) (k0_off37 v5 k0_t2) S1x1536x512.size (k0_off37_inb v5 k0_hw3 k0_t2 k0_h2)).WholeWords (EltTy.packing .i8) := fun v5 k0_hw3 k0_t2 k0_h2 => k0_hw3.1.2.2.2.2.2.2.2.2.2.2.2.2.2.2.2.2.2.2.2.2.2.1 k0_t2 k0_h2 (k0_off37_inb v5 k0_hw3 k0_t2 k0_h2)
theorem k0_off39_inb : ∀ (v5 : BitVec 32) (k0_hw3 : k0_chk3 v5) (k0_t2 : Fin (k0_t2_loop v5).trips), ∀ (k0_h2 : k0_cond2 v5 k0_t2 = 1#1), ∀ a, (k0_off39 v5 k0_t2) a + S1x1536x512.size a ≤ S2x1536x4096.size a := fun v5 k0_hw3 k0_t2 k0_h2 => k0_hw3.1.2.2.2.2.2.2.2.2.2.2.2.2.2.2.2.2.2.2.2.2.2.2.1 k0_t2 k0_h2
theorem k0_off39_wordsi8 : ∀ (v5 : BitVec 32) (k0_hw3 : k0_chk3 v5) (k0_t2 : Fin (k0_t2_loop v5).trips), ∀ (k0_h2 : k0_cond2 v5 k0_t2 = 1#1), (Rect.unit (s := S2x1536x4096) (k0_off39 v5 k0_t2) S1x1536x512.size (k0_off39_inb v5 k0_hw3 k0_t2 k0_h2)).WholeWords (EltTy.packing .i8) := fun v5 k0_hw3 k0_t2 k0_h2 => k0_hw3.1.2.2.2.2.2.2.2.2.2.2.2.2.2.2.2.2.2.2.2.2.2.2.2.1 k0_t2 k0_h2 (k0_off39_inb v5 k0_hw3 k0_t2 k0_h2)
theorem k0_off41_inb : ∀ (v5 : BitVec 32) (k0_hw3 : k0_chk3 v5) (k0_t2 : Fin (k0_t2_loop v5).trips), ∀ (k0_h2 : k0_cond2 v5 k0_t2 = 1#1), ∀ a, (k0_off41 v5 k0_t2) a + S1x1536x512.size a ≤ S2x1536x4096.size a := fun v5 k0_hw3 k0_t2 k0_h2 => k0_hw3.1.2.2.2.2.2.2.2.2.2.2.2.2.2.2.2.2.2.2.2.2.2.2.2.2.1 k0_t2 k0_h2
theorem k0_off41_wordsi8 : ∀ (v5 : BitVec 32) (k0_hw3 : k0_chk3 v5) (k0_t2 : Fin (k0_t2_loop v5).trips), ∀ (k0_h2 : k0_cond2 v5 k0_t2 = 1#1), (Rect.unit (s := S2x1536x4096) (k0_off41 v5 k0_t2) S1x1536x512.size (k0_off41_inb v5 k0_hw3 k0_t2 k0_h2)).WholeWords (EltTy.packing .i8) := fun v5 k0_hw3 k0_t2 k0_h2 => k0_hw3.1.2.2.2.2.2.2.2.2.2.2.2.2.2.2.2.2.2.2.2.2.2.2.2.2.2.1 k0_t2 k0_h2 (k0_off41_inb v5 k0_hw3 k0_t2 k0_h2)
theorem k0_off43_inb : ∀ (v5 : BitVec 32) (k0_hw3 : k0_chk3 v5) (k0_t2 : Fin (k0_t2_loop v5).trips), ∀ (k0_h2 : k0_cond2 v5 k0_t2 = 1#1), ∀ a, (k0_off43 v5 k0_t2) a + S1x1536x512.size a ≤ S2x1536x4096.size a := fun v5 k0_hw3 k0_t2 k0_h2 => k0_hw3.1.2.2.2.2.2.2.2.2.2.2.2.2.2.2.2.2.2.2.2.2.2.2.2.2.2.2.1 k0_t2 k0_h2
theorem k0_off43_wordsi8 : ∀ (v5 : BitVec 32) (k0_hw3 : k0_chk3 v5) (k0_t2 : Fin (k0_t2_loop v5).trips), ∀ (k0_h2 : k0_cond2 v5 k0_t2 = 1#1), (Rect.unit (s := S2x1536x4096) (k0_off43 v5 k0_t2) S1x1536x512.size (k0_off43_inb v5 k0_hw3 k0_t2 k0_h2)).WholeWords (EltTy.packing .i8) := fun v5 k0_hw3 k0_t2 k0_h2 => k0_hw3.1.2.2.2.2.2.2.2.2.2.2.2.2.2.2.2.2.2.2.2.2.2.2.2.2.2.2.2.1 k0_t2 k0_h2 (k0_off43_inb v5 k0_hw3 k0_t2 k0_h2)
theorem k0_off45_inb : ∀ (v5 : BitVec 32) (k0_hw3 : k0_chk3 v5) (k0_t2 : Fin (k0_t2_loop v5).trips), ∀ (k0_h2 : k0_cond2 v5 k0_t2 = 1#1), ∀ a, (k0_off45 v5 k0_t2) a + S1x1536x512.size a ≤ S2x1536x4096.size a := fun v5 k0_hw3 k0_t2 k0_h2 => k0_hw3.1.2.2.2.2.2.2.2.2.2.2.2.2.2.2.2.2.2.2.2.2.2.2.2.2.2.2.2.2.1 k0_t2 k0_h2
theorem k0_off45_wordsi8 : ∀ (v5 : BitVec 32) (k0_hw3 : k0_chk3 v5) (k0_t2 : Fin (k0_t2_loop v5).trips), ∀ (k0_h2 : k0_cond2 v5 k0_t2 = 1#1), (Rect.unit (s := S2x1536x4096) (k0_off45 v5 k0_t2) S1x1536x512.size (k0_off45_inb v5 k0_hw3 k0_t2 k0_h2)).WholeWords (EltTy.packing .i8) := fun v5 k0_hw3 k0_t2 k0_h2 => k0_hw3.1.2.2.2.2.2.2.2.2.2.2.2.2.2.2.2.2.2.2.2.2.2.2.2.2.2.2.2.2.2.1 k0_t2 k0_h2 (k0_off45_inb v5 k0_hw3 k0_t2 k0_h2)
theorem k0_off47_inb : ∀ (v5 : BitVec 32) (k0_hw3 : k0_chk3 v5) (k0_t2 : Fin (k0_t2_loop v5).trips), ∀ (k0_h2 : k0_cond2 v5 k0_t2 = 1#1), ∀ a, (k0_off47 v5 k0_t2) a + S1x1536x512.size a ≤ S2x1536x4096.size a := fun v5 k0_hw3 k0_t2 k0_h2 => k0_hw3.1.2.2.2.2.2.2.2.2.2.2.2.2.2.2.2.2.2.2.2.2.2.2.2.2.2.2.2.2.2.2.1 k0_t2 k0_h2
theorem k0_off47_wordsi8 : ∀ (v5 : BitVec 32) (k0_hw3 : k0_chk3 v5) (k0_t2 : Fin (k0_t2_loop v5).trips), ∀ (k0_h2 : k0_cond2 v5 k0_t2 = 1#1), (Rect.unit (s := S2x1536x4096) (k0_off47 v5 k0_t2) S1x1536x512.size (k0_off47_inb v5 k0_hw3 k0_t2 k0_h2)).WholeWords (EltTy.packing .i8) := fun v5 k0_hw3 k0_t2 k0_h2 => k0_hw3.1.2.2.2.2.2.2.2.2.2.2.2.2.2.2.2.2.2.2.2.2.2.2.2.2.2.2.2.2.2.2.2 k0_t2 k0_h2 (k0_off47_inb v5 k0_hw3 k0_t2 k0_h2)
theorem k0_off49_inb : ∀ (v5 : BitVec 32) (k0_hw3 : k0_chk3 v5) (k0_t2 : Fin (k0_t2_loop v5).trips), ∀ (k0_h2 : k0_cond2 v5 k0_t2 = 1#1), ∀ a, (k0_off49 v5 k0_t2) a + S1x1.size a ≤ S2x2.size a := fun v5 k0_hw3 k0_t2 k0_h2 => k0_hw3.2.1.1 k0_t2 k0_h2
theorem k0_off50_inb : ∀ (v5 : BitVec 32) (k0_hw3 : k0_chk3 v5) (k0_t2 : Fin (k0_t2_loop v5).trips), ∀ (k0_h2 : k0_cond2 v5 k0_t2 = 1#1), ∀ a, (k0_off50 v5 k0_t2) a + S1x1024x1536.size a ≤ S2x1024x3072.size a := fun v5 k0_hw3 k0_t2 k0_h2 => k0_hw3.2.1.2.1 k0_t2 k0_h2
theorem k0_off50_wordsi8 : ∀ (v5 : BitVec 32) (k0_hw3 : k0_chk3 v5) (k0_t2 : Fin (k0_t2_loop v5).trips), ∀ (k0_h2 : k0_cond2 v5 k0_t2 = 1#1), (Rect.unit (s := S2x1024x3072) (k0_off50 v5 k0_t2) S1x1024x1536.size (k0_off50_inb v5 k0_hw3 k0_t2 k0_h2)).WholeWords (EltTy.packing .i8) := fun v5 k0_hw3 k0_t2 k0_h2 => k0_hw3.2.1.2.2.1 k0_t2 k0_h2 (k0_off50_inb v5 k0_hw3 k0_t2 k0_h2)
theorem k0_off52_inb : ∀ (v5 : BitVec 32) (k0_hw3 : k0_chk3 v5) (k0_t2 : Fin (k0_t2_loop v5).trips), ∀ (k0_h2 : k0_cond2 v5 k0_t2 = 1#1), ∀ a, (k0_off52 v5 k0_t2) a + S1x1.size a ≤ S2x2.size a := fun v5 k0_hw3 k0_t2 k0_h2 => k0_hw3.2.1.2.2.2.1 k0_t2 k0_h2
theorem k0_off53_inb : ∀ (v5 : BitVec 32) (k0_hw3 : k0_chk3 v5) (k0_t2 : Fin (k0_t2_loop v5).trips), ∀ (k0_h2 : k0_cond2 v5 k0_t2 = 1#1), ∀ a, (k0_off53 v5 k0_t2) a + S1x1024x1536.size a ≤ S2x1024x3072.size a := fun v5 k0_hw3 k0_t2 k0_h2 => k0_hw3.2.1.2.2.2.2.1 k0_t2 k0_h2
theorem k0_off53_wordsi8 : ∀ (v5 : BitVec 32) (k0_hw3 : k0_chk3 v5) (k0_t2 : Fin (k0_t2_loop v5).trips), ∀ (k0_h2 : k0_cond2 v5 k0_t2 = 1#1), (Rect.unit (s := S2x1024x3072) (k0_off53 v5 k0_t2) S1x1024x1536.size (k0_off53_inb v5 k0_hw3 k0_t2 k0_h2)).WholeWords (EltTy.packing .i8) := fun v5 k0_hw3 k0_t2 k0_h2 => k0_hw3.2.1.2.2.2.2.2.1 k0_t2 k0_h2 (k0_off53_inb v5 k0_hw3 k0_t2 k0_h2)
theorem k0_off55_inb : ∀ (v5 : BitVec 32) (k0_hw3 : k0_chk3 v5) (k0_t2 : Fin (k0_t2_loop v5).trips), ∀ a, (k0_off55 v5 k0_t2) a + S1x1.size a ≤ S2x4.size a := fun v5 k0_hw3 k0_t2 => k0_hw3.2.1.2.2.2.2.2.2.1 k0_t2
theorem k0_off56_inb : ∀ (v5 : BitVec 32) (k0_hw3 : k0_chk3 v5) (k0_t2 : Fin (k0_t2_loop v5).trips), ∀ a, (k0_off56 v5 k0_t2) a + S1x24x4096.size a ≤ S2x24x4096.size a := fun v5 k0_hw3 k0_t2 => k0_hw3.2.1.2.2.2.2.2.2.2.1 k0_t2
theorem k0_off56_wordsbf16 : ∀ (v5 : BitVec 32) (k0_hw3 : k0_chk3 v5) (k0_t2 : Fin (k0_t2_loop v5).trips), (Rect.unit (s := S2x24x4096) (k0_off56 v5 k0_t2) S1x24x4096.size (k0_off56_inb v5 k0_hw3 k0_t2)).WholeWords (EltTy.packing .bf16) := fun v5 k0_hw3 k0_t2 => k0_hw3.2.1.2.2.2.2.2.2.2.2.1 k0_t2 (k0_off56_inb v5 k0_hw3 k0_t2)
theorem k0_off58_inb : ∀ (v5 : BitVec 32) (k0_hw3 : k0_chk3 v5) (k0_t2 : Fin (k0_t2_loop v5).trips), ∀ a, (k0_off58 v5 k0_t2) a + S1x1.size a ≤ S2x4.size a := fun v5 k0_hw3 k0_t2 => k0_hw3.2.1.2.2.2.2.2.2.2.2.2.1 k0_t2
theorem k0_off59_inb : ∀ (v5 : BitVec 32) (k0_hw3 : k0_chk3 v5) (k0_t2 : Fin (k0_t2_loop v5).trips), ∀ a, (k0_off59 v5 k0_t2) a + S1x24x2048.size a ≤ S2x24x2048.size a := fun v5 k0_hw3 k0_t2 => k0_hw3.2.1.2.2.2.2.2.2.2.2.2.2.1 k0_t2
theorem k0_off59_wordsi8 : ∀ (v5 : BitVec 32) (k0_hw3 : k0_chk3 v5) (k0_t2 : Fin (k0_t2_loop v5).trips), (Rect.unit (s := S2x24x2048) (k0_off59 v5 k0_t2) S1x24x2048.size (k0_off59_inb v5 k0_hw3 k0_t2)).WholeWords (EltTy.packing .i8) := fun v5 k0_hw3 k0_t2 => k0_hw3.2.1.2.2.2.2.2.2.2.2.2.2.2.1 k0_t2 (k0_off59_inb v5 k0_hw3 k0_t2)
theorem k0_off61_inb : ∀ (v5 : BitVec 32) (k0_hw3 : k0_chk3 v5) (k0_t2 : Fin (k0_t2_loop v5).trips), ∀ a, (k0_off61 v5 k0_t2) a + S1x1.size a ≤ S2x4.size a := fun v5 k0_hw3 k0_t2 => k0_hw3.2.1.2.2.2.2.2.2.2.2.2.2.2.2.1 k0_t2
theorem k0_off62_inb : ∀ (v5 : BitVec 32) (k0_hw3 : k0_chk3 v5) (k0_t2 : Fin (k0_t2_loop v5).trips), ∀ a, (k0_off62 v5 k0_t2) a + S1x16x3072.size a ≤ S2x16x3072.size a := fun v5 k0_hw3 k0_t2 => k0_hw3.2.1.2.2.2.2.2.2.2.2.2.2.2.2.2.1 k0_t2
theorem k0_off62_wordsbf16 : ∀ (v5 : BitVec 32) (k0_hw3 : k0_chk3 v5) (k0_t2 : Fin (k0_t2_loop v5).trips), (Rect.unit (s := S2x16x3072) (k0_off62 v5 k0_t2) S1x16x3072.size (k0_off62_inb v5 k0_hw3 k0_t2)).WholeWords (EltTy.packing .bf16) := fun v5 k0_hw3 k0_t2 => k0_hw3.2.1.2.2.2.2.2.2.2.2.2.2.2.2.2.2.1 k0_t2 (k0_off62_inb v5 k0_hw3 k0_t2)
theorem k0_off64_inb : ∀ (v5 : BitVec 32) (k0_hw3 : k0_chk3 v5) (k0_t2 : Fin (k0_t2_loop v5).trips), ∀ a, (k0_off64 v5 k0_t2) a + S1x1.size a ≤ S2x4.size a := fun v5 k0_hw3 k0_t2 => k0_hw3.2.1.2.2.2.2.2.2.2.2.2.2.2.2.2.2.2.1 k0_t2
theorem k0_off65_inb : ∀ (v5 : BitVec 32) (k0_hw3 : k0_chk3 v5) (k0_t2 : Fin (k0_t2_loop v5).trips), ∀ a, (k0_off65 v5 k0_t2) a + S1x16x1536.size a ≤ S2x16x1536.size a := fun v5 k0_hw3 k0_t2 => k0_hw3.2.1.2.2.2.2.2.2.2.2.2.2.2.2.2.2.2.2.1 k0_t2
theorem k0_off65_wordsi8 : ∀ (v5 : BitVec 32) (k0_hw3 : k0_chk3 v5) (k0_t2 : Fin (k0_t2_loop v5).trips), (Rect.unit (s := S2x16x1536) (k0_off65 v5 k0_t2) S1x16x1536.size (k0_off65_inb v5 k0_hw3 k0_t2)).WholeWords (EltTy.packing .i8) := fun v5 k0_hw3 k0_t2 => k0_hw3.2.1.2.2.2.2.2.2.2.2.2.2.2.2.2.2.2.2.2.1 k0_t2 (k0_off65_inb v5 k0_hw3 k0_t2)
theorem k0_off67_inb : ∀ (v5 : BitVec 32) (k0_hw3 : k0_chk3 v5) (k0_t2 : Fin (k0_t2_loop v5).trips), ∀ a, (k0_off67 v5 k0_t2) a + S1x24x4096.size a ≤ S2x24x4096.size a := fun v5 k0_hw3 k0_t2 => k0_hw3.2.1.2.2.2.2.2.2.2.2.2.2.2.2.2.2.2.2.2.2.1 k0_t2
theorem k0_off68_inb : ∀ (v5 : BitVec 32) (k0_hw3 : k0_chk3 v5) (k0_t2 : Fin (k0_t2_loop v5).trips), ∀ a, (k0_off68 v5 k0_t2) a + S1x16x3072.size a ≤ S2x16x3072.size a := fun v5 k0_hw3 k0_t2 => k0_hw3.2.1.2.2.2.2.2.2.2.2.2.2.2.2.2.2.2.2.2.2.2.1 k0_t2
theorem k0_off69_inb : ∀ (v5 : BitVec 32) (k0_hw3 : k0_chk3 v5) (k0_t2 : Fin (k0_t2_loop v5).trips), ∀ a, (k0_off69 v5 k0_t2) a + S1x24x2048.size a ≤ S2x24x2048.size a := fun v5 k0_hw3 k0_t2 => k0_hw3.2.1.2.2.2.2.2.2.2.2.2.2.2.2.2.2.2.2.2.2.2.2.1 k0_t2
theorem k0_off70_inb : ∀ (v5 : BitVec 32) (k0_hw3 : k0_chk3 v5) (k0_t2 : Fin (k0_t2_loop v5).trips), ∀ a, (k0_off70 v5 k0_t2) a + S1x16x1536.size a ≤ S2x16x1536.size a := fun v5 k0_hw3 k0_t2 => k0_hw3.2.1.2.2.2.2.2.2.2.2.2.2.2.2.2.2.2.2.2.2.2.2.2.1 k0_t2
theorem k0_off72_inb : ∀ (v5 : BitVec 32) (k0_hw3 : k0_chk3 v5) (k0_t2 : Fin (k0_t2_loop v5).trips) (k0_t3 : Fin k0_t3_loop.trips), ∀ a, (k0_off72 v5 k0_t2 k0_t3) a + S1x1.size a ≤ S2x4.size a := fun v5 k0_hw3 k0_t2 k0_t3 => k0_hw3.2.1.2.2.2.2.2.2.2.2.2.2.2.2.2.2.2.2.2.2.2.2.2.2.1 k0_t2 k0_t3
theorem k0_off73_inb : ∀ (v5 : BitVec 32) (k0_hw3 : k0_chk3 v5) (k0_t2 : Fin (k0_t2_loop v5).trips) (k0_t3 : Fin k0_t3_loop.trips), ∀ (r : Fin 2), ∀ a, (k0_off73 v5 k0_t2 k0_t3 (BitVec.ofNat 32 (2048 * r.val))) a + S1x1536x512.size a ≤ S2x1536x4096.size a := fun v5 k0_hw3 k0_t2 k0_t3 r => k0_hw3.2.1.2.2.2.2.2.2.2.2.2.2.2.2.2.2.2.2.2.2.2.2.2.2.2.1 k0_t2 k0_t3 r
theorem k0_off73_wordsi8 : ∀ (v5 : BitVec 32) (k0_hw3 : k0_chk3 v5) (k0_t2 : Fin (k0_t2_loop v5).trips) (k0_t3 : Fin k0_t3_loop.trips), ∀ (r : Fin 2), (Rect.unit (s := S2x1536x4096) (k0_off73 v5 k0_t2 k0_t3 (BitVec.ofNat 32 (2048 * r.val))) S1x1536x512.size (k0_off73_inb v5 k0_hw3 k0_t2 k0_t3 r)).WholeWords (EltTy.packing .i8) := fun v5 k0_hw3 k0_t2 k0_t3 r => k0_hw3.2.1.2.2.2.2.2.2.2.2.2.2.2.2.2.2.2.2.2.2.2.2.2.2.2.2.1 k0_t2 k0_t3 r (k0_off73_inb v5 k0_hw3 k0_t2 k0_t3 r)
theorem k0_off76_inb : ∀ (v5 : BitVec 32) (k0_hw3 : k0_chk3 v5) (k0_t2 : Fin (k0_t2_loop v5).trips) (k0_t3 : Fin k0_t3_loop.trips) (k0_t4 : Fin k0_t4_loop.trips) (k0_t5 : Fin k0_t5_loop.trips), ∀ a, (k0_off76 v5 k0_t2 k0_t3 k0_t4 k0_t5) a + S1x64x256.size a ≤ S2x1536x4096.size a := fun v5 k0_hw3 k0_t2 k0_t3 k0_t4 k0_t5 => k0_hw3.2.1.2.2.2.2.2.2.2.2.2.2.2.2.2.2.2.2.2.2.2.2.2.2.2.2.2.1 k0_t2 k0_t3 k0_t4 k0_t5
theorem k0_off78_inb : ∀ (v5 : BitVec 32) (k0_hw3 : k0_chk3 v5) (k0_t2 : Fin (k0_t2_loop v5).trips) (k0_t3 : Fin k0_t3_loop.trips) (k0_t4 : Fin k0_t4_loop.trips) (k0_t5 : Fin k0_t5_loop.trips), ∀ a, (k0_off78 v5 k0_t2 k0_t3 k0_t4 k0_t5) a + S1x64x256.size a ≤ S2x1536x4096.size a := fun v5 k0_hw3 k0_t2 k0_t3 k0_t4 k0_t5 => k0_hw3.2.1.2.2.2.2.2.2.2.2.2.2.2.2.2.2.2.2.2.2.2.2.2.2.2.2.2.2.1 k0_t2 k0_t3 k0_t4 k0_t5
theorem k0_off80_inb : ∀ (v5 : BitVec 32) (k0_hw3 : k0_chk3 v5) (k0_t2 : Fin (k0_t2_loop v5).trips) (k0_t3 : Fin k0_t3_loop.trips) (k0_t4 : Fin k0_t4_loop.trips) (k0_t5 : Fin k0_t5_loop.trips), ∀ a, (k0_off80 v5 k0_t2 k0_t3 k0_t4 k0_t5) a + S1x64x256.size a ≤ S2x1536x4096.size a := fun v5 k0_hw3 k0_t2 k0_t3 k0_t4 k0_t5 => k0_hw3.2.1.2.2.2.2.2.2.2.2.2.2.2.2.2.2.2.2.2.2.2.2.2.2.2.2.2.2.2.1 k0_t2 k0_t3 k0_t4 k0_t5
theorem k0_off82_inb : ∀ (v5 : BitVec 32) (k0_hw3 : k0_chk3 v5) (k0_t2 : Fin (k0_t2_loop v5).trips) (k0_t3 : Fin k0_t3_loop.trips) (k0_t4 : Fin k0_t4_loop.trips) (k0_t5 : Fin k0_t5_loop.trips), ∀ a, (k0_off82 v5 k0_t2 k0_t3 k0_t4 k0_t5) a + S1x64x256.size a ≤ S2x1536x4096.size a := fun v5 k0_hw3 k0_t2 k0_t3 k0_t4 k0_t5 => k0_hw3.2.1.2.2.2.2.2.2.2.2.2.2.2.2.2.2.2.2.2.2.2.2.2.2.2.2.2.2.2.2.1 k0_t2 k0_t3 k0_t4 k0_t5
theorem k0_off86_inb : ∀ (v5 : BitVec 32) (k0_hw3 : k0_chk3 v5) (k0_t2 : Fin (k0_t2_loop v5).trips) (k0_t6 : Fin k0_t6_loop.trips), ∀ a, (k0_off86 v5 k0_t2 k0_t6) a + S1x1.size a ≤ S2x2.size a := fun v5 k0_hw3 k0_t2 k0_t6 => k0_hw3.2.1.2.2.2.2.2.2.2.2.2.2.2.2.2.2.2.2.2.2.2.2.2.2.2.2.2.2.2.2.2.1 k0_t2 k0_t6
theorem k0_off87_inb : ∀ (v5 : BitVec 32) (k0_hw3 : k0_chk3 v5) (k0_t2 : Fin (k0_t2_loop v5).trips) (k0_t6 : Fin k0_t6_loop.trips), ∀ a, (k0_off87 v5 k0_t2 k0_t6) a + S1x1024x1536.size a ≤ S2x1024x3072.size a := fun v5 k0_hw3 k0_t2 k0_t6 => k0_hw3.2.1.2.2.2.2.2.2.2.2.2.2.2.2.2.2.2.2.2.2.2.2.2.2.2.2.2.2.2.2.2.2.1 k0_t2 k0_t6
theorem k0_off87_wordsi8 : ∀ (v5 : BitVec 32) (k0_hw3 : k0_chk3 v5) (k0_t2 : Fin (k0_t2_loop v5).trips) (k0_t6 : Fin k0_t6_loop.trips), (Rect.unit (s := S2x1024x3072) (k0_off87 v5 k0_t2 k0_t6) S1x1024x1536.size (k0_off87_inb v5 k0_hw3 k0_t2 k0_t6)).WholeWords (EltTy.packing .i8) := fun v5 k0_hw3 k0_t2 k0_t6 => k0_hw3.2.1.2.2.2.2.2.2.2.2.2.2.2.2.2.2.2.2.2.2.2.2.2.2.2.2.2.2.2.2.2.2.2 k0_t2 k0_t6 (k0_off87_inb v5 k0_hw3 k0_t2 k0_t6)
theorem k0_off90_inb : ∀ (v5 : BitVec 32) (k0_hw3 : k0_chk3 v5) (k0_t2 : Fin (k0_t2_loop v5).trips) (k0_t6 : Fin k0_t6_loop.trips) (k0_t7 : Fin k0_t7_loop.trips) (k0_t8 : Fin k0_t8_loop.trips), ∀ a, (k0_off90 v5 k0_t2 k0_t6 k0_t7 k0_t8) a + S1x64x256.size a ≤ S2x1024x3072.size a := fun v5 k0_hw3 k0_t2 k0_t6 k0_t7 k0_t8 => k0_hw3.2.2.1.1 k0_t2 k0_t6 k0_t7 k0_t8
theorem k0_off92_inb : ∀ (v5 : BitVec 32) (k0_hw3 : k0_chk3 v5) (k0_t2 : Fin (k0_t2_loop v5).trips) (k0_t6 : Fin k0_t6_loop.trips) (k0_t7 : Fin k0_t7_loop.trips) (k0_t8 : Fin k0_t8_loop.trips), ∀ a, (k0_off92 v5 k0_t2 k0_t6 k0_t7 k0_t8) a + S1x64x256.size a ≤ S2x1024x3072.size a := fun v5 k0_hw3 k0_t2 k0_t6 k0_t7 k0_t8 => k0_hw3.2.2.1.2.1 k0_t2 k0_t6 k0_t7 k0_t8
theorem k0_t9_ok : ∀ (v5 : BitVec 32) (k0_hw3 : k0_chk3 v5), (k0_t9_loop v5).OK := fun v5 k0_hw3 => k0_hw3.2.2.1.2.2.1
theorem k0_off95_inb : ∀ (v5 : BitVec 32) (k0_hw3 : k0_chk3 v5) (k0_t9 : Fin (k0_t9_loop v5).trips), ∀ a, (k0_off95 v5 k0_t9) a + S1.size a ≤ S17.size a := fun v5 k0_hw3 k0_t9 => k0_hw3.2.2.1.2.2.2.1 k0_t9
theorem k0_off96_inb : ∀ (v5 : BitVec 32) (k0_hw3 : k0_chk3 v5) (k0_t9 : Fin (k0_t9_loop v5).trips), ∀ (k0_h3 : k0_cond3 v5 k0_t9 = 1#1), ∀ a, (k0_off96 v5 k0_t9) a + S1.size a ≤ S17.size a := fun v5 k0_hw3 k0_t9 k0_h3 => k0_hw3.2.2.1.2.2.2.2.1 k0_t9 k0_h3
theorem k0_off97_inb : ∀ (v5 : BitVec 32) (k0_hw3 : k0_chk3 v5) (k0_t9 : Fin (k0_t9_loop v5).trips), ∀ (k0_h3 : k0_cond3 v5 k0_t9 = 1#1), ∀ a, (k0_off97 v5 k0_t9) a + S1x1.size a ≤ S2x4.size a := fun v5 k0_hw3 k0_t9 k0_h3 => k0_hw3.2.2.1.2.2.2.2.2.1 k0_t9 k0_h3
theorem k0_off98_inb : ∀ (v5 : BitVec 32) (k0_hw3 : k0_chk3 v5) (k0_t9 : Fin (k0_t9_loop v5).trips), ∀ (k0_h3 : k0_cond3 v5 k0_t9 = 1#1), ∀ a, (k0_off98 v5 k0_t9) a + S1x24x4096.size a ≤ S2x24x4096.size a := fun v5 k0_hw3 k0_t9 k0_h3 => k0_hw3.2.2.1.2.2.2.2.2.2.1 k0_t9 k0_h3
theorem k0_off98_wordsbf16 : ∀ (v5 : BitVec 32) (k0_hw3 : k0_chk3 v5) (k0_t9 : Fin (k0_t9_loop v5).trips), ∀ (k0_h3 : k0_cond3 v5 k0_t9 = 1#1), (Rect.unit (s := S2x24x4096) (k0_off98 v5 k0_t9) S1x24x4096.size (k0_off98_inb v5 k0_hw3 k0_t9 k0_h3)).WholeWords (EltTy.packing .bf16) := fun v5 k0_hw3 k0_t9 k0_h3 => k0_hw3.2.2.1.2.2.2.2.2.2.2.1 k0_t9 k0_h3 (k0_off98_inb v5 k0_hw3 k0_t9 k0_h3)
theorem k0_off100_inb : ∀ (v5 : BitVec 32) (k0_hw3 : k0_chk3 v5) (k0_t9 : Fin (k0_t9_loop v5).trips), ∀ (k0_h3 : k0_cond3 v5 k0_t9 = 1#1), ∀ a, (k0_off100 v5 k0_t9) a + S1x1.size a ≤ S2x4.size a := fun v5 k0_hw3 k0_t9 k0_h3 => k0_hw3.2.2.1.2.2.2.2.2.2.2.2.1 k0_t9 k0_h3
theorem k0_off101_inb : ∀ (v5 : BitVec 32) (k0_hw3 : k0_chk3 v5) (k0_t9 : Fin (k0_t9_loop v5).trips), ∀ (k0_h3 : k0_cond3 v5 k0_t9 = 1#1), ∀ a, (k0_off101 v5 k0_t9) a + S1x24x2048.size a ≤ S2x24x2048.size a := fun v5 k0_hw3 k0_t9 k0_h3 => k0_hw3.2.2.1.2.2.2.2.2.2.2.2.2.1 k0_t9 k0_h3
theorem k0_off101_wordsi8 : ∀ (v5 : BitVec 32) (k0_hw3 : k0_chk3 v5) (k0_t9 : Fin (k0_t9_loop v5).trips), ∀ (k0_h3 : k0_cond3 v5 k0_t9 = 1#1), (Rect.unit (s := S2x24x2048) (k0_off101 v5 k0_t9) S1x24x2048.size (k0_off101_inb v5 k0_hw3 k0_t9 k0_h3)).WholeWords (EltTy.packing .i8) := fun v5 k0_hw3 k0_t9 k0_h3 => k0_hw3.2.2.1.2.2.2.2.2.2.2.2.2.2.1 k0_t9 k0_h3 (k0_off101_inb v5 k0_hw3 k0_t9 k0_h3)
theorem k0_off103_inb : ∀ (v5 : BitVec 32) (k0_hw3 : k0_chk3 v5) (k0_t9 : Fin (k0_t9_loop v5).trips), ∀ (k0_h3 : k0_cond3 v5 k0_t9 = 1#1), ∀ a, (k0_off103 v5 k0_t9) a + S1x1.size a ≤ S2x4.size a := fun v5 k0_hw3 k0_t9 k0_h3 => k0_hw3.2.2.1.2.2.2.2.2.2.2.2.2.2.2.1 k0_t9 k0_h3
theorem k0_off104_inb : ∀ (v5 : BitVec 32) (k0_hw3 : k0_chk3 v5) (k0_t9 : Fin (k0_t9_loop v5).trips), ∀ (k0_h3 : k0_cond3 v5 k0_t9 = 1#1), ∀ a, (k0_off104 v5 k0_t9) a + S1x16x3072.size a ≤ S2x16x3072.size a := fun v5 k0_hw3 k0_t9 k0_h3 => k0_hw3.2.2.1.2.2.2.2.2.2.2.2.2.2.2.2.1 k0_t9 k0_h3
theorem k0_off104_wordsbf16 : ∀ (v5 : BitVec 32) (k0_hw3 : k0_chk3 v5) (k0_t9 : Fin (k0_t9_loop v5).trips), ∀ (k0_h3 : k0_cond3 v5 k0_t9 = 1#1), (Rect.unit (s := S2x16x3072) (k0_off104 v5 k0_t9) S1x16x3072.size (k0_off104_inb v5 k0_hw3 k0_t9 k0_h3)).WholeWords (EltTy.packing .bf16) := fun v5 k0_hw3 k0_t9 k0_h3 => k0_hw3.2.2.1.2.2.2.2.2.2.2.2.2.2.2.2.2.1 k0_t9 k0_h3 (k0_off104_inb v5 k0_hw3 k0_t9 k0_h3)
theorem k0_off106_inb : ∀ (v5 : BitVec 32) (k0_hw3 : k0_chk3 v5) (k0_t9 : Fin (k0_t9_loop v5).trips), ∀ (k0_h3 : k0_cond3 v5 k0_t9 = 1#1), ∀ a, (k0_off106 v5 k0_t9) a + S1x1.size a ≤ S2x4.size a := fun v5 k0_hw3 k0_t9 k0_h3 => k0_hw3.2.2.1.2.2.2.2.2.2.2.2.2.2.2.2.2.2.1 k0_t9 k0_h3
theorem k0_off107_inb : ∀ (v5 : BitVec 32) (k0_hw3 : k0_chk3 v5) (k0_t9 : Fin (k0_t9_loop v5).trips), ∀ (k0_h3 : k0_cond3 v5 k0_t9 = 1#1), ∀ a, (k0_off107 v5 k0_t9) a + S1x16x1536.size a ≤ S2x16x1536.size a := fun v5 k0_hw3 k0_t9 k0_h3 => k0_hw3.2.2.1.2.2.2.2.2.2.2.2.2.2.2.2.2.2.2.1 k0_t9 k0_h3
theorem k0_off107_wordsi8 : ∀ (v5 : BitVec 32) (k0_hw3 : k0_chk3 v5) (k0_t9 : Fin (k0_t9_loop v5).trips), ∀ (k0_h3 : k0_cond3 v5 k0_t9 = 1#1), (Rect.unit (s := S2x16x1536) (k0_off107 v5 k0_t9) S1x16x1536.size (k0_off107_inb v5 k0_hw3 k0_t9 k0_h3)).WholeWords (EltTy.packing .i8) := fun v5 k0_hw3 k0_t9 k0_h3 => k0_hw3.2.2.1.2.2.2.2.2.2.2.2.2.2.2.2.2.2.2.2.1 k0_t9 k0_h3 (k0_off107_inb v5 k0_hw3 k0_t9 k0_h3)
theorem k0_off109_inb : ∀ (v5 : BitVec 32) (k0_hw3 : k0_chk3 v5) (k0_t9 : Fin (k0_t9_loop v5).trips), ∀ (k0_h3 : k0_cond3 v5 k0_t9 = 1#1), ∀ a, (k0_off109 v5 k0_t9) a + S1x1.size a ≤ S2x4.size a := fun v5 k0_hw3 k0_t9 k0_h3 => k0_hw3.2.2.1.2.2.2.2.2.2.2.2.2.2.2.2.2.2.2.2.2.1 k0_t9 k0_h3
theorem k0_off110_inb : ∀ (v5 : BitVec 32) (k0_hw3 : k0_chk3 v5) (k0_t9 : Fin (k0_t9_loop v5).trips), ∀ (k0_h3 : k0_cond3 v5 k0_t9 = 1#1), ∀ a, (k0_off110 v5 k0_t9) a + S1x1536x512.size a ≤ S2x1536x4096.size a := fun v5 k0_hw3 k0_t9 k0_h3 => k0_hw3.2.2.1.2.2.2.2.2.2.2.2.2.2.2.2.2.2.2.2.2.2.1 k0_t9 k0_h3
theorem k0_off110_wordsi8 : ∀ (v5 : BitVec 32) (k0_hw3 : k0_chk3 v5) (k0_t9 : Fin (k0_t9_loop v5).trips), ∀ (k0_h3 : k0_cond3 v5 k0_t9 = 1#1), (Rect.unit (s := S2x1536x4096) (k0_off110 v5 k0_t9) S1x1536x512.size (k0_off110_inb v5 k0_hw3 k0_t9 k0_h3)).WholeWords (EltTy.packing .i8) := fun v5 k0_hw3 k0_t9 k0_h3 => k0_hw3.2.2.1.2.2.2.2.2.2.2.2.2.2.2.2.2.2.2.2.2.2.2.1 k0_t9 k0_h3 (k0_off110_inb v5 k0_hw3 k0_t9 k0_h3)
theorem k0_off112_inb : ∀ (v5 : BitVec 32) (k0_hw3 : k0_chk3 v5) (k0_t9 : Fin (k0_t9_loop v5).trips), ∀ (k0_h3 : k0_cond3 v5 k0_t9 = 1#1), ∀ a, (k0_off112 v5 k0_t9) a + S1x1536x512.size a ≤ S2x1536x4096.size a := fun v5 k0_hw3 k0_t9 k0_h3 => k0_hw3.2.2.1.2.2.2.2.2.2.2.2.2.2.2.2.2.2.2.2.2.2.2.2.1 k0_t9 k0_h3
theorem k0_off112_wordsi8 : ∀ (v5 : BitVec 32) (k0_hw3 : k0_chk3 v5) (k0_t9 : Fin (k0_t9_loop v5).trips), ∀ (k0_h3 : k0_cond3 v5 k0_t9 = 1#1), (Rect.unit (s := S2x1536x4096) (k0_off112 v5 k0_t9) S1x1536x512.size (k0_off112_inb v5 k0_hw3 k0_t9 k0_h3)).WholeWords (EltTy.packing .i8) := fun v5 k0_hw3 k0_t9 k0_h3 => k0_hw3.2.2.1.2.2.2.2.2.2.2.2.2.2.2.2.2.2.2.2.2.2.2.2.2.1 k0_t9 k0_h3 (k0_off112_inb v5 k0_hw3 k0_t9 k0_h3)
theorem k0_off114_inb : ∀ (v5 : BitVec 32) (k0_hw3 : k0_chk3 v5) (k0_t9 : Fin (k0_t9_loop v5).trips), ∀ (k0_h3 : k0_cond3 v5 k0_t9 = 1#1), ∀ a, (k0_off114 v5 k0_t9) a + S1x1536x512.size a ≤ S2x1536x4096.size a := fun v5 k0_hw3 k0_t9 k0_h3 => k0_hw3.2.2.1.2.2.2.2.2.2.2.2.2.2.2.2.2.2.2.2.2.2.2.2.2.2.1 k0_t9 k0_h3
theorem k0_off114_wordsi8 : ∀ (v5 : BitVec 32) (k0_hw3 : k0_chk3 v5) (k0_t9 : Fin (k0_t9_loop v5).trips), ∀ (k0_h3 : k0_cond3 v5 k0_t9 = 1#1), (Rect.unit (s := S2x1536x4096) (k0_off114 v5 k0_t9) S1x1536x512.size (k0_off114_inb v5 k0_hw3 k0_t9 k0_h3)).WholeWords (EltTy.packing .i8) := fun v5 k0_hw3 k0_t9 k0_h3 => k0_hw3.2.2.1.2.2.2.2.2.2.2.2.2.2.2.2.2.2.2.2.2.2.2.2.2.2.2.1 k0_t9 k0_h3 (k0_off114_inb v5 k0_hw3 k0_t9 k0_h3)
theorem k0_off116_inb : ∀ (v5 : BitVec 32) (k0_hw3 : k0_chk3 v5) (k0_t9 : Fin (k0_t9_loop v5).trips), ∀ (k0_h3 : k0_cond3 v5 k0_t9 = 1#1), ∀ a, (k0_off116 v5 k0_t9) a + S1x1536x512.size a ≤ S2x1536x4096.size a := fun v5 k0_hw3 k0_t9 k0_h3 => k0_hw3.2.2.1.2.2.2.2.2.2.2.2.2.2.2.2.2.2.2.2.2.2.2.2.2.2.2.2.1 k0_t9 k0_h3
theorem k0_off116_wordsi8 : ∀ (v5 : BitVec 32) (k0_hw3 : k0_chk3 v5) (k0_t9 : Fin (k0_t9_loop v5).trips), ∀ (k0_h3 : k0_cond3 v5 k0_t9 = 1#1), (Rect.unit (s := S2x1536x4096) (k0_off116 v5 k0_t9) S1x1536x512.size (k0_off116_inb v5 k0_hw3 k0_t9 k0_h3)).WholeWords (EltTy.packing .i8) := fun v5 k0_hw3 k0_t9 k0_h3 => k0_hw3.2.2.1.2.2.2.2.2.2.2.2.2.2.2.2.2.2.2.2.2.2.2.2.2.2.2.2.2.1 k0_t9 k0_h3 (k0_off116_inb v5 k0_hw3 k0_t9 k0_h3)
theorem k0_off118_inb : ∀ (v5 : BitVec 32) (k0_hw3 : k0_chk3 v5) (k0_t9 : Fin (k0_t9_loop v5).trips), ∀ (k0_h3 : k0_cond3 v5 k0_t9 = 1#1), ∀ a, (k0_off118 v5 k0_t9) a + S1x1536x512.size a ≤ S2x1536x4096.size a := fun v5 k0_hw3 k0_t9 k0_h3 => k0_hw3.2.2.1.2.2.2.2.2.2.2.2.2.2.2.2.2.2.2.2.2.2.2.2.2.2.2.2.2.2.1 k0_t9 k0_h3
theorem k0_off118_wordsi8 : ∀ (v5 : BitVec 32) (k0_hw3 : k0_chk3 v5) (k0_t9 : Fin (k0_t9_loop v5).trips), ∀ (k0_h3 : k0_cond3 v5 k0_t9 = 1#1), (Rect.unit (s := S2x1536x4096) (k0_off118 v5 k0_t9) S1x1536x512.size (k0_off118_inb v5 k0_hw3 k0_t9 k0_h3)).WholeWords (EltTy.packing .i8) := fun v5 k0_hw3 k0_t9 k0_h3 => k0_hw3.2.2.1.2.2.2.2.2.2.2.2.2.2.2.2.2.2.2.2.2.2.2.2.2.2.2.2.2.2.2.1 k0_t9 k0_h3 (k0_off118_inb v5 k0_hw3 k0_t9 k0_h3)
theorem k0_off120_inb : ∀ (v5 : BitVec 32) (k0_hw3 : k0_chk3 v5) (k0_t9 : Fin (k0_t9_loop v5).trips), ∀ (k0_h3 : k0_cond3 v5 k0_t9 = 1#1), ∀ a, (k0_off120 v5 k0_t9) a + S1x1536x512.size a ≤ S2x1536x4096.size a := fun v5 k0_hw3 k0_t9 k0_h3 => k0_hw3.2.2.1.2.2.2.2.2.2.2.2.2.2.2.2.2.2.2.2.2.2.2.2.2.2.2.2.2.2.2.2.1 k0_t9 k0_h3
theorem k0_off120_wordsi8 : ∀ (v5 : BitVec 32) (k0_hw3 : k0_chk3 v5) (k0_t9 : Fin (k0_t9_loop v5).trips), ∀ (k0_h3 : k0_cond3 v5 k0_t9 = 1#1), (Rect.unit (s := S2x1536x4096) (k0_off120 v5 k0_t9) S1x1536x512.size (k0_off120_inb v5 k0_hw3 k0_t9 k0_h3)).WholeWords (EltTy.packing .i8) := fun v5 k0_hw3 k0_t9 k0_h3 => k0_hw3.2.2.1.2.2.2.2.2.2.2.2.2.2.2.2.2.2.2.2.2.2.2.2.2.2.2.2.2.2.2.2.2.1 k0_t9 k0_h3 (k0_off120_inb v5 k0_hw3 k0_t9 k0_h3)
theorem k0_off122_inb : ∀ (v5 : BitVec 32) (k0_hw3 : k0_chk3 v5) (k0_t9 : Fin (k0_t9_loop v5).trips), ∀ (k0_h3 : k0_cond3 v5 k0_t9 = 1#1), ∀ a, (k0_off122 v5 k0_t9) a + S1x1536x512.size a ≤ S2x1536x4096.size a := fun v5 k0_hw3 k0_t9 k0_h3 => k0_hw3.2.2.1.2.2.2.2.2.2.2.2.2.2.2.2.2.2.2.2.2.2.2.2.2.2.2.2.2.2.2.2.2.2.1 k0_t9 k0_h3
theorem k0_off122_wordsi8 : ∀ (v5 : BitVec 32) (k0_hw3 : k0_chk3 v5) (k0_t9 : Fin (k0_t9_loop v5).trips), ∀ (k0_h3 : k0_cond3 v5 k0_t9 = 1#1), (Rect.unit (s := S2x1536x4096) (k0_off122 v5 k0_t9) S1x1536x512.size (k0_off122_inb v5 k0_hw3 k0_t9 k0_h3)).WholeWords (EltTy.packing .i8) := fun v5 k0_hw3 k0_t9 k0_h3 => k0_hw3.2.2.1.2.2.2.2.2.2.2.2.2.2.2.2.2.2.2.2.2.2.2.2.2.2.2.2.2.2.2.2.2.2.2 k0_t9 k0_h3 (k0_off122_inb v5 k0_hw3 k0_t9 k0_h3)
theorem k0_off124_inb : ∀ (v5 : BitVec 32) (k0_hw3 : k0_chk3 v5) (k0_t9 : Fin (k0_t9_loop v5).trips), ∀ (k0_h3 : k0_cond3 v5 k0_t9 = 1#1), ∀ a, (k0_off124 v5 k0_t9) a + S1x1536x512.size a ≤ S2x1536x4096.size a := fun v5 k0_hw3 k0_t9 k0_h3 => k0_hw3.2.2.2.1.1 k0_t9 k0_h3
theorem k0_off124_wordsi8 : ∀ (v5 : BitVec 32) (k0_hw3 : k0_chk3 v5) (k0_t9 : Fin (k0_t9_loop v5).trips), ∀ (k0_h3 : k0_cond3 v5 k0_t9 = 1#1), (Rect.unit (s := S2x1536x4096) (k0_off124 v5 k0_t9) S1x1536x512.size (k0_off124_inb v5 k0_hw3 k0_t9 k0_h3)).WholeWords (EltTy.packing .i8) := fun v5 k0_hw3 k0_t9 k0_h3 => k0_hw3.2.2.2.1.2.1 k0_t9 k0_h3 (k0_off124_inb v5 k0_hw3 k0_t9 k0_h3)
theorem k0_off126_inb : ∀ (v5 : BitVec 32) (k0_hw3 : k0_chk3 v5) (k0_t9 : Fin (k0_t9_loop v5).trips), ∀ (k0_h3 : k0_cond3 v5 k0_t9 = 1#1), ∀ a, (k0_off126 v5 k0_t9) a + S1x1.size a ≤ S2x2.size a := fun v5 k0_hw3 k0_t9 k0_h3 => k0_hw3.2.2.2.1.2.2.1 k0_t9 k0_h3
theorem k0_off127_inb : ∀ (v5 : BitVec 32) (k0_hw3 : k0_chk3 v5) (k0_t9 : Fin (k0_t9_loop v5).trips), ∀ (k0_h3 : k0_cond3 v5 k0_t9 = 1#1), ∀ a, (k0_off127 v5 k0_t9) a + S1x1024x1536.size a ≤ S2x1024x3072.size a := fun v5 k0_hw3 k0_t9 k0_h3 => k0_hw3.2.2.2.1.2.2.2.1 k0_t9 k0_h3
theorem k0_off127_wordsi8 : ∀ (v5 : BitVec 32) (k0_hw3 : k0_chk3 v5) (k0_t9 : Fin (k0_t9_loop v5).trips), ∀ (k0_h3 : k0_cond3 v5 k0_t9 = 1#1), (Rect.unit (s := S2x1024x3072) (k0_off127 v5 k0_t9) S1x1024x1536.size (k0_off127_inb v5 k0_hw3 k0_t9 k0_h3)).WholeWords (EltTy.packing .i8) := fun v5 k0_hw3 k0_t9 k0_h3 => k0_hw3.2.2.2.1.2.2.2.2.1 k0_t9 k0_h3 (k0_off127_inb v5 k0_hw3 k0_t9 k0_h3)
theorem k0_off129_inb : ∀ (v5 : BitVec 32) (k0_hw3 : k0_chk3 v5) (k0_t9 : Fin (k0_t9_loop v5).trips), ∀ (k0_h3 : k0_cond3 v5 k0_t9 = 1#1), ∀ a, (k0_off129 v5 k0_t9) a + S1x1.size a ≤ S2x2.size a := fun v5 k0_hw3 k0_t9 k0_h3 => k0_hw3.2.2.2.1.2.2.2.2.2.1 k0_t9 k0_h3
theorem k0_off130_inb : ∀ (v5 : BitVec 32) (k0_hw3 : k0_chk3 v5) (k0_t9 : Fin (k0_t9_loop v5).trips), ∀ (k0_h3 : k0_cond3 v5 k0_t9 = 1#1), ∀ a, (k0_off130 v5 k0_t9) a + S1x1024x1536.size a ≤ S2x1024x3072.size a := fun v5 k0_hw3 k0_t9 k0_h3 => k0_hw3.2.2.2.1.2.2.2.2.2.2.1 k0_t9 k0_h3
theorem k0_off130_wordsi8 : ∀ (v5 : BitVec 32) (k0_hw3 : k0_chk3 v5) (k0_t9 : Fin (k0_t9_loop v5).trips), ∀ (k0_h3 : k0_cond3 v5 k0_t9 = 1#1), (Rect.unit (s := S2x1024x3072) (k0_off130 v5 k0_t9) S1x1024x1536.size (k0_off130_inb v5 k0_hw3 k0_t9 k0_h3)).WholeWords (EltTy.packing .i8) := fun v5 k0_hw3 k0_t9 k0_h3 => k0_hw3.2.2.2.1.2.2.2.2.2.2.2.1 k0_t9 k0_h3 (k0_off130_inb v5 k0_hw3 k0_t9 k0_h3)
theorem k0_off132_inb : ∀ (v5 : BitVec 32) (k0_hw3 : k0_chk3 v5) (k0_t9 : Fin (k0_t9_loop v5).trips), ∀ a, (k0_off132 v5 k0_t9) a + S1x1.size a ≤ S2x4.size a := fun v5 k0_hw3 k0_t9 => k0_hw3.2.2.2.1.2.2.2.2.2.2.2.2.1 k0_t9
theorem k0_off133_inb : ∀ (v5 : BitVec 32) (k0_hw3 : k0_chk3 v5) (k0_t9 : Fin (k0_t9_loop v5).trips), ∀ a, (k0_off133 v5 k0_t9) a + S1x24x4096.size a ≤ S2x24x4096.size a := fun v5 k0_hw3 k0_t9 => k0_hw3.2.2.2.1.2.2.2.2.2.2.2.2.2.1 k0_t9
theorem k0_off133_wordsbf16 : ∀ (v5 : BitVec 32) (k0_hw3 : k0_chk3 v5) (k0_t9 : Fin (k0_t9_loop v5).trips), (Rect.unit (s := S2x24x4096) (k0_off133 v5 k0_t9) S1x24x4096.size (k0_off133_inb v5 k0_hw3 k0_t9)).WholeWords (EltTy.packing .bf16) := fun v5 k0_hw3 k0_t9 => k0_hw3.2.2.2.1.2.2.2.2.2.2.2.2.2.2.1 k0_t9 (k0_off133_inb v5 k0_hw3 k0_t9)
theorem k0_off135_inb : ∀ (v5 : BitVec 32) (k0_hw3 : k0_chk3 v5) (k0_t9 : Fin (k0_t9_loop v5).trips), ∀ a, (k0_off135 v5 k0_t9) a + S1x1.size a ≤ S2x4.size a := fun v5 k0_hw3 k0_t9 => k0_hw3.2.2.2.1.2.2.2.2.2.2.2.2.2.2.2.1 k0_t9
theorem k0_off136_inb : ∀ (v5 : BitVec 32) (k0_hw3 : k0_chk3 v5) (k0_t9 : Fin (k0_t9_loop v5).trips), ∀ a, (k0_off136 v5 k0_t9) a + S1x24x2048.size a ≤ S2x24x2048.size a := fun v5 k0_hw3 k0_t9 => k0_hw3.2.2.2.1.2.2.2.2.2.2.2.2.2.2.2.2.1 k0_t9
theorem k0_off136_wordsi8 : ∀ (v5 : BitVec 32) (k0_hw3 : k0_chk3 v5) (k0_t9 : Fin (k0_t9_loop v5).trips), (Rect.unit (s := S2x24x2048) (k0_off136 v5 k0_t9) S1x24x2048.size (k0_off136_inb v5 k0_hw3 k0_t9)).WholeWords (EltTy.packing .i8) := fun v5 k0_hw3 k0_t9 => k0_hw3.2.2.2.1.2.2.2.2.2.2.2.2.2.2.2.2.2.1 k0_t9 (k0_off136_inb v5 k0_hw3 k0_t9)
theorem k0_off138_inb : ∀ (v5 : BitVec 32) (k0_hw3 : k0_chk3 v5) (k0_t9 : Fin (k0_t9_loop v5).trips), ∀ a, (k0_off138 v5 k0_t9) a + S1x1.size a ≤ S2x4.size a := fun v5 k0_hw3 k0_t9 => k0_hw3.2.2.2.1.2.2.2.2.2.2.2.2.2.2.2.2.2.2.1 k0_t9
theorem k0_off139_inb : ∀ (v5 : BitVec 32) (k0_hw3 : k0_chk3 v5) (k0_t9 : Fin (k0_t9_loop v5).trips), ∀ a, (k0_off139 v5 k0_t9) a + S1x16x3072.size a ≤ S2x16x3072.size a := fun v5 k0_hw3 k0_t9 => k0_hw3.2.2.2.1.2.2.2.2.2.2.2.2.2.2.2.2.2.2.2.1 k0_t9
theorem k0_off139_wordsbf16 : ∀ (v5 : BitVec 32) (k0_hw3 : k0_chk3 v5) (k0_t9 : Fin (k0_t9_loop v5).trips), (Rect.unit (s := S2x16x3072) (k0_off139 v5 k0_t9) S1x16x3072.size (k0_off139_inb v5 k0_hw3 k0_t9)).WholeWords (EltTy.packing .bf16) := fun v5 k0_hw3 k0_t9 => k0_hw3.2.2.2.1.2.2.2.2.2.2.2.2.2.2.2.2.2.2.2.2.1 k0_t9 (k0_off139_inb v5 k0_hw3 k0_t9)
theorem k0_off141_inb : ∀ (v5 : BitVec 32) (k0_hw3 : k0_chk3 v5) (k0_t9 : Fin (k0_t9_loop v5).trips), ∀ a, (k0_off141 v5 k0_t9) a + S1x1.size a ≤ S2x4.size a := fun v5 k0_hw3 k0_t9 => k0_hw3.2.2.2.1.2.2.2.2.2.2.2.2.2.2.2.2.2.2.2.2.2.1 k0_t9
theorem k0_off142_inb : ∀ (v5 : BitVec 32) (k0_hw3 : k0_chk3 v5) (k0_t9 : Fin (k0_t9_loop v5).trips), ∀ a, (k0_off142 v5 k0_t9) a + S1x16x1536.size a ≤ S2x16x1536.size a := fun v5 k0_hw3 k0_t9 => k0_hw3.2.2.2.1.2.2.2.2.2.2.2.2.2.2.2.2.2.2.2.2.2.2.1 k0_t9
theorem k0_off142_wordsi8 : ∀ (v5 : BitVec 32) (k0_hw3 : k0_chk3 v5) (k0_t9 : Fin (k0_t9_loop v5).trips), (Rect.unit (s := S2x16x1536) (k0_off142 v5 k0_t9) S1x16x1536.size (k0_off142_inb v5 k0_hw3 k0_t9)).WholeWords (EltTy.packing .i8) := fun v5 k0_hw3 k0_t9 => k0_hw3.2.2.2.1.2.2.2.2.2.2.2.2.2.2.2.2.2.2.2.2.2.2.2.1 k0_t9 (k0_off142_inb v5 k0_hw3 k0_t9)
theorem k0_off144_inb : ∀ (v5 : BitVec 32) (k0_hw3 : k0_chk3 v5) (k0_t9 : Fin (k0_t9_loop v5).trips), ∀ a, (k0_off144 v5 k0_t9) a + S1x24x4096.size a ≤ S2x24x4096.size a := fun v5 k0_hw3 k0_t9 => k0_hw3.2.2.2.1.2.2.2.2.2.2.2.2.2.2.2.2.2.2.2.2.2.2.2.2.1 k0_t9
theorem k0_off145_inb : ∀ (v5 : BitVec 32) (k0_hw3 : k0_chk3 v5) (k0_t9 : Fin (k0_t9_loop v5).trips), ∀ a, (k0_off145 v5 k0_t9) a + S1x16x3072.size a ≤ S2x16x3072.size a := fun v5 k0_hw3 k0_t9 => k0_hw3.2.2.2.1.2.2.2.2.2.2.2.2.2.2.2.2.2.2.2.2.2.2.2.2.2.1 k0_t9
theorem k0_off146_inb : ∀ (v5 : BitVec 32) (k0_hw3 : k0_chk3 v5) (k0_t9 : Fin (k0_t9_loop v5).trips), ∀ a, (k0_off146 v5 k0_t9) a + S1x24x2048.size a ≤ S2x24x2048.size a := fun v5 k0_hw3 k0_t9 => k0_hw3.2.2.2.1.2.2.2.2.2.2.2.2.2.2.2.2.2.2.2.2.2.2.2.2.2.2.1 k0_t9
theorem k0_off147_inb : ∀ (v5 : BitVec 32) (k0_hw3 : k0_chk3 v5) (k0_t9 : Fin (k0_t9_loop v5).trips), ∀ a, (k0_off147 v5 k0_t9) a + S1x16x1536.size a ≤ S2x16x1536.size a := fun v5 k0_hw3 k0_t9 => k0_hw3.2.2.2.1.2.2.2.2.2.2.2.2.2.2.2.2.2.2.2.2.2.2.2.2.2.2.2.1 k0_t9
theorem k0_off149_inb : ∀ (v5 : BitVec 32) (k0_hw3 : k0_chk3 v5) (k0_t9 : Fin (k0_t9_loop v5).trips) (k0_t10 : Fin k0_t10_loop.trips), ∀ a, (k0_off149 v5 k0_t9 k0_t10) a + S1x1.size a ≤ S2x4.size a := fun v5 k0_hw3 k0_t9 k0_t10 => k0_hw3.2.2.2.1.2.2.2.2.2.2.2.2.2.2.2.2.2.2.2.2.2.2.2.2.2.2.2.2.1 k0_t9 k0_t10
theorem k0_off150_inb : ∀ (v5 : BitVec 32) (k0_hw3 : k0_chk3 v5) (k0_t9 : Fin (k0_t9_loop v5).trips) (k0_t10 : Fin k0_t10_loop.trips), ∀ (r : Fin 2), ∀ a, (k0_off150 v5 k0_t9 k0_t10 (BitVec.ofNat 32 (2048 * r.val))) a + S1x1536x512.size a ≤ S2x1536x4096.size a := fun v5 k0_hw3 k0_t9 k0_t10 r => k0_hw3.2.2.2.1.2.2.2.2.2.2.2.2.2.2.2.2.2.2.2.2.2.2.2.2.2.2.2.2.2.1 k0_t9 k0_t10 r
theorem k0_off150_wordsi8 : ∀ (v5 : BitVec 32) (k0_hw3 : k0_chk3 v5) (k0_t9 : Fin (k0_t9_loop v5).trips) (k0_t10 : Fin k0_t10_loop.trips), ∀ (r : Fin 2), (Rect.unit (s := S2x1536x4096) (k0_off150 v5 k0_t9 k0_t10 (BitVec.ofNat 32 (2048 * r.val))) S1x1536x512.size (k0_off150_inb v5 k0_hw3 k0_t9 k0_t10 r)).WholeWords (EltTy.packing .i8) := fun v5 k0_hw3 k0_t9 k0_t10 r => k0_hw3.2.2.2.1.2.2.2.2.2.2.2.2.2.2.2.2.2.2.2.2.2.2.2.2.2.2.2.2.2.2.1 k0_t9 k0_t10 r (k0_off150_inb v5 k0_hw3 k0_t9 k0_t10 r)
theorem k0_off153_inb : ∀ (v5 : BitVec 32) (k0_hw3 : k0_chk3 v5) (k0_t9 : Fin (k0_t9_loop v5).trips) (k0_t10 : Fin k0_t10_loop.trips) (k0_t11 : Fin k0_t11_loop.trips) (k0_t12 : Fin k0_t12_loop.trips), ∀ a, (k0_off153 v5 k0_t9 k0_t10 k0_t11 k0_t12) a + S1x64x256.size a ≤ S2x1536x4096.size a := fun v5 k0_hw3 k0_t9 k0_t10 k0_t11 k0_t12 => k0_hw3.2.2.2.1.2.2.2.2.2.2.2.2.2.2.2.2.2.2.2.2.2.2.2.2.2.2.2.2.2.2.2.1 k0_t9 k0_t10 k0_t11 k0_t12
theorem k0_off155_inb : ∀ (v5 : BitVec 32) (k0_hw3 : k0_chk3 v5) (k0_t9 : Fin (k0_t9_loop v5).trips) (k0_t10 : Fin k0_t10_loop.trips) (k0_t11 : Fin k0_t11_loop.trips) (k0_t12 : Fin k0_t12_loop.trips), ∀ a, (k0_off155 v5 k0_t9 k0_t10 k0_t11 k0_t12) a + S1x64x256.size a ≤ S2x1536x4096.size a := fun v5 k0_hw3 k0_t9 k0_t10 k0_t11 k0_t12 => k0_hw3.2.2.2.1.2.2.2.2.2.2.2.2.2.2.2.2.2.2.2.2.2.2.2.2.2.2.2.2.2.2.2.2.1 k0_t9 k0_t10 k0_t11 k0_t12
theorem k0_off157_inb : ∀ (v5 : BitVec 32) (k0_hw3 : k0_chk3 v5) (k0_t9 : Fin (k0_t9_loop v5).trips) (k0_t10 : Fin k0_t10_loop.trips) (k0_t11 : Fin k0_t11_loop.trips) (k0_t12 : Fin k0_t12_loop.trips), ∀ a, (k0_off157 v5 k0_t9 k0_t10 k0_t11 k0_t12) a + S1x64x256.size a ≤ S2x1536x4096.size a := fun v5 k0_hw3 k0_t9 k0_t10 k0_t11 k0_t12 => k0_hw3.2.2.2.1.2.2.2.2.2.2.2.2.2.2.2.2.2.2.2.2.2.2.2.2.2.2.2.2.2.2.2.2.2.1 k0_t9 k0_t10 k0_t11 k0_t12
theorem k0_off159_inb : ∀ (v5 : BitVec 32) (k0_hw3 : k0_chk3 v5) (k0_t9 : Fin (k0_t9_loop v5).trips) (k0_t10 : Fin k0_t10_loop.trips) (k0_t11 : Fin k0_t11_loop.trips) (k0_t12 : Fin k0_t12_loop.trips), ∀ a, (k0_off159 v5 k0_t9 k0_t10 k0_t11 k0_t12) a + S1x64x256.size a ≤ S2x1536x4096.size a := fun v5 k0_hw3 k0_t9 k0_t10 k0_t11 k0_t12 => k0_hw3.2.2.2.1.2.2.2.2.2.2.2.2.2.2.2.2.2.2.2.2.2.2.2.2.2.2.2.2.2.2.2.2.2.2.1 k0_t9 k0_t10 k0_t11 k0_t12
theorem k0_off163_inb : ∀ (v5 : BitVec 32) (k0_hw3 : k0_chk3 v5) (k0_t9 : Fin (k0_t9_loop v5).trips) (k0_t13 : Fin k0_t13_loop.trips), ∀ a, (k0_off163 v5 k0_t9 k0_t13) a + S1x1.size a ≤ S2x2.size a := fun v5 k0_hw3 k0_t9 k0_t13 => k0_hw3.2.2.2.1.2.2.2.2.2.2.2.2.2.2.2.2.2.2.2.2.2.2.2.2.2.2.2.2.2.2.2.2.2.2.2 k0_t9 k0_t13
theorem k0_off164_inb : ∀ (v5 : BitVec 32) (k0_hw3 : k0_chk3 v5) (k0_t9 : Fin (k0_t9_loop v5).trips) (k0_t13 : Fin k0_t13_loop.trips), ∀ a, (k0_off164 v5 k0_t9 k0_t13) a + S1x1024x1536.size a ≤ S2x1024x3072.size a := fun v5 k0_hw3 k0_t9 k0_t13 => k0_hw3.2.2.2.2.1 k0_t9 k0_t13
theorem k0_off164_wordsi8 : ∀ (v5 : BitVec 32) (k0_hw3 : k0_chk3 v5) (k0_t9 : Fin (k0_t9_loop v5).trips) (k0_t13 : Fin k0_t13_loop.trips), (Rect.unit (s := S2x1024x3072) (k0_off164 v5 k0_t9 k0_t13) S1x1024x1536.size (k0_off164_inb v5 k0_hw3 k0_t9 k0_t13)).WholeWords (EltTy.packing .i8) := fun v5 k0_hw3 k0_t9 k0_t13 => k0_hw3.2.2.2.2.2.1 k0_t9 k0_t13 (k0_off164_inb v5 k0_hw3 k0_t9 k0_t13)
theorem k0_off167_inb : ∀ (v5 : BitVec 32) (k0_hw3 : k0_chk3 v5) (k0_t9 : Fin (k0_t9_loop v5).trips) (k0_t13 : Fin k0_t13_loop.trips) (k0_t14 : Fin k0_t14_loop.trips) (k0_t15 : Fin k0_t15_loop.trips), ∀ a, (k0_off167 v5 k0_t9 k0_t13 k0_t14 k0_t15) a + S1x64x256.size a ≤ S2x1024x3072.size a := fun v5 k0_hw3 k0_t9 k0_t13 k0_t14 k0_t15 => k0_hw3.2.2.2.2.2.2.1 k0_t9 k0_t13 k0_t14 k0_t15
theorem k0_off169_inb : ∀ (v5 : BitVec 32) (k0_hw3 : k0_chk3 v5) (k0_t9 : Fin (k0_t9_loop v5).trips) (k0_t13 : Fin k0_t13_loop.trips) (k0_t14 : Fin k0_t14_loop.trips) (k0_t15 : Fin k0_t15_loop.trips), ∀ a, (k0_off169 v5 k0_t9 k0_t13 k0_t14 k0_t15) a + S1x64x256.size a ≤ S2x1024x3072.size a := fun v5 k0_hw3 k0_t9 k0_t13 k0_t14 k0_t15 => k0_hw3.2.2.2.2.2.2.2 k0_t9 k0_t13 k0_t14 k0_t15

def k0_off170 (k0_t13 : Fin k0_t13_loop.trips) (k0_t14 : Fin k0_t14_loop.trips) (k0_t15 : Fin k0_t15_loop.trips) : Fin 2 → Nat :=
  let c2_i32_90 : BitVec 32 := 2#32
  let c0_i32_82 : BitVec 32 := 0#32
  let c1_i32_83 : BitVec 32 := 1#32
  let arg30 : BitVec 32 := Scf.iv c0_i32_82 c1_i32_83 k0_t15
  let v138 : BitVec 32 := Scalar.muli c2_i32_90 arg30
  let c1_i32_91 : BitVec 32 := 1#32
  let v139 : BitVec 32 := Scalar.addi v138 c1_i32_91
  let v182 : Index := Scalar.indexCast v139
  let c0_i32_71 : BitVec 32 := 0#32
  let c1_i32_73 : BitVec 32 := 1#32
  let arg28 : BitVec 32 := Scf.iv c0_i32_71 c1_i32_73 k0_t13
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t14
  let v119 : BitVec 32 := Scalar.addi v118 arg29
  let c256_i32 : BitVec 32 := 256#32
  let v120 : BitVec 32 := Scalar.muli v119 c256_i32
  let v121 : BitVec 32 := v120
  let v183 : Index := Scalar.indexCast v121
  ![v182.toNat, v183.toNat]
def k0_off171 (k0_t13 : Fin k0_t13_loop.trips) (k0_t14 : Fin k0_t14_loop.trips) : Fin 2 → Nat :=
  let c0_85 : Index := 0#32
  let c0_i32_71 : BitVec 32 := 0#32
  let c1_i32_73 : BitVec 32 := 1#32
  let arg28 : BitVec 32 := Scf.iv c0_i32_71 c1_i32_73 k0_t13
  let c6_i32_80 : BitVec 32 := 6#32
  let v118 : BitVec 32 := Scalar.muli arg28 c6_i32_80
  let c0_i32_77 : BitVec 32 := 0#32
  let c1_i32_78 : BitVec 32 := 1#32
  let arg29 : BitVec 32 := Scf.iv c0_i32_77 c1_i32_78 k0_t14
  let v119 : BitVec 32 := Scalar.addi v118 arg29
  let c256_i32 : BitVec 32 := 256#32
  let v120 : BitVec 32 := Scalar.muli v119 c256_i32
  let v121 : BitVec 32 := v120
  let v125 : Index := Scalar.indexCast v121
  ![0, v125.toNat]
abbrev stage0_0 : Fin 1 → Memref sig .tc .vmem S96x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S96x1x3072 : Shape := ⟨3, ![96, 1, 3072]⟩
abbrev S96x1x8 : Shape := ⟨3, ![96, 1, 8]⟩
abbrev S16x1536x4096 : Shape := ⟨3, ![16, 1536, 4096]⟩
abbrev S16x24x4096 : Shape := ⟨3, ![16, 24, 4096]⟩
abbrev S16x24x2048 : Shape := ⟨3, ![16, 24, 2048]⟩
abbrev S16x1024x3072 : Shape := ⟨3, ![16, 1024, 3072]⟩
abbrev S16x16x3072 : Shape := ⟨3, ![16, 16, 3072]⟩
abbrev S16x16x1536 : Shape := ⟨3, ![16, 16, 1536]⟩
abbrev S96x3072 : Shape := ⟨2, ![96, 3072]⟩
abbrev S96x8 : Shape := ⟨2, ![96, 8]⟩
abbrev S_ : Shape := ⟨0, ![]⟩
abbrev S16x1536x1x4096 : Shape := ⟨4, ![16, 1536, 1, 4096]⟩
abbrev S16x1536x2x4096 : Shape := ⟨4, ![16, 1536, 2, 4096]⟩
abbrev S16x24x128x4096 : Shape := ⟨4, ![16, 24, 128, 4096]⟩
abbrev S16x24x1x4096 : Shape := ⟨4, ![16, 24, 1, 4096]⟩
abbrev S16x3072x4096 : Shape := ⟨3, ![16, 3072, 4096]⟩
abbrev S16x4096x96 : Shape := ⟨3, ![16, 4096, 96]⟩
abbrev S16x96x4096 : Shape := ⟨3, ![16, 96, 4096]⟩
abbrev S16x96x2048 : Shape := ⟨3, ![16, 96, 2048]⟩
abbrev S16x1024x1x3072 : Shape := ⟨4, ![16, 1024, 1, 3072]⟩
abbrev S16x1024x2x3072 : Shape := ⟨4, ![16, 1024, 2, 3072]⟩
abbrev S16x16x128x3072 : Shape := ⟨4, ![16, 16, 128, 3072]⟩
abbrev S16x16x1x3072 : Shape := ⟨4, ![16, 16, 1, 3072]⟩
abbrev S16x2048x3072 : Shape := ⟨3, ![16, 2048, 3072]⟩
abbrev S16x96x3072 : Shape := ⟨3, ![16, 96, 3072]⟩
abbrev S1x96x8 : Shape := ⟨3, ![1, 96, 8]⟩
abbrev S16 : Shape := ⟨1, ![16]⟩
abbrev S16x1x1 : Shape := ⟨3, ![16, 1, 1]⟩
abbrev S16x96x8 : Shape := ⟨3, ![16, 96, 8]⟩
abbrev S16x96x8x1 : Shape := ⟨4, ![16, 96, 8, 1]⟩
abbrev S16x96x1x3072 : Shape := ⟨4, ![16, 96, 1, 3072]⟩
abbrev S16x96x8x3072 : Shape := ⟨4, ![16, 96, 8, 3072]⟩
abbrev S96x8x3072 : Shape := ⟨3, ![96, 8, 3072]⟩
abbrev S96x8x1 : Shape := ⟨3, ![96, 8, 1]⟩

abbrev nBuf : Space → Nat
  | .hbm => 107
  | .vmem => 0
  | .smem => 0
  | _ => 0

abbrev bufTy : (tb : Table) → Fin (tcTables nBuf tb) → BufTy
  | .hbm, ⟨0, _⟩ => ⟨S96x1x3072, .bf16⟩
  | .hbm, ⟨1, _⟩ => ⟨S96x1x8, .i32⟩
  | .hbm, ⟨2, _⟩ => ⟨S96x1x8, .f32⟩
  | .hbm, ⟨3, _⟩ => ⟨S16x1536x4096, .i8⟩
  | .hbm, ⟨4, _⟩ => ⟨S16x24x4096, .bf16⟩
  | .hbm, ⟨5, _⟩ => ⟨S16x24x2048, .i8⟩
  | .hbm, ⟨6, _⟩ => ⟨S16x1024x3072, .i8⟩
  | .hbm, ⟨7, _⟩ => ⟨S16x16x3072, .bf16⟩
  | .hbm, ⟨8, _⟩ => ⟨S16x16x1536, .i8⟩
  | .hbm, ⟨9, _⟩ => ⟨S96x3072, .bf16⟩
  | .hbm, ⟨10, _⟩ => ⟨S96x8, .i32⟩
  | .hbm, ⟨11, _⟩ => ⟨S96x8, .f32⟩
  | .hbm, ⟨12, _⟩ => ⟨S16x1536x4096, .i32⟩
  | .hbm, ⟨13, _⟩ => ⟨S_, .i32⟩
  | .hbm, ⟨14, _⟩ => ⟨S16x1536x4096, .i32⟩
  | .hbm, ⟨15, _⟩ => ⟨S16x1536x4096, .i32⟩
  | .hbm, ⟨16, _⟩ => ⟨S_, .i32⟩
  | .hbm, ⟨17, _⟩ => ⟨S16x1536x4096, .i32⟩
  | .hbm, ⟨18, _⟩ => ⟨S16x1536x4096, .i32⟩
  | .hbm, ⟨19, _⟩ => ⟨S16x1536x1x4096, .i32⟩
  | .hbm, ⟨20, _⟩ => ⟨S16x1536x1x4096, .i32⟩
  | .hbm, ⟨21, _⟩ => ⟨S16x1536x2x4096, .i32⟩
  | .hbm, ⟨22, _⟩ => ⟨S16x1536x2x4096, .bf16⟩
  | .hbm, ⟨23, _⟩ => ⟨S16x24x128x4096, .bf16⟩
  | .hbm, ⟨24, _⟩ => ⟨S16x24x2048, .i32⟩
  | .hbm, ⟨25, _⟩ => ⟨S_, .i32⟩
  | .hbm, ⟨26, _⟩ => ⟨S16x24x2048, .i32⟩
  | .hbm, ⟨27, _⟩ => ⟨S16x24x2048, .i32⟩
  | .hbm, ⟨28, _⟩ => ⟨S_, .i32⟩
  | .hbm, ⟨29, _⟩ => ⟨S16x24x2048, .i32⟩
  | .hbm, ⟨30, _⟩ => ⟨S16x24x2048, .i32⟩
  | .hbm, ⟨31, _⟩ => ⟨S16x24x4096, .i32⟩
  | .hbm, ⟨32, _⟩ => ⟨S16x24x4096, .bf16⟩
  | .hbm, ⟨33, _⟩ => ⟨S16x24x1x4096, .bf16⟩
  | .hbm, ⟨34, _⟩ => ⟨S16x24x128x4096, .bf16⟩
  | .hbm, ⟨35, _⟩ => ⟨S16x24x128x4096, .bf16⟩
  | .hbm, ⟨36, _⟩ => ⟨S16x24x1x4096, .bf16⟩
  | .hbm, ⟨37, _⟩ => ⟨S16x24x128x4096, .bf16⟩
  | .hbm, ⟨38, _⟩ => ⟨S16x24x128x4096, .bf16⟩
  | .hbm, ⟨39, _⟩ => ⟨S16x3072x4096, .bf16⟩
  | .hbm, ⟨40, _⟩ => ⟨S16x4096x96, .f32⟩
  | .hbm, ⟨41, _⟩ => ⟨S16x96x4096, .f32⟩
  | .hbm, ⟨42, _⟩ => ⟨S16x96x2048, .f32⟩
  | .hbm, ⟨43, _⟩ => ⟨S16x96x2048, .f32⟩
  | .hbm, ⟨44, _⟩ => ⟨S16x96x2048, .f32⟩
  | .hbm, ⟨45, _⟩ => ⟨S_, .f32⟩
  | .hbm, ⟨46, _⟩ => ⟨S16x96x2048, .f32⟩
  | .hbm, ⟨47, _⟩ => ⟨S16x96x2048, .f32⟩
  | .hbm, ⟨48, _⟩ => ⟨S_, .f32⟩
  | .hbm, ⟨49, _⟩ => ⟨S16x96x2048, .f32⟩
  | .hbm, ⟨50, _⟩ => ⟨S16x96x2048, .f32⟩
  | .hbm, ⟨51, _⟩ => ⟨S16x96x2048, .f32⟩
  | .hbm, ⟨52, _⟩ => ⟨S16x96x2048, .f32⟩
  | .hbm, ⟨53, _⟩ => ⟨S16x96x2048, .f32⟩
  | .hbm, ⟨54, _⟩ => ⟨S16x96x2048, .bf16⟩
  | .hbm, ⟨55, _⟩ => ⟨S16x1024x3072, .i32⟩
  | .hbm, ⟨56, _⟩ => ⟨S_, .i32⟩
  | .hbm, ⟨57, _⟩ => ⟨S16x1024x3072, .i32⟩
  | .hbm, ⟨58, _⟩ => ⟨S16x1024x3072, .i32⟩
  | .hbm, ⟨59, _⟩ => ⟨S_, .i32⟩
  | .hbm, ⟨60, _⟩ => ⟨S16x1024x3072, .i32⟩
  | .hbm, ⟨61, _⟩ => ⟨S16x1024x3072, .i32⟩
  | .hbm, ⟨62, _⟩ => ⟨S16x1024x1x3072, .i32⟩
  | .hbm, ⟨63, _⟩ => ⟨S16x1024x1x3072, .i32⟩
  | .hbm, ⟨64, _⟩ => ⟨S16x1024x2x3072, .i32⟩
  | .hbm, ⟨65, _⟩ => ⟨S16x1024x2x3072, .bf16⟩
  | .hbm, ⟨66, _⟩ => ⟨S16x16x128x3072, .bf16⟩
  | .hbm, ⟨67, _⟩ => ⟨S16x16x1536, .i32⟩
  | .hbm, ⟨68, _⟩ => ⟨S_, .i32⟩
  | .hbm, ⟨69, _⟩ => ⟨S16x16x1536, .i32⟩
  | .hbm, ⟨70, _⟩ => ⟨S16x16x1536, .i32⟩
  | .hbm, ⟨71, _⟩ => ⟨S_, .i32⟩
  | .hbm, ⟨72, _⟩ => ⟨S16x16x1536, .i32⟩
  | .hbm, ⟨73, _⟩ => ⟨S16x16x1536, .i32⟩
  | .hbm, ⟨74, _⟩ => ⟨S16x16x3072, .i32⟩
  | .hbm, ⟨75, _⟩ => ⟨S16x16x3072, .bf16⟩
  | .hbm, ⟨76, _⟩ => ⟨S16x16x1x3072, .bf16⟩
  | .hbm, ⟨77, _⟩ => ⟨S16x16x128x3072, .bf16⟩
  | .hbm, ⟨78, _⟩ => ⟨S16x16x128x3072, .bf16⟩
  | .hbm, ⟨79, _⟩ => ⟨S16x16x1x3072, .bf16⟩
  | .hbm, ⟨80, _⟩ => ⟨S16x16x128x3072, .bf16⟩
  | .hbm, ⟨81, _⟩ => ⟨S16x16x128x3072, .bf16⟩
  | .hbm, ⟨82, _⟩ => ⟨S16x2048x3072, .bf16⟩
  | .hbm, ⟨83, _⟩ => ⟨S16x96x3072, .f32⟩
  | .hbm, ⟨84, _⟩ => ⟨S1x96x8, .i32⟩
  | .hbm, ⟨85, _⟩ => ⟨S16, .i32⟩
  | .hbm, ⟨86, _⟩ => ⟨S16x1x1, .i32⟩
  | .hbm, ⟨87, _⟩ => ⟨S16x96x8, .i32⟩
  | .hbm, ⟨88, _⟩ => ⟨S16x96x8, .i32⟩
  | .hbm, ⟨89, _⟩ => ⟨S16x96x8, .i1⟩
  | .hbm, ⟨90, _⟩ => ⟨S16x96x8x1, .i1⟩
  | .hbm, ⟨91, _⟩ => ⟨S16x96x1x3072, .f32⟩
  | .hbm, ⟨92, _⟩ => ⟨S_, .f32⟩
  | .hbm, ⟨93, _⟩ => ⟨S_, .f32⟩
  | .hbm, ⟨94, _⟩ => ⟨S16x96x8x3072, .i1⟩
  | .hbm, ⟨95, _⟩ => ⟨S16x96x8x3072, .f32⟩
  | .hbm, ⟨96, _⟩ => ⟨S16x96x8x3072, .f32⟩
  | .hbm, ⟨97, _⟩ => ⟨S16x96x8x3072, .f32⟩
  | .hbm, ⟨98, _⟩ => ⟨S_, .f32⟩
  | .hbm, ⟨99, _⟩ => ⟨S96x8x3072, .f32⟩
  | .hbm, ⟨100, _⟩ => ⟨S96x8x1, .f32⟩
  | .hbm, ⟨101, _⟩ => ⟨S96x8x3072, .f32⟩
  | .hbm, ⟨102, _⟩ => ⟨S96x8x3072, .f32⟩
  | .hbm, ⟨103, _⟩ => ⟨S_, .f32⟩
  | .hbm, ⟨104, _⟩ => ⟨S96x3072, .f32⟩
  | .hbm, ⟨105, _⟩ => ⟨S96x3072, .bf16⟩
  | .hbm, ⟨106, _⟩ => ⟨S96x1x3072, .bf16⟩
  | _, _ => ⟨S96x1x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_3 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_5 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_v67 : Ref sig .tc := ⟨.hbm, 97, rfl⟩
abbrev main_cst_7 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_8 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Proof.Copies.lean ====
/-
  One copy from an array in HBM into a window of a buffer, as a resource that is either idle (the window free, the
  semaphore at zero) or in flight towards stated contents; the same for two copies of equal size that share one
  semaphore. The rules at the end are the start and the wait of each.
-/
module

public import Idealize.ShloMosaic.Lib.Batch
public import Idealize.ShloMosaic.Lib.Tactic

@[expose] public section

noncomputable section

namespace Cert.Copies

open Idealize.ShloMosaic Idealize.ShloMosaic.Tactic Idealize.SL Idealize.SL.RA
open Idealize.SL.BI (sProp bigSep)
open scoped Idealize.SL.BI
open Idealize.SL.BI.BIBase Idealize.SL.BI.Laws Idealize.SL.ProofMode Idealize.SL.Sem

variable {nD : Nat} {τ : Topo} {sig : RefSig} {Val : EltTy → Type} {U : Type} [URA U] [CountersIn U]

local notation "𝕄" => MT nD τ sig Unit Val ℕ U ℕ

variable {Λ : Labels} {defs : Defs nD τ sig Val Λ} (𝒱 : Variants) (c : Thread nD τ) (bd : Option 𝒱.V)
variable {α : Type} {Q : α → sProp (MT nD τ sig Unit Val ℕ U ℕ)} {sp sp' : Space} {s : Shape} {e : EltTy}

/-- The source array whole at share `q`, the destination window at some contents, the semaphore at zero. -/
def Idle (src : Memref sig c.2.kind sp s e) (dst : Memref sig c.2.kind sp' s e) (sm : DmaSem sig)
    (q : PosShare TreeShare) (X : Buf Val (src.view.loc c)) : sProp 𝕄 :=
  iprop((src.view.loc c ↦{q} X) ∗ (∃ fd, dst.view.loc c ↦[dst.view.set]{fullShare} fd) ∗ semVal (c, .dma sm) 0)

/-- What a finished copy gives back: the window at contents `g`, the source block. -/
def Done (src : Memref sig c.2.kind sp s e) (dst : Memref sig c.2.kind sp' s e)
    (q : PosShare TreeShare) (X : Buf Val (src.view.loc c)) (g : Buf Val (dst.view.loc c)) : sProp 𝕄 :=
  iprop((dst.view.loc c ↦[dst.view.set]{fullShare} g) ∗ (src.view.loc c ↦[src.view.set]{q} X))

/-- The part of the source array a copy does not read. -/
def Rest (src : Memref sig c.2.kind sp s e) (q : PosShare TreeShare) (X : Buf Val (src.view.loc c)) : sProp 𝕄 :=
  src.view.loc c ↦[Finset.univ \ src.view.set]{q} X

/-- The copy in flight, its window to hold `g`. -/
def Fly (src : Memref sig c.2.kind sp s e) (dst : Memref sig c.2.kind sp' s e) (sm : DmaSem sig)
    (q : PosShare TreeShare) (X : Buf Val (src.view.loc c)) (g : Buf Val (dst.view.loc c)) : sProp 𝕄 :=
  iprop(Transfers.Flight (countersEmb (U := U)) c (.dma sm) () (dst.view.amount (.dma sm)) (Done c src dst q X g)
    ∗ Rest c src q X)

theorem rest_split (src : Memref sig c.2.kind sp s e) (q : PosShare TreeShare) (X : Buf Val (src.view.loc c)) :
    (src.view.loc c ↦{q} X : sProp 𝕄) ⊣⊢ iprop((src.view.loc c ↦[src.view.set]{q} X) ∗ Rest c src q X) :=
  pointsTo_split_subset (Finset.subset_univ _)

theorem start1 {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig Val Λ c.2) α} {q : PosShare TreeShare} {X : Buf Val (src.view.loc c)}
    {g : Buf Val (dst.view.loc c)} (hN0 : 0 < dst.view.amount (.dma sm))
    (hg : ∀ fd, ∀ i ∈ dst.view.set, dst.view.write Val fd (ReadAs.same.apply (src.view.read Val X)) Finset.univ i = g i) :
    (Idle c src dst sm q X : sProp 𝕄)
      ⊢ iprop((Fly c src dst sm q X g -∗ wp frame (wpE defs 𝒱 c bd) Set.univ (k ⟨⟩) Q)
          -∗ wp frame (wpE defs 𝒱 c bd) Set.univ (.op (.enqueueDma src (.here dst) (.dma sm) hsrc hdst hsem) k) Q) := by
  unfold Idle Fly
  iintro ⟨Hs, ⟨%fd, Hd⟩, Hv⟩ Hk
  ihave Hs' := (rest_split c src q X).1 $$ Hs
  icases Hs' with ⟨Hs, Hr⟩
  iapply (Transfers.wp_dmaLocal (countersEmb (U := U)) 𝒱 c bd () _ rfl hN0 subset_rfl) $$ [Hs Hd Hv]
  · isplitl [Hs]; · iexact Hs
    isplitl [Hd] <;> iassumption
  iintro Hf
  iapply Hk
  isplitl [Hf]
  · rw [show Done c src dst q X g = iprop((dst.view.loc c ↦[dst.view.set]{fullShare} dst.view.write Val fd (ReadAs.same.apply (src.view.read Val X)) Finset.univ)
        ∗ (src.view.loc c ↦[src.view.set]{q} X)) from by unfold Done; rw [pointsTo_congr (fun i hi => (hg fd i hi).symm)]]
    iexact Hf
  iexact Hr

theorem wait1 {src : Memref sig c.2.kind sp s e} {dst : Memref sig c.2.kind sp' s e} {sm : DmaSem sig}
    {s' : Shape} {e' : EltTy} {sp1 sp2 : Space}
    {srcw : Memref sig c.2.kind sp1 s' e'} {κ' : Kind} {s2 : Shape} {e2 : EltTy} {dstw : Memref sig κ' sp2 s2 e2} {hsrc : srcw.view.WordExact} {hdst : dstw.view.WordExact}
    {k : PUnit → Prog (TpuEff nD τ sig Val Λ c.2) α} {q : PosShare TreeShare} {X : Buf Val (src.view.loc c)}
    {g : Buf Val (dst.view.loc c)} (hN : dstw.view.dmaCredit = dst.view.amount (.dma sm)) :
    iprop(Fly c src dst sm q X g ∗ (∃ W, owes c 0 W) : sProp 𝕄)
      ⊢ iprop((((src.view.loc c ↦{q} X) ∗ (dst.view.loc c ↦[dst.view.set]{fullShare} g) ∗ semVal (c, .dma sm) 0 ∗ (∃ W, owes c 0 W))
            -∗ wp frame (wpE defs 𝒱 c bd) Set.univ (k ⟨⟩) Q)
          -∗ wp frame (wpE defs 𝒱 c bd) Set.univ (.op (.waitDma2 sm srcw dstw hsrc hdst) k) Q) := by
  unfold Fly
  iintro ⟨⟨Hf, Hr⟩, ⟨%W, HO⟩⟩ Hk
  iapply (Transfers.wp_waitLocal (countersEmb (U := U)) 𝒱 c bd () hN) $$ [Hf HO]
  · isplitl [Hf] <;> iassumption
  iintro ⟨HD, Hv, HO⟩
  unfold Done
  icases HD with ⟨Hd, Hs⟩
  iapply Hk
  isplitl [Hs Hr]
  · iapply (rest_split c src q X).2
    isplitl [Hs] <;> iassumption
  isplitl [Hd]; · iexact Hd
  isplitl [Hv]; · iexact Hv
  iexists _; iexact HO

/-- What a copy between two blocks of one shape leaves in the window, index by index. -/
theorem landed {κ : Kind} {sp sp' : Space} {rk : ℕ} {dd ds sz : Fin rk → ℕ} {e : EltTy}
    (md : Memref sig κ sp ⟨rk, dd⟩ e) (ms : Memref sig κ sp' ⟨rk, ds⟩ e)
    {od os : Fin rk → ℕ} (inbd : ∀ a, od a + sz a ≤ dd a) (inbs : ∀ a, os a + sz a ≤ ds a) {S : Shape}
    (hsq : Shape.Squeezes ⟨rk, sz⟩ S) {X : ms.view.ty.Contents Val} {g : md.view.ty.Contents Val}
    (hg : ∀ y : Shape.Idx ⟨rk, sz⟩, g (md.view.emb ((Rect.unit (s := ⟨rk, dd⟩) od sz inbd).emb y))
      = _root_.cast (congrArg Val md.view.elt_eq.symm) (_root_.cast (congrArg Val ms.view.elt_eq) (X (ms.view.emb ((Rect.unit (s := ⟨rk, ds⟩) os sz inbs).emb y)))))
    (fd : md.view.ty.Contents Val) (i : md.view.ty.Idx)
    (hi : i ∈ ((md.slice (Rect.unit (s := ⟨rk, dd⟩) od sz inbd) (fun _ => rfl)).squeeze S hsq).view.set) :
    ((md.slice (Rect.unit (s := ⟨rk, dd⟩) od sz inbd) (fun _ => rfl)).squeeze S hsq).view.write Val fd
      (ReadAs.same.apply (((ms.slice (Rect.unit (s := ⟨rk, ds⟩) os sz inbs) (fun _ => rfl)).squeeze S hsq).view.read Val X)) Finset.univ i = g i := by
  obtain ⟨x, -, rfl⟩ := Finset.mem_map.mp hi
  refine (View.write_emb_of_mem (v := ((md.slice (Rect.unit (s := ⟨rk, dd⟩) od sz inbd) (fun _ => rfl)).squeeze S hsq).view) fd _ ?_).trans ?_
  · exact Finset.mem_univ x
  exact (hg (Shape.reshapeEquiv hsq.numel_eq x)).symm

/-! ## Two copies on one semaphore -/

variable {src0 src1 : Memref sig c.2.kind sp s e} {dst0 dst1 : Memref sig c.2.kind sp' s e} {sm : DmaSem sig}

/-- Both copies idle. -/
def Idle2 (src0 src1 : Memref sig c.2.kind sp s e) (dst0 dst1 : Memref sig c.2.kind sp' s e) (sm : DmaSem sig)
    (q0 q1 : PosShare TreeShare) (X0 : Buf Val (src0.view.loc c)) (X1 : Buf Val (src1.view.loc c)) : sProp 𝕄 :=
  iprop((src0.view.loc c ↦{q0} X0) ∗ (src1.view.loc c ↦{q1} X1) ∗ (∃ fd, dst0.view.loc c ↦[dst0.view.set]{fullShare} fd)
    ∗ (∃ fd, dst1.view.loc c ↦[dst1.view.set]{fullShare} fd) ∗ semVal (c, .dma sm) 0)

/-- What the two copies give back, by their order of issue. -/
def done2 (src0 src1 : Memref sig c.2.kind sp s e) (dst0 dst1 : Memref sig c.2.kind sp' s e)
    (q0 q1 : PosShare TreeShare) (X0 : Buf Val (src0.view.loc c)) (X1 : Buf Val (src1.view.loc c))
    (g0 : Buf Val (dst0.view.loc c)) (g1 : Buf Val (dst1.view.loc c)) : Fin 2 → sProp 𝕄 :=
  ![Done c src0 dst0 q0 X0 g0, Done c src1 dst1 q1 X1 g1]

instance (src0 src1 : Memref sig c.2.kind sp s e) (dst0 dst1 : Memref sig c.2.kind sp' s e)
    (q0 q1 : PosShare TreeShare) (X0 : Buf Val (src0.view.loc c)) (X1 : Buf Val (src1.view.loc c))
    (g0 : Buf Val (dst0.view.loc c)) (g1 : Buf Val (dst1.view.loc c)) (t : Fin 2) :
    BI.Storable (upEmb : UEmb _ 𝕄) (done2 (U := U) c src0 src1 dst0 dst1 q0 q1 X0 X1 g0 g1 t) := by
  fin_cases t <;> (simp only [done2]; show BI.Storable (upEmb : UEmb _ 𝕄) (Done c _ _ _ _ _); unfold Done; infer_instance)

theorem done2_split {src0 src1 : Memref sig c.2.kind sp s e} {dst0 dst1 : Memref sig c.2.kind sp' s e}
    {q0 q1 : PosShare TreeShare} {X0 : Buf Val (src0.view.loc c)} {X1 : Buf Val (src1.view.loc c)}
    {g0 : Buf Val (dst0.view.loc c)} {g1 : Buf Val (dst1.view.loc c)} :
    (bigSep Finset.univ (done2 (U := U) c src0 src1 dst0 dst1 q0 q1 X0 X1 g0 g1))
      ⊢ iprop(((dst0.view.loc c ↦[dst0.view.set]{fullShare} g0) ∗ (src0.view.loc c ↦[src0.view.set]{q0} X0))
        ∗ (dst1.view.loc c ↦[dst1.view.set]{fullShare} g1) ∗ (src1.view.loc c ↦[src1.view.set]{q1} X1)) := by
  rw [BI.bigSep_univ_two]; exact .rfl

/-- Both copies issued, `u` units of the semaphore consumed. -/
def Fly2 (src0 src1 : Memref sig c.2.kind sp s e) (dst0 dst1 : Memref sig c.2.kind sp' s e) (sm : DmaSem sig)
    (q0 q1 : PosShare TreeShare) (X0 : Buf Val (src0.view.loc c)) (X1 : Buf Val (src1.view.loc c))
    (g0 : Buf Val (dst0.view.loc c)) (g1 : Buf Val (dst1.view.loc c)) (u : ℕ) : sProp 𝕄 :=
  iprop(Transfers.Batch (countersEmb (U := U)) c (.dma sm) () (dst0.view.amount (.dma sm)) (done2 c src0 src1 dst0 dst1 q0 q1 X0 X1 g0 g1) 2 u
    ∗ Rest c src0 q0 X0 ∗ Rest c src1 q1 X1)

/-- The first issued, the second still idle. -/
def Half2 (src0 src1 : Memref sig c.2.kind sp s e) (dst0 dst1 : Memref sig c.2.kind sp' s e) (sm : DmaSem sig)
    (q0 q1 : PosShare TreeShare) (X0 : Buf Val (src0.view.loc c)) (X1 : Buf Val (src1.view.loc c))
    (g0 : Buf Val (dst0.view.loc c)) (g1 : Buf Val (dst1.view.loc c)) : sProp 𝕄 :=
  iprop(Transfers.Batch (countersEmb (U := U)) c (.dma sm) () (dst0.view.amount (.dma sm)) (done2 c src0 src1 dst0 dst1 q0 q1 X0 X1 g0 g1) 1 0
    ∗ Rest c src0 q0 X0 ∗ (src1.view.loc c ↦{q1} X1) ∗ (∃ fd, dst1.view.loc c ↦[dst1.view.set]{fullShare} fd))

theorem start2a {hsrc : src0.view.WordExact} {hdst : dst0.view.WordExact} {hsem : DmaTarget.Typed (nD := nD) sp (.dma sm) (.here dst0)}
    {k : PUnit → Prog (TpuEff nD τ sig Val Λ c.2) α} {q0 q1 : PosShare TreeShare} {X0 : Buf Val (src0.view.loc c)} {X1 : Buf Val (src1.view.loc c)}
    {g0 : Buf Val (dst0.view.loc c)} {g1 : Buf Val (dst1.view.loc c)}
    (hg : ∀ fd, ∀ i ∈ dst0.view.set, dst0.view.write Val fd (ReadAs.same.apply (src0.view.read Val X0)) Finset.univ i = g0 i) :
    (Idle2 c src0 src1 dst0 dst1 sm q0 q1 X0 X1 : sProp 𝕄)
      ⊢ iprop((Half2 c src0 src1 dst0 dst1 sm q0 q1 X0 X1 g0 g1 -∗ wp frame (wpE defs 𝒱 c bd) Set.univ (k ⟨⟩) Q)
          -∗ wp frame (wpE defs 𝒱 c bd) Set.univ (.op (.enqueueDma src0 (.here dst0) (.dma sm) hsrc hdst hsem) k) Q) := by
  unfold Idle2 Half2
  iintro ⟨Hs0, Hs1, ⟨%fd, Hd0⟩, Hd1, Hv⟩ Hk
  ihave Hs' := (rest_split c src0 q0 X0).1 $$ Hs0
  icases Hs' with ⟨Hs0, Hr⟩
  imod (Transfers.batch_alloc' (Lvl := ℕ) (countersEmb (U := U)) c () (dst0.view.amount (.dma sm))
    (done2 c src0 src1 dst0 dst1 q0 q1 X0 X1 g0 g1) (sm := .dma sm) (E := Set.univ)) $$ Hv with HB
  iapply (Transfers.wp_dmaBatch (countersEmb (U := U)) 𝒱 c bd (src := src0) (dst := dst0) () _ rfl subset_rfl
    (D := done2 c src0 src1 dst0 dst1 q0 q1 X0 X1 g0 g1) (j := 0) (u := 0) (q := q0) (fs := X0) (fd := fd) (by decide) (Nat.zero_le _)
    (by show _ ⊢ Done c src0 dst0 q0 X0 g0; unfold Done; rw [pointsTo_congr (hg fd)])) $$ [Hs0 Hd0 HB]
  · isplitl [Hs0]; · iexact Hs0
    isplitl [Hd0]; · iexact Hd0
    iexact HB
  iintro HB
  iapply Hk
  isplitl [HB]; · iexact HB
  isplitl [Hr]; · iexact Hr
  isplitl [Hs1]; · iexact Hs1
  iexact Hd1

theorem start2b {hsrc : src1.view.WordExact} {hdst : dst1.view.WordExact} {hsem : DmaTarget.Typed (nD := nD) sp (.dma sm) (.here dst1)}
    {k : PUnit → Prog (TpuEff nD τ sig Val Λ c.2) α} {q0 q1 : PosShare TreeShare} {X0 : Buf Val (src0.view.loc c)} {X1 : Buf Val (src1.view.loc c)}
    {g0 : Buf Val (dst0.view.loc c)} {g1 : Buf Val (dst1.view.loc c)}
    (hN : dst1.view.amount (.dma sm) = dst0.view.amount (.dma sm))
    (hg : ∀ fd, ∀ i ∈ dst1.view.set, dst1.view.write Val fd (ReadAs.same.apply (src1.view.read Val X1)) Finset.univ i = g1 i) :
    (Half2 c src0 src1 dst0 dst1 sm q0 q1 X0 X1 g0 g1 : sProp 𝕄)
      ⊢ iprop((Fly2 c src0 src1 dst0 dst1 sm q0 q1 X0 X1 g0 g1 0 -∗ wp frame (wpE defs 𝒱 c bd) Set.univ (k ⟨⟩) Q)
          -∗ wp frame (wpE defs 𝒱 c bd) Set.univ (.op (.enqueueDma src1 (.here dst1) (.dma sm) hsrc hdst hsem) k) Q) := by
  unfold Half2 Fly2
  iintro ⟨HB, Hr0, Hs1, ⟨%fd, Hd1⟩⟩ Hk
  ihave Hs' := (rest_split c src1 q1 X1).1 $$ Hs1
  icases Hs' with ⟨Hs1, Hr⟩
  iapply (Transfers.wp_dmaBatch (countersEmb (U := U)) 𝒱 c bd (src := src1) (dst := dst1) () _ hN subset_rfl
    (D := done2 c src0 src1 dst0 dst1 q0 q1 X0 X1 g0 g1) (j := 1) (u := 0) (q := q1) (fs := X1) (fd := fd) (by decide) (Nat.zero_le _)
    (by show _ ⊢ Done c src1 dst1 q1 X1 g1; unfold Done; rw [pointsTo_congr (hg fd)])) $$ [Hs1 Hd1 HB]
  · isplitl [Hs1]; · iexact Hs1
    isplitl [Hd1]; · iexact Hd1
    iexact HB
  iintro HB
  iapply Hk
  isplitl [HB]; · iexact HB
  isplitl [Hr0]; · iexact Hr0
  iexact Hr

variable {sp1 sp2 : Space} {s1 s2 : Shape} {e1 e2 : EltTy} {κ' : Kind}
  {srcw : Memref sig c.2.kind sp1 s1 e1} {dstw : Memref sig κ' sp2 s2 e2} {hsrc : srcw.view.WordExact} {hdst : dstw.view.WordExact}
  {k : PUnit → Prog (TpuEff nD τ sig Val Λ c.2) α} {q0 q1 : PosShare TreeShare} {X0 : Buf Val (src0.view.loc c)} {X1 : Buf Val (src1.view.loc c)}
  {g0 : Buf Val (dst0.view.loc c)} {g1 : Buf Val (dst1.view.loc c)}

theorem wait2a (hN : dstw.view.dmaCredit = dst0.view.amount (.dma sm)) (hN0 : 0 < dst0.view.amount (.dma sm)) :
    iprop(Fly2 c src0 src1 dst0 dst1 sm q0 q1 X0 X1 g0 g1 0 ∗ (∃ W, owes c 0 W) : sProp 𝕄)
      ⊢ iprop(((Fly2 c src0 src1 dst0 dst1 sm q0 q1 X0 X1 g0 g1 (dst0.view.amount (.dma sm)) ∗ (∃ W, owes c 0 W))
            -∗ wp frame (wpE defs 𝒱 c bd) Set.univ (k ⟨⟩) Q)
          -∗ wp frame (wpE defs 𝒱 c bd) Set.univ (.op (.waitDma2 sm srcw dstw hsrc hdst) k) Q) := by
  unfold Fly2
  iintro ⟨⟨HB, Hr⟩, ⟨%W, HO⟩⟩ Hk
  iapply (Transfers.wp_waitBatch (countersEmb (U := U)) 𝒱 c bd () hN
    (D := done2 c src0 src1 dst0 dst1 q0 q1 X0 X1 g0 g1) (u := 0) (by omega)) $$ [HB HO]
  · isplitl [HB] <;> iassumption
  rw [Nat.zero_add]
  iintro ⟨HB, HO⟩
  iapply Hk
  isplitl [HB Hr]
  · isplitl [HB] <;> iassumption
  iexists _; iexact HO

theorem wait2b (hN : dstw.view.dmaCredit = dst0.view.amount (.dma sm)) (hN0 : 0 < dst0.view.amount (.dma sm)) :
    iprop(Fly2 c src0 src1 dst0 dst1 sm q0 q1 X0 X1 g0 g1 (dst0.view.amount (.dma sm)) ∗ (∃ W, owes c 0 W) : sProp 𝕄)
      ⊢ iprop((((src0.view.loc c ↦{q0} X0) ∗ (src1.view.loc c ↦{q1} X1) ∗ (dst0.view.loc c ↦[dst0.view.set]{fullShare} g0)
              ∗ (dst1.view.loc c ↦[dst1.view.set]{fullShare} g1) ∗ semVal (c, .dma sm) 0 ∗ (∃ W, owes c 0 W))
            -∗ wp frame (wpE defs 𝒱 c bd) Set.univ (k ⟨⟩) Q)
          -∗ wp frame (wpE defs 𝒱 c bd) Set.univ (.op (.waitDma2 sm srcw dstw hsrc hdst) k) Q) := by
  unfold Fly2
  iintro ⟨⟨HB, Hr0, Hr1⟩, ⟨%W, HO⟩⟩ Hk
  iapply (Transfers.wp_waitBatchLast (countersEmb (U := U)) 𝒱 c bd () hN hN0
    (D := done2 c src0 src1 dst0 dst1 q0 q1 X0 X1 g0 g1) (u := dst0.view.amount (.dma sm)) (by omega)) $$ [HB HO]
  · isplitl [HB] <;> iassumption
  iintro ⟨HD, Hv, HO⟩
  ihave HD' := (done2_split c) $$ HD
  icases HD' with ⟨⟨Hd0, Hs0⟩, Hd1, Hs1⟩
  iapply Hk
  isplitl [Hs0 Hr0]
  · iapply (rest_split c src0 q0 X0).2
    isplitl [Hs0] <;> iassumption
  isplitl [Hs1 Hr1]
  · iapply (rest_split c src1 q1 X1).2
    isplitl [Hs1] <;> iassumption
  isplitl [Hd0]; · iexact Hd0
  isplitl [Hd1]; · iexact Hd1
  isplitl [Hv]; · iexact Hv
  iexists _; iexact HO

end Cert.Copies

end
-- ==== Proof.BitsSlots.lean ====
/-
  The copies this kernel makes, one by one: into slot `s` of a ring, from expert `e` of an array of weights, scales or
  zero points. Each is idle or in flight towards the expert's block, and its start and its wait are rules about those
  two states, whatever words the program computes the offsets from.
-/
module

public import proofs.«01_k».proof.Proof.Gen.Kernel.Launch
public import proofs.«01_k».proof.Proof.Gen.Kernel.Skeleton
public import proofs.«01_k».proof.Proof.Copies
public import Idealize.ShloMosaic.Lib.Pointwise.Index
public import Idealize.ShloMosaic.Lib.Pipeline.FrameBody
public import Idealize.ShloMosaic.Lib.Pipeline.FrameSuffix

@[expose] public section

noncomputable section

namespace Cert.Kernel.Hand

open Cert.Kernel Cert.Kernel.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}
variable (X : (b : Ref sig .tc) → Buf (Elt F) ((c : Thread nD τ).loc b))

/-- One half of a share. -/
def hf (b : Fin 2) (q : PosShare TreeShare) : PosShare TreeShare := if b = 0 then q.left else q.right

theorem pointsTo_halves {ℓ : Loc nD τ sig} {S : Finset (Idx ℓ)} {f : Buf (Elt F) ℓ} (q : PosShare TreeShare) :
    (ℓ ↦[S]{q} f : sProp 𝕄) = iprop((ℓ ↦[S]{hf 0 q} f) ∗ (ℓ ↦[S]{hf 1 q} f)) :=
  BI.Entails.antisymm (pointsTo_share (PosShare.mem_left_op_right q)).1 (pointsTo_share (PosShare.mem_left_op_right q)).2

/-! ## main_arg4 into cc0_scratch2 -/

theorem inbQ0d : ∀ (s : Fin 2) (a), (![s.val, 0, 0] : Fin 3 → ℕ) a + S1x24x4096.size a ≤ S2x24x4096.size a := by decide
theorem inbQ0s : ∀ (e : Fin 16) (a), (![e.val, 0, 0] : Fin 3 → ℕ) a + S1x24x4096.size a ≤ S16x24x4096.size a := by decide
theorem inbQ0m : ∀ (s : Fin 2) (a), (![s.val, 0] : Fin 2 → ℕ) a + S1x1.size a ≤ S2x4.size a := by decide

abbrev dstQ0 (s : Fin 2) : Memref sig .tc .vmem S24x4096 .bf16 := (((Memref.whole cc0_scratch2).slice (Rect.unit (s := S2x24x4096) ![s.val, 0, 0] S1x24x4096.size (inbQ0d s)) (fun _ => rfl)).squeeze S24x4096 squeezes_S1x24x4096_S24x4096)
abbrev srcQ0 (e : Fin 16) : Memref sig .tc .hbm S24x4096 .bf16 := (((Memref.whole main_arg4).slice (Rect.unit (s := S16x24x4096) ![e.val, 0, 0] S1x24x4096.size (inbQ0s e)) (fun _ => rfl)).squeeze S24x4096 squeezes_S1x24x4096_S24x4096)
abbrev semQ0 (s : Fin 2) : DmaSem sig := ((cc0_scratch16.slice (Rect.unit (s := S2x4) ![s.val, 0] S1x1.size (inbQ0m s))).squeeze S_ squeezes_S1x1_S_).sem

/-- The ring filled with expert `e`'s block. -/
def gQ0 (e : Fin 16) : Vec F S2x24x4096 .bf16 := fun i => (X main_arg4 : Vec F S16x24x4096 .bf16) (ix3 e (i 1) (i 2))

def idleQ0 (s : Fin 2) : sProp 𝕄 := Idle (c : Thread nD τ) (srcQ0 0) (dstQ0 s) (semQ0 s) (hf s fullShare) (X main_arg4)
def flyQ0 (s : Fin 2) (e : Fin 16) : sProp 𝕄 := Fly (c : Thread nD τ) (srcQ0 e) (dstQ0 s) (semQ0 s) (hf s fullShare) (X main_arg4) (gQ0 c X e)

theorem startQ0 (s : Fin 2) (e : Fin 16) {od os : Fin 3 → ℕ} {om : Fin 2 → ℕ} (hd : od = ![s.val, 0, 0]) (hs : os = ![e.val, 0, 0]) (hm : om = ![s.val, 0])
    {inbd : ∀ a, od a + S1x24x4096.size a ≤ S2x24x4096.size a} {inbs : ∀ a, os a + S1x24x4096.size a ≤ S16x24x4096.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleQ0 c X s : sProp 𝕄) ⊢ iprop((flyQ0 c X s e -∗ wp frame (wpE defs 𝒱 (c : Thread nD τ) bd) Set.univ (k ⟨⟩) Q)
      -∗ wp frame (wpE defs 𝒱 (c : Thread nD τ) bd) Set.univ (.op (.enqueueDma (((Memref.whole main_arg4).slice (Rect.unit (s := S16x24x4096) os S1x24x4096.size inbs) (fun _ => rfl)).squeeze S24x4096 squeezes_S1x24x4096_S24x4096)
        (.here (((Memref.whole cc0_scratch2).slice (Rect.unit (s := S2x24x4096) od S1x24x4096.size inbd) (fun _ => rfl)).squeeze S24x4096 squeezes_S1x24x4096_S24x4096)) (.dma ((cc0_scratch16.slice (Rect.unit (s := S2x4) om S1x1.size inbm)).squeeze S_ squeezes_S1x1_S_).sem) h1 h2 h3) k) Q) := by
  subst hd hs hm
  exact start1 (src := srcQ0 e) (dst := dstQ0 s) 𝒱 (c : Thread nD τ) bd (View.dmaCredit_pos _ (by decide))
    (landed (Memref.whole cc0_scratch2) (Memref.whole main_arg4) _ _ _ fun y => congrArg (X main_arg4 : Vec F S16x24x4096 .bf16) (by
      have h0 : (y 0).val < 1 := (y 0).isLt
      funext a; apply Fin.ext; fin_cases a
      · show e.val = e.val + 1 * (y 0).val; omega
      · rfl
      · rfl))

theorem waitQ0 (s : Fin 2) (e : Fin 16) {om : Fin 2 → ℕ} (hm : om = ![s.val, 0]) {inbm : ∀ a, om a + S1x1.size a ≤ S2x4.size a}
    {od : Fin 3 → ℕ} {inbd : ∀ a, od a + S1x24x4096.size a ≤ S2x24x4096.size a} {srcw : Memref sig .tc .hbm S24x4096 .bf16}
    {h1 h2} {α : Type} {k : PUnit → Prog (TpuEff nD τ sig (Elt F) Λ .tc) α} {Q : α → sProp (MT nD τ sig Unit (Elt F) ℕ (Pipeline.UD sig nD τ) ℕ)} :
    iprop(flyQ0 c X s e ∗ (∃ W, owes (c : Thread nD τ) 0 W) : sProp 𝕄) ⊢ iprop(((((c : Thread nD τ).loc main_arg4 ↦{hf s fullShare} X main_arg4)
        ∗ ((c : Thread nD τ).loc cc0_scratch2 ↦[(dstQ0 s).view.set]{fullShare} (gQ0 c X e : Buf (Elt F) ((c : Thread nD τ).loc cc0_scratch2))) ∗ semVal ((c : Thread nD τ), .dma (semQ0 s)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch16.slice (Rect.unit (s := S2x4) om S1x1.size inbm)).squeeze S_ squeezes_S1x1_S_).sem srcw (((Memref.whole cc0_scratch2).slice (Rect.unit (s := S2x24x4096) od S1x24x4096.size inbd) (fun _ => rfl)).squeeze S24x4096 squeezes_S1x24x4096_S24x4096) h1 h2) k) Q) := by
  subst hm
  exact wait1 (src := srcQ0 e) (dst := dstQ0 s) 𝒱 (c : Thread nD τ) bd rfl

/-! ## main_arg5 into cc0_scratch3 -/

theorem inbQ1d : ∀ (s : Fin 2) (a), (![s.val, 0, 0] : Fin 3 → ℕ) a + S1x24x2048.size a ≤ S2x24x2048.size a := by decide
theorem inbQ1s : ∀ (e : Fin 16) (a), (![e.val, 0, 0] : Fin 3 → ℕ) a + S1x24x2048.size a ≤ S16x24x2048.size a := by decide
theorem inbQ1m : ∀ (s : Fin 2) (a), (![s.val, 1] : Fin 2 → ℕ) a + S1x1.size a ≤ S2x4.size a := by decide

abbrev dstQ1 (s : Fin 2) : Memref sig .tc .vmem S24x2048 .i8 := (((Memref.whole cc0_scratch3).slice (Rect.unit (s := S2x24x2048) ![s.val, 0, 0] S1x24x2048.size (inbQ1d s)) (fun _ => rfl)).squeeze S24x2048 squeezes_S1x24x2048_S24x2048)
abbrev srcQ1 (e : Fin 16) : Memref sig .tc .hbm S24x2048 .i8 := (((Memref.whole main_arg5).slice (Rect.unit (s := S16x24x2048) ![e.val, 0, 0] S1x24x2048.size (inbQ1s e)) (fun _ => rfl)).squeeze S24x2048 squeezes_S1x24x2048_S24x2048)
abbrev semQ1 (s : Fin 2) : DmaSem sig := ((cc0_scratch16.slice (Rect.unit (s := S2x4) ![s.val, 1] S1x1.size (inbQ1m s))).squeeze S_ squeezes_S1x1_S_).sem

/-- The ring filled with expert `e`'s block. -/
def gQ1 (e : Fin 16) : Vec F S2x24x2048 .i8 := fun i => (X main_arg5 : Vec F S16x24x2048 .i8) (ix3 e (i 1) (i 2))

def idleQ1 (s : Fin 2) : sProp 𝕄 := Idle (c : Thread nD τ) (srcQ1 0) (dstQ1 s) (semQ1 s) (hf s fullShare) (X main_arg5)
def flyQ1 (s : Fin 2) (e : Fin 16) : sProp 𝕄 := Fly (c : Thread nD τ) (srcQ1 e) (dstQ1 s) (semQ1 s) (hf s fullShare) (X main_arg5) (gQ1 c X e)

theorem startQ1 (s : Fin 2) (e : Fin 16) {od os : Fin 3 → ℕ} {om : Fin 2 → ℕ} (hd : od = ![s.val, 0, 0]) (hs : os = ![e.val, 0, 0]) (hm : om = ![s.val, 1])
    {inbd : ∀ a, od a + S1x24x2048.size a ≤ S2x24x2048.size a} {inbs : ∀ a, os a + S1x24x2048.size a ≤ S16x24x2048.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleQ1 c X s : sProp 𝕄) ⊢ iprop((flyQ1 c X s e -∗ wp frame (wpE defs 𝒱 (c : Thread nD τ) bd) Set.univ (k ⟨⟩) Q)
      -∗ wp frame (wpE defs 𝒱 (c : Thread nD τ) bd) Set.univ (.op (.enqueueDma (((Memref.whole main_arg5).slice (Rect.unit (s := S16x24x2048) os S1x24x2048.size inbs) (fun _ => rfl)).squeeze S24x2048 squeezes_S1x24x2048_S24x2048)
        (.here (((Memref.whole cc0_scratch3).slice (Rect.unit (s := S2x24x2048) od S1x24x2048.size inbd) (fun _ => rfl)).squeeze S24x2048 squeezes_S1x24x2048_S24x2048)) (.dma ((cc0_scratch16.slice (Rect.unit (s := S2x4) om S1x1.size inbm)).squeeze S_ squeezes_S1x1_S_).sem) h1 h2 h3) k) Q) := by
  subst hd hs hm
  exact start1 (src := srcQ1 e) (dst := dstQ1 s) 𝒱 (c : Thread nD τ) bd (View.dmaCredit_pos _ (by decide))
    (landed (Memref.whole cc0_scratch3) (Memref.whole main_arg5) _ _ _ fun y => congrArg (X main_arg5 : Vec F S16x24x2048 .i8) (by
      have h0 : (y 0).val < 1 := (y 0).isLt
      funext a; apply Fin.ext; fin_cases a
      · show e.val = e.val + 1 * (y 0).val; omega
      · rfl
      · rfl))

theorem waitQ1 (s : Fin 2) (e : Fin 16) {om : Fin 2 → ℕ} (hm : om = ![s.val, 1]) {inbm : ∀ a, om a + S1x1.size a ≤ S2x4.size a}
    {od : Fin 3 → ℕ} {inbd : ∀ a, od a + S1x24x2048.size a ≤ S2x24x2048.size a} {srcw : Memref sig .tc .hbm S24x2048 .i8}
    {h1 h2} {α : Type} {k : PUnit → Prog (TpuEff nD τ sig (Elt F) Λ .tc) α} {Q : α → sProp (MT nD τ sig Unit (Elt F) ℕ (Pipeline.UD sig nD τ) ℕ)} :
    iprop(flyQ1 c X s e ∗ (∃ W, owes (c : Thread nD τ) 0 W) : sProp 𝕄) ⊢ iprop(((((c : Thread nD τ).loc main_arg5 ↦{hf s fullShare} X main_arg5)
        ∗ ((c : Thread nD τ).loc cc0_scratch3 ↦[(dstQ1 s).view.set]{fullShare} (gQ1 c X e : Buf (Elt F) ((c : Thread nD τ).loc cc0_scratch3))) ∗ semVal ((c : Thread nD τ), .dma (semQ1 s)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch16.slice (Rect.unit (s := S2x4) om S1x1.size inbm)).squeeze S_ squeezes_S1x1_S_).sem srcw (((Memref.whole cc0_scratch3).slice (Rect.unit (s := S2x24x2048) od S1x24x2048.size inbd) (fun _ => rfl)).squeeze S24x2048 squeezes_S1x24x2048_S24x2048) h1 h2) k) Q) := by
  subst hm
  exact wait1 (src := srcQ1 e) (dst := dstQ1 s) 𝒱 (c : Thread nD τ) bd rfl

/-! ## main_arg7 into cc0_scratch4 -/

theorem inbQ2d : ∀ (s : Fin 2) (a), (![s.val, 0, 0] : Fin 3 → ℕ) a + S1x16x3072.size a ≤ S2x16x3072.size a := by decide
theorem inbQ2s : ∀ (e : Fin 16) (a), (![e.val, 0, 0] : Fin 3 → ℕ) a + S1x16x3072.size a ≤ S16x16x3072.size a := by decide
theorem inbQ2m : ∀ (s : Fin 2) (a), (![s.val, 2] : Fin 2 → ℕ) a + S1x1.size a ≤ S2x4.size a := by decide

abbrev dstQ2 (s : Fin 2) : Memref sig .tc .vmem S16x3072 .bf16 := (((Memref.whole cc0_scratch4).slice (Rect.unit (s := S2x16x3072) ![s.val, 0, 0] S1x16x3072.size (inbQ2d s)) (fun _ => rfl)).squeeze S16x3072 squeezes_S1x16x3072_S16x3072)
abbrev srcQ2 (e : Fin 16) : Memref sig .tc .hbm S16x3072 .bf16 := (((Memref.whole main_arg7).slice (Rect.unit (s := S16x16x3072) ![e.val, 0, 0] S1x16x3072.size (inbQ2s e)) (fun _ => rfl)).squeeze S16x3072 squeezes_S1x16x3072_S16x3072)
abbrev semQ2 (s : Fin 2) : DmaSem sig := ((cc0_scratch16.slice (Rect.unit (s := S2x4) ![s.val, 2] S1x1.size (inbQ2m s))).squeeze S_ squeezes_S1x1_S_).sem

/-- The ring filled with expert `e`'s block. -/
def gQ2 (e : Fin 16) : Vec F S2x16x3072 .bf16 := fun i => (X main_arg7 : Vec F S16x16x3072 .bf16) (ix3 e (i 1) (i 2))

def idleQ2 (s : Fin 2) : sProp 𝕄 := Idle (c : Thread nD τ) (srcQ2 0) (dstQ2 s) (semQ2 s) (hf s fullShare) (X main_arg7)
def flyQ2 (s : Fin 2) (e : Fin 16) : sProp 𝕄 := Fly (c : Thread nD τ) (srcQ2 e) (dstQ2 s) (semQ2 s) (hf s fullShare) (X main_arg7) (gQ2 c X e)

theorem startQ2 (s : Fin 2) (e : Fin 16) {od os : Fin 3 → ℕ} {om : Fin 2 → ℕ} (hd : od = ![s.val, 0, 0]) (hs : os = ![e.val, 0, 0]) (hm : om = ![s.val, 2])
    {inbd : ∀ a, od a + S1x16x3072.size a ≤ S2x16x3072.size a} {inbs : ∀ a, os a + S1x16x3072.size a ≤ S16x16x3072.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleQ2 c X s : sProp 𝕄) ⊢ iprop((flyQ2 c X s e -∗ wp frame (wpE defs 𝒱 (c : Thread nD τ) bd) Set.univ (k ⟨⟩) Q)
      -∗ wp frame (wpE defs 𝒱 (c : Thread nD τ) bd) Set.univ (.op (.enqueueDma (((Memref.whole main_arg7).slice (Rect.unit (s := S16x16x3072) os S1x16x3072.size inbs) (fun _ => rfl)).squeeze S16x3072 squeezes_S1x16x3072_S16x3072)
        (.here (((Memref.whole cc0_scratch4).slice (Rect.unit (s := S2x16x3072) od S1x16x3072.size inbd) (fun _ => rfl)).squeeze S16x3072 squeezes_S1x16x3072_S16x3072)) (.dma ((cc0_scratch16.slice (Rect.unit (s := S2x4) om S1x1.size inbm)).squeeze S_ squeezes_S1x1_S_).sem) h1 h2 h3) k) Q) := by
  subst hd hs hm
  exact start1 (src := srcQ2 e) (dst := dstQ2 s) 𝒱 (c : Thread nD τ) bd (View.dmaCredit_pos _ (by decide))
    (landed (Memref.whole cc0_scratch4) (Memref.whole main_arg7) _ _ _ fun y => congrArg (X main_arg7 : Vec F S16x16x3072 .bf16) (by
      have h0 : (y 0).val < 1 := (y 0).isLt
      funext a; apply Fin.ext; fin_cases a
      · show e.val = e.val + 1 * (y 0).val; omega
      · rfl
      · rfl))

theorem waitQ2 (s : Fin 2) (e : Fin 16) {om : Fin 2 → ℕ} (hm : om = ![s.val, 2]) {inbm : ∀ a, om a + S1x1.size a ≤ S2x4.size a}
    {od : Fin 3 → ℕ} {inbd : ∀ a, od a + S1x16x3072.size a ≤ S2x16x3072.size a} {srcw : Memref sig .tc .hbm S16x3072 .bf16}
    {h1 h2} {α : Type} {k : PUnit → Prog (TpuEff nD τ sig (Elt F) Λ .tc) α} {Q : α → sProp (MT nD τ sig Unit (Elt F) ℕ (Pipeline.UD sig nD τ) ℕ)} :
    iprop(flyQ2 c X s e ∗ (∃ W, owes (c : Thread nD τ) 0 W) : sProp 𝕄) ⊢ iprop(((((c : Thread nD τ).loc main_arg7 ↦{hf s fullShare} X main_arg7)
        ∗ ((c : Thread nD τ).loc cc0_scratch4 ↦[(dstQ2 s).view.set]{fullShare} (gQ2 c X e : Buf (Elt F) ((c : Thread nD τ).loc cc0_scratch4))) ∗ semVal ((c : Thread nD τ), .dma (semQ2 s)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch16.slice (Rect.unit (s := S2x4) om S1x1.size inbm)).squeeze S_ squeezes_S1x1_S_).sem srcw (((Memref.whole cc0_scratch4).slice (Rect.unit (s := S2x16x3072) od S1x16x3072.size inbd) (fun _ => rfl)).squeeze S16x3072 squeezes_S1x16x3072_S16x3072) h1 h2) k) Q) := by
  subst hm
  exact wait1 (src := srcQ2 e) (dst := dstQ2 s) 𝒱 (c : Thread nD τ) bd rfl

/-! ## main_arg8 into cc0_scratch5 -/

theorem inbQ3d : ∀ (s : Fin 2) (a), (![s.val, 0, 0] : Fin 3 → ℕ) a + S1x16x1536.size a ≤ S2x16x1536.size a := by decide
theorem inbQ3s : ∀ (e : Fin 16) (a), (![e.val, 0, 0] : Fin 3 → ℕ) a + S1x16x1536.size a ≤ S16x16x1536.size a := by decide
theorem inbQ3m : ∀ (s : Fin 2) (a), (![s.val, 3] : Fin 2 → ℕ) a + S1x1.size a ≤ S2x4.size a := by decide

abbrev dstQ3 (s : Fin 2) : Memref sig .tc .vmem S16x1536 .i8 := (((Memref.whole cc0_scratch5).slice (Rect.unit (s := S2x16x1536) ![s.val, 0, 0] S1x16x1536.size (inbQ3d s)) (fun _ => rfl)).squeeze S16x1536 squeezes_S1x16x1536_S16x1536)
abbrev srcQ3 (e : Fin 16) : Memref sig .tc .hbm S16x1536 .i8 := (((Memref.whole main_arg8).slice (Rect.unit (s := S16x16x1536) ![e.val, 0, 0] S1x16x1536.size (inbQ3s e)) (fun _ => rfl)).squeeze S16x1536 squeezes_S1x16x1536_S16x1536)
abbrev semQ3 (s : Fin 2) : DmaSem sig := ((cc0_scratch16.slice (Rect.unit (s := S2x4) ![s.val, 3] S1x1.size (inbQ3m s))).squeeze S_ squeezes_S1x1_S_).sem

/-- The ring filled with expert `e`'s block. -/
def gQ3 (e : Fin 16) : Vec F S2x16x1536 .i8 := fun i => (X main_arg8 : Vec F S16x16x1536 .i8) (ix3 e (i 1) (i 2))

def idleQ3 (s : Fin 2) : sProp 𝕄 := Idle (c : Thread nD τ) (srcQ3 0) (dstQ3 s) (semQ3 s) (hf s fullShare) (X main_arg8)
def flyQ3 (s : Fin 2) (e : Fin 16) : sProp 𝕄 := Fly (c : Thread nD τ) (srcQ3 e) (dstQ3 s) (semQ3 s) (hf s fullShare) (X main_arg8) (gQ3 c X e)

theorem startQ3 (s : Fin 2) (e : Fin 16) {od os : Fin 3 → ℕ} {om : Fin 2 → ℕ} (hd : od = ![s.val, 0, 0]) (hs : os = ![e.val, 0, 0]) (hm : om = ![s.val, 3])
    {inbd : ∀ a, od a + S1x16x1536.size a ≤ S2x16x1536.size a} {inbs : ∀ a, os a + S1x16x1536.size a ≤ S16x16x1536.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleQ3 c X s : sProp 𝕄) ⊢ iprop((flyQ3 c X s e -∗ wp frame (wpE defs 𝒱 (c : Thread nD τ) bd) Set.univ (k ⟨⟩) Q)
      -∗ wp frame (wpE defs 𝒱 (c : Thread nD τ) bd) Set.univ (.op (.enqueueDma (((Memref.whole main_arg8).slice (Rect.unit (s := S16x16x1536) os S1x16x1536.size inbs) (fun _ => rfl)).squeeze S16x1536 squeezes_S1x16x1536_S16x1536)
        (.here (((Memref.whole cc0_scratch5).slice (Rect.unit (s := S2x16x1536) od S1x16x1536.size inbd) (fun _ => rfl)).squeeze S16x1536 squeezes_S1x16x1536_S16x1536)) (.dma ((cc0_scratch16.slice (Rect.unit (s := S2x4) om S1x1.size inbm)).squeeze S_ squeezes_S1x1_S_).sem) h1 h2 h3) k) Q) := by
  subst hd hs hm
  exact start1 (src := srcQ3 e) (dst := dstQ3 s) 𝒱 (c : Thread nD τ) bd (View.dmaCredit_pos _ (by decide))
    (landed (Memref.whole cc0_scratch5) (Memref.whole main_arg8) _ _ _ fun y => congrArg (X main_arg8 : Vec F S16x16x1536 .i8) (by
      have h0 : (y 0).val < 1 := (y 0).isLt
      funext a; apply Fin.ext; fin_cases a
      · show e.val = e.val + 1 * (y 0).val; omega
      · rfl
      · rfl))

theorem waitQ3 (s : Fin 2) (e : Fin 16) {om : Fin 2 → ℕ} (hm : om = ![s.val, 3]) {inbm : ∀ a, om a + S1x1.size a ≤ S2x4.size a}
    {od : Fin 3 → ℕ} {inbd : ∀ a, od a + S1x16x1536.size a ≤ S2x16x1536.size a} {srcw : Memref sig .tc .hbm S16x1536 .i8}
    {h1 h2} {α : Type} {k : PUnit → Prog (TpuEff nD τ sig (Elt F) Λ .tc) α} {Q : α → sProp (MT nD τ sig Unit (Elt F) ℕ (Pipeline.UD sig nD τ) ℕ)} :
    iprop(flyQ3 c X s e ∗ (∃ W, owes (c : Thread nD τ) 0 W) : sProp 𝕄) ⊢ iprop(((((c : Thread nD τ).loc main_arg8 ↦{hf s fullShare} X main_arg8)
        ∗ ((c : Thread nD τ).loc cc0_scratch5 ↦[(dstQ3 s).view.set]{fullShare} (gQ3 c X e : Buf (Elt F) ((c : Thread nD τ).loc cc0_scratch5))) ∗ semVal ((c : Thread nD τ), .dma (semQ3 s)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch16.slice (Rect.unit (s := S2x4) om S1x1.size inbm)).squeeze S_ squeezes_S1x1_S_).sem srcw (((Memref.whole cc0_scratch5).slice (Rect.unit (s := S2x16x1536) od S1x16x1536.size inbd) (fun _ => rfl)).squeeze S16x1536 squeezes_S1x16x1536_S16x1536) h1 h2) k) Q) := by
  subst hm
  exact wait1 (src := srcQ3 e) (dst := dstQ3 s) 𝒱 (c : Thread nD τ) bd rfl

/-! ## main_arg6 into cc0_scratch1, in two chunks of columns -/

theorem inbW2d : ∀ (s : Fin 2) (j : Fin 2) (a), (![s.val, 0, 1536 * j.val] : Fin 3 → ℕ) a + S1x1024x1536.size a ≤ S2x1024x3072.size a := by decide
theorem inbW2s : ∀ (e : Fin 16) (j : Fin 2) (a), (![e.val, 0, 1536 * j.val] : Fin 3 → ℕ) a + S1x1024x1536.size a ≤ S16x1024x3072.size a := by decide
theorem inbW2m : ∀ (s : Fin 2) (j : Fin 2) (a), (![s.val, j.val] : Fin 2 → ℕ) a + S1x1.size a ≤ S2x2.size a := by decide

abbrev dstW2 (s : Fin 2) (j : Fin 2) : Memref sig .tc .vmem S1024x1536 .i8 := (((Memref.whole cc0_scratch1).slice (Rect.unit (s := S2x1024x3072) ![s.val, 0, 1536 * j.val] S1x1024x1536.size (inbW2d s j)) (fun _ => rfl)).squeeze S1024x1536 squeezes_S1x1024x1536_S1024x1536)
abbrev srcW2 (e : Fin 16) (j : Fin 2) : Memref sig .tc .hbm S1024x1536 .i8 := (((Memref.whole main_arg6).slice (Rect.unit (s := S16x1024x3072) ![e.val, 0, 1536 * j.val] S1x1024x1536.size (inbW2s e j)) (fun _ => rfl)).squeeze S1024x1536 squeezes_S1x1024x1536_S1024x1536)
abbrev semW2 (s : Fin 2) (j : Fin 2) : DmaSem sig := ((cc0_scratch15.slice (Rect.unit (s := S2x2) ![s.val, j.val] S1x1.size (inbW2m s j))).squeeze S_ squeezes_S1x1_S_).sem

/-- The ring filled with expert `e`'s block. -/
def gW2 (e : Fin 16) : Vec F S2x1024x3072 .i8 := fun i => (X main_arg6 : Vec F S16x1024x3072 .i8) (ix3 e (i 1) (i 2))

abbrev qW2 (s j : Fin 2) : PosShare TreeShare := hf j (hf s fullShare)

def idleW2 (s j : Fin 2) : sProp 𝕄 := Idle (c : Thread nD τ) (srcW2 0 j) (dstW2 s j) (semW2 s j) (qW2 s j) (X main_arg6)
def flyW2 (s j : Fin 2) (e : Fin 16) : sProp 𝕄 := Fly (c : Thread nD τ) (srcW2 e j) (dstW2 s j) (semW2 s j) (qW2 s j) (X main_arg6) (gW2 c X e)

theorem startW2 (s j : Fin 2) (e : Fin 16) {od os : Fin 3 → ℕ} {om : Fin 2 → ℕ} (hd : od = ![s.val, 0, 1536 * j.val]) (hs : os = ![e.val, 0, 1536 * j.val]) (hm : om = ![s.val, j.val])
    {inbd : ∀ a, od a + S1x1024x1536.size a ≤ S2x1024x3072.size a} {inbs : ∀ a, os a + S1x1024x1536.size a ≤ S16x1024x3072.size a} {inbm : ∀ a, om a + S1x1.size a ≤ S2x2.size a}
    {h1 h2 h3} {α : Type} {k : PUnit → Prog (TpuEff nD τ sig (Elt F) Λ .tc) α} {Q : α → sProp (MT nD τ sig Unit (Elt F) ℕ (Pipeline.UD sig nD τ) ℕ)} :
    (idleW2 c X s j : sProp 𝕄) ⊢ iprop((flyW2 c X s j e -∗ wp frame (wpE defs 𝒱 (c : Thread nD τ) bd) Set.univ (k ⟨⟩) Q)
      -∗ wp frame (wpE defs 𝒱 (c : Thread nD τ) bd) Set.univ (.op (.enqueueDma (((Memref.whole main_arg6).slice (Rect.unit (s := S16x1024x3072) os S1x1024x1536.size inbs) (fun _ => rfl)).squeeze S1024x1536 squeezes_S1x1024x1536_S1024x1536)
        (.here (((Memref.whole cc0_scratch1).slice (Rect.unit (s := S2x1024x3072) od S1x1024x1536.size inbd) (fun _ => rfl)).squeeze S1024x1536 squeezes_S1x1024x1536_S1024x1536)) (.dma ((cc0_scratch15.slice (Rect.unit (s := S2x2) om S1x1.size inbm)).squeeze S_ squeezes_S1x1_S_).sem) h1 h2 h3) k) Q) := by
  subst hd hs hm
  exact start1 (src := srcW2 e j) (dst := dstW2 s j) 𝒱 (c : Thread nD τ) bd (View.dmaCredit_pos _ (by decide))
    (landed (Memref.whole cc0_scratch1) (Memref.whole main_arg6) _ _ _ fun y => congrArg (X main_arg6 : Vec F S16x1024x3072 .i8) (by
      have h0 : (y 0).val < 1 := (y 0).isLt
      funext a; apply Fin.ext; fin_cases a
      · show e.val = e.val + 1 * (y 0).val; omega
      · rfl
      · rfl))

theorem waitW2 (s j : Fin 2) (e : Fin 16) {om : Fin 2 → ℕ} (hm : om = ![s.val, j.val]) {inbm : ∀ a, om a + S1x1.size a ≤ S2x2.size a}
    {od : Fin 3 → ℕ} {inbd : ∀ a, od a + S1x1024x1536.size a ≤ S2x1024x3072.size a} {srcw : Memref sig .tc .hbm S1024x1536 .i8}
    {h1 h2} {α : Type} {k : PUnit → Prog (TpuEff nD τ sig (Elt F) Λ .tc) α} {Q : α → sProp (MT nD τ sig Unit (Elt F) ℕ (Pipeline.UD sig nD τ) ℕ)} :
    iprop(flyW2 c X s j e ∗ (∃ W, owes (c : Thread nD τ) 0 W) : sProp 𝕄) ⊢ iprop(((((c : Thread nD τ).loc main_arg6 ↦{qW2 s j} X main_arg6)
        ∗ ((c : Thread nD τ).loc cc0_scratch1 ↦[(dstW2 s j).view.set]{fullShare} (gW2 c X e : Buf (Elt F) ((c : Thread nD τ).loc cc0_scratch1))) ∗ semVal ((c : Thread nD τ), .dma (semW2 s j)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch15.slice (Rect.unit (s := S2x2) om S1x1.size inbm)).squeeze S_ squeezes_S1x1_S_).sem srcw (((Memref.whole cc0_scratch1).slice (Rect.unit (s := S2x1024x3072) od S1x1024x1536.size inbd) (fun _ => rfl)).squeeze S1024x1536 squeezes_S1x1024x1536_S1024x1536) h1 h2) k) Q) := by
  subst hm
  exact wait1 (src := srcW2 e j) (dst := dstW2 s j) 𝒱 (c : Thread nD τ) bd rfl

/-! ## main_arg3 into cc0_scratch0, in four chunks of columns of each half -/

theorem inbW1d : ∀ (s h : Fin 2) (j : Fin 4) (a), (![s.val, 0, 2048 * h.val + 512 * j.val] : Fin 3 → ℕ) a + S1x1536x512.size a ≤ S2x1536x4096.size a := by decide
theorem inbW1s : ∀ (e : Fin 16) (h : Fin 2) (j : Fin 4) (a), (![e.val, 0, 2048 * h.val + 512 * j.val] : Fin 3 → ℕ) a + S1x1536x512.size a ≤ S16x1536x4096.size a := by decide
theorem inbW1m : ∀ (s : Fin 2) (j : Fin 4) (a), (![s.val, j.val] : Fin 2 → ℕ) a + S1x1.size a ≤ S2x4.size a := by decide

abbrev dstW1 (s h : Fin 2) (j : Fin 4) : Memref sig .tc .vmem S1536x512 .i8 := (((Memref.whole cc0_scratch0).slice (Rect.unit (s := S2x1536x4096) ![s.val, 0, 2048 * h.val + 512 * j.val] S1x1536x512.size (inbW1d s h j)) (fun _ => rfl)).squeeze S1536x512 squeezes_S1x1536x512_S1536x512)
abbrev srcW1 (e : Fin 16) (h : Fin 2) (j : Fin 4) : Memref sig .tc .hbm S1536x512 .i8 := (((Memref.whole main_arg3).slice (Rect.unit (s := S16x1536x4096) ![e.val, 0, 2048 * h.val + 512 * j.val] S1x1536x512.size (inbW1s e h j)) (fun _ => rfl)).squeeze S1536x512 squeezes_S1x1536x512_S1536x512)
abbrev semW1 (s : Fin 2) (j : Fin 4) : DmaSem sig := ((cc0_scratch14.slice (Rect.unit (s := S2x4) ![s.val, j.val] S1x1.size (inbW1m s j))).squeeze S_ squeezes_S1x1_S_).sem

/-- The ring filled with expert `e`'s block. -/
def gW1 (e : Fin 16) : Vec F S2x1536x4096 .i8 := fun i => (X main_arg3 : Vec F S16x1536x4096 .i8) (ix3 e (i 1) (i 2))

/-- The share of the array one chunk's copy of one half reads at. -/
def q4 (q : PosShare TreeShare) : Fin 4 → PosShare TreeShare := ![hf 0 (hf 0 q), hf 1 (hf 0 q), hf 0 (hf 1 q), hf 1 (hf 1 q)]
abbrev qW1 (s h : Fin 2) (j : Fin 4) : PosShare TreeShare := q4 (hf h (hf s fullShare)) j

def idleW1 (s : Fin 2) (j : Fin 4) : sProp 𝕄 := Idle2 (c : Thread nD τ) (srcW1 0 0 j) (srcW1 0 1 j) (dstW1 s 0 j) (dstW1 s 1 j) (semW1 s j) (qW1 s 0 j) (qW1 s 1 j) (X main_arg3) (X main_arg3)
def halfW1 (s : Fin 2) (j : Fin 4) (e : Fin 16) : sProp 𝕄 := Half2 (c : Thread nD τ) (srcW1 e 0 j) (srcW1 e 1 j) (dstW1 s 0 j) (dstW1 s 1 j) (semW1 s j) (qW1 s 0 j) (qW1 s 1 j) (X main_arg3) (X main_arg3) (gW1 c X e) (gW1 c X e)
/-- Both halves in flight, `u` of them waited for. -/
def flyW1 (s : Fin 2) (j : Fin 4) (e : Fin 16) (u : ℕ) : sProp 𝕄 := Fly2 (c : Thread nD τ) (srcW1 e 0 j) (srcW1 e 1 j) (dstW1 s 0 j) (dstW1 s 1 j) (semW1 s j) (qW1 s 0 j) (qW1 s 1 j) (X main_arg3) (X main_arg3) (gW1 c X e) (gW1 c X e)
  (if u = 0 then 0 else (dstW1 s 0 j).view.amount (.dma (semW1 s j)))

theorem startW1a (s : Fin 2) (j : Fin 4) (e : Fin 16) {od os : Fin 3 → ℕ} {om : Fin 2 → ℕ} (hd : od = ![s.val, 0, 2048 * 0 + 512 * j.val]) (hs : os = ![e.val, 0, 2048 * 0 + 512 * j.val]) (hm : om = ![s.val, j.val])
    {inbd : ∀ a, od a + S1x1536x512.size a ≤ S2x1536x4096.size a} {inbs : ∀ a, os a + S1x1536x512.size a ≤ S16x1536x4096.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleW1 c X s j : sProp 𝕄) ⊢ iprop((halfW1 c X s j e -∗ wp frame (wpE defs 𝒱 (c : Thread nD τ) bd) Set.univ (k ⟨⟩) Q)
      -∗ wp frame (wpE defs 𝒱 (c : Thread nD τ) bd) Set.univ (.op (.enqueueDma (((Memref.whole main_arg3).slice (Rect.unit (s := S16x1536x4096) os S1x1536x512.size inbs) (fun _ => rfl)).squeeze S1536x512 squeezes_S1x1536x512_S1536x512)
        (.here (((Memref.whole cc0_scratch0).slice (Rect.unit (s := S2x1536x4096) od S1x1536x512.size inbd) (fun _ => rfl)).squeeze S1536x512 squeezes_S1x1536x512_S1536x512)) (.dma ((cc0_scratch14.slice (Rect.unit (s := S2x4) om S1x1.size inbm)).squeeze S_ squeezes_S1x1_S_).sem) h1 h2 h3) k) Q) := by
  subst hd hs hm
  exact start2a (src0 := srcW1 e 0 j) (dst0 := dstW1 s 0 j) (src1 := srcW1 e 1 j) (dst1 := dstW1 s 1 j) 𝒱 (c : Thread nD τ) bd
    (landed (Memref.whole cc0_scratch0) (Memref.whole main_arg3) _ _ _ fun y => congrArg (X main_arg3 : Vec F S16x1536x4096 .i8) (by
      have h0 : (y 0).val < 1 := (y 0).isLt
      funext a; apply Fin.ext; fin_cases a
      · show e.val = e.val + 1 * (y 0).val; omega
      · rfl
      · rfl))

theorem startW1b (s : Fin 2) (j : Fin 4) (e : Fin 16) {od os : Fin 3 → ℕ} {om : Fin 2 → ℕ} (hd : od = ![s.val, 0, 2048 * 1 + 512 * j.val]) (hs : os = ![e.val, 0, 2048 * 1 + 512 * j.val]) (hm : om = ![s.val, j.val])
    {inbd : ∀ a, od a + S1x1536x512.size a ≤ S2x1536x4096.size a} {inbs : ∀ a, os a + S1x1536x512.size a ≤ S16x1536x4096.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (halfW1 c X s j e : sProp 𝕄) ⊢ iprop((flyW1 c X s j e 0 -∗ wp frame (wpE defs 𝒱 (c : Thread nD τ) bd) Set.univ (k ⟨⟩) Q)
      -∗ wp frame (wpE defs 𝒱 (c : Thread nD τ) bd) Set.univ (.op (.enqueueDma (((Memref.whole main_arg3).slice (Rect.unit (s := S16x1536x4096) os S1x1536x512.size inbs) (fun _ => rfl)).squeeze S1536x512 squeezes_S1x1536x512_S1536x512)
        (.here (((Memref.whole cc0_scratch0).slice (Rect.unit (s := S2x1536x4096) od S1x1536x512.size inbd) (fun _ => rfl)).squeeze S1536x512 squeezes_S1x1536x512_S1536x512)) (.dma ((cc0_scratch14.slice (Rect.unit (s := S2x4) om S1x1.size inbm)).squeeze S_ squeezes_S1x1_S_).sem) h1 h2 h3) k) Q) := by
  subst hd hs hm
  exact start2b (src0 := srcW1 e 0 j) (dst0 := dstW1 s 0 j) (src1 := srcW1 e 1 j) (dst1 := dstW1 s 1 j) 𝒱 (c : Thread nD τ) bd rfl
    (landed (Memref.whole cc0_scratch0) (Memref.whole main_arg3) _ _ _ fun y => congrArg (X main_arg3 : Vec F S16x1536x4096 .i8) (by
      have h0 : (y 0).val < 1 := (y 0).isLt
      funext a; apply Fin.ext; fin_cases a
      · show e.val = e.val + 1 * (y 0).val; omega
      · rfl
      · rfl))

theorem waitW1a (s : Fin 2) (j : Fin 4) (e : Fin 16) {om : Fin 2 → ℕ} (hm : om = ![s.val, j.val]) {inbm : ∀ a, om a + S1x1.size a ≤ S2x4.size a}
    {od : Fin 3 → ℕ} {inbd : ∀ a, od a + S1x1536x512.size a ≤ S2x1536x4096.size a} {srcw : Memref sig .tc .hbm S1536x512 .i8}
    {h1 h2} {α : Type} {k : PUnit → Prog (TpuEff nD τ sig (Elt F) Λ .tc) α} {Q : α → sProp (MT nD τ sig Unit (Elt F) ℕ (Pipeline.UD sig nD τ) ℕ)} :
    iprop(flyW1 c X s j e 0 ∗ (∃ W, owes (c : Thread nD τ) 0 W) : sProp 𝕄) ⊢ iprop(((flyW1 c X s j e 1 ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch14.slice (Rect.unit (s := S2x4) om S1x1.size inbm)).squeeze S_ squeezes_S1x1_S_).sem srcw (((Memref.whole cc0_scratch0).slice (Rect.unit (s := S2x1536x4096) od S1x1536x512.size inbd) (fun _ => rfl)).squeeze S1536x512 squeezes_S1x1536x512_S1536x512) h1 h2) k) Q) := by
  subst hm
  exact wait2a (src0 := srcW1 e 0 j) (dst0 := dstW1 s 0 j) (src1 := srcW1 e 1 j) (dst1 := dstW1 s 1 j) 𝒱 (c : Thread nD τ) bd rfl (View.dmaCredit_pos _ (by decide))

theorem waitW1b (s : Fin 2) (j : Fin 4) (e : Fin 16) {om : Fin 2 → ℕ} (hm : om = ![s.val, j.val]) {inbm : ∀ a, om a + S1x1.size a ≤ S2x4.size a}
    {od : Fin 3 → ℕ} {inbd : ∀ a, od a + S1x1536x512.size a ≤ S2x1536x4096.size a} {srcw : Memref sig .tc .hbm S1536x512 .i8}
    {h1 h2} {α : Type} {k : PUnit → Prog (TpuEff nD τ sig (Elt F) Λ .tc) α} {Q : α → sProp (MT nD τ sig Unit (Elt F) ℕ (Pipeline.UD sig nD τ) ℕ)} :
    iprop(flyW1 c X s j e 1 ∗ (∃ W, owes (c : Thread nD τ) 0 W) : sProp 𝕄) ⊢ iprop(((((c : Thread nD τ).loc main_arg3 ↦{qW1 s 0 j} X main_arg3) ∗ ((c : Thread nD τ).loc main_arg3 ↦{qW1 s 1 j} X main_arg3)
        ∗ ((c : Thread nD τ).loc cc0_scratch0 ↦[(dstW1 s 0 j).view.set]{fullShare} (gW1 c X e : Buf (Elt F) ((c : Thread nD τ).loc cc0_scratch0)))
        ∗ ((c : Thread nD τ).loc cc0_scratch0 ↦[(dstW1 s 1 j).view.set]{fullShare} (gW1 c X e : Buf (Elt F) ((c : Thread nD τ).loc cc0_scratch0)))
        ∗ semVal ((c : Thread nD τ), .dma (semW1 s j)) 0 ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch14.slice (Rect.unit (s := S2x4) om S1x1.size inbm)).squeeze S_ squeezes_S1x1_S_).sem srcw (((Memref.whole cc0_scratch0).slice (Rect.unit (s := S2x1536x4096) od S1x1536x512.size inbd) (fun _ => rfl)).squeeze S1536x512 squeezes_S1x1536x512_S1536x512) h1 h2) k) Q) := by
  subst hm
  exact wait2b (src0 := srcW1 e 0 j) (dst0 := dstW1 s 0 j) (src1 := srcW1 e 1 j) (dst1 := dstW1 s 1 j) 𝒱 (c : Thread nD τ) bd rfl (View.dmaCredit_pos _ (by decide))

end Cert.Kernel.Hand

end
-- ==== Proof.BitsSteps.lean ====
/-
  Reading and writing the kernel's buffers: what a load of a block at stated offsets reads, what a store leaves, for each
  buffer the kernel touches with vector operations.
-/
module

public import proofs.«01_k».proof.Proof.BitsSlots

@[expose] public section

noncomputable section

namespace Cert.Kernel.Hand

open Cert.Kernel Cert.Kernel.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}
variable {α : Type} {Q : α → sProp (MT nD τ sig Unit (Elt F) ℕ (Pipeline.UD sig nD τ) ℕ)}

theorem ret_bind' {E : Type → Type} {β γ : Type} (a : β) (k : β → Prog E γ) : (Prog.ret a).bind k = k a := rfl

/-- The `m0 x m1` block of a matrix at row `r`, column `cc`. -/
def blk2 {n0 n1 : ℕ} [NeZero n0] [NeZero n1] {β : Type} (m0 m1 : ℕ) (T : (⟨2, ![n0, n1]⟩ : Shape).Idx → β) (r cc : ℕ) : (⟨2, ![m0, m1]⟩ : Shape).Idx → β :=
  fun y => T (ix2 (Fin.ofNat n0 (r + (y 0).val)) (Fin.ofNat n1 (cc + (y 1).val)))

/-- The matrix with the columns from `cc` on overwritten by the columns of `w`. -/
def updC {n0 n1 m1 : ℕ} {β : Type} (T : (⟨2, ![n0, n1]⟩ : Shape).Idx → β) (cc : ℕ) (w : (⟨2, ![n0, m1]⟩ : Shape).Idx → β) : (⟨2, ![n0, n1]⟩ : Shape).Idx → β :=
  fun i => if h : cc ≤ (i 1).val ∧ (i 1).val < cc + m1 then w (ix2 (i 0) ⟨(i 1).val - cc, by omega⟩) else T i

/-- The block `64 x 256` of one matrix of a stack. -/
def blk3 {n0 n1 n2 : ℕ} [NeZero n1] [NeZero n2] {β : Type} (T : (⟨3, ![n0, n1, n2]⟩ : Shape).Idx → β) (e : Fin n0) (r cc : ℕ) : (⟨3, ![1, 64, 256]⟩ : Shape).Idx → β :=
  fun y => T (ix3 e (Fin.ofNat n1 (r + (y 1).val)) (Fin.ofNat n2 (cc + (y 2).val)))

/-- Matrix `(e, b)` of the table of routing weights and counts. -/
def rowT {β : Type} (T : (⟨4, ![16, 2, 96, 128]⟩ : Shape).Idx → β) (e : Fin 16) (b : Fin 2) : (⟨4, ![1, 1, 96, 128]⟩ : Shape).Idx → β :=
  fun y => T (ix4 e b (y 2) (y 3))

/-- The table with matrix `(e, b)` overwritten. -/
def updT {β : Type} (T : (⟨4, ![16, 2, 96, 128]⟩ : Shape).Idx → β) (e : ℕ) (b : ℕ) (w : (⟨4, ![1, 1, 96, 128]⟩ : Shape).Idx → β) : (⟨4, ![16, 2, 96, 128]⟩ : Shape).Idx → β :=
  fun i => if (i 0).val = e ∧ (i 1).val = b then w (ix4 0 0 (i 2) (i 3)) else T i

theorem loadAt {cs : CoreSpace} {s : Shape} {e : EltTy} {m : Memref sig .tc cs s e} {r : Rect s} {hl : m.view.LoadsAt r.toLoadRect}
    {k : (r.shape.Idx → Elt F e) → Prog (TpuEff nD τ sig (Elt F) Λ .tc) α} {S : Finset (Idx (m.view.loc (c : Thread nD τ)))} {q : PosShare TreeShare}
    {f : Buf (Elt F) (m.view.loc (c : Thread nD τ))} (v : r.shape.Idx → Elt F e) (hS : m.view.setOn r.set ⊆ S)
    (hv : m.view.readAt (Elt F) r.toLoadRect f = v) :
    (m.view.loc (c : Thread nD τ) ↦[S]{q} f : sProp 𝕄) ⊢ iprop(((m.view.loc (c : Thread nD τ) ↦[S]{q} f) -∗ wp frame (wpE defs 𝒱 (c : Thread nD τ) bd) Set.univ (k v) Q)
      -∗ wp frame (wpE defs 𝒱 (c : Thread nD τ) bd) Set.univ (.op (.load m r.toLoadRect hl) k) Q) := by
  subst hv
  exact wp_load 𝒱 (c : Thread nD τ) bd Set.univ hS

theorem storeAt {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ .tc) α}
    {f : Buf (Elt F) ((m.access r).loc (c : Thread nD τ))} (g : Buf (Elt F) ((m.access r).loc (c : Thread nD τ)))
    (hg : (m.access r).write (Elt F) f w Finset.univ = g) :
    ((m.access r).loc (c : Thread nD τ) ↦{fullShare} f : sProp 𝕄) ⊢ iprop((((m.access r).loc (c : Thread nD τ) ↦{fullShare} g) -∗ wp frame (wpE defs 𝒱 (c : Thread nD τ) bd) Set.univ (k ⟨⟩) Q)
      -∗ wp frame (wpE defs 𝒱 (c : Thread nD τ) bd) Set.univ (.op (.store m r w Finset.univ hx hm) k) Q) := by
  subst hg
  exact wp_store 𝒱 (c : Thread nD τ) bd Set.univ (Finset.subset_univ _)

theorem load_cc0_stg0_0 (r cc : ℕ) {off : Fin 2 → ℕ} (ho : off = ![r, cc]) {inb : ∀ a, off a + S96x256.size a ≤ S96x3072.size a} {hl}
    {k : Vec F S96x256 .bf16 → Prog (TpuEff nD τ sig (Elt F) Λ .tc) α} {q : PosShare TreeShare} (f : Vec F S96x3072 .bf16) :
    ((c : Thread nD τ).loc cc0_stg0_0 ↦{q} (f : Buf (Elt F) ((c : Thread nD τ).loc cc0_stg0_0)) : sProp 𝕄) ⊢ iprop((((c : Thread nD τ).loc cc0_stg0_0 ↦{q} (f : Buf (Elt F) ((c : Thread nD τ).loc cc0_stg0_0))) -∗ wp frame (wpE defs 𝒱 (c : Thread nD τ) bd) Set.univ (k (blk2 96 256 f r cc)) Q)
      -∗ wp frame (wpE defs 𝒱 (c : Thread nD τ) bd) Set.univ (.op (.load (Memref.whole cc0_stg0_0) (Rect.unit (s := S96x3072) off S96x256.size inb).toLoadRect hl) k) Q) := by
  subst ho
  refine loadAt (F := F) c (m := Memref.whole cc0_stg0_0) (r := Rect.unit (s := S96x3072) ![r, cc] S96x256.size inb) (f := (f : Buf (Elt F) ((c : Thread nD τ).loc cc0_stg0_0))) (blk2 96 256 f r cc) (Finset.subset_univ _) ?_
  funext y
  have i0 := inb 0; have i1 := inb 1
  have h0 : (y 0).val < 96 := (y 0).isLt
  have h1 : (y 1).val < 256 := (y 1).isLt
  change r + 96 ≤ 96 at i0; change cc + 256 ≤ 3072 at i1
  refine congrArg f (funext fun a => Fin.ext ?_)
  fin_cases a
  · show r + 1 * (y 0).val = (r + (y 0).val) % 96
    rw [Nat.one_mul, Nat.mod_eq_of_lt (by omega)]
  · show cc + 1 * (y 1).val = (cc + (y 1).val) % 3072
    rw [Nat.one_mul, Nat.mod_eq_of_lt (by omega)]

theorem load_cc0_scratch6 (r cc : ℕ) {off : Fin 2 → ℕ} (ho : off = ![r, cc]) {inb : ∀ a, off a + S1x256.size a ≤ S24x4096.size a} {hl}
    {k : Vec F S1x256 .f32 → Prog (TpuEff nD τ sig (Elt F) Λ .tc) α} {q : PosShare TreeShare} (f : Vec F S24x4096 .f32) :
    ((c : Thread nD τ).loc cc0_scratch6 ↦{q} (f : Buf (Elt F) ((c : Thread nD τ).loc cc0_scratch6)) : sProp 𝕄) ⊢ iprop((((c : Thread nD τ).loc cc0_scratch6 ↦{q} (f : Buf (Elt F) ((c : Thread nD τ).loc cc0_scratch6))) -∗ wp frame (wpE defs 𝒱 (c : Thread nD τ) bd) Set.univ (k (blk2 1 256 f r cc)) Q)
      -∗ wp frame (wpE defs 𝒱 (c : Thread nD τ) bd) Set.univ (.op (.load (Memref.whole cc0_scratch6) (Rect.unit (s := S24x4096) off S1x256.size inb).toLoadRect hl) k) Q) := by
  subst ho
  refine loadAt (F := F) c (m := Memref.whole cc0_scratch6) (r := Rect.unit (s := S24x4096) ![r, cc] S1x256.size inb) (f := (f : Buf (Elt F) ((c : Thread nD τ).loc cc0_scratch6))) (blk2 1 256 f r cc) (Finset.subset_univ _) ?_
  funext y
  have i0 := inb 0; have i1 := inb 1
  have h0 : (y 0).val < 1 := (y 0).isLt
  have h1 : (y 1).val < 256 := (y 1).isLt
  change r + 1 ≤ 24 at i0; change cc + 256 ≤ 4096 at i1
  refine congrArg f (funext fun a => Fin.ext ?_)
  fin_cases a
  · show r + 1 * (y 0).val = (r + (y 0).val) % 24
    rw [Nat.one_mul, Nat.mod_eq_of_lt (by omega)]
  · show cc + 1 * (y 1).val = (cc + (y 1).val) % 4096
    rw [Nat.one_mul, Nat.mod_eq_of_lt (by omega)]

theorem load_cc0_scratch7 (r cc : ℕ) {off : Fin 2 → ℕ} (ho : off = ![r, cc]) {inb : ∀ a, off a + S1x256.size a ≤ S24x4096.size a} {hl}
    {k : Vec F S1x256 .f32 → Prog (TpuEff nD τ sig (Elt F) Λ .tc) α} {q : PosShare TreeShare} (f : Vec F S24x4096 .f32) :
    ((c : Thread nD τ).loc cc0_scratch7 ↦{q} (f : Buf (Elt F) ((c : Thread nD τ).loc cc0_scratch7)) : sProp 𝕄) ⊢ iprop((((c : Thread nD τ).loc cc0_scratch7 ↦{q} (f : Buf (Elt F) ((c : Thread nD τ).loc cc0_scratch7))) -∗ wp frame (wpE defs 𝒱 (c : Thread nD τ) bd) Set.univ (k (blk2 1 256 f r cc)) Q)
      -∗ wp frame (wpE defs 𝒱 (c : Thread nD τ) bd) Set.univ (.op (.load (Memref.whole cc0_scratch7) (Rect.unit (s := S24x4096) off S1x256.size inb).toLoadRect hl) k) Q) := by
  subst ho
  refine loadAt (F := F) c (m := Memref.whole cc0_scratch7) (r := Rect.unit (s := S24x4096) ![r, cc] S1x256.size inb) (f := (f : Buf (Elt F) ((c : Thread nD τ).loc cc0_scratch7))) (blk2 1 256 f r cc) (Finset.subset_univ _) ?_
  funext y
  have i0 := inb 0; have i1 := inb 1
  have h0 : (y 0).val < 1 := (y 0).isLt
  have h1 : (y 1).val < 256 := (y 1).isLt
  change r + 1 ≤ 24 at i0; change cc + 256 ≤ 4096 at i1
  refine congrArg f (funext fun a => Fin.ext ?_)
  fin_cases a
  · show r + 1 * (y 0).val = (r + (y 0).val) % 24
    rw [Nat.one_mul, Nat.mod_eq_of_lt (by omega)]
  · show cc + 1 * (y 1).val = (cc + (y 1).val) % 4096
    rw [Nat.one_mul, Nat.mod_eq_of_lt (by omega)]

theorem load_cc0_scratch8 (r cc : ℕ) {off : Fin 2 → ℕ} (ho : off = ![r, cc]) {inb : ∀ a, off a + S1x256.size a ≤ S16x3072.size a} {hl}
    {k : Vec F S1x256 .f32 → Prog (TpuEff nD τ sig (Elt F) Λ .tc) α} {q : PosShare TreeShare} (f : Vec F S16x3072 .f32) :
    ((c : Thread nD τ).loc cc0_scratch8 ↦{q} (f : Buf (Elt F) ((c : Thread nD τ).loc cc0_scratch8)) : sProp 𝕄) ⊢ iprop((((c : Thread nD τ).loc cc0_scratch8 ↦{q} (f : Buf (Elt F) ((c : Thread nD τ).loc cc0_scratch8))) -∗ wp frame (wpE defs 𝒱 (c : Thread nD τ) bd) Set.univ (k (blk2 1 256 f r cc)) Q)
      -∗ wp frame (wpE defs 𝒱 (c : Thread nD τ) bd) Set.univ (.op (.load (Memref.whole cc0_scratch8) (Rect.unit (s := S16x3072) off S1x256.size inb).toLoadRect hl) k) Q) := by
  subst ho
  refine loadAt (F := F) c (m := Memref.whole cc0_scratch8) (r := Rect.unit (s := S16x3072) ![r, cc] S1x256.size inb) (f := (f : Buf (Elt F) ((c : Thread nD τ).loc cc0_scratch8))) (blk2 1 256 f r cc) (Finset.subset_univ _) ?_
  funext y
  have i0 := inb 0; have i1 := inb 1
  have h0 : (y 0).val < 1 := (y 0).isLt
  have h1 : (y 1).val < 256 := (y 1).isLt
  change r + 1 ≤ 16 at i0; change cc + 256 ≤ 3072 at i1
  refine congrArg f (funext fun a => Fin.ext ?_)
  fin_cases a
  · show r + 1 * (y 0).val = (r + (y 0).val) % 16
    rw [Nat.one_mul, Nat.mod_eq_of_lt (by omega)]
  · show cc + 1 * (y 1).val = (cc + (y 1).val) % 3072
    rw [Nat.one_mul, Nat.mod_eq_of_lt (by omega)]

theorem load_cc0_scratch9 (r cc : ℕ) {off : Fin 2 → ℕ} (ho : off = ![r, cc]) {inb : ∀ a, off a + S1x256.size a ≤ S16x3072.size a} {hl}
    {k : Vec F S1x256 .f32 → Prog (TpuEff nD τ sig (Elt F) Λ .tc) α} {q : PosShare TreeShare} (f : Vec F S16x3072 .f32) :
    ((c : Thread nD τ).loc cc0_scratch9 ↦{q} (f : Buf (Elt F) ((c : Thread nD τ).loc cc0_scratch9)) : sProp 𝕄) ⊢ iprop((((c : Thread nD τ).loc cc0_scratch9 ↦{q} (f : Buf (Elt F) ((c : Thread nD τ).loc cc0_scratch9))) -∗ wp frame (wpE defs 𝒱 (c : Thread nD τ) bd) Set.univ (k (blk2 1 256 f r cc)) Q)
      -∗ wp frame (wpE defs 𝒱 (c : Thread nD τ) bd) Set.univ (.op (.load (Memref.whole cc0_scratch9) (Rect.unit (s := S16x3072) off S1x256.size inb).toLoadRect hl) k) Q) := by
  subst ho
  refine loadAt (F := F) c (m := Memref.whole cc0_scratch9) (r := Rect.unit (s := S16x3072) ![r, cc] S1x256.size inb) (f := (f : Buf (Elt F) ((c : Thread nD τ).loc cc0_scratch9))) (blk2 1 256 f r cc) (Finset.subset_univ _) ?_
  funext y
  have i0 := inb 0; have i1 := inb 1
  have h0 : (y 0).val < 1 := (y 0).isLt
  have h1 : (y 1).val < 256 := (y 1).isLt
  change r + 1 ≤ 16 at i0; change cc + 256 ≤ 3072 at i1
  refine congrArg f (funext fun a => Fin.ext ?_)
  fin_cases a
  · show r + 1 * (y 0).val = (r + (y 0).val) % 16
    rw [Nat.one_mul, Nat.mod_eq_of_lt (by omega)]
  · show cc + 1 * (y 1).val = (cc + (y 1).val) % 3072
    rw [Nat.one_mul, Nat.mod_eq_of_lt (by omega)]

theorem load_cc0_scratch10 (r cc : ℕ) {off : Fin 2 → ℕ} (ho : off = ![r, cc]) {inb : ∀ a, off a + S96x256.size a ≤ S96x2048.size a} {hl}
    {k : Vec F S96x256 .bf16 → Prog (TpuEff nD τ sig (Elt F) Λ .tc) α} {q : PosShare TreeShare} (f : Vec F S96x2048 .bf16) :
    ((c : Thread nD τ).loc cc0_scratch10 ↦{q} (f : Buf (Elt F) ((c : Thread nD τ).loc cc0_scratch10)) : sProp 𝕄) ⊢ iprop((((c : Thread nD τ).loc cc0_scratch10 ↦{q} (f : Buf (Elt F) ((c : Thread nD τ).loc cc0_scratch10))) -∗ wp frame (wpE defs 𝒱 (c : Thread nD τ) bd) Set.univ (k (blk2 96 256 f r cc)) Q)
      -∗ wp frame (wpE defs 𝒱 (c : Thread nD τ) bd) Set.univ (.op (.load (Memref.whole cc0_scratch10) (Rect.unit (s := S96x2048) off S96x256.size inb).toLoadRect hl) k) Q) := by
  subst ho
  refine loadAt (F := F) c (m := Memref.whole cc0_scratch10) (r := Rect.unit (s := S96x2048) ![r, cc] S96x256.size inb) (f := (f : Buf (Elt F) ((c : Thread nD τ).loc cc0_scratch10))) (blk2 96 256 f r cc) (Finset.subset_univ _) ?_
  funext y
  have i0 := inb 0; have i1 := inb 1
  have h0 : (y 0).val < 96 := (y 0).isLt
  have h1 : (y 1).val < 256 := (y 1).isLt
  change r + 96 ≤ 96 at i0; change cc + 256 ≤ 2048 at i1
  refine congrArg f (funext fun a => Fin.ext ?_)
  fin_cases a
  · show r + 1 * (y 0).val = (r + (y 0).val) % 96
    rw [Nat.one_mul, Nat.mod_eq_of_lt (by omega)]
  · show cc + 1 * (y 1).val = (cc + (y 1).val) % 2048
    rw [Nat.one_mul, Nat.mod_eq_of_lt (by omega)]

theorem load_cc0_scratch11 (r cc : ℕ) {off : Fin 2 → ℕ} (ho : off = ![r, cc]) {inb : ∀ a, off a + S96x256.size a ≤ S96x3072.size a} {hl}
    {k : Vec F S96x256 .f32 → Prog (TpuEff nD τ sig (Elt F) Λ .tc) α} {q : PosShare TreeShare} (f : Vec F S96x3072 .f32) :
    ((c : Thread nD τ).loc cc0_scratch11 ↦{q} (f : Buf (Elt F) ((c : Thread nD τ).loc cc0_scratch11)) : sProp 𝕄) ⊢ iprop((((c : Thread nD τ).loc cc0_scratch11 ↦{q} (f : Buf (Elt F) ((c : Thread nD τ).loc cc0_scratch11))) -∗ wp frame (wpE defs 𝒱 (c : Thread nD τ) bd) Set.univ (k (blk2 96 256 f r cc)) Q)
      -∗ wp frame (wpE defs 𝒱 (c : Thread nD τ) bd) Set.univ (.op (.load (Memref.whole cc0_scratch11) (Rect.unit (s := S96x3072) off S96x256.size inb).toLoadRect hl) k) Q) := by
  subst ho
  refine loadAt (F := F) c (m := Memref.whole cc0_scratch11) (r := Rect.unit (s := S96x3072) ![r, cc] S96x256.size inb) (f := (f : Buf (Elt F) ((c : Thread nD τ).loc cc0_scratch11))) (blk2 96 256 f r cc) (Finset.subset_univ _) ?_
  funext y
  have i0 := inb 0; have i1 := inb 1
  have h0 : (y 0).val < 96 := (y 0).isLt
  have h1 : (y 1).val < 256 := (y 1).isLt
  change r + 96 ≤ 96 at i0; change cc + 256 ≤ 3072 at i1
  refine congrArg f (funext fun a => Fin.ext ?_)
  fin_cases a
  · show r + 1 * (y 0).val = (r + (y 0).val) % 96
    rw [Nat.one_mul, Nat.mod_eq_of_lt (by omega)]
  · show cc + 1 * (y 1).val = (cc + (y 1).val) % 3072
    rw [Nat.one_mul, Nat.mod_eq_of_lt (by omega)]

theorem store_cc0_scratch7 (cc : ℕ) {off : Fin 2 → ℕ} (ho : off = ![0, cc]) {inb : ∀ a, off a + S24x2048.size a ≤ S24x4096.size a} {hx hm}
    {k : PUnit → Prog (TpuEff nD τ sig (Elt F) Λ .tc) α} (f : Vec F S24x4096 .f32) (w : Vec F S24x2048 .f32) :
    ((c : Thread nD τ).loc cc0_scratch7 ↦{fullShare} (f : Buf (Elt F) ((c : Thread nD τ).loc cc0_scratch7)) : sProp 𝕄) ⊢ iprop((((c : Thread nD τ).loc cc0_scratch7 ↦{fullShare} (updC f cc w : Buf (Elt F) ((c : Thread nD τ).loc cc0_scratch7))) -∗ wp frame (wpE defs 𝒱 (c : Thread nD τ) bd) Set.univ (k ⟨⟩) Q)
      -∗ wp frame (wpE defs 𝒱 (c : Thread nD τ) bd) Set.univ (.op (.store (Memref.whole cc0_scratch7) (Rect.unit (s := S24x4096) off S24x2048.size inb) w Finset.univ hx hm) k) Q) := by
  subst ho
  refine storeAt (F := F) c (m := Memref.whole cc0_scratch7) (r := Rect.unit (s := S24x4096) ![0, cc] S24x2048.size inb) (f := f) (updC f cc w) ?_
  have i1 := inb 1
  change cc + 2048 ≤ 4096 at i1
  funext i
  unfold updC
  split
  · rename_i h
    have he : (Rect.unit (s := S24x4096) ![0, cc] S24x2048.size inb).emb (ix2 (i 0) ⟨(i 1).val - cc, by omega⟩) = i := by
      refine funext fun a => Fin.ext ?_
      fin_cases a
      · show 0 + 1 * (i 0).val = (i 0).val; omega
      · show cc + 1 * ((i 1).val - cc) = (i 1).val; omega
    exact (congrArg (((Memref.whole cc0_scratch7).access (Rect.unit (s := S24x4096) ![0, cc] S24x2048.size inb)).write (Elt F) f w Finset.univ) he.symm).trans
      (View.write_emb_of_mem (v := (Memref.whole cc0_scratch7).access (Rect.unit (s := S24x4096) ![0, cc] S24x2048.size inb)) f w (Finset.mem_univ _))
  · rename_i h
    refine View.write_of_not_mem (v := (Memref.whole cc0_scratch7).access (Rect.unit (s := S24x4096) ![0, cc] S24x2048.size inb)) f w Finset.univ (i := i) fun hm => h ?_
    obtain ⟨x, -, rfl⟩ := Finset.mem_map.mp hm
    have hx : (x 1).val < 2048 := (x 1).isLt
    constructor
    · show cc ≤ cc + 1 * (x 1).val; omega
    · show cc + 1 * (x 1).val < cc + 2048; omega

theorem store_cc0_scratch9 (cc : ℕ) {off : Fin 2 → ℕ} (ho : off = ![0, cc]) {inb : ∀ a, off a + S16x1536.size a ≤ S16x3072.size a} {hx hm}
    {k : PUnit → Prog (TpuEff nD τ sig (Elt F) Λ .tc) α} (f : Vec F S16x3072 .f32) (w : Vec F S16x1536 .f32) :
    ((c : Thread nD τ).loc cc0_scratch9 ↦{fullShare} (f : Buf (Elt F) ((c : Thread nD τ).loc cc0_scratch9)) : sProp 𝕄) ⊢ iprop((((c : Thread nD τ).loc cc0_scratch9 ↦{fullShare} (updC f cc w : Buf (Elt F) ((c : Thread nD τ).loc cc0_scratch9))) -∗ wp frame (wpE defs 𝒱 (c : Thread nD τ) bd) Set.univ (k ⟨⟩) Q)
      -∗ wp frame (wpE defs 𝒱 (c : Thread nD τ) bd) Set.univ (.op (.store (Memref.whole cc0_scratch9) (Rect.unit (s := S16x3072) off S16x1536.size inb) w Finset.univ hx hm) k) Q) := by
  subst ho
  refine storeAt (F := F) c (m := Memref.whole cc0_scratch9) (r := Rect.unit (s := S16x3072) ![0, cc] S16x1536.size inb) (f := f) (updC f cc w) ?_
  have i1 := inb 1
  change cc + 1536 ≤ 3072 at i1
  funext i
  unfold updC
  split
  · rename_i h
    have he : (Rect.unit (s := S16x3072) ![0, cc] S16x1536.size inb).emb (ix2 (i 0) ⟨(i 1).val - cc, by omega⟩) = i := by
      refine funext fun a => Fin.ext ?_
      fin_cases a
      · show 0 + 1 * (i 0).val = (i 0).val; omega
      · show cc + 1 * ((i 1).val - cc) = (i 1).val; omega
    exact (congrArg (((Memref.whole cc0_scratch9).access (Rect.unit (s := S16x3072) ![0, cc] S16x1536.size inb)).write (Elt F) f w Finset.univ) he.symm).trans
      (View.write_emb_of_mem (v := (Memref.whole cc0_scratch9).access (Rect.unit (s := S16x3072) ![0, cc] S16x1536.size inb)) f w (Finset.mem_univ _))
  · rename_i h
    refine View.write_of_not_mem (v := (Memref.whole cc0_scratch9).access (Rect.unit (s := S16x3072) ![0, cc] S16x1536.size inb)) f w Finset.univ (i := i) fun hm => h ?_
    obtain ⟨x, -, rfl⟩ := Finset.mem_map.mp hm
    have hx : (x 1).val < 1536 := (x 1).isLt
    constructor
    · show cc ≤ cc + 1 * (x 1).val; omega
    · show cc + 1 * (x 1).val < cc + 1536; omega

theorem store_cc0_scratch10 (cc : ℕ) {off : Fin 2 → ℕ} (ho : off = ![0, cc]) {inb : ∀ a, off a + S96x256.size a ≤ S96x2048.size a} {hx hm}
    {k : PUnit → Prog (TpuEff nD τ sig (Elt F) Λ .tc) α} (f : Vec F S96x2048 .bf16) (w : Vec F S96x256 .bf16) :
    ((c : Thread nD τ).loc cc0_scratch10 ↦{fullShare} (f : Buf (Elt F) ((c : Thread nD τ).loc cc0_scratch10)) : sProp 𝕄) ⊢ iprop((((c : Thread nD τ).loc cc0_scratch10 ↦{fullShare} (updC f cc w : Buf (Elt F) ((c : Thread nD τ).loc cc0_scratch10))) -∗ wp frame (wpE defs 𝒱 (c : Thread nD τ) bd) Set.univ (k ⟨⟩) Q)
      -∗ wp frame (wpE defs 𝒱 (c : Thread nD τ) bd) Set.univ (.op (.store (Memref.whole cc0_scratch10) (Rect.unit (s := S96x2048) off S96x256.size inb) w Finset.univ hx hm) k) Q) := by
  subst ho
  refine storeAt (F := F) c (m := Memref.whole cc0_scratch10) (r := Rect.unit (s := S96x2048) ![0, cc] S96x256.size inb) (f := f) (updC f cc w) ?_
  have i1 := inb 1
  change cc + 256 ≤ 2048 at i1
  funext i
  unfold updC
  split
  · rename_i h
    have he : (Rect.unit (s := S96x2048) ![0, cc] S96x256.size inb).emb (ix2 (i 0) ⟨(i 1).val - cc, by omega⟩) = i := by
      refine funext fun a => Fin.ext ?_
      fin_cases a
      · show 0 + 1 * (i 0).val = (i 0).val; omega
      · show cc + 1 * ((i 1).val - cc) = (i 1).val; omega
    exact (congrArg (((Memref.whole cc0_scratch10).access (Rect.unit (s := S96x2048) ![0, cc] S96x256.size inb)).write (Elt F) f w Finset.univ) he.symm).trans
      (View.write_emb_of_mem (v := (Memref.whole cc0_scratch10).access (Rect.unit (s := S96x2048) ![0, cc] S96x256.size inb)) f w (Finset.mem_univ _))
  · rename_i h
    refine View.write_of_not_mem (v := (Memref.whole cc0_scratch10).access (Rect.unit (s := S96x2048) ![0, cc] S96x256.size inb)) f w Finset.univ (i := i) fun hm => h ?_
    obtain ⟨x, -, rfl⟩ := Finset.mem_map.mp hm
    have hx : (x 1).val < 256 := (x 1).isLt
    constructor
    · show cc ≤ cc + 1 * (x 1).val; omega
    · show cc + 1 * (x 1).val < cc + 256; omega

theorem store_cc0_scratch11 (cc : ℕ) {off : Fin 2 → ℕ} (ho : off = ![0, cc]) {inb : ∀ a, off a + S96x256.size a ≤ S96x3072.size a} {hx hm}
    {k : PUnit → Prog (TpuEff nD τ sig (Elt F) Λ .tc) α} (f : Vec F S96x3072 .f32) (w : Vec F S96x256 .f32) :
    ((c : Thread nD τ).loc cc0_scratch11 ↦{fullShare} (f : Buf (Elt F) ((c : Thread nD τ).loc cc0_scratch11)) : sProp 𝕄) ⊢ iprop((((c : Thread nD τ).loc cc0_scratch11 ↦{fullShare} (updC f cc w : Buf (Elt F) ((c : Thread nD τ).loc cc0_scratch11))) -∗ wp frame (wpE defs 𝒱 (c : Thread nD τ) bd) Set.univ (k ⟨⟩) Q)
      -∗ wp frame (wpE defs 𝒱 (c : Thread nD τ) bd) Set.univ (.op (.store (Memref.whole cc0_scratch11) (Rect.unit (s := S96x3072) off S96x256.size inb) w Finset.univ hx hm) k) Q) := by
  subst ho
  refine storeAt (F := F) c (m := Memref.whole cc0_scratch11) (r := Rect.unit (s := S96x3072) ![0, cc] S96x256.size inb) (f := f) (updC f cc w) ?_
  have i1 := inb 1
  change cc + 256 ≤ 3072 at i1
  funext i
  unfold updC
  split
  · rename_i h
    have he : (Rect.unit (s := S96x3072) ![0, cc] S96x256.size inb).emb (ix2 (i 0) ⟨(i 1).val - cc, by omega⟩) = i := by
      refine funext fun a => Fin.ext ?_
      fin_cases a
      · show 0 + 1 * (i 0).val = (i 0).val; omega
      · show cc + 1 * ((i 1).val - cc) = (i 1).val; omega
    exact (congrArg (((Memref.whole cc0_scratch11).access (Rect.unit (s := S96x3072) ![0, cc] S96x256.size inb)).write (Elt F) f w Finset.univ) he.symm).trans
      (View.write_emb_of_mem (v := (Memref.whole cc0_scratch11).access (Rect.unit (s := S96x3072) ![0, cc] S96x256.size inb)) f w (Finset.mem_univ _))
  · rename_i h
    refine View.write_of_not_mem (v := (Memref.whole cc0_scratch11).access (Rect.unit (s := S96x3072) ![0, cc] S96x256.size inb)) f w Finset.univ (i := i) fun hm => h ?_
    obtain ⟨x, -, rfl⟩ := Finset.mem_map.mp hm
    have hx : (x 1).val < 256 := (x 1).isLt
    constructor
    · show cc ≤ cc + 1 * (x 1).val; omega
    · show cc + 1 * (x 1).val < cc + 256; omega

theorem load_W1 (X : (b : Ref sig .tc) → Buf (Elt F) ((c : Thread nD τ).loc b)) (e : Fin 16) (s : Fin 2) (h : Fin 2) (j : Fin 4) (r cc : ℕ) {off : Fin 3 → ℕ} (ho : off = ![s.val, r, cc])
    (h1 : 2048 * h.val + 512 * j.val ≤ cc) (h2 : cc + 256 ≤ 2048 * h.val + 512 * j.val + 512) {inb : ∀ a, off a + S1x64x256.size a ≤ S2x1536x4096.size a} {hl}
    {k : Vec F S1x64x256 .i8 → Prog (TpuEff nD τ sig (Elt F) Λ .tc) α} {q : PosShare TreeShare} :
    ((c : Thread nD τ).loc cc0_scratch0 ↦[(dstW1 s h j).view.set]{q} (gW1 c X e : Buf (Elt F) ((c : Thread nD τ).loc cc0_scratch0)) : sProp 𝕄)
      ⊢ iprop((((c : Thread nD τ).loc cc0_scratch0 ↦[(dstW1 s h j).view.set]{q} (gW1 c X e : Buf (Elt F) ((c : Thread nD τ).loc cc0_scratch0))) -∗ wp frame (wpE defs 𝒱 (c : Thread nD τ) bd) Set.univ (k (blk3 (X main_arg3 : Vec F S16x1536x4096 .i8) e r cc)) Q)
      -∗ wp frame (wpE defs 𝒱 (c : Thread nD τ) bd) Set.univ (.op (.load (Memref.whole cc0_scratch0) (Rect.unit (s := S2x1536x4096) off S1x64x256.size inb).toLoadRect hl) k) Q) := by
  subst ho
  have i1 := inb 1; have i2 := inb 2
  change r + 64 ≤ 1536 at i1; change cc + 256 ≤ 4096 at i2
  refine loadAt (F := F) c (m := Memref.whole cc0_scratch0) (r := Rect.unit (s := S2x1536x4096) ![s.val, r, cc] S1x64x256.size inb) (f := (gW1 c X e : Buf (Elt F) ((c : Thread nD τ).loc cc0_scratch0))) (blk3 (X main_arg3 : Vec F S16x1536x4096 .i8) e r cc) ?_ ?_
  · intro i hi
    have hi' : i ∈ (Rect.unit (s := S2x1536x4096) ![s.val, r, cc] S1x64x256.size inb).set := by
      obtain ⟨x, hx, rfl⟩ := Finset.mem_map.mp hi
      exact hx
    have hm := Rect.mem_set_unit.mp hi'
    have m0 := hm 0; have m1 := hm 1; have m2 := hm 2
    change s.val ≤ (i 0).val ∧ (i 0).val < s.val + 1 at m0
    change r ≤ (i 1).val ∧ (i 1).val < r + 64 at m1
    change cc ≤ (i 2).val ∧ (i 2).val < cc + 256 at m2
    have hd : (dstW1 s h j).view.set = (Rect.unit (s := S2x1536x4096) ![s.val, 0, 2048 * h.val + 512 * j.val] S1x1536x512.size (inbW1d s h j)).set := by
      show (((View.whole cc0_scratch0).slice _).reshape _ _).set = _
      rw [View.set_reshape]
      exact View.set_slice_whole (b := cc0_scratch0) _
    rw [hd]
    refine Rect.mem_set_unit.mpr fun a => ?_
    fin_cases a
    · exact m0
    · show 0 ≤ (i 1).val ∧ (i 1).val < 0 + 1536
      omega
    · show 2048 * h.val + 512 * j.val ≤ (i 2).val ∧ (i 2).val < 2048 * h.val + 512 * j.val + 512
      omega
  · funext y
    have h0 : (y 1).val < 64 := (y 1).isLt
    have h1 : (y 2).val < 256 := (y 2).isLt
    refine congrArg (X main_arg3 : Vec F S16x1536x4096 .i8) (funext fun a => Fin.ext ?_)
    fin_cases a
    · rfl
    · show r + 1 * (y 1).val = (r + (y 1).val) % 1536
      rw [Nat.one_mul, Nat.mod_eq_of_lt (by omega)]
    · show cc + 1 * (y 2).val = (cc + (y 2).val) % 4096
      rw [Nat.one_mul, Nat.mod_eq_of_lt (by omega)]

theorem load_W2 (X : (b : Ref sig .tc) → Buf (Elt F) ((c : Thread nD τ).loc b)) (e : Fin 16) (s : Fin 2) (j : Fin 2) (r cc : ℕ) {off : Fin 3 → ℕ} (ho : off = ![s.val, r, cc])
    (h1 : 1536 * j.val ≤ cc) (h2 : cc + 256 ≤ 1536 * j.val + 1536) {inb : ∀ a, off a + S1x64x256.size a ≤ S2x1024x3072.size a} {hl}
    {k : Vec F S1x64x256 .i8 → Prog (TpuEff nD τ sig (Elt F) Λ .tc) α} {q : PosShare TreeShare} :
    ((c : Thread nD τ).loc cc0_scratch1 ↦[(dstW2 s j).view.set]{q} (gW2 c X e : Buf (Elt F) ((c : Thread nD τ).loc cc0_scratch1)) : sProp 𝕄)
      ⊢ iprop((((c : Thread nD τ).loc cc0_scratch1 ↦[(dstW2 s j).view.set]{q} (gW2 c X e : Buf (Elt F) ((c : Thread nD τ).loc cc0_scratch1))) -∗ wp frame (wpE defs 𝒱 (c : Thread nD τ) bd) Set.univ (k (blk3 (X main_arg6 : Vec F S16x1024x3072 .i8) e r cc)) Q)
      -∗ wp frame (wpE defs 𝒱 (c : Thread nD τ) bd) Set.univ (.op (.load (Memref.whole cc0_scratch1) (Rect.unit (s := S2x1024x3072) off S1x64x256.size inb).toLoadRect hl) k) Q) := by
  subst ho
  have i1 := inb 1; have i2 := inb 2
  change r + 64 ≤ 1024 at i1; change cc + 256 ≤ 3072 at i2
  refine loadAt (F := F) c (m := Memref.whole cc0_scratch1) (r := Rect.unit (s := S2x1024x3072) ![s.val, r, cc] S1x64x256.size inb) (f := (gW2 c X e : Buf (Elt F) ((c : Thread nD τ).loc cc0_scratch1))) (blk3 (X main_arg6 : Vec F S16x1024x3072 .i8) e r cc) ?_ ?_
  · intro i hi
    have hi' : i ∈ (Rect.unit (s := S2x1024x3072) ![s.val, r, cc] S1x64x256.size inb).set := by
      obtain ⟨x, hx, rfl⟩ := Finset.mem_map.mp hi
      exact hx
    have hm := Rect.mem_set_unit.mp hi'
    have m0 := hm 0; have m1 := hm 1; have m2 := hm 2
    change s.val ≤ (i 0).val ∧ (i 0).val < s.val + 1 at m0
    change r ≤ (i 1).val ∧ (i 1).val < r + 64 at m1
    change cc ≤ (i 2).val ∧ (i 2).val < cc + 256 at m2
    have hd : (dstW2 s j).view.set = (Rect.unit (s := S2x1024x3072) ![s.val, 0, 1536 * j.val] S1x1024x1536.size (inbW2d s j)).set := by
      show (((View.whole cc0_scratch1).slice _).reshape _ _).set = _
      rw [View.set_reshape]
      exact View.set_slice_whole (b := cc0_scratch1) _
    rw [hd]
    refine Rect.mem_set_unit.mpr fun a => ?_
    fin_cases a
    · exact m0
    · show 0 ≤ (i 1).val ∧ (i 1).val < 0 + 1024
      omega
    · show 1536 * j.val ≤ (i 2).val ∧ (i 2).val < 1536 * j.val + 1536
      omega
  · funext y
    have h0 : (y 1).val < 64 := (y 1).isLt
    have h1 : (y 2).val < 256 := (y 2).isLt
    refine congrArg (X main_arg6 : Vec F S16x1024x3072 .i8) (funext fun a => Fin.ext ?_)
    fin_cases a
    · rfl
    · show r + 1 * (y 1).val = (r + (y 1).val) % 1024
      rw [Nat.one_mul, Nat.mod_eq_of_lt (by omega)]
    · show cc + 1 * (y 2).val = (cc + (y 2).val) % 3072
      rw [Nat.one_mul, Nat.mod_eq_of_lt (by omega)]

/-- Expert `e`'s block of the array. -/
def blkQ0 (X : (b : Ref sig .tc) → Buf (Elt F) ((c : Thread nD τ).loc b)) (e : Fin 16) : Vec F S1x24x4096 .bf16 := fun y => (X main_arg4 : Vec F S16x24x4096 .bf16) (ix3 e (y 1) (y 2))

theorem load_Q0 (X : (b : Ref sig .tc) → Buf (Elt F) ((c : Thread nD τ).loc b)) (e : Fin 16) (s : Fin 2) {off : Fin 3 → ℕ} (ho : off = ![s.val, 0, 0])
    {inb : ∀ a, off a + S1x24x4096.size a ≤ S2x24x4096.size a} {hl}
    {k : Vec F S1x24x4096 .bf16 → Prog (TpuEff nD τ sig (Elt F) Λ .tc) α} {q : PosShare TreeShare} :
    ((c : Thread nD τ).loc cc0_scratch2 ↦[(dstQ0 s).view.set]{q} (gQ0 c X e : Buf (Elt F) ((c : Thread nD τ).loc cc0_scratch2)) : sProp 𝕄)
      ⊢ iprop((((c : Thread nD τ).loc cc0_scratch2 ↦[(dstQ0 s).view.set]{q} (gQ0 c X e : Buf (Elt F) ((c : Thread nD τ).loc cc0_scratch2))) -∗ wp frame (wpE defs 𝒱 (c : Thread nD τ) bd) Set.univ (k (blkQ0 c X e)) Q)
      -∗ wp frame (wpE defs 𝒱 (c : Thread nD τ) bd) Set.univ (.op (.load (Memref.whole cc0_scratch2) (Rect.unit (s := S2x24x4096) off S1x24x4096.size inb).toLoadRect hl) k) Q) := by
  subst ho
  refine loadAt (F := F) c (m := Memref.whole cc0_scratch2) (r := Rect.unit (s := S2x24x4096) ![s.val, 0, 0] S1x24x4096.size inb) (f := (gQ0 c X e : Buf (Elt F) ((c : Thread nD τ).loc cc0_scratch2))) (blkQ0 c X e) ?_ ?_
  · intro i hi
    have hi' : i ∈ (Rect.unit (s := S2x24x4096) ![s.val, 0, 0] S1x24x4096.size inb).set := by
      obtain ⟨x, hx, rfl⟩ := Finset.mem_map.mp hi
      exact hx
    have hd : (dstQ0 s).view.set = (Rect.unit (s := S2x24x4096) ![s.val, 0, 0] S1x24x4096.size (inbQ0d s)).set := by
      show (((View.whole cc0_scratch2).slice _).reshape _ _).set = _
      rw [View.set_reshape]
      exact View.set_slice_whole (b := cc0_scratch2) _
    rw [hd]
    exact hi'
  · funext y
    refine congrArg (X main_arg4 : Vec F S16x24x4096 .bf16) (funext fun a => Fin.ext ?_)
    fin_cases a
    · rfl
    · show 0 + 1 * (y 1).val = (y 1).val
      omega
    · show 0 + 1 * (y 2).val = (y 2).val
      omega

/-- Expert `e`'s block of the array. -/
def blkQ1 (X : (b : Ref sig .tc) → Buf (Elt F) ((c : Thread nD τ).loc b)) (e : Fin 16) : Vec F S1x24x2048 .i8 := fun y => (X main_arg5 : Vec F S16x24x2048 .i8) (ix3 e (y 1) (y 2))

theorem load_Q1 (X : (b : Ref sig .tc) → Buf (Elt F) ((c : Thread nD τ).loc b)) (e : Fin 16) (s : Fin 2) {off : Fin 3 → ℕ} (ho : off = ![s.val, 0, 0])
    {inb : ∀ a, off a + S1x24x2048.size a ≤ S2x24x2048.size a} {hl}
    {k : Vec F S1x24x2048 .i8 → Prog (TpuEff nD τ sig (Elt F) Λ .tc) α} {q : PosShare TreeShare} :
    ((c : Thread nD τ).loc cc0_scratch3 ↦[(dstQ1 s).view.set]{q} (gQ1 c X e : Buf (Elt F) ((c : Thread nD τ).loc cc0_scratch3)) : sProp 𝕄)
      ⊢ iprop((((c : Thread nD τ).loc cc0_scratch3 ↦[(dstQ1 s).view.set]{q} (gQ1 c X e : Buf (Elt F) ((c : Thread nD τ).loc cc0_scratch3))) -∗ wp frame (wpE defs 𝒱 (c : Thread nD τ) bd) Set.univ (k (blkQ1 c X e)) Q)
      -∗ wp frame (wpE defs 𝒱 (c : Thread nD τ) bd) Set.univ (.op (.load (Memref.whole cc0_scratch3) (Rect.unit (s := S2x24x2048) off S1x24x2048.size inb).toLoadRect hl) k) Q) := by
  subst ho
  refine loadAt (F := F) c (m := Memref.whole cc0_scratch3) (r := Rect.unit (s := S2x24x2048) ![s.val, 0, 0] S1x24x2048.size inb) (f := (gQ1 c X e : Buf (Elt F) ((c : Thread nD τ).loc cc0_scratch3))) (blkQ1 c X e) ?_ ?_
  · intro i hi
    have hi' : i ∈ (Rect.unit (s := S2x24x2048) ![s.val, 0, 0] S1x24x2048.size inb).set := by
      obtain ⟨x, hx, rfl⟩ := Finset.mem_map.mp hi
      exact hx
    have hd : (dstQ1 s).view.set = (Rect.unit (s := S2x24x2048) ![s.val, 0, 0] S1x24x2048.size (inbQ1d s)).set := by
      show (((View.whole cc0_scratch3).slice _).reshape _ _).set = _
      rw [View.set_reshape]
      exact View.set_slice_whole (b := cc0_scratch3) _
    rw [hd]
    exact hi'
  · funext y
    refine congrArg (X main_arg5 : Vec F S16x24x2048 .i8) (funext fun a => Fin.ext ?_)
    fin_cases a
    · rfl
    · show 0 + 1 * (y 1).val = (y 1).val
      omega
    · show 0 + 1 * (y 2).val = (y 2).val
      omega

/-- Expert `e`'s block of the array. -/
def blkQ2 (X : (b : Ref sig .tc) → Buf (Elt F) ((c : Thread nD τ).loc b)) (e : Fin 16) : Vec F S1x16x3072 .bf16 := fun y => (X main_arg7 : Vec F S16x16x3072 .bf16) (ix3 e (y 1) (y 2))

theorem load_Q2 (X : (b : Ref sig .tc) → Buf (Elt F) ((c : Thread nD τ).loc b)) (e : Fin 16) (s : Fin 2) {off : Fin 3 → ℕ} (ho : off = ![s.val, 0, 0])
    {inb : ∀ a, off a + S1x16x3072.size a ≤ S2x16x3072.size a} {hl}
    {k : Vec F S1x16x3072 .bf16 → Prog (TpuEff nD τ sig (Elt F) Λ .tc) α} {q : PosShare TreeShare} :
    ((c : Thread nD τ).loc cc0_scratch4 ↦[(dstQ2 s).view.set]{q} (gQ2 c X e : Buf (Elt F) ((c : Thread nD τ).loc cc0_scratch4)) : sProp 𝕄)
      ⊢ iprop((((c : Thread nD τ).loc cc0_scratch4 ↦[(dstQ2 s).view.set]{q} (gQ2 c X e : Buf (Elt F) ((c : Thread nD τ).loc cc0_scratch4))) -∗ wp frame (wpE defs 𝒱 (c : Thread nD τ) bd) Set.univ (k (blkQ2 c X e)) Q)
      -∗ wp frame (wpE defs 𝒱 (c : Thread nD τ) bd) Set.univ (.op (.load (Memref.whole cc0_scratch4) (Rect.unit (s := S2x16x3072) off S1x16x3072.size inb).toLoadRect hl) k) Q) := by
  subst ho
  refine loadAt (F := F) c (m := Memref.whole cc0_scratch4) (r := Rect.unit (s := S2x16x3072) ![s.val, 0, 0] S1x16x3072.size inb) (f := (gQ2 c X e : Buf (Elt F) ((c : Thread nD τ).loc cc0_scratch4))) (blkQ2 c X e) ?_ ?_
  · intro i hi
    have hi' : i ∈ (Rect.unit (s := S2x16x3072) ![s.val, 0, 0] S1x16x3072.size inb).set := by
      obtain ⟨x, hx, rfl⟩ := Finset.mem_map.mp hi
      exact hx
    have hd : (dstQ2 s).view.set = (Rect.unit (s := S2x16x3072) ![s.val, 0, 0] S1x16x3072.size (inbQ2d s)).set := by
      show (((View.whole cc0_scratch4).slice _).reshape _ _).set = _
      rw [View.set_reshape]
      exact View.set_slice_whole (b := cc0_scratch4) _
    rw [hd]
    exact hi'
  · funext y
    refine congrArg (X main_arg7 : Vec F S16x16x3072 .bf16) (funext fun a => Fin.ext ?_)
    fin_cases a
    · rfl
    · show 0 + 1 * (y 1).val = (y 1).val
      omega
    · show 0 + 1 * (y 2).val = (y 2).val
      omega

/-- Expert `e`'s block of the array. -/
def blkQ3 (X : (b : Ref sig .tc) → Buf (Elt F) ((c : Thread nD τ).loc b)) (e : Fin 16) : Vec F S1x16x1536 .i8 := fun y => (X main_arg8 : Vec F S16x16x1536 .i8) (ix3 e (y 1) (y 2))

theorem load_Q3 (X : (b : Ref sig .tc) → Buf (Elt F) ((c : Thread nD τ).loc b)) (e : Fin 16) (s : Fin 2) {off : Fin 3 → ℕ} (ho : off = ![s.val, 0, 0])
    {inb : ∀ a, off a + S1x16x1536.size a ≤ S2x16x1536.size a} {hl}
    {k : Vec F S1x16x1536 .i8 → Prog (TpuEff nD τ sig (Elt F) Λ .tc) α} {q : PosShare TreeShare} :
    ((c : Thread nD τ).loc cc0_scratch5 ↦[(dstQ3 s).view.set]{q} (gQ3 c X e : Buf (Elt F) ((c : Thread nD τ).loc cc0_scratch5)) : sProp 𝕄)
      ⊢ iprop((((c : Thread nD τ).loc cc0_scratch5 ↦[(dstQ3 s).view.set]{q} (gQ3 c X e : Buf (Elt F) ((c : Thread nD τ).loc cc0_scratch5))) -∗ wp frame (wpE defs 𝒱 (c : Thread nD τ) bd) Set.univ (k (blkQ3 c X e)) Q)
      -∗ wp frame (wpE defs 𝒱 (c : Thread nD τ) bd) Set.univ (.op (.load (Memref.whole cc0_scratch5) (Rect.unit (s := S2x16x1536) off S1x16x1536.size inb).toLoadRect hl) k) Q) := by
  subst ho
  refine loadAt (F := F) c (m := Memref.whole cc0_scratch5) (r := Rect.unit (s := S2x16x1536) ![s.val, 0, 0] S1x16x1536.size inb) (f := (gQ3 c X e : Buf (Elt F) ((c : Thread nD τ).loc cc0_scratch5))) (blkQ3 c X e) ?_ ?_
  · intro i hi
    have hi' : i ∈ (Rect.unit (s := S2x16x1536) ![s.val, 0, 0] S1x16x1536.size inb).set := by
      obtain ⟨x, hx, rfl⟩ := Finset.mem_map.mp hi
      exact hx
    have hd : (dstQ3 s).view.set = (Rect.unit (s := S2x16x1536) ![s.val, 0, 0] S1x16x1536.size (inbQ3d s)).set := by
      show (((View.whole cc0_scratch5).slice _).reshape _ _).set = _
      rw [View.set_reshape]
      exact View.set_slice_whole (b := cc0_scratch5) _
    rw [hd]
    exact hi'
  · funext y
    refine congrArg (X main_arg8 : Vec F S16x16x1536 .i8) (funext fun a => Fin.ext ?_)
    fin_cases a
    · rfl
    · show 0 + 1 * (y 1).val = (y 1).val
      omega
    · show 0 + 1 * (y 2).val = (y 2).val
      omega

theorem load_cc0_scratch12 (e : Fin 16) (b : Fin 2) {off : Fin 4 → ℕ} (ho : off = ![e.val, b.val, 0, 0]) {inb : ∀ a, off a + S1x1x96x128.size a ≤ S16x2x96x128.size a} {hl}
    {k : Vec F S1x1x96x128 .f32 → Prog (TpuEff nD τ sig (Elt F) Λ .tc) α} {q : PosShare TreeShare} (f : Vec F S16x2x96x128 .f32) :
    ((c : Thread nD τ).loc cc0_scratch12 ↦{q} (f : Buf (Elt F) ((c : Thread nD τ).loc cc0_scratch12)) : sProp 𝕄) ⊢ iprop((((c : Thread nD τ).loc cc0_scratch12 ↦{q} (f : Buf (Elt F) ((c : Thread nD τ).loc cc0_scratch12))) -∗ wp frame (wpE defs 𝒱 (c : Thread nD τ) bd) Set.univ (k (rowT f e b)) Q)
      -∗ wp frame (wpE defs 𝒱 (c : Thread nD τ) bd) Set.univ (.op (.load (Memref.whole cc0_scratch12) (Rect.unit (s := S16x2x96x128) off S1x1x96x128.size inb).toLoadRect hl) k) Q) := by
  subst ho
  refine loadAt (F := F) c (m := Memref.whole cc0_scratch12) (r := Rect.unit (s := S16x2x96x128) ![e.val, b.val, 0, 0] S1x1x96x128.size inb) (f := f) (rowT f e b) (Finset.subset_univ _) ?_
  funext y
  have h0 : (y 0).val < 1 := (y 0).isLt
  have h1 : (y 1).val < 1 := (y 1).isLt
  refine congrArg f (funext fun a => Fin.ext ?_)
  fin_cases a
  · show e.val + 1 * (y 0).val = e.val; omega
  · show b.val + 1 * (y 1).val = b.val; omega
  · show 0 + 1 * (y 2).val = (y 2).val; omega
  · show 0 + 1 * (y 3).val = (y 3).val; omega

theorem store_cc0_scratch12 (e b : ℕ) {off : Fin 4 → ℕ} (ho : off = ![e, b, 0, 0]) {inb : ∀ a, off a + S1x1x96x128.size a ≤ S16x2x96x128.size a} {hx hm}
    {k : PUnit → Prog (TpuEff nD τ sig (Elt F) Λ .tc) α} (f : Vec F S16x2x96x128 .f32) (w : Vec F S1x1x96x128 .f32) :
    ((c : Thread nD τ).loc cc0_scratch12 ↦{fullShare} (f : Buf (Elt F) ((c : Thread nD τ).loc cc0_scratch12)) : sProp 𝕄) ⊢ iprop((((c : Thread nD τ).loc cc0_scratch12 ↦{fullShare} (updT f e b w : Buf (Elt F) ((c : Thread nD τ).loc cc0_scratch12))) -∗ wp frame (wpE defs 𝒱 (c : Thread nD τ) bd) Set.univ (k ⟨⟩) Q)
      -∗ wp frame (wpE defs 𝒱 (c : Thread nD τ) bd) Set.univ (.op (.store (Memref.whole cc0_scratch12) (Rect.unit (s := S16x2x96x128) off S1x1x96x128.size inb) w Finset.univ hx hm) k) Q) := by
  subst ho
  refine storeAt (F := F) c (m := Memref.whole cc0_scratch12) (r := Rect.unit (s := S16x2x96x128) ![e, b, 0, 0] S1x1x96x128.size inb) (f := f) (updT f e b w) ?_
  funext i
  unfold updT
  split
  · rename_i h
    have he : (Rect.unit (s := S16x2x96x128) ![e, b, 0, 0] S1x1x96x128.size inb).emb (ix4 0 0 (i 2) (i 3)) = i := by
      refine funext fun a => Fin.ext ?_
      fin_cases a
      · show e + 1 * 0 = (i 0).val; omega
      · show b + 1 * 0 = (i 1).val; omega
      · show 0 + 1 * (i 2).val = (i 2).val; omega
      · show 0 + 1 * (i 3).val = (i 3).val; omega
    exact (congrArg (((Memref.whole cc0_scratch12).access (Rect.unit (s := S16x2x96x128) ![e, b, 0, 0] S1x1x96x128.size inb)).write (Elt F) f w Finset.univ) he.symm).trans
      (View.write_emb_of_mem (v := (Memref.whole cc0_scratch12).access (Rect.unit (s := S16x2x96x128) ![e, b, 0, 0] S1x1x96x128.size inb)) f w (Finset.mem_univ _))
  · rename_i h
    refine View.write_of_not_mem (v := (Memref.whole cc0_scratch12).access (Rect.unit (s := S16x2x96x128) ![e, b, 0, 0] S1x1x96x128.size inb)) f w Finset.univ (i := i) fun hm => h ?_
    obtain ⟨x, -, rfl⟩ := Finset.mem_map.mp hm
    have h0 : (x 0).val < 1 := (x 0).isLt
    have h1 : (x 1).val < 1 := (x 1).isLt
    constructor
    · show e + 1 * (x 0).val = e; omega
    · show b + 1 * (x 1).val = b; omega

theorem storeAll_cc0_scratch6 {off : Fin 2 → ℕ} (ho : off = ![0, 0]) {inb : ∀ a, off a + S24x4096.size a ≤ S24x4096.size a} {hx hm}
    {k : PUnit → Prog (TpuEff nD τ sig (Elt F) Λ .tc) α} (f w : Vec F S24x4096 .f32) :
    ((c : Thread nD τ).loc cc0_scratch6 ↦{fullShare} (f : Buf (Elt F) ((c : Thread nD τ).loc cc0_scratch6)) : sProp 𝕄) ⊢ iprop((((c : Thread nD τ).loc cc0_scratch6 ↦{fullShare} (w : Buf (Elt F) ((c : Thread nD τ).loc cc0_scratch6))) -∗ wp frame (wpE defs 𝒱 (c : Thread nD τ) bd) Set.univ (k ⟨⟩) Q)
      -∗ wp frame (wpE defs 𝒱 (c : Thread nD τ) bd) Set.univ (.op (.store (Memref.whole cc0_scratch6) (Rect.unit (s := S24x4096) off S24x4096.size inb) w Finset.univ hx hm) k) Q) := by
  subst ho
  refine storeAt (F := F) c (m := Memref.whole cc0_scratch6) (r := Rect.unit (s := S24x4096) ![0, 0] S24x4096.size inb) (f := f) w ?_
  funext i
  have he : (Rect.unit (s := S24x4096) ![0, 0] S24x4096.size inb).emb i = i := by
    refine funext fun a => Fin.ext ?_
    fin_cases a
    · show 0 + 1 * (i 0).val = (i 0).val; omega
    · show 0 + 1 * (i 1).val = (i 1).val; omega
  exact (congrArg (((Memref.whole cc0_scratch6).access (Rect.unit (s := S24x4096) ![0, 0] S24x4096.size inb)).write (Elt F) f w Finset.univ) he.symm).trans
      (View.write_emb_of_mem (v := (Memref.whole cc0_scratch6).access (Rect.unit (s := S24x4096) ![0, 0] S24x4096.size inb)) f w (Finset.mem_univ _))

theorem loadAll_cc0_scratch6 {off : Fin 2 → ℕ} (ho : off = ![0, 0]) {inb : ∀ a, off a + S24x4096.size a ≤ S24x4096.size a} {hl}
    {k : Vec F S24x4096 .f32 → Prog (TpuEff nD τ sig (Elt F) Λ .tc) α} {q : PosShare TreeShare} (f : Vec F S24x4096 .f32) :
    ((c : Thread nD τ).loc cc0_scratch6 ↦{q} (f : Buf (Elt F) ((c : Thread nD τ).loc cc0_scratch6)) : sProp 𝕄) ⊢ iprop((((c : Thread nD τ).loc cc0_scratch6 ↦{q} (f : Buf (Elt F) ((c : Thread nD τ).loc cc0_scratch6))) -∗ wp frame (wpE defs 𝒱 (c : Thread nD τ) bd) Set.univ (k f) Q)
      -∗ wp frame (wpE defs 𝒱 (c : Thread nD τ) bd) Set.univ (.op (.load (Memref.whole cc0_scratch6) (Rect.unit (s := S24x4096) off S24x4096.size inb).toLoadRect hl) k) Q) := by
  subst ho
  refine loadAt (F := F) c (m := Memref.whole cc0_scratch6) (r := Rect.unit (s := S24x4096) ![0, 0] S24x4096.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem storeAll_cc0_scratch8 {off : Fin 2 → ℕ} (ho : off = ![0, 0]) {inb : ∀ a, off a + S16x3072.size a ≤ S16x3072.size a} {hx hm}
    {k : PUnit → Prog (TpuEff nD τ sig (Elt F) Λ .tc) α} (f w : Vec F S16x3072 .f32) :
    ((c : Thread nD τ).loc cc0_scratch8 ↦{fullShare} (f : Buf (Elt F) ((c : Thread nD τ).loc cc0_scratch8)) : sProp 𝕄) ⊢ iprop((((c : Thread nD τ).loc cc0_scratch8 ↦{fullShare} (w : Buf (Elt F) ((c : Thread nD τ).loc cc0_scratch8))) -∗ wp frame (wpE defs 𝒱 (c : Thread nD τ) bd) Set.univ (k ⟨⟩) Q)
      -∗ wp frame (wpE defs 𝒱 (c : Thread nD τ) bd) Set.univ (.op (.store (Memref.whole cc0_scratch8) (Rect.unit (s := S16x3072) off S16x3072.size inb) w Finset.univ hx hm) k) Q) := by
  subst ho
  refine storeAt (F := F) c (m := Memref.whole cc0_scratch8) (r := Rect.unit (s := S16x3072) ![0, 0] S16x3072.size inb) (f := f) w ?_
  funext i
  have he : (Rect.unit (s := S16x3072) ![0, 0] S16x3072.size inb).emb i = i := by
    refine funext fun a => Fin.ext ?_
    fin_cases a
    · show 0 + 1 * (i 0).val = (i 0).val; omega
    · show 0 + 1 * (i 1).val = (i 1).val; omega
  exact (congrArg (((Memref.whole cc0_scratch8).access (Rect.unit (s := S16x3072) ![0, 0] S16x3072.size inb)).write (Elt F) f w Finset.univ) he.symm).trans
      (View.write_emb_of_mem (v := (Memref.whole cc0_scratch8).access (Rect.unit (s := S16x3072) ![0, 0] S16x3072.size inb)) f w (Finset.mem_univ _))

theorem loadAll_cc0_scratch8 {off : Fin 2 → ℕ} (ho : off = ![0, 0]) {inb : ∀ a, off a + S16x3072.size a ≤ S16x3072.size a} {hl}
    {k : Vec F S16x3072 .f32 → Prog (TpuEff nD τ sig (Elt F) Λ .tc) α} {q : PosShare TreeShare} (f : Vec F S16x3072 .f32) :
    ((c : Thread nD τ).loc cc0_scratch8 ↦{q} (f : Buf (Elt F) ((c : Thread nD τ).loc cc0_scratch8)) : sProp 𝕄) ⊢ iprop((((c : Thread nD τ).loc cc0_scratch8 ↦{q} (f : Buf (Elt F) ((c : Thread nD τ).loc cc0_scratch8))) -∗ wp frame (wpE defs 𝒱 (c : Thread nD τ) bd) Set.univ (k f) Q)
      -∗ wp frame (wpE defs 𝒱 (c : Thread nD τ) bd) Set.univ (.op (.load (Memref.whole cc0_scratch8) (Rect.unit (s := S16x3072) off S16x3072.size inb).toLoadRect hl) k) Q) := by
  subst ho
  refine loadAt (F := F) c (m := Memref.whole cc0_scratch8) (r := Rect.unit (s := S16x3072) ![0, 0] S16x3072.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem storeAll_cc0_scratch11 {off : Fin 2 → ℕ} (ho : off = ![0, 0]) {inb : ∀ a, off a + S96x3072.size a ≤ S96x3072.size a} {hx hm}
    {k : PUnit → Prog (TpuEff nD τ sig (Elt F) Λ .tc) α} (f w : Vec F S96x3072 .f32) :
    ((c : Thread nD τ).loc cc0_scratch11 ↦{fullShare} (f : Buf (Elt F) ((c : Thread nD τ).loc cc0_scratch11)) : sProp 𝕄) ⊢ iprop((((c : Thread nD τ).loc cc0_scratch11 ↦{fullShare} (w : Buf (Elt F) ((c : Thread nD τ).loc cc0_scratch11))) -∗ wp frame (wpE defs 𝒱 (c : Thread nD τ) bd) Set.univ (k ⟨⟩) Q)
      -∗ wp frame (wpE defs 𝒱 (c : Thread nD τ) bd) Set.univ (.op (.store (Memref.whole cc0_scratch11) (Rect.unit (s := S96x3072) off S96x3072.size inb) w Finset.univ hx hm) k) Q) := by
  subst ho
  refine storeAt (F := F) c (m := Memref.whole cc0_scratch11) (r := Rect.unit (s := S96x3072) ![0, 0] S96x3072.size inb) (f := f) w ?_
  funext i
  have he : (Rect.unit (s := S96x3072) ![0, 0] S96x3072.size inb).emb i = i := by
    refine funext fun a => Fin.ext ?_
    fin_cases a
    · show 0 + 1 * (i 0).val = (i 0).val; omega
    · show 0 + 1 * (i 1).val = (i 1).val; omega
  exact (congrArg (((Memref.whole cc0_scratch11).access (Rect.unit (s := S96x3072) ![0, 0] S96x3072.size inb)).write (Elt F) f w Finset.univ) he.symm).trans
      (View.write_emb_of_mem (v := (Memref.whole cc0_scratch11).access (Rect.unit (s := S96x3072) ![0, 0] S96x3072.size inb)) f w (Finset.mem_univ _))

theorem loadAll_cc0_scratch11 {off : Fin 2 → ℕ} (ho : off = ![0, 0]) {inb : ∀ a, off a + S96x3072.size a ≤ S96x3072.size a} {hl}
    {k : Vec F S96x3072 .f32 → Prog (TpuEff nD τ sig (Elt F) Λ .tc) α} {q : PosShare TreeShare} (f : Vec F S96x3072 .f32) :
    ((c : Thread nD τ).loc cc0_scratch11 ↦{q} (f : Buf (Elt F) ((c : Thread nD τ).loc cc0_scratch11)) : sProp 𝕄) ⊢ iprop((((c : Thread nD τ).loc cc0_scratch11 ↦{q} (f : Buf (Elt F) ((c : Thread nD τ).loc cc0_scratch11))) -∗ wp frame (wpE defs 𝒱 (c : Thread nD τ) bd) Set.univ (k f) Q)
      -∗ wp frame (wpE defs 𝒱 (c : Thread nD τ) bd) Set.univ (.op (.load (Memref.whole cc0_scratch11) (Rect.unit (s := S96x3072) off S96x3072.size inb).toLoadRect hl) k) Q) := by
  subst ho
  refine loadAt (F := F) c (m := Memref.whole cc0_scratch11) (r := Rect.unit (s := S96x3072) ![0, 0] S96x3072.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem storeAll_cc0_stg3_0 {off : Fin 2 → ℕ} (ho : off = ![0, 0]) {inb : ∀ a, off a + S96x3072.size a ≤ S96x3072.size a} {hx hm}
    {k : PUnit → Prog (TpuEff nD τ sig (Elt F) Λ .tc) α} (f w : Vec F S96x3072 .bf16) :
    ((c : Thread nD τ).loc cc0_stg3_0 ↦{fullShare} (f : Buf (Elt F) ((c : Thread nD τ).loc cc0_stg3_0)) : sProp 𝕄) ⊢ iprop((((c : Thread nD τ).loc cc0_stg3_0 ↦{fullShare} (w : Buf (Elt F) ((c : Thread nD τ).loc cc0_stg3_0))) -∗ wp frame (wpE defs 𝒱 (c : Thread nD τ) bd) Set.univ (k ⟨⟩) Q)
      -∗ wp frame (wpE defs 𝒱 (c : Thread nD τ) bd) Set.univ (.op (.store (Memref.whole cc0_stg3_0) (Rect.unit (s := S96x3072) off S96x3072.size inb) w Finset.univ hx hm) k) Q) := by
  subst ho
  refine storeAt (F := F) c (m := Memref.whole cc0_stg3_0) (r := Rect.unit (s := S96x3072) ![0, 0] S96x3072.size inb) (f := f) w ?_
  funext i
  have he : (Rect.unit (s := S96x3072) ![0, 0] S96x3072.size inb).emb i = i := by
    refine funext fun a => Fin.ext ?_
    fin_cases a
    · show 0 + 1 * (i 0).val = (i 0).val; omega
    · show 0 + 1 * (i 1).val = (i 1).val; omega
  exact (congrArg (((Memref.whole cc0_stg3_0).access (Rect.unit (s := S96x3072) ![0, 0] S96x3072.size inb)).write (Elt F) f w Finset.univ) he.symm).trans
      (View.write_emb_of_mem (v := (Memref.whole cc0_stg3_0).access (Rect.unit (s := S96x3072) ![0, 0] S96x3072.size inb)) f w (Finset.mem_univ _))

theorem loadAll_cc0_stg3_0 {off : Fin 2 → ℕ} (ho : off = ![0, 0]) {inb : ∀ a, off a + S96x3072.size a ≤ S96x3072.size a} {hl}
    {k : Vec F S96x3072 .bf16 → Prog (TpuEff nD τ sig (Elt F) Λ .tc) α} {q : PosShare TreeShare} (f : Vec F S96x3072 .bf16) :
    ((c : Thread nD τ).loc cc0_stg3_0 ↦{q} (f : Buf (Elt F) ((c : Thread nD τ).loc cc0_stg3_0)) : sProp 𝕄) ⊢ iprop((((c : Thread nD τ).loc cc0_stg3_0 ↦{q} (f : Buf (Elt F) ((c : Thread nD τ).loc cc0_stg3_0))) -∗ wp frame (wpE defs 𝒱 (c : Thread nD τ) bd) Set.univ (k f) Q)
      -∗ wp frame (wpE defs 𝒱 (c : Thread nD τ) bd) Set.univ (.op (.load (Memref.whole cc0_stg3_0) (Rect.unit (s := S96x3072) off S96x3072.size inb).toLoadRect hl) k) Q) := by
  subst ho
  refine loadAt (F := F) c (m := Memref.whole cc0_stg3_0) (r := Rect.unit (s := S96x3072) ![0, 0] S96x3072.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem loadAll_cc0_stg1_0 {off : Fin 2 → ℕ} (ho : off = ![0, 0]) {inb : ∀ a, off a + S96x8.size a ≤ S96x8.size a} {hl}
    {k : Vec F S96x8 .i32 → Prog (TpuEff nD τ sig (Elt F) Λ .tc) α} {q : PosShare TreeShare} (f : Vec F S96x8 .i32) :
    ((c : Thread nD τ).loc cc0_stg1_0 ↦{q} (f : Buf (Elt F) ((c : Thread nD τ).loc cc0_stg1_0)) : sProp 𝕄) ⊢ iprop((((c : Thread nD τ).loc cc0_stg1_0 ↦{q} (f : Buf (Elt F) ((c : Thread nD τ).loc cc0_stg1_0))) -∗ wp frame (wpE defs 𝒱 (c : Thread nD τ) bd) Set.univ (k f) Q)
      -∗ wp frame (wpE defs 𝒱 (c : Thread nD τ) bd) Set.univ (.op (.load (Memref.whole cc0_stg1_0) (Rect.unit (s := S96x8) off S96x8.size inb).toLoadRect hl) k) Q) := by
  subst ho
  refine loadAt (F := F) c (m := Memref.whole cc0_stg1_0) (r := Rect.unit (s := S96x8) ![0, 0] S96x8.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem loadAll_cc0_stg2_0 {off : Fin 2 → ℕ} (ho : off = ![0, 0]) {inb : ∀ a, off a + S96x8.size a ≤ S96x8.size a} {hl}
    {k : Vec F S96x8 .f32 → Prog (TpuEff nD τ sig (Elt F) Λ .tc) α} {q : PosShare TreeShare} (f : Vec F S96x8 .f32) :
    ((c : Thread nD τ).loc cc0_stg2_0 ↦{q} (f : Buf (Elt F) ((c : Thread nD τ).loc cc0_stg2_0)) : sProp 𝕄) ⊢ iprop((((c : Thread nD τ).loc cc0_stg2_0 ↦{q} (f : Buf (Elt F) ((c : Thread nD τ).loc cc0_stg2_0))) -∗ wp frame (wpE defs 𝒱 (c : Thread nD τ) bd) Set.univ (k f) Q)
      -∗ wp frame (wpE defs 𝒱 (c : Thread nD τ) bd) Set.univ (.op (.load (Memref.whole cc0_stg2_0) (Rect.unit (s := S96x8) off S96x8.size inb).toLoadRect hl) k) Q) := by
  subst ho
  refine loadAt (F := F) c (m := Memref.whole cc0_stg2_0) (r := Rect.unit (s := S96x8) ![0, 0] S96x8.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem loadAny_cc0_scratch7 {off : Fin 2 → ℕ} {inb : ∀ a, off a + S24x2048.size a ≤ S24x4096.size a} {hl}
    {k : Vec F S24x2048 .f32 → Prog (TpuEff nD τ sig (Elt F) Λ .tc) α} {q : PosShare TreeShare} (f : Vec F S24x4096 .f32) :
    ((c : Thread nD τ).loc cc0_scratch7 ↦{q} (f : Buf (Elt F) ((c : Thread nD τ).loc cc0_scratch7)) : sProp 𝕄) ⊢ iprop((((c : Thread nD τ).loc cc0_scratch7 ↦{q} (f : Buf (Elt F) ((c : Thread nD τ).loc cc0_scratch7))) -∗ ∀ v, wp frame (wpE defs 𝒱 (c : Thread nD τ) bd) Set.univ (k v) Q)
      -∗ wp frame (wpE defs 𝒱 (c : Thread nD τ) bd) Set.univ (.op (.load (Memref.whole cc0_scratch7) (Rect.unit (s := S24x4096) off S24x2048.size inb).toLoadRect hl) k) Q) := by
  iintro H Hk
  iapply (loadAt (F := F) c (m := Memref.whole cc0_scratch7) (q := q) (f := f) _ (Finset.subset_univ _) rfl) $$ H
  iintro H
  ispecialize Hk $$ H
  iapply Hk

theorem loadAny_cc0_scratch9 {off : Fin 2 → ℕ} {inb : ∀ a, off a + S16x1536.size a ≤ S16x3072.size a} {hl}
    {k : Vec F S16x1536 .f32 → Prog (TpuEff nD τ sig (Elt F) Λ .tc) α} {q : PosShare TreeShare} (f : Vec F S16x3072 .f32) :
    ((c : Thread nD τ).loc cc0_scratch9 ↦{q} (f : Buf (Elt F) ((c : Thread nD τ).loc cc0_scratch9)) : sProp 𝕄) ⊢ iprop((((c : Thread nD τ).loc cc0_scratch9 ↦{q} (f : Buf (Elt F) ((c : Thread nD τ).loc cc0_scratch9))) -∗ ∀ v, wp frame (wpE defs 𝒱 (c : Thread nD τ) bd) Set.univ (k v) Q)
      -∗ wp frame (wpE defs 𝒱 (c : Thread nD τ) bd) Set.univ (.op (.load (Memref.whole cc0_scratch9) (Rect.unit (s := S16x3072) off S16x1536.size inb).toLoadRect hl) k) Q) := by
  iintro H Hk
  iapply (loadAt (F := F) c (m := Memref.whole cc0_scratch9) (q := q) (f := f) _ (Finset.subset_univ _) rfl) $$ H
  iintro H
  ispecialize Hk $$ H
  iapply Hk

end Cert.Kernel.Hand

end
-- ==== Proof.BitsLoops.lean ====
/-
  The kernel's loops over one expert's weights: the contraction loop of the up-projection, its tiles, the contraction loop of
  the down-projection, its tiles.  Each is run on the buffers it reads and leaves the stated values.
-/
module

public import proofs.«01_k».proof.Proof.BitsSteps

@[expose] public section

noncomputable section

namespace Cert.Kernel.Hand

open Cert.Kernel Cert.Kernel.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

theorem wp_ret_of {β : Type} {a : β} {Q : β → sProp (MT nD τ sig Unit (Elt F) ℕ (Pipeline.UD sig nD τ) ℕ)} :
    Q a ⊢ wp frame (wpE defs 𝒱 (c : Thread nD τ) bd) Set.univ (.ret a) Q := by
  rw [wp_ret]
  exact BI.fupd_intro

/-- The block `96 x 256` of the activations for contraction step `k`. -/
def xBlk (x : Vec F S96x3072 .bf16) (k : ℕ) : Vec F S96x256 .bf16 := blk2 96 256 x 0 (256 * k)

/-- One contraction step of the gate and up tiles at column tile `t`. -/
def upStep (x : Vec F S96x3072 .bf16) (W : Vec F S16x1536x4096 .i8) (e : Fin 16) (T16 T17 : Vec F S24x4096 .f32) (t k : ℕ)
    (acc : FVec F S96x256 .f32 × FVec F S96x256 .f32) : FVec F S96x256 .f32 × FVec F S96x256 .f32 :=
  (k0_pay27 acc.1 (k0_pay24 (xBlk x k))
      (k0_pay25 (blk3 W e (128 * k) (256 * t)) (blk2 1 256 T16 (2 * k) (256 * t)) (blk2 1 256 T17 (2 * k) (256 * t)))
      (k0_pay26 (blk3 W e (128 * k + 64) (256 * t))) (blk2 1 256 T16 (2 * k + 1) (256 * t)) (blk2 1 256 T17 (2 * k + 1) (256 * t)),
    k0_pay10 acc.2 (k0_pay24 (xBlk x k))
      (k0_pay31 (k0_pay28 (blk3 W e (128 * k) (2048 + 256 * t))) (k0_pay29 (blk2 1 256 T16 (2 * k) (2048 + 256 * t))) (k0_pay30 (blk2 1 256 T17 (2 * k) (2048 + 256 * t))))
      (k0_pay32 (blk3 W e (128 * k + 64) (2048 + 256 * t)) (blk2 1 256 T16 (2 * k + 1) (2048 + 256 * t)) (blk2 1 256 T17 (2 * k + 1) (2048 + 256 * t))))

/-- The gate and up tiles after `k` contraction steps. -/
def upFold (x : Vec F S96x3072 .bf16) (W : Vec F S16x1536x4096 .i8) (e : Fin 16) (T16 T17 : Vec F S24x4096 .f32) (t : ℕ) : ℕ → FVec F S96x256 .f32 × FVec F S96x256 .f32
  | 0 => (k0_pay9, k0_pay9)
  | k + 1 => upStep x W e T16 T17 t k (upFold x W e T16 T17 t k)

/-- The tile `t` of the hidden activations of one expert. -/
def hTile (x : Vec F S96x3072 .bf16) (W : Vec F S16x1536x4096 .i8) (e : Fin 16) (T16 T17 : Vec F S24x4096 .f32) (m : Vec F S1x1x96x128 .f32) (t : ℕ) : Vec F S96x256 .bf16 :=
  k0_pay11 m (upFold x W e T16 T17 t 12).1 (upFold x W e T16 T17 t 12).2

/-- One contraction step of the output tile at column tile `t`. -/
def dnStep (h : Vec F S96x2048 .bf16) (W : Vec F S16x1024x3072 .i8) (e : Fin 16) (T18 T19 : Vec F S16x3072 .f32) (t k : ℕ) (acc : FVec F S96x256 .f32) : FVec F S96x256 .f32 :=
  k0_pay13 acc (blk2 96 256 h 0 (256 * k))
    (k0_pay33 (blk3 W e (128 * k) (256 * t)) (blk2 1 256 T18 (2 * k) (256 * t)) (blk2 1 256 T19 (2 * k) (256 * t)))
    (k0_pay34 (blk3 W e (128 * k + 64) (256 * t))) (blk2 1 256 T18 (2 * k + 1) (256 * t)) (blk2 1 256 T19 (2 * k + 1) (256 * t))

/-- The output tile after `k` contraction steps. -/
def dnFold (h : Vec F S96x2048 .bf16) (W : Vec F S16x1024x3072 .i8) (e : Fin 16) (T18 T19 : Vec F S16x3072 .f32) (t : ℕ) : ℕ → FVec F S96x256 .f32
  | 0 => k0_pay12
  | k + 1 => dnStep h W e T18 T19 t k (dnFold h W e T18 T19 t k)

/-- The slot word of a trip. -/
def wSlot (k : ℕ) : ℕ := (Scalar.indexCast (Scalar.remsi (Scf.iv 0#32 1#32 k) 2#32)).toNat
/-- The first row of the low half of contraction step `k`. -/
def wRowA (k : ℕ) : ℕ := (Scalar.indexCast (Scalar.muli (Scalar.muli 2#32 (Scf.iv 0#32 1#32 k)) 64#32)).toNat
/-- The first row of the high half of contraction step `k`. -/
def wRowB (k : ℕ) : ℕ := (Scalar.indexCast (Scalar.muli (Scalar.addi (Scalar.muli 2#32 (Scf.iv 0#32 1#32 k)) 1#32) 64#32)).toNat
/-- The first column of tile `j` of chunk `i`, `m` tiles to a chunk. -/
def wCol (m : BitVec 32) (i j : ℕ) : ℕ := (Scalar.indexCast (Scalar.muli (Scalar.addi (Scalar.muli (Scf.iv 0#32 1#32 i) m) (Scf.iv 0#32 1#32 j)) 256#32)).toNat
/-- The same column in the second half of the array. -/
def wColU (m : BitVec 32) (i j : ℕ) : ℕ := (Scalar.indexCast (Scalar.addi 2048#32 (Scalar.muli (Scalar.addi (Scalar.muli (Scf.iv 0#32 1#32 i) m) (Scf.iv 0#32 1#32 j)) 256#32))).toNat
theorem wRowA_eq : ∀ k : Fin 12, wRowA k.val = 128 * k.val := by decide +kernel
theorem wRowB_eq : ∀ k : Fin 12, wRowB k.val = 128 * k.val + 64 := by decide +kernel
theorem wCol_up : ∀ (i : Fin 4) (j : Fin 2), wCol 2#32 i.val j.val = 256 * (2 * i.val + j.val) := by decide +kernel
theorem wColU_up : ∀ (i : Fin 4) (j : Fin 2), wColU 2#32 i.val j.val = 2048 + 256 * (2 * i.val + j.val) := by decide +kernel
theorem wCol_dn : ∀ (i : Fin 2) (j : Fin 6), wCol 6#32 i.val j.val = 256 * (6 * i.val + j.val) := by decide +kernel

theorem off75_eq : ∀ (t5 : Fin k0_t5_loop.trips), k0_off75 t5 = ![0, 256 * t5.val] := by decide +kernel

theorem off76_eq {v5 : BitVec 32} {k0_t2 : Fin (k0_t2_loop v5).trips} {s : Fin 2} (hs : wSlot k0_t2 = s.val) (t3 : Fin k0_t3_loop.trips) (t4 : Fin k0_t4_loop.trips) (t5 : Fin k0_t5_loop.trips) :
    k0_off76 v5 k0_t2 t3 t4 t5 = ![s.val, 128 * t5.val, 256 * (2 * t3.val + t4.val)] :=
  (show k0_off76 v5 k0_t2 t3 t4 t5 = ![wSlot k0_t2, wRowA t5, wCol 2#32 t3 t4] from rfl).trans (by rw [hs, wRowA_eq t5, wCol_up t3 t4])

theorem off78_eq {v5 : BitVec 32} {k0_t2 : Fin (k0_t2_loop v5).trips} {s : Fin 2} (hs : wSlot k0_t2 = s.val) (t3 : Fin k0_t3_loop.trips) (t4 : Fin k0_t4_loop.trips) (t5 : Fin k0_t5_loop.trips) :
    k0_off78 v5 k0_t2 t3 t4 t5 = ![s.val, 128 * t5.val + 64, 256 * (2 * t3.val + t4.val)] :=
  (show k0_off78 v5 k0_t2 t3 t4 t5 = ![wSlot k0_t2, wRowB t5, wCol 2#32 t3 t4] from rfl).trans (by rw [hs, wRowB_eq t5, wCol_up t3 t4])

theorem off80_eq {v5 : BitVec 32} {k0_t2 : Fin (k0_t2_loop v5).trips} {s : Fin 2} (hs : wSlot k0_t2 = s.val) (t3 : Fin k0_t3_loop.trips) (t4 : Fin k0_t4_loop.trips) (t5 : Fin k0_t5_loop.trips) :
    k0_off80 v5 k0_t2 t3 t4 t5 = ![s.val, 128 * t5.val, 2048 + 256 * (2 * t3.val + t4.val)] :=
  (show k0_off80 v5 k0_t2 t3 t4 t5 = ![wSlot k0_t2, wRowA t5, wColU 2#32 t3 t4] from rfl).trans (by rw [hs, wRowA_eq t5, wColU_up t3 t4])

theorem off82_eq {v5 : BitVec 32} {k0_t2 : Fin (k0_t2_loop v5).trips} {s : Fin 2} (hs : wSlot k0_t2 = s.val) (t3 : Fin k0_t3_loop.trips) (t4 : Fin k0_t4_loop.trips) (t5 : Fin k0_t5_loop.trips) :
    k0_off82 v5 k0_t2 t3 t4 t5 = ![s.val, 128 * t5.val + 64, 2048 + 256 * (2 * t3.val + t4.val)] :=
  (show k0_off82 v5 k0_t2 t3 t4 t5 = ![wSlot k0_t2, wRowB t5, wColU 2#32 t3 t4] from rfl).trans (by rw [hs, wRowB_eq t5, wColU_up t3 t4])

theorem off77_eq : ∀ (t3 : Fin k0_t3_loop.trips) (t4 : Fin k0_t4_loop.trips) (t5 : Fin k0_t5_loop.trips), k0_off77 t3 t4 t5 = ![2 * t5.val, 256 * (2 * t3.val + t4.val)] := by decide +kernel

theorem off79_eq : ∀ (t3 : Fin k0_t3_loop.trips) (t4 : Fin k0_t4_loop.trips) (t5 : Fin k0_t5_loop.trips), k0_off79 t3 t4 t5 = ![2 * t5.val + 1, 256 * (2 * t3.val + t4.val)] := by decide +kernel

theorem off81_eq : ∀ (t3 : Fin k0_t3_loop.trips) (t4 : Fin k0_t4_loop.trips) (t5 : Fin k0_t5_loop.trips), k0_off81 t3 t4 t5 = ![2 * t5.val, 2048 + 256 * (2 * t3.val + t4.val)] := by decide +kernel

theorem off83_eq : ∀ (t3 : Fin k0_t3_loop.trips) (t4 : Fin k0_t4_loop.trips) (t5 : Fin k0_t5_loop.trips), k0_off83 t3 t4 t5 = ![2 * t5.val + 1, 2048 + 256 * (2 * t3.val + t4.val)] := by decide +kernel

theorem off84_eq : ∀ (t3 : Fin k0_t3_loop.trips) (t4 : Fin k0_t4_loop.trips), k0_off84 t3 t4 = ![0, 256 * (2 * t3.val + t4.val)] := by decide +kernel

theorem off89_eq : ∀ (t8 : Fin k0_t8_loop.trips), k0_off89 t8 = ![0, 256 * t8.val] := by decide +kernel

theorem off90_eq {v5 : BitVec 32} {k0_t2 : Fin (k0_t2_loop v5).trips} {s : Fin 2} (hs : wSlot k0_t2 = s.val) (t6 : Fin k0_t6_loop.trips) (t7 : Fin k0_t7_loop.trips) (t8 : Fin k0_t8_loop.trips) :
    k0_off90 v5 k0_t2 t6 t7 t8 = ![s.val, 128 * t8.val, 256 * (6 * t6.val + t7.val)] :=
  (show k0_off90 v5 k0_t2 t6 t7 t8 = ![wSlot k0_t2, wRowA t8, wCol 6#32 t6 t7] from rfl).trans (by rw [hs, wRowA_eq ⟨t8.val, lt_of_lt_of_le t8.isLt (by decide)⟩, wCol_dn t6 t7])

theorem off92_eq {v5 : BitVec 32} {k0_t2 : Fin (k0_t2_loop v5).trips} {s : Fin 2} (hs : wSlot k0_t2 = s.val) (t6 : Fin k0_t6_loop.trips) (t7 : Fin k0_t7_loop.trips) (t8 : Fin k0_t8_loop.trips) :
    k0_off92 v5 k0_t2 t6 t7 t8 = ![s.val, 128 * t8.val + 64, 256 * (6 * t6.val + t7.val)] :=
  (show k0_off92 v5 k0_t2 t6 t7 t8 = ![wSlot k0_t2, wRowB t8, wCol 6#32 t6 t7] from rfl).trans (by rw [hs, wRowB_eq ⟨t8.val, lt_of_lt_of_le t8.isLt (by decide)⟩, wCol_dn t6 t7])

theorem off91_eq : ∀ (t6 : Fin k0_t6_loop.trips) (t7 : Fin k0_t7_loop.trips) (t8 : Fin k0_t8_loop.trips), k0_off91 t6 t7 t8 = ![2 * t8.val, 256 * (6 * t6.val + t7.val)] := by decide +kernel

theorem off93_eq : ∀ (t6 : Fin k0_t6_loop.trips) (t7 : Fin k0_t7_loop.trips) (t8 : Fin k0_t8_loop.trips), k0_off93 t6 t7 t8 = ![2 * t8.val + 1, 256 * (6 * t6.val + t7.val)] := by decide +kernel

theorem off94_eq : ∀ (t6 : Fin k0_t6_loop.trips) (t7 : Fin k0_t7_loop.trips), k0_off94 t6 t7 = ![0, 256 * (6 * t6.val + t7.val)] := by decide +kernel

/-- What the contraction loop of the up-projection reads: the activations, the two tables, the two windows of chunk `j`. -/
def UpRes (X : (b : Ref sig .tc) → Buf (Elt F) ((c : Thread nD τ).loc b)) (e : Fin 16) (s : Fin 2) (j : Fin 4) (x : Vec F S96x3072 .bf16) (T16 T17 : Vec F S24x4096 .f32) :
    sProp (MT nD τ sig Unit (Elt F) ℕ (Pipeline.UD sig nD τ) ℕ) :=
  iprop(((c : Thread nD τ).loc cc0_stg0_0 ↦{fullShare} (x : Buf (Elt F) ((c : Thread nD τ).loc cc0_stg0_0)))
    ∗ ((c : Thread nD τ).loc cc0_scratch6 ↦{fullShare} (T16 : Buf (Elt F) ((c : Thread nD τ).loc cc0_scratch6)))
    ∗ ((c : Thread nD τ).loc cc0_scratch7 ↦{fullShare} (T17 : Buf (Elt F) ((c : Thread nD τ).loc cc0_scratch7)))
    ∗ ((c : Thread nD τ).loc cc0_scratch0 ↦[(dstW1 s 0 j).view.set]{fullShare} (gW1 c X e : Buf (Elt F) ((c : Thread nD τ).loc cc0_scratch0)))
    ∗ ((c : Thread nD τ).loc cc0_scratch0 ↦[(dstW1 s 1 j).view.set]{fullShare} (gW1 c X e : Buf (Elt F) ((c : Thread nD τ).loc cc0_scratch0))))

theorem t5_body_run [Facts] (X : (b : Ref sig .tc) → Buf (Elt F) ((c : Thread nD τ).loc b)) (e : Fin 16) (s : Fin 2) (x : Vec F S96x3072 .bf16) (T16 T17 : Vec F S24x4096 .f32)
    (v5 : BitVec 32) (hw3 : k0_chk3 v5) (k0_t2 : Fin (k0_t2_loop v5).trips) (hs : wSlot k0_t2 = s.val)
    (v21 v132 v135 : BitVec 32) (t3 : Fin k0_t3_loop.trips) (t4 : Fin k0_t4_loop.trips) (t5 : Fin k0_t5_loop.trips) (acc : FVec F S96x256 .f32 × FVec F S96x256 .f32)
    {Q : FVec F S96x256 .f32 × FVec F S96x256 .f32 → sProp (MT nD τ sig Unit (Elt F) ℕ (Pipeline.UD sig nD τ) ℕ)} {𝒱 : Variants} {bd : Option 𝒱.V} {defs : Defs nD τ sig (Elt F) Λ₀} :
    UpRes c X e s t3 x T16 T17 ⊢ iprop((UpRes c X e s t3 x T16 T17 -∗ Q (upStep x (X main_arg3) e T16 T17 (2 * t3.val + t4.val) t5.val acc))
      -∗ wp frame (wpE defs 𝒱 (c : Thread nD τ) bd) Set.univ (k0_t5_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t3 t4 v132 v135 t5 acc) Q) := by
  have hj : t3.val < 4 := t3.isLt
  have ht4 : t4.val < 2 := t4.isLt
  obtain ⟨a1, a2⟩ := acc
  unfold UpRes upStep xBlk
  iintro ⟨Hx, H16, H17, Hw0, Hw1⟩ HQ
  unfold k0_t5_body
  rw [k0_part6_eq_skeleton, k0_part7_eq_skeleton, k0_part8_eq_skeleton]
  unfold k0_part6_skel k0_part7_skel k0_part8_skel
  iapply (load_cc0_stg0_0 c 0 (256 * t5.val) (off75_eq t5) x) $$ Hx
  iintro Hx
  iapply (load_W1 c X e s 0 t3 (128 * t5.val) (256 * (2 * t3.val + t4.val)) (off76_eq hs t3 t4 t5) (by simp; omega) (by simp; omega)) $$ Hw0
  iintro Hw0
  iapply (load_cc0_scratch6 c _ _ (off77_eq t3 t4 t5) T16) $$ H16
  iintro H16
  iapply (load_cc0_scratch7 c _ _ (off77_eq t3 t4 t5) T17) $$ H17
  iintro H17
  iapply (load_W1 c X e s 0 t3 (128 * t5.val + 64) (256 * (2 * t3.val + t4.val)) (off78_eq hs t3 t4 t5) (by simp; omega) (by simp; omega)) $$ Hw0
  iintro Hw0
  iapply (load_cc0_scratch6 c _ _ (off79_eq t3 t4 t5) T16) $$ H16
  iintro H16
  iapply (load_cc0_scratch7 c _ _ (off79_eq t3 t4 t5) T17) $$ H17
  iintro H17
  iapply (load_W1 c X e s 1 t3 (128 * t5.val) (2048 + 256 * (2 * t3.val + t4.val)) (off80_eq hs t3 t4 t5) (by simp; omega) (by simp; omega)) $$ Hw1
  iintro Hw1
  iapply (load_cc0_scratch6 c _ _ (off81_eq t3 t4 t5) T16) $$ H16
  iintro H16
  iapply (load_cc0_scratch7 c _ _ (off81_eq t3 t4 t5) T17) $$ H17
  iintro H17
  iapply (load_W1 c X e s 1 t3 (128 * t5.val + 64) (2048 + 256 * (2 * t3.val + t4.val)) (off82_eq hs t3 t4 t5) (by simp; omega) (by simp; omega)) $$ Hw1
  iintro Hw1
  iapply (load_cc0_scratch6 c _ _ (off83_eq t3 t4 t5) T16) $$ H16
  iintro H16
  iapply (load_cc0_scratch7 c _ _ (off83_eq t3 t4 t5) T17) $$ H17
  iintro H17
  iapply wp_ret_of
  iapply HQ
  iframe Hx H16 H17 Hw0 Hw1

theorem t5_loop_run [Facts] (X : (b : Ref sig .tc) → Buf (Elt F) ((c : Thread nD τ).loc b)) (e : Fin 16) (s : Fin 2) (x : Vec F S96x3072 .bf16) (T16 T17 : Vec F S24x4096 .f32) (v5 : BitVec 32) (hw3 : k0_chk3 v5) (k0_t2 : Fin (k0_t2_loop v5).trips) (hs : wSlot k0_t2 = s.val)
    (v21 v132 v135 : BitVec 32) (t3 : Fin k0_t3_loop.trips) (t4 : Fin k0_t4_loop.trips) {β : Type}
    {kk : FVec F S96x256 .f32 × FVec F S96x256 .f32 → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    UpRes c X e s t3 x T16 T17 ⊢ iprop((UpRes c X e s t3 x T16 T17 -∗ wp frame (wpE defs 𝒱 (c : Thread nD τ) bd) Set.univ (kk (upFold x (X main_arg3) e T16 T17 (2 * t3.val + t4.val) 12)) Q)
      -∗ wp frame (wpE defs 𝒱 (c : Thread nD τ) bd) Set.univ (Scf.Loop.for k0_t5_loop k0_t5_ok (k0_pay9 (F := F), k0_pay9 (F := F)) (k0_t5_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t3 t4 v132 v135) >>= kk) Q) := by
  iintro H HQ
  iapply (Scf.wp_for_bind frame (wpE defs 𝒱 (c : Thread nD τ) bd) Set.univ k0_t5_loop.lb k0_t5_loop.ub k0_t5_loop.st k0_t5_ok (k0_pay9 (F := F), k0_pay9 (F := F)) (k0_t5_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t3 t4 v132 v135)
    (fun k acc => iprop(⌜acc = upFold x (X main_arg3) e T16 T17 (2 * t3.val + t4.val) k⌝ ∗ UpRes c X e s t3 x T16 T17)) ?hb) $$ [H]
  case hb =>
    intro k acc
    iintro ⟨%h, H⟩
    iapply (t5_body_run c X e s x T16 T17 v5 hw3 k0_t2 hs v21 v132 v135 t3 t4 k acc) $$ H
    iintro H
    isplitr
    · ipureintro
      rw [h]
      rfl
    · iexact H
  · isplitr
    · ipureintro
      rfl
    · iexact H
  · iintro %acc ⟨%h, H⟩
    have h' : acc = upFold x (X main_arg3) e T16 T17 (2 * t3.val + t4.val) 12 := h
    subst h'
    iapply HQ $$ H

/-- A matrix put together from tiles of 256 columns. -/
def tiles {n1 : ℕ} {β : Type} (w : ℕ → (⟨2, ![96, 256]⟩ : Shape).Idx → β) : (⟨2, ![96, n1]⟩ : Shape).Idx → β :=
  fun y => w ((y 1).val / 256) (ix2 (y 0) ⟨(y 1).val % 256, Nat.mod_lt _ (by decide)⟩)

/-- The new matrix on the first `t` tiles, the old one on the others. -/
def part {n1 : ℕ} {β : Type} (old new : (⟨2, ![96, n1]⟩ : Shape).Idx → β) (t : ℕ) : (⟨2, ![96, n1]⟩ : Shape).Idx → β :=
  fun y => if (y 1).val < 256 * t then new y else old y

theorem part_zero {n1 : ℕ} {β : Type} (old new : (⟨2, ![96, n1]⟩ : Shape).Idx → β) : part old new 0 = old := by
  funext y
  exact if_neg (by omega)

theorem part_all {n1 : ℕ} {β : Type} (old new : (⟨2, ![96, n1]⟩ : Shape).Idx → β) {t : ℕ} (h : 256 * t = n1) : part old new t = new := by
  funext y
  have hy : (y 1).val < n1 := (y 1).isLt
  exact if_pos (by omega)

theorem updC_part {n1 : ℕ} {β : Type} (old : (⟨2, ![96, n1]⟩ : Shape).Idx → β) (w : ℕ → (⟨2, ![96, 256]⟩ : Shape).Idx → β) (t : ℕ) :
    updC (part old (tiles w) t) (256 * t) (w t) = part old (tiles w) (t + 1) := by
  funext y
  unfold updC part
  split
  · rename_i h
    rw [if_pos (by omega)]
    unfold tiles
    have h1 : (y 1).val / 256 = t := by omega
    have h2 : (y 1).val % 256 = (y 1).val - 256 * t := by omega
    simp only [h1, h2]
  · rename_i h
    by_cases h1 : (y 1).val < 256 * t
    · rw [if_pos h1, if_pos (by omega)]
    · rw [if_neg h1, if_neg (by omega)]

theorem blk2_part {n1 : ℕ} [NeZero n1] {β : Type} (old new : (⟨2, ![96, n1]⟩ : Shape).Idx → β) (t : ℕ) (h : 256 * t + 256 ≤ n1) :
    blk2 96 256 (part old new t) 0 (256 * t) = blk2 96 256 old 0 (256 * t) := by
  funext y
  unfold blk2 part
  refine if_neg ?_
  show ¬ (256 * t + (y 1).val) % n1 < 256 * t
  have hy : (y 1).val < 256 := (y 1).isLt
  rw [Nat.mod_eq_of_lt (by omega)]
  omega

/-- The hidden activations of one expert. -/
def hFull (x : Vec F S96x3072 .bf16) (W : Vec F S16x1536x4096 .i8) (e : Fin 16) (T16 T17 : Vec F S24x4096 .f32) (m : Vec F S1x1x96x128 .f32) : Vec F S96x2048 .bf16 :=
  tiles (n1 := 2048) (hTile x W e T16 T17 m)

/-- The output tile: the old one plus the expert's weighted contribution. -/
def oTile (h : Vec F S96x2048 .bf16) (W : Vec F S16x1024x3072 .i8) (e : Fin 16) (T18 T19 : Vec F S16x3072 .f32) (w : Vec F S1x1x96x128 .f32) (old : Vec F S96x3072 .f32) (t : ℕ) : Vec F S96x256 .f32 :=
  k0_pay14 w (dnFold h W e T18 T19 t 8) (blk2 96 256 old 0 (256 * t))

/-- The accumulator after one expert. -/
def oFull (h : Vec F S96x2048 .bf16) (W : Vec F S16x1024x3072 .i8) (e : Fin 16) (T18 T19 : Vec F S16x3072 .f32) (w : Vec F S1x1x96x128 .f32) (old : Vec F S96x3072 .f32) : Vec F S96x3072 .f32 :=
  tiles (n1 := 3072) (oTile h W e T18 T19 w old)

theorem t4_loop_run [Facts] (X : (b : Ref sig .tc) → Buf (Elt F) ((c : Thread nD τ).loc b)) (e : Fin 16) (s : Fin 2) (x : Vec F S96x3072 .bf16) (T16 T17 : Vec F S24x4096 .f32) (v5 : BitVec 32) (hw3 : k0_chk3 v5) (k0_t2 : Fin (k0_t2_loop v5).trips) (hs : wSlot k0_t2 = s.val)
    (v21 : BitVec 32) (v99 : Vec F S1x1x96x128 .f32) (t3 : Fin k0_t3_loop.trips) (arg28 : BitVec 32) (f0 : Vec F S96x2048 .bf16) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch10 ↦{fullShare} (part f0 (hFull x (X main_arg3) e T16 T17 v99) (2 * t3.val) : Buf (Elt F) ((c : Thread nD τ).loc cc0_scratch10))) ∗ UpRes c X e s t3 x T16 T17)
    ⊢ iprop((((c : Thread nD τ).loc cc0_scratch10 ↦{fullShare} (part f0 (hFull x (X main_arg3) e T16 T17 v99) (2 * (t3.val + 1)) : Buf (Elt F) ((c : Thread nD τ).loc cc0_scratch10))) -∗ UpRes c X e s t3 x T16 T17 -∗ wp frame (wpE defs 𝒱 (c : Thread nD τ) bd) Set.univ (kk ⟨⟩) Q)
      -∗ wp frame (wpE defs 𝒱 (c : Thread nD τ) bd) Set.univ (Scf.Loop.for k0_t4_loop k0_t4_ok ⟨⟩ (k0_t4_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v99 t3 arg28) >>= kk) Q) := by
  iintro ⟨Hh, H⟩ HQ
  iapply (Scf.wp_for_bind frame (wpE defs 𝒱 (c : Thread nD τ) bd) Set.univ k0_t4_loop.lb k0_t4_loop.ub k0_t4_loop.st k0_t4_ok ⟨⟩ (k0_t4_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v99 t3 arg28)
    (fun k _ => iprop(((c : Thread nD τ).loc cc0_scratch10 ↦{fullShare} (part f0 (hFull x (X main_arg3) e T16 T17 v99) (2 * t3.val + k) : Buf (Elt F) ((c : Thread nD τ).loc cc0_scratch10))) ∗ UpRes c X e s t3 x T16 T17)) ?hb) $$ [H Hh]
  case hb =>
    intro k _
    iintro ⟨Hh, H⟩
    unfold k0_t4_body
    iapply (t5_loop_run c X e s x T16 T17 v5 hw3 k0_t2 hs v21 _ _ t3 k) $$ H
    iintro H
    iapply (load_cc0_scratch10 c _ _ (off84_eq t3 k) (part f0 (hFull x (X main_arg3) e T16 T17 v99) (2 * t3.val + k))) $$ Hh
    iintro Hh
    iapply (store_cc0_scratch10 c _ (off84_eq t3 k) (part f0 (hFull x (X main_arg3) e T16 T17 v99) (2 * t3.val + k)) (hTile x (X main_arg3) e T16 T17 v99 (2 * t3.val + k))) $$ Hh
    iintro Hh
    iapply wp_ret_of
    rw [show updC (part f0 (hFull x (X main_arg3) e T16 T17 v99) (2 * t3.val + k)) (256 * (2 * t3.val + k.val)) (hTile x (X main_arg3) e T16 T17 v99 (2 * t3.val + k)) = part f0 (hFull x (X main_arg3) e T16 T17 v99) (2 * t3.val + (k + 1)) from updC_part f0 _ _]
    iframe Hh H
  · rw [show 2 * t3.val + 0 = 2 * t3.val from rfl]
    iframe Hh H
  · iintro %acc ⟨Hh, H⟩
    iapply HQ $$ [Hh] [H]
    · iexact Hh
    · iexact H

/-- What the contraction loop of the down-projection reads. -/
def DnRes (X : (b : Ref sig .tc) → Buf (Elt F) ((c : Thread nD τ).loc b)) (e : Fin 16) (s : Fin 2) (j : Fin 2) (h : Vec F S96x2048 .bf16) (T18 T19 : Vec F S16x3072 .f32) :
    sProp (MT nD τ sig Unit (Elt F) ℕ (Pipeline.UD sig nD τ) ℕ) :=
  iprop(((c : Thread nD τ).loc cc0_scratch10 ↦{fullShare} (h : Buf (Elt F) ((c : Thread nD τ).loc cc0_scratch10))) ∗ ((c : Thread nD τ).loc cc0_scratch8 ↦{fullShare} (T18 : Buf (Elt F) ((c : Thread nD τ).loc cc0_scratch8))) ∗ ((c : Thread nD τ).loc cc0_scratch9 ↦{fullShare} (T19 : Buf (Elt F) ((c : Thread nD τ).loc cc0_scratch9)))
    ∗ ((c : Thread nD τ).loc cc0_scratch1 ↦[(dstW2 s j).view.set]{fullShare} (gW2 c X e : Buf (Elt F) ((c : Thread nD τ).loc cc0_scratch1))))

theorem t8_body_run [Facts] (X : (b : Ref sig .tc) → Buf (Elt F) ((c : Thread nD τ).loc b)) (e : Fin 16) (s : Fin 2) (h : Vec F S96x2048 .bf16) (T18 T19 : Vec F S16x3072 .f32) (v5 : BitVec 32) (hw3 : k0_chk3 v5) (k0_t2 : Fin (k0_t2_loop v5).trips) (hs : wSlot k0_t2 = s.val)
    (v21 v122 : BitVec 32) (t6 : Fin k0_t6_loop.trips) (t7 : Fin k0_t7_loop.trips) (t8 : Fin k0_t8_loop.trips) (acc : FVec F S96x256 .f32)
    {Q : FVec F S96x256 .f32 → sProp (MT nD τ sig Unit (Elt F) ℕ (Pipeline.UD sig nD τ) ℕ)} {𝒱 : Variants} {bd : Option 𝒱.V} {defs : Defs nD τ sig (Elt F) Λ₀} :
    DnRes c X e s t6 h T18 T19 ⊢ iprop((DnRes c X e s t6 h T18 T19 -∗ Q (dnStep h (X main_arg6) e T18 T19 (6 * t6.val + t7.val) t8.val acc))
      -∗ wp frame (wpE defs 𝒱 (c : Thread nD τ) bd) Set.univ (k0_t8_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t6 t7 v122 t8 acc) Q) := by
  have hj : t6.val < 2 := t6.isLt
  have ht7 : t7.val < 6 := t7.isLt
  unfold DnRes dnStep
  iintro ⟨Hh, H18, H19, Hw⟩ HQ
  unfold k0_t8_body
  rw [k0_part9_eq_skeleton]
  unfold k0_part9_skel
  iapply (load_cc0_scratch10 c _ _ (off89_eq t8) h) $$ Hh
  iintro Hh
  iapply (load_W2 c X e s t6 (128 * t8.val) (256 * (6 * t6.val + t7.val)) (off90_eq hs t6 t7 t8) (by omega) (by omega)) $$ Hw
  iintro Hw
  iapply (load_cc0_scratch8 c _ _ (off91_eq t6 t7 t8) T18) $$ H18
  iintro H18
  iapply (load_cc0_scratch9 c _ _ (off91_eq t6 t7 t8) T19) $$ H19
  iintro H19
  iapply (load_W2 c X e s t6 (128 * t8.val + 64) (256 * (6 * t6.val + t7.val)) (off92_eq hs t6 t7 t8) (by omega) (by omega)) $$ Hw
  iintro Hw
  iapply (load_cc0_scratch8 c _ _ (off93_eq t6 t7 t8) T18) $$ H18
  iintro H18
  iapply (load_cc0_scratch9 c _ _ (off93_eq t6 t7 t8) T19) $$ H19
  iintro H19
  iapply wp_ret_of
  iapply HQ
  iframe Hh H18 H19 Hw

theorem t8_loop_run [Facts] (X : (b : Ref sig .tc) → Buf (Elt F) ((c : Thread nD τ).loc b)) (e : Fin 16) (s : Fin 2) (h : Vec F S96x2048 .bf16) (T18 T19 : Vec F S16x3072 .f32) (v5 : BitVec 32) (hw3 : k0_chk3 v5) (k0_t2 : Fin (k0_t2_loop v5).trips) (hs : wSlot k0_t2 = s.val)
    (v21 v122 : BitVec 32) (t6 : Fin k0_t6_loop.trips) (t7 : Fin k0_t7_loop.trips) {β : Type}
    {kk : FVec F S96x256 .f32 → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    DnRes c X e s t6 h T18 T19 ⊢ iprop((DnRes c X e s t6 h T18 T19 -∗ wp frame (wpE defs 𝒱 (c : Thread nD τ) bd) Set.univ (kk (dnFold h (X main_arg6) e T18 T19 (6 * t6.val + t7.val) 8)) Q)
      -∗ wp frame (wpE defs 𝒱 (c : Thread nD τ) bd) Set.univ (Scf.Loop.for k0_t8_loop k0_t8_ok (k0_pay12 (F := F)) (k0_t8_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t6 t7 v122) >>= kk) Q) := by
  iintro H HQ
  iapply (Scf.wp_for_bind frame (wpE defs 𝒱 (c : Thread nD τ) bd) Set.univ k0_t8_loop.lb k0_t8_loop.ub k0_t8_loop.st k0_t8_ok (k0_pay12 (F := F)) (k0_t8_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t6 t7 v122)
    (fun k acc => iprop(⌜acc = dnFold h (X main_arg6) e T18 T19 (6 * t6.val + t7.val) k⌝ ∗ DnRes c X e s t6 h T18 T19)) ?hb) $$ [H]
  case hb =>
    intro k acc
    iintro ⟨%hh, H⟩
    iapply (t8_body_run c X e s h T18 T19 v5 hw3 k0_t2 hs v21 v122 t6 t7 k acc) $$ H
    iintro H
    isplitr
    · ipureintro
      rw [hh]
      rfl
    · iexact H
  · isplitr
    · ipureintro
      rfl
    · iexact H
  · iintro %acc ⟨%hh, H⟩
    have h' : acc = dnFold h (X main_arg6) e T18 T19 (6 * t6.val + t7.val) 8 := hh
    subst h'
    iapply HQ $$ H

theorem t7_loop_run [Facts] (X : (b : Ref sig .tc) → Buf (Elt F) ((c : Thread nD τ).loc b)) (e : Fin 16) (s : Fin 2) (h : Vec F S96x2048 .bf16) (T18 T19 : Vec F S16x3072 .f32) (v5 : BitVec 32) (hw3 : k0_chk3 v5) (k0_t2 : Fin (k0_t2_loop v5).trips) (hs : wSlot k0_t2 = s.val)
    (v21 : BitVec 32) (w : Vec F S1x1x96x128 .f32) (t6 : Fin k0_t6_loop.trips) (arg28 : BitVec 32) (old : Vec F S96x3072 .f32) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch11 ↦{fullShare} (part old (oFull h (X main_arg6) e T18 T19 w old) (6 * t6.val) : Buf (Elt F) ((c : Thread nD τ).loc cc0_scratch11))) ∗ DnRes c X e s t6 h T18 T19)
    ⊢ iprop((((c : Thread nD τ).loc cc0_scratch11 ↦{fullShare} (part old (oFull h (X main_arg6) e T18 T19 w old) (6 * (t6.val + 1)) : Buf (Elt F) ((c : Thread nD τ).loc cc0_scratch11))) -∗ DnRes c X e s t6 h T18 T19 -∗ wp frame (wpE defs 𝒱 (c : Thread nD τ) bd) Set.univ (kk ⟨⟩) Q)
      -∗ wp frame (wpE defs 𝒱 (c : Thread nD τ) bd) Set.univ (Scf.Loop.for k0_t7_loop k0_t7_ok ⟨⟩ (k0_t7_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 w t6 arg28) >>= kk) Q) := by
  have ht6 : t6.val < 2 := t6.isLt
  iintro ⟨Hh, H⟩ HQ
  iapply (Scf.wp_for_bind frame (wpE defs 𝒱 (c : Thread nD τ) bd) Set.univ k0_t7_loop.lb k0_t7_loop.ub k0_t7_loop.st k0_t7_ok ⟨⟩ (k0_t7_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 w t6 arg28)
    (fun k _ => iprop(((c : Thread nD τ).loc cc0_scratch11 ↦{fullShare} (part old (oFull h (X main_arg6) e T18 T19 w old) (6 * t6.val + k) : Buf (Elt F) ((c : Thread nD τ).loc cc0_scratch11))) ∗ DnRes c X e s t6 h T18 T19)) ?hb) $$ [H Hh]
  case hb =>
    intro k _
    have hk : k.val < 6 := k.isLt
    iintro ⟨Hh, H⟩
    unfold k0_t7_body
    iapply (t8_loop_run c X e s h T18 T19 v5 hw3 k0_t2 hs v21 _ t6 k) $$ H
    iintro H
    iapply (load_cc0_scratch11 c _ _ (off94_eq t6 k) (part old (oFull h (X main_arg6) e T18 T19 w old) (6 * t6.val + k))) $$ Hh
    iintro Hh
    iapply (load_cc0_scratch11 c _ _ (off94_eq t6 k) (part old (oFull h (X main_arg6) e T18 T19 w old) (6 * t6.val + k))) $$ Hh
    iintro Hh
    rw [blk2_part old (oFull h (X main_arg6) e T18 T19 w old) (6 * t6.val + k) (by omega)]
    iapply (store_cc0_scratch11 c _ (off94_eq t6 k) (part old (oFull h (X main_arg6) e T18 T19 w old) (6 * t6.val + k)) (oTile h (X main_arg6) e T18 T19 w old (6 * t6.val + k))) $$ Hh
    iintro Hh
    iapply wp_ret_of
    rw [show updC (part old (oFull h (X main_arg6) e T18 T19 w old) (6 * t6.val + k)) (256 * (6 * t6.val + k.val)) (oTile h (X main_arg6) e T18 T19 w old (6 * t6.val + k)) = part old (oFull h (X main_arg6) e T18 T19 w old) (6 * t6.val + (k + 1)) from updC_part old _ _]
    iframe Hh H
  · rw [show 6 * t6.val + 0 = 6 * t6.val from rfl]
    iframe Hh H
  · iintro %acc ⟨Hh, H⟩
    iapply HQ $$ [Hh] [H]
    · iexact Hh
    · iexact H

end Cert.Kernel.Hand

end
-- ==== Proof.BitsChecks.lean ====
/-
  The side conditions the body assumes of the words it reads — the number of active experts, an entry of the expert
  list, a list position — hold for every word the kernel can read: a count of at most sixteen, an expert below sixteen.
-/
module

public import proofs.«01_k».proof.Proof.Gen.Kernel.Launch
public import proofs.«01_k».proof.Proof.Gen.Kernel.Skeleton

@[expose] public section

set_option maxRecDepth 65536

namespace Cert.Kernel.Hand

open Cert.Kernel Cert.Kernel.Gen
open Idealize.ShloMosaic

theorem chk1_of : ∀ n : Fin 16, k0_chk1 (BitVec.ofNat 32 n.val) := by decide +kernel

theorem chk5_of : ∀ e : Fin 16, k0_chk5 (BitVec.ofNat 32 e.val) := by decide +kernel

theorem chk2_of : ∀ (n : Fin 17) (e : Fin 16), k0_chk2 (BitVec.ofNat 32 n.val) (BitVec.ofNat 32 e.val) := by decide +kernel

theorem chk3_of : ∀ n : Fin 17, k0_chk3 (BitVec.ofNat 32 n.val) := by decide +kernel

theorem chk4_of : ∀ (n : Fin 17) (k : Fin (k0_t2_loop (BitVec.ofNat 32 n.val)).trips) (e : Fin 16),
    k0_chk4 (BitVec.ofNat 32 n.val) k (BitVec.ofNat 32 e.val) := by decide +kernel

theorem trips2 : ∀ n : Fin 17, (k0_t2_loop (BitVec.ofNat 32 n.val)).trips = n.val := by decide +kernel
theorem trips9 : ∀ n : Fin 17, (k0_t9_loop (BitVec.ofNat 32 n.val)).trips = 0 := by decide +kernel
theorem cond1_iff : ∀ n : Fin 17, k0_cond1 (BitVec.ofNat 32 n.val) = 1#1 ↔ 0 < n.val := by decide +kernel
theorem cond2_iff : ∀ (n : Fin 17) (k : Fin (k0_t2_loop (BitVec.ofNat 32 n.val)).trips),
    k0_cond2 (BitVec.ofNat 32 n.val) k = 1#1 ↔ k.val + 1 < n.val := by decide +kernel

end Cert.Kernel.Hand
-- ==== Proof.BitsExpert.lean ====
/-
  One expert's turn: the next expert's copies are started, this expert's are waited for, its tables are built, and the
  two projections run chunk by chunk.
-/
module

public import proofs.«01_k».proof.Proof.BitsLoops
public import proofs.«01_k».proof.Proof.BitsChecks

@[expose] public section

noncomputable section

namespace Cert.Kernel.Hand

open Cert.Kernel Cert.Kernel.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

theorem iv4 : ∀ k : Fin 4, (Scf.iv (0#32 : BitVec 32) 1#32 k.val).toNat = k.val := by decide +kernel
theorem iv2 : ∀ k : Fin 2, (Scf.iv (0#32 : BitVec 32) 1#32 k.val).toNat = k.val := by decide +kernel
theorem iv16 : ∀ k : Fin 16, (Scf.iv (0#32 : BitVec 32) 1#32 k.val).toNat = k.val := by decide +kernel
theorem iv16s : ∀ k : Fin 16, (Scalar.addi (Scf.iv (0#32 : BitVec 32) 1#32 k.val) 1#32).toNat = k.val + 1 := by decide +kernel
theorem ofE : ∀ e : Fin 16, (BitVec.ofNat 32 e.val).toNat = e.val := by decide +kernel

/-- The slot of expert number `k`. -/
def sl (k : ℕ) : Fin 2 := ⟨k % 2, Nat.mod_lt _ (by decide)⟩

theorem wSlot_eq : ∀ k : Fin 16, wSlot k.val = (sl k.val).val := by decide +kernel

/-- The slot word of the next expert. -/
def wNext (k : ℕ) : ℕ := (Scalar.remsi (Scalar.addi (Scf.iv 0#32 1#32 k) 1#32) 2#32).toNat

theorem wNext_eq : ∀ k : Fin 16, wNext k.val = (sl (k.val + 1)).val := by decide +kernel

theorem bigSep_four (Φ : Fin 4 → sProp (MT nD τ sig Unit (Elt F) ℕ (Pipeline.UD sig nD τ) ℕ)) : bigSep Finset.univ Φ = iprop(Φ 0 ∗ Φ 1 ∗ Φ 2 ∗ Φ 3) := by
  rw [show (Finset.univ : Finset (Fin 4)) = {0, 1, 2, 3} from by decide, BI.bigSep_insert (by decide), BI.bigSep_insert (by decide), BI.bigSep_insert (by decide), BI.bigSep_singleton]
  rfl

/-- The chunks of the first weight array while the chunk loop runs: those before `k` idle, the others in flight. -/
def Chunks1 (X : (b : Ref sig .tc) → Buf (Elt F) ((c : Thread nD τ).loc b)) (e : Fin 16) (s : Fin 2) (k : ℕ) : sProp (MT nD τ sig Unit (Elt F) ℕ (Pipeline.UD sig nD τ) ℕ) :=
  bigSep Finset.univ fun j : Fin 4 => if j.val < k then idleW1 c X s j else flyW1 c X s j e 0

/-- The chunks of the second weight array. -/
def Chunks2 (X : (b : Ref sig .tc) → Buf (Elt F) ((c : Thread nD τ).loc b)) (e : Fin 16) (s : Fin 2) (k : ℕ) : sProp (MT nD τ sig Unit (Elt F) ℕ (Pipeline.UD sig nD τ) ℕ) :=
  bigSep Finset.univ fun j : Fin 2 => if j.val < k then idleW2 c X s j else flyW2 c X s j e

theorem chunks1_split (X : (b : Ref sig .tc) → Buf (Elt F) ((c : Thread nD τ).loc b)) (e : Fin 16) (s : Fin 2) (j : Fin 4) : Chunks1 c X e s j.val
    = iprop(flyW1 c X s j e 0 ∗ bigSep (Finset.univ.erase j) fun i : Fin 4 => if i.val < j.val then idleW1 c X s i else flyW1 c X s i e 0) := by
  unfold Chunks1
  rw [BI.bigSep_univ_split j]
  simp only [lt_irrefl, if_false]
  rfl

theorem chunks1_join (X : (b : Ref sig .tc) → Buf (Elt F) ((c : Thread nD τ).loc b)) (e : Fin 16) (s : Fin 2) (j : Fin 4) : Chunks1 c X e s (j.val + 1)
    = iprop(idleW1 c X s j ∗ bigSep (Finset.univ.erase j) fun i : Fin 4 => if i.val < j.val then idleW1 c X s i else flyW1 c X s i e 0) := by
  unfold Chunks1
  rw [BI.bigSep_univ_split j, if_pos (Nat.lt_succ_self _)]
  refine congrArg (fun P => iprop(idleW1 c X s j ∗ P)) (BI.bigSep_congr fun i hi => ?_)
  have hne : i.val ≠ j.val := fun h => (Finset.mem_erase.mp hi).1 (Fin.ext h)
  exact if_congr (by omega) rfl rfl

theorem chunks2_split (X : (b : Ref sig .tc) → Buf (Elt F) ((c : Thread nD τ).loc b)) (e : Fin 16) (s : Fin 2) (j : Fin 2) : Chunks2 c X e s j.val
    = iprop(flyW2 c X s j e ∗ bigSep (Finset.univ.erase j) fun i : Fin 2 => if i.val < j.val then idleW2 c X s i else flyW2 c X s i e) := by
  unfold Chunks2
  rw [BI.bigSep_univ_split j]
  simp only [lt_irrefl, if_false]
  rfl

theorem chunks2_join (X : (b : Ref sig .tc) → Buf (Elt F) ((c : Thread nD τ).loc b)) (e : Fin 16) (s : Fin 2) (j : Fin 2) : Chunks2 c X e s (j.val + 1)
    = iprop(idleW2 c X s j ∗ bigSep (Finset.univ.erase j) fun i : Fin 2 => if i.val < j.val then idleW2 c X s i else flyW2 c X s i e) := by
  unfold Chunks2
  rw [BI.bigSep_univ_split j, if_pos (Nat.lt_succ_self _)]
  refine congrArg (fun P => iprop(idleW2 c X s j ∗ P)) (BI.bigSep_congr fun i hi => ?_)
  have hne : i.val ≠ j.val := fun h => (Finset.mem_erase.mp hi).1 (Fin.ext h)
  exact if_congr (by omega) rfl rfl

theorem off72_eq {v5 : BitVec 32} {k0_t2 : Fin (k0_t2_loop v5).trips} {s : Fin 2} (hs : wSlot k0_t2 = s.val) (t3 : Fin k0_t3_loop.trips) : k0_off72 v5 k0_t2 t3 = ![s.val, t3.val] :=
  (show k0_off72 v5 k0_t2 t3 = ![wSlot k0_t2, (Scf.iv (0#32 : BitVec 32) 1#32 t3.val).toNat] from rfl).trans (by rw [hs, iv4 t3])

theorem off86_eq {v5 : BitVec 32} {k0_t2 : Fin (k0_t2_loop v5).trips} {s : Fin 2} (hs : wSlot k0_t2 = s.val) (t6 : Fin k0_t6_loop.trips) : k0_off86 v5 k0_t2 t6 = ![s.val, t6.val] :=
  (show k0_off86 v5 k0_t2 t6 = ![wSlot k0_t2, (Scf.iv (0#32 : BitVec 32) 1#32 t6.val).toNat] from rfl).trans (by rw [hs, iv2 t6])

theorem t3_loop_run [Facts] (X : (b : Ref sig .tc) → Buf (Elt F) ((c : Thread nD τ).loc b)) (e : Fin 16) (s : Fin 2) (x : Vec F S96x3072 .bf16) (T16 T17 : Vec F S24x4096 .f32) (v5 : BitVec 32) (hw3 : k0_chk3 v5) (k0_t2 : Fin (k0_t2_loop v5).trips) (hs : wSlot k0_t2 = s.val)
    (v21 v23 : BitVec 32) (hw5 : k0_chk5 v23) (v99 : Vec F S1x1x96x128 .f32) (f0 : Vec F S96x2048 .bf16) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch10 ↦{fullShare} (f0 : Buf (Elt F) ((c : Thread nD τ).loc cc0_scratch10))) ∗ ((c : Thread nD τ).loc cc0_stg0_0 ↦{fullShare} (x : Buf (Elt F) ((c : Thread nD τ).loc cc0_stg0_0))) ∗ ((c : Thread nD τ).loc cc0_scratch6 ↦{fullShare} (T16 : Buf (Elt F) ((c : Thread nD τ).loc cc0_scratch6))) ∗ ((c : Thread nD τ).loc cc0_scratch7 ↦{fullShare} (T17 : Buf (Elt F) ((c : Thread nD τ).loc cc0_scratch7))) ∗ Chunks1 c X e s 0 ∗ (∃ W, owes (c : Thread nD τ) 0 W))
    ⊢ iprop((((c : Thread nD τ).loc cc0_scratch10 ↦{fullShare} (hFull x (X main_arg3) e T16 T17 v99 : Buf (Elt F) ((c : Thread nD τ).loc cc0_scratch10))) -∗ ((c : Thread nD τ).loc cc0_stg0_0 ↦{fullShare} (x : Buf (Elt F) ((c : Thread nD τ).loc cc0_stg0_0))) -∗ ((c : Thread nD τ).loc cc0_scratch6 ↦{fullShare} (T16 : Buf (Elt F) ((c : Thread nD τ).loc cc0_scratch6))) -∗ ((c : Thread nD τ).loc cc0_scratch7 ↦{fullShare} (T17 : Buf (Elt F) ((c : Thread nD τ).loc cc0_scratch7))) -∗ Chunks1 c X e s 4 -∗ (∃ W, owes (c : Thread nD τ) 0 W) -∗ wp frame (wpE defs 𝒱 (c : Thread nD τ) bd) Set.univ (kk ⟨⟩) Q)
      -∗ wp frame (wpE defs 𝒱 (c : Thread nD τ) bd) Set.univ (Scf.Loop.for k0_t3_loop k0_t3_ok ⟨⟩ (k0_t3_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v23 hw5 v99) >>= kk) Q) := by
  iintro ⟨Hh, Hx, H16, H17, Hc, HO⟩ HQ
  iapply (Scf.wp_for_bind frame (wpE defs 𝒱 (c : Thread nD τ) bd) Set.univ k0_t3_loop.lb k0_t3_loop.ub k0_t3_loop.st k0_t3_ok ⟨⟩ (k0_t3_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v23 hw5 v99)
    (fun k _ => iprop(((c : Thread nD τ).loc cc0_scratch10 ↦{fullShare} (part f0 (hFull x (X main_arg3) e T16 T17 v99) (2 * k) : Buf (Elt F) ((c : Thread nD τ).loc cc0_scratch10))) ∗ ((c : Thread nD τ).loc cc0_stg0_0 ↦{fullShare} (x : Buf (Elt F) ((c : Thread nD τ).loc cc0_stg0_0))) ∗ ((c : Thread nD τ).loc cc0_scratch6 ↦{fullShare} (T16 : Buf (Elt F) ((c : Thread nD τ).loc cc0_scratch6))) ∗ ((c : Thread nD τ).loc cc0_scratch7 ↦{fullShare} (T17 : Buf (Elt F) ((c : Thread nD τ).loc cc0_scratch7))) ∗ Chunks1 c X e s k ∗ (∃ W, owes (c : Thread nD τ) 0 W))) ?hb) $$ [Hh Hx H16 H17 Hc HO]
  case hb =>
    intro k _
    rw [chunks1_split c X e s k, chunks1_join c X e s k]
    iintro ⟨Hh, Hx, H16, H17, ⟨Hf, Hr⟩, HO⟩
    unfold k0_t3_body
    iapply (waitW1a c X s k e (off72_eq hs k)) $$ [Hf HO]
    · iframe Hf HO
    iintro ⟨Hf, HO⟩
    iapply (waitW1b c X s k e (off72_eq hs k)) $$ [Hf HO]
    · iframe Hf HO
    iintro ⟨Ha0, Ha1, Hd0, Hd1, Hv, HO⟩
    iapply (t4_loop_run c X e s x T16 T17 v5 hw3 k0_t2 hs v21 v99 k _ f0) $$ [Hh Hx H16 H17 Hd0 Hd1]
    · unfold UpRes
      iframe Hh Hx H16 H17 Hd0 Hd1
    unfold UpRes
    iintro Hh ⟨Hx, H16, H17, Hd0, Hd1⟩
    iapply wp_ret_of
    iframe Hh Hx H16 H17 Hr HO
    unfold idleW1 Idle2
    isplitl [Ha0]; · iexact Ha0
    isplitl [Ha1]; · iexact Ha1
    isplitl [Hd0]; · iexists _; iexact Hd0
    isplitl [Hd1]; · iexists _; iexact Hd1
    iexact Hv
  · rw [show part f0 (hFull x (X main_arg3) e T16 T17 v99) (2 * 0) = f0 from part_zero _ _]
    iframe Hh Hx H16 H17 Hc HO
  · rw [show part f0 (hFull x (X main_arg3) e T16 T17 v99) (2 * Scf.trips k0_t3_loop.lb k0_t3_loop.ub k0_t3_loop.st) = hFull x (X main_arg3) e T16 T17 v99 from part_all f0 _ (by decide),
      show Scf.trips k0_t3_loop.lb k0_t3_loop.ub k0_t3_loop.st = 4 from by decide]
    iintro %acc ⟨Hh, Hx, H16, H17, Hc, HO⟩
    iapply HQ $$ [Hh] [Hx] [H16] [H17] [Hc] [HO]
    · iexact Hh
    · iexact Hx
    · iexact H16
    · iexact H17
    · iexact Hc
    · iexact HO

theorem t6_loop_run [Facts] (X : (b : Ref sig .tc) → Buf (Elt F) ((c : Thread nD τ).loc b)) (e : Fin 16) (s : Fin 2) (h : Vec F S96x2048 .bf16) (T18 T19 : Vec F S16x3072 .f32) (v5 : BitVec 32) (hw3 : k0_chk3 v5) (k0_t2 : Fin (k0_t2_loop v5).trips) (hs : wSlot k0_t2 = s.val)
    (v21 v23 : BitVec 32) (hw5 : k0_chk5 v23) (w : Vec F S1x1x96x128 .f32) (old : Vec F S96x3072 .f32) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch11 ↦{fullShare} (old : Buf (Elt F) ((c : Thread nD τ).loc cc0_scratch11))) ∗ ((c : Thread nD τ).loc cc0_scratch10 ↦{fullShare} (h : Buf (Elt F) ((c : Thread nD τ).loc cc0_scratch10))) ∗ ((c : Thread nD τ).loc cc0_scratch8 ↦{fullShare} (T18 : Buf (Elt F) ((c : Thread nD τ).loc cc0_scratch8))) ∗ ((c : Thread nD τ).loc cc0_scratch9 ↦{fullShare} (T19 : Buf (Elt F) ((c : Thread nD τ).loc cc0_scratch9))) ∗ Chunks2 c X e s 0 ∗ (∃ W, owes (c : Thread nD τ) 0 W))
    ⊢ iprop((((c : Thread nD τ).loc cc0_scratch11 ↦{fullShare} (oFull h (X main_arg6) e T18 T19 w old : Buf (Elt F) ((c : Thread nD τ).loc cc0_scratch11))) -∗ ((c : Thread nD τ).loc cc0_scratch10 ↦{fullShare} (h : Buf (Elt F) ((c : Thread nD τ).loc cc0_scratch10))) -∗ ((c : Thread nD τ).loc cc0_scratch8 ↦{fullShare} (T18 : Buf (Elt F) ((c : Thread nD τ).loc cc0_scratch8))) -∗ ((c : Thread nD τ).loc cc0_scratch9 ↦{fullShare} (T19 : Buf (Elt F) ((c : Thread nD τ).loc cc0_scratch9))) -∗ Chunks2 c X e s 2 -∗ (∃ W, owes (c : Thread nD τ) 0 W) -∗ wp frame (wpE defs 𝒱 (c : Thread nD τ) bd) Set.univ (kk ⟨⟩) Q)
      -∗ wp frame (wpE defs 𝒱 (c : Thread nD τ) bd) Set.univ (Scf.Loop.for k0_t6_loop k0_t6_ok ⟨⟩ (k0_t6_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v23 hw5 w) >>= kk) Q) := by
  iintro ⟨Ho, Hh, H18, H19, Hc, HO⟩ HQ
  iapply (Scf.wp_for_bind frame (wpE defs 𝒱 (c : Thread nD τ) bd) Set.univ k0_t6_loop.lb k0_t6_loop.ub k0_t6_loop.st k0_t6_ok ⟨⟩ (k0_t6_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v23 hw5 w)
    (fun k _ => iprop(((c : Thread nD τ).loc cc0_scratch11 ↦{fullShare} (part old (oFull h (X main_arg6) e T18 T19 w old) (6 * k) : Buf (Elt F) ((c : Thread nD τ).loc cc0_scratch11))) ∗ ((c : Thread nD τ).loc cc0_scratch10 ↦{fullShare} (h : Buf (Elt F) ((c : Thread nD τ).loc cc0_scratch10))) ∗ ((c : Thread nD τ).loc cc0_scratch8 ↦{fullShare} (T18 : Buf (Elt F) ((c : Thread nD τ).loc cc0_scratch8))) ∗ ((c : Thread nD τ).loc cc0_scratch9 ↦{fullShare} (T19 : Buf (Elt F) ((c : Thread nD τ).loc cc0_scratch9))) ∗ Chunks2 c X e s k ∗ (∃ W, owes (c : Thread nD τ) 0 W))) ?hb) $$ [Ho Hh H18 H19 Hc HO]
  case hb =>
    intro k _
    rw [chunks2_split c X e s k, chunks2_join c X e s k]
    iintro ⟨Ho, Hh, H18, H19, ⟨Hf, Hr⟩, HO⟩
    unfold k0_t6_body
    iapply (waitW2 c X s k e (off86_eq hs k)) $$ [Hf HO]
    · iframe Hf HO
    iintro ⟨Ha, Hd, Hv, HO⟩
    iapply (t7_loop_run c X e s h T18 T19 v5 hw3 k0_t2 hs v21 w k _ old) $$ [Ho Hh H18 H19 Hd]
    · unfold DnRes
      iframe Ho Hh H18 H19 Hd
    unfold DnRes
    iintro Ho ⟨Hh, H18, H19, Hd⟩
    iapply wp_ret_of
    iframe Ho Hh H18 H19 Hr HO
    unfold idleW2 Idle
    isplitl [Ha]; · iexact Ha
    isplitl [Hd]; · iexists _; iexact Hd
    iexact Hv
  · rw [show part old (oFull h (X main_arg6) e T18 T19 w old) (6 * 0) = old from part_zero _ _]
    iframe Ho Hh H18 H19 Hc HO
  · rw [show part old (oFull h (X main_arg6) e T18 T19 w old) (6 * Scf.trips k0_t6_loop.lb k0_t6_loop.ub k0_t6_loop.st) = oFull h (X main_arg6) e T18 T19 w old from part_all old _ (by decide),
      show Scf.trips k0_t6_loop.lb k0_t6_loop.ub k0_t6_loop.st = 2 from by decide]
    iintro %acc ⟨Ho, Hh, H18, H19, Hc, HO⟩
    iapply HQ $$ [Ho] [Hh] [H18] [H19] [Hc] [HO]
    · iexact Ho
    · iexact Hh
    · iexact H18
    · iexact H19
    · iexact Hc
    · iexact HO

/-- One slot with nothing in flight. -/
def IdleSlot (X : (b : Ref sig .tc) → Buf (Elt F) ((c : Thread nD τ).loc b)) (s : Fin 2) : sProp (MT nD τ sig Unit (Elt F) ℕ (Pipeline.UD sig nD τ) ℕ) :=
  iprop(idleQ0 c X s ∗ idleQ1 c X s ∗ idleQ2 c X s ∗ idleQ3 c X s ∗ (idleW1 c X s 0 ∗ idleW1 c X s 1 ∗ idleW1 c X s 2 ∗ idleW1 c X s 3) ∗ (idleW2 c X s 0 ∗ idleW2 c X s 1))

/-- One slot with every copy of expert `e` in flight. -/
def FlySlot (X : (b : Ref sig .tc) → Buf (Elt F) ((c : Thread nD τ).loc b)) (e : Fin 16) (s : Fin 2) : sProp (MT nD τ sig Unit (Elt F) ℕ (Pipeline.UD sig nD τ) ℕ) :=
  iprop(flyQ0 c X s e ∗ flyQ1 c X s e ∗ flyQ2 c X s e ∗ flyQ3 c X s e ∗ (flyW1 c X s 0 e 0 ∗ flyW1 c X s 1 e 0 ∗ flyW1 c X s 2 e 0 ∗ flyW1 c X s 3 e 0) ∗ (flyW2 c X s 0 e ∗ flyW2 c X s 1 e))

theorem chunks1_fly (X : (b : Ref sig .tc) → Buf (Elt F) ((c : Thread nD τ).loc b)) (e : Fin 16) (s : Fin 2) : Chunks1 c X e s 0 = iprop(flyW1 c X s 0 e 0 ∗ flyW1 c X s 1 e 0 ∗ flyW1 c X s 2 e 0 ∗ flyW1 c X s 3 e 0) := by
  unfold Chunks1
  rw [bigSep_four]
  rfl
theorem chunks1_idle (X : (b : Ref sig .tc) → Buf (Elt F) ((c : Thread nD τ).loc b)) (e : Fin 16) (s : Fin 2) : Chunks1 c X e s 4 = iprop(idleW1 c X s 0 ∗ idleW1 c X s 1 ∗ idleW1 c X s 2 ∗ idleW1 c X s 3) := by
  unfold Chunks1
  rw [bigSep_four]
  rfl
theorem chunks2_fly (X : (b : Ref sig .tc) → Buf (Elt F) ((c : Thread nD τ).loc b)) (e : Fin 16) (s : Fin 2) : Chunks2 c X e s 0 = iprop(flyW2 c X s 0 e ∗ flyW2 c X s 1 e) := by
  unfold Chunks2
  rw [BI.bigSep_univ_two]
  rfl
theorem chunks2_idle (X : (b : Ref sig .tc) → Buf (Elt F) ((c : Thread nD τ).loc b)) (e : Fin 16) (s : Fin 2) : Chunks2 c X e s 2 = iprop(idleW2 c X s 0 ∗ idleW2 c X s 1) := by
  unfold Chunks2
  rw [BI.bigSep_univ_two]
  rfl

/-- The word of the list at place `k`. -/
def lst (L : Vec F S17 .i32) (k : ℕ) : BitVec 32 := L (ix1 (Fin.ofNat 17 k))

theorem load_sm (L : Vec F S17 .i32) (k' : ℕ) {off : Fin 1 → ℕ} (ho : off = ![k']) {inb : ∀ a, off a + S1.size a ≤ S17.size a} {hl} {α : Type}
    {k : Vec F S1 .i32 → Prog (TpuEff nD τ sig (Elt F) Λ .tc) α} {q : PosShare TreeShare} {Q : α → sProp (MT nD τ sig Unit (Elt F) ℕ (Pipeline.UD sig nD τ) ℕ)} :
    ((c : Thread nD τ).loc cc0_scratch13 ↦{q} (L : Buf (Elt F) ((c : Thread nD τ).loc cc0_scratch13))) ⊢ iprop((((c : Thread nD τ).loc cc0_scratch13 ↦{q} (L : Buf (Elt F) ((c : Thread nD τ).loc cc0_scratch13))) -∗ wp frame (wpE defs 𝒱 (c : Thread nD τ) bd) Set.univ (k (fun _ => lst L k')) Q)
      -∗ wp frame (wpE defs 𝒱 (c : Thread nD τ) bd) Set.univ (.op (.load (Memref.whole cc0_scratch13) (Rect.unit (s := S17) off S1.size inb).toLoadRect hl) k) Q) := by
  subst ho
  refine loadAt (F := F) c (m := Memref.whole cc0_scratch13) (r := Rect.unit (s := S17) ![k'] S1.size inb) (f := (L : Buf (Elt F) ((c : Thread nD τ).loc cc0_scratch13))) (fun _ => lst L k') (Finset.subset_univ _) ?_
  funext y
  have i0 := inb 0
  change k' + 1 ≤ 17 at i0
  have h0 : (y 0).val < 1 := (y 0).isLt
  refine congrArg L (funext fun a => Fin.ext ?_)
  fin_cases a
  show k' + 1 * (y 0).val = k' % 17
  rw [Nat.mod_eq_of_lt (by omega)]
  omega

/-- The tables of expert `e`: the two scales and the two zero points. -/
def T16 (X : (b : Ref sig .tc) → Buf (Elt F) ((c : Thread nD τ).loc b)) (e : Fin 16) : Vec F S24x4096 .f32 := k0_pay35 (blkQ0 c X e)
def T18 (X : (b : Ref sig .tc) → Buf (Elt F) ((c : Thread nD τ).loc b)) (e : Fin 16) : Vec F S16x3072 .f32 := k0_pay36 (blkQ2 c X e)

/-- Two matrices side by side. -/
def join2 {n0 m n1 : ℕ} [NeZero m] {β : Type} (a b : (⟨2, ![n0, m]⟩ : Shape).Idx → β) : (⟨2, ![n0, n1]⟩ : Shape).Idx → β :=
  fun i => if (i 1).val < m then a (ix2 (i 0) (Fin.ofNat m (i 1).val)) else b (ix2 (i 0) (Fin.ofNat m ((i 1).val - m)))

theorem updC_join {n0 m n1 : ℕ} [NeZero m] {β : Type} (f : (⟨2, ![n0, n1]⟩ : Shape).Idx → β) (a b : (⟨2, ![n0, m]⟩ : Shape).Idx → β) (h : n1 = 2 * m) :
    updC (updC f 0 a) m b = join2 a b := by
  funext i
  have hi : (i 1).val < n1 := (i 1).isLt
  unfold join2
  by_cases h1 : (i 1).val < m
  · rw [if_pos h1]
    unfold updC
    rw [dif_neg (by omega), dif_pos (by omega)]
    refine congrArg a (congrArg (ix2 (i 0)) (Fin.ext ?_))
    show (i 1).val - 0 = (i 1).val % m
    rw [Nat.mod_eq_of_lt h1, Nat.sub_zero]
  · rw [if_neg h1]
    unfold updC
    rw [dif_pos (by omega)]
    refine congrArg b (congrArg (ix2 (i 0)) (Fin.ext ?_))
    show (i 1).val - m = ((i 1).val - m) % m
    rw [Nat.mod_eq_of_lt (by omega)]

def T17 (X : (b : Ref sig .tc) → Buf (Elt F) ((c : Thread nD τ).loc b)) (e : Fin 16) : Vec F S24x4096 .f32 := join2 (m := 2048) (k0_pay38 (blkQ1 c X e)) (k0_pay39 (blkQ1 c X e))
def T19 (X : (b : Ref sig .tc) → Buf (Elt F) ((c : Thread nD τ).loc b)) (e : Fin 16) : Vec F S16x3072 .f32 := join2 (m := 1536) (k0_pay7 (k0_pay41 (blkQ3 c X e))) (k0_pay8 (k0_pay40 (blkQ3 c X e)))

/-- The accumulator after expert `e`. -/
def expOut (X : (b : Ref sig .tc) → Buf (Elt F) ((c : Thread nD τ).loc b)) (x : Vec F S96x3072 .bf16) (cw : Vec F S16x2x96x128 .f32) (e : Fin 16) (old : Vec F S96x3072 .f32) : Vec F S96x3072 .f32 :=
  oFull (hFull x (X main_arg3) e (T16 c X e) (T17 c X e) (rowT cw e 1)) (X main_arg6) e (T18 c X e) (T19 c X e) (rowT cw e 0) old

/-- The buffers of the expert loop beside the slots. -/
def ExpRes (x : Vec F S96x3072 .bf16) (cw : Vec F S16x2x96x128 .f32) (L : Vec F S17 .i32) (acc : Vec F S96x3072 .f32) : sProp (MT nD τ sig Unit (Elt F) ℕ (Pipeline.UD sig nD τ) ℕ) :=
  iprop(((c : Thread nD τ).loc cc0_stg0_0 ↦{fullShare} (x : Buf (Elt F) ((c : Thread nD τ).loc cc0_stg0_0))) ∗ ((c : Thread nD τ).loc cc0_scratch12 ↦{fullShare} (cw : Buf (Elt F) ((c : Thread nD τ).loc cc0_scratch12))) ∗ ((c : Thread nD τ).loc cc0_scratch13 ↦{fullShare} (L : Buf (Elt F) ((c : Thread nD τ).loc cc0_scratch13))) ∗ (∃ f : Vec F S24x4096 .f32, ((c : Thread nD τ).loc cc0_scratch6 ↦{fullShare} (f : Buf (Elt F) ((c : Thread nD τ).loc cc0_scratch6)))) ∗ (∃ f : Vec F S24x4096 .f32, ((c : Thread nD τ).loc cc0_scratch7 ↦{fullShare} (f : Buf (Elt F) ((c : Thread nD τ).loc cc0_scratch7)))) ∗ (∃ f : Vec F S16x3072 .f32, ((c : Thread nD τ).loc cc0_scratch8 ↦{fullShare} (f : Buf (Elt F) ((c : Thread nD τ).loc cc0_scratch8)))) ∗ (∃ f : Vec F S16x3072 .f32, ((c : Thread nD τ).loc cc0_scratch9 ↦{fullShare} (f : Buf (Elt F) ((c : Thread nD τ).loc cc0_scratch9)))) ∗ (∃ f : Vec F S96x2048 .bf16, ((c : Thread nD τ).loc cc0_scratch10 ↦{fullShare} (f : Buf (Elt F) ((c : Thread nD τ).loc cc0_scratch10)))) ∗ ((c : Thread nD τ).loc cc0_scratch11 ↦{fullShare} (acc : Buf (Elt F) ((c : Thread nD τ).loc cc0_scratch11))))

/-- The slot of the next expert: in flight if there is one. -/
def NextSlot (X : (b : Ref sig .tc) → Buf (Elt F) ((c : Thread nD τ).loc b)) (E : ℕ → Fin 16) (n k : ℕ) : sProp (MT nD τ sig Unit (Elt F) ℕ (Pipeline.UD sig nD τ) ℕ) :=
  if k < n then FlySlot c X (E k) (sl k) else IdleSlot c X (sl k)

/-- The starts of the next expert's copies, at the head of an expert's turn. -/
theorem part10_run [Facts] (X : (b : Ref sig .tc) → Buf (Elt F) ((c : Thread nD τ).loc b)) (E : ℕ → Fin 16) (n : Fin 17) (L : Vec F S17 .i32)
    (hL : ∀ k, k < n.val → lst L k = BitVec.ofNat 32 (E k).val) (hw3 : k0_chk3 (BitVec.ofNat 32 n.val)) (k0_t2 : Fin (k0_t2_loop (BitVec.ofNat 32 n.val)).trips) {β : Type}
    {kk : (Σ' (v21 : BitVec 32) (v23 : Elt F .i32), k0_chk5 v23) → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch13 ↦{fullShare} (L : Buf (Elt F) ((c : Thread nD τ).loc cc0_scratch13))) ∗ FlySlot c X (E k0_t2.val) (sl k0_t2.val) ∗ IdleSlot c X (sl (k0_t2.val + 1)) ∗ (∃ W, owes (c : Thread nD τ) 0 W))
    ⊢ iprop((∀ v21, ((c : Thread nD τ).loc cc0_scratch13 ↦{fullShare} (L : Buf (Elt F) ((c : Thread nD τ).loc cc0_scratch13))) -∗ NextSlot c X E n.val (k0_t2.val + 1)
          -∗ (((c : Thread nD τ).loc main_arg4 ↦{hf (sl k0_t2.val) fullShare} X main_arg4) ∗ ((c : Thread nD τ).loc cc0_scratch2 ↦[(dstQ0 (sl k0_t2.val)).view.set]{fullShare} (gQ0 c X (E k0_t2.val) : Buf (Elt F) ((c : Thread nD τ).loc cc0_scratch2))) ∗ semVal ((c : Thread nD τ), .dma (semQ0 (sl k0_t2.val))) 0)
          -∗ (((c : Thread nD τ).loc main_arg5 ↦{hf (sl k0_t2.val) fullShare} X main_arg5) ∗ ((c : Thread nD τ).loc cc0_scratch3 ↦[(dstQ1 (sl k0_t2.val)).view.set]{fullShare} (gQ1 c X (E k0_t2.val) : Buf (Elt F) ((c : Thread nD τ).loc cc0_scratch3))) ∗ semVal ((c : Thread nD τ), .dma (semQ1 (sl k0_t2.val))) 0)
          -∗ (((c : Thread nD τ).loc main_arg7 ↦{hf (sl k0_t2.val) fullShare} X main_arg7) ∗ ((c : Thread nD τ).loc cc0_scratch4 ↦[(dstQ2 (sl k0_t2.val)).view.set]{fullShare} (gQ2 c X (E k0_t2.val) : Buf (Elt F) ((c : Thread nD τ).loc cc0_scratch4))) ∗ semVal ((c : Thread nD τ), .dma (semQ2 (sl k0_t2.val))) 0)
          -∗ flyQ3 c X (sl k0_t2.val) (E k0_t2.val) -∗ Chunks1 c X (E k0_t2.val) (sl k0_t2.val) 0 -∗ Chunks2 c X (E k0_t2.val) (sl k0_t2.val) 0
          -∗ (∃ W, owes (c : Thread nD τ) 0 W) -∗ wp frame (wpE defs 𝒱 (c : Thread nD τ) bd) Set.univ (kk ⟨v21, BitVec.ofNat 32 (E k0_t2.val).val, chk5_of (E k0_t2.val)⟩) Q)
      -∗ wp frame (wpE defs 𝒱 (c : Thread nD τ) bd) Set.univ (k0_part10 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 (BitVec.ofNat 32 n.val) hw3 0#32 1#32 k0_t2 >>= kk) Q) := by
  have hkn : k0_t2.val < n.val := lt_of_lt_of_eq k0_t2.isLt (trips2 n)
  have hk16 : k0_t2.val < 16 := by omega
  have hs : wSlot k0_t2 = (sl k0_t2.val).val := wSlot_eq ⟨k0_t2.val, hk16⟩
  have hn : wNext k0_t2 = (sl (k0_t2.val + 1)).val := wNext_eq ⟨k0_t2.val, hk16⟩
  have o18 : k0_off18 (BitVec.ofNat 32 n.val) k0_t2 = ![k0_t2.val] :=
    (show k0_off18 (BitVec.ofNat 32 n.val) k0_t2 = ![(Scf.iv (0#32 : BitVec 32) 1#32 k0_t2.val).toNat] from rfl).trans (by rw [iv16 ⟨k0_t2.val, hk16⟩])
  have cu : ∀ (f : Fin 2 → ℕ) (b : ℕ), f = ![wSlot k0_t2, b] → f = ![(sl k0_t2.val).val, b] := fun f b h => h.trans (by rw [hs])
  have nx : ∀ (f : Fin 3 → ℕ) (b : ℕ), f = ![wNext k0_t2, 0, b] → f = ![(sl (k0_t2.val + 1)).val, 0, b] := fun f b h => h.trans (by rw [hn])
  have nx2 : ∀ (f : Fin 2 → ℕ) (b : ℕ), f = ![wNext k0_t2, b] → f = ![(sl (k0_t2.val + 1)).val, b] := fun f b h => h.trans (by rw [hn])
  iintro ⟨HL, Hf, Hi, HO⟩ HQ
  rw [k0_part10_eq_skeleton]
  unfold k0_part10_skel
  iapply (load_sm c L _ o18) $$ HL
  iintro HL
  have h23 : lst L k0_t2.val = BitVec.ofNat 32 (E k0_t2.val).val := hL _ hkn
  simp only [ret_bind', h23]
  iapply (wp_assume 𝒱 (c : Thread nD τ) bd Set.univ (chk5_of (E k0_t2.val)))
  by_cases h2 : k0_cond2 (BitVec.ofNat 32 n.val) k0_t2 = 1#1
  · have hlt : k0_t2.val + 1 < n.val := (cond2_iff n k0_t2).1 h2
    have o19 : k0_off19 (BitVec.ofNat 32 n.val) k0_t2 = ![k0_t2.val + 1] :=
      (show k0_off19 (BitVec.ofNat 32 n.val) k0_t2 = ![(Scalar.addi (Scf.iv (0#32 : BitVec 32) 1#32 k0_t2.val) 1#32).toNat] from rfl).trans (by rw [iv16s ⟨k0_t2.val, hk16⟩])
    have sr : ∀ (f : Fin 3 → ℕ) (b : ℕ), f = ![(BitVec.ofNat 32 (E (k0_t2.val + 1)).val).toNat, 0, b] → f = ![(E (k0_t2.val + 1)).val, 0, b] := fun f b h => h.trans (by rw [ofE])
    have h112 : lst L (k0_t2.val + 1) = BitVec.ofNat 32 (E (k0_t2.val + 1)).val := hL _ hlt
    unfold IdleSlot FlySlot
    icases Hi with ⟨I0, I1, I2, I3, ⟨J0, J1, J2, J3⟩, K0, K1⟩
    icases Hf with ⟨F0, F1, F2, F3, HW1, HW2⟩
    simp only [dif_pos h2]
    rw [k0_part4_eq_skeleton, k0_part5_eq_skeleton]
    unfold k0_part4_skel k0_part5_skel
    iapply (load_sm c L _ o19) $$ HL
    iintro HL
    simp only [ret_bind', h112]
    iapply (wp_assume 𝒱 (c : Thread nD τ) bd Set.univ (chk4_of n k0_t2 (E (k0_t2.val + 1))))
    iapply (startQ0 c X (sl (k0_t2.val + 1)) (E (k0_t2.val + 1)) (nx (k0_off21 _ k0_t2) _ rfl) (sr (k0_off22 _) _ rfl) (nx2 (k0_off20 _ k0_t2) _ rfl)) $$ I0
    iintro I0
    iapply (startQ1 c X (sl (k0_t2.val + 1)) (E (k0_t2.val + 1)) (nx (k0_off24 _ k0_t2) _ rfl) (sr (k0_off25 _) _ rfl) (nx2 (k0_off23 _ k0_t2) _ rfl)) $$ I1
    iintro I1
    iapply (startQ2 c X (sl (k0_t2.val + 1)) (E (k0_t2.val + 1)) (nx (k0_off27 _ k0_t2) _ rfl) (sr (k0_off28 _) _ rfl) (nx2 (k0_off26 _ k0_t2) _ rfl)) $$ I2
    iintro I2
    iapply (startQ3 c X (sl (k0_t2.val + 1)) (E (k0_t2.val + 1)) (nx (k0_off30 _ k0_t2) _ rfl) (sr (k0_off31 _) _ rfl) (nx2 (k0_off29 _ k0_t2) _ rfl)) $$ I3
    iintro I3
    iapply (startW1a c X (sl (k0_t2.val + 1)) 0 (E (k0_t2.val + 1)) (nx (k0_off33 _ k0_t2) _ rfl) (sr (k0_off34 _) _ rfl) (nx2 (k0_off32 _ k0_t2) _ rfl)) $$ J0
    iintro J0
    iapply (startW1b c X (sl (k0_t2.val + 1)) 0 (E (k0_t2.val + 1)) (nx (k0_off35 _ k0_t2) _ rfl) (sr (k0_off36 _) _ rfl) (nx2 (k0_off32 _ k0_t2) _ rfl)) $$ J0
    iintro J0
    iapply (startW1a c X (sl (k0_t2.val + 1)) 1 (E (k0_t2.val + 1)) (nx (k0_off37 _ k0_t2) _ rfl) (sr (k0_off38 _) _ rfl) (nx2 (k0_off23 _ k0_t2) _ rfl)) $$ J1
    iintro J1
    iapply (startW1b c X (sl (k0_t2.val + 1)) 1 (E (k0_t2.val + 1)) (nx (k0_off39 _ k0_t2) _ rfl) (sr (k0_off40 _) _ rfl) (nx2 (k0_off23 _ k0_t2) _ rfl)) $$ J1
    iintro J1
    iapply (startW1a c X (sl (k0_t2.val + 1)) 2 (E (k0_t2.val + 1)) (nx (k0_off41 _ k0_t2) _ rfl) (sr (k0_off42 _) _ rfl) (nx2 (k0_off26 _ k0_t2) _ rfl)) $$ J2
    iintro J2
    iapply (startW1b c X (sl (k0_t2.val + 1)) 2 (E (k0_t2.val + 1)) (nx (k0_off43 _ k0_t2) _ rfl) (sr (k0_off44 _) _ rfl) (nx2 (k0_off26 _ k0_t2) _ rfl)) $$ J2
    iintro J2
    iapply (startW1a c X (sl (k0_t2.val + 1)) 3 (E (k0_t2.val + 1)) (nx (k0_off45 _ k0_t2) _ rfl) (sr (k0_off46 _) _ rfl) (nx2 (k0_off29 _ k0_t2) _ rfl)) $$ J3
    iintro J3
    iapply (startW1b c X (sl (k0_t2.val + 1)) 3 (E (k0_t2.val + 1)) (nx (k0_off47 _ k0_t2) _ rfl) (sr (k0_off48 _) _ rfl) (nx2 (k0_off29 _ k0_t2) _ rfl)) $$ J3
    iintro J3
    iapply (startW2 c X (sl (k0_t2.val + 1)) 0 (E (k0_t2.val + 1)) (nx (k0_off50 _ k0_t2) _ rfl) (sr (k0_off51 _) _ rfl) (nx2 (k0_off49 _ k0_t2) _ rfl)) $$ K0
    iintro K0
    iapply (startW2 c X (sl (k0_t2.val + 1)) 1 (E (k0_t2.val + 1)) (nx (k0_off53 _ k0_t2) _ rfl) (sr (k0_off54 _) _ rfl) (nx2 (k0_off52 _ k0_t2) _ rfl)) $$ K1
    iintro K1
    iapply (waitQ0 c X (sl k0_t2.val) (E k0_t2.val) (cu (k0_off55 _ k0_t2) _ rfl)) $$ [F0 HO]
    · iframe F0 HO
    iintro ⟨A0, D0, V0, HO⟩
    iapply (waitQ1 c X (sl k0_t2.val) (E k0_t2.val) (cu (k0_off58 _ k0_t2) _ rfl)) $$ [F1 HO]
    · iframe F1 HO
    iintro ⟨A1, D1, V1, HO⟩
    iapply (waitQ2 c X (sl k0_t2.val) (E k0_t2.val) (cu (k0_off61 _ k0_t2) _ rfl)) $$ [F2 HO]
    · iframe F2 HO
    iintro ⟨A2, D2, V2, HO⟩
    iapply HQ $$ [HL] [I0 I1 I2 I3 J0 J1 J2 J3 K0 K1] [A0 D0 V0] [A1 D1 V1] [A2 D2 V2] [F3] [HW1] [HW2] [HO]
    · iexact HL
    · unfold NextSlot
      rw [if_pos hlt]
      unfold FlySlot
      iframe I0 I1 I2 I3 J0 J1 J2 J3 K0 K1
    · iframe A0 D0 V0
    · iframe A1 D1 V1
    · iframe A2 D2 V2
    · iexact F3
    · rw [chunks1_fly]
      iexact HW1
    · rw [chunks2_fly]
      iexact HW2
    · iexact HO
  · have hlt : ¬ k0_t2.val + 1 < n.val := fun h => h2 ((cond2_iff n k0_t2).2 h)
    unfold FlySlot
    icases Hf with ⟨F0, F1, F2, F3, HW1, HW2⟩
    simp only [dif_neg h2]
    iapply (waitQ0 c X (sl k0_t2.val) (E k0_t2.val) (cu (k0_off55 _ k0_t2) _ rfl)) $$ [F0 HO]
    · iframe F0 HO
    iintro ⟨A0, D0, V0, HO⟩
    iapply (waitQ1 c X (sl k0_t2.val) (E k0_t2.val) (cu (k0_off58 _ k0_t2) _ rfl)) $$ [F1 HO]
    · iframe F1 HO
    iintro ⟨A1, D1, V1, HO⟩
    iapply (waitQ2 c X (sl k0_t2.val) (E k0_t2.val) (cu (k0_off61 _ k0_t2) _ rfl)) $$ [F2 HO]
    · iframe F2 HO
    iintro ⟨A2, D2, V2, HO⟩
    iapply HQ $$ [HL] [Hi] [A0 D0 V0] [A1 D1 V1] [A2 D2 V2] [F3] [HW1] [HW2] [HO]
    · iexact HL
    · unfold NextSlot
      rw [if_neg hlt]
      iexact Hi
    · iframe A0 D0 V0
    · iframe A1 D1 V1
    · iframe A2 D2 V2
    · iexact F3
    · rw [chunks1_fly]
      iexact HW1
    · rw [chunks2_fly]
      iexact HW2
    · iexact HO

theorem t2_body_run [Facts] (X : (b : Ref sig .tc) → Buf (Elt F) ((c : Thread nD τ).loc b)) (E : ℕ → Fin 16) (n : Fin 17) (x : Vec F S96x3072 .bf16) (cw : Vec F S16x2x96x128 .f32) (L : Vec F S17 .i32)
    (hL : ∀ k, k < n.val → lst L k = BitVec.ofNat 32 (E k).val) (hw3 : k0_chk3 (BitVec.ofNat 32 n.val)) (k0_t2 : Fin (k0_t2_loop (BitVec.ofNat 32 n.val)).trips) (acc : Vec F S96x3072 .f32)
    {Q : Unit → sProp (MT nD τ sig Unit (Elt F) ℕ (Pipeline.UD sig nD τ) ℕ)} {𝒱 : Variants} {bd : Option 𝒱.V} {defs : Defs nD τ sig (Elt F) Λ₀} :
    iprop(ExpRes c x cw L acc ∗ FlySlot c X (E k0_t2.val) (sl k0_t2.val) ∗ IdleSlot c X (sl (k0_t2.val + 1)) ∗ (∃ W, owes (c : Thread nD τ) 0 W))
    ⊢ iprop((ExpRes c x cw L (expOut c X x cw (E k0_t2.val) acc) -∗ NextSlot c X E n.val (k0_t2.val + 1) -∗ IdleSlot c X (sl k0_t2.val) -∗ (∃ W, owes (c : Thread nD τ) 0 W) -∗ Q ⟨⟩)
      -∗ wp frame (wpE defs 𝒱 (c : Thread nD τ) bd) Set.univ (k0_t2_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 (BitVec.ofNat 32 n.val) hw3 k0_t2 ⟨⟩) Q) := by
  have hkn : k0_t2.val < n.val := lt_of_lt_of_eq k0_t2.isLt (trips2 n)
  have hk16 : k0_t2.val < 16 := by omega
  have hs : wSlot k0_t2 = (sl k0_t2.val).val := wSlot_eq ⟨k0_t2.val, hk16⟩
  have cu : ∀ (f : Fin 2 → ℕ) (b : ℕ), f = ![wSlot k0_t2, b] → f = ![(sl k0_t2.val).val, b] := fun f b h => h.trans (by rw [hs])
  have cu3 : ∀ (f : Fin 3 → ℕ), f = ![wSlot k0_t2, 0, 0] → f = ![(sl k0_t2.val).val, 0, 0] := fun f h => h.trans (by rw [hs])
  have cwo : ∀ (f : Fin 4 → ℕ) (b : ℕ), f = ![(BitVec.ofNat 32 (E k0_t2.val).val).toNat, b, 0, 0] → f = ![(E k0_t2.val).val, b, 0, 0] := fun f b h => h.trans (by rw [ofE])
  unfold ExpRes
  iintro ⟨⟨Hx, Hcw, HL, ⟨%f6, H6⟩, ⟨%f7, H7⟩, ⟨%f8, H8⟩, ⟨%f9, H9⟩, ⟨%f10, H10⟩, H11⟩, Hf, Hi, HO⟩ HQ
  unfold k0_t2_body
  iapply (part10_run c X E n L hL hw3 k0_t2) $$ [HL Hf Hi HO]
  · iframe HL Hf Hi HO
  iintro %v21 HL Hnext ⟨A0, D0, V0⟩ ⟨A1, D1, V1⟩ ⟨A2, D2, V2⟩ F3 HW1 HW2 HO
  rw [k0_part11_eq_skeleton]
  unfold k0_part11_skel
  iapply (waitQ3 c X (sl k0_t2.val) (E k0_t2.val) (cu (k0_off64 _ k0_t2) _ rfl)) $$ [F3 HO]
  · iframe F3 HO
  iintro ⟨A3, D3, V3, HO⟩
  iapply (load_Q0 c X (E k0_t2.val) (sl k0_t2.val) (cu3 (k0_off67 _ k0_t2) rfl)) $$ D0
  iintro D0
  iapply (loadAll_cc0_scratch6 c rfl f6) $$ H6
  iintro H6
  iapply (storeAll_cc0_scratch6 c rfl f6 (k0_pay35 (blkQ0 c X (E k0_t2.val)))) $$ H6
  iintro H6
  iapply (load_Q2 c X (E k0_t2.val) (sl k0_t2.val) (cu3 (k0_off68 _ k0_t2) rfl)) $$ D2
  iintro D2
  iapply (loadAll_cc0_scratch8 c rfl f8) $$ H8
  iintro H8
  iapply (storeAll_cc0_scratch8 c rfl f8 (k0_pay36 (blkQ2 c X (E k0_t2.val)))) $$ H8
  iintro H8
  iapply (load_Q1 c X (E k0_t2.val) (sl k0_t2.val) (cu3 (k0_off69 _ k0_t2) rfl)) $$ D1
  iintro D1
  iapply (loadAny_cc0_scratch7 c f7) $$ H7
  iintro H7 %u7
  iapply (store_cc0_scratch7 c 0 rfl f7 (k0_pay38 (blkQ1 c X (E k0_t2.val)))) $$ H7
  iintro H7
  iapply (loadAny_cc0_scratch7 c _) $$ H7
  iintro H7 %u7'
  iapply (store_cc0_scratch7 c 2048 rfl _ (k0_pay39 (blkQ1 c X (E k0_t2.val)))) $$ H7
  iintro H7
  iapply (load_Q3 c X (E k0_t2.val) (sl k0_t2.val) (cu3 (k0_off70 _ k0_t2) rfl)) $$ D3
  iintro D3
  iapply (loadAny_cc0_scratch9 c f9) $$ H9
  iintro H9 %u9
  iapply (store_cc0_scratch9 c 0 rfl f9 (k0_pay7 (k0_pay41 (blkQ3 c X (E k0_t2.val))))) $$ H9
  iintro H9
  iapply (loadAny_cc0_scratch9 c _) $$ H9
  iintro H9 %u9'
  iapply (store_cc0_scratch9 c 1536 rfl _ (k0_pay8 (k0_pay40 (blkQ3 c X (E k0_t2.val))))) $$ H9
  iintro H9
  iapply (load_cc0_scratch12 c (E k0_t2.val) 1 (cwo (k0_off71 _) _ rfl) cw) $$ Hcw
  iintro Hcw
  rw [updC_join f7 _ _ rfl, updC_join f9 _ _ rfl]
  iapply (t3_loop_run c X (E k0_t2.val) (sl k0_t2.val) x (k0_pay35 (blkQ0 c X (E k0_t2.val))) (join2 (m := 2048) (k0_pay38 (blkQ1 c X (E k0_t2.val))) (k0_pay39 (blkQ1 c X (E k0_t2.val)))) (BitVec.ofNat 32 n.val) hw3 k0_t2 hs v21 _ _ (rowT cw (E k0_t2.val) 1) f10) $$ [H10 Hx H6 H7 HW1 HO]
  · iframe H10 Hx H6 H7 HW1 HO
  iintro H10 Hx H6 H7 HW1 HO
  iapply (load_cc0_scratch12 c (E k0_t2.val) 0 (cwo (k0_off85 _) _ rfl) cw) $$ Hcw
  iintro Hcw
  iapply (t6_loop_run c X (E k0_t2.val) (sl k0_t2.val) (hFull x (X main_arg3) (E k0_t2.val) (T16 c X (E k0_t2.val)) (T17 c X (E k0_t2.val)) (rowT cw (E k0_t2.val) 1)) (k0_pay36 (blkQ2 c X (E k0_t2.val))) (join2 (m := 1536) (k0_pay7 (k0_pay41 (blkQ3 c X (E k0_t2.val)))) (k0_pay8 (k0_pay40 (blkQ3 c X (E k0_t2.val))))) (BitVec.ofNat 32 n.val) hw3 k0_t2 hs v21 _ _ (rowT cw (E k0_t2.val) 0) acc) $$ [H11 H10 H8 H9 HW2 HO]
  · iframe H8 H9 HW2 HO
    isplitl [H11]
    · iexact H11
    iexact H10
  iintro H11 H10 H8 H9 HW2 HO
  iapply wp_ret_of
  iapply HQ $$ [Hx Hcw HL H6 H7 H8 H9 H10 H11] [Hnext] [A0 D0 V0 A1 D1 V1 A2 D2 V2 A3 D3 V3 HW1 HW2] [HO]
  · iframe Hx Hcw HL
    isplitl [H6]; · iexists _; iexact H6
    isplitl [H7]; · iexists _; iexact H7
    isplitl [H8]; · iexists _; iexact H8
    isplitl [H9]; · iexists _; iexact H9
    isplitl [H10]; · iexists _; iexact H10
    iexact H11
  · iexact Hnext
  · unfold IdleSlot
    rw [← chunks1_idle c X (E k0_t2.val) (sl k0_t2.val), ← chunks2_idle c X (E k0_t2.val) (sl k0_t2.val)]
    iframe HW1 HW2
    unfold idleQ0 idleQ1 idleQ2 idleQ3 Idle
    iframe A0 A1 A2 A3 V0 V1 V2 V3
    isplitl [D0]; · iexists _; iexact D0
    isplitl [D1]; · iexists _; iexact D1
    isplitl [D2]; · iexists _; iexact D2
    iexists _; iexact D3
  · iexact HO

/-- The accumulator after the first `k` experts of the list. -/
def expFold (X : (b : Ref sig .tc) → Buf (Elt F) ((c : Thread nD τ).loc b)) (E : ℕ → Fin 16) (x : Vec F S96x3072 .bf16) (cw : Vec F S16x2x96x128 .f32) (acc : Vec F S96x3072 .f32) : ℕ → Vec F S96x3072 .f32
  | 0 => acc
  | k + 1 => expOut c X x cw (E k) (expFold X E x cw acc k)

theorem sl_two (k : ℕ) : sl (k + 1 + 1) = sl k := Fin.ext (by show (k + 1 + 1) % 2 = k % 2; omega)

theorem t2_loop_run [Facts] (X : (b : Ref sig .tc) → Buf (Elt F) ((c : Thread nD τ).loc b)) (E : ℕ → Fin 16) (n : Fin 17) (x : Vec F S96x3072 .bf16) (cw : Vec F S16x2x96x128 .f32) (L : Vec F S17 .i32)
    (hL : ∀ k, k < n.val → lst L k = BitVec.ofNat 32 (E k).val) (hw3 : k0_chk3 (BitVec.ofNat 32 n.val)) (acc : Vec F S96x3072 .f32) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(ExpRes c x cw L acc ∗ NextSlot c X E n.val 0 ∗ IdleSlot c X (sl 1) ∗ (∃ W, owes (c : Thread nD τ) 0 W))
    ⊢ iprop((ExpRes c x cw L (expFold c X E x cw acc n.val) -∗ IdleSlot c X (sl n.val) -∗ IdleSlot c X (sl (n.val + 1)) -∗ (∃ W, owes (c : Thread nD τ) 0 W) -∗ wp frame (wpE defs 𝒱 (c : Thread nD τ) bd) Set.univ (kk ⟨⟩) Q)
      -∗ wp frame (wpE defs 𝒱 (c : Thread nD τ) bd) Set.univ (Scf.Loop.for (k0_t2_loop (BitVec.ofNat 32 n.val)) (k0_t2_ok (BitVec.ofNat 32 n.val) hw3) ⟨⟩ (k0_t2_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 (BitVec.ofNat 32 n.val) hw3) >>= kk) Q) := by
  iintro ⟨HR, HN, HI, HO⟩ HQ
  iapply (Scf.wp_for_bind frame (wpE defs 𝒱 (c : Thread nD τ) bd) Set.univ (k0_t2_loop (BitVec.ofNat 32 n.val)).lb (k0_t2_loop (BitVec.ofNat 32 n.val)).ub (k0_t2_loop (BitVec.ofNat 32 n.val)).st (k0_t2_ok (BitVec.ofNat 32 n.val) hw3) ⟨⟩ (k0_t2_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 (BitVec.ofNat 32 n.val) hw3)
    (fun k _ => iprop(ExpRes c x cw L (expFold c X E x cw acc k) ∗ NextSlot c X E n.val k ∗ IdleSlot c X (sl (k + 1)) ∗ (∃ W, owes (c : Thread nD τ) 0 W))) ?hb) $$ [HR HN HI HO]
  case hb =>
    intro k _
    have hkn : k.val < n.val := lt_of_lt_of_eq k.isLt (trips2 n)
    rw [show NextSlot c X E n.val k.val = FlySlot c X (E k.val) (sl k.val) from if_pos hkn, sl_two]
    iintro ⟨HR, HN, HI, HO⟩
    iapply (t2_body_run c X E n x cw L hL hw3 k _) $$ [HR HN HI HO]
    · iframe HR HN HI HO
    iintro HR HN HI HO
    iframe HN HI HO
    iexact HR
  · iframe HR HN HI HO
  · rw [show Scf.trips (k0_t2_loop (BitVec.ofNat 32 n.val)).lb (k0_t2_loop (BitVec.ofNat 32 n.val)).ub (k0_t2_loop (BitVec.ofNat 32 n.val)).st = n.val from trips2 n,
      show NextSlot c X E n.val n.val = IdleSlot c X (sl n.val) from if_neg (lt_irrefl _)]
    iintro %a ⟨HR, HN, HI, HO⟩
    iapply HQ $$ [HR] [HN] [HI] [HO]
    · iexact HR
    · iexact HN
    · iexact HI
    · iexact HO

end Cert.Kernel.Hand

end
-- ==== Proof.BitsScan.lean ====
/-
  The routing scan: for every expert its combine weights and its hit marks are written to a table, and the experts some
  token chose are listed in order.
-/
module

public import proofs.«01_k».proof.Proof.BitsExpert

@[expose] public section

noncomputable section

namespace Cert.Kernel.Hand

open Cert.Kernel Cert.Kernel.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

/-- Some token chose expert `e`. -/
def Active (v0 : Vec F S96x8 .i32) (e : Fin 16) : Prop := Scalar.cmpf .ogt (k0_pay5 (F := F) v0 e) (Scalar.ofBits .f32 0x00000000#32) = 1#1

instance (v0 : Vec F S96x8 .i32) (e : Fin 16) : Decidable (Active (F := F) v0 e) := by unfold Active; infer_instance

/-- The active experts among the first `k`, in order. -/
def act (v0 : Vec F S96x8 .i32) : ℕ → List (Fin 16)
  | 0 => []
  | k + 1 => if h : k < 16 then (if Active (F := F) v0 ⟨k, h⟩ then act v0 k ++ [⟨k, h⟩] else act v0 k) else act v0 k

theorem act_length (v0 : Vec F S96x8 .i32) (k : ℕ) : (act (F := F) v0 k).length ≤ k := by
  induction k with
  | zero => exact le_refl _
  | succ k ih =>
    unfold act
    split
    · split
      · rw [List.length_append]; exact Nat.succ_le_succ ih
      · omega
    · omega

/-- The two tables of the scan: the combine weights and the hit counts of each expert. -/
def cwAll (v0 : Vec F S96x8 .i32) (v2 : Vec F S96x8 .f32) : Vec F S16x2x96x128 .f32 :=
  fun i => if (i 1).val = 0 then k0_pay3 v0 v2 (i 0) (ix4 0 0 (i 2) (i 3)) else k0_pay4 v0 (i 0) (ix4 0 0 (i 2) (i 3))

theorem ix4_eta (y : (⟨4, ![1, 1, 96, 128]⟩ : Shape).Idx) : (ix4 0 0 (y 2) (y 3) : (⟨4, ![1, 1, 96, 128]⟩ : Shape).Idx) = y := by
  funext a
  refine Fin.ext ?_
  have h0 : (y 0).val < 1 := (y 0).isLt
  have h1 : (y 1).val < 1 := (y 1).isLt
  fin_cases a
  · show 0 = (y 0).val; omega
  · show 0 = (y 1).val; omega
  · rfl
  · rfl

theorem cwAll_zero (v0 : Vec F S96x8 .i32) (v2 : Vec F S96x8 .f32) (e : Fin 16) : rowT (cwAll v0 v2) e 0 = k0_pay3 v0 v2 e := by
  funext y
  exact congrArg (k0_pay3 v0 v2 e) (ix4_eta y)

theorem cwAll_one (v0 : Vec F S96x8 .i32) (v2 : Vec F S96x8 .f32) (e : Fin 16) : rowT (cwAll v0 v2) e 1 = k0_pay4 v0 e := by
  funext y
  exact congrArg (k0_pay4 v0 e) (ix4_eta y)

theorem cwAll_eq (v0 : Vec F S96x8 .i32) (v2 : Vec F S96x8 .f32) (f : Vec F S16x2x96x128 .f32)
    (h : ∀ e : Fin 16, rowT f e 0 = k0_pay3 v0 v2 e ∧ rowT f e 1 = k0_pay4 v0 e) : f = cwAll v0 v2 := by
  funext i
  have hb : (i 1).val < 2 := (i 1).isLt
  have hi : ∀ b : Fin 2, (i 1).val = b.val → f i = rowT f (i 0) b (ix4 0 0 (i 2) (i 3)) := by
    intro b hb
    refine congrArg f (funext fun a => ?_)
    fin_cases a
    · rfl
    · exact Fin.ext hb
    · rfl
    · rfl
  unfold cwAll
  split
  · rename_i h0
    rw [hi 0 h0, (h (i 0)).1]
  · rename_i h0
    rw [hi 1 (by show (i 1).val = 1; omega), (h (i 0)).2]

theorem rowT_updT {β : Type} (f : (⟨4, ![16, 2, 96, 128]⟩ : Shape).Idx → β) (e : Fin 16) (b : Fin 2) (e' b' : ℕ) (w : (⟨4, ![1, 1, 96, 128]⟩ : Shape).Idx → β) :
    rowT (updT f e' b' w) e b = if e.val = e' ∧ b.val = b' then w else rowT f e b := by
  funext y
  unfold rowT updT
  show (if e.val = e' ∧ b.val = b' then w (ix4 0 0 (y 2) (y 3)) else f (ix4 e b (y 2) (y 3))) = _
  split
  · exact congrArg w (ix4_eta y)
  · rfl

/-- The list with the word at place `k` overwritten. -/
def updL (L : Vec F S17 .i32) (k : ℕ) (w : BitVec 32) : Vec F S17 .i32 := fun i => if (i 0).val = k then w else L i

theorem lst_updL (L : Vec F S17 .i32) (k : ℕ) (w : BitVec 32) (j : ℕ) (hj : j < 17) : lst (F := F) (updL L k w) j = if j = k then w else lst (F := F) L j := by
  unfold lst updL
  refine if_congr ?_ rfl rfl
  show j % 17 = k ↔ j = k
  rw [Nat.mod_eq_of_lt hj]

theorem store_sm (L : Vec F S17 .i32) (k' : ℕ) (w : BitVec 32) {off : Fin 1 → ℕ} (ho : off = ![k']) {inb : ∀ a, off a + S1.size a ≤ S17.size a} {hx hm} {α : Type}
    {k : PUnit → Prog (TpuEff nD τ sig (Elt F) Λ .tc) α} {Q : α → sProp (MT nD τ sig Unit (Elt F) ℕ (Pipeline.UD sig nD τ) ℕ)} :
    ((c : Thread nD τ).loc cc0_scratch13 ↦{fullShare} (L : Buf (Elt F) ((c : Thread nD τ).loc cc0_scratch13))) ⊢ iprop((((c : Thread nD τ).loc cc0_scratch13 ↦{fullShare} ((updL L k' w : Vec F S17 .i32) : Buf (Elt F) ((c : Thread nD τ).loc cc0_scratch13))) -∗ wp frame (wpE defs 𝒱 (c : Thread nD τ) bd) Set.univ (k ⟨⟩) Q)
      -∗ wp frame (wpE defs 𝒱 (c : Thread nD τ) bd) Set.univ (.op (.store (Memref.whole cc0_scratch13) (Rect.unit (s := S17) off S1.size inb) (fun _ => w) Finset.univ hx hm) k) Q) := by
  subst ho
  refine storeAt (F := F) c (m := Memref.whole cc0_scratch13) (r := Rect.unit (s := S17) ![k'] S1.size inb) (w := fun _ => w) (f := (L : Buf (Elt F) ((c : Thread nD τ).loc cc0_scratch13))) (updL L k' w : Vec F S17 .i32) ?_
  funext i
  unfold updL
  split
  · rename_i h
    have he : (Rect.unit (s := S17) ![k'] S1.size inb).emb (ix1 0) = i := by
      refine funext fun a => Fin.ext ?_
      fin_cases a
      show k' + 1 * 0 = (i 0).val; omega
    exact (congrArg (((Memref.whole cc0_scratch13).access (Rect.unit (s := S17) ![k'] S1.size inb)).write (Elt F) L (fun _ => w) Finset.univ) he.symm).trans
      (View.write_emb_of_mem (v := (Memref.whole cc0_scratch13).access (Rect.unit (s := S17) ![k'] S1.size inb)) L (fun _ => w) (Finset.mem_univ _))
  · rename_i h
    refine View.write_of_not_mem (v := (Memref.whole cc0_scratch13).access (Rect.unit (s := S17) ![k'] S1.size inb)) L (fun _ => w) Finset.univ (i := i) fun hm => h ?_
    obtain ⟨x, -, rfl⟩ := Finset.mem_map.mp hm
    have h0 : (x 0).val < 1 := (x 0).isLt
    show k' + 1 * (x 0).val = k'
    omega

theorem off1_eq (k : Fin 16) : k0_off1 k = ![k.val, 0, 0, 0] :=
  (show k0_off1 k = ![(Scf.iv (0#32 : BitVec 32) 1#32 k.val).toNat, 0, 0, 0] from rfl).trans (by rw [iv16 k])
theorem off2_eq (k : Fin 16) : k0_off2 k = ![k.val, 1, 0, 0] :=
  (show k0_off2 k = ![(Scf.iv (0#32 : BitVec 32) 1#32 k.val).toNat, 1, 0, 0] from rfl).trans (by rw [iv16 k])
theorem off3_eq : ∀ m : Fin 16, k0_off3 (BitVec.ofNat 32 m.val) = ![m.val] := by decide +kernel
theorem iv_ofNat : ∀ k : Fin 16, Scf.iv (0#32 : BitVec 32) 1#32 k.val = BitVec.ofNat 32 k.val := by decide +kernel
theorem next_one : ∀ m : Fin 16, Scalar.addi (BitVec.ofNat 32 m.val) (Scalar.extui (1#1 : BitVec 1)) = BitVec.ofNat 32 (m.val + 1) := by decide +kernel
theorem next_zero : ∀ m : Fin 16, Scalar.addi (BitVec.ofNat 32 m.val) (Scalar.extui (0#1 : BitVec 1)) = BitVec.ofNat 32 m.val := by decide +kernel

/-- What the scan has established after `k` experts. -/
def ScanOk (v0 : Vec F S96x8 .i32) (v2 : Vec F S96x8 .f32) (k : ℕ) (f : Vec F S16x2x96x128 .f32) (L : Vec F S17 .i32) (a : BitVec 32) : Prop :=
  (∀ e : Fin 16, e.val < k → rowT f e 0 = k0_pay3 v0 v2 e ∧ rowT f e 1 = k0_pay4 v0 e)
  ∧ (∀ j, j < (act (F := F) v0 k).length → lst (F := F) L j = BitVec.ofNat 32 ((act (F := F) v0 k).getD j 0).val)
  ∧ a = BitVec.ofNat 32 (act (F := F) v0 k).length

theorem scan_step (v0 : Vec F S96x8 .i32) (v2 : Vec F S96x8 .f32) (k : Fin 16) (f : Vec F S16x2x96x128 .f32) (L : Vec F S17 .i32) (m : ℕ)
    (hm : (act (F := F) v0 k.val).length = m) (h : ScanOk v0 v2 k.val f L (BitVec.ofNat 32 m)) :
    ScanOk v0 v2 (k.val + 1) (updT (updT f k.val 0 (k0_pay3 v0 v2 k)) k.val 1 (k0_pay4 v0 k)) (updL L m (Scf.iv 0#32 1#32 k.val))
      (Scalar.addi (BitVec.ofNat 32 m) (Scalar.extui (Scalar.cmpf .ogt (k0_pay5 (F := F) v0 k) (Scalar.ofBits .f32 0x00000000#32)))) := by
  obtain ⟨h1, h2, h3⟩ := h
  have hmk : m ≤ k.val := hm ▸ act_length v0 k.val
  have hk := k.isLt
  refine ⟨fun e he => ?_, ?_⟩
  · rw [rowT_updT, rowT_updT, rowT_updT, rowT_updT]
    by_cases hek : e.val = k.val
    · have : e = k := Fin.ext hek
      subst this
      constructor
      · rw [if_neg (by rintro ⟨-, h⟩; exact absurd h (by decide)), if_pos ⟨rfl, rfl⟩]
      · rw [if_pos ⟨rfl, rfl⟩]
    · rw [if_neg (fun h => hek h.1), if_neg (fun h => hek h.1), if_neg (fun h => hek h.1), if_neg (fun h => hek h.1)]
      exact h1 e (by omega)
  · have hact : act (F := F) v0 (k.val + 1) = if Active (F := F) v0 k then act (F := F) v0 k.val ++ [k] else act (F := F) v0 k.val := by
      conv_lhs => unfold act
      rw [dif_pos hk]
    rw [hact]
    by_cases ha : Active (F := F) v0 k
    · rw [if_pos ha, show Scalar.cmpf .ogt (k0_pay5 (F := F) v0 k) (Scalar.ofBits .f32 0x00000000#32) = 1#1 from ha, List.length_append, hm]
      refine ⟨fun j hj => ?_, next_one ⟨m, by omega⟩⟩
      have hj' : j < m + 1 := hj
      rw [lst_updL _ _ _ _ (by omega)]
      by_cases hjm : j = m
      · rw [if_pos hjm, iv_ofNat k, List.getD_eq_getElem?_getD, List.getElem?_append_right (by omega), hm, hjm, Nat.sub_self]
        rfl
      · rw [if_neg hjm, h2 j (by omega), List.getD_eq_getElem?_getD, List.getD_eq_getElem?_getD, List.getElem?_append_left (by omega)]
    · have h0 : Scalar.cmpf .ogt (k0_pay5 (F := F) v0 k) (Scalar.ofBits .f32 0x00000000#32) = 0#1 := by
        have hb : ∀ b : BitVec 1, b ≠ 1#1 → b = 0#1 := by decide
        exact hb _ ha
      rw [if_neg ha, h0, hm]
      refine ⟨fun j hj => ?_, next_zero ⟨m, by omega⟩⟩
      rw [lst_updL _ _ _ _ (by omega), if_neg (by omega)]
      exact h2 j (by omega)

theorem t1_loop_run [Facts] (v0 : Vec F S96x8 .i32) (v2 : Vec F S96x8 .f32) (f0 : Vec F S16x2x96x128 .f32) (L0 : Vec F S17 .i32) {β : Type}
    {kk : BitVec 32 → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch12 ↦{fullShare} (f0 : Buf (Elt F) ((c : Thread nD τ).loc cc0_scratch12))) ∗ ((c : Thread nD τ).loc cc0_scratch13 ↦{fullShare} (L0 : Buf (Elt F) ((c : Thread nD τ).loc cc0_scratch13))))
    ⊢ iprop((∀ L : Vec F S17 .i32, ⌜∀ j, j < (act (F := F) v0 16).length → lst (F := F) L j = BitVec.ofNat 32 ((act (F := F) v0 16).getD j 0).val⌝ -∗ ((c : Thread nD τ).loc cc0_scratch12 ↦{fullShare} ((cwAll v0 v2 : Vec F S16x2x96x128 .f32) : Buf (Elt F) ((c : Thread nD τ).loc cc0_scratch12))) -∗ ((c : Thread nD τ).loc cc0_scratch13 ↦{fullShare} (L : Buf (Elt F) ((c : Thread nD τ).loc cc0_scratch13))) -∗ wp frame (wpE defs 𝒱 (c : Thread nD τ) bd) Set.univ (kk (BitVec.ofNat 32 (act (F := F) v0 16).length)) Q)
      -∗ wp frame (wpE defs 𝒱 (c : Thread nD τ) bd) Set.univ (Scf.Loop.for k0_t1_loop k0_t1_ok 0#32 (k0_t1_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v0 v2) >>= kk) Q) := by
  iintro ⟨Hf, HL⟩ HQ
  iapply (Scf.wp_for_bind frame (wpE defs 𝒱 (c : Thread nD τ) bd) Set.univ k0_t1_loop.lb k0_t1_loop.ub k0_t1_loop.st k0_t1_ok 0#32 (k0_t1_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v0 v2)
    (fun k a => iprop(∃ (f : Vec F S16x2x96x128 .f32) (L : Vec F S17 .i32), ((c : Thread nD τ).loc cc0_scratch12 ↦{fullShare} (f : Buf (Elt F) ((c : Thread nD τ).loc cc0_scratch12))) ∗ ((c : Thread nD τ).loc cc0_scratch13 ↦{fullShare} (L : Buf (Elt F) ((c : Thread nD τ).loc cc0_scratch13))) ∗ ⌜ScanOk v0 v2 k f L a⌝)) ?hb) $$ [Hf HL]
  case hb =>
    intro k a
    iintro ⟨%f, %L, Hf, HL, %hok⟩
    have hmk : (act (F := F) v0 k.val).length ≤ k.val := act_length v0 k.val
    have hk16 : k.val < 16 := k.isLt
    obtain ⟨m, hm⟩ : ∃ m, (act (F := F) v0 k.val).length = m := ⟨_, rfl⟩
    have ha : a = BitVec.ofNat 32 m := hm ▸ hok.2.2
    subst ha
    unfold k0_t1_body
    iapply (wp_assume 𝒱 (c : Thread nD τ) bd Set.univ (chk1_of ⟨m, by omega⟩))
    iapply (load_cc0_scratch12 c k 0 (off1_eq k) f) $$ Hf
    iintro Hf
    iapply (store_cc0_scratch12 c k.val 0 (off1_eq k) f (k0_pay3 v0 v2 k)) $$ Hf
    iintro Hf
    iapply (load_cc0_scratch12 c k 1 (off2_eq k) _) $$ Hf
    iintro Hf
    iapply (store_cc0_scratch12 c k.val 1 (off2_eq k) _ (k0_pay4 v0 k)) $$ Hf
    iintro Hf
    iapply (load_sm c L m (off3_eq ⟨m, by omega⟩)) $$ HL
    iintro HL
    iapply (store_sm c L m (Scf.iv 0#32 1#32 k.val) (off3_eq ⟨m, by omega⟩)) $$ HL
    iintro HL
    iapply wp_ret_of
    iexists _
    iexists _
    isplitl [Hf]; · iexact Hf
    isplitl [HL]; · iexact HL
    ipureintro
    exact scan_step v0 v2 k f L m hm hok
  · iexists f0
    iexists L0
    isplitl [Hf]; · iexact Hf
    isplitl [HL]; · iexact HL
    ipureintro
    exact ⟨fun e he => absurd he (Nat.not_lt_zero _), fun j hj => absurd hj (Nat.not_lt_zero _), rfl⟩
  · rw [show Scf.trips k0_t1_loop.lb k0_t1_loop.ub k0_t1_loop.st = 16 from by decide]
    iintro %a ⟨%f, %L, Hf, HL, %hok⟩
    have ha := hok.2.2
    subst ha
    have hf := cwAll_eq v0 v2 f fun e => hok.1 e e.isLt
    subst hf
    iapply HQ $$ %L [] [Hf] [HL]
    · ipureintro
      exact hok.2.1
    · iexact Hf
    · iexact HL

end Cert.Kernel.Hand

end
-- ==== Proof.BitsDeal.lean ====
/-
  The weight arrays and the ring buffers, held whole, are dealt out to the two slots, and gathered again.
-/
module

public import Idealize.ShloMosaic.Lib.Ring
public import proofs.«01_k».proof.Proof.BitsExpert

@[expose] public section

noncomputable section

namespace Cert.Kernel.Hand

open Cert.Kernel Cert.Kernel.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

theorem ent_of_eq {P Q : sProp (MT nD τ sig Unit (Elt F) ℕ (Pipeline.UD sig nD τ) ℕ)} (h : P = Q) : P ⊢ Q := by
  rw [h]

theorem mem_dstQ0 (s : Fin 2) (i : S2x24x4096.Idx) : i ∈ (dstQ0 s).view.set ↔ s.val = (i 0).val := by
  have hd : (dstQ0 s).view.set = (Rect.unit (s := S2x24x4096) ![s.val, 0, 0] S1x24x4096.size (inbQ0d s)).set := by
    show (((View.whole cc0_scratch2).slice _).reshape _ _).set = _
    rw [View.set_reshape]
    exact View.set_slice_whole (b := cc0_scratch2) _
  rw [hd]
  refine Rect.mem_set_unit.trans ⟨fun h => ?_, fun h a => ?_⟩
  · have h0 := h 0
    change s.val ≤ (i 0).val ∧ (i 0).val < s.val + 1 at h0
    omega
  · have h1 : (i 1).val < 24 := (i 1).isLt
    have h2 : (i 2).val < 4096 := (i 2).isLt
    fin_cases a
    · show s.val ≤ (i 0).val ∧ (i 0).val < s.val + 1; omega
    · show 0 ≤ (i 1).val ∧ (i 1).val < 0 + 24; omega
    · show 0 ≤ (i 2).val ∧ (i 2).val < 0 + 4096; omega

theorem disj_dstQ0 (s s' : Fin 2) (h : s ≠ s') : Disjoint (dstQ0 s).view.set (dstQ0 s').view.set :=
  Finset.disjoint_left.mpr fun i hi hi' => h (Fin.ext (((mem_dstQ0 s i).1 hi).trans ((mem_dstQ0 s' i).1 hi').symm))

theorem cover_dstQ0 : @Finset.biUnion (Fin 2) S2x24x4096.Idx _ Finset.univ (fun s => (dstQ0 s).view.set) = Finset.univ := by
  ext i
  simp only [Finset.mem_biUnion, Finset.mem_univ, true_and, iff_true]
  exact ⟨i 0, (mem_dstQ0 (i 0) i).2 rfl⟩

theorem dealQ0 (X : (b : Ref sig .tc) → Buf (Elt F) ((c : Thread nD τ).loc b)) :
    iprop((∃ f : Buf (Elt F) ((c : Thread nD τ).loc cc0_scratch2), ((c : Thread nD τ).loc cc0_scratch2 ↦{fullShare} f)) ∗ ((c : Thread nD τ).loc main_arg4 ↦{fullShare} X main_arg4) ∗ semVal ((c : Thread nD τ), .dma (semQ0 0)) 0 ∗ semVal ((c : Thread nD τ), .dma (semQ0 1)) 0) ⊢ (iprop(idleQ0 c X 0 ∗ idleQ0 c X 1) : sProp (MT nD τ sig Unit (Elt F) ℕ (Pipeline.UD sig nD τ) ℕ)) := by
  rw [pointsTo_halves (ℓ := (c : Thread nD τ).loc main_arg4) fullShare]
  iintro ⟨⟨%f, Hr⟩, ⟨Ha0, Ha1⟩, V0, V1⟩
  ihave Hr' := ((ent_of_eq ((Ring.pointsTo_blocks (ℓ := (c : Thread nD τ).loc cc0_scratch2) (fun s : Fin 2 => ((dstQ0 s).view.set : Finset (Idx ((c : Thread nD τ).loc cc0_scratch2)))) disj_dstQ0 cover_dstQ0 (q := fullShare) f).trans (BI.bigSep_univ_two _)))) $$ Hr
  icases Hr' with ⟨D0, D1⟩
  unfold idleQ0 Idle
  iframe Ha0 Ha1 V0 V1
  isplitl [D0]
  · iexists _; iexact D0
  · iexists _; iexact D1

theorem gatherQ0 (X : (b : Ref sig .tc) → Buf (Elt F) ((c : Thread nD τ).loc b)) :
    (iprop(idleQ0 c X 0 ∗ idleQ0 c X 1) : sProp (MT nD τ sig Unit (Elt F) ℕ (Pipeline.UD sig nD τ) ℕ)) ⊢ iprop((∃ f : Buf (Elt F) ((c : Thread nD τ).loc cc0_scratch2), ((c : Thread nD τ).loc cc0_scratch2 ↦{fullShare} f)) ∗ ((c : Thread nD τ).loc main_arg4 ↦{fullShare} X main_arg4) ∗ semVal ((c : Thread nD τ), .dma (semQ0 0)) 0 ∗ semVal ((c : Thread nD τ), .dma (semQ0 1)) 0) := by
  rw [pointsTo_halves (ℓ := (c : Thread nD τ).loc main_arg4) fullShare]
  unfold idleQ0 Idle
  iintro ⟨⟨Ha0, ⟨%f0, D0⟩, V0⟩, ⟨Ha1, ⟨%f1, D1⟩, V1⟩⟩
  iframe V0 V1
  isplitl [D0 D1]
  · iapply (Ring.pointsTo_blocks_join_exists (ℓ := (c : Thread nD τ).loc cc0_scratch2) (fun s : Fin 2 => ((dstQ0 s).view.set : Finset (Idx ((c : Thread nD τ).loc cc0_scratch2)))) disj_dstQ0 cover_dstQ0 (q := fullShare) f0)
    rw [BI.bigSep_univ_two]
    isplitl [D0]
    · iexists _; iexact D0
    · iexists _; iexact D1
  · isplitl [Ha0]
    · iexact Ha0
    · iexact Ha1

theorem mem_dstQ1 (s : Fin 2) (i : S2x24x2048.Idx) : i ∈ (dstQ1 s).view.set ↔ s.val = (i 0).val := by
  have hd : (dstQ1 s).view.set = (Rect.unit (s := S2x24x2048) ![s.val, 0, 0] S1x24x2048.size (inbQ1d s)).set := by
    show (((View.whole cc0_scratch3).slice _).reshape _ _).set = _
    rw [View.set_reshape]
    exact View.set_slice_whole (b := cc0_scratch3) _
  rw [hd]
  refine Rect.mem_set_unit.trans ⟨fun h => ?_, fun h a => ?_⟩
  · have h0 := h 0
    change s.val ≤ (i 0).val ∧ (i 0).val < s.val + 1 at h0
    omega
  · have h1 : (i 1).val < 24 := (i 1).isLt
    have h2 : (i 2).val < 2048 := (i 2).isLt
    fin_cases a
    · show s.val ≤ (i 0).val ∧ (i 0).val < s.val + 1; omega
    · show 0 ≤ (i 1).val ∧ (i 1).val < 0 + 24; omega
    · show 0 ≤ (i 2).val ∧ (i 2).val < 0 + 2048; omega

theorem disj_dstQ1 (s s' : Fin 2) (h : s ≠ s') : Disjoint (dstQ1 s).view.set (dstQ1 s').view.set :=
  Finset.disjoint_left.mpr fun i hi hi' => h (Fin.ext (((mem_dstQ1 s i).1 hi).trans ((mem_dstQ1 s' i).1 hi').symm))

theorem cover_dstQ1 : @Finset.biUnion (Fin 2) S2x24x2048.Idx _ Finset.univ (fun s => (dstQ1 s).view.set) = Finset.univ := by
  ext i
  simp only [Finset.mem_biUnion, Finset.mem_univ, true_and, iff_true]
  exact ⟨i 0, (mem_dstQ1 (i 0) i).2 rfl⟩

theorem dealQ1 (X : (b : Ref sig .tc) → Buf (Elt F) ((c : Thread nD τ).loc b)) :
    iprop((∃ f : Buf (Elt F) ((c : Thread nD τ).loc cc0_scratch3), ((c : Thread nD τ).loc cc0_scratch3 ↦{fullShare} f)) ∗ ((c : Thread nD τ).loc main_arg5 ↦{fullShare} X main_arg5) ∗ semVal ((c : Thread nD τ), .dma (semQ1 0)) 0 ∗ semVal ((c : Thread nD τ), .dma (semQ1 1)) 0) ⊢ (iprop(idleQ1 c X 0 ∗ idleQ1 c X 1) : sProp (MT nD τ sig Unit (Elt F) ℕ (Pipeline.UD sig nD τ) ℕ)) := by
  rw [pointsTo_halves (ℓ := (c : Thread nD τ).loc main_arg5) fullShare]
  iintro ⟨⟨%f, Hr⟩, ⟨Ha0, Ha1⟩, V0, V1⟩
  ihave Hr' := ((ent_of_eq ((Ring.pointsTo_blocks (ℓ := (c : Thread nD τ).loc cc0_scratch3) (fun s : Fin 2 => ((dstQ1 s).view.set : Finset (Idx ((c : Thread nD τ).loc cc0_scratch3)))) disj_dstQ1 cover_dstQ1 (q := fullShare) f).trans (BI.bigSep_univ_two _)))) $$ Hr
  icases Hr' with ⟨D0, D1⟩
  unfold idleQ1 Idle
  iframe Ha0 Ha1 V0 V1
  isplitl [D0]
  · iexists _; iexact D0
  · iexists _; iexact D1

theorem gatherQ1 (X : (b : Ref sig .tc) → Buf (Elt F) ((c : Thread nD τ).loc b)) :
    (iprop(idleQ1 c X 0 ∗ idleQ1 c X 1) : sProp (MT nD τ sig Unit (Elt F) ℕ (Pipeline.UD sig nD τ) ℕ)) ⊢ iprop((∃ f : Buf (Elt F) ((c : Thread nD τ).loc cc0_scratch3), ((c : Thread nD τ).loc cc0_scratch3 ↦{fullShare} f)) ∗ ((c : Thread nD τ).loc main_arg5 ↦{fullShare} X main_arg5) ∗ semVal ((c : Thread nD τ), .dma (semQ1 0)) 0 ∗ semVal ((c : Thread nD τ), .dma (semQ1 1)) 0) := by
  rw [pointsTo_halves (ℓ := (c : Thread nD τ).loc main_arg5) fullShare]
  unfold idleQ1 Idle
  iintro ⟨⟨Ha0, ⟨%f0, D0⟩, V0⟩, ⟨Ha1, ⟨%f1, D1⟩, V1⟩⟩
  iframe V0 V1
  isplitl [D0 D1]
  · iapply (Ring.pointsTo_blocks_join_exists (ℓ := (c : Thread nD τ).loc cc0_scratch3) (fun s : Fin 2 => ((dstQ1 s).view.set : Finset (Idx ((c : Thread nD τ).loc cc0_scratch3)))) disj_dstQ1 cover_dstQ1 (q := fullShare) f0)
    rw [BI.bigSep_univ_two]
    isplitl [D0]
    · iexists _; iexact D0
    · iexists _; iexact D1
  · isplitl [Ha0]
    · iexact Ha0
    · iexact Ha1

theorem mem_dstQ2 (s : Fin 2) (i : S2x16x3072.Idx) : i ∈ (dstQ2 s).view.set ↔ s.val = (i 0).val := by
  have hd : (dstQ2 s).view.set = (Rect.unit (s := S2x16x3072) ![s.val, 0, 0] S1x16x3072.size (inbQ2d s)).set := by
    show (((View.whole cc0_scratch4).slice _).reshape _ _).set = _
    rw [View.set_reshape]
    exact View.set_slice_whole (b := cc0_scratch4) _
  rw [hd]
  refine Rect.mem_set_unit.trans ⟨fun h => ?_, fun h a => ?_⟩
  · have h0 := h 0
    change s.val ≤ (i 0).val ∧ (i 0).val < s.val + 1 at h0
    omega
  · have h1 : (i 1).val < 16 := (i 1).isLt
    have h2 : (i 2).val < 3072 := (i 2).isLt
    fin_cases a
    · show s.val ≤ (i 0).val ∧ (i 0).val < s.val + 1; omega
    · show 0 ≤ (i 1).val ∧ (i 1).val < 0 + 16; omega
    · show 0 ≤ (i 2).val ∧ (i 2).val < 0 + 3072; omega

theorem disj_dstQ2 (s s' : Fin 2) (h : s ≠ s') : Disjoint (dstQ2 s).view.set (dstQ2 s').view.set :=
  Finset.disjoint_left.mpr fun i hi hi' => h (Fin.ext (((mem_dstQ2 s i).1 hi).trans ((mem_dstQ2 s' i).1 hi').symm))

theorem cover_dstQ2 : @Finset.biUnion (Fin 2) S2x16x3072.Idx _ Finset.univ (fun s => (dstQ2 s).view.set) = Finset.univ := by
  ext i
  simp only [Finset.mem_biUnion, Finset.mem_univ, true_and, iff_true]
  exact ⟨i 0, (mem_dstQ2 (i 0) i).2 rfl⟩

theorem dealQ2 (X : (b : Ref sig .tc) → Buf (Elt F) ((c : Thread nD τ).loc b)) :
    iprop((∃ f : Buf (Elt F) ((c : Thread nD τ).loc cc0_scratch4), ((c : Thread nD τ).loc cc0_scratch4 ↦{fullShare} f)) ∗ ((c : Thread nD τ).loc main_arg7 ↦{fullShare} X main_arg7) ∗ semVal ((c : Thread nD τ), .dma (semQ2 0)) 0 ∗ semVal ((c : Thread nD τ), .dma (semQ2 1)) 0) ⊢ (iprop(idleQ2 c X 0 ∗ idleQ2 c X 1) : sProp (MT nD τ sig Unit (Elt F) ℕ (Pipeline.UD sig nD τ) ℕ)) := by
  rw [pointsTo_halves (ℓ := (c : Thread nD τ).loc main_arg7) fullShare]
  iintro ⟨⟨%f, Hr⟩, ⟨Ha0, Ha1⟩, V0, V1⟩
  ihave Hr' := ((ent_of_eq ((Ring.pointsTo_blocks (ℓ := (c : Thread nD τ).loc cc0_scratch4) (fun s : Fin 2 => ((dstQ2 s).view.set : Finset (Idx ((c : Thread nD τ).loc cc0_scratch4)))) disj_dstQ2 cover_dstQ2 (q := fullShare) f).trans (BI.bigSep_univ_two _)))) $$ Hr
  icases Hr' with ⟨D0, D1⟩
  unfold idleQ2 Idle
  iframe Ha0 Ha1 V0 V1
  isplitl [D0]
  · iexists _; iexact D0
  · iexists _; iexact D1

theorem gatherQ2 (X : (b : Ref sig .tc) → Buf (Elt F) ((c : Thread nD τ).loc b)) :
    (iprop(idleQ2 c X 0 ∗ idleQ2 c X 1) : sProp (MT nD τ sig Unit (Elt F) ℕ (Pipeline.UD sig nD τ) ℕ)) ⊢ iprop((∃ f : Buf (Elt F) ((c : Thread nD τ).loc cc0_scratch4), ((c : Thread nD τ).loc cc0_scratch4 ↦{fullShare} f)) ∗ ((c : Thread nD τ).loc main_arg7 ↦{fullShare} X main_arg7) ∗ semVal ((c : Thread nD τ), .dma (semQ2 0)) 0 ∗ semVal ((c : Thread nD τ), .dma (semQ2 1)) 0) := by
  rw [pointsTo_halves (ℓ := (c : Thread nD τ).loc main_arg7) fullShare]
  unfold idleQ2 Idle
  iintro ⟨⟨Ha0, ⟨%f0, D0⟩, V0⟩, ⟨Ha1, ⟨%f1, D1⟩, V1⟩⟩
  iframe V0 V1
  isplitl [D0 D1]
  · iapply (Ring.pointsTo_blocks_join_exists (ℓ := (c : Thread nD τ).loc cc0_scratch4) (fun s : Fin 2 => ((dstQ2 s).view.set : Finset (Idx ((c : Thread nD τ).loc cc0_scratch4)))) disj_dstQ2 cover_dstQ2 (q := fullShare) f0)
    rw [BI.bigSep_univ_two]
    isplitl [D0]
    · iexists _; iexact D0
    · iexists _; iexact D1
  · isplitl [Ha0]
    · iexact Ha0
    · iexact Ha1

theorem mem_dstQ3 (s : Fin 2) (i : S2x16x1536.Idx) : i ∈ (dstQ3 s).view.set ↔ s.val = (i 0).val := by
  have hd : (dstQ3 s).view.set = (Rect.unit (s := S2x16x1536) ![s.val, 0, 0] S1x16x1536.size (inbQ3d s)).set := by
    show (((View.whole cc0_scratch5).slice _).reshape _ _).set = _
    rw [View.set_reshape]
    exact View.set_slice_whole (b := cc0_scratch5) _
  rw [hd]
  refine Rect.mem_set_unit.trans ⟨fun h => ?_, fun h a => ?_⟩
  · have h0 := h 0
    change s.val ≤ (i 0).val ∧ (i 0).val < s.val + 1 at h0
    omega
  · have h1 : (i 1).val < 16 := (i 1).isLt
    have h2 : (i 2).val < 1536 := (i 2).isLt
    fin_cases a
    · show s.val ≤ (i 0).val ∧ (i 0).val < s.val + 1; omega
    · show 0 ≤ (i 1).val ∧ (i 1).val < 0 + 16; omega
    · show 0 ≤ (i 2).val ∧ (i 2).val < 0 + 1536; omega

theorem disj_dstQ3 (s s' : Fin 2) (h : s ≠ s') : Disjoint (dstQ3 s).view.set (dstQ3 s').view.set :=
  Finset.disjoint_left.mpr fun i hi hi' => h (Fin.ext (((mem_dstQ3 s i).1 hi).trans ((mem_dstQ3 s' i).1 hi').symm))

theorem cover_dstQ3 : @Finset.biUnion (Fin 2) S2x16x1536.Idx _ Finset.univ (fun s => (dstQ3 s).view.set) = Finset.univ := by
  ext i
  simp only [Finset.mem_biUnion, Finset.mem_univ, true_and, iff_true]
  exact ⟨i 0, (mem_dstQ3 (i 0) i).2 rfl⟩

theorem dealQ3 (X : (b : Ref sig .tc) → Buf (Elt F) ((c : Thread nD τ).loc b)) :
    iprop((∃ f : Buf (Elt F) ((c : Thread nD τ).loc cc0_scratch5), ((c : Thread nD τ).loc cc0_scratch5 ↦{fullShare} f)) ∗ ((c : Thread nD τ).loc main_arg8 ↦{fullShare} X main_arg8) ∗ semVal ((c : Thread nD τ), .dma (semQ3 0)) 0 ∗ semVal ((c : Thread nD τ), .dma (semQ3 1)) 0) ⊢ (iprop(idleQ3 c X 0 ∗ idleQ3 c X 1) : sProp (MT nD τ sig Unit (Elt F) ℕ (Pipeline.UD sig nD τ) ℕ)) := by
  rw [pointsTo_halves (ℓ := (c : Thread nD τ).loc main_arg8) fullShare]
  iintro ⟨⟨%f, Hr⟩, ⟨Ha0, Ha1⟩, V0, V1⟩
  ihave Hr' := ((ent_of_eq ((Ring.pointsTo_blocks (ℓ := (c : Thread nD τ).loc cc0_scratch5) (fun s : Fin 2 => ((dstQ3 s).view.set : Finset (Idx ((c : Thread nD τ).loc cc0_scratch5)))) disj_dstQ3 cover_dstQ3 (q := fullShare) f).trans (BI.bigSep_univ_two _)))) $$ Hr
  icases Hr' with ⟨D0, D1⟩
  unfold idleQ3 Idle
  iframe Ha0 Ha1 V0 V1
  isplitl [D0]
  · iexists _; iexact D0
  · iexists _; iexact D1

theorem gatherQ3 (X : (b : Ref sig .tc) → Buf (Elt F) ((c : Thread nD τ).loc b)) :
    (iprop(idleQ3 c X 0 ∗ idleQ3 c X 1) : sProp (MT nD τ sig Unit (Elt F) ℕ (Pipeline.UD sig nD τ) ℕ)) ⊢ iprop((∃ f : Buf (Elt F) ((c : Thread nD τ).loc cc0_scratch5), ((c : Thread nD τ).loc cc0_scratch5 ↦{fullShare} f)) ∗ ((c : Thread nD τ).loc main_arg8 ↦{fullShare} X main_arg8) ∗ semVal ((c : Thread nD τ), .dma (semQ3 0)) 0 ∗ semVal ((c : Thread nD τ), .dma (semQ3 1)) 0) := by
  rw [pointsTo_halves (ℓ := (c : Thread nD τ).loc main_arg8) fullShare]
  unfold idleQ3 Idle
  iintro ⟨⟨Ha0, ⟨%f0, D0⟩, V0⟩, ⟨Ha1, ⟨%f1, D1⟩, V1⟩⟩
  iframe V0 V1
  isplitl [D0 D1]
  · iapply (Ring.pointsTo_blocks_join_exists (ℓ := (c : Thread nD τ).loc cc0_scratch5) (fun s : Fin 2 => ((dstQ3 s).view.set : Finset (Idx ((c : Thread nD τ).loc cc0_scratch5)))) disj_dstQ3 cover_dstQ3 (q := fullShare) f0)
    rw [BI.bigSep_univ_two]
    isplitl [D0]
    · iexists _; iexact D0
    · iexists _; iexact D1
  · isplitl [Ha0]
    · iexact Ha0
    · iexact Ha1

theorem mem_dstW2 (p : Fin 2 × Fin 2) (i : S2x1024x3072.Idx) : i ∈ (dstW2 p.1 p.2).view.set ↔ p.1.val = (i 0).val ∧ 1536 * p.2.val ≤ (i 2).val ∧ (i 2).val < 1536 * p.2.val + 1536 := by
  have hd : (dstW2 p.1 p.2).view.set = (Rect.unit (s := S2x1024x3072) ![p.1.val, 0, 1536 * p.2.val] S1x1024x1536.size (inbW2d p.1 p.2)).set := by
    show (((View.whole cc0_scratch1).slice _).reshape _ _).set = _
    rw [View.set_reshape]
    exact View.set_slice_whole (b := cc0_scratch1) _
  rw [hd]
  refine Rect.mem_set_unit.trans ⟨fun h => ?_, fun h a => ?_⟩
  · have h0 := h 0
    have h2 := h 2
    change p.1.val ≤ (i 0).val ∧ (i 0).val < p.1.val + 1 at h0
    change 1536 * p.2.val ≤ (i 2).val ∧ (i 2).val < 1536 * p.2.val + 1536 at h2
    exact ⟨by omega, h2⟩
  · have h1 : (i 1).val < 1024 := (i 1).isLt
    fin_cases a
    · show p.1.val ≤ (i 0).val ∧ (i 0).val < p.1.val + 1; omega
    · show 0 ≤ (i 1).val ∧ (i 1).val < 0 + 1024; omega
    · exact h.2

theorem disj_dstW2 (p p' : Fin 2 × Fin 2) (h : p ≠ p') : Disjoint (dstW2 p.1 p.2).view.set (dstW2 p'.1 p'.2).view.set :=
  Finset.disjoint_left.mpr fun i hi hi' => h (by
    have h1 := (mem_dstW2 p i).1 hi
    have h2 := (mem_dstW2 p' i).1 hi'
    have l1 := p.2.isLt
    exact Prod.ext (Fin.ext (by omega)) (Fin.ext (by omega)))

theorem cover_dstW2 : @Finset.biUnion (Fin 2 × Fin 2) S2x1024x3072.Idx _ Finset.univ (fun p => (dstW2 p.1 p.2).view.set) = Finset.univ := by
  ext i
  simp only [Finset.mem_biUnion, Finset.mem_univ, true_and, iff_true]
  have h2 : (i 2).val < 3072 := (i 2).isLt
  obtain ⟨p, hp⟩ : ∃ p : Fin 2 × Fin 2, p.1.val = (i 0).val ∧ 1536 * p.2.val ≤ (i 2).val ∧ (i 2).val < 1536 * p.2.val + 1536 := ⟨(i 0, ⟨(i 2).val / 1536, by omega⟩), rfl, by show 1536 * ((i 2).val / 1536) ≤ (i 2).val; omega, by show (i 2).val < 1536 * ((i 2).val / 1536) + 1536; omega⟩
  exact ⟨p, (mem_dstW2 p i).2 hp⟩

theorem joinW2 (f0 : Buf (Elt F) ((c : Thread nD τ).loc cc0_scratch1)) :
    (bigSep Finset.univ fun p : Fin 2 × Fin 2 => iprop(∃ f, (c : Thread nD τ).loc cc0_scratch1 ↦[(dstW2 p.1 p.2).view.set]{fullShare} f) : sProp (MT nD τ sig Unit (Elt F) ℕ (Pipeline.UD sig nD τ) ℕ)) ⊢ (∃ f : Buf (Elt F) ((c : Thread nD τ).loc cc0_scratch1), ((c : Thread nD τ).loc cc0_scratch1 ↦{fullShare} f)) :=
  Ring.pointsTo_blocks_join_exists (ℓ := (c : Thread nD τ).loc cc0_scratch1) (fun p : Fin 2 × Fin 2 => ((dstW2 p.1 p.2).view.set : Finset (Idx ((c : Thread nD τ).loc cc0_scratch1)))) disj_dstW2 cover_dstW2 (q := fullShare) f0

theorem dealW2 (X : (b : Ref sig .tc) → Buf (Elt F) ((c : Thread nD τ).loc b)) :
    iprop((∃ f : Buf (Elt F) ((c : Thread nD τ).loc cc0_scratch1), ((c : Thread nD τ).loc cc0_scratch1 ↦{fullShare} f)) ∗ ((c : Thread nD τ).loc main_arg6 ↦{fullShare} X main_arg6) ∗ semVal ((c : Thread nD τ), .dma (semW2 0 0)) 0 ∗ semVal ((c : Thread nD τ), .dma (semW2 0 1)) 0 ∗ semVal ((c : Thread nD τ), .dma (semW2 1 0)) 0 ∗ semVal ((c : Thread nD τ), .dma (semW2 1 1)) 0) ⊢ (iprop(idleW2 c X 0 0 ∗ idleW2 c X 0 1 ∗ idleW2 c X 1 0 ∗ idleW2 c X 1 1) : sProp (MT nD τ sig Unit (Elt F) ℕ (Pipeline.UD sig nD τ) ℕ)) := by
  rw [pointsTo_halves (ℓ := (c : Thread nD τ).loc main_arg6) fullShare, pointsTo_halves (ℓ := (c : Thread nD τ).loc main_arg6) (hf 0 fullShare), pointsTo_halves (ℓ := (c : Thread nD τ).loc main_arg6) (hf 1 fullShare)]
  iintro ⟨⟨%f, Hr⟩, ⟨⟨A00, A01⟩, ⟨A10, A11⟩⟩, V0, V1, V2, V3⟩
  have hsp : ((c : Thread nD τ).loc cc0_scratch1 ↦{fullShare} f : sProp (MT nD τ sig Unit (Elt F) ℕ (Pipeline.UD sig nD τ) ℕ)) = _ := (Ring.pointsTo_blocks (ℓ := (c : Thread nD τ).loc cc0_scratch1) (fun p : Fin 2 × Fin 2 => ((dstW2 p.1 p.2).view.set : Finset (Idx ((c : Thread nD τ).loc cc0_scratch1)))) disj_dstW2 cover_dstW2 (q := fullShare) f)
  simp only [BI.bigSep_univ_prod, BI.bigSep_univ_two] at hsp
  ihave Hr' := (ent_of_eq hsp) $$ Hr
  icases Hr' with ⟨⟨D00, D01⟩, ⟨D10, D11⟩⟩
  isplitl [A00 D00 V0]
  · unfold idleW2
    unfold Idle
    isplitl [A00]; · iexact A00
    isplitl [D00]; · iexists _; iexact D00
    iexact V0
  isplitl [A01 D01 V1]
  · unfold idleW2
    unfold Idle
    isplitl [A01]; · iexact A01
    isplitl [D01]; · iexists _; iexact D01
    iexact V1
  isplitl [A10 D10 V2]
  · unfold idleW2
    unfold Idle
    isplitl [A10]; · iexact A10
    isplitl [D10]; · iexists _; iexact D10
    iexact V2
  unfold idleW2
  unfold Idle
  isplitl [A11]; · iexact A11
  isplitl [D11]; · iexists _; iexact D11
  iexact V3

theorem gatherW2 (X : (b : Ref sig .tc) → Buf (Elt F) ((c : Thread nD τ).loc b)) :
    (iprop(idleW2 c X 0 0 ∗ idleW2 c X 0 1 ∗ idleW2 c X 1 0 ∗ idleW2 c X 1 1) : sProp (MT nD τ sig Unit (Elt F) ℕ (Pipeline.UD sig nD τ) ℕ)) ⊢ iprop((∃ f : Buf (Elt F) ((c : Thread nD τ).loc cc0_scratch1), ((c : Thread nD τ).loc cc0_scratch1 ↦{fullShare} f)) ∗ ((c : Thread nD τ).loc main_arg6 ↦{fullShare} X main_arg6) ∗ semVal ((c : Thread nD τ), .dma (semW2 0 0)) 0 ∗ semVal ((c : Thread nD τ), .dma (semW2 0 1)) 0 ∗ semVal ((c : Thread nD τ), .dma (semW2 1 0)) 0 ∗ semVal ((c : Thread nD τ), .dma (semW2 1 1)) 0) := by
  rw [pointsTo_halves (ℓ := (c : Thread nD τ).loc main_arg6) fullShare, pointsTo_halves (ℓ := (c : Thread nD τ).loc main_arg6) (hf 0 fullShare), pointsTo_halves (ℓ := (c : Thread nD τ).loc main_arg6) (hf 1 fullShare)]
  unfold idleW2 Idle
  iintro ⟨⟨A00, ⟨%f00, D00⟩, V0⟩, ⟨A01, ⟨%f01, D01⟩, V1⟩, ⟨A10, ⟨%f10, D10⟩, V2⟩, ⟨A11, ⟨%f11, D11⟩, V3⟩⟩
  iframe V0 V1 V2 V3
  have hj := joinW2 (F := F) c (f00 : Buf (Elt F) ((c : Thread nD τ).loc cc0_scratch1))
  simp only [BI.bigSep_univ_prod, BI.bigSep_univ_two] at hj
  isplitl [D00 D01 D10 D11]
  · iapply hj
    isplitl [D00 D01]
    · isplitl [D00]
      · iexists _; iexact D00
      iexists _; iexact D01
    isplitl [D10]
    · iexists _; iexact D10
    iexists _; iexact D11
  · skip
    isplitl [A00 A01]
    · isplitl [A00]
      · iexact A00
      iexact A01
    isplitl [A10]
    · iexact A10
    iexact A11

theorem mem_dstW1 (p : Fin 2 × Fin 2 × Fin 4) (i : S2x1536x4096.Idx) : i ∈ (dstW1 p.1 p.2.1 p.2.2).view.set ↔ p.1.val = (i 0).val ∧ 2048 * p.2.1.val + 512 * p.2.2.val ≤ (i 2).val ∧ (i 2).val < 2048 * p.2.1.val + 512 * p.2.2.val + 512 := by
  have hd : (dstW1 p.1 p.2.1 p.2.2).view.set = (Rect.unit (s := S2x1536x4096) ![p.1.val, 0, 2048 * p.2.1.val + 512 * p.2.2.val] S1x1536x512.size (inbW1d p.1 p.2.1 p.2.2)).set := by
    show (((View.whole cc0_scratch0).slice _).reshape _ _).set = _
    rw [View.set_reshape]
    exact View.set_slice_whole (b := cc0_scratch0) _
  rw [hd]
  refine Rect.mem_set_unit.trans ⟨fun h => ?_, fun h a => ?_⟩
  · have h0 := h 0
    have h2 := h 2
    change p.1.val ≤ (i 0).val ∧ (i 0).val < p.1.val + 1 at h0
    change 2048 * p.2.1.val + 512 * p.2.2.val ≤ (i 2).val ∧ (i 2).val < 2048 * p.2.1.val + 512 * p.2.2.val + 512 at h2
    exact ⟨by omega, h2⟩
  · have h1 : (i 1).val < 1536 := (i 1).isLt
    fin_cases a
    · show p.1.val ≤ (i 0).val ∧ (i 0).val < p.1.val + 1; omega
    · show 0 ≤ (i 1).val ∧ (i 1).val < 0 + 1536; omega
    · exact h.2

theorem disj_dstW1 (p p' : Fin 2 × Fin 2 × Fin 4) (h : p ≠ p') : Disjoint (dstW1 p.1 p.2.1 p.2.2).view.set (dstW1 p'.1 p'.2.1 p'.2.2).view.set :=
  Finset.disjoint_left.mpr fun i hi hi' => h (by
    have h1 := (mem_dstW1 p i).1 hi
    have h2 := (mem_dstW1 p' i).1 hi'
    have l1 := p.2.1.isLt; have l2 := p.2.2.isLt; have l3 := p'.2.1.isLt; have l4 := p'.2.2.isLt
    exact Prod.ext (Fin.ext (by omega)) (Prod.ext (Fin.ext (by omega)) (Fin.ext (by omega))))

theorem cover_dstW1 : @Finset.biUnion (Fin 2 × Fin 2 × Fin 4) S2x1536x4096.Idx _ Finset.univ (fun p => (dstW1 p.1 p.2.1 p.2.2).view.set) = Finset.univ := by
  ext i
  simp only [Finset.mem_biUnion, Finset.mem_univ, true_and, iff_true]
  have h2 : (i 2).val < 4096 := (i 2).isLt
  obtain ⟨p, hp⟩ : ∃ p : Fin 2 × Fin 2 × Fin 4, p.1.val = (i 0).val ∧ 2048 * p.2.1.val + 512 * p.2.2.val ≤ (i 2).val ∧ (i 2).val < 2048 * p.2.1.val + 512 * p.2.2.val + 512 := ⟨(i 0, ⟨(i 2).val / 2048, by omega⟩, ⟨(i 2).val % 2048 / 512, by omega⟩), rfl, by show 2048 * ((i 2).val / 2048) + 512 * ((i 2).val % 2048 / 512) ≤ (i 2).val; omega, by show (i 2).val < 2048 * ((i 2).val / 2048) + 512 * ((i 2).val % 2048 / 512) + 512; omega⟩
  exact ⟨p, (mem_dstW1 p i).2 hp⟩

theorem joinW1 (f0 : Buf (Elt F) ((c : Thread nD τ).loc cc0_scratch0)) :
    (bigSep Finset.univ fun p : Fin 2 × Fin 2 × Fin 4 => iprop(∃ f, (c : Thread nD τ).loc cc0_scratch0 ↦[(dstW1 p.1 p.2.1 p.2.2).view.set]{fullShare} f) : sProp (MT nD τ sig Unit (Elt F) ℕ (Pipeline.UD sig nD τ) ℕ)) ⊢ (∃ f : Buf (Elt F) ((c : Thread nD τ).loc cc0_scratch0), ((c : Thread nD τ).loc cc0_scratch0 ↦{fullShare} f)) :=
  Ring.pointsTo_blocks_join_exists (ℓ := (c : Thread nD τ).loc cc0_scratch0) (fun p : Fin 2 × Fin 2 × Fin 4 => ((dstW1 p.1 p.2.1 p.2.2).view.set : Finset (Idx ((c : Thread nD τ).loc cc0_scratch0)))) disj_dstW1 cover_dstW1 (q := fullShare) f0

theorem dealW1 (X : (b : Ref sig .tc) → Buf (Elt F) ((c : Thread nD τ).loc b)) :
    iprop((∃ f : Buf (Elt F) ((c : Thread nD τ).loc cc0_scratch0), ((c : Thread nD τ).loc cc0_scratch0 ↦{fullShare} f)) ∗ ((c : Thread nD τ).loc main_arg3 ↦{fullShare} X main_arg3) ∗ semVal ((c : Thread nD τ), .dma (semW1 0 0)) 0 ∗ semVal ((c : Thread nD τ), .dma (semW1 0 1)) 0 ∗ semVal ((c : Thread nD τ), .dma (semW1 0 2)) 0 ∗ semVal ((c : Thread nD τ), .dma (semW1 0 3)) 0 ∗ semVal ((c : Thread nD τ), .dma (semW1 1 0)) 0 ∗ semVal ((c : Thread nD τ), .dma (semW1 1 1)) 0 ∗ semVal ((c : Thread nD τ), .dma (semW1 1 2)) 0 ∗ semVal ((c : Thread nD τ), .dma (semW1 1 3)) 0) ⊢ (iprop(idleW1 c X 0 0 ∗ idleW1 c X 0 1 ∗ idleW1 c X 0 2 ∗ idleW1 c X 0 3 ∗ idleW1 c X 1 0 ∗ idleW1 c X 1 1 ∗ idleW1 c X 1 2 ∗ idleW1 c X 1 3) : sProp (MT nD τ sig Unit (Elt F) ℕ (Pipeline.UD sig nD τ) ℕ)) := by
  rw [pointsTo_halves (ℓ := (c : Thread nD τ).loc main_arg3) fullShare, pointsTo_halves (ℓ := (c : Thread nD τ).loc main_arg3) (hf 0 fullShare), pointsTo_halves (ℓ := (c : Thread nD τ).loc main_arg3) (hf 1 fullShare)]
  rw [pointsTo_halves (ℓ := (c : Thread nD τ).loc main_arg3) (hf 0 (hf 0 fullShare)), pointsTo_halves (ℓ := (c : Thread nD τ).loc main_arg3) (hf 0 (hf 0 (hf 0 fullShare))), pointsTo_halves (ℓ := (c : Thread nD τ).loc main_arg3) (hf 1 (hf 0 (hf 0 fullShare)))]
  rw [pointsTo_halves (ℓ := (c : Thread nD τ).loc main_arg3) (hf 1 (hf 0 fullShare)), pointsTo_halves (ℓ := (c : Thread nD τ).loc main_arg3) (hf 0 (hf 1 (hf 0 fullShare))), pointsTo_halves (ℓ := (c : Thread nD τ).loc main_arg3) (hf 1 (hf 1 (hf 0 fullShare)))]
  rw [pointsTo_halves (ℓ := (c : Thread nD τ).loc main_arg3) (hf 0 (hf 1 fullShare)), pointsTo_halves (ℓ := (c : Thread nD τ).loc main_arg3) (hf 0 (hf 0 (hf 1 fullShare))), pointsTo_halves (ℓ := (c : Thread nD τ).loc main_arg3) (hf 1 (hf 0 (hf 1 fullShare)))]
  rw [pointsTo_halves (ℓ := (c : Thread nD τ).loc main_arg3) (hf 1 (hf 1 fullShare)), pointsTo_halves (ℓ := (c : Thread nD τ).loc main_arg3) (hf 0 (hf 1 (hf 1 fullShare))), pointsTo_halves (ℓ := (c : Thread nD τ).loc main_arg3) (hf 1 (hf 1 (hf 1 fullShare)))]
  iintro ⟨⟨%f, Hr⟩, ⟨⟨⟨⟨A000, A001⟩, ⟨A002, A003⟩⟩, ⟨⟨A010, A011⟩, ⟨A012, A013⟩⟩⟩, ⟨⟨⟨A100, A101⟩, ⟨A102, A103⟩⟩, ⟨⟨A110, A111⟩, ⟨A112, A113⟩⟩⟩⟩, V0, V1, V2, V3, V4, V5, V6, V7⟩
  have hsp : ((c : Thread nD τ).loc cc0_scratch0 ↦{fullShare} f : sProp (MT nD τ sig Unit (Elt F) ℕ (Pipeline.UD sig nD τ) ℕ)) = _ := (Ring.pointsTo_blocks (ℓ := (c : Thread nD τ).loc cc0_scratch0) (fun p : Fin 2 × Fin 2 × Fin 4 => ((dstW1 p.1 p.2.1 p.2.2).view.set : Finset (Idx ((c : Thread nD τ).loc cc0_scratch0)))) disj_dstW1 cover_dstW1 (q := fullShare) f)
  simp only [BI.bigSep_univ_prod, BI.bigSep_univ_two, bigSep_four] at hsp
  ihave Hr' := (ent_of_eq hsp) $$ Hr
  icases Hr' with ⟨⟨⟨D000, D001, D002, D003⟩, ⟨D010, D011, D012, D013⟩⟩, ⟨⟨D100, D101, D102, D103⟩, ⟨D110, D111, D112, D113⟩⟩⟩
  isplitl [A000 A010 D000 D010 V0]
  · unfold idleW1
    unfold Idle2
    isplitl [A000]; · iexact A000
    isplitl [A010]; · iexact A010
    isplitl [D000]; · iexists _; iexact D000
    isplitl [D010]; · iexists _; iexact D010
    iexact V0
  isplitl [A001 A011 D001 D011 V1]
  · unfold idleW1
    unfold Idle2
    isplitl [A001]; · iexact A001
    isplitl [A011]; · iexact A011
    isplitl [D001]; · iexists _; iexact D001
    isplitl [D011]; · iexists _; iexact D011
    iexact V1
  isplitl [A002 A012 D002 D012 V2]
  · unfold idleW1
    unfold Idle2
    isplitl [A002]; · iexact A002
    isplitl [A012]; · iexact A012
    isplitl [D002]; · iexists _; iexact D002
    isplitl [D012]; · iexists _; iexact D012
    iexact V2
  isplitl [A003 A013 D003 D013 V3]
  · unfold idleW1
    unfold Idle2
    isplitl [A003]; · iexact A003
    isplitl [A013]; · iexact A013
    isplitl [D003]; · iexists _; iexact D003
    isplitl [D013]; · iexists _; iexact D013
    iexact V3
  isplitl [A100 A110 D100 D110 V4]
  · unfold idleW1
    unfold Idle2
    isplitl [A100]; · iexact A100
    isplitl [A110]; · iexact A110
    isplitl [D100]; · iexists _; iexact D100
    isplitl [D110]; · iexists _; iexact D110
    iexact V4
  isplitl [A101 A111 D101 D111 V5]
  · unfold idleW1
    unfold Idle2
    isplitl [A101]; · iexact A101
    isplitl [A111]; · iexact A111
    isplitl [D101]; · iexists _; iexact D101
    isplitl [D111]; · iexists _; iexact D111
    iexact V5
  isplitl [A102 A112 D102 D112 V6]
  · unfold idleW1
    unfold Idle2
    isplitl [A102]; · iexact A102
    isplitl [A112]; · iexact A112
    isplitl [D102]; · iexists _; iexact D102
    isplitl [D112]; · iexists _; iexact D112
    iexact V6
  unfold idleW1
  unfold Idle2
  isplitl [A103]; · iexact A103
  isplitl [A113]; · iexact A113
  isplitl [D103]; · iexists _; iexact D103
  isplitl [D113]; · iexists _; iexact D113
  iexact V7

theorem gatherW1 (X : (b : Ref sig .tc) → Buf (Elt F) ((c : Thread nD τ).loc b)) :
    (iprop(idleW1 c X 0 0 ∗ idleW1 c X 0 1 ∗ idleW1 c X 0 2 ∗ idleW1 c X 0 3 ∗ idleW1 c X 1 0 ∗ idleW1 c X 1 1 ∗ idleW1 c X 1 2 ∗ idleW1 c X 1 3) : sProp (MT nD τ sig Unit (Elt F) ℕ (Pipeline.UD sig nD τ) ℕ)) ⊢ iprop((∃ f : Buf (Elt F) ((c : Thread nD τ).loc cc0_scratch0), ((c : Thread nD τ).loc cc0_scratch0 ↦{fullShare} f)) ∗ ((c : Thread nD τ).loc main_arg3 ↦{fullShare} X main_arg3) ∗ semVal ((c : Thread nD τ), .dma (semW1 0 0)) 0 ∗ semVal ((c : Thread nD τ), .dma (semW1 0 1)) 0 ∗ semVal ((c : Thread nD τ), .dma (semW1 0 2)) 0 ∗ semVal ((c : Thread nD τ), .dma (semW1 0 3)) 0 ∗ semVal ((c : Thread nD τ), .dma (semW1 1 0)) 0 ∗ semVal ((c : Thread nD τ), .dma (semW1 1 1)) 0 ∗ semVal ((c : Thread nD τ), .dma (semW1 1 2)) 0 ∗ semVal ((c : Thread nD τ), .dma (semW1 1 3)) 0) := by
  rw [pointsTo_halves (ℓ := (c : Thread nD τ).loc main_arg3) fullShare, pointsTo_halves (ℓ := (c : Thread nD τ).loc main_arg3) (hf 0 fullShare), pointsTo_halves (ℓ := (c : Thread nD τ).loc main_arg3) (hf 1 fullShare)]
  rw [pointsTo_halves (ℓ := (c : Thread nD τ).loc main_arg3) (hf 0 (hf 0 fullShare)), pointsTo_halves (ℓ := (c : Thread nD τ).loc main_arg3) (hf 0 (hf 0 (hf 0 fullShare))), pointsTo_halves (ℓ := (c : Thread nD τ).loc main_arg3) (hf 1 (hf 0 (hf 0 fullShare)))]
  rw [pointsTo_halves (ℓ := (c : Thread nD τ).loc main_arg3) (hf 1 (hf 0 fullShare)), pointsTo_halves (ℓ := (c : Thread nD τ).loc main_arg3) (hf 0 (hf 1 (hf 0 fullShare))), pointsTo_halves (ℓ := (c : Thread nD τ).loc main_arg3) (hf 1 (hf 1 (hf 0 fullShare)))]
  rw [pointsTo_halves (ℓ := (c : Thread nD τ).loc main_arg3) (hf 0 (hf 1 fullShare)), pointsTo_halves (ℓ := (c : Thread nD τ).loc main_arg3) (hf 0 (hf 0 (hf 1 fullShare))), pointsTo_halves (ℓ := (c : Thread nD τ).loc main_arg3) (hf 1 (hf 0 (hf 1 fullShare)))]
  rw [pointsTo_halves (ℓ := (c : Thread nD τ).loc main_arg3) (hf 1 (hf 1 fullShare)), pointsTo_halves (ℓ := (c : Thread nD τ).loc main_arg3) (hf 0 (hf 1 (hf 1 fullShare))), pointsTo_halves (ℓ := (c : Thread nD τ).loc main_arg3) (hf 1 (hf 1 (hf 1 fullShare)))]
  unfold idleW1 Idle2
  iintro ⟨⟨A000, A010, ⟨%f000, D000⟩, ⟨%f010, D010⟩, V0⟩, ⟨A001, A011, ⟨%f001, D001⟩, ⟨%f011, D011⟩, V1⟩, ⟨A002, A012, ⟨%f002, D002⟩, ⟨%f012, D012⟩, V2⟩, ⟨A003, A013, ⟨%f003, D003⟩, ⟨%f013, D013⟩, V3⟩, ⟨A100, A110, ⟨%f100, D100⟩, ⟨%f110, D110⟩, V4⟩, ⟨A101, A111, ⟨%f101, D101⟩, ⟨%f111, D111⟩, V5⟩, ⟨A102, A112, ⟨%f102, D102⟩, ⟨%f112, D112⟩, V6⟩, ⟨A103, A113, ⟨%f103, D103⟩, ⟨%f113, D113⟩, V7⟩⟩
  iframe V0 V1 V2 V3 V4 V5 V6 V7
  have hj := joinW1 (F := F) c (f000 : Buf (Elt F) ((c : Thread nD τ).loc cc0_scratch0))
  simp only [BI.bigSep_univ_prod, BI.bigSep_univ_two, bigSep_four] at hj
  isplitl [D000 D001 D002 D003 D010 D011 D012 D013 D100 D101 D102 D103 D110 D111 D112 D113]
  · iapply hj
    isplitl [D000 D001 D002 D003 D010 D011 D012 D013]
    · isplitl [D000 D001 D002 D003]
      · isplitl [D000]
        · iexists _; iexact D000
        isplitl [D001]
        · iexists _; iexact D001
        isplitl [D002]
        · iexists _; iexact D002
        iexists _; iexact D003
      isplitl [D010]
      · iexists _; iexact D010
      isplitl [D011]
      · iexists _; iexact D011
      isplitl [D012]
      · iexists _; iexact D012
      iexists _; iexact D013
    isplitl [D100 D101 D102 D103]
    · isplitl [D100]
      · iexists _; iexact D100
      isplitl [D101]
      · iexists _; iexact D101
      isplitl [D102]
      · iexists _; iexact D102
      iexists _; iexact D103
    isplitl [D110]
    · iexists _; iexact D110
    isplitl [D111]
    · iexists _; iexact D111
    isplitl [D112]
    · iexists _; iexact D112
    iexists _; iexact D113
  · skip
    isplitl [A000 A001 A002 A003 A010 A011 A012 A013]
    · isplitl [A000 A001 A002 A003]
      · isplitl [A000 A001]
        · isplitl [A000]
          · iexact A000
          iexact A001
        isplitl [A002]
        · iexact A002
        iexact A003
      isplitl [A010 A011]
      · isplitl [A010]
        · iexact A010
        iexact A011
      isplitl [A012]
      · iexact A012
      iexact A013
    isplitl [A100 A101 A102 A103]
    · isplitl [A100 A101]
      · isplitl [A100]
        · iexact A100
        iexact A101
      isplitl [A102]
      · iexact A102
      iexact A103
    isplitl [A110 A111]
    · isplitl [A110]
      · iexact A110
      iexact A111
    isplitl [A112]
    · iexact A112
    iexact A113

end Cert.Kernel.Hand

end
-- ==== Proof.BitsBody.lean ====
/-
  The whole kernel body, run from its staged inputs, its weight arrays and its buffers at any contents: it ends with the
  output buffer at the accumulated value and everything else returned.
-/
module

public import proofs.«01_k».proof.Proof.BitsScan
public import proofs.«01_k».proof.Proof.BitsDeal

@[expose] public section

noncomputable section

namespace Cert.Kernel.Hand

open Cert.Kernel Cert.Kernel.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

/-- What the body holds beside its staged windows: the weight arrays, its buffers at any contents, its counters at zero. -/
def BodyRes (X : (b : Ref sig .tc) → Buf (Elt F) ((c : Thread nD τ).loc b)) : sProp (MT nD τ sig Unit (Elt F) ℕ (Pipeline.UD sig nD τ) ℕ) :=
  iprop(((c : Thread nD τ).loc main_arg3 ↦{fullShare} X main_arg3) ∗ ((c : Thread nD τ).loc main_arg4 ↦{fullShare} X main_arg4) ∗ ((c : Thread nD τ).loc main_arg5 ↦{fullShare} X main_arg5) ∗ ((c : Thread nD τ).loc main_arg6 ↦{fullShare} X main_arg6) ∗ ((c : Thread nD τ).loc main_arg7 ↦{fullShare} X main_arg7) ∗ ((c : Thread nD τ).loc main_arg8 ↦{fullShare} X main_arg8) ∗ (∃ f : Buf (Elt F) ((c : Thread nD τ).loc cc0_scratch0), ((c : Thread nD τ).loc cc0_scratch0 ↦{fullShare} f)) ∗ (∃ f : Buf (Elt F) ((c : Thread nD τ).loc cc0_scratch1), ((c : Thread nD τ).loc cc0_scratch1 ↦{fullShare} f)) ∗ (∃ f : Buf (Elt F) ((c : Thread nD τ).loc cc0_scratch2), ((c : Thread nD τ).loc cc0_scratch2 ↦{fullShare} f)) ∗ (∃ f : Buf (Elt F) ((c : Thread nD τ).loc cc0_scratch3), ((c : Thread nD τ).loc cc0_scratch3 ↦{fullShare} f)) ∗ (∃ f : Buf (Elt F) ((c : Thread nD τ).loc cc0_scratch4), ((c : Thread nD τ).loc cc0_scratch4 ↦{fullShare} f)) ∗ (∃ f : Buf (Elt F) ((c : Thread nD τ).loc cc0_scratch5), ((c : Thread nD τ).loc cc0_scratch5 ↦{fullShare} f)) ∗ (∃ f : Buf (Elt F) ((c : Thread nD τ).loc cc0_scratch6), ((c : Thread nD τ).loc cc0_scratch6 ↦{fullShare} f)) ∗ (∃ f : Buf (Elt F) ((c : Thread nD τ).loc cc0_scratch7), ((c : Thread nD τ).loc cc0_scratch7 ↦{fullShare} f)) ∗ (∃ f : Buf (Elt F) ((c : Thread nD τ).loc cc0_scratch8), ((c : Thread nD τ).loc cc0_scratch8 ↦{fullShare} f)) ∗ (∃ f : Buf (Elt F) ((c : Thread nD τ).loc cc0_scratch9), ((c : Thread nD τ).loc cc0_scratch9 ↦{fullShare} f)) ∗ (∃ f : Buf (Elt F) ((c : Thread nD τ).loc cc0_scratch10), ((c : Thread nD τ).loc cc0_scratch10 ↦{fullShare} f)) ∗ (∃ f : Buf (Elt F) ((c : Thread nD τ).loc cc0_scratch11), ((c : Thread nD τ).loc cc0_scratch11 ↦{fullShare} f)) ∗ (∃ f : Buf (Elt F) ((c : Thread nD τ).loc cc0_scratch12), ((c : Thread nD τ).loc cc0_scratch12 ↦{fullShare} f)) ∗ (∃ f : Buf (Elt F) ((c : Thread nD τ).loc cc0_scratch13), ((c : Thread nD τ).loc cc0_scratch13 ↦{fullShare} f)) ∗ semVal ((c : Thread nD τ), .dma (semW1 0 0)) 0 ∗ semVal ((c : Thread nD τ), .dma (semW1 0 1)) 0 ∗ semVal ((c : Thread nD τ), .dma (semW1 0 2)) 0 ∗ semVal ((c : Thread nD τ), .dma (semW1 0 3)) 0 ∗ semVal ((c : Thread nD τ), .dma (semW1 1 0)) 0 ∗ semVal ((c : Thread nD τ), .dma (semW1 1 1)) 0 ∗ semVal ((c : Thread nD τ), .dma (semW1 1 2)) 0 ∗ semVal ((c : Thread nD τ), .dma (semW1 1 3)) 0 ∗ semVal ((c : Thread nD τ), .dma (semW2 0 0)) 0 ∗ semVal ((c : Thread nD τ), .dma (semW2 0 1)) 0 ∗ semVal ((c : Thread nD τ), .dma (semW2 1 0)) 0 ∗ semVal ((c : Thread nD τ), .dma (semW2 1 1)) 0 ∗ semVal ((c : Thread nD τ), .dma (semQ0 0)) 0 ∗ semVal ((c : Thread nD τ), .dma (semQ1 0)) 0 ∗ semVal ((c : Thread nD τ), .dma (semQ2 0)) 0 ∗ semVal ((c : Thread nD τ), .dma (semQ3 0)) 0 ∗ semVal ((c : Thread nD τ), .dma (semQ0 1)) 0 ∗ semVal ((c : Thread nD τ), .dma (semQ1 1)) 0 ∗ semVal ((c : Thread nD τ), .dma (semQ2 1)) 0 ∗ semVal ((c : Thread nD τ), .dma (semQ3 1)) 0)

/-- The weight arrays, the rings and the counters. -/
def Weights (X : (b : Ref sig .tc) → Buf (Elt F) ((c : Thread nD τ).loc b)) : sProp (MT nD τ sig Unit (Elt F) ℕ (Pipeline.UD sig nD τ) ℕ) :=
  iprop(((c : Thread nD τ).loc main_arg3 ↦{fullShare} X main_arg3) ∗ ((c : Thread nD τ).loc main_arg4 ↦{fullShare} X main_arg4) ∗ ((c : Thread nD τ).loc main_arg5 ↦{fullShare} X main_arg5) ∗ ((c : Thread nD τ).loc main_arg6 ↦{fullShare} X main_arg6) ∗ ((c : Thread nD τ).loc main_arg7 ↦{fullShare} X main_arg7) ∗ ((c : Thread nD τ).loc main_arg8 ↦{fullShare} X main_arg8) ∗ (∃ f : Buf (Elt F) ((c : Thread nD τ).loc cc0_scratch0), ((c : Thread nD τ).loc cc0_scratch0 ↦{fullShare} f)) ∗ (∃ f : Buf (Elt F) ((c : Thread nD τ).loc cc0_scratch1), ((c : Thread nD τ).loc cc0_scratch1 ↦{fullShare} f)) ∗ (∃ f : Buf (Elt F) ((c : Thread nD τ).loc cc0_scratch2), ((c : Thread nD τ).loc cc0_scratch2 ↦{fullShare} f)) ∗ (∃ f : Buf (Elt F) ((c : Thread nD τ).loc cc0_scratch3), ((c : Thread nD τ).loc cc0_scratch3 ↦{fullShare} f)) ∗ (∃ f : Buf (Elt F) ((c : Thread nD τ).loc cc0_scratch4), ((c : Thread nD τ).loc cc0_scratch4 ↦{fullShare} f)) ∗ (∃ f : Buf (Elt F) ((c : Thread nD τ).loc cc0_scratch5), ((c : Thread nD τ).loc cc0_scratch5 ↦{fullShare} f)) ∗ semVal ((c : Thread nD τ), .dma (semW1 0 0)) 0 ∗ semVal ((c : Thread nD τ), .dma (semW1 0 1)) 0 ∗ semVal ((c : Thread nD τ), .dma (semW1 0 2)) 0 ∗ semVal ((c : Thread nD τ), .dma (semW1 0 3)) 0 ∗ semVal ((c : Thread nD τ), .dma (semW1 1 0)) 0 ∗ semVal ((c : Thread nD τ), .dma (semW1 1 1)) 0 ∗ semVal ((c : Thread nD τ), .dma (semW1 1 2)) 0 ∗ semVal ((c : Thread nD τ), .dma (semW1 1 3)) 0 ∗ semVal ((c : Thread nD τ), .dma (semW2 0 0)) 0 ∗ semVal ((c : Thread nD τ), .dma (semW2 0 1)) 0 ∗ semVal ((c : Thread nD τ), .dma (semW2 1 0)) 0 ∗ semVal ((c : Thread nD τ), .dma (semW2 1 1)) 0 ∗ semVal ((c : Thread nD τ), .dma (semQ0 0)) 0 ∗ semVal ((c : Thread nD τ), .dma (semQ1 0)) 0 ∗ semVal ((c : Thread nD τ), .dma (semQ2 0)) 0 ∗ semVal ((c : Thread nD τ), .dma (semQ3 0)) 0 ∗ semVal ((c : Thread nD τ), .dma (semQ0 1)) 0 ∗ semVal ((c : Thread nD τ), .dma (semQ1 1)) 0 ∗ semVal ((c : Thread nD τ), .dma (semQ2 1)) 0 ∗ semVal ((c : Thread nD τ), .dma (semQ3 1)) 0)

theorem weights_deal (X : (b : Ref sig .tc) → Buf (Elt F) ((c : Thread nD τ).loc b)) : (Weights c X : sProp (MT nD τ sig Unit (Elt F) ℕ (Pipeline.UD sig nD τ) ℕ)) ⊢ iprop(IdleSlot c X (sl 0) ∗ IdleSlot c X (sl 1)) := by
  rw [show sl 0 = 0 from rfl, show sl 1 = 1 from rfl]
  unfold Weights
  iintro ⟨A3, A4, A5, A6, A7, A8, S0, S1, S2, S3, S4, S5, SW100, SW101, SW102, SW103, SW110, SW111, SW112, SW113, SW200, SW201, SW210, SW211, SQ00, SQ10, SQ20, SQ30, SQ01, SQ11, SQ21, SQ31⟩
  ihave HD := (dealW1 c X) $$ [S0 A3 SW100 SW101 SW102 SW103 SW110 SW111 SW112 SW113]
  · iframe S0 A3 SW100 SW101 SW102 SW103 SW110 SW111 SW112 SW113
  icases HD with ⟨IW100, IW101, IW102, IW103, IW110, IW111, IW112, IW113⟩
  ihave HD := (dealW2 c X) $$ [S1 A6 SW200 SW201 SW210 SW211]
  · iframe S1 A6 SW200 SW201 SW210 SW211
  icases HD with ⟨IW200, IW201, IW210, IW211⟩
  ihave HD := (dealQ0 c X) $$ [S2 A4 SQ00 SQ01]
  · iframe S2 A4 SQ00 SQ01
  icases HD with ⟨IQ00, IQ01⟩
  ihave HD := (dealQ1 c X) $$ [S3 A5 SQ10 SQ11]
  · iframe S3 A5 SQ10 SQ11
  icases HD with ⟨IQ10, IQ11⟩
  ihave HD := (dealQ2 c X) $$ [S4 A7 SQ20 SQ21]
  · iframe S4 A7 SQ20 SQ21
  icases HD with ⟨IQ20, IQ21⟩
  ihave HD := (dealQ3 c X) $$ [S5 A8 SQ30 SQ31]
  · iframe S5 A8 SQ30 SQ31
  icases HD with ⟨IQ30, IQ31⟩
  unfold IdleSlot
  isplitl [IQ00 IQ10 IQ20 IQ30 IW100 IW101 IW102 IW103 IW200 IW201]
  · iframe IQ00 IQ10 IQ20 IQ30 IW100 IW101 IW102 IW103 IW200 IW201
  · iframe IQ01 IQ11 IQ21 IQ31 IW110 IW111 IW112 IW113 IW210 IW211

theorem weights_gather (X : (b : Ref sig .tc) → Buf (Elt F) ((c : Thread nD τ).loc b)) : (iprop(IdleSlot c X 0 ∗ IdleSlot c X 1) : sProp (MT nD τ sig Unit (Elt F) ℕ (Pipeline.UD sig nD τ) ℕ)) ⊢ Weights c X := by
  unfold IdleSlot
  iintro ⟨⟨IQ00, IQ10, IQ20, IQ30, ⟨IW100, IW101, IW102, IW103⟩, IW200, IW201⟩, ⟨IQ01, IQ11, IQ21, IQ31, ⟨IW110, IW111, IW112, IW113⟩, IW210, IW211⟩⟩
  ihave HD := (gatherW1 c X) $$ [IW100 IW101 IW102 IW103 IW110 IW111 IW112 IW113]
  · iframe IW100 IW101 IW102 IW103 IW110 IW111 IW112 IW113
  icases HD with ⟨S0, A3, SW100, SW101, SW102, SW103, SW110, SW111, SW112, SW113⟩
  ihave HD := (gatherW2 c X) $$ [IW200 IW201 IW210 IW211]
  · iframe IW200 IW201 IW210 IW211
  icases HD with ⟨S1, A6, SW200, SW201, SW210, SW211⟩
  ihave HD := (gatherQ0 c X) $$ [IQ00 IQ01]
  · iframe IQ00 IQ01
  icases HD with ⟨S2, A4, SQ00, SQ01⟩
  ihave HD := (gatherQ1 c X) $$ [IQ10 IQ11]
  · iframe IQ10 IQ11
  icases HD with ⟨S3, A5, SQ10, SQ11⟩
  ihave HD := (gatherQ2 c X) $$ [IQ20 IQ21]
  · iframe IQ20 IQ21
  icases HD with ⟨S4, A7, SQ20, SQ21⟩
  ihave HD := (gatherQ3 c X) $$ [IQ30 IQ31]
  · iframe IQ30 IQ31
  icases HD with ⟨S5, A8, SQ30, SQ31⟩
  unfold Weights
  iframe A3 A4 A5 A6 A7 A8 S0 S1 S2 S3 S4 S5 SW100 SW101 SW102 SW103 SW110 SW111 SW112 SW113 SW200 SW201 SW210 SW211 SQ00 SQ10 SQ20 SQ30 SQ01 SQ11 SQ21 SQ31

theorem weights_gather' (X : (b : Ref sig .tc) → Buf (Elt F) ((c : Thread nD τ).loc b)) (n : ℕ) : (iprop(IdleSlot c X (sl n) ∗ IdleSlot c X (sl (n + 1))) : sProp (MT nD τ sig Unit (Elt F) ℕ (Pipeline.UD sig nD τ) ℕ)) ⊢ Weights c X := by
  rcases Nat.mod_two_eq_zero_or_one n with h | h
  · rw [show sl n = 0 from Fin.ext h, show sl (n + 1) = 1 from Fin.ext (by show (n + 1) % 2 = 1; omega)]
    exact weights_gather c X
  · rw [show sl n = 1 from Fin.ext h, show sl (n + 1) = 0 from Fin.ext (by show (n + 1) % 2 = 0; omega)]
    iintro ⟨H1, H0⟩
    iapply (weights_gather c X)
    iframe H0 H1

/-- The experts of the list, in order. -/
def expert (v0 : Vec F S96x8 .i32) (k : ℕ) : Fin 16 := (act (F := F) v0 16).getD k 0

/-- The value the body leaves in its output window. -/
def outVal (X : (b : Ref sig .tc) → Buf (Elt F) ((c : Thread nD τ).loc b)) (x : Vec F S96x3072 .bf16) (v0 : Vec F S96x8 .i32) (v2 : Vec F S96x8 .f32) : Vec F S96x3072 .bf16 :=
  k0_pay23 (expFold c X (expert (F := F) v0) x (cwAll v0 v2) (k0_pay6 (F := F)) (act (F := F) v0 16).length)

theorem body_run [Facts] (X : (b : Ref sig .tc) → Buf (Elt F) ((c : Thread nD τ).loc b)) (x : Vec F S96x3072 .bf16) (v0 : Vec F S96x8 .i32) (v2 : Vec F S96x8 .f32) (g3 : Vec F S96x3072 .bf16)
    {Q : PUnit → sProp (MT nD τ sig Unit (Elt F) ℕ (Pipeline.UD sig nD τ) ℕ)} {𝒱 : Variants} {bd : Option 𝒱.V} {defs : Defs nD τ sig (Elt F) Λ₀} :
    iprop(((c : Thread nD τ).loc cc0_stg0_0 ↦{fullShare} (x : Buf (Elt F) ((c : Thread nD τ).loc cc0_stg0_0))) ∗ ((c : Thread nD τ).loc cc0_stg1_0 ↦{fullShare} (v0 : Buf (Elt F) ((c : Thread nD τ).loc cc0_stg1_0))) ∗ ((c : Thread nD τ).loc cc0_stg2_0 ↦{fullShare} (v2 : Buf (Elt F) ((c : Thread nD τ).loc cc0_stg2_0))) ∗ ((c : Thread nD τ).loc cc0_stg3_0 ↦{fullShare} (g3 : Buf (Elt F) ((c : Thread nD τ).loc cc0_stg3_0))) ∗ BodyRes c X ∗ (∃ W, owes (c : Thread nD τ) 0 W))
    ⊢ iprop((((c : Thread nD τ).loc cc0_stg0_0 ↦{fullShare} (x : Buf (Elt F) ((c : Thread nD τ).loc cc0_stg0_0))) -∗ ((c : Thread nD τ).loc cc0_stg1_0 ↦{fullShare} (v0 : Buf (Elt F) ((c : Thread nD τ).loc cc0_stg1_0))) -∗ ((c : Thread nD τ).loc cc0_stg2_0 ↦{fullShare} (v2 : Buf (Elt F) ((c : Thread nD τ).loc cc0_stg2_0))) -∗ ((c : Thread nD τ).loc cc0_stg3_0 ↦{fullShare} ((outVal c X x v0 v2 : Vec F S96x3072 .bf16) : Buf (Elt F) ((c : Thread nD τ).loc cc0_stg3_0))) -∗ BodyRes c X -∗ (∃ W, owes (c : Thread nD τ) 0 W) -∗ Q ⟨⟩)
      -∗ wp frame (wpE defs 𝒱 (c : Thread nD τ) bd) Set.univ (cc0_moe_swiglu (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16) Q) := by
  unfold BodyRes
  iintro ⟨Hx, H1, H2, H3, ⟨A3, A4, A5, A6, A7, A8, S0, S1, S2, S3, S4, S5, S6, S7, S8, S9, S10, S11, S12, S13, SW100, SW101, SW102, SW103, SW110, SW111, SW112, SW113, SW200, SW201, SW210, SW211, SQ00, SQ10, SQ20, SQ30, SQ01, SQ11, SQ21, SQ31⟩, HO⟩ HQ
  icases S11 with ⟨%g11, S11⟩
  icases S12 with ⟨%g12, S12⟩
  icases S13 with ⟨%g13, S13⟩
  rw [cc0_moe_swiglu_eq_skeleton]
  unfold cc0_moe_swiglu_skel
  iapply (loadAll_cc0_stg1_0 c rfl v0) $$ H1
  iintro H1
  iapply (loadAll_cc0_stg2_0 c rfl v2) $$ H2
  iintro H2
  iapply (t1_loop_run c v0 v2 g12 g13) $$ [S12 S13]
  · iframe S12 S13
  iintro %L %hL0 S12 S13
  ihave HW := (weights_deal c X) $$ [A3 A4 A5 A6 A7 A8 S0 S1 S2 S3 S4 S5 SW100 SW101 SW102 SW103 SW110 SW111 SW112 SW113 SW200 SW201 SW210 SW211 SQ00 SQ10 SQ20 SQ30 SQ01 SQ11 SQ21 SQ31]
  · unfold Weights
    iframe A3 A4 A5 A6 A7 A8 S0 S1 S2 S3 S4 S5 SW100 SW101 SW102 SW103 SW110 SW111 SW112 SW113 SW200 SW201 SW210 SW211 SQ00 SQ10 SQ20 SQ30 SQ01 SQ11 SQ21 SQ31
  icases HW with ⟨Hi0, Hi1⟩
  have hlen : (act (F := F) v0 16).length ≤ 16 := act_length v0 16
  obtain ⟨nF, hnF⟩ : ∃ nF : Fin 17, nF.val = (act (F := F) v0 16).length := ⟨⟨_, by omega⟩, rfl⟩
  have hL : ∀ k, k < nF.val → lst (F := F) L k = BitVec.ofNat 32 (expert (F := F) v0 k).val := fun k hk => hL0 k (hnF ▸ hk)
  unfold outVal
  rw [← hnF]
  iapply (wp_assume 𝒱 (c : Thread nD τ) bd Set.univ (chk3_of nF))
  by_cases h1 : k0_cond1 (BitVec.ofNat 32 nF.val) = 1#1
  · have hpos : 0 < nF.val := (cond1_iff nF).1 h1
    have sr : ∀ (f : Fin 3 → ℕ) (b : ℕ), f = ![(BitVec.ofNat 32 (expert (F := F) v0 0).val).toNat, 0, b] → f = ![(expert (F := F) v0 0).val, 0, b] := fun f b h => h.trans (by rw [ofE])
    have h21 : lst (F := F) L 0 = BitVec.ofNat 32 (expert (F := F) v0 0).val := hL 0 hpos
    simp only [dif_pos h1]
    rw [k0_part1_eq_skeleton, k0_part2_eq_skeleton, k0_part3_eq_skeleton]
    unfold k0_part1_skel k0_part2_skel k0_part3_skel
    iapply (load_sm c L 0 rfl) $$ S13
    iintro S13
    simp only [ret_bind', h21]
    iapply (wp_assume 𝒱 (c : Thread nD τ) bd Set.univ (chk2_of nF (expert (F := F) v0 0)))
    unfold IdleSlot
    icases Hi0 with ⟨IQ00, IQ10, IQ20, IQ30, ⟨IW100, IW101, IW102, IW103⟩, IW200, IW201⟩
    iapply (startQ0 c X (sl 0) (expert (F := F) v0 0) rfl (sr (k0_off4 _) _ rfl) rfl) $$ IQ00
    iintro IQ00
    iapply (startQ1 c X (sl 0) (expert (F := F) v0 0) rfl (sr (k0_off5 _) _ rfl) rfl) $$ IQ10
    iintro IQ10
    iapply (startQ2 c X (sl 0) (expert (F := F) v0 0) rfl (sr (k0_off6 _) _ rfl) rfl) $$ IQ20
    iintro IQ20
    iapply (startQ3 c X (sl 0) (expert (F := F) v0 0) rfl (sr (k0_off7 _) _ rfl) rfl) $$ IQ30
    iintro IQ30
    iapply (startW1a c X (sl 0) 0 (expert (F := F) v0 0) rfl (sr (k0_off8 _) _ rfl) rfl) $$ IW100
    iintro IW100
    iapply (startW1b c X (sl 0) 0 (expert (F := F) v0 0) rfl (sr (k0_off9 _) _ rfl) rfl) $$ IW100
    iintro IW100
    iapply (startW1a c X (sl 0) 1 (expert (F := F) v0 0) rfl (sr (k0_off10 _) _ rfl) rfl) $$ IW101
    iintro IW101
    iapply (startW1b c X (sl 0) 1 (expert (F := F) v0 0) rfl (sr (k0_off11 _) _ rfl) rfl) $$ IW101
    iintro IW101
    iapply (startW1a c X (sl 0) 2 (expert (F := F) v0 0) rfl (sr (k0_off12 _) _ rfl) rfl) $$ IW102
    iintro IW102
    iapply (startW1b c X (sl 0) 2 (expert (F := F) v0 0) rfl (sr (k0_off13 _) _ rfl) rfl) $$ IW102
    iintro IW102
    iapply (startW1a c X (sl 0) 3 (expert (F := F) v0 0) rfl (sr (k0_off14 _) _ rfl) rfl) $$ IW103
    iintro IW103
    iapply (startW1b c X (sl 0) 3 (expert (F := F) v0 0) rfl (sr (k0_off15 _) _ rfl) rfl) $$ IW103
    iintro IW103
    iapply (startW2 c X (sl 0) 0 (expert (F := F) v0 0) rfl (sr (k0_off16 _) _ rfl) rfl) $$ IW200
    iintro IW200
    iapply (startW2 c X (sl 0) 1 (expert (F := F) v0 0) rfl (sr (k0_off17 _) _ rfl) rfl) $$ IW201
    iintro IW201
    iapply (loadAll_cc0_scratch11 c rfl g11) $$ S11
    iintro S11
    iapply (storeAll_cc0_scratch11 c rfl g11 (k0_pay6 (F := F))) $$ S11
    iintro S11
    iapply (t2_loop_run c X (expert (F := F) v0) nF x (cwAll v0 v2) L hL (chk3_of nF) (k0_pay6 (F := F))) $$ [Hx S12 S13 S6 S7 S8 S9 S10 S11 IQ00 IQ10 IQ20 IQ30 IW100 IW101 IW102 IW103 IW200 IW201 Hi1 HO]
    · unfold ExpRes
      isplitl [Hx S12 S13 S6 S7 S8 S9 S10 S11]
      · isplitl [Hx]; · iexact Hx
        isplitl [S12]; · iexact S12
        isplitl [S13]; · iexact S13
        isplitl [S6]; · iexact S6
        isplitl [S7]; · iexact S7
        isplitl [S8]; · iexact S8
        isplitl [S9]; · iexact S9
        isplitl [S10]; · iexact S10
        iexact S11
      isplitr [Hi1 HO]
      swap
      · unfold IdleSlot
        isplitl [Hi1]; · iexact Hi1
        iexact HO
      unfold NextSlot
      rw [if_pos hpos]
      unfold FlySlot
      iframe IQ00 IQ10 IQ20 IQ30 IW100 IW101 IW102 IW103 IW200 IW201
    unfold ExpRes
    iintro ⟨Hx, S12, S13, S6, S7, S8, S9, S10, S11⟩ HA HB HO
    iapply (Scf.wp_for_bind frame (wpE defs 𝒱 (c : Thread nD τ) bd) Set.univ (k0_t9_loop (BitVec.ofNat 32 nF.val)).lb (k0_t9_loop (BitVec.ofNat 32 nF.val)).ub (k0_t9_loop (BitVec.ofNat 32 nF.val)).st (k0_t9_ok (BitVec.ofNat 32 nF.val) (chk3_of nF)) ⟨⟩ _
      (fun _ _ => ((c : Thread nD τ).loc cc0_scratch11 ↦{fullShare} ((expFold c X (expert (F := F) v0) x (cwAll v0 v2) (k0_pay6 (F := F)) nF.val : Vec F S96x3072 .f32) : Buf (Elt F) ((c : Thread nD τ).loc cc0_scratch11)))) (fun k _ => absurd (lt_of_lt_of_eq k.isLt (trips9 nF)) (Nat.not_lt_zero _))) $$ [S11]
    · iexact S11
    iintro %a9 S11
    iapply (loadAll_cc0_scratch11 c rfl _) $$ S11
    iintro S11
    iapply (loadAll_cc0_stg3_0 c rfl g3) $$ H3
    iintro H3
    iapply (storeAll_cc0_stg3_0 c rfl g3 (k0_pay23 (expFold c X (expert (F := F) v0) x (cwAll v0 v2) (k0_pay6 (F := F)) nF.val))) $$ H3
    iintro H3
    iapply wp_ret_of
    ihave HW := (weights_gather' c X nF.val) $$ [HA HB]
    · iframe HA HB
    unfold Weights
    icases HW with ⟨A3, A4, A5, A6, A7, A8, S0, S1, S2, S3, S4, S5, SW100, SW101, SW102, SW103, SW110, SW111, SW112, SW113, SW200, SW201, SW210, SW211, SQ00, SQ10, SQ20, SQ30, SQ01, SQ11, SQ21, SQ31⟩
    iapply HQ $$ [Hx] [H1] [H2] [H3] [A3 A4 A5 A6 A7 A8 S0 S1 S2 S3 S4 S5 SW100 SW101 SW102 SW103 SW110 SW111 SW112 SW113 SW200 SW201 SW210 SW211 SQ00 SQ10 SQ20 SQ30 SQ01 SQ11 SQ21 SQ31 S6 S7 S8 S9 S10 S11 S12 S13] [HO]
    · iexact Hx
    · iexact H1
    · iexact H2
    · iexact H3
    · try unfold BodyRes
      iframe A3 A4 A5 A6 A7 A8 S0 S1 S2 S3 S4 S5 SW100 SW101 SW102 SW103 SW110 SW111 SW112 SW113 SW200 SW201 SW210 SW211 SQ00 SQ10 SQ20 SQ30 SQ01 SQ11 SQ21 SQ31
      isplitl [S6]; · iexact S6
      isplitl [S7]; · iexact S7
      isplitl [S8]; · iexact S8
      isplitl [S9]; · iexact S9
      isplitl [S10]; · iexact S10
      isplitl [S11]; · iexists _; iexact S11
      isplitl [S12]; · iexists _; iexact S12
      iexists _; iexact S13
    · iexact HO
  · have hpos : ¬ 0 < nF.val := fun h => h1 ((cond1_iff nF).2 h)
    simp only [dif_neg h1]
    iapply (loadAll_cc0_scratch11 c rfl g11) $$ S11
    iintro S11
    iapply (storeAll_cc0_scratch11 c rfl g11 (k0_pay6 (F := F))) $$ S11
    iintro S11
    iapply (t2_loop_run c X (expert (F := F) v0) nF x (cwAll v0 v2) L hL (chk3_of nF) (k0_pay6 (F := F))) $$ [Hx S12 S13 S6 S7 S8 S9 S10 S11 Hi0 Hi1 HO]
    · unfold ExpRes
      isplitl [Hx S12 S13 S6 S7 S8 S9 S10 S11]
      · isplitl [Hx]; · iexact Hx
        isplitl [S12]; · iexact S12
        isplitl [S13]; · iexact S13
        isplitl [S6]; · iexact S6
        isplitl [S7]; · iexact S7
        isplitl [S8]; · iexact S8
        isplitl [S9]; · iexact S9
        isplitl [S10]; · iexact S10
        iexact S11
      isplitr [Hi1 HO]
      swap
      · unfold IdleSlot
        isplitl [Hi1]; · iexact Hi1
        iexact HO
      unfold NextSlot
      rw [if_neg hpos]
      iexact Hi0
    unfold ExpRes
    iintro ⟨Hx, S12, S13, S6, S7, S8, S9, S10, S11⟩ HA HB HO
    iapply (Scf.wp_for_bind frame (wpE defs 𝒱 (c : Thread nD τ) bd) Set.univ (k0_t9_loop (BitVec.ofNat 32 nF.val)).lb (k0_t9_loop (BitVec.ofNat 32 nF.val)).ub (k0_t9_loop (BitVec.ofNat 32 nF.val)).st (k0_t9_ok (BitVec.ofNat 32 nF.val) (chk3_of nF)) ⟨⟩ _
      (fun _ _ => ((c : Thread nD τ).loc cc0_scratch11 ↦{fullShare} ((expFold c X (expert (F := F) v0) x (cwAll v0 v2) (k0_pay6 (F := F)) nF.val : Vec F S96x3072 .f32) : Buf (Elt F) ((c : Thread nD τ).loc cc0_scratch11)))) (fun k _ => absurd (lt_of_lt_of_eq k.isLt (trips9 nF)) (Nat.not_lt_zero _))) $$ [S11]
    · iexact S11
    iintro %a9 S11
    iapply (loadAll_cc0_scratch11 c rfl _) $$ S11
    iintro S11
    iapply (loadAll_cc0_stg3_0 c rfl g3) $$ H3
    iintro H3
    iapply (storeAll_cc0_stg3_0 c rfl g3 (k0_pay23 (expFold c X (expert (F := F) v0) x (cwAll v0 v2) (k0_pay6 (F := F)) nF.val))) $$ H3
    iintro H3
    iapply wp_ret_of
    ihave HW := (weights_gather' c X nF.val) $$ [HA HB]
    · iframe HA HB
    unfold Weights
    icases HW with ⟨A3, A4, A5, A6, A7, A8, S0, S1, S2, S3, S4, S5, SW100, SW101, SW102, SW103, SW110, SW111, SW112, SW113, SW200, SW201, SW210, SW211, SQ00, SQ10, SQ20, SQ30, SQ01, SQ11, SQ21, SQ31⟩
    iapply HQ $$ [Hx] [H1] [H2] [H3] [A3 A4 A5 A6 A7 A8 S0 S1 S2 S3 S4 S5 SW100 SW101 SW102 SW103 SW110 SW111 SW112 SW113 SW200 SW201 SW210 SW211 SQ00 SQ10 SQ20 SQ30 SQ01 SQ11 SQ21 SQ31 S6 S7 S8 S9 S10 S11 S12 S13] [HO]
    · iexact Hx
    · iexact H1
    · iexact H2
    · iexact H3
    · try unfold BodyRes
      iframe A3 A4 A5 A6 A7 A8 S0 S1 S2 S3 S4 S5 SW100 SW101 SW102 SW103 SW110 SW111 SW112 SW113 SW200 SW201 SW210 SW211 SQ00 SQ10 SQ20 SQ30 SQ01 SQ11 SQ21 SQ31
      isplitl [S6]; · iexact S6
      isplitl [S7]; · iexact S7
      isplitl [S8]; · iexact S8
      isplitl [S9]; · iexact S9
      isplitl [S10]; · iexact S10
      isplitl [S11]; · iexists _; iexact S11
      isplitl [S12]; · iexists _; iexact S12
      iexists _; iexact S13
    · iexact HO

end Cert.Kernel.Hand

end
-- ==== Proof.BitsFrame.lean ====
/-
  The kernel's run from any launch memory: the staged pipeline around the body's run. It terminates without a fault, every
  argument ends as launched, every counter ends at zero, and the result is the body's value.
-/
module

public import proofs.«01_k».proof.Proof.Gen.Kernel.Frame
public import proofs.«01_k».proof.Proof.BitsBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local instance] Gen.facts

/-! ## The host lines around the region, at the algebra of a kernel with copies of its own -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem ends_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem ends_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem ends_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem ends_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem ends_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem ends_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem ends_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem ends_main_arg7 (dats : (p : Fin _) → (c : Dev nD) → Dat τ (Elt F) Unit ℕ (Pipeline.UD sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem ends_main_arg8 (dats : (p : Fin _) → (c : Dev nD) → Dat τ (Elt F) Unit ℕ (Pipeline.UD sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-! ## The windows' blocks -/

/-- What window 0's staging buffer holds when the body runs. -/
theorem staged0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- What window 1's staging buffer holds when the body runs. -/
theorem staged0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- What window 2's staging buffer holds when the body runs. -/
theorem staged0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's own counters and the arrays it reads where they lie -/

/-- The counters of the body's own copies. -/
abbrev osem0 : Fin 20 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23] : Fin 20 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c osem0 [0, 1, 2, 3, 4, 5, 6, 7, 8, 9, 10, 11, 12, 13, 14, 15, 16, 17, 18, 19] (by decide) (by decide)]; rfl
/-- The weight arrays. -/
def H0 : Finset (Ref sig .tc) := {main_arg3, main_arg4, main_arg5, main_arg6, main_arg7, main_arg8}
theorem H0_sub : H0 ⊆ Pipeline.restRefs sig spec0 := by decide
theorem hbmPts0_eq (c : Dev nD) :
    (bigSep H0 (fun b => ((c : Thread nD τ).loc b) ↦{fullShare} V m c b) : sProp 𝕄) = iprop((((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8)) := by
  rw [BI.bigSep_eq_bigSepL_of_eq [main_arg3, main_arg4, main_arg5, main_arg6, main_arg7, main_arg8] (by decide) (by decide)]; rfl
theorem PhiD0_eq (c : Dev nD) :
    (Pipeline.ΦD osem0 spec0 H0 (V m) c : sProp 𝕄)
      = iprop(iprop((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f) ∗ (∃ f, ((c : Thread nD τ).loc cc0_scratch8) ↦{fullShare} f) ∗ (∃ f, ((c : Thread nD τ).loc cc0_scratch9) ↦{fullShare} f) ∗ (∃ f, ((c : Thread nD τ).loc cc0_scratch10) ↦{fullShare} f) ∗ (∃ f, ((c : Thread nD τ).loc cc0_scratch11) ↦{fullShare} f) ∗ (∃ f, ((c : Thread nD τ).loc cc0_scratch12) ↦{fullShare} f) ∗ (∃ f, ((c : Thread nD τ).loc cc0_scratch13) ↦{fullShare} f)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop((((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8))) := by
  rw [Pipeline.ΦD_eq, scopedRest0_eq, ownSems00_eq, hbmPts0_eq]

/-- The lines after the region touch none of the weight arrays. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb hmem
  have hb' : b ≠ main_v3 ∧ b ≠ main_v4 := (by decide : ∀ b ∈ H0, b ≠ main_v3 ∧ b ≠ main_v4) b hb
  rw [StableHlo.reshape_bufs, Finset.mem_insert, Finset.mem_singleton] at hmem
  rcases hmem with h | h
  · exact hb'.1 (Proc.devRef_injective _ h)
  · exact hb'.2 (Proc.devRef_injective _ h)

theorem phi_body (c : Dev nD) : (Pipeline.ΦD osem0 spec0 H0 (V m) c : sProp 𝕄) ⊢ iprop(BodyRes c (V m c) ∗ (∃ r, prngReg c r)) := by
  rw [PhiD0_eq]
  unfold BodyRes
  iintro ⟨⟨S0, S1, S2, S3, S4, S5, S6, S7, S8, S9, S10, S11, S12, S13⟩, Hg, ⟨M4, M5, M6, M7, M8, M9, M10, M11, M12, M13, M14, M15, M16, M17, M18, M19, M20, M21, M22, M23⟩, ⟨A3, A4, A5, A6, A7, A8⟩⟩
  isplitl [S0 S1 S2 S3 S4 S5 S6 S7 S8 S9 S10 S11 S12 S13 M4 M5 M6 M7 M8 M9 M10 M11 M12 M13 M14 M15 M16 M17 M18 M19 M20 M21 M22 M23 A3 A4 A5 A6 A7 A8]
  ·
    isplitl [A3]; · iexact A3
    isplitl [A4]; · iexact A4
    isplitl [A5]; · iexact A5
    isplitl [A6]; · iexact A6
    isplitl [A7]; · iexact A7
    isplitl [A8]; · iexact A8
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [M4]; · iexact M4
    isplitl [M5]; · iexact M5
    isplitl [M6]; · iexact M6
    isplitl [M7]; · iexact M7
    isplitl [M8]; · iexact M8
    isplitl [M9]; · iexact M9
    isplitl [M10]; · iexact M10
    isplitl [M11]; · iexact M11
    isplitl [M12]; · iexact M12
    isplitl [M13]; · iexact M13
    isplitl [M14]; · iexact M14
    isplitl [M15]; · iexact M15
    isplitl [M16]; · iexact M16
    isplitl [M17]; · iexact M17
    isplitl [M18]; · iexact M18
    isplitl [M19]; · iexact M19
    isplitl [M20]; · iexact M20
    isplitl [M21]; · iexact M21
    isplitl [M22]; · iexact M22
    iexact M23
  iexact Hg
theorem body_phi (c : Dev nD) : iprop(BodyRes c (V m c) ∗ (∃ r, prngReg c r)) ⊢ (Pipeline.ΦD osem0 spec0 H0 (V m) c : sProp 𝕄) := by
  rw [PhiD0_eq]
  unfold BodyRes
  iintro ⟨⟨A3, A4, A5, A6, A7, A8, S0, S1, S2, S3, S4, S5, S6, S7, S8, S9, S10, S11, S12, S13, M4, M5, M6, M7, M8, M9, M10, M11, M12, M13, M14, M15, M16, M17, M18, M19, M20, M21, M22, M23⟩, Hg⟩
  isplitl [S0 S1 S2 S3 S4 S5 S6 S7 S8 S9 S10 S11 S12 S13]
  ·
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  isplitl [Hg]; · iexact Hg
  isplitl [M4 M5 M6 M7 M8 M9 M10 M11 M12 M13 M14 M15 M16 M17 M18 M19 M20 M21 M22 M23]
  ·
    isplitl [M4]; · iexact M4
    isplitl [M5]; · iexact M5
    isplitl [M6]; · iexact M6
    isplitl [M7]; · iexact M7
    isplitl [M8]; · iexact M8
    isplitl [M9]; · iexact M9
    isplitl [M10]; · iexact M10
    isplitl [M11]; · iexact M11
    isplitl [M12]; · iexact M12
    isplitl [M13]; · iexact M13
    isplitl [M14]; · iexact M14
    isplitl [M15]; · iexact M15
    isplitl [M16]; · iexact M16
    isplitl [M17]; · iexact M17
    isplitl [M18]; · iexact M18
    isplitl [M19]; · iexact M19
    isplitl [M20]; · iexact M20
    isplitl [M21]; · iexact M21
    isplitl [M22]; · iexact M22
    iexact M23
  isplitl [A3]; · iexact A3
  isplitl [A4]; · iexact A4
  isplitl [A5]; · iexact A5
  isplitl [A6]; · iexact A6
  isplitl [A7]; · iexact A7
  iexact A8

/-! ## The proof data -/

/-- The block of a staged window, which is the whole array. -/
abbrev inX (c : Dev nD) (t : Fin cfg0.N) : Vec F S96x3072 .bf16 := iblk m c 0 t
abbrev inIds (c : Dev nD) (t : Fin cfg0.N) : Vec F S96x8 .i32 := iblk m c 1 t
abbrev inWts (c : Dev nD) (t : Fin cfg0.N) : Vec F S96x8 .f32 := iblk m c 2 t
/-- What the body leaves in the result's staging buffer. -/
def outBlk (c : Dev nD) (t : Fin cfg0.N) : Vec F S96x3072 .bf16 := outVal c (V m c) (inX m c t) (inIds m c t) (inWts m c t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlk m c t := by dsimp only [dats]

theorem before0_0 (c : Dev nD) (t : Fin cfg0.N) (d) : (dats m 0 c).before 0 t d = iblk m c 0 t :=
  staged0_0_of m (dats m 0 c) (A_eq m c 0) (after0_0 m c) t d
theorem before0_1 (c : Dev nD) (t : Fin cfg0.N) (d) : (dats m 0 c).before 1 t d = iblk m c 1 t :=
  staged0_1_of m (dats m 0 c) (A_eq m c 1) (after0_1 m c) t d
theorem before0_2 (c : Dev nD) (t : Fin cfg0.N) (d) : (dats m 0 c).before 2 t d = iblk m c 2 t :=
  staged0_2_of m (dats m 0 c) (A_eq m c 2) (after0_2 m c) t d

/-! ## The body obligation -/

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem owns0_0 (c : Dev nD) (d : Vec F S96x3072 .bf16) :
    (owns (c : Thread nD τ) (st0_0 t0_0) fullShare d : sProp 𝕄) = ((c : Thread nD τ).loc cc0_stg0_0 ↦{fullShare} (d : Buf (Elt F) ((c : Thread nD τ).loc cc0_stg0_0))) :=
  owns_whole (c : Thread nD τ) cc0_stg0_0 fullShare d
theorem owns0_1 (c : Dev nD) (d : Vec F S96x8 .i32) :
    (owns (c : Thread nD τ) (st0_1 t0_0) fullShare d : sProp 𝕄) = ((c : Thread nD τ).loc cc0_stg1_0 ↦{fullShare} (d : Buf (Elt F) ((c : Thread nD τ).loc cc0_stg1_0))) :=
  owns_whole (c : Thread nD τ) cc0_stg1_0 fullShare d
theorem owns0_2 (c : Dev nD) (d : Vec F S96x8 .f32) :
    (owns (c : Thread nD τ) (st0_2 t0_0) fullShare d : sProp 𝕄) = ((c : Thread nD τ).loc cc0_stg2_0 ↦{fullShare} (d : Buf (Elt F) ((c : Thread nD τ).loc cc0_stg2_0))) :=
  owns_whole (c : Thread nD τ) cc0_stg2_0 fullShare d
theorem owns0_3 (c : Dev nD) (d : Vec F S96x3072 .bf16) :
    (owns (c : Thread nD τ) (st0_3 t0_0) fullShare d : sProp 𝕄) = ((c : Thread nD τ).loc cc0_stg3_0 ↦{fullShare} (d : Buf (Elt F) ((c : Thread nD τ).loc cc0_stg3_0))) :=
  owns_whole (c : Thread nD τ) cc0_stg3_0 fullShare d

theorem pre_run (c : Dev nD) : bodyPre m c t0_0 ⊢ iprop((((c : Thread nD τ).loc cc0_stg0_0 ↦{fullShare} (inX m c t0_0 : Buf (Elt F) ((c : Thread nD τ).loc cc0_stg0_0)))
      ∗ ((c : Thread nD τ).loc cc0_stg1_0 ↦{fullShare} (inIds m c t0_0 : Buf (Elt F) ((c : Thread nD τ).loc cc0_stg1_0)))
      ∗ ((c : Thread nD τ).loc cc0_stg2_0 ↦{fullShare} (inWts m c t0_0 : Buf (Elt F) ((c : Thread nD τ).loc cc0_stg2_0)))
      ∗ (∃ g3 : Vec F S96x3072 .bf16, ((c : Thread nD τ).loc cc0_stg3_0 ↦{fullShare} (g3 : Buf (Elt F) ((c : Thread nD τ).loc cc0_stg3_0))))
      ∗ BodyRes c (V m c) ∗ (∃ W, owes (c : Thread nD τ) 0 W)) ∗ (∃ r, prngReg c r)) := by
  unfold bodyPre
  rw [show (dats m 0 c).Φ (t0_0 : Fin cfg0.N).castSucc = Pipeline.ΦD osem0 spec0 H0 (V m) c from rfl]
  unfold Dat.owesAt Pipeline.owesWithin
  rw [show (dats m 0 c).owed (t0_0 : Fin cfg0.N).castSucc = 0 from rfl]
  iintro ⟨HΦ, ⟨%W, -, HW⟩, ⟨%d0, H0⟩, ⟨%d1, H1⟩, ⟨%d2, H2⟩, ⟨%d3, H3⟩⟩
  rw [before0_0, before0_1, before0_2]
  ihave HB := (phi_body m c) $$ HΦ
  icases HB with ⟨HB, Hg⟩
  isplitr [Hg]
  swap; · iexact Hg
  isplitl [H0]; · iapply (ent_of_eq (owns0_0 c (inX m c t0_0))); iexact H0
  isplitl [H1]; · iapply (ent_of_eq (owns0_1 c (inIds m c t0_0))); iexact H1
  isplitl [H2]; · iapply (ent_of_eq (owns0_2 c (inWts m c t0_0))); iexact H2
  isplitl [H3]; · iexists ((dats m 0 c).before 3 t0_0 d3); iapply (ent_of_eq (owns0_3 c ((dats m 0 c).before 3 t0_0 d3))); iexact H3
  isplitl [HB]; · iexact HB
  iexists W; iexact HW

theorem post_run (c : Dev nD) : iprop(((c : Thread nD τ).loc cc0_stg0_0 ↦{fullShare} (inX m c t0_0 : Buf (Elt F) ((c : Thread nD τ).loc cc0_stg0_0)))
      ∗ ((c : Thread nD τ).loc cc0_stg1_0 ↦{fullShare} (inIds m c t0_0 : Buf (Elt F) ((c : Thread nD τ).loc cc0_stg1_0)))
      ∗ ((c : Thread nD τ).loc cc0_stg2_0 ↦{fullShare} (inWts m c t0_0 : Buf (Elt F) ((c : Thread nD τ).loc cc0_stg2_0)))
      ∗ ((c : Thread nD τ).loc cc0_stg3_0 ↦{fullShare} (outBlk m c t0_0 : Buf (Elt F) ((c : Thread nD τ).loc cc0_stg3_0)))
      ∗ BodyRes c (V m c) ∗ (∃ W, owes (c : Thread nD τ) 0 W) ∗ (∃ r, prngReg c r)) ⊢ bodyPost m c t0_0 := by
  unfold bodyPost
  rw [show (dats m 0 c).Φ (t0_0 : Fin cfg0.N).succ = Pipeline.ΦD osem0 spec0 H0 (V m) c from rfl]
  unfold Dat.owesAt Pipeline.owesWithin
  rw [show (dats m 0 c).owed (t0_0 : Fin cfg0.N).succ = 0 from rfl]
  rw [after0_0, after0_1, after0_2, after0_3]
  iintro ⟨H0, H1, H2, H3, HB, ⟨%W, HW⟩, Hg⟩
  isplitl [HB Hg]
  · iapply (body_phi m c)
    isplitl [HB]; · iexact HB
    iexact Hg
  isplitl [HW]
  · iexists W; isplitr
    · ipureintro; exact fun _ _ => Or.inl trivial
    iexact HW
  isplitl [H0]; · iapply (ent_of_eq (owns0_0 c (inX m c t0_0)).symm); iexact H0
  isplitl [H1]; · iapply (ent_of_eq (owns0_1 c (inIds m c t0_0)).symm); iexact H1
  isplitl [H2]; · iapply (ent_of_eq (owns0_2 c (inWts m c t0_0)).symm); iexact H2
  iapply (ent_of_eq (owns0_3 c (outBlk m c t0_0)).symm); iexact H3

theorem sound_body (c : Dev nD) (t : Fin cfg0.N) :
    bodyPre m c t ⊢ wp frame (wpE (defs₀ (F := F)) Variants.none c none) Set.univ (bodyAt0 t) (fun _ => bodyPost m c t) := by
  obtain rfl := fin_N0 t
  refine (pre_run m c).trans ?_
  iintro ⟨⟨H0, H1, H2, ⟨%g3, H3⟩, HB, HO⟩, Hg⟩
  iapply (body_run (Q := fun _ => bodyPost m c t0_0) c (V m c) (inX m c t0_0) (inIds m c t0_0) (inWts m c t0_0) g3) $$ [H0 H1 H2 H3 HB HO]
  · isplitl [H0]; · iexact H0
    isplitl [H1]; · iexact H1
    isplitl [H2]; · iexact H2
    isplitl [H3]; · iexact H3
    isplitl [HB]; · iexact HB
    iexact HO
  iintro H0 H1 H2 H3 HB HO
  iapply (post_run m c)
  isplitl [H0]; · iexact H0
  isplitl [H1]; · iexact H1
  isplitl [H2]; · iexact H2
  isplitl [H3]; · iexact H3
  isplitl [HB]; · iexact HB
  isplitl [HO]; · iexact HO
  iexact Hg

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := fun _ => .rfl) (hout := fun _ => .rfl)

/-- What the result holds in the end: the reshaped block the body left. -/
theorem run_value : θ_run defs (onTc (τ := τ) (main (F := F))) ⟨m, fun _ => 0, ρ⟩ (fun r => (∀ c : Dev nD,
      r.2.mem ((c.tc : Thread nD τ).loc main_v4) = Pipeline.afterTail₀ cfgs (dats m) 0 (V0 m) [hostOps1] c main_v4
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  (θ_run defs _ _).mono (fun _ h => ⟨fun c => ⟨(h.1 c).2 main_v4 (Pipeline.mem_restRefs_of main_v4 (by decide) (by decide)),
      ((h.1 c).2 main_arg0 (Pipeline.mem_restRefs_of main_arg0 (by decide) (by decide))).trans (ends_main_arg0 m (dats m) c), ((h.1 c).2 main_arg1 (Pipeline.mem_restRefs_of main_arg1 (by decide) (by decide))).trans (ends_main_arg1 m (dats m) c), ((h.1 c).2 main_arg2 (Pipeline.mem_restRefs_of main_arg2 (by decide) (by decide))).trans (ends_main_arg2 m (dats m) c), ((h.1 c).2 main_arg3 (Pipeline.mem_restRefs_of main_arg3 (by decide) (by decide))).trans (ends_main_arg3 m (dats m) c), ((h.1 c).2 main_arg4 (Pipeline.mem_restRefs_of main_arg4 (by decide) (by decide))).trans (ends_main_arg4 m (dats m) c), ((h.1 c).2 main_arg5 (Pipeline.mem_restRefs_of main_arg5 (by decide) (by decide))).trans (ends_main_arg5 m (dats m) c), ((h.1 c).2 main_arg6 (Pipeline.mem_restRefs_of main_arg6 (by decide) (by decide))).trans (ends_main_arg6 m (dats m) c), ((h.1 c).2 main_arg7 (Pipeline.mem_restRefs_of main_arg7 (by decide) (by decide))).trans (ends_main_arg7 m (dats m) c), ((h.1 c).2 main_arg8 (Pipeline.mem_restRefs_of main_arg8 (by decide) (by decide))).trans (ends_main_arg8 m (dats m) c)⟩, h.2⟩) (run_main m ρ)

end Cert.Kernel.Hand

end
-- ==== Proof.IdealSlots.lean ====
/-
  The copies this kernel makes, one by one: into slot `s` of a ring, from expert `e` of an array of weights, scales or
  zero points. Each is idle or in flight towards the expert's block, and its start and its wait are rules about those
  two states, whatever words the program computes the offsets from.
-/
module

public import proofs.«01_k».proof.Proof.Gen.KernelIdeal.Launch
public import proofs.«01_k».proof.Proof.Gen.KernelIdeal.Skeleton
public import proofs.«01_k».proof.Proof.Copies
public import Idealize.ShloMosaic.Lib.Pointwise.Index
public import Idealize.ShloMosaic.Lib.Pipeline.FrameBody
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}
variable (X : (b : Ref sig .tc) → Buf (Elt F) ((c : Thread nD τ).loc b))

/-- One half of a share. -/
def hf (b : Fin 2) (q : PosShare TreeShare) : PosShare TreeShare := if b = 0 then q.left else q.right

theorem pointsTo_halves {ℓ : Loc nD τ sig} {S : Finset (Idx ℓ)} {f : Buf (Elt F) ℓ} (q : PosShare TreeShare) :
    (ℓ ↦[S]{q} f : sProp 𝕄) = iprop((ℓ ↦[S]{hf 0 q} f) ∗ (ℓ ↦[S]{hf 1 q} f)) :=
  BI.Entails.antisymm (pointsTo_share (PosShare.mem_left_op_right q)).1 (pointsTo_share (PosShare.mem_left_op_right q)).2

/-! ## main_arg4 into cc0_scratch2 -/

theorem inbQ0d : ∀ (s : Fin 2) (a), (![s.val, 0, 0] : Fin 3 → ℕ) a + S1x24x4096.size a ≤ S2x24x4096.size a := by decide
theorem inbQ0s : ∀ (e : Fin 16) (a), (![e.val, 0, 0] : Fin 3 → ℕ) a + S1x24x4096.size a ≤ S16x24x4096.size a := by decide
theorem inbQ0m : ∀ (s : Fin 2) (a), (![s.val, 0] : Fin 2 → ℕ) a + S1x1.size a ≤ S2x4.size a := by decide

abbrev dstQ0 (s : Fin 2) : Memref sig .tc .vmem S24x4096 .bf16 := (((Memref.whole cc0_scratch2).slice (Rect.unit (s := S2x24x4096) ![s.val, 0, 0] S1x24x4096.size (inbQ0d s)) (fun _ => rfl)).squeeze S24x4096 squeezes_S1x24x4096_S24x4096)
abbrev srcQ0 (e : Fin 16) : Memref sig .tc .hbm S24x4096 .bf16 := (((Memref.whole main_arg4).slice (Rect.unit (s := S16x24x4096) ![e.val, 0, 0] S1x24x4096.size (inbQ0s e)) (fun _ => rfl)).squeeze S24x4096 squeezes_S1x24x4096_S24x4096)
abbrev semQ0 (s : Fin 2) : DmaSem sig := ((cc0_scratch16.slice (Rect.unit (s := S2x4) ![s.val, 0] S1x1.size (inbQ0m s))).squeeze S_ squeezes_S1x1_S_).sem

/-- The ring filled with expert `e`'s block. -/
def gQ0 (e : Fin 16) : Vec F S2x24x4096 .bf16 := fun i => (X main_arg4 : Vec F S16x24x4096 .bf16) (ix3 e (i 1) (i 2))

def idleQ0 (s : Fin 2) : sProp 𝕄 := Idle (c : Thread nD τ) (srcQ0 0) (dstQ0 s) (semQ0 s) (hf s fullShare) (X main_arg4)
def flyQ0 (s : Fin 2) (e : Fin 16) : sProp 𝕄 := Fly (c : Thread nD τ) (srcQ0 e) (dstQ0 s) (semQ0 s) (hf s fullShare) (X main_arg4) (gQ0 c X e)

theorem startQ0 (s : Fin 2) (e : Fin 16) {od os : Fin 3 → ℕ} {om : Fin 2 → ℕ} (hd : od = ![s.val, 0, 0]) (hs : os = ![e.val, 0, 0]) (hm : om = ![s.val, 0])
    {inbd : ∀ a, od a + S1x24x4096.size a ≤ S2x24x4096.size a} {inbs : ∀ a, os a + S1x24x4096.size a ≤ S16x24x4096.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleQ0 c X s : sProp 𝕄) ⊢ iprop((flyQ0 c X s e -∗ wp frame (wpE defs 𝒱 (c : Thread nD τ) bd) Set.univ (k ⟨⟩) Q)
      -∗ wp frame (wpE defs 𝒱 (c : Thread nD τ) bd) Set.univ (.op (.enqueueDma (((Memref.whole main_arg4).slice (Rect.unit (s := S16x24x4096) os S1x24x4096.size inbs) (fun _ => rfl)).squeeze S24x4096 squeezes_S1x24x4096_S24x4096)
        (.here (((Memref.whole cc0_scratch2).slice (Rect.unit (s := S2x24x4096) od S1x24x4096.size inbd) (fun _ => rfl)).squeeze S24x4096 squeezes_S1x24x4096_S24x4096)) (.dma ((cc0_scratch16.slice (Rect.unit (s := S2x4) om S1x1.size inbm)).squeeze S_ squeezes_S1x1_S_).sem) h1 h2 h3) k) Q) := by
  subst hd hs hm
  exact start1 (src := srcQ0 e) (dst := dstQ0 s) 𝒱 (c : Thread nD τ) bd (View.dmaCredit_pos _ (by decide))
    (landed (Memref.whole cc0_scratch2) (Memref.whole main_arg4) _ _ _ fun y => congrArg (X main_arg4 : Vec F S16x24x4096 .bf16) (by
      have h0 : (y 0).val < 1 := (y 0).isLt
      funext a; apply Fin.ext; fin_cases a
      · show e.val = e.val + 1 * (y 0).val; omega
      · rfl
      · rfl))

theorem waitQ0 (s : Fin 2) (e : Fin 16) {om : Fin 2 → ℕ} (hm : om = ![s.val, 0]) {inbm : ∀ a, om a + S1x1.size a ≤ S2x4.size a}
    {od : Fin 3 → ℕ} {inbd : ∀ a, od a + S1x24x4096.size a ≤ S2x24x4096.size a} {srcw : Memref sig .tc .hbm S24x4096 .bf16}
    {h1 h2} {α : Type} {k : PUnit → Prog (TpuEff nD τ sig (Elt F) Λ .tc) α} {Q : α → sProp (MT nD τ sig Unit (Elt F) ℕ (Pipeline.UD sig nD τ) ℕ)} :
    iprop(flyQ0 c X s e ∗ (∃ W, owes (c : Thread nD τ) 0 W) : sProp 𝕄) ⊢ iprop(((((c : Thread nD τ).loc main_arg4 ↦{hf s fullShare} X main_arg4)
        ∗ ((c : Thread nD τ).loc cc0_scratch2 ↦[(dstQ0 s).view.set]{fullShare} (gQ0 c X e : Buf (Elt F) ((c : Thread nD τ).loc cc0_scratch2))) ∗ semVal ((c : Thread nD τ), .dma (semQ0 s)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch16.slice (Rect.unit (s := S2x4) om S1x1.size inbm)).squeeze S_ squeezes_S1x1_S_).sem srcw (((Memref.whole cc0_scratch2).slice (Rect.unit (s := S2x24x4096) od S1x24x4096.size inbd) (fun _ => rfl)).squeeze S24x4096 squeezes_S1x24x4096_S24x4096) h1 h2) k) Q) := by
  subst hm
  exact wait1 (src := srcQ0 e) (dst := dstQ0 s) 𝒱 (c : Thread nD τ) bd rfl

/-! ## main_arg5 into cc0_scratch3 -/

theorem inbQ1d : ∀ (s : Fin 2) (a), (![s.val, 0, 0] : Fin 3 → ℕ) a + S1x24x2048.size a ≤ S2x24x2048.size a := by decide
theorem inbQ1s : ∀ (e : Fin 16) (a), (![e.val, 0, 0] : Fin 3 → ℕ) a + S1x24x2048.size a ≤ S16x24x2048.size a := by decide
theorem inbQ1m : ∀ (s : Fin 2) (a), (![s.val, 1] : Fin 2 → ℕ) a + S1x1.size a ≤ S2x4.size a := by decide

abbrev dstQ1 (s : Fin 2) : Memref sig .tc .vmem S24x2048 .i8 := (((Memref.whole cc0_scratch3).slice (Rect.unit (s := S2x24x2048) ![s.val, 0, 0] S1x24x2048.size (inbQ1d s)) (fun _ => rfl)).squeeze S24x2048 squeezes_S1x24x2048_S24x2048)
abbrev srcQ1 (e : Fin 16) : Memref sig .tc .hbm S24x2048 .i8 := (((Memref.whole main_arg5).slice (Rect.unit (s := S16x24x2048) ![e.val, 0, 0] S1x24x2048.size (inbQ1s e)) (fun _ => rfl)).squeeze S24x2048 squeezes_S1x24x2048_S24x2048)
abbrev semQ1 (s : Fin 2) : DmaSem sig := ((cc0_scratch16.slice (Rect.unit (s := S2x4) ![s.val, 1] S1x1.size (inbQ1m s))).squeeze S_ squeezes_S1x1_S_).sem

/-- The ring filled with expert `e`'s block. -/
def gQ1 (e : Fin 16) : Vec F S2x24x2048 .i8 := fun i => (X main_arg5 : Vec F S16x24x2048 .i8) (ix3 e (i 1) (i 2))

def idleQ1 (s : Fin 2) : sProp 𝕄 := Idle (c : Thread nD τ) (srcQ1 0) (dstQ1 s) (semQ1 s) (hf s fullShare) (X main_arg5)
def flyQ1 (s : Fin 2) (e : Fin 16) : sProp 𝕄 := Fly (c : Thread nD τ) (srcQ1 e) (dstQ1 s) (semQ1 s) (hf s fullShare) (X main_arg5) (gQ1 c X e)

theorem startQ1 (s : Fin 2) (e : Fin 16) {od os : Fin 3 → ℕ} {om : Fin 2 → ℕ} (hd : od = ![s.val, 0, 0]) (hs : os = ![e.val, 0, 0]) (hm : om = ![s.val, 1])
    {inbd : ∀ a, od a + S1x24x2048.size a ≤ S2x24x2048.size a} {inbs : ∀ a, os a + S1x24x2048.size a ≤ S16x24x2048.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleQ1 c X s : sProp 𝕄) ⊢ iprop((flyQ1 c X s e -∗ wp frame (wpE defs 𝒱 (c : Thread nD τ) bd) Set.univ (k ⟨⟩) Q)
      -∗ wp frame (wpE defs 𝒱 (c : Thread nD τ) bd) Set.univ (.op (.enqueueDma (((Memref.whole main_arg5).slice (Rect.unit (s := S16x24x2048) os S1x24x2048.size inbs) (fun _ => rfl)).squeeze S24x2048 squeezes_S1x24x2048_S24x2048)
        (.here (((Memref.whole cc0_scratch3).slice (Rect.unit (s := S2x24x2048) od S1x24x2048.size inbd) (fun _ => rfl)).squeeze S24x2048 squeezes_S1x24x2048_S24x2048)) (.dma ((cc0_scratch16.slice (Rect.unit (s := S2x4) om S1x1.size inbm)).squeeze S_ squeezes_S1x1_S_).sem) h1 h2 h3) k) Q) := by
  subst hd hs hm
  exact start1 (src := srcQ1 e) (dst := dstQ1 s) 𝒱 (c : Thread nD τ) bd (View.dmaCredit_pos _ (by decide))
    (landed (Memref.whole cc0_scratch3) (Memref.whole main_arg5) _ _ _ fun y => congrArg (X main_arg5 : Vec F S16x24x2048 .i8) (by
      have h0 : (y 0).val < 1 := (y 0).isLt
      funext a; apply Fin.ext; fin_cases a
      · show e.val = e.val + 1 * (y 0).val; omega
      · rfl
      · rfl))

theorem waitQ1 (s : Fin 2) (e : Fin 16) {om : Fin 2 → ℕ} (hm : om = ![s.val, 1]) {inbm : ∀ a, om a + S1x1.size a ≤ S2x4.size a}
    {od : Fin 3 → ℕ} {inbd : ∀ a, od a + S1x24x2048.size a ≤ S2x24x2048.size a} {srcw : Memref sig .tc .hbm S24x2048 .i8}
    {h1 h2} {α : Type} {k : PUnit → Prog (TpuEff nD τ sig (Elt F) Λ .tc) α} {Q : α → sProp (MT nD τ sig Unit (Elt F) ℕ (Pipeline.UD sig nD τ) ℕ)} :
    iprop(flyQ1 c X s e ∗ (∃ W, owes (c : Thread nD τ) 0 W) : sProp 𝕄) ⊢ iprop(((((c : Thread nD τ).loc main_arg5 ↦{hf s fullShare} X main_arg5)
        ∗ ((c : Thread nD τ).loc cc0_scratch3 ↦[(dstQ1 s).view.set]{fullShare} (gQ1 c X e : Buf (Elt F) ((c : Thread nD τ).loc cc0_scratch3))) ∗ semVal ((c : Thread nD τ), .dma (semQ1 s)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch16.slice (Rect.unit (s := S2x4) om S1x1.size inbm)).squeeze S_ squeezes_S1x1_S_).sem srcw (((Memref.whole cc0_scratch3).slice (Rect.unit (s := S2x24x2048) od S1x24x2048.size inbd) (fun _ => rfl)).squeeze S24x2048 squeezes_S1x24x2048_S24x2048) h1 h2) k) Q) := by
  subst hm
  exact wait1 (src := srcQ1 e) (dst := dstQ1 s) 𝒱 (c : Thread nD τ) bd rfl

/-! ## main_arg7 into cc0_scratch4 -/

theorem inbQ2d : ∀ (s : Fin 2) (a), (![s.val, 0, 0] : Fin 3 → ℕ) a + S1x16x3072.size a ≤ S2x16x3072.size a := by decide
theorem inbQ2s : ∀ (e : Fin 16) (a), (![e.val, 0, 0] : Fin 3 → ℕ) a + S1x16x3072.size a ≤ S16x16x3072.size a := by decide
theorem inbQ2m : ∀ (s : Fin 2) (a), (![s.val, 2] : Fin 2 → ℕ) a + S1x1.size a ≤ S2x4.size a := by decide

abbrev dstQ2 (s : Fin 2) : Memref sig .tc .vmem S16x3072 .bf16 := (((Memref.whole cc0_scratch4).slice (Rect.unit (s := S2x16x3072) ![s.val, 0, 0] S1x16x3072.size (inbQ2d s)) (fun _ => rfl)).squeeze S16x3072 squeezes_S1x16x3072_S16x3072)
abbrev srcQ2 (e : Fin 16) : Memref sig .tc .hbm S16x3072 .bf16 := (((Memref.whole main_arg7).slice (Rect.unit (s := S16x16x3072) ![e.val, 0, 0] S1x16x3072.size (inbQ2s e)) (fun _ => rfl)).squeeze S16x3072 squeezes_S1x16x3072_S16x3072)
abbrev semQ2 (s : Fin 2) : DmaSem sig := ((cc0_scratch16.slice (Rect.unit (s := S2x4) ![s.val, 2] S1x1.size (inbQ2m s))).squeeze S_ squeezes_S1x1_S_).sem

/-- The ring filled with expert `e`'s block. -/
def gQ2 (e : Fin 16) : Vec F S2x16x3072 .bf16 := fun i => (X main_arg7 : Vec F S16x16x3072 .bf16) (ix3 e (i 1) (i 2))

def idleQ2 (s : Fin 2) : sProp 𝕄 := Idle (c : Thread nD τ) (srcQ2 0) (dstQ2 s) (semQ2 s) (hf s fullShare) (X main_arg7)
def flyQ2 (s : Fin 2) (e : Fin 16) : sProp 𝕄 := Fly (c : Thread nD τ) (srcQ2 e) (dstQ2 s) (semQ2 s) (hf s fullShare) (X main_arg7) (gQ2 c X e)

theorem startQ2 (s : Fin 2) (e : Fin 16) {od os : Fin 3 → ℕ} {om : Fin 2 → ℕ} (hd : od = ![s.val, 0, 0]) (hs : os = ![e.val, 0, 0]) (hm : om = ![s.val, 2])
    {inbd : ∀ a, od a + S1x16x3072.size a ≤ S2x16x3072.size a} {inbs : ∀ a, os a + S1x16x3072.size a ≤ S16x16x3072.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleQ2 c X s : sProp 𝕄) ⊢ iprop((flyQ2 c X s e -∗ wp frame (wpE defs 𝒱 (c : Thread nD τ) bd) Set.univ (k ⟨⟩) Q)
      -∗ wp frame (wpE defs 𝒱 (c : Thread nD τ) bd) Set.univ (.op (.enqueueDma (((Memref.whole main_arg7).slice (Rect.unit (s := S16x16x3072) os S1x16x3072.size inbs) (fun _ => rfl)).squeeze S16x3072 squeezes_S1x16x3072_S16x3072)
        (.here (((Memref.whole cc0_scratch4).slice (Rect.unit (s := S2x16x3072) od S1x16x3072.size inbd) (fun _ => rfl)).squeeze S16x3072 squeezes_S1x16x3072_S16x3072)) (.dma ((cc0_scratch16.slice (Rect.unit (s := S2x4) om S1x1.size inbm)).squeeze S_ squeezes_S1x1_S_).sem) h1 h2 h3) k) Q) := by
  subst hd hs hm
  exact start1 (src := srcQ2 e) (dst := dstQ2 s) 𝒱 (c : Thread nD τ) bd (View.dmaCredit_pos _ (by decide))
    (landed (Memref.whole cc0_scratch4) (Memref.whole main_arg7) _ _ _ fun y => congrArg (X main_arg7 : Vec F S16x16x3072 .bf16) (by
      have h0 : (y 0).val < 1 := (y 0).isLt
      funext a; apply Fin.ext; fin_cases a
      · show e.val = e.val + 1 * (y 0).val; omega
      · rfl
      · rfl))

theorem waitQ2 (s : Fin 2) (e : Fin 16) {om : Fin 2 → ℕ} (hm : om = ![s.val, 2]) {inbm : ∀ a, om a + S1x1.size a ≤ S2x4.size a}
    {od : Fin 3 → ℕ} {inbd : ∀ a, od a + S1x16x3072.size a ≤ S2x16x3072.size a} {srcw : Memref sig .tc .hbm S16x3072 .bf16}
    {h1 h2} {α : Type} {k : PUnit → Prog (TpuEff nD τ sig (Elt F) Λ .tc) α} {Q : α → sProp (MT nD τ sig Unit (Elt F) ℕ (Pipeline.UD sig nD τ) ℕ)} :
    iprop(flyQ2 c X s e ∗ (∃ W, owes (c : Thread nD τ) 0 W) : sProp 𝕄) ⊢ iprop(((((c : Thread nD τ).loc main_arg7 ↦{hf s fullShare} X main_arg7)
        ∗ ((c : Thread nD τ).loc cc0_scratch4 ↦[(dstQ2 s).view.set]{fullShare} (gQ2 c X e : Buf (Elt F) ((c : Thread nD τ).loc cc0_scratch4))) ∗ semVal ((c : Thread nD τ), .dma (semQ2 s)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch16.slice (Rect.unit (s := S2x4) om S1x1.size inbm)).squeeze S_ squeezes_S1x1_S_).sem srcw (((Memref.whole cc0_scratch4).slice (Rect.unit (s := S2x16x3072) od S1x16x3072.size inbd) (fun _ => rfl)).squeeze S16x3072 squeezes_S1x16x3072_S16x3072) h1 h2) k) Q) := by
  subst hm
  exact wait1 (src := srcQ2 e) (dst := dstQ2 s) 𝒱 (c : Thread nD τ) bd rfl

/-! ## main_arg8 into cc0_scratch5 -/

theorem inbQ3d : ∀ (s : Fin 2) (a), (![s.val, 0, 0] : Fin 3 → ℕ) a + S1x16x1536.size a ≤ S2x16x1536.size a := by decide
theorem inbQ3s : ∀ (e : Fin 16) (a), (![e.val, 0, 0] : Fin 3 → ℕ) a + S1x16x1536.size a ≤ S16x16x1536.size a := by decide
theorem inbQ3m : ∀ (s : Fin 2) (a), (![s.val, 3] : Fin 2 → ℕ) a + S1x1.size a ≤ S2x4.size a := by decide

abbrev dstQ3 (s : Fin 2) : Memref sig .tc .vmem S16x1536 .i8 := (((Memref.whole cc0_scratch5).slice (Rect.unit (s := S2x16x1536) ![s.val, 0, 0] S1x16x1536.size (inbQ3d s)) (fun _ => rfl)).squeeze S16x1536 squeezes_S1x16x1536_S16x1536)
abbrev srcQ3 (e : Fin 16) : Memref sig .tc .hbm S16x1536 .i8 := (((Memref.whole main_arg8).slice (Rect.unit (s := S16x16x1536) ![e.val, 0, 0] S1x16x1536.size (inbQ3s e)) (fun _ => rfl)).squeeze S16x1536 squeezes_S1x16x1536_S16x1536)
abbrev semQ3 (s : Fin 2) : DmaSem sig := ((cc0_scratch16.slice (Rect.unit (s := S2x4) ![s.val, 3] S1x1.size (inbQ3m s))).squeeze S_ squeezes_S1x1_S_).sem

/-- The ring filled with expert `e`'s block. -/
def gQ3 (e : Fin 16) : Vec F S2x16x1536 .i8 := fun i => (X main_arg8 : Vec F S16x16x1536 .i8) (ix3 e (i 1) (i 2))

def idleQ3 (s : Fin 2) : sProp 𝕄 := Idle (c : Thread nD τ) (srcQ3 0) (dstQ3 s) (semQ3 s) (hf s fullShare) (X main_arg8)
def flyQ3 (s : Fin 2) (e : Fin 16) : sProp 𝕄 := Fly (c : Thread nD τ) (srcQ3 e) (dstQ3 s) (semQ3 s) (hf s fullShare) (X main_arg8) (gQ3 c X e)

theorem startQ3 (s : Fin 2) (e : Fin 16) {od os : Fin 3 → ℕ} {om : Fin 2 → ℕ} (hd : od = ![s.val, 0, 0]) (hs : os = ![e.val, 0, 0]) (hm : om = ![s.val, 3])
    {inbd : ∀ a, od a + S1x16x1536.size a ≤ S2x16x1536.size a} {inbs : ∀ a, os a + S1x16x1536.size a ≤ S16x16x1536.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleQ3 c X s : sProp 𝕄) ⊢ iprop((flyQ3 c X s e -∗ wp frame (wpE defs 𝒱 (c : Thread nD τ) bd) Set.univ (k ⟨⟩) Q)
      -∗ wp frame (wpE defs 𝒱 (c : Thread nD τ) bd) Set.univ (.op (.enqueueDma (((Memref.whole main_arg8).slice (Rect.unit (s := S16x16x1536) os S1x16x1536.size inbs) (fun _ => rfl)).squeeze S16x1536 squeezes_S1x16x1536_S16x1536)
        (.here (((Memref.whole cc0_scratch5).slice (Rect.unit (s := S2x16x1536) od S1x16x1536.size inbd) (fun _ => rfl)).squeeze S16x1536 squeezes_S1x16x1536_S16x1536)) (.dma ((cc0_scratch16.slice (Rect.unit (s := S2x4) om S1x1.size inbm)).squeeze S_ squeezes_S1x1_S_).sem) h1 h2 h3) k) Q) := by
  subst hd hs hm
  exact start1 (src := srcQ3 e) (dst := dstQ3 s) 𝒱 (c : Thread nD τ) bd (View.dmaCredit_pos _ (by decide))
    (landed (Memref.whole cc0_scratch5) (Memref.whole main_arg8) _ _ _ fun y => congrArg (X main_arg8 : Vec F S16x16x1536 .i8) (by
      have h0 : (y 0).val < 1 := (y 0).isLt
      funext a; apply Fin.ext; fin_cases a
      · show e.val = e.val + 1 * (y 0).val; omega
      · rfl
      · rfl))

theorem waitQ3 (s : Fin 2) (e : Fin 16) {om : Fin 2 → ℕ} (hm : om = ![s.val, 3]) {inbm : ∀ a, om a + S1x1.size a ≤ S2x4.size a}
    {od : Fin 3 → ℕ} {inbd : ∀ a, od a + S1x16x1536.size a ≤ S2x16x1536.size a} {srcw : Memref sig .tc .hbm S16x1536 .i8}
    {h1 h2} {α : Type} {k : PUnit → Prog (TpuEff nD τ sig (Elt F) Λ .tc) α} {Q : α → sProp (MT nD τ sig Unit (Elt F) ℕ (Pipeline.UD sig nD τ) ℕ)} :
    iprop(flyQ3 c X s e ∗ (∃ W, owes (c : Thread nD τ) 0 W) : sProp 𝕄) ⊢ iprop(((((c : Thread nD τ).loc main_arg8 ↦{hf s fullShare} X main_arg8)
        ∗ ((c : Thread nD τ).loc cc0_scratch5 ↦[(dstQ3 s).view.set]{fullShare} (gQ3 c X e : Buf (Elt F) ((c : Thread nD τ).loc cc0_scratch5))) ∗ semVal ((c : Thread nD τ), .dma (semQ3 s)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch16.slice (Rect.unit (s := S2x4) om S1x1.size inbm)).squeeze S_ squeezes_S1x1_S_).sem srcw (((Memref.whole cc0_scratch5).slice (Rect.unit (s := S2x16x1536) od S1x16x1536.size inbd) (fun _ => rfl)).squeeze S16x1536 squeezes_S1x16x1536_S16x1536) h1 h2) k) Q) := by
  subst hm
  exact wait1 (src := srcQ3 e) (dst := dstQ3 s) 𝒱 (c : Thread nD τ) bd rfl

/-! ## main_arg6 into cc0_scratch1, in two chunks of columns -/

theorem inbW2d : ∀ (s : Fin 2) (j : Fin 2) (a), (![s.val, 0, 1536 * j.val] : Fin 3 → ℕ) a + S1x1024x1536.size a ≤ S2x1024x3072.size a := by decide
theorem inbW2s : ∀ (e : Fin 16) (j : Fin 2) (a), (![e.val, 0, 1536 * j.val] : Fin 3 → ℕ) a + S1x1024x1536.size a ≤ S16x1024x3072.size a := by decide
theorem inbW2m : ∀ (s : Fin 2) (j : Fin 2) (a), (![s.val, j.val] : Fin 2 → ℕ) a + S1x1.size a ≤ S2x2.size a := by decide

abbrev dstW2 (s : Fin 2) (j : Fin 2) : Memref sig .tc .vmem S1024x1536 .i8 := (((Memref.whole cc0_scratch1).slice (Rect.unit (s := S2x1024x3072) ![s.val, 0, 1536 * j.val] S1x1024x1536.size (inbW2d s j)) (fun _ => rfl)).squeeze S1024x1536 squeezes_S1x1024x1536_S1024x1536)
abbrev srcW2 (e : Fin 16) (j : Fin 2) : Memref sig .tc .hbm S1024x1536 .i8 := (((Memref.whole main_arg6).slice (Rect.unit (s := S16x1024x3072) ![e.val, 0, 1536 * j.val] S1x1024x1536.size (inbW2s e j)) (fun _ => rfl)).squeeze S1024x1536 squeezes_S1x1024x1536_S1024x1536)
abbrev semW2 (s : Fin 2) (j : Fin 2) : DmaSem sig := ((cc0_scratch15.slice (Rect.unit (s := S2x2) ![s.val, j.val] S1x1.size (inbW2m s j))).squeeze S_ squeezes_S1x1_S_).sem

/-- The ring filled with expert `e`'s block. -/
def gW2 (e : Fin 16) : Vec F S2x1024x3072 .i8 := fun i => (X main_arg6 : Vec F S16x1024x3072 .i8) (ix3 e (i 1) (i 2))

abbrev qW2 (s j : Fin 2) : PosShare TreeShare := hf j (hf s fullShare)

def idleW2 (s j : Fin 2) : sProp 𝕄 := Idle (c : Thread nD τ) (srcW2 0 j) (dstW2 s j) (semW2 s j) (qW2 s j) (X main_arg6)
def flyW2 (s j : Fin 2) (e : Fin 16) : sProp 𝕄 := Fly (c : Thread nD τ) (srcW2 e j) (dstW2 s j) (semW2 s j) (qW2 s j) (X main_arg6) (gW2 c X e)

theorem startW2 (s j : Fin 2) (e : Fin 16) {od os : Fin 3 → ℕ} {om : Fin 2 → ℕ} (hd : od = ![s.val, 0, 1536 * j.val]) (hs : os = ![e.val, 0, 1536 * j.val]) (hm : om = ![s.val, j.val])
    {inbd : ∀ a, od a + S1x1024x1536.size a ≤ S2x1024x3072.size a} {inbs : ∀ a, os a + S1x1024x1536.size a ≤ S16x1024x3072.size a} {inbm : ∀ a, om a + S1x1.size a ≤ S2x2.size a}
    {h1 h2 h3} {α : Type} {k : PUnit → Prog (TpuEff nD τ sig (Elt F) Λ .tc) α} {Q : α → sProp (MT nD τ sig Unit (Elt F) ℕ (Pipeline.UD sig nD τ) ℕ)} :
    (idleW2 c X s j : sProp 𝕄) ⊢ iprop((flyW2 c X s j e -∗ wp frame (wpE defs 𝒱 (c : Thread nD τ) bd) Set.univ (k ⟨⟩) Q)
      -∗ wp frame (wpE defs 𝒱 (c : Thread nD τ) bd) Set.univ (.op (.enqueueDma (((Memref.whole main_arg6).slice (Rect.unit (s := S16x1024x3072) os S1x1024x1536.size inbs) (fun _ => rfl)).squeeze S1024x1536 squeezes_S1x1024x1536_S1024x1536)
        (.here (((Memref.whole cc0_scratch1).slice (Rect.unit (s := S2x1024x3072) od S1x1024x1536.size inbd) (fun _ => rfl)).squeeze S1024x1536 squeezes_S1x1024x1536_S1024x1536)) (.dma ((cc0_scratch15.slice (Rect.unit (s := S2x2) om S1x1.size inbm)).squeeze S_ squeezes_S1x1_S_).sem) h1 h2 h3) k) Q) := by
  subst hd hs hm
  exact start1 (src := srcW2 e j) (dst := dstW2 s j) 𝒱 (c : Thread nD τ) bd (View.dmaCredit_pos _ (by decide))
    (landed (Memref.whole cc0_scratch1) (Memref.whole main_arg6) _ _ _ fun y => congrArg (X main_arg6 : Vec F S16x1024x3072 .i8) (by
      have h0 : (y 0).val < 1 := (y 0).isLt
      funext a; apply Fin.ext; fin_cases a
      · show e.val = e.val + 1 * (y 0).val; omega
      · rfl
      · rfl))

theorem waitW2 (s j : Fin 2) (e : Fin 16) {om : Fin 2 → ℕ} (hm : om = ![s.val, j.val]) {inbm : ∀ a, om a + S1x1.size a ≤ S2x2.size a}
    {od : Fin 3 → ℕ} {inbd : ∀ a, od a + S1x1024x1536.size a ≤ S2x1024x3072.size a} {srcw : Memref sig .tc .hbm S1024x1536 .i8}
    {h1 h2} {α : Type} {k : PUnit → Prog (TpuEff nD τ sig (Elt F) Λ .tc) α} {Q : α → sProp (MT nD τ sig Unit (Elt F) ℕ (Pipeline.UD sig nD τ) ℕ)} :
    iprop(flyW2 c X s j e ∗ (∃ W, owes (c : Thread nD τ) 0 W) : sProp 𝕄) ⊢ iprop(((((c : Thread nD τ).loc main_arg6 ↦{qW2 s j} X main_arg6)
        ∗ ((c : Thread nD τ).loc cc0_scratch1 ↦[(dstW2 s j).view.set]{fullShare} (gW2 c X e : Buf (Elt F) ((c : Thread nD τ).loc cc0_scratch1))) ∗ semVal ((c : Thread nD τ), .dma (semW2 s j)) 0
        ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch15.slice (Rect.unit (s := S2x2) om S1x1.size inbm)).squeeze S_ squeezes_S1x1_S_).sem srcw (((Memref.whole cc0_scratch1).slice (Rect.unit (s := S2x1024x3072) od S1x1024x1536.size inbd) (fun _ => rfl)).squeeze S1024x1536 squeezes_S1x1024x1536_S1024x1536) h1 h2) k) Q) := by
  subst hm
  exact wait1 (src := srcW2 e j) (dst := dstW2 s j) 𝒱 (c : Thread nD τ) bd rfl

/-! ## main_arg3 into cc0_scratch0, in four chunks of columns of each half -/

theorem inbW1d : ∀ (s h : Fin 2) (j : Fin 4) (a), (![s.val, 0, 2048 * h.val + 512 * j.val] : Fin 3 → ℕ) a + S1x1536x512.size a ≤ S2x1536x4096.size a := by decide
theorem inbW1s : ∀ (e : Fin 16) (h : Fin 2) (j : Fin 4) (a), (![e.val, 0, 2048 * h.val + 512 * j.val] : Fin 3 → ℕ) a + S1x1536x512.size a ≤ S16x1536x4096.size a := by decide
theorem inbW1m : ∀ (s : Fin 2) (j : Fin 4) (a), (![s.val, j.val] : Fin 2 → ℕ) a + S1x1.size a ≤ S2x4.size a := by decide

abbrev dstW1 (s h : Fin 2) (j : Fin 4) : Memref sig .tc .vmem S1536x512 .i8 := (((Memref.whole cc0_scratch0).slice (Rect.unit (s := S2x1536x4096) ![s.val, 0, 2048 * h.val + 512 * j.val] S1x1536x512.size (inbW1d s h j)) (fun _ => rfl)).squeeze S1536x512 squeezes_S1x1536x512_S1536x512)
abbrev srcW1 (e : Fin 16) (h : Fin 2) (j : Fin 4) : Memref sig .tc .hbm S1536x512 .i8 := (((Memref.whole main_arg3).slice (Rect.unit (s := S16x1536x4096) ![e.val, 0, 2048 * h.val + 512 * j.val] S1x1536x512.size (inbW1s e h j)) (fun _ => rfl)).squeeze S1536x512 squeezes_S1x1536x512_S1536x512)
abbrev semW1 (s : Fin 2) (j : Fin 4) : DmaSem sig := ((cc0_scratch14.slice (Rect.unit (s := S2x4) ![s.val, j.val] S1x1.size (inbW1m s j))).squeeze S_ squeezes_S1x1_S_).sem

/-- The ring filled with expert `e`'s block. -/
def gW1 (e : Fin 16) : Vec F S2x1536x4096 .i8 := fun i => (X main_arg3 : Vec F S16x1536x4096 .i8) (ix3 e (i 1) (i 2))

/-- The share of the array one chunk's copy of one half reads at. -/
def q4 (q : PosShare TreeShare) : Fin 4 → PosShare TreeShare := ![hf 0 (hf 0 q), hf 1 (hf 0 q), hf 0 (hf 1 q), hf 1 (hf 1 q)]
abbrev qW1 (s h : Fin 2) (j : Fin 4) : PosShare TreeShare := q4 (hf h (hf s fullShare)) j

def idleW1 (s : Fin 2) (j : Fin 4) : sProp 𝕄 := Idle2 (c : Thread nD τ) (srcW1 0 0 j) (srcW1 0 1 j) (dstW1 s 0 j) (dstW1 s 1 j) (semW1 s j) (qW1 s 0 j) (qW1 s 1 j) (X main_arg3) (X main_arg3)
def halfW1 (s : Fin 2) (j : Fin 4) (e : Fin 16) : sProp 𝕄 := Half2 (c : Thread nD τ) (srcW1 e 0 j) (srcW1 e 1 j) (dstW1 s 0 j) (dstW1 s 1 j) (semW1 s j) (qW1 s 0 j) (qW1 s 1 j) (X main_arg3) (X main_arg3) (gW1 c X e) (gW1 c X e)
/-- Both halves in flight, `u` of them waited for. -/
def flyW1 (s : Fin 2) (j : Fin 4) (e : Fin 16) (u : ℕ) : sProp 𝕄 := Fly2 (c : Thread nD τ) (srcW1 e 0 j) (srcW1 e 1 j) (dstW1 s 0 j) (dstW1 s 1 j) (semW1 s j) (qW1 s 0 j) (qW1 s 1 j) (X main_arg3) (X main_arg3) (gW1 c X e) (gW1 c X e)
  (if u = 0 then 0 else (dstW1 s 0 j).view.amount (.dma (semW1 s j)))

theorem startW1a (s : Fin 2) (j : Fin 4) (e : Fin 16) {od os : Fin 3 → ℕ} {om : Fin 2 → ℕ} (hd : od = ![s.val, 0, 2048 * 0 + 512 * j.val]) (hs : os = ![e.val, 0, 2048 * 0 + 512 * j.val]) (hm : om = ![s.val, j.val])
    {inbd : ∀ a, od a + S1x1536x512.size a ≤ S2x1536x4096.size a} {inbs : ∀ a, os a + S1x1536x512.size a ≤ S16x1536x4096.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (idleW1 c X s j : sProp 𝕄) ⊢ iprop((halfW1 c X s j e -∗ wp frame (wpE defs 𝒱 (c : Thread nD τ) bd) Set.univ (k ⟨⟩) Q)
      -∗ wp frame (wpE defs 𝒱 (c : Thread nD τ) bd) Set.univ (.op (.enqueueDma (((Memref.whole main_arg3).slice (Rect.unit (s := S16x1536x4096) os S1x1536x512.size inbs) (fun _ => rfl)).squeeze S1536x512 squeezes_S1x1536x512_S1536x512)
        (.here (((Memref.whole cc0_scratch0).slice (Rect.unit (s := S2x1536x4096) od S1x1536x512.size inbd) (fun _ => rfl)).squeeze S1536x512 squeezes_S1x1536x512_S1536x512)) (.dma ((cc0_scratch14.slice (Rect.unit (s := S2x4) om S1x1.size inbm)).squeeze S_ squeezes_S1x1_S_).sem) h1 h2 h3) k) Q) := by
  subst hd hs hm
  exact start2a (src0 := srcW1 e 0 j) (dst0 := dstW1 s 0 j) (src1 := srcW1 e 1 j) (dst1 := dstW1 s 1 j) 𝒱 (c : Thread nD τ) bd
    (landed (Memref.whole cc0_scratch0) (Memref.whole main_arg3) _ _ _ fun y => congrArg (X main_arg3 : Vec F S16x1536x4096 .i8) (by
      have h0 : (y 0).val < 1 := (y 0).isLt
      funext a; apply Fin.ext; fin_cases a
      · show e.val = e.val + 1 * (y 0).val; omega
      · rfl
      · rfl))

theorem startW1b (s : Fin 2) (j : Fin 4) (e : Fin 16) {od os : Fin 3 → ℕ} {om : Fin 2 → ℕ} (hd : od = ![s.val, 0, 2048 * 1 + 512 * j.val]) (hs : os = ![e.val, 0, 2048 * 1 + 512 * j.val]) (hm : om = ![s.val, j.val])
    {inbd : ∀ a, od a + S1x1536x512.size a ≤ S2x1536x4096.size a} {inbs : ∀ a, os a + S1x1536x512.size a ≤ S16x1536x4096.size a} {inbm : ∀ a, om a + S1x1.size a ≤ S2x4.size a}
    {h1 h2 h3} {α : Type} {k : PUnit → Prog (TpuEff nD τ sig (Elt F) Λ .tc) α} {Q : α → sProp (MT nD τ sig Unit (Elt F) ℕ (Pipeline.UD sig nD τ) ℕ)} :
    (halfW1 c X s j e : sProp 𝕄) ⊢ iprop((flyW1 c X s j e 0 -∗ wp frame (wpE defs 𝒱 (c : Thread nD τ) bd) Set.univ (k ⟨⟩) Q)
      -∗ wp frame (wpE defs 𝒱 (c : Thread nD τ) bd) Set.univ (.op (.enqueueDma (((Memref.whole main_arg3).slice (Rect.unit (s := S16x1536x4096) os S1x1536x512.size inbs) (fun _ => rfl)).squeeze S1536x512 squeezes_S1x1536x512_S1536x512)
        (.here (((Memref.whole cc0_scratch0).slice (Rect.unit (s := S2x1536x4096) od S1x1536x512.size inbd) (fun _ => rfl)).squeeze S1536x512 squeezes_S1x1536x512_S1536x512)) (.dma ((cc0_scratch14.slice (Rect.unit (s := S2x4) om S1x1.size inbm)).squeeze S_ squeezes_S1x1_S_).sem) h1 h2 h3) k) Q) := by
  subst hd hs hm
  exact start2b (src0 := srcW1 e 0 j) (dst0 := dstW1 s 0 j) (src1 := srcW1 e 1 j) (dst1 := dstW1 s 1 j) 𝒱 (c : Thread nD τ) bd rfl
    (landed (Memref.whole cc0_scratch0) (Memref.whole main_arg3) _ _ _ fun y => congrArg (X main_arg3 : Vec F S16x1536x4096 .i8) (by
      have h0 : (y 0).val < 1 := (y 0).isLt
      funext a; apply Fin.ext; fin_cases a
      · show e.val = e.val + 1 * (y 0).val; omega
      · rfl
      · rfl))

theorem waitW1a (s : Fin 2) (j : Fin 4) (e : Fin 16) {om : Fin 2 → ℕ} (hm : om = ![s.val, j.val]) {inbm : ∀ a, om a + S1x1.size a ≤ S2x4.size a}
    {od : Fin 3 → ℕ} {inbd : ∀ a, od a + S1x1536x512.size a ≤ S2x1536x4096.size a} {srcw : Memref sig .tc .hbm S1536x512 .i8}
    {h1 h2} {α : Type} {k : PUnit → Prog (TpuEff nD τ sig (Elt F) Λ .tc) α} {Q : α → sProp (MT nD τ sig Unit (Elt F) ℕ (Pipeline.UD sig nD τ) ℕ)} :
    iprop(flyW1 c X s j e 0 ∗ (∃ W, owes (c : Thread nD τ) 0 W) : sProp 𝕄) ⊢ iprop(((flyW1 c X s j e 1 ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch14.slice (Rect.unit (s := S2x4) om S1x1.size inbm)).squeeze S_ squeezes_S1x1_S_).sem srcw (((Memref.whole cc0_scratch0).slice (Rect.unit (s := S2x1536x4096) od S1x1536x512.size inbd) (fun _ => rfl)).squeeze S1536x512 squeezes_S1x1536x512_S1536x512) h1 h2) k) Q) := by
  subst hm
  exact wait2a (src0 := srcW1 e 0 j) (dst0 := dstW1 s 0 j) (src1 := srcW1 e 1 j) (dst1 := dstW1 s 1 j) 𝒱 (c : Thread nD τ) bd rfl (View.dmaCredit_pos _ (by decide))

theorem waitW1b (s : Fin 2) (j : Fin 4) (e : Fin 16) {om : Fin 2 → ℕ} (hm : om = ![s.val, j.val]) {inbm : ∀ a, om a + S1x1.size a ≤ S2x4.size a}
    {od : Fin 3 → ℕ} {inbd : ∀ a, od a + S1x1536x512.size a ≤ S2x1536x4096.size a} {srcw : Memref sig .tc .hbm S1536x512 .i8}
    {h1 h2} {α : Type} {k : PUnit → Prog (TpuEff nD τ sig (Elt F) Λ .tc) α} {Q : α → sProp (MT nD τ sig Unit (Elt F) ℕ (Pipeline.UD sig nD τ) ℕ)} :
    iprop(flyW1 c X s j e 1 ∗ (∃ W, owes (c : Thread nD τ) 0 W) : sProp 𝕄) ⊢ iprop(((((c : Thread nD τ).loc main_arg3 ↦{qW1 s 0 j} X main_arg3) ∗ ((c : Thread nD τ).loc main_arg3 ↦{qW1 s 1 j} X main_arg3)
        ∗ ((c : Thread nD τ).loc cc0_scratch0 ↦[(dstW1 s 0 j).view.set]{fullShare} (gW1 c X e : Buf (Elt F) ((c : Thread nD τ).loc cc0_scratch0)))
        ∗ ((c : Thread nD τ).loc cc0_scratch0 ↦[(dstW1 s 1 j).view.set]{fullShare} (gW1 c X e : Buf (Elt F) ((c : Thread nD τ).loc cc0_scratch0)))
        ∗ semVal ((c : Thread nD τ), .dma (semW1 s j)) 0 ∗ (∃ W, owes (c : Thread nD τ) 0 W)) -∗ wp frame (wpE defs 𝒱 (c : Thread nD τ) bd) Set.univ (k ⟨⟩) Q)
      -∗ wp frame (wpE defs 𝒱 (c : Thread nD τ) bd) Set.univ (.op (.waitDma2 ((cc0_scratch14.slice (Rect.unit (s := S2x4) om S1x1.size inbm)).squeeze S_ squeezes_S1x1_S_).sem srcw (((Memref.whole cc0_scratch0).slice (Rect.unit (s := S2x1536x4096) od S1x1536x512.size inbd) (fun _ => rfl)).squeeze S1536x512 squeezes_S1x1536x512_S1536x512) h1 h2) k) Q) := by
  subst hm
  exact wait2b (src0 := srcW1 e 0 j) (dst0 := dstW1 s 0 j) (src1 := srcW1 e 1 j) (dst1 := dstW1 s 1 j) 𝒱 (c : Thread nD τ) bd rfl (View.dmaCredit_pos _ (by decide))

end Cert.KernelIdeal.Hand

end
-- ==== Proof.IdealSteps.lean ====
/-
  Reading and writing the kernel's buffers: what a load of a block at stated offsets reads, what a store leaves, for each
  buffer the kernel touches with vector operations.
-/
module

public import proofs.«01_k».proof.Proof.IdealSlots

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}
variable {α : Type} {Q : α → sProp (MT nD τ sig Unit (Elt F) ℕ (Pipeline.UD sig nD τ) ℕ)}

theorem ret_bind' {E : Type → Type} {β γ : Type} (a : β) (k : β → Prog E γ) : (Prog.ret a).bind k = k a := rfl

/-- The `m0 x m1` block of a matrix at row `r`, column `cc`. -/
def blk2 {n0 n1 : ℕ} [NeZero n0] [NeZero n1] {β : Type} (m0 m1 : ℕ) (T : (⟨2, ![n0, n1]⟩ : Shape).Idx → β) (r cc : ℕ) : (⟨2, ![m0, m1]⟩ : Shape).Idx → β :=
  fun y => T (ix2 (Fin.ofNat n0 (r + (y 0).val)) (Fin.ofNat n1 (cc + (y 1).val)))

/-- The matrix with the columns from `cc` on overwritten by the columns of `w`. -/
def updC {n0 n1 m1 : ℕ} {β : Type} (T : (⟨2, ![n0, n1]⟩ : Shape).Idx → β) (cc : ℕ) (w : (⟨2, ![n0, m1]⟩ : Shape).Idx → β) : (⟨2, ![n0, n1]⟩ : Shape).Idx → β :=
  fun i => if h : cc ≤ (i 1).val ∧ (i 1).val < cc + m1 then w (ix2 (i 0) ⟨(i 1).val - cc, by omega⟩) else T i

/-- The block `64 x 256` of one matrix of a stack. -/
def blk3 {n0 n1 n2 : ℕ} [NeZero n1] [NeZero n2] {β : Type} (T : (⟨3, ![n0, n1, n2]⟩ : Shape).Idx → β) (e : Fin n0) (r cc : ℕ) : (⟨3, ![1, 64, 256]⟩ : Shape).Idx → β :=
  fun y => T (ix3 e (Fin.ofNat n1 (r + (y 1).val)) (Fin.ofNat n2 (cc + (y 2).val)))

/-- Matrix `(e, b)` of the table of routing weights and counts. -/
def rowT {β : Type} (T : (⟨4, ![16, 2, 96, 128]⟩ : Shape).Idx → β) (e : Fin 16) (b : Fin 2) : (⟨4, ![1, 1, 96, 128]⟩ : Shape).Idx → β :=
  fun y => T (ix4 e b (y 2) (y 3))

/-- The table with matrix `(e, b)` overwritten. -/
def updT {β : Type} (T : (⟨4, ![16, 2, 96, 128]⟩ : Shape).Idx → β) (e : ℕ) (b : ℕ) (w : (⟨4, ![1, 1, 96, 128]⟩ : Shape).Idx → β) : (⟨4, ![16, 2, 96, 128]⟩ : Shape).Idx → β :=
  fun i => if (i 0).val = e ∧ (i 1).val = b then w (ix4 0 0 (i 2) (i 3)) else T i

theorem loadAt {cs : CoreSpace} {s : Shape} {e : EltTy} {m : Memref sig .tc cs s e} {r : Rect s} {hl : m.view.LoadsAt r.toLoadRect}
    {k : (r.shape.Idx → Elt F e) → Prog (TpuEff nD τ sig (Elt F) Λ .tc) α} {S : Finset (Idx (m.view.loc (c : Thread nD τ)))} {q : PosShare TreeShare}
    {f : Buf (Elt F) (m.view.loc (c : Thread nD τ))} (v : r.shape.Idx → Elt F e) (hS : m.view.setOn r.set ⊆ S)
    (hv : m.view.readAt (Elt F) r.toLoadRect f = v) :
    (m.view.loc (c : Thread nD τ) ↦[S]{q} f : sProp 𝕄) ⊢ iprop(((m.view.loc (c : Thread nD τ) ↦[S]{q} f) -∗ wp frame (wpE defs 𝒱 (c : Thread nD τ) bd) Set.univ (k v) Q)
      -∗ wp frame (wpE defs 𝒱 (c : Thread nD τ) bd) Set.univ (.op (.load m r.toLoadRect hl) k) Q) := by
  subst hv
  exact wp_load 𝒱 (c : Thread nD τ) bd Set.univ hS

theorem storeAt {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ .tc) α}
    {f : Buf (Elt F) ((m.access r).loc (c : Thread nD τ))} (g : Buf (Elt F) ((m.access r).loc (c : Thread nD τ)))
    (hg : (m.access r).write (Elt F) f w Finset.univ = g) :
    ((m.access r).loc (c : Thread nD τ) ↦{fullShare} f : sProp 𝕄) ⊢ iprop((((m.access r).loc (c : Thread nD τ) ↦{fullShare} g) -∗ wp frame (wpE defs 𝒱 (c : Thread nD τ) bd) Set.univ (k ⟨⟩) Q)
      -∗ wp frame (wpE defs 𝒱 (c : Thread nD τ) bd) Set.univ (.op (.store m r w Finset.univ hx hm) k) Q) := by
  subst hg
  exact wp_store 𝒱 (c : Thread nD τ) bd Set.univ (Finset.subset_univ _)

theorem load_cc0_stg0_0 (r cc : ℕ) {off : Fin 2 → ℕ} (ho : off = ![r, cc]) {inb : ∀ a, off a + S96x256.size a ≤ S96x3072.size a} {hl}
    {k : Vec F S96x256 .bf16 → Prog (TpuEff nD τ sig (Elt F) Λ .tc) α} {q : PosShare TreeShare} (f : Vec F S96x3072 .bf16) :
    ((c : Thread nD τ).loc cc0_stg0_0 ↦{q} (f : Buf (Elt F) ((c : Thread nD τ).loc cc0_stg0_0)) : sProp 𝕄) ⊢ iprop((((c : Thread nD τ).loc cc0_stg0_0 ↦{q} (f : Buf (Elt F) ((c : Thread nD τ).loc cc0_stg0_0))) -∗ wp frame (wpE defs 𝒱 (c : Thread nD τ) bd) Set.univ (k (blk2 96 256 f r cc)) Q)
      -∗ wp frame (wpE defs 𝒱 (c : Thread nD τ) bd) Set.univ (.op (.load (Memref.whole cc0_stg0_0) (Rect.unit (s := S96x3072) off S96x256.size inb).toLoadRect hl) k) Q) := by
  subst ho
  refine loadAt (F := F) c (m := Memref.whole cc0_stg0_0) (r := Rect.unit (s := S96x3072) ![r, cc] S96x256.size inb) (f := (f : Buf (Elt F) ((c : Thread nD τ).loc cc0_stg0_0))) (blk2 96 256 f r cc) (Finset.subset_univ _) ?_
  funext y
  have i0 := inb 0; have i1 := inb 1
  have h0 : (y 0).val < 96 := (y 0).isLt
  have h1 : (y 1).val < 256 := (y 1).isLt
  change r + 96 ≤ 96 at i0; change cc + 256 ≤ 3072 at i1
  refine congrArg f (funext fun a => Fin.ext ?_)
  fin_cases a
  · show r + 1 * (y 0).val = (r + (y 0).val) % 96
    rw [Nat.one_mul, Nat.mod_eq_of_lt (by omega)]
  · show cc + 1 * (y 1).val = (cc + (y 1).val) % 3072
    rw [Nat.one_mul, Nat.mod_eq_of_lt (by omega)]

theorem load_cc0_scratch6 (r cc : ℕ) {off : Fin 2 → ℕ} (ho : off = ![r, cc]) {inb : ∀ a, off a + S1x256.size a ≤ S24x4096.size a} {hl}
    {k : Vec F S1x256 .f32 → Prog (TpuEff nD τ sig (Elt F) Λ .tc) α} {q : PosShare TreeShare} (f : Vec F S24x4096 .f32) :
    ((c : Thread nD τ).loc cc0_scratch6 ↦{q} (f : Buf (Elt F) ((c : Thread nD τ).loc cc0_scratch6)) : sProp 𝕄) ⊢ iprop((((c : Thread nD τ).loc cc0_scratch6 ↦{q} (f : Buf (Elt F) ((c : Thread nD τ).loc cc0_scratch6))) -∗ wp frame (wpE defs 𝒱 (c : Thread nD τ) bd) Set.univ (k (blk2 1 256 f r cc)) Q)
      -∗ wp frame (wpE defs 𝒱 (c : Thread nD τ) bd) Set.univ (.op (.load (Memref.whole cc0_scratch6) (Rect.unit (s := S24x4096) off S1x256.size inb).toLoadRect hl) k) Q) := by
  subst ho
  refine loadAt (F := F) c (m := Memref.whole cc0_scratch6) (r := Rect.unit (s := S24x4096) ![r, cc] S1x256.size inb) (f := (f : Buf (Elt F) ((c : Thread nD τ).loc cc0_scratch6))) (blk2 1 256 f r cc) (Finset.subset_univ _) ?_
  funext y
  have i0 := inb 0; have i1 := inb 1
  have h0 : (y 0).val < 1 := (y 0).isLt
  have h1 : (y 1).val < 256 := (y 1).isLt
  change r + 1 ≤ 24 at i0; change cc + 256 ≤ 4096 at i1
  refine congrArg f (funext fun a => Fin.ext ?_)
  fin_cases a
  · show r + 1 * (y 0).val = (r + (y 0).val) % 24
    rw [Nat.one_mul, Nat.mod_eq_of_lt (by omega)]
  · show cc + 1 * (y 1).val = (cc + (y 1).val) % 4096
    rw [Nat.one_mul, Nat.mod_eq_of_lt (by omega)]

theorem load_cc0_scratch7 (r cc : ℕ) {off : Fin 2 → ℕ} (ho : off = ![r, cc]) {inb : ∀ a, off a + S1x256.size a ≤ S24x4096.size a} {hl}
    {k : Vec F S1x256 .f32 → Prog (TpuEff nD τ sig (Elt F) Λ .tc) α} {q : PosShare TreeShare} (f : Vec F S24x4096 .f32) :
    ((c : Thread nD τ).loc cc0_scratch7 ↦{q} (f : Buf (Elt F) ((c : Thread nD τ).loc cc0_scratch7)) : sProp 𝕄) ⊢ iprop((((c : Thread nD τ).loc cc0_scratch7 ↦{q} (f : Buf (Elt F) ((c : Thread nD τ).loc cc0_scratch7))) -∗ wp frame (wpE defs 𝒱 (c : Thread nD τ) bd) Set.univ (k (blk2 1 256 f r cc)) Q)
      -∗ wp frame (wpE defs 𝒱 (c : Thread nD τ) bd) Set.univ (.op (.load (Memref.whole cc0_scratch7) (Rect.unit (s := S24x4096) off S1x256.size inb).toLoadRect hl) k) Q) := by
  subst ho
  refine loadAt (F := F) c (m := Memref.whole cc0_scratch7) (r := Rect.unit (s := S24x4096) ![r, cc] S1x256.size inb) (f := (f : Buf (Elt F) ((c : Thread nD τ).loc cc0_scratch7))) (blk2 1 256 f r cc) (Finset.subset_univ _) ?_
  funext y
  have i0 := inb 0; have i1 := inb 1
  have h0 : (y 0).val < 1 := (y 0).isLt
  have h1 : (y 1).val < 256 := (y 1).isLt
  change r + 1 ≤ 24 at i0; change cc + 256 ≤ 4096 at i1
  refine congrArg f (funext fun a => Fin.ext ?_)
  fin_cases a
  · show r + 1 * (y 0).val = (r + (y 0).val) % 24
    rw [Nat.one_mul, Nat.mod_eq_of_lt (by omega)]
  · show cc + 1 * (y 1).val = (cc + (y 1).val) % 4096
    rw [Nat.one_mul, Nat.mod_eq_of_lt (by omega)]

theorem load_cc0_scratch8 (r cc : ℕ) {off : Fin 2 → ℕ} (ho : off = ![r, cc]) {inb : ∀ a, off a + S1x256.size a ≤ S16x3072.size a} {hl}
    {k : Vec F S1x256 .f32 → Prog (TpuEff nD τ sig (Elt F) Λ .tc) α} {q : PosShare TreeShare} (f : Vec F S16x3072 .f32) :
    ((c : Thread nD τ).loc cc0_scratch8 ↦{q} (f : Buf (Elt F) ((c : Thread nD τ).loc cc0_scratch8)) : sProp 𝕄) ⊢ iprop((((c : Thread nD τ).loc cc0_scratch8 ↦{q} (f : Buf (Elt F) ((c : Thread nD τ).loc cc0_scratch8))) -∗ wp frame (wpE defs 𝒱 (c : Thread nD τ) bd) Set.univ (k (blk2 1 256 f r cc)) Q)
      -∗ wp frame (wpE defs 𝒱 (c : Thread nD τ) bd) Set.univ (.op (.load (Memref.whole cc0_scratch8) (Rect.unit (s := S16x3072) off S1x256.size inb).toLoadRect hl) k) Q) := by
  subst ho
  refine loadAt (F := F) c (m := Memref.whole cc0_scratch8) (r := Rect.unit (s := S16x3072) ![r, cc] S1x256.size inb) (f := (f : Buf (Elt F) ((c : Thread nD τ).loc cc0_scratch8))) (blk2 1 256 f r cc) (Finset.subset_univ _) ?_
  funext y
  have i0 := inb 0; have i1 := inb 1
  have h0 : (y 0).val < 1 := (y 0).isLt
  have h1 : (y 1).val < 256 := (y 1).isLt
  change r + 1 ≤ 16 at i0; change cc + 256 ≤ 3072 at i1
  refine congrArg f (funext fun a => Fin.ext ?_)
  fin_cases a
  · show r + 1 * (y 0).val = (r + (y 0).val) % 16
    rw [Nat.one_mul, Nat.mod_eq_of_lt (by omega)]
  · show cc + 1 * (y 1).val = (cc + (y 1).val) % 3072
    rw [Nat.one_mul, Nat.mod_eq_of_lt (by omega)]

theorem load_cc0_scratch9 (r cc : ℕ) {off : Fin 2 → ℕ} (ho : off = ![r, cc]) {inb : ∀ a, off a + S1x256.size a ≤ S16x3072.size a} {hl}
    {k : Vec F S1x256 .f32 → Prog (TpuEff nD τ sig (Elt F) Λ .tc) α} {q : PosShare TreeShare} (f : Vec F S16x3072 .f32) :
    ((c : Thread nD τ).loc cc0_scratch9 ↦{q} (f : Buf (Elt F) ((c : Thread nD τ).loc cc0_scratch9)) : sProp 𝕄) ⊢ iprop((((c : Thread nD τ).loc cc0_scratch9 ↦{q} (f : Buf (Elt F) ((c : Thread nD τ).loc cc0_scratch9))) -∗ wp frame (wpE defs 𝒱 (c : Thread nD τ) bd) Set.univ (k (blk2 1 256 f r cc)) Q)
      -∗ wp frame (wpE defs 𝒱 (c : Thread nD τ) bd) Set.univ (.op (.load (Memref.whole cc0_scratch9) (Rect.unit (s := S16x3072) off S1x256.size inb).toLoadRect hl) k) Q) := by
  subst ho
  refine loadAt (F := F) c (m := Memref.whole cc0_scratch9) (r := Rect.unit (s := S16x3072) ![r, cc] S1x256.size inb) (f := (f : Buf (Elt F) ((c : Thread nD τ).loc cc0_scratch9))) (blk2 1 256 f r cc) (Finset.subset_univ _) ?_
  funext y
  have i0 := inb 0; have i1 := inb 1
  have h0 : (y 0).val < 1 := (y 0).isLt
  have h1 : (y 1).val < 256 := (y 1).isLt
  change r + 1 ≤ 16 at i0; change cc + 256 ≤ 3072 at i1
  refine congrArg f (funext fun a => Fin.ext ?_)
  fin_cases a
  · show r + 1 * (y 0).val = (r + (y 0).val) % 16
    rw [Nat.one_mul, Nat.mod_eq_of_lt (by omega)]
  · show cc + 1 * (y 1).val = (cc + (y 1).val) % 3072
    rw [Nat.one_mul, Nat.mod_eq_of_lt (by omega)]

theorem load_cc0_scratch10 (r cc : ℕ) {off : Fin 2 → ℕ} (ho : off = ![r, cc]) {inb : ∀ a, off a + S96x256.size a ≤ S96x2048.size a} {hl}
    {k : Vec F S96x256 .bf16 → Prog (TpuEff nD τ sig (Elt F) Λ .tc) α} {q : PosShare TreeShare} (f : Vec F S96x2048 .bf16) :
    ((c : Thread nD τ).loc cc0_scratch10 ↦{q} (f : Buf (Elt F) ((c : Thread nD τ).loc cc0_scratch10)) : sProp 𝕄) ⊢ iprop((((c : Thread nD τ).loc cc0_scratch10 ↦{q} (f : Buf (Elt F) ((c : Thread nD τ).loc cc0_scratch10))) -∗ wp frame (wpE defs 𝒱 (c : Thread nD τ) bd) Set.univ (k (blk2 96 256 f r cc)) Q)
      -∗ wp frame (wpE defs 𝒱 (c : Thread nD τ) bd) Set.univ (.op (.load (Memref.whole cc0_scratch10) (Rect.unit (s := S96x2048) off S96x256.size inb).toLoadRect hl) k) Q) := by
  subst ho
  refine loadAt (F := F) c (m := Memref.whole cc0_scratch10) (r := Rect.unit (s := S96x2048) ![r, cc] S96x256.size inb) (f := (f : Buf (Elt F) ((c : Thread nD τ).loc cc0_scratch10))) (blk2 96 256 f r cc) (Finset.subset_univ _) ?_
  funext y
  have i0 := inb 0; have i1 := inb 1
  have h0 : (y 0).val < 96 := (y 0).isLt
  have h1 : (y 1).val < 256 := (y 1).isLt
  change r + 96 ≤ 96 at i0; change cc + 256 ≤ 2048 at i1
  refine congrArg f (funext fun a => Fin.ext ?_)
  fin_cases a
  · show r + 1 * (y 0).val = (r + (y 0).val) % 96
    rw [Nat.one_mul, Nat.mod_eq_of_lt (by omega)]
  · show cc + 1 * (y 1).val = (cc + (y 1).val) % 2048
    rw [Nat.one_mul, Nat.mod_eq_of_lt (by omega)]

theorem load_cc0_scratch11 (r cc : ℕ) {off : Fin 2 → ℕ} (ho : off = ![r, cc]) {inb : ∀ a, off a + S96x256.size a ≤ S96x3072.size a} {hl}
    {k : Vec F S96x256 .f32 → Prog (TpuEff nD τ sig (Elt F) Λ .tc) α} {q : PosShare TreeShare} (f : Vec F S96x3072 .f32) :
    ((c : Thread nD τ).loc cc0_scratch11 ↦{q} (f : Buf (Elt F) ((c : Thread nD τ).loc cc0_scratch11)) : sProp 𝕄) ⊢ iprop((((c : Thread nD τ).loc cc0_scratch11 ↦{q} (f : Buf (Elt F) ((c : Thread nD τ).loc cc0_scratch11))) -∗ wp frame (wpE defs 𝒱 (c : Thread nD τ) bd) Set.univ (k (blk2 96 256 f r cc)) Q)
      -∗ wp frame (wpE defs 𝒱 (c : Thread nD τ) bd) Set.univ (.op (.load (Memref.whole cc0_scratch11) (Rect.unit (s := S96x3072) off S96x256.size inb).toLoadRect hl) k) Q) := by
  subst ho
  refine loadAt (F := F) c (m := Memref.whole cc0_scratch11) (r := Rect.unit (s := S96x3072) ![r, cc] S96x256.size inb) (f := (f : Buf (Elt F) ((c : Thread nD τ).loc cc0_scratch11))) (blk2 96 256 f r cc) (Finset.subset_univ _) ?_
  funext y
  have i0 := inb 0; have i1 := inb 1
  have h0 : (y 0).val < 96 := (y 0).isLt
  have h1 : (y 1).val < 256 := (y 1).isLt
  change r + 96 ≤ 96 at i0; change cc + 256 ≤ 3072 at i1
  refine congrArg f (funext fun a => Fin.ext ?_)
  fin_cases a
  · show r + 1 * (y 0).val = (r + (y 0).val) % 96
    rw [Nat.one_mul, Nat.mod_eq_of_lt (by omega)]
  · show cc + 1 * (y 1).val = (cc + (y 1).val) % 3072
    rw [Nat.one_mul, Nat.mod_eq_of_lt (by omega)]

theorem store_cc0_scratch7 (cc : ℕ) {off : Fin 2 → ℕ} (ho : off = ![0, cc]) {inb : ∀ a, off a + S24x2048.size a ≤ S24x4096.size a} {hx hm}
    {k : PUnit → Prog (TpuEff nD τ sig (Elt F) Λ .tc) α} (f : Vec F S24x4096 .f32) (w : Vec F S24x2048 .f32) :
    ((c : Thread nD τ).loc cc0_scratch7 ↦{fullShare} (f : Buf (Elt F) ((c : Thread nD τ).loc cc0_scratch7)) : sProp 𝕄) ⊢ iprop((((c : Thread nD τ).loc cc0_scratch7 ↦{fullShare} (updC f cc w : Buf (Elt F) ((c : Thread nD τ).loc cc0_scratch7))) -∗ wp frame (wpE defs 𝒱 (c : Thread nD τ) bd) Set.univ (k ⟨⟩) Q)
      -∗ wp frame (wpE defs 𝒱 (c : Thread nD τ) bd) Set.univ (.op (.store (Memref.whole cc0_scratch7) (Rect.unit (s := S24x4096) off S24x2048.size inb) w Finset.univ hx hm) k) Q) := by
  subst ho
  refine storeAt (F := F) c (m := Memref.whole cc0_scratch7) (r := Rect.unit (s := S24x4096) ![0, cc] S24x2048.size inb) (f := f) (updC f cc w) ?_
  have i1 := inb 1
  change cc + 2048 ≤ 4096 at i1
  funext i
  unfold updC
  split
  · rename_i h
    have he : (Rect.unit (s := S24x4096) ![0, cc] S24x2048.size inb).emb (ix2 (i 0) ⟨(i 1).val - cc, by omega⟩) = i := by
      refine funext fun a => Fin.ext ?_
      fin_cases a
      · show 0 + 1 * (i 0).val = (i 0).val; omega
      · show cc + 1 * ((i 1).val - cc) = (i 1).val; omega
    exact (congrArg (((Memref.whole cc0_scratch7).access (Rect.unit (s := S24x4096) ![0, cc] S24x2048.size inb)).write (Elt F) f w Finset.univ) he.symm).trans
      (View.write_emb_of_mem (v := (Memref.whole cc0_scratch7).access (Rect.unit (s := S24x4096) ![0, cc] S24x2048.size inb)) f w (Finset.mem_univ _))
  · rename_i h
    refine View.write_of_not_mem (v := (Memref.whole cc0_scratch7).access (Rect.unit (s := S24x4096) ![0, cc] S24x2048.size inb)) f w Finset.univ (i := i) fun hm => h ?_
    obtain ⟨x, -, rfl⟩ := Finset.mem_map.mp hm
    have hx : (x 1).val < 2048 := (x 1).isLt
    constructor
    · show cc ≤ cc + 1 * (x 1).val; omega
    · show cc + 1 * (x 1).val < cc + 2048; omega

theorem store_cc0_scratch9 (cc : ℕ) {off : Fin 2 → ℕ} (ho : off = ![0, cc]) {inb : ∀ a, off a + S16x1536.size a ≤ S16x3072.size a} {hx hm}
    {k : PUnit → Prog (TpuEff nD τ sig (Elt F) Λ .tc) α} (f : Vec F S16x3072 .f32) (w : Vec F S16x1536 .f32) :
    ((c : Thread nD τ).loc cc0_scratch9 ↦{fullShare} (f : Buf (Elt F) ((c : Thread nD τ).loc cc0_scratch9)) : sProp 𝕄) ⊢ iprop((((c : Thread nD τ).loc cc0_scratch9 ↦{fullShare} (updC f cc w : Buf (Elt F) ((c : Thread nD τ).loc cc0_scratch9))) -∗ wp frame (wpE defs 𝒱 (c : Thread nD τ) bd) Set.univ (k ⟨⟩) Q)
      -∗ wp frame (wpE defs 𝒱 (c : Thread nD τ) bd) Set.univ (.op (.store (Memref.whole cc0_scratch9) (Rect.unit (s := S16x3072) off S16x1536.size inb) w Finset.univ hx hm) k) Q) := by
  subst ho
  refine storeAt (F := F) c (m := Memref.whole cc0_scratch9) (r := Rect.unit (s := S16x3072) ![0, cc] S16x1536.size inb) (f := f) (updC f cc w) ?_
  have i1 := inb 1
  change cc + 1536 ≤ 3072 at i1
  funext i
  unfold updC
  split
  · rename_i h
    have he : (Rect.unit (s := S16x3072) ![0, cc] S16x1536.size inb).emb (ix2 (i 0) ⟨(i 1).val - cc, by omega⟩) = i := by
      refine funext fun a => Fin.ext ?_
      fin_cases a
      · show 0 + 1 * (i 0).val = (i 0).val; omega
      · show cc + 1 * ((i 1).val - cc) = (i 1).val; omega
    exact (congrArg (((Memref.whole cc0_scratch9).access (Rect.unit (s := S16x3072) ![0, cc] S16x1536.size inb)).write (Elt F) f w Finset.univ) he.symm).trans
      (View.write_emb_of_mem (v := (Memref.whole cc0_scratch9).access (Rect.unit (s := S16x3072) ![0, cc] S16x1536.size inb)) f w (Finset.mem_univ _))
  · rename_i h
    refine View.write_of_not_mem (v := (Memref.whole cc0_scratch9).access (Rect.unit (s := S16x3072) ![0, cc] S16x1536.size inb)) f w Finset.univ (i := i) fun hm => h ?_
    obtain ⟨x, -, rfl⟩ := Finset.mem_map.mp hm
    have hx : (x 1).val < 1536 := (x 1).isLt
    constructor
    · show cc ≤ cc + 1 * (x 1).val; omega
    · show cc + 1 * (x 1).val < cc + 1536; omega

theorem store_cc0_scratch10 (cc : ℕ) {off : Fin 2 → ℕ} (ho : off = ![0, cc]) {inb : ∀ a, off a + S96x256.size a ≤ S96x2048.size a} {hx hm}
    {k : PUnit → Prog (TpuEff nD τ sig (Elt F) Λ .tc) α} (f : Vec F S96x2048 .bf16) (w : Vec F S96x256 .bf16) :
    ((c : Thread nD τ).loc cc0_scratch10 ↦{fullShare} (f : Buf (Elt F) ((c : Thread nD τ).loc cc0_scratch10)) : sProp 𝕄) ⊢ iprop((((c : Thread nD τ).loc cc0_scratch10 ↦{fullShare} (updC f cc w : Buf (Elt F) ((c : Thread nD τ).loc cc0_scratch10))) -∗ wp frame (wpE defs 𝒱 (c : Thread nD τ) bd) Set.univ (k ⟨⟩) Q)
      -∗ wp frame (wpE defs 𝒱 (c : Thread nD τ) bd) Set.univ (.op (.store (Memref.whole cc0_scratch10) (Rect.unit (s := S96x2048) off S96x256.size inb) w Finset.univ hx hm) k) Q) := by
  subst ho
  refine storeAt (F := F) c (m := Memref.whole cc0_scratch10) (r := Rect.unit (s := S96x2048) ![0, cc] S96x256.size inb) (f := f) (updC f cc w) ?_
  have i1 := inb 1
  change cc + 256 ≤ 2048 at i1
  funext i
  unfold updC
  split
  · rename_i h
    have he : (Rect.unit (s := S96x2048) ![0, cc] S96x256.size inb).emb (ix2 (i 0) ⟨(i 1).val - cc, by omega⟩) = i := by
      refine funext fun a => Fin.ext ?_
      fin_cases a
      · show 0 + 1 * (i 0).val = (i 0).val; omega
      · show cc + 1 * ((i 1).val - cc) = (i 1).val; omega
    exact (congrArg (((Memref.whole cc0_scratch10).access (Rect.unit (s := S96x2048) ![0, cc] S96x256.size inb)).write (Elt F) f w Finset.univ) he.symm).trans
      (View.write_emb_of_mem (v := (Memref.whole cc0_scratch10).access (Rect.unit (s := S96x2048) ![0, cc] S96x256.size inb)) f w (Finset.mem_univ _))
  · rename_i h
    refine View.write_of_not_mem (v := (Memref.whole cc0_scratch10).access (Rect.unit (s := S96x2048) ![0, cc] S96x256.size inb)) f w Finset.univ (i := i) fun hm => h ?_
    obtain ⟨x, -, rfl⟩ := Finset.mem_map.mp hm
    have hx : (x 1).val < 256 := (x 1).isLt
    constructor
    · show cc ≤ cc + 1 * (x 1).val; omega
    · show cc + 1 * (x 1).val < cc + 256; omega

theorem store_cc0_scratch11 (cc : ℕ) {off : Fin 2 → ℕ} (ho : off = ![0, cc]) {inb : ∀ a, off a + S96x256.size a ≤ S96x3072.size a} {hx hm}
    {k : PUnit → Prog (TpuEff nD τ sig (Elt F) Λ .tc) α} (f : Vec F S96x3072 .f32) (w : Vec F S96x256 .f32) :
    ((c : Thread nD τ).loc cc0_scratch11 ↦{fullShare} (f : Buf (Elt F) ((c : Thread nD τ).loc cc0_scratch11)) : sProp 𝕄) ⊢ iprop((((c : Thread nD τ).loc cc0_scratch11 ↦{fullShare} (updC f cc w : Buf (Elt F) ((c : Thread nD τ).loc cc0_scratch11))) -∗ wp frame (wpE defs 𝒱 (c : Thread nD τ) bd) Set.univ (k ⟨⟩) Q)
      -∗ wp frame (wpE defs 𝒱 (c : Thread nD τ) bd) Set.univ (.op (.store (Memref.whole cc0_scratch11) (Rect.unit (s := S96x3072) off S96x256.size inb) w Finset.univ hx hm) k) Q) := by
  subst ho
  refine storeAt (F := F) c (m := Memref.whole cc0_scratch11) (r := Rect.unit (s := S96x3072) ![0, cc] S96x256.size inb) (f := f) (updC f cc w) ?_
  have i1 := inb 1
  change cc + 256 ≤ 3072 at i1
  funext i
  unfold updC
  split
  · rename_i h
    have he : (Rect.unit (s := S96x3072) ![0, cc] S96x256.size inb).emb (ix2 (i 0) ⟨(i 1).val - cc, by omega⟩) = i := by
      refine funext fun a => Fin.ext ?_
      fin_cases a
      · show 0 + 1 * (i 0).val = (i 0).val; omega
      · show cc + 1 * ((i 1).val - cc) = (i 1).val; omega
    exact (congrArg (((Memref.whole cc0_scratch11).access (Rect.unit (s := S96x3072) ![0, cc] S96x256.size inb)).write (Elt F) f w Finset.univ) he.symm).trans
      (View.write_emb_of_mem (v := (Memref.whole cc0_scratch11).access (Rect.unit (s := S96x3072) ![0, cc] S96x256.size inb)) f w (Finset.mem_univ _))
  · rename_i h
    refine View.write_of_not_mem (v := (Memref.whole cc0_scratch11).access (Rect.unit (s := S96x3072) ![0, cc] S96x256.size inb)) f w Finset.univ (i := i) fun hm => h ?_
    obtain ⟨x, -, rfl⟩ := Finset.mem_map.mp hm
    have hx : (x 1).val < 256 := (x 1).isLt
    constructor
    · show cc ≤ cc + 1 * (x 1).val; omega
    · show cc + 1 * (x 1).val < cc + 256; omega

theorem load_W1 (X : (b : Ref sig .tc) → Buf (Elt F) ((c : Thread nD τ).loc b)) (e : Fin 16) (s : Fin 2) (h : Fin 2) (j : Fin 4) (r cc : ℕ) {off : Fin 3 → ℕ} (ho : off = ![s.val, r, cc])
    (h1 : 2048 * h.val + 512 * j.val ≤ cc) (h2 : cc + 256 ≤ 2048 * h.val + 512 * j.val + 512) {inb : ∀ a, off a + S1x64x256.size a ≤ S2x1536x4096.size a} {hl}
    {k : Vec F S1x64x256 .i8 → Prog (TpuEff nD τ sig (Elt F) Λ .tc) α} {q : PosShare TreeShare} :
    ((c : Thread nD τ).loc cc0_scratch0 ↦[(dstW1 s h j).view.set]{q} (gW1 c X e : Buf (Elt F) ((c : Thread nD τ).loc cc0_scratch0)) : sProp 𝕄)
      ⊢ iprop((((c : Thread nD τ).loc cc0_scratch0 ↦[(dstW1 s h j).view.set]{q} (gW1 c X e : Buf (Elt F) ((c : Thread nD τ).loc cc0_scratch0))) -∗ wp frame (wpE defs 𝒱 (c : Thread nD τ) bd) Set.univ (k (blk3 (X main_arg3 : Vec F S16x1536x4096 .i8) e r cc)) Q)
      -∗ wp frame (wpE defs 𝒱 (c : Thread nD τ) bd) Set.univ (.op (.load (Memref.whole cc0_scratch0) (Rect.unit (s := S2x1536x4096) off S1x64x256.size inb).toLoadRect hl) k) Q) := by
  subst ho
  have i1 := inb 1; have i2 := inb 2
  change r + 64 ≤ 1536 at i1; change cc + 256 ≤ 4096 at i2
  refine loadAt (F := F) c (m := Memref.whole cc0_scratch0) (r := Rect.unit (s := S2x1536x4096) ![s.val, r, cc] S1x64x256.size inb) (f := (gW1 c X e : Buf (Elt F) ((c : Thread nD τ).loc cc0_scratch0))) (blk3 (X main_arg3 : Vec F S16x1536x4096 .i8) e r cc) ?_ ?_
  · intro i hi
    have hi' : i ∈ (Rect.unit (s := S2x1536x4096) ![s.val, r, cc] S1x64x256.size inb).set := by
      obtain ⟨x, hx, rfl⟩ := Finset.mem_map.mp hi
      exact hx
    have hm := Rect.mem_set_unit.mp hi'
    have m0 := hm 0; have m1 := hm 1; have m2 := hm 2
    change s.val ≤ (i 0).val ∧ (i 0).val < s.val + 1 at m0
    change r ≤ (i 1).val ∧ (i 1).val < r + 64 at m1
    change cc ≤ (i 2).val ∧ (i 2).val < cc + 256 at m2
    have hd : (dstW1 s h j).view.set = (Rect.unit (s := S2x1536x4096) ![s.val, 0, 2048 * h.val + 512 * j.val] S1x1536x512.size (inbW1d s h j)).set := by
      show (((View.whole cc0_scratch0).slice _).reshape _ _).set = _
      rw [View.set_reshape]
      exact View.set_slice_whole (b := cc0_scratch0) _
    rw [hd]
    refine Rect.mem_set_unit.mpr fun a => ?_
    fin_cases a
    · exact m0
    · show 0 ≤ (i 1).val ∧ (i 1).val < 0 + 1536
      omega
    · show 2048 * h.val + 512 * j.val ≤ (i 2).val ∧ (i 2).val < 2048 * h.val + 512 * j.val + 512
      omega
  · funext y
    have h0 : (y 1).val < 64 := (y 1).isLt
    have h1 : (y 2).val < 256 := (y 2).isLt
    refine congrArg (X main_arg3 : Vec F S16x1536x4096 .i8) (funext fun a => Fin.ext ?_)
    fin_cases a
    · rfl
    · show r + 1 * (y 1).val = (r + (y 1).val) % 1536
      rw [Nat.one_mul, Nat.mod_eq_of_lt (by omega)]
    · show cc + 1 * (y 2).val = (cc + (y 2).val) % 4096
      rw [Nat.one_mul, Nat.mod_eq_of_lt (by omega)]

theorem load_W2 (X : (b : Ref sig .tc) → Buf (Elt F) ((c : Thread nD τ).loc b)) (e : Fin 16) (s : Fin 2) (j : Fin 2) (r cc : ℕ) {off : Fin 3 → ℕ} (ho : off = ![s.val, r, cc])
    (h1 : 1536 * j.val ≤ cc) (h2 : cc + 256 ≤ 1536 * j.val + 1536) {inb : ∀ a, off a + S1x64x256.size a ≤ S2x1024x3072.size a} {hl}
    {k : Vec F S1x64x256 .i8 → Prog (TpuEff nD τ sig (Elt F) Λ .tc) α} {q : PosShare TreeShare} :
    ((c : Thread nD τ).loc cc0_scratch1 ↦[(dstW2 s j).view.set]{q} (gW2 c X e : Buf (Elt F) ((c : Thread nD τ).loc cc0_scratch1)) : sProp 𝕄)
      ⊢ iprop((((c : Thread nD τ).loc cc0_scratch1 ↦[(dstW2 s j).view.set]{q} (gW2 c X e : Buf (Elt F) ((c : Thread nD τ).loc cc0_scratch1))) -∗ wp frame (wpE defs 𝒱 (c : Thread nD τ) bd) Set.univ (k (blk3 (X main_arg6 : Vec F S16x1024x3072 .i8) e r cc)) Q)
      -∗ wp frame (wpE defs 𝒱 (c : Thread nD τ) bd) Set.univ (.op (.load (Memref.whole cc0_scratch1) (Rect.unit (s := S2x1024x3072) off S1x64x256.size inb).toLoadRect hl) k) Q) := by
  subst ho
  have i1 := inb 1; have i2 := inb 2
  change r + 64 ≤ 1024 at i1; change cc + 256 ≤ 3072 at i2
  refine loadAt (F := F) c (m := Memref.whole cc0_scratch1) (r := Rect.unit (s := S2x1024x3072) ![s.val, r, cc] S1x64x256.size inb) (f := (gW2 c X e : Buf (Elt F) ((c : Thread nD τ).loc cc0_scratch1))) (blk3 (X main_arg6 : Vec F S16x1024x3072 .i8) e r cc) ?_ ?_
  · intro i hi
    have hi' : i ∈ (Rect.unit (s := S2x1024x3072) ![s.val, r, cc] S1x64x256.size inb).set := by
      obtain ⟨x, hx, rfl⟩ := Finset.mem_map.mp hi
      exact hx
    have hm := Rect.mem_set_unit.mp hi'
    have m0 := hm 0; have m1 := hm 1; have m2 := hm 2
    change s.val ≤ (i 0).val ∧ (i 0).val < s.val + 1 at m0
    change r ≤ (i 1).val ∧ (i 1).val < r + 64 at m1
    change cc ≤ (i 2).val ∧ (i 2).val < cc + 256 at m2
    have hd : (dstW2 s j).view.set = (Rect.unit (s := S2x1024x3072) ![s.val, 0, 1536 * j.val] S1x1024x1536.size (inbW2d s j)).set := by
      show (((View.whole cc0_scratch1).slice _).reshape _ _).set = _
      rw [View.set_reshape]
      exact View.set_slice_whole (b := cc0_scratch1) _
    rw [hd]
    refine Rect.mem_set_unit.mpr fun a => ?_
    fin_cases a
    · exact m0
    · show 0 ≤ (i 1).val ∧ (i 1).val < 0 + 1024
      omega
    · show 1536 * j.val ≤ (i 2).val ∧ (i 2).val < 1536 * j.val + 1536
      omega
  · funext y
    have h0 : (y 1).val < 64 := (y 1).isLt
    have h1 : (y 2).val < 256 := (y 2).isLt
    refine congrArg (X main_arg6 : Vec F S16x1024x3072 .i8) (funext fun a => Fin.ext ?_)
    fin_cases a
    · rfl
    · show r + 1 * (y 1).val = (r + (y 1).val) % 1024
      rw [Nat.one_mul, Nat.mod_eq_of_lt (by omega)]
    · show cc + 1 * (y 2).val = (cc + (y 2).val) % 3072
      rw [Nat.one_mul, Nat.mod_eq_of_lt (by omega)]

/-- Expert `e`'s block of the array. -/
def blkQ0 (X : (b : Ref sig .tc) → Buf (Elt F) ((c : Thread nD τ).loc b)) (e : Fin 16) : Vec F S1x24x4096 .bf16 := fun y => (X main_arg4 : Vec F S16x24x4096 .bf16) (ix3 e (y 1) (y 2))

theorem load_Q0 (X : (b : Ref sig .tc) → Buf (Elt F) ((c : Thread nD τ).loc b)) (e : Fin 16) (s : Fin 2) {off : Fin 3 → ℕ} (ho : off = ![s.val, 0, 0])
    {inb : ∀ a, off a + S1x24x4096.size a ≤ S2x24x4096.size a} {hl}
    {k : Vec F S1x24x4096 .bf16 → Prog (TpuEff nD τ sig (Elt F) Λ .tc) α} {q : PosShare TreeShare} :
    ((c : Thread nD τ).loc cc0_scratch2 ↦[(dstQ0 s).view.set]{q} (gQ0 c X e : Buf (Elt F) ((c : Thread nD τ).loc cc0_scratch2)) : sProp 𝕄)
      ⊢ iprop((((c : Thread nD τ).loc cc0_scratch2 ↦[(dstQ0 s).view.set]{q} (gQ0 c X e : Buf (Elt F) ((c : Thread nD τ).loc cc0_scratch2))) -∗ wp frame (wpE defs 𝒱 (c : Thread nD τ) bd) Set.univ (k (blkQ0 c X e)) Q)
      -∗ wp frame (wpE defs 𝒱 (c : Thread nD τ) bd) Set.univ (.op (.load (Memref.whole cc0_scratch2) (Rect.unit (s := S2x24x4096) off S1x24x4096.size inb).toLoadRect hl) k) Q) := by
  subst ho
  refine loadAt (F := F) c (m := Memref.whole cc0_scratch2) (r := Rect.unit (s := S2x24x4096) ![s.val, 0, 0] S1x24x4096.size inb) (f := (gQ0 c X e : Buf (Elt F) ((c : Thread nD τ).loc cc0_scratch2))) (blkQ0 c X e) ?_ ?_
  · intro i hi
    have hi' : i ∈ (Rect.unit (s := S2x24x4096) ![s.val, 0, 0] S1x24x4096.size inb).set := by
      obtain ⟨x, hx, rfl⟩ := Finset.mem_map.mp hi
      exact hx
    have hd : (dstQ0 s).view.set = (Rect.unit (s := S2x24x4096) ![s.val, 0, 0] S1x24x4096.size (inbQ0d s)).set := by
      show (((View.whole cc0_scratch2).slice _).reshape _ _).set = _
      rw [View.set_reshape]
      exact View.set_slice_whole (b := cc0_scratch2) _
    rw [hd]
    exact hi'
  · funext y
    refine congrArg (X main_arg4 : Vec F S16x24x4096 .bf16) (funext fun a => Fin.ext ?_)
    fin_cases a
    · rfl
    · show 0 + 1 * (y 1).val = (y 1).val
      omega
    · show 0 + 1 * (y 2).val = (y 2).val
      omega

/-- Expert `e`'s block of the array. -/
def blkQ1 (X : (b : Ref sig .tc) → Buf (Elt F) ((c : Thread nD τ).loc b)) (e : Fin 16) : Vec F S1x24x2048 .i8 := fun y => (X main_arg5 : Vec F S16x24x2048 .i8) (ix3 e (y 1) (y 2))

theorem load_Q1 (X : (b : Ref sig .tc) → Buf (Elt F) ((c : Thread nD τ).loc b)) (e : Fin 16) (s : Fin 2) {off : Fin 3 → ℕ} (ho : off = ![s.val, 0, 0])
    {inb : ∀ a, off a + S1x24x2048.size a ≤ S2x24x2048.size a} {hl}
    {k : Vec F S1x24x2048 .i8 → Prog (TpuEff nD τ sig (Elt F) Λ .tc) α} {q : PosShare TreeShare} :
    ((c : Thread nD τ).loc cc0_scratch3 ↦[(dstQ1 s).view.set]{q} (gQ1 c X e : Buf (Elt F) ((c : Thread nD τ).loc cc0_scratch3)) : sProp 𝕄)
      ⊢ iprop((((c : Thread nD τ).loc cc0_scratch3 ↦[(dstQ1 s).view.set]{q} (gQ1 c X e : Buf (Elt F) ((c : Thread nD τ).loc cc0_scratch3))) -∗ wp frame (wpE defs 𝒱 (c : Thread nD τ) bd) Set.univ (k (blkQ1 c X e)) Q)
      -∗ wp frame (wpE defs 𝒱 (c : Thread nD τ) bd) Set.univ (.op (.load (Memref.whole cc0_scratch3) (Rect.unit (s := S2x24x2048) off S1x24x2048.size inb).toLoadRect hl) k) Q) := by
  subst ho
  refine loadAt (F := F) c (m := Memref.whole cc0_scratch3) (r := Rect.unit (s := S2x24x2048) ![s.val, 0, 0] S1x24x2048.size inb) (f := (gQ1 c X e : Buf (Elt F) ((c : Thread nD τ).loc cc0_scratch3))) (blkQ1 c X e) ?_ ?_
  · intro i hi
    have hi' : i ∈ (Rect.unit (s := S2x24x2048) ![s.val, 0, 0] S1x24x2048.size inb).set := by
      obtain ⟨x, hx, rfl⟩ := Finset.mem_map.mp hi
      exact hx
    have hd : (dstQ1 s).view.set = (Rect.unit (s := S2x24x2048) ![s.val, 0, 0] S1x24x2048.size (inbQ1d s)).set := by
      show (((View.whole cc0_scratch3).slice _).reshape _ _).set = _
      rw [View.set_reshape]
      exact View.set_slice_whole (b := cc0_scratch3) _
    rw [hd]
    exact hi'
  · funext y
    refine congrArg (X main_arg5 : Vec F S16x24x2048 .i8) (funext fun a => Fin.ext ?_)
    fin_cases a
    · rfl
    · show 0 + 1 * (y 1).val = (y 1).val
      omega
    · show 0 + 1 * (y 2).val = (y 2).val
      omega

/-- Expert `e`'s block of the array. -/
def blkQ2 (X : (b : Ref sig .tc) → Buf (Elt F) ((c : Thread nD τ).loc b)) (e : Fin 16) : Vec F S1x16x3072 .bf16 := fun y => (X main_arg7 : Vec F S16x16x3072 .bf16) (ix3 e (y 1) (y 2))

theorem load_Q2 (X : (b : Ref sig .tc) → Buf (Elt F) ((c : Thread nD τ).loc b)) (e : Fin 16) (s : Fin 2) {off : Fin 3 → ℕ} (ho : off = ![s.val, 0, 0])
    {inb : ∀ a, off a + S1x16x3072.size a ≤ S2x16x3072.size a} {hl}
    {k : Vec F S1x16x3072 .bf16 → Prog (TpuEff nD τ sig (Elt F) Λ .tc) α} {q : PosShare TreeShare} :
    ((c : Thread nD τ).loc cc0_scratch4 ↦[(dstQ2 s).view.set]{q} (gQ2 c X e : Buf (Elt F) ((c : Thread nD τ).loc cc0_scratch4)) : sProp 𝕄)
      ⊢ iprop((((c : Thread nD τ).loc cc0_scratch4 ↦[(dstQ2 s).view.set]{q} (gQ2 c X e : Buf (Elt F) ((c : Thread nD τ).loc cc0_scratch4))) -∗ wp frame (wpE defs 𝒱 (c : Thread nD τ) bd) Set.univ (k (blkQ2 c X e)) Q)
      -∗ wp frame (wpE defs 𝒱 (c : Thread nD τ) bd) Set.univ (.op (.load (Memref.whole cc0_scratch4) (Rect.unit (s := S2x16x3072) off S1x16x3072.size inb).toLoadRect hl) k) Q) := by
  subst ho
  refine loadAt (F := F) c (m := Memref.whole cc0_scratch4) (r := Rect.unit (s := S2x16x3072) ![s.val, 0, 0] S1x16x3072.size inb) (f := (gQ2 c X e : Buf (Elt F) ((c : Thread nD τ).loc cc0_scratch4))) (blkQ2 c X e) ?_ ?_
  · intro i hi
    have hi' : i ∈ (Rect.unit (s := S2x16x3072) ![s.val, 0, 0] S1x16x3072.size inb).set := by
      obtain ⟨x, hx, rfl⟩ := Finset.mem_map.mp hi
      exact hx
    have hd : (dstQ2 s).view.set = (Rect.unit (s := S2x16x3072) ![s.val, 0, 0] S1x16x3072.size (inbQ2d s)).set := by
      show (((View.whole cc0_scratch4).slice _).reshape _ _).set = _
      rw [View.set_reshape]
      exact View.set_slice_whole (b := cc0_scratch4) _
    rw [hd]
    exact hi'
  · funext y
    refine congrArg (X main_arg7 : Vec F S16x16x3072 .bf16) (funext fun a => Fin.ext ?_)
    fin_cases a
    · rfl
    · show 0 + 1 * (y 1).val = (y 1).val
      omega
    · show 0 + 1 * (y 2).val = (y 2).val
      omega

/-- Expert `e`'s block of the array. -/
def blkQ3 (X : (b : Ref sig .tc) → Buf (Elt F) ((c : Thread nD τ).loc b)) (e : Fin 16) : Vec F S1x16x1536 .i8 := fun y => (X main_arg8 : Vec F S16x16x1536 .i8) (ix3 e (y 1) (y 2))

theorem load_Q3 (X : (b : Ref sig .tc) → Buf (Elt F) ((c : Thread nD τ).loc b)) (e : Fin 16) (s : Fin 2) {off : Fin 3 → ℕ} (ho : off = ![s.val, 0, 0])
    {inb : ∀ a, off a + S1x16x1536.size a ≤ S2x16x1536.size a} {hl}
    {k : Vec F S1x16x1536 .i8 → Prog (TpuEff nD τ sig (Elt F) Λ .tc) α} {q : PosShare TreeShare} :
    ((c : Thread nD τ).loc cc0_scratch5 ↦[(dstQ3 s).view.set]{q} (gQ3 c X e : Buf (Elt F) ((c : Thread nD τ).loc cc0_scratch5)) : sProp 𝕄)
      ⊢ iprop((((c : Thread nD τ).loc cc0_scratch5 ↦[(dstQ3 s).view.set]{q} (gQ3 c X e : Buf (Elt F) ((c : Thread nD τ).loc cc0_scratch5))) -∗ wp frame (wpE defs 𝒱 (c : Thread nD τ) bd) Set.univ (k (blkQ3 c X e)) Q)
      -∗ wp frame (wpE defs 𝒱 (c : Thread nD τ) bd) Set.univ (.op (.load (Memref.whole cc0_scratch5) (Rect.unit (s := S2x16x1536) off S1x16x1536.size inb).toLoadRect hl) k) Q) := by
  subst ho
  refine loadAt (F := F) c (m := Memref.whole cc0_scratch5) (r := Rect.unit (s := S2x16x1536) ![s.val, 0, 0] S1x16x1536.size inb) (f := (gQ3 c X e : Buf (Elt F) ((c : Thread nD τ).loc cc0_scratch5))) (blkQ3 c X e) ?_ ?_
  · intro i hi
    have hi' : i ∈ (Rect.unit (s := S2x16x1536) ![s.val, 0, 0] S1x16x1536.size inb).set := by
      obtain ⟨x, hx, rfl⟩ := Finset.mem_map.mp hi
      exact hx
    have hd : (dstQ3 s).view.set = (Rect.unit (s := S2x16x1536) ![s.val, 0, 0] S1x16x1536.size (inbQ3d s)).set := by
      show (((View.whole cc0_scratch5).slice _).reshape _ _).set = _
      rw [View.set_reshape]
      exact View.set_slice_whole (b := cc0_scratch5) _
    rw [hd]
    exact hi'
  · funext y
    refine congrArg (X main_arg8 : Vec F S16x16x1536 .i8) (funext fun a => Fin.ext ?_)
    fin_cases a
    · rfl
    · show 0 + 1 * (y 1).val = (y 1).val
      omega
    · show 0 + 1 * (y 2).val = (y 2).val
      omega

theorem load_cc0_scratch12 (e : Fin 16) (b : Fin 2) {off : Fin 4 → ℕ} (ho : off = ![e.val, b.val, 0, 0]) {inb : ∀ a, off a + S1x1x96x128.size a ≤ S16x2x96x128.size a} {hl}
    {k : Vec F S1x1x96x128 .f32 → Prog (TpuEff nD τ sig (Elt F) Λ .tc) α} {q : PosShare TreeShare} (f : Vec F S16x2x96x128 .f32) :
    ((c : Thread nD τ).loc cc0_scratch12 ↦{q} (f : Buf (Elt F) ((c : Thread nD τ).loc cc0_scratch12)) : sProp 𝕄) ⊢ iprop((((c : Thread nD τ).loc cc0_scratch12 ↦{q} (f : Buf (Elt F) ((c : Thread nD τ).loc cc0_scratch12))) -∗ wp frame (wpE defs 𝒱 (c : Thread nD τ) bd) Set.univ (k (rowT f e b)) Q)
      -∗ wp frame (wpE defs 𝒱 (c : Thread nD τ) bd) Set.univ (.op (.load (Memref.whole cc0_scratch12) (Rect.unit (s := S16x2x96x128) off S1x1x96x128.size inb).toLoadRect hl) k) Q) := by
  subst ho
  refine loadAt (F := F) c (m := Memref.whole cc0_scratch12) (r := Rect.unit (s := S16x2x96x128) ![e.val, b.val, 0, 0] S1x1x96x128.size inb) (f := f) (rowT f e b) (Finset.subset_univ _) ?_
  funext y
  have h0 : (y 0).val < 1 := (y 0).isLt
  have h1 : (y 1).val < 1 := (y 1).isLt
  refine congrArg f (funext fun a => Fin.ext ?_)
  fin_cases a
  · show e.val + 1 * (y 0).val = e.val; omega
  · show b.val + 1 * (y 1).val = b.val; omega
  · show 0 + 1 * (y 2).val = (y 2).val; omega
  · show 0 + 1 * (y 3).val = (y 3).val; omega

theorem store_cc0_scratch12 (e b : ℕ) {off : Fin 4 → ℕ} (ho : off = ![e, b, 0, 0]) {inb : ∀ a, off a + S1x1x96x128.size a ≤ S16x2x96x128.size a} {hx hm}
    {k : PUnit → Prog (TpuEff nD τ sig (Elt F) Λ .tc) α} (f : Vec F S16x2x96x128 .f32) (w : Vec F S1x1x96x128 .f32) :
    ((c : Thread nD τ).loc cc0_scratch12 ↦{fullShare} (f : Buf (Elt F) ((c : Thread nD τ).loc cc0_scratch12)) : sProp 𝕄) ⊢ iprop((((c : Thread nD τ).loc cc0_scratch12 ↦{fullShare} (updT f e b w : Buf (Elt F) ((c : Thread nD τ).loc cc0_scratch12))) -∗ wp frame (wpE defs 𝒱 (c : Thread nD τ) bd) Set.univ (k ⟨⟩) Q)
      -∗ wp frame (wpE defs 𝒱 (c : Thread nD τ) bd) Set.univ (.op (.store (Memref.whole cc0_scratch12) (Rect.unit (s := S16x2x96x128) off S1x1x96x128.size inb) w Finset.univ hx hm) k) Q) := by
  subst ho
  refine storeAt (F := F) c (m := Memref.whole cc0_scratch12) (r := Rect.unit (s := S16x2x96x128) ![e, b, 0, 0] S1x1x96x128.size inb) (f := f) (updT f e b w) ?_
  funext i
  unfold updT
  split
  · rename_i h
    have he : (Rect.unit (s := S16x2x96x128) ![e, b, 0, 0] S1x1x96x128.size inb).emb (ix4 0 0 (i 2) (i 3)) = i := by
      refine funext fun a => Fin.ext ?_
      fin_cases a
      · show e + 1 * 0 = (i 0).val; omega
      · show b + 1 * 0 = (i 1).val; omega
      · show 0 + 1 * (i 2).val = (i 2).val; omega
      · show 0 + 1 * (i 3).val = (i 3).val; omega
    exact (congrArg (((Memref.whole cc0_scratch12).access (Rect.unit (s := S16x2x96x128) ![e, b, 0, 0] S1x1x96x128.size inb)).write (Elt F) f w Finset.univ) he.symm).trans
      (View.write_emb_of_mem (v := (Memref.whole cc0_scratch12).access (Rect.unit (s := S16x2x96x128) ![e, b, 0, 0] S1x1x96x128.size inb)) f w (Finset.mem_univ _))
  · rename_i h
    refine View.write_of_not_mem (v := (Memref.whole cc0_scratch12).access (Rect.unit (s := S16x2x96x128) ![e, b, 0, 0] S1x1x96x128.size inb)) f w Finset.univ (i := i) fun hm => h ?_
    obtain ⟨x, -, rfl⟩ := Finset.mem_map.mp hm
    have h0 : (x 0).val < 1 := (x 0).isLt
    have h1 : (x 1).val < 1 := (x 1).isLt
    constructor
    · show e + 1 * (x 0).val = e; omega
    · show b + 1 * (x 1).val = b; omega

theorem storeAll_cc0_scratch6 {off : Fin 2 → ℕ} (ho : off = ![0, 0]) {inb : ∀ a, off a + S24x4096.size a ≤ S24x4096.size a} {hx hm}
    {k : PUnit → Prog (TpuEff nD τ sig (Elt F) Λ .tc) α} (f w : Vec F S24x4096 .f32) :
    ((c : Thread nD τ).loc cc0_scratch6 ↦{fullShare} (f : Buf (Elt F) ((c : Thread nD τ).loc cc0_scratch6)) : sProp 𝕄) ⊢ iprop((((c : Thread nD τ).loc cc0_scratch6 ↦{fullShare} (w : Buf (Elt F) ((c : Thread nD τ).loc cc0_scratch6))) -∗ wp frame (wpE defs 𝒱 (c : Thread nD τ) bd) Set.univ (k ⟨⟩) Q)
      -∗ wp frame (wpE defs 𝒱 (c : Thread nD τ) bd) Set.univ (.op (.store (Memref.whole cc0_scratch6) (Rect.unit (s := S24x4096) off S24x4096.size inb) w Finset.univ hx hm) k) Q) := by
  subst ho
  refine storeAt (F := F) c (m := Memref.whole cc0_scratch6) (r := Rect.unit (s := S24x4096) ![0, 0] S24x4096.size inb) (f := f) w ?_
  funext i
  have he : (Rect.unit (s := S24x4096) ![0, 0] S24x4096.size inb).emb i = i := by
    refine funext fun a => Fin.ext ?_
    fin_cases a
    · show 0 + 1 * (i 0).val = (i 0).val; omega
    · show 0 + 1 * (i 1).val = (i 1).val; omega
  exact (congrArg (((Memref.whole cc0_scratch6).access (Rect.unit (s := S24x4096) ![0, 0] S24x4096.size inb)).write (Elt F) f w Finset.univ) he.symm).trans
      (View.write_emb_of_mem (v := (Memref.whole cc0_scratch6).access (Rect.unit (s := S24x4096) ![0, 0] S24x4096.size inb)) f w (Finset.mem_univ _))

theorem loadAll_cc0_scratch6 {off : Fin 2 → ℕ} (ho : off = ![0, 0]) {inb : ∀ a, off a + S24x4096.size a ≤ S24x4096.size a} {hl}
    {k : Vec F S24x4096 .f32 → Prog (TpuEff nD τ sig (Elt F) Λ .tc) α} {q : PosShare TreeShare} (f : Vec F S24x4096 .f32) :
    ((c : Thread nD τ).loc cc0_scratch6 ↦{q} (f : Buf (Elt F) ((c : Thread nD τ).loc cc0_scratch6)) : sProp 𝕄) ⊢ iprop((((c : Thread nD τ).loc cc0_scratch6 ↦{q} (f : Buf (Elt F) ((c : Thread nD τ).loc cc0_scratch6))) -∗ wp frame (wpE defs 𝒱 (c : Thread nD τ) bd) Set.univ (k f) Q)
      -∗ wp frame (wpE defs 𝒱 (c : Thread nD τ) bd) Set.univ (.op (.load (Memref.whole cc0_scratch6) (Rect.unit (s := S24x4096) off S24x4096.size inb).toLoadRect hl) k) Q) := by
  subst ho
  refine loadAt (F := F) c (m := Memref.whole cc0_scratch6) (r := Rect.unit (s := S24x4096) ![0, 0] S24x4096.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem storeAll_cc0_scratch8 {off : Fin 2 → ℕ} (ho : off = ![0, 0]) {inb : ∀ a, off a + S16x3072.size a ≤ S16x3072.size a} {hx hm}
    {k : PUnit → Prog (TpuEff nD τ sig (Elt F) Λ .tc) α} (f w : Vec F S16x3072 .f32) :
    ((c : Thread nD τ).loc cc0_scratch8 ↦{fullShare} (f : Buf (Elt F) ((c : Thread nD τ).loc cc0_scratch8)) : sProp 𝕄) ⊢ iprop((((c : Thread nD τ).loc cc0_scratch8 ↦{fullShare} (w : Buf (Elt F) ((c : Thread nD τ).loc cc0_scratch8))) -∗ wp frame (wpE defs 𝒱 (c : Thread nD τ) bd) Set.univ (k ⟨⟩) Q)
      -∗ wp frame (wpE defs 𝒱 (c : Thread nD τ) bd) Set.univ (.op (.store (Memref.whole cc0_scratch8) (Rect.unit (s := S16x3072) off S16x3072.size inb) w Finset.univ hx hm) k) Q) := by
  subst ho
  refine storeAt (F := F) c (m := Memref.whole cc0_scratch8) (r := Rect.unit (s := S16x3072) ![0, 0] S16x3072.size inb) (f := f) w ?_
  funext i
  have he : (Rect.unit (s := S16x3072) ![0, 0] S16x3072.size inb).emb i = i := by
    refine funext fun a => Fin.ext ?_
    fin_cases a
    · show 0 + 1 * (i 0).val = (i 0).val; omega
    · show 0 + 1 * (i 1).val = (i 1).val; omega
  exact (congrArg (((Memref.whole cc0_scratch8).access (Rect.unit (s := S16x3072) ![0, 0] S16x3072.size inb)).write (Elt F) f w Finset.univ) he.symm).trans
      (View.write_emb_of_mem (v := (Memref.whole cc0_scratch8).access (Rect.unit (s := S16x3072) ![0, 0] S16x3072.size inb)) f w (Finset.mem_univ _))

theorem loadAll_cc0_scratch8 {off : Fin 2 → ℕ} (ho : off = ![0, 0]) {inb : ∀ a, off a + S16x3072.size a ≤ S16x3072.size a} {hl}
    {k : Vec F S16x3072 .f32 → Prog (TpuEff nD τ sig (Elt F) Λ .tc) α} {q : PosShare TreeShare} (f : Vec F S16x3072 .f32) :
    ((c : Thread nD τ).loc cc0_scratch8 ↦{q} (f : Buf (Elt F) ((c : Thread nD τ).loc cc0_scratch8)) : sProp 𝕄) ⊢ iprop((((c : Thread nD τ).loc cc0_scratch8 ↦{q} (f : Buf (Elt F) ((c : Thread nD τ).loc cc0_scratch8))) -∗ wp frame (wpE defs 𝒱 (c : Thread nD τ) bd) Set.univ (k f) Q)
      -∗ wp frame (wpE defs 𝒱 (c : Thread nD τ) bd) Set.univ (.op (.load (Memref.whole cc0_scratch8) (Rect.unit (s := S16x3072) off S16x3072.size inb).toLoadRect hl) k) Q) := by
  subst ho
  refine loadAt (F := F) c (m := Memref.whole cc0_scratch8) (r := Rect.unit (s := S16x3072) ![0, 0] S16x3072.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem storeAll_cc0_scratch11 {off : Fin 2 → ℕ} (ho : off = ![0, 0]) {inb : ∀ a, off a + S96x3072.size a ≤ S96x3072.size a} {hx hm}
    {k : PUnit → Prog (TpuEff nD τ sig (Elt F) Λ .tc) α} (f w : Vec F S96x3072 .f32) :
    ((c : Thread nD τ).loc cc0_scratch11 ↦{fullShare} (f : Buf (Elt F) ((c : Thread nD τ).loc cc0_scratch11)) : sProp 𝕄) ⊢ iprop((((c : Thread nD τ).loc cc0_scratch11 ↦{fullShare} (w : Buf (Elt F) ((c : Thread nD τ).loc cc0_scratch11))) -∗ wp frame (wpE defs 𝒱 (c : Thread nD τ) bd) Set.univ (k ⟨⟩) Q)
      -∗ wp frame (wpE defs 𝒱 (c : Thread nD τ) bd) Set.univ (.op (.store (Memref.whole cc0_scratch11) (Rect.unit (s := S96x3072) off S96x3072.size inb) w Finset.univ hx hm) k) Q) := by
  subst ho
  refine storeAt (F := F) c (m := Memref.whole cc0_scratch11) (r := Rect.unit (s := S96x3072) ![0, 0] S96x3072.size inb) (f := f) w ?_
  funext i
  have he : (Rect.unit (s := S96x3072) ![0, 0] S96x3072.size inb).emb i = i := by
    refine funext fun a => Fin.ext ?_
    fin_cases a
    · show 0 + 1 * (i 0).val = (i 0).val; omega
    · show 0 + 1 * (i 1).val = (i 1).val; omega
  exact (congrArg (((Memref.whole cc0_scratch11).access (Rect.unit (s := S96x3072) ![0, 0] S96x3072.size inb)).write (Elt F) f w Finset.univ) he.symm).trans
      (View.write_emb_of_mem (v := (Memref.whole cc0_scratch11).access (Rect.unit (s := S96x3072) ![0, 0] S96x3072.size inb)) f w (Finset.mem_univ _))

theorem loadAll_cc0_scratch11 {off : Fin 2 → ℕ} (ho : off = ![0, 0]) {inb : ∀ a, off a + S96x3072.size a ≤ S96x3072.size a} {hl}
    {k : Vec F S96x3072 .f32 → Prog (TpuEff nD τ sig (Elt F) Λ .tc) α} {q : PosShare TreeShare} (f : Vec F S96x3072 .f32) :
    ((c : Thread nD τ).loc cc0_scratch11 ↦{q} (f : Buf (Elt F) ((c : Thread nD τ).loc cc0_scratch11)) : sProp 𝕄) ⊢ iprop((((c : Thread nD τ).loc cc0_scratch11 ↦{q} (f : Buf (Elt F) ((c : Thread nD τ).loc cc0_scratch11))) -∗ wp frame (wpE defs 𝒱 (c : Thread nD τ) bd) Set.univ (k f) Q)
      -∗ wp frame (wpE defs 𝒱 (c : Thread nD τ) bd) Set.univ (.op (.load (Memref.whole cc0_scratch11) (Rect.unit (s := S96x3072) off S96x3072.size inb).toLoadRect hl) k) Q) := by
  subst ho
  refine loadAt (F := F) c (m := Memref.whole cc0_scratch11) (r := Rect.unit (s := S96x3072) ![0, 0] S96x3072.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem storeAll_cc0_stg3_0 {off : Fin 2 → ℕ} (ho : off = ![0, 0]) {inb : ∀ a, off a + S96x3072.size a ≤ S96x3072.size a} {hx hm}
    {k : PUnit → Prog (TpuEff nD τ sig (Elt F) Λ .tc) α} (f w : Vec F S96x3072 .bf16) :
    ((c : Thread nD τ).loc cc0_stg3_0 ↦{fullShare} (f : Buf (Elt F) ((c : Thread nD τ).loc cc0_stg3_0)) : sProp 𝕄) ⊢ iprop((((c : Thread nD τ).loc cc0_stg3_0 ↦{fullShare} (w : Buf (Elt F) ((c : Thread nD τ).loc cc0_stg3_0))) -∗ wp frame (wpE defs 𝒱 (c : Thread nD τ) bd) Set.univ (k ⟨⟩) Q)
      -∗ wp frame (wpE defs 𝒱 (c : Thread nD τ) bd) Set.univ (.op (.store (Memref.whole cc0_stg3_0) (Rect.unit (s := S96x3072) off S96x3072.size inb) w Finset.univ hx hm) k) Q) := by
  subst ho
  refine storeAt (F := F) c (m := Memref.whole cc0_stg3_0) (r := Rect.unit (s := S96x3072) ![0, 0] S96x3072.size inb) (f := f) w ?_
  funext i
  have he : (Rect.unit (s := S96x3072) ![0, 0] S96x3072.size inb).emb i = i := by
    refine funext fun a => Fin.ext ?_
    fin_cases a
    · show 0 + 1 * (i 0).val = (i 0).val; omega
    · show 0 + 1 * (i 1).val = (i 1).val; omega
  exact (congrArg (((Memref.whole cc0_stg3_0).access (Rect.unit (s := S96x3072) ![0, 0] S96x3072.size inb)).write (Elt F) f w Finset.univ) he.symm).trans
      (View.write_emb_of_mem (v := (Memref.whole cc0_stg3_0).access (Rect.unit (s := S96x3072) ![0, 0] S96x3072.size inb)) f w (Finset.mem_univ _))

theorem loadAll_cc0_stg3_0 {off : Fin 2 → ℕ} (ho : off = ![0, 0]) {inb : ∀ a, off a + S96x3072.size a ≤ S96x3072.size a} {hl}
    {k : Vec F S96x3072 .bf16 → Prog (TpuEff nD τ sig (Elt F) Λ .tc) α} {q : PosShare TreeShare} (f : Vec F S96x3072 .bf16) :
    ((c : Thread nD τ).loc cc0_stg3_0 ↦{q} (f : Buf (Elt F) ((c : Thread nD τ).loc cc0_stg3_0)) : sProp 𝕄) ⊢ iprop((((c : Thread nD τ).loc cc0_stg3_0 ↦{q} (f : Buf (Elt F) ((c : Thread nD τ).loc cc0_stg3_0))) -∗ wp frame (wpE defs 𝒱 (c : Thread nD τ) bd) Set.univ (k f) Q)
      -∗ wp frame (wpE defs 𝒱 (c : Thread nD τ) bd) Set.univ (.op (.load (Memref.whole cc0_stg3_0) (Rect.unit (s := S96x3072) off S96x3072.size inb).toLoadRect hl) k) Q) := by
  subst ho
  refine loadAt (F := F) c (m := Memref.whole cc0_stg3_0) (r := Rect.unit (s := S96x3072) ![0, 0] S96x3072.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem loadAll_cc0_stg1_0 {off : Fin 2 → ℕ} (ho : off = ![0, 0]) {inb : ∀ a, off a + S96x8.size a ≤ S96x8.size a} {hl}
    {k : Vec F S96x8 .i32 → Prog (TpuEff nD τ sig (Elt F) Λ .tc) α} {q : PosShare TreeShare} (f : Vec F S96x8 .i32) :
    ((c : Thread nD τ).loc cc0_stg1_0 ↦{q} (f : Buf (Elt F) ((c : Thread nD τ).loc cc0_stg1_0)) : sProp 𝕄) ⊢ iprop((((c : Thread nD τ).loc cc0_stg1_0 ↦{q} (f : Buf (Elt F) ((c : Thread nD τ).loc cc0_stg1_0))) -∗ wp frame (wpE defs 𝒱 (c : Thread nD τ) bd) Set.univ (k f) Q)
      -∗ wp frame (wpE defs 𝒱 (c : Thread nD τ) bd) Set.univ (.op (.load (Memref.whole cc0_stg1_0) (Rect.unit (s := S96x8) off S96x8.size inb).toLoadRect hl) k) Q) := by
  subst ho
  refine loadAt (F := F) c (m := Memref.whole cc0_stg1_0) (r := Rect.unit (s := S96x8) ![0, 0] S96x8.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem loadAll_cc0_stg2_0 {off : Fin 2 → ℕ} (ho : off = ![0, 0]) {inb : ∀ a, off a + S96x8.size a ≤ S96x8.size a} {hl}
    {k : Vec F S96x8 .f32 → Prog (TpuEff nD τ sig (Elt F) Λ .tc) α} {q : PosShare TreeShare} (f : Vec F S96x8 .f32) :
    ((c : Thread nD τ).loc cc0_stg2_0 ↦{q} (f : Buf (Elt F) ((c : Thread nD τ).loc cc0_stg2_0)) : sProp 𝕄) ⊢ iprop((((c : Thread nD τ).loc cc0_stg2_0 ↦{q} (f : Buf (Elt F) ((c : Thread nD τ).loc cc0_stg2_0))) -∗ wp frame (wpE defs 𝒱 (c : Thread nD τ) bd) Set.univ (k f) Q)
      -∗ wp frame (wpE defs 𝒱 (c : Thread nD τ) bd) Set.univ (.op (.load (Memref.whole cc0_stg2_0) (Rect.unit (s := S96x8) off S96x8.size inb).toLoadRect hl) k) Q) := by
  subst ho
  refine loadAt (F := F) c (m := Memref.whole cc0_stg2_0) (r := Rect.unit (s := S96x8) ![0, 0] S96x8.size inb) (f := f) f (Finset.subset_univ _) ?_
  funext y
  refine congrArg f (funext fun a => Fin.ext ?_)
  fin_cases a
  · show 0 + 1 * (y 0).val = (y 0).val; omega
  · show 0 + 1 * (y 1).val = (y 1).val; omega

theorem loadAny_cc0_scratch7 {off : Fin 2 → ℕ} {inb : ∀ a, off a + S24x2048.size a ≤ S24x4096.size a} {hl}
    {k : Vec F S24x2048 .f32 → Prog (TpuEff nD τ sig (Elt F) Λ .tc) α} {q : PosShare TreeShare} (f : Vec F S24x4096 .f32) :
    ((c : Thread nD τ).loc cc0_scratch7 ↦{q} (f : Buf (Elt F) ((c : Thread nD τ).loc cc0_scratch7)) : sProp 𝕄) ⊢ iprop((((c : Thread nD τ).loc cc0_scratch7 ↦{q} (f : Buf (Elt F) ((c : Thread nD τ).loc cc0_scratch7))) -∗ ∀ v, wp frame (wpE defs 𝒱 (c : Thread nD τ) bd) Set.univ (k v) Q)
      -∗ wp frame (wpE defs 𝒱 (c : Thread nD τ) bd) Set.univ (.op (.load (Memref.whole cc0_scratch7) (Rect.unit (s := S24x4096) off S24x2048.size inb).toLoadRect hl) k) Q) := by
  iintro H Hk
  iapply (loadAt (F := F) c (m := Memref.whole cc0_scratch7) (q := q) (f := f) _ (Finset.subset_univ _) rfl) $$ H
  iintro H
  ispecialize Hk $$ H
  iapply Hk

theorem loadAny_cc0_scratch9 {off : Fin 2 → ℕ} {inb : ∀ a, off a + S16x1536.size a ≤ S16x3072.size a} {hl}
    {k : Vec F S16x1536 .f32 → Prog (TpuEff nD τ sig (Elt F) Λ .tc) α} {q : PosShare TreeShare} (f : Vec F S16x3072 .f32) :
    ((c : Thread nD τ).loc cc0_scratch9 ↦{q} (f : Buf (Elt F) ((c : Thread nD τ).loc cc0_scratch9)) : sProp 𝕄) ⊢ iprop((((c : Thread nD τ).loc cc0_scratch9 ↦{q} (f : Buf (Elt F) ((c : Thread nD τ).loc cc0_scratch9))) -∗ ∀ v, wp frame (wpE defs 𝒱 (c : Thread nD τ) bd) Set.univ (k v) Q)
      -∗ wp frame (wpE defs 𝒱 (c : Thread nD τ) bd) Set.univ (.op (.load (Memref.whole cc0_scratch9) (Rect.unit (s := S16x3072) off S16x1536.size inb).toLoadRect hl) k) Q) := by
  iintro H Hk
  iapply (loadAt (F := F) c (m := Memref.whole cc0_scratch9) (q := q) (f := f) _ (Finset.subset_univ _) rfl) $$ H
  iintro H
  ispecialize Hk $$ H
  iapply Hk

end Cert.KernelIdeal.Hand

end
-- ==== Proof.IdealLoops.lean ====
/-
  The kernel's loops over one expert's weights: the contraction loop of the up-projection, its tiles, the contraction loop of
  the down-projection, its tiles.  Each is run on the buffers it reads and leaves the stated values.
-/
module

public import proofs.«01_k».proof.Proof.IdealSteps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

theorem wp_ret_of {β : Type} {a : β} {Q : β → sProp (MT nD τ sig Unit (Elt F) ℕ (Pipeline.UD sig nD τ) ℕ)} :
    Q a ⊢ wp frame (wpE defs 𝒱 (c : Thread nD τ) bd) Set.univ (.ret a) Q := by
  rw [wp_ret]
  exact BI.fupd_intro

/-- The block `96 x 256` of the activations for contraction step `k`. -/
def xBlk (x : Vec F S96x3072 .bf16) (k : ℕ) : Vec F S96x256 .bf16 := blk2 96 256 x 0 (256 * k)

/-- One contraction step of the gate and up tiles at column tile `t`. -/
def upStep (x : Vec F S96x3072 .bf16) (W : Vec F S16x1536x4096 .i8) (e : Fin 16) (T16 T17 : Vec F S24x4096 .f32) (t k : ℕ)
    (acc : FVec F S96x256 .f32 × FVec F S96x256 .f32) : FVec F S96x256 .f32 × FVec F S96x256 .f32 :=
  (k0_pay27 acc.1 (k0_pay24 (xBlk x k))
      (k0_pay25 (blk3 W e (128 * k) (256 * t)) (blk2 1 256 T16 (2 * k) (256 * t)) (blk2 1 256 T17 (2 * k) (256 * t)))
      (k0_pay26 (blk3 W e (128 * k + 64) (256 * t))) (blk2 1 256 T16 (2 * k + 1) (256 * t)) (blk2 1 256 T17 (2 * k + 1) (256 * t)),
    k0_pay10 acc.2 (k0_pay24 (xBlk x k))
      (k0_pay31 (k0_pay28 (blk3 W e (128 * k) (2048 + 256 * t))) (k0_pay29 (blk2 1 256 T16 (2 * k) (2048 + 256 * t))) (k0_pay30 (blk2 1 256 T17 (2 * k) (2048 + 256 * t))))
      (k0_pay32 (blk3 W e (128 * k + 64) (2048 + 256 * t)) (blk2 1 256 T16 (2 * k + 1) (2048 + 256 * t)) (blk2 1 256 T17 (2 * k + 1) (2048 + 256 * t))))

/-- The gate and up tiles after `k` contraction steps. -/
def upFold (x : Vec F S96x3072 .bf16) (W : Vec F S16x1536x4096 .i8) (e : Fin 16) (T16 T17 : Vec F S24x4096 .f32) (t : ℕ) : ℕ → FVec F S96x256 .f32 × FVec F S96x256 .f32
  | 0 => (k0_pay9, k0_pay9)
  | k + 1 => upStep x W e T16 T17 t k (upFold x W e T16 T17 t k)

/-- The tile `t` of the hidden activations of one expert. -/
def hTile (x : Vec F S96x3072 .bf16) (W : Vec F S16x1536x4096 .i8) (e : Fin 16) (T16 T17 : Vec F S24x4096 .f32) (m : Vec F S1x1x96x128 .f32) (t : ℕ) : Vec F S96x256 .bf16 :=
  k0_pay11 m (upFold x W e T16 T17 t 12).1 (upFold x W e T16 T17 t 12).2

/-- One contraction step of the output tile at column tile `t`. -/
def dnStep (h : Vec F S96x2048 .bf16) (W : Vec F S16x1024x3072 .i8) (e : Fin 16) (T18 T19 : Vec F S16x3072 .f32) (t k : ℕ) (acc : FVec F S96x256 .f32) : FVec F S96x256 .f32 :=
  k0_pay13 acc (blk2 96 256 h 0 (256 * k))
    (k0_pay33 (blk3 W e (128 * k) (256 * t)) (blk2 1 256 T18 (2 * k) (256 * t)) (blk2 1 256 T19 (2 * k) (256 * t)))
    (k0_pay34 (blk3 W e (128 * k + 64) (256 * t))) (blk2 1 256 T18 (2 * k + 1) (256 * t)) (blk2 1 256 T19 (2 * k + 1) (256 * t))

/-- The output tile after `k` contraction steps. -/
def dnFold (h : Vec F S96x2048 .bf16) (W : Vec F S16x1024x3072 .i8) (e : Fin 16) (T18 T19 : Vec F S16x3072 .f32) (t : ℕ) : ℕ → FVec F S96x256 .f32
  | 0 => k0_pay12
  | k + 1 => dnStep h W e T18 T19 t k (dnFold h W e T18 T19 t k)

/-- The slot word of a trip. -/
def wSlot (k : ℕ) : ℕ := (Scalar.indexCast (Scalar.remsi (Scf.iv 0#32 1#32 k) 2#32)).toNat
/-- The first row of the low half of contraction step `k`. -/
def wRowA (k : ℕ) : ℕ := (Scalar.indexCast (Scalar.muli (Scalar.muli 2#32 (Scf.iv 0#32 1#32 k)) 64#32)).toNat
/-- The first row of the high half of contraction step `k`. -/
def wRowB (k : ℕ) : ℕ := (Scalar.indexCast (Scalar.muli (Scalar.addi (Scalar.muli 2#32 (Scf.iv 0#32 1#32 k)) 1#32) 64#32)).toNat
/-- The first column of tile `j` of chunk `i`, `m` tiles to a chunk. -/
def wCol (m : BitVec 32) (i j : ℕ) : ℕ := (Scalar.indexCast (Scalar.muli (Scalar.addi (Scalar.muli (Scf.iv 0#32 1#32 i) m) (Scf.iv 0#32 1#32 j)) 256#32)).toNat
/-- The same column in the second half of the array. -/
def wColU (m : BitVec 32) (i j : ℕ) : ℕ := (Scalar.indexCast (Scalar.addi 2048#32 (Scalar.muli (Scalar.addi (Scalar.muli (Scf.iv 0#32 1#32 i) m) (Scf.iv 0#32 1#32 j)) 256#32))).toNat
theorem wRowA_eq : ∀ k : Fin 12, wRowA k.val = 128 * k.val := by decide +kernel
theorem wRowB_eq : ∀ k : Fin 12, wRowB k.val = 128 * k.val + 64 := by decide +kernel
theorem wCol_up : ∀ (i : Fin 4) (j : Fin 2), wCol 2#32 i.val j.val = 256 * (2 * i.val + j.val) := by decide +kernel
theorem wColU_up : ∀ (i : Fin 4) (j : Fin 2), wColU 2#32 i.val j.val = 2048 + 256 * (2 * i.val + j.val) := by decide +kernel
theorem wCol_dn : ∀ (i : Fin 2) (j : Fin 6), wCol 6#32 i.val j.val = 256 * (6 * i.val + j.val) := by decide +kernel

theorem off75_eq : ∀ (t5 : Fin k0_t5_loop.trips), k0_off75 t5 = ![0, 256 * t5.val] := by decide +kernel

theorem off76_eq {v5 : BitVec 32} {k0_t2 : Fin (k0_t2_loop v5).trips} {s : Fin 2} (hs : wSlot k0_t2 = s.val) (t3 : Fin k0_t3_loop.trips) (t4 : Fin k0_t4_loop.trips) (t5 : Fin k0_t5_loop.trips) :
    k0_off76 v5 k0_t2 t3 t4 t5 = ![s.val, 128 * t5.val, 256 * (2 * t3.val + t4.val)] :=
  (show k0_off76 v5 k0_t2 t3 t4 t5 = ![wSlot k0_t2, wRowA t5, wCol 2#32 t3 t4] from rfl).trans (by rw [hs, wRowA_eq t5, wCol_up t3 t4])

theorem off78_eq {v5 : BitVec 32} {k0_t2 : Fin (k0_t2_loop v5).trips} {s : Fin 2} (hs : wSlot k0_t2 = s.val) (t3 : Fin k0_t3_loop.trips) (t4 : Fin k0_t4_loop.trips) (t5 : Fin k0_t5_loop.trips) :
    k0_off78 v5 k0_t2 t3 t4 t5 = ![s.val, 128 * t5.val + 64, 256 * (2 * t3.val + t4.val)] :=
  (show k0_off78 v5 k0_t2 t3 t4 t5 = ![wSlot k0_t2, wRowB t5, wCol 2#32 t3 t4] from rfl).trans (by rw [hs, wRowB_eq t5, wCol_up t3 t4])

theorem off80_eq {v5 : BitVec 32} {k0_t2 : Fin (k0_t2_loop v5).trips} {s : Fin 2} (hs : wSlot k0_t2 = s.val) (t3 : Fin k0_t3_loop.trips) (t4 : Fin k0_t4_loop.trips) (t5 : Fin k0_t5_loop.trips) :
    k0_off80 v5 k0_t2 t3 t4 t5 = ![s.val, 128 * t5.val, 2048 + 256 * (2 * t3.val + t4.val)] :=
  (show k0_off80 v5 k0_t2 t3 t4 t5 = ![wSlot k0_t2, wRowA t5, wColU 2#32 t3 t4] from rfl).trans (by rw [hs, wRowA_eq t5, wColU_up t3 t4])

theorem off82_eq {v5 : BitVec 32} {k0_t2 : Fin (k0_t2_loop v5).trips} {s : Fin 2} (hs : wSlot k0_t2 = s.val) (t3 : Fin k0_t3_loop.trips) (t4 : Fin k0_t4_loop.trips) (t5 : Fin k0_t5_loop.trips) :
    k0_off82 v5 k0_t2 t3 t4 t5 = ![s.val, 128 * t5.val + 64, 2048 + 256 * (2 * t3.val + t4.val)] :=
  (show k0_off82 v5 k0_t2 t3 t4 t5 = ![wSlot k0_t2, wRowB t5, wColU 2#32 t3 t4] from rfl).trans (by rw [hs, wRowB_eq t5, wColU_up t3 t4])

theorem off77_eq : ∀ (t3 : Fin k0_t3_loop.trips) (t4 : Fin k0_t4_loop.trips) (t5 : Fin k0_t5_loop.trips), k0_off77 t3 t4 t5 = ![2 * t5.val, 256 * (2 * t3.val + t4.val)] := by decide +kernel

theorem off79_eq : ∀ (t3 : Fin k0_t3_loop.trips) (t4 : Fin k0_t4_loop.trips) (t5 : Fin k0_t5_loop.trips), k0_off79 t3 t4 t5 = ![2 * t5.val + 1, 256 * (2 * t3.val + t4.val)] := by decide +kernel

theorem off81_eq : ∀ (t3 : Fin k0_t3_loop.trips) (t4 : Fin k0_t4_loop.trips) (t5 : Fin k0_t5_loop.trips), k0_off81 t3 t4 t5 = ![2 * t5.val, 2048 + 256 * (2 * t3.val + t4.val)] := by decide +kernel

theorem off83_eq : ∀ (t3 : Fin k0_t3_loop.trips) (t4 : Fin k0_t4_loop.trips) (t5 : Fin k0_t5_loop.trips), k0_off83 t3 t4 t5 = ![2 * t5.val + 1, 2048 + 256 * (2 * t3.val + t4.val)] := by decide +kernel

theorem off84_eq : ∀ (t3 : Fin k0_t3_loop.trips) (t4 : Fin k0_t4_loop.trips), k0_off84 t3 t4 = ![0, 256 * (2 * t3.val + t4.val)] := by decide +kernel

theorem off89_eq : ∀ (t8 : Fin k0_t8_loop.trips), k0_off89 t8 = ![0, 256 * t8.val] := by decide +kernel

theorem off90_eq {v5 : BitVec 32} {k0_t2 : Fin (k0_t2_loop v5).trips} {s : Fin 2} (hs : wSlot k0_t2 = s.val) (t6 : Fin k0_t6_loop.trips) (t7 : Fin k0_t7_loop.trips) (t8 : Fin k0_t8_loop.trips) :
    k0_off90 v5 k0_t2 t6 t7 t8 = ![s.val, 128 * t8.val, 256 * (6 * t6.val + t7.val)] :=
  (show k0_off90 v5 k0_t2 t6 t7 t8 = ![wSlot k0_t2, wRowA t8, wCol 6#32 t6 t7] from rfl).trans (by rw [hs, wRowA_eq ⟨t8.val, lt_of_lt_of_le t8.isLt (by decide)⟩, wCol_dn t6 t7])

theorem off92_eq {v5 : BitVec 32} {k0_t2 : Fin (k0_t2_loop v5).trips} {s : Fin 2} (hs : wSlot k0_t2 = s.val) (t6 : Fin k0_t6_loop.trips) (t7 : Fin k0_t7_loop.trips) (t8 : Fin k0_t8_loop.trips) :
    k0_off92 v5 k0_t2 t6 t7 t8 = ![s.val, 128 * t8.val + 64, 256 * (6 * t6.val + t7.val)] :=
  (show k0_off92 v5 k0_t2 t6 t7 t8 = ![wSlot k0_t2, wRowB t8, wCol 6#32 t6 t7] from rfl).trans (by rw [hs, wRowB_eq ⟨t8.val, lt_of_lt_of_le t8.isLt (by decide)⟩, wCol_dn t6 t7])

theorem off91_eq : ∀ (t6 : Fin k0_t6_loop.trips) (t7 : Fin k0_t7_loop.trips) (t8 : Fin k0_t8_loop.trips), k0_off91 t6 t7 t8 = ![2 * t8.val, 256 * (6 * t6.val + t7.val)] := by decide +kernel

theorem off93_eq : ∀ (t6 : Fin k0_t6_loop.trips) (t7 : Fin k0_t7_loop.trips) (t8 : Fin k0_t8_loop.trips), k0_off93 t6 t7 t8 = ![2 * t8.val + 1, 256 * (6 * t6.val + t7.val)] := by decide +kernel

theorem off94_eq : ∀ (t6 : Fin k0_t6_loop.trips) (t7 : Fin k0_t7_loop.trips), k0_off94 t6 t7 = ![0, 256 * (6 * t6.val + t7.val)] := by decide +kernel

/-- What the contraction loop of the up-projection reads: the activations, the two tables, the two windows of chunk `j`. -/
def UpRes (X : (b : Ref sig .tc) → Buf (Elt F) ((c : Thread nD τ).loc b)) (e : Fin 16) (s : Fin 2) (j : Fin 4) (x : Vec F S96x3072 .bf16) (T16 T17 : Vec F S24x4096 .f32) :
    sProp (MT nD τ sig Unit (Elt F) ℕ (Pipeline.UD sig nD τ) ℕ) :=
  iprop(((c : Thread nD τ).loc cc0_stg0_0 ↦{fullShare} (x : Buf (Elt F) ((c : Thread nD τ).loc cc0_stg0_0)))
    ∗ ((c : Thread nD τ).loc cc0_scratch6 ↦{fullShare} (T16 : Buf (Elt F) ((c : Thread nD τ).loc cc0_scratch6)))
    ∗ ((c : Thread nD τ).loc cc0_scratch7 ↦{fullShare} (T17 : Buf (Elt F) ((c : Thread nD τ).loc cc0_scratch7)))
    ∗ ((c : Thread nD τ).loc cc0_scratch0 ↦[(dstW1 s 0 j).view.set]{fullShare} (gW1 c X e : Buf (Elt F) ((c : Thread nD τ).loc cc0_scratch0)))
    ∗ ((c : Thread nD τ).loc cc0_scratch0 ↦[(dstW1 s 1 j).view.set]{fullShare} (gW1 c X e : Buf (Elt F) ((c : Thread nD τ).loc cc0_scratch0))))

theorem t5_body_run [Facts] (X : (b : Ref sig .tc) → Buf (Elt F) ((c : Thread nD τ).loc b)) (e : Fin 16) (s : Fin 2) (x : Vec F S96x3072 .bf16) (T16 T17 : Vec F S24x4096 .f32)
    (v5 : BitVec 32) (hw3 : k0_chk3 v5) (k0_t2 : Fin (k0_t2_loop v5).trips) (hs : wSlot k0_t2 = s.val)
    (v21 v132 v135 : BitVec 32) (t3 : Fin k0_t3_loop.trips) (t4 : Fin k0_t4_loop.trips) (t5 : Fin k0_t5_loop.trips) (acc : FVec F S96x256 .f32 × FVec F S96x256 .f32)
    {Q : FVec F S96x256 .f32 × FVec F S96x256 .f32 → sProp (MT nD τ sig Unit (Elt F) ℕ (Pipeline.UD sig nD τ) ℕ)} {𝒱 : Variants} {bd : Option 𝒱.V} {defs : Defs nD τ sig (Elt F) Λ₀} :
    UpRes c X e s t3 x T16 T17 ⊢ iprop((UpRes c X e s t3 x T16 T17 -∗ Q (upStep x (X main_arg3) e T16 T17 (2 * t3.val + t4.val) t5.val acc))
      -∗ wp frame (wpE defs 𝒱 (c : Thread nD τ) bd) Set.univ (k0_t5_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t3 t4 v132 v135 t5 acc) Q) := by
  have hj : t3.val < 4 := t3.isLt
  have ht4 : t4.val < 2 := t4.isLt
  obtain ⟨a1, a2⟩ := acc
  unfold UpRes upStep xBlk
  iintro ⟨Hx, H16, H17, Hw0, Hw1⟩ HQ
  unfold k0_t5_body
  rw [k0_part6_eq_skeleton, k0_part7_eq_skeleton, k0_part8_eq_skeleton]
  unfold k0_part6_skel k0_part7_skel k0_part8_skel
  iapply (load_cc0_stg0_0 c 0 (256 * t5.val) (off75_eq t5) x) $$ Hx
  iintro Hx
  iapply (load_W1 c X e s 0 t3 (128 * t5.val) (256 * (2 * t3.val + t4.val)) (off76_eq hs t3 t4 t5) (by simp; omega) (by simp; omega)) $$ Hw0
  iintro Hw0
  iapply (load_cc0_scratch6 c _ _ (off77_eq t3 t4 t5) T16) $$ H16
  iintro H16
  iapply (load_cc0_scratch7 c _ _ (off77_eq t3 t4 t5) T17) $$ H17
  iintro H17
  iapply (load_W1 c X e s 0 t3 (128 * t5.val + 64) (256 * (2 * t3.val + t4.val)) (off78_eq hs t3 t4 t5) (by simp; omega) (by simp; omega)) $$ Hw0
  iintro Hw0
  iapply (load_cc0_scratch6 c _ _ (off79_eq t3 t4 t5) T16) $$ H16
  iintro H16
  iapply (load_cc0_scratch7 c _ _ (off79_eq t3 t4 t5) T17) $$ H17
  iintro H17
  iapply (load_W1 c X e s 1 t3 (128 * t5.val) (2048 + 256 * (2 * t3.val + t4.val)) (off80_eq hs t3 t4 t5) (by simp; omega) (by simp; omega)) $$ Hw1
  iintro Hw1
  iapply (load_cc0_scratch6 c _ _ (off81_eq t3 t4 t5) T16) $$ H16
  iintro H16
  iapply (load_cc0_scratch7 c _ _ (off81_eq t3 t4 t5) T17) $$ H17
  iintro H17
  iapply (load_W1 c X e s 1 t3 (128 * t5.val + 64) (2048 + 256 * (2 * t3.val + t4.val)) (off82_eq hs t3 t4 t5) (by simp; omega) (by simp; omega)) $$ Hw1
  iintro Hw1
  iapply (load_cc0_scratch6 c _ _ (off83_eq t3 t4 t5) T16) $$ H16
  iintro H16
  iapply (load_cc0_scratch7 c _ _ (off83_eq t3 t4 t5) T17) $$ H17
  iintro H17
  iapply wp_ret_of
  iapply HQ
  iframe Hx H16 H17 Hw0 Hw1

theorem t5_loop_run [Facts] (X : (b : Ref sig .tc) → Buf (Elt F) ((c : Thread nD τ).loc b)) (e : Fin 16) (s : Fin 2) (x : Vec F S96x3072 .bf16) (T16 T17 : Vec F S24x4096 .f32) (v5 : BitVec 32) (hw3 : k0_chk3 v5) (k0_t2 : Fin (k0_t2_loop v5).trips) (hs : wSlot k0_t2 = s.val)
    (v21 v132 v135 : BitVec 32) (t3 : Fin k0_t3_loop.trips) (t4 : Fin k0_t4_loop.trips) {β : Type}
    {kk : FVec F S96x256 .f32 × FVec F S96x256 .f32 → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    UpRes c X e s t3 x T16 T17 ⊢ iprop((UpRes c X e s t3 x T16 T17 -∗ wp frame (wpE defs 𝒱 (c : Thread nD τ) bd) Set.univ (kk (upFold x (X main_arg3) e T16 T17 (2 * t3.val + t4.val) 12)) Q)
      -∗ wp frame (wpE defs 𝒱 (c : Thread nD τ) bd) Set.univ (Scf.Loop.for k0_t5_loop k0_t5_ok (k0_pay9 (F := F), k0_pay9 (F := F)) (k0_t5_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t3 t4 v132 v135) >>= kk) Q) := by
  iintro H HQ
  iapply (Scf.wp_for_bind frame (wpE defs 𝒱 (c : Thread nD τ) bd) Set.univ k0_t5_loop.lb k0_t5_loop.ub k0_t5_loop.st k0_t5_ok (k0_pay9 (F := F), k0_pay9 (F := F)) (k0_t5_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t3 t4 v132 v135)
    (fun k acc => iprop(⌜acc = upFold x (X main_arg3) e T16 T17 (2 * t3.val + t4.val) k⌝ ∗ UpRes c X e s t3 x T16 T17)) ?hb) $$ [H]
  case hb =>
    intro k acc
    iintro ⟨%h, H⟩
    iapply (t5_body_run c X e s x T16 T17 v5 hw3 k0_t2 hs v21 v132 v135 t3 t4 k acc) $$ H
    iintro H
    isplitr
    · ipureintro
      rw [h]
      rfl
    · iexact H
  · isplitr
    · ipureintro
      rfl
    · iexact H
  · iintro %acc ⟨%h, H⟩
    have h' : acc = upFold x (X main_arg3) e T16 T17 (2 * t3.val + t4.val) 12 := h
    subst h'
    iapply HQ $$ H

/-- A matrix put together from tiles of 256 columns. -/
def tiles {n1 : ℕ} {β : Type} (w : ℕ → (⟨2, ![96, 256]⟩ : Shape).Idx → β) : (⟨2, ![96, n1]⟩ : Shape).Idx → β :=
  fun y => w ((y 1).val / 256) (ix2 (y 0) ⟨(y 1).val % 256, Nat.mod_lt _ (by decide)⟩)

/-- The new matrix on the first `t` tiles, the old one on the others. -/
def part {n1 : ℕ} {β : Type} (old new : (⟨2, ![96, n1]⟩ : Shape).Idx → β) (t : ℕ) : (⟨2, ![96, n1]⟩ : Shape).Idx → β :=
  fun y => if (y 1).val < 256 * t then new y else old y

theorem part_zero {n1 : ℕ} {β : Type} (old new : (⟨2, ![96, n1]⟩ : Shape).Idx → β) : part old new 0 = old := by
  funext y
  exact if_neg (by omega)

theorem part_all {n1 : ℕ} {β : Type} (old new : (⟨2, ![96, n1]⟩ : Shape).Idx → β) {t : ℕ} (h : 256 * t = n1) : part old new t = new := by
  funext y
  have hy : (y 1).val < n1 := (y 1).isLt
  exact if_pos (by omega)

theorem updC_part {n1 : ℕ} {β : Type} (old : (⟨2, ![96, n1]⟩ : Shape).Idx → β) (w : ℕ → (⟨2, ![96, 256]⟩ : Shape).Idx → β) (t : ℕ) :
    updC (part old (tiles w) t) (256 * t) (w t) = part old (tiles w) (t + 1) := by
  funext y
  unfold updC part
  split
  · rename_i h
    rw [if_pos (by omega)]
    unfold tiles
    have h1 : (y 1).val / 256 = t := by omega
    have h2 : (y 1).val % 256 = (y 1).val - 256 * t := by omega
    simp only [h1, h2]
  · rename_i h
    by_cases h1 : (y 1).val < 256 * t
    · rw [if_pos h1, if_pos (by omega)]
    · rw [if_neg h1, if_neg (by omega)]

theorem blk2_part {n1 : ℕ} [NeZero n1] {β : Type} (old new : (⟨2, ![96, n1]⟩ : Shape).Idx → β) (t : ℕ) (h : 256 * t + 256 ≤ n1) :
    blk2 96 256 (part old new t) 0 (256 * t) = blk2 96 256 old 0 (256 * t) := by
  funext y
  unfold blk2 part
  refine if_neg ?_
  show ¬ (256 * t + (y 1).val) % n1 < 256 * t
  have hy : (y 1).val < 256 := (y 1).isLt
  rw [Nat.mod_eq_of_lt (by omega)]
  omega

/-- The hidden activations of one expert. -/
def hFull (x : Vec F S96x3072 .bf16) (W : Vec F S16x1536x4096 .i8) (e : Fin 16) (T16 T17 : Vec F S24x4096 .f32) (m : Vec F S1x1x96x128 .f32) : Vec F S96x2048 .bf16 :=
  tiles (n1 := 2048) (hTile x W e T16 T17 m)

/-- The output tile: the old one plus the expert's weighted contribution. -/
def oTile (h : Vec F S96x2048 .bf16) (W : Vec F S16x1024x3072 .i8) (e : Fin 16) (T18 T19 : Vec F S16x3072 .f32) (w : Vec F S1x1x96x128 .f32) (old : Vec F S96x3072 .f32) (t : ℕ) : Vec F S96x256 .f32 :=
  k0_pay14 w (dnFold h W e T18 T19 t 8) (blk2 96 256 old 0 (256 * t))

/-- The accumulator after one expert. -/
def oFull (h : Vec F S96x2048 .bf16) (W : Vec F S16x1024x3072 .i8) (e : Fin 16) (T18 T19 : Vec F S16x3072 .f32) (w : Vec F S1x1x96x128 .f32) (old : Vec F S96x3072 .f32) : Vec F S96x3072 .f32 :=
  tiles (n1 := 3072) (oTile h W e T18 T19 w old)

theorem t4_loop_run [Facts] (X : (b : Ref sig .tc) → Buf (Elt F) ((c : Thread nD τ).loc b)) (e : Fin 16) (s : Fin 2) (x : Vec F S96x3072 .bf16) (T16 T17 : Vec F S24x4096 .f32) (v5 : BitVec 32) (hw3 : k0_chk3 v5) (k0_t2 : Fin (k0_t2_loop v5).trips) (hs : wSlot k0_t2 = s.val)
    (v21 : BitVec 32) (v99 : Vec F S1x1x96x128 .f32) (t3 : Fin k0_t3_loop.trips) (arg28 : BitVec 32) (f0 : Vec F S96x2048 .bf16) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch10 ↦{fullShare} (part f0 (hFull x (X main_arg3) e T16 T17 v99) (2 * t3.val) : Buf (Elt F) ((c : Thread nD τ).loc cc0_scratch10))) ∗ UpRes c X e s t3 x T16 T17)
    ⊢ iprop((((c : Thread nD τ).loc cc0_scratch10 ↦{fullShare} (part f0 (hFull x (X main_arg3) e T16 T17 v99) (2 * (t3.val + 1)) : Buf (Elt F) ((c : Thread nD τ).loc cc0_scratch10))) -∗ UpRes c X e s t3 x T16 T17 -∗ wp frame (wpE defs 𝒱 (c : Thread nD τ) bd) Set.univ (kk ⟨⟩) Q)
      -∗ wp frame (wpE defs 𝒱 (c : Thread nD τ) bd) Set.univ (Scf.Loop.for k0_t4_loop k0_t4_ok ⟨⟩ (k0_t4_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v99 t3 arg28) >>= kk) Q) := by
  iintro ⟨Hh, H⟩ HQ
  iapply (Scf.wp_for_bind frame (wpE defs 𝒱 (c : Thread nD τ) bd) Set.univ k0_t4_loop.lb k0_t4_loop.ub k0_t4_loop.st k0_t4_ok ⟨⟩ (k0_t4_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v99 t3 arg28)
    (fun k _ => iprop(((c : Thread nD τ).loc cc0_scratch10 ↦{fullShare} (part f0 (hFull x (X main_arg3) e T16 T17 v99) (2 * t3.val + k) : Buf (Elt F) ((c : Thread nD τ).loc cc0_scratch10))) ∗ UpRes c X e s t3 x T16 T17)) ?hb) $$ [H Hh]
  case hb =>
    intro k _
    iintro ⟨Hh, H⟩
    unfold k0_t4_body
    iapply (t5_loop_run c X e s x T16 T17 v5 hw3 k0_t2 hs v21 _ _ t3 k) $$ H
    iintro H
    iapply (load_cc0_scratch10 c _ _ (off84_eq t3 k) (part f0 (hFull x (X main_arg3) e T16 T17 v99) (2 * t3.val + k))) $$ Hh
    iintro Hh
    iapply (store_cc0_scratch10 c _ (off84_eq t3 k) (part f0 (hFull x (X main_arg3) e T16 T17 v99) (2 * t3.val + k)) (hTile x (X main_arg3) e T16 T17 v99 (2 * t3.val + k))) $$ Hh
    iintro Hh
    iapply wp_ret_of
    rw [show updC (part f0 (hFull x (X main_arg3) e T16 T17 v99) (2 * t3.val + k)) (256 * (2 * t3.val + k.val)) (hTile x (X main_arg3) e T16 T17 v99 (2 * t3.val + k)) = part f0 (hFull x (X main_arg3) e T16 T17 v99) (2 * t3.val + (k + 1)) from updC_part f0 _ _]
    iframe Hh H
  · rw [show 2 * t3.val + 0 = 2 * t3.val from rfl]
    iframe Hh H
  · iintro %acc ⟨Hh, H⟩
    iapply HQ $$ [Hh] [H]
    · iexact Hh
    · iexact H

/-- What the contraction loop of the down-projection reads. -/
def DnRes (X : (b : Ref sig .tc) → Buf (Elt F) ((c : Thread nD τ).loc b)) (e : Fin 16) (s : Fin 2) (j : Fin 2) (h : Vec F S96x2048 .bf16) (T18 T19 : Vec F S16x3072 .f32) :
    sProp (MT nD τ sig Unit (Elt F) ℕ (Pipeline.UD sig nD τ) ℕ) :=
  iprop(((c : Thread nD τ).loc cc0_scratch10 ↦{fullShare} (h : Buf (Elt F) ((c : Thread nD τ).loc cc0_scratch10))) ∗ ((c : Thread nD τ).loc cc0_scratch8 ↦{fullShare} (T18 : Buf (Elt F) ((c : Thread nD τ).loc cc0_scratch8))) ∗ ((c : Thread nD τ).loc cc0_scratch9 ↦{fullShare} (T19 : Buf (Elt F) ((c : Thread nD τ).loc cc0_scratch9)))
    ∗ ((c : Thread nD τ).loc cc0_scratch1 ↦[(dstW2 s j).view.set]{fullShare} (gW2 c X e : Buf (Elt F) ((c : Thread nD τ).loc cc0_scratch1))))

theorem t8_body_run [Facts] (X : (b : Ref sig .tc) → Buf (Elt F) ((c : Thread nD τ).loc b)) (e : Fin 16) (s : Fin 2) (h : Vec F S96x2048 .bf16) (T18 T19 : Vec F S16x3072 .f32) (v5 : BitVec 32) (hw3 : k0_chk3 v5) (k0_t2 : Fin (k0_t2_loop v5).trips) (hs : wSlot k0_t2 = s.val)
    (v21 v122 : BitVec 32) (t6 : Fin k0_t6_loop.trips) (t7 : Fin k0_t7_loop.trips) (t8 : Fin k0_t8_loop.trips) (acc : FVec F S96x256 .f32)
    {Q : FVec F S96x256 .f32 → sProp (MT nD τ sig Unit (Elt F) ℕ (Pipeline.UD sig nD τ) ℕ)} {𝒱 : Variants} {bd : Option 𝒱.V} {defs : Defs nD τ sig (Elt F) Λ₀} :
    DnRes c X e s t6 h T18 T19 ⊢ iprop((DnRes c X e s t6 h T18 T19 -∗ Q (dnStep h (X main_arg6) e T18 T19 (6 * t6.val + t7.val) t8.val acc))
      -∗ wp frame (wpE defs 𝒱 (c : Thread nD τ) bd) Set.univ (k0_t8_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t6 t7 v122 t8 acc) Q) := by
  have hj : t6.val < 2 := t6.isLt
  have ht7 : t7.val < 6 := t7.isLt
  unfold DnRes dnStep
  iintro ⟨Hh, H18, H19, Hw⟩ HQ
  unfold k0_t8_body
  rw [k0_part9_eq_skeleton]
  unfold k0_part9_skel
  iapply (load_cc0_scratch10 c _ _ (off89_eq t8) h) $$ Hh
  iintro Hh
  iapply (load_W2 c X e s t6 (128 * t8.val) (256 * (6 * t6.val + t7.val)) (off90_eq hs t6 t7 t8) (by omega) (by omega)) $$ Hw
  iintro Hw
  iapply (load_cc0_scratch8 c _ _ (off91_eq t6 t7 t8) T18) $$ H18
  iintro H18
  iapply (load_cc0_scratch9 c _ _ (off91_eq t6 t7 t8) T19) $$ H19
  iintro H19
  iapply (load_W2 c X e s t6 (128 * t8.val + 64) (256 * (6 * t6.val + t7.val)) (off92_eq hs t6 t7 t8) (by omega) (by omega)) $$ Hw
  iintro Hw
  iapply (load_cc0_scratch8 c _ _ (off93_eq t6 t7 t8) T18) $$ H18
  iintro H18
  iapply (load_cc0_scratch9 c _ _ (off93_eq t6 t7 t8) T19) $$ H19
  iintro H19
  iapply wp_ret_of
  iapply HQ
  iframe Hh H18 H19 Hw

theorem t8_loop_run [Facts] (X : (b : Ref sig .tc) → Buf (Elt F) ((c : Thread nD τ).loc b)) (e : Fin 16) (s : Fin 2) (h : Vec F S96x2048 .bf16) (T18 T19 : Vec F S16x3072 .f32) (v5 : BitVec 32) (hw3 : k0_chk3 v5) (k0_t2 : Fin (k0_t2_loop v5).trips) (hs : wSlot k0_t2 = s.val)
    (v21 v122 : BitVec 32) (t6 : Fin k0_t6_loop.trips) (t7 : Fin k0_t7_loop.trips) {β : Type}
    {kk : FVec F S96x256 .f32 → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    DnRes c X e s t6 h T18 T19 ⊢ iprop((DnRes c X e s t6 h T18 T19 -∗ wp frame (wpE defs 𝒱 (c : Thread nD τ) bd) Set.univ (kk (dnFold h (X main_arg6) e T18 T19 (6 * t6.val + t7.val) 8)) Q)
      -∗ wp frame (wpE defs 𝒱 (c : Thread nD τ) bd) Set.univ (Scf.Loop.for k0_t8_loop k0_t8_ok (k0_pay12 (F := F)) (k0_t8_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t6 t7 v122) >>= kk) Q) := by
  iintro H HQ
  iapply (Scf.wp_for_bind frame (wpE defs 𝒱 (c : Thread nD τ) bd) Set.univ k0_t8_loop.lb k0_t8_loop.ub k0_t8_loop.st k0_t8_ok (k0_pay12 (F := F)) (k0_t8_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 t6 t7 v122)
    (fun k acc => iprop(⌜acc = dnFold h (X main_arg6) e T18 T19 (6 * t6.val + t7.val) k⌝ ∗ DnRes c X e s t6 h T18 T19)) ?hb) $$ [H]
  case hb =>
    intro k acc
    iintro ⟨%hh, H⟩
    iapply (t8_body_run c X e s h T18 T19 v5 hw3 k0_t2 hs v21 v122 t6 t7 k acc) $$ H
    iintro H
    isplitr
    · ipureintro
      rw [hh]
      rfl
    · iexact H
  · isplitr
    · ipureintro
      rfl
    · iexact H
  · iintro %acc ⟨%hh, H⟩
    have h' : acc = dnFold h (X main_arg6) e T18 T19 (6 * t6.val + t7.val) 8 := hh
    subst h'
    iapply HQ $$ H

theorem t7_loop_run [Facts] (X : (b : Ref sig .tc) → Buf (Elt F) ((c : Thread nD τ).loc b)) (e : Fin 16) (s : Fin 2) (h : Vec F S96x2048 .bf16) (T18 T19 : Vec F S16x3072 .f32) (v5 : BitVec 32) (hw3 : k0_chk3 v5) (k0_t2 : Fin (k0_t2_loop v5).trips) (hs : wSlot k0_t2 = s.val)
    (v21 : BitVec 32) (w : Vec F S1x1x96x128 .f32) (t6 : Fin k0_t6_loop.trips) (arg28 : BitVec 32) (old : Vec F S96x3072 .f32) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch11 ↦{fullShare} (part old (oFull h (X main_arg6) e T18 T19 w old) (6 * t6.val) : Buf (Elt F) ((c : Thread nD τ).loc cc0_scratch11))) ∗ DnRes c X e s t6 h T18 T19)
    ⊢ iprop((((c : Thread nD τ).loc cc0_scratch11 ↦{fullShare} (part old (oFull h (X main_arg6) e T18 T19 w old) (6 * (t6.val + 1)) : Buf (Elt F) ((c : Thread nD τ).loc cc0_scratch11))) -∗ DnRes c X e s t6 h T18 T19 -∗ wp frame (wpE defs 𝒱 (c : Thread nD τ) bd) Set.univ (kk ⟨⟩) Q)
      -∗ wp frame (wpE defs 𝒱 (c : Thread nD τ) bd) Set.univ (Scf.Loop.for k0_t7_loop k0_t7_ok ⟨⟩ (k0_t7_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 w t6 arg28) >>= kk) Q) := by
  have ht6 : t6.val < 2 := t6.isLt
  iintro ⟨Hh, H⟩ HQ
  iapply (Scf.wp_for_bind frame (wpE defs 𝒱 (c : Thread nD τ) bd) Set.univ k0_t7_loop.lb k0_t7_loop.ub k0_t7_loop.st k0_t7_ok ⟨⟩ (k0_t7_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 w t6 arg28)
    (fun k _ => iprop(((c : Thread nD τ).loc cc0_scratch11 ↦{fullShare} (part old (oFull h (X main_arg6) e T18 T19 w old) (6 * t6.val + k) : Buf (Elt F) ((c : Thread nD τ).loc cc0_scratch11))) ∗ DnRes c X e s t6 h T18 T19)) ?hb) $$ [H Hh]
  case hb =>
    intro k _
    have hk : k.val < 6 := k.isLt
    iintro ⟨Hh, H⟩
    unfold k0_t7_body
    iapply (t8_loop_run c X e s h T18 T19 v5 hw3 k0_t2 hs v21 _ t6 k) $$ H
    iintro H
    iapply (load_cc0_scratch11 c _ _ (off94_eq t6 k) (part old (oFull h (X main_arg6) e T18 T19 w old) (6 * t6.val + k))) $$ Hh
    iintro Hh
    iapply (load_cc0_scratch11 c _ _ (off94_eq t6 k) (part old (oFull h (X main_arg6) e T18 T19 w old) (6 * t6.val + k))) $$ Hh
    iintro Hh
    rw [blk2_part old (oFull h (X main_arg6) e T18 T19 w old) (6 * t6.val + k) (by omega)]
    iapply (store_cc0_scratch11 c _ (off94_eq t6 k) (part old (oFull h (X main_arg6) e T18 T19 w old) (6 * t6.val + k)) (oTile h (X main_arg6) e T18 T19 w old (6 * t6.val + k))) $$ Hh
    iintro Hh
    iapply wp_ret_of
    rw [show updC (part old (oFull h (X main_arg6) e T18 T19 w old) (6 * t6.val + k)) (256 * (6 * t6.val + k.val)) (oTile h (X main_arg6) e T18 T19 w old (6 * t6.val + k)) = part old (oFull h (X main_arg6) e T18 T19 w old) (6 * t6.val + (k + 1)) from updC_part old _ _]
    iframe Hh H
  · rw [show 6 * t6.val + 0 = 6 * t6.val from rfl]
    iframe Hh H
  · iintro %acc ⟨Hh, H⟩
    iapply HQ $$ [Hh] [H]
    · iexact Hh
    · iexact H

end Cert.KernelIdeal.Hand

end
-- ==== Proof.IdealChecks.lean ====
/-
  The side conditions the body assumes of the words it reads — the number of active experts, an entry of the expert
  list, a list position — hold for every word the kernel can read: a count of at most sixteen, an expert below sixteen.
-/
module

public import proofs.«01_k».proof.Proof.Gen.KernelIdeal.Launch
public import proofs.«01_k».proof.Proof.Gen.KernelIdeal.Skeleton

@[expose] public section

set_option maxRecDepth 65536

namespace Cert.KernelIdeal.Hand

open Cert.KernelIdeal Cert.KernelIdeal.Gen
open Idealize.ShloMosaic

theorem chk1_of : ∀ n : Fin 16, k0_chk1 (BitVec.ofNat 32 n.val) := by decide +kernel

theorem chk5_of : ∀ e : Fin 16, k0_chk5 (BitVec.ofNat 32 e.val) := by decide +kernel

theorem chk2_of : ∀ (n : Fin 17) (e : Fin 16), k0_chk2 (BitVec.ofNat 32 n.val) (BitVec.ofNat 32 e.val) := by decide +kernel

theorem chk3_of : ∀ n : Fin 17, k0_chk3 (BitVec.ofNat 32 n.val) := by decide +kernel

theorem chk4_of : ∀ (n : Fin 17) (k : Fin (k0_t2_loop (BitVec.ofNat 32 n.val)).trips) (e : Fin 16),
    k0_chk4 (BitVec.ofNat 32 n.val) k (BitVec.ofNat 32 e.val) := by decide +kernel

theorem trips2 : ∀ n : Fin 17, (k0_t2_loop (BitVec.ofNat 32 n.val)).trips = n.val := by decide +kernel
theorem trips9 : ∀ n : Fin 17, (k0_t9_loop (BitVec.ofNat 32 n.val)).trips = 0 := by decide +kernel
theorem cond1_iff : ∀ n : Fin 17, k0_cond1 (BitVec.ofNat 32 n.val) = 1#1 ↔ 0 < n.val := by decide +kernel
theorem cond2_iff : ∀ (n : Fin 17) (k : Fin (k0_t2_loop (BitVec.ofNat 32 n.val)).trips),
    k0_cond2 (BitVec.ofNat 32 n.val) k = 1#1 ↔ k.val + 1 < n.val := by decide +kernel

end Cert.KernelIdeal.Hand
-- ==== Proof.IdealExpert.lean ====
/-
  One expert's turn: the next expert's copies are started, this expert's are waited for, its tables are built, and the
  two projections run chunk by chunk.
-/
module

public import proofs.«01_k».proof.Proof.IdealLoops
public import proofs.«01_k».proof.Proof.IdealChecks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

theorem iv4 : ∀ k : Fin 4, (Scf.iv (0#32 : BitVec 32) 1#32 k.val).toNat = k.val := by decide +kernel
theorem iv2 : ∀ k : Fin 2, (Scf.iv (0#32 : BitVec 32) 1#32 k.val).toNat = k.val := by decide +kernel
theorem iv16 : ∀ k : Fin 16, (Scf.iv (0#32 : BitVec 32) 1#32 k.val).toNat = k.val := by decide +kernel
theorem iv16s : ∀ k : Fin 16, (Scalar.addi (Scf.iv (0#32 : BitVec 32) 1#32 k.val) 1#32).toNat = k.val + 1 := by decide +kernel
theorem ofE : ∀ e : Fin 16, (BitVec.ofNat 32 e.val).toNat = e.val := by decide +kernel

/-- The slot of expert number `k`. -/
def sl (k : ℕ) : Fin 2 := ⟨k % 2, Nat.mod_lt _ (by decide)⟩

theorem wSlot_eq : ∀ k : Fin 16, wSlot k.val = (sl k.val).val := by decide +kernel

/-- The slot word of the next expert. -/
def wNext (k : ℕ) : ℕ := (Scalar.remsi (Scalar.addi (Scf.iv 0#32 1#32 k) 1#32) 2#32).toNat

theorem wNext_eq : ∀ k : Fin 16, wNext k.val = (sl (k.val + 1)).val := by decide +kernel

theorem bigSep_four (Φ : Fin 4 → sProp (MT nD τ sig Unit (Elt F) ℕ (Pipeline.UD sig nD τ) ℕ)) : bigSep Finset.univ Φ = iprop(Φ 0 ∗ Φ 1 ∗ Φ 2 ∗ Φ 3) := by
  rw [show (Finset.univ : Finset (Fin 4)) = {0, 1, 2, 3} from by decide, BI.bigSep_insert (by decide), BI.bigSep_insert (by decide), BI.bigSep_insert (by decide), BI.bigSep_singleton]
  rfl

/-- The chunks of the first weight array while the chunk loop runs: those before `k` idle, the others in flight. -/
def Chunks1 (X : (b : Ref sig .tc) → Buf (Elt F) ((c : Thread nD τ).loc b)) (e : Fin 16) (s : Fin 2) (k : ℕ) : sProp (MT nD τ sig Unit (Elt F) ℕ (Pipeline.UD sig nD τ) ℕ) :=
  bigSep Finset.univ fun j : Fin 4 => if j.val < k then idleW1 c X s j else flyW1 c X s j e 0

/-- The chunks of the second weight array. -/
def Chunks2 (X : (b : Ref sig .tc) → Buf (Elt F) ((c : Thread nD τ).loc b)) (e : Fin 16) (s : Fin 2) (k : ℕ) : sProp (MT nD τ sig Unit (Elt F) ℕ (Pipeline.UD sig nD τ) ℕ) :=
  bigSep Finset.univ fun j : Fin 2 => if j.val < k then idleW2 c X s j else flyW2 c X s j e

theorem chunks1_split (X : (b : Ref sig .tc) → Buf (Elt F) ((c : Thread nD τ).loc b)) (e : Fin 16) (s : Fin 2) (j : Fin 4) : Chunks1 c X e s j.val
    = iprop(flyW1 c X s j e 0 ∗ bigSep (Finset.univ.erase j) fun i : Fin 4 => if i.val < j.val then idleW1 c X s i else flyW1 c X s i e 0) := by
  unfold Chunks1
  rw [BI.bigSep_univ_split j]
  simp only [lt_irrefl, if_false]
  rfl

theorem chunks1_join (X : (b : Ref sig .tc) → Buf (Elt F) ((c : Thread nD τ).loc b)) (e : Fin 16) (s : Fin 2) (j : Fin 4) : Chunks1 c X e s (j.val + 1)
    = iprop(idleW1 c X s j ∗ bigSep (Finset.univ.erase j) fun i : Fin 4 => if i.val < j.val then idleW1 c X s i else flyW1 c X s i e 0) := by
  unfold Chunks1
  rw [BI.bigSep_univ_split j, if_pos (Nat.lt_succ_self _)]
  refine congrArg (fun P => iprop(idleW1 c X s j ∗ P)) (BI.bigSep_congr fun i hi => ?_)
  have hne : i.val ≠ j.val := fun h => (Finset.mem_erase.mp hi).1 (Fin.ext h)
  exact if_congr (by omega) rfl rfl

theorem chunks2_split (X : (b : Ref sig .tc) → Buf (Elt F) ((c : Thread nD τ).loc b)) (e : Fin 16) (s : Fin 2) (j : Fin 2) : Chunks2 c X e s j.val
    = iprop(flyW2 c X s j e ∗ bigSep (Finset.univ.erase j) fun i : Fin 2 => if i.val < j.val then idleW2 c X s i else flyW2 c X s i e) := by
  unfold Chunks2
  rw [BI.bigSep_univ_split j]
  simp only [lt_irrefl, if_false]
  rfl

theorem chunks2_join (X : (b : Ref sig .tc) → Buf (Elt F) ((c : Thread nD τ).loc b)) (e : Fin 16) (s : Fin 2) (j : Fin 2) : Chunks2 c X e s (j.val + 1)
    = iprop(idleW2 c X s j ∗ bigSep (Finset.univ.erase j) fun i : Fin 2 => if i.val < j.val then idleW2 c X s i else flyW2 c X s i e) := by
  unfold Chunks2
  rw [BI.bigSep_univ_split j, if_pos (Nat.lt_succ_self _)]
  refine congrArg (fun P => iprop(idleW2 c X s j ∗ P)) (BI.bigSep_congr fun i hi => ?_)
  have hne : i.val ≠ j.val := fun h => (Finset.mem_erase.mp hi).1 (Fin.ext h)
  exact if_congr (by omega) rfl rfl

theorem off72_eq {v5 : BitVec 32} {k0_t2 : Fin (k0_t2_loop v5).trips} {s : Fin 2} (hs : wSlot k0_t2 = s.val) (t3 : Fin k0_t3_loop.trips) : k0_off72 v5 k0_t2 t3 = ![s.val, t3.val] :=
  (show k0_off72 v5 k0_t2 t3 = ![wSlot k0_t2, (Scf.iv (0#32 : BitVec 32) 1#32 t3.val).toNat] from rfl).trans (by rw [hs, iv4 t3])

theorem off86_eq {v5 : BitVec 32} {k0_t2 : Fin (k0_t2_loop v5).trips} {s : Fin 2} (hs : wSlot k0_t2 = s.val) (t6 : Fin k0_t6_loop.trips) : k0_off86 v5 k0_t2 t6 = ![s.val, t6.val] :=
  (show k0_off86 v5 k0_t2 t6 = ![wSlot k0_t2, (Scf.iv (0#32 : BitVec 32) 1#32 t6.val).toNat] from rfl).trans (by rw [hs, iv2 t6])

theorem t3_loop_run [Facts] (X : (b : Ref sig .tc) → Buf (Elt F) ((c : Thread nD τ).loc b)) (e : Fin 16) (s : Fin 2) (x : Vec F S96x3072 .bf16) (T16 T17 : Vec F S24x4096 .f32) (v5 : BitVec 32) (hw3 : k0_chk3 v5) (k0_t2 : Fin (k0_t2_loop v5).trips) (hs : wSlot k0_t2 = s.val)
    (v21 v23 : BitVec 32) (hw5 : k0_chk5 v23) (v99 : Vec F S1x1x96x128 .f32) (f0 : Vec F S96x2048 .bf16) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch10 ↦{fullShare} (f0 : Buf (Elt F) ((c : Thread nD τ).loc cc0_scratch10))) ∗ ((c : Thread nD τ).loc cc0_stg0_0 ↦{fullShare} (x : Buf (Elt F) ((c : Thread nD τ).loc cc0_stg0_0))) ∗ ((c : Thread nD τ).loc cc0_scratch6 ↦{fullShare} (T16 : Buf (Elt F) ((c : Thread nD τ).loc cc0_scratch6))) ∗ ((c : Thread nD τ).loc cc0_scratch7 ↦{fullShare} (T17 : Buf (Elt F) ((c : Thread nD τ).loc cc0_scratch7))) ∗ Chunks1 c X e s 0 ∗ (∃ W, owes (c : Thread nD τ) 0 W))
    ⊢ iprop((((c : Thread nD τ).loc cc0_scratch10 ↦{fullShare} (hFull x (X main_arg3) e T16 T17 v99 : Buf (Elt F) ((c : Thread nD τ).loc cc0_scratch10))) -∗ ((c : Thread nD τ).loc cc0_stg0_0 ↦{fullShare} (x : Buf (Elt F) ((c : Thread nD τ).loc cc0_stg0_0))) -∗ ((c : Thread nD τ).loc cc0_scratch6 ↦{fullShare} (T16 : Buf (Elt F) ((c : Thread nD τ).loc cc0_scratch6))) -∗ ((c : Thread nD τ).loc cc0_scratch7 ↦{fullShare} (T17 : Buf (Elt F) ((c : Thread nD τ).loc cc0_scratch7))) -∗ Chunks1 c X e s 4 -∗ (∃ W, owes (c : Thread nD τ) 0 W) -∗ wp frame (wpE defs 𝒱 (c : Thread nD τ) bd) Set.univ (kk ⟨⟩) Q)
      -∗ wp frame (wpE defs 𝒱 (c : Thread nD τ) bd) Set.univ (Scf.Loop.for k0_t3_loop k0_t3_ok ⟨⟩ (k0_t3_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v23 hw5 v99) >>= kk) Q) := by
  iintro ⟨Hh, Hx, H16, H17, Hc, HO⟩ HQ
  iapply (Scf.wp_for_bind frame (wpE defs 𝒱 (c : Thread nD τ) bd) Set.univ k0_t3_loop.lb k0_t3_loop.ub k0_t3_loop.st k0_t3_ok ⟨⟩ (k0_t3_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v23 hw5 v99)
    (fun k _ => iprop(((c : Thread nD τ).loc cc0_scratch10 ↦{fullShare} (part f0 (hFull x (X main_arg3) e T16 T17 v99) (2 * k) : Buf (Elt F) ((c : Thread nD τ).loc cc0_scratch10))) ∗ ((c : Thread nD τ).loc cc0_stg0_0 ↦{fullShare} (x : Buf (Elt F) ((c : Thread nD τ).loc cc0_stg0_0))) ∗ ((c : Thread nD τ).loc cc0_scratch6 ↦{fullShare} (T16 : Buf (Elt F) ((c : Thread nD τ).loc cc0_scratch6))) ∗ ((c : Thread nD τ).loc cc0_scratch7 ↦{fullShare} (T17 : Buf (Elt F) ((c : Thread nD τ).loc cc0_scratch7))) ∗ Chunks1 c X e s k ∗ (∃ W, owes (c : Thread nD τ) 0 W))) ?hb) $$ [Hh Hx H16 H17 Hc HO]
  case hb =>
    intro k _
    rw [chunks1_split c X e s k, chunks1_join c X e s k]
    iintro ⟨Hh, Hx, H16, H17, ⟨Hf, Hr⟩, HO⟩
    unfold k0_t3_body
    iapply (waitW1a c X s k e (off72_eq hs k)) $$ [Hf HO]
    · iframe Hf HO
    iintro ⟨Hf, HO⟩
    iapply (waitW1b c X s k e (off72_eq hs k)) $$ [Hf HO]
    · iframe Hf HO
    iintro ⟨Ha0, Ha1, Hd0, Hd1, Hv, HO⟩
    iapply (t4_loop_run c X e s x T16 T17 v5 hw3 k0_t2 hs v21 v99 k _ f0) $$ [Hh Hx H16 H17 Hd0 Hd1]
    · unfold UpRes
      iframe Hh Hx H16 H17 Hd0 Hd1
    unfold UpRes
    iintro Hh ⟨Hx, H16, H17, Hd0, Hd1⟩
    iapply wp_ret_of
    iframe Hh Hx H16 H17 Hr HO
    unfold idleW1 Idle2
    isplitl [Ha0]; · iexact Ha0
    isplitl [Ha1]; · iexact Ha1
    isplitl [Hd0]; · iexists _; iexact Hd0
    isplitl [Hd1]; · iexists _; iexact Hd1
    iexact Hv
  · rw [show part f0 (hFull x (X main_arg3) e T16 T17 v99) (2 * 0) = f0 from part_zero _ _]
    iframe Hh Hx H16 H17 Hc HO
  · rw [show part f0 (hFull x (X main_arg3) e T16 T17 v99) (2 * Scf.trips k0_t3_loop.lb k0_t3_loop.ub k0_t3_loop.st) = hFull x (X main_arg3) e T16 T17 v99 from part_all f0 _ (by decide),
      show Scf.trips k0_t3_loop.lb k0_t3_loop.ub k0_t3_loop.st = 4 from by decide]
    iintro %acc ⟨Hh, Hx, H16, H17, Hc, HO⟩
    iapply HQ $$ [Hh] [Hx] [H16] [H17] [Hc] [HO]
    · iexact Hh
    · iexact Hx
    · iexact H16
    · iexact H17
    · iexact Hc
    · iexact HO

theorem t6_loop_run [Facts] (X : (b : Ref sig .tc) → Buf (Elt F) ((c : Thread nD τ).loc b)) (e : Fin 16) (s : Fin 2) (h : Vec F S96x2048 .bf16) (T18 T19 : Vec F S16x3072 .f32) (v5 : BitVec 32) (hw3 : k0_chk3 v5) (k0_t2 : Fin (k0_t2_loop v5).trips) (hs : wSlot k0_t2 = s.val)
    (v21 v23 : BitVec 32) (hw5 : k0_chk5 v23) (w : Vec F S1x1x96x128 .f32) (old : Vec F S96x3072 .f32) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch11 ↦{fullShare} (old : Buf (Elt F) ((c : Thread nD τ).loc cc0_scratch11))) ∗ ((c : Thread nD τ).loc cc0_scratch10 ↦{fullShare} (h : Buf (Elt F) ((c : Thread nD τ).loc cc0_scratch10))) ∗ ((c : Thread nD τ).loc cc0_scratch8 ↦{fullShare} (T18 : Buf (Elt F) ((c : Thread nD τ).loc cc0_scratch8))) ∗ ((c : Thread nD τ).loc cc0_scratch9 ↦{fullShare} (T19 : Buf (Elt F) ((c : Thread nD τ).loc cc0_scratch9))) ∗ Chunks2 c X e s 0 ∗ (∃ W, owes (c : Thread nD τ) 0 W))
    ⊢ iprop((((c : Thread nD τ).loc cc0_scratch11 ↦{fullShare} (oFull h (X main_arg6) e T18 T19 w old : Buf (Elt F) ((c : Thread nD τ).loc cc0_scratch11))) -∗ ((c : Thread nD τ).loc cc0_scratch10 ↦{fullShare} (h : Buf (Elt F) ((c : Thread nD τ).loc cc0_scratch10))) -∗ ((c : Thread nD τ).loc cc0_scratch8 ↦{fullShare} (T18 : Buf (Elt F) ((c : Thread nD τ).loc cc0_scratch8))) -∗ ((c : Thread nD τ).loc cc0_scratch9 ↦{fullShare} (T19 : Buf (Elt F) ((c : Thread nD τ).loc cc0_scratch9))) -∗ Chunks2 c X e s 2 -∗ (∃ W, owes (c : Thread nD τ) 0 W) -∗ wp frame (wpE defs 𝒱 (c : Thread nD τ) bd) Set.univ (kk ⟨⟩) Q)
      -∗ wp frame (wpE defs 𝒱 (c : Thread nD τ) bd) Set.univ (Scf.Loop.for k0_t6_loop k0_t6_ok ⟨⟩ (k0_t6_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v23 hw5 w) >>= kk) Q) := by
  iintro ⟨Ho, Hh, H18, H19, Hc, HO⟩ HQ
  iapply (Scf.wp_for_bind frame (wpE defs 𝒱 (c : Thread nD τ) bd) Set.univ k0_t6_loop.lb k0_t6_loop.ub k0_t6_loop.st k0_t6_ok ⟨⟩ (k0_t6_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v5 hw3 k0_t2 v21 v23 hw5 w)
    (fun k _ => iprop(((c : Thread nD τ).loc cc0_scratch11 ↦{fullShare} (part old (oFull h (X main_arg6) e T18 T19 w old) (6 * k) : Buf (Elt F) ((c : Thread nD τ).loc cc0_scratch11))) ∗ ((c : Thread nD τ).loc cc0_scratch10 ↦{fullShare} (h : Buf (Elt F) ((c : Thread nD τ).loc cc0_scratch10))) ∗ ((c : Thread nD τ).loc cc0_scratch8 ↦{fullShare} (T18 : Buf (Elt F) ((c : Thread nD τ).loc cc0_scratch8))) ∗ ((c : Thread nD τ).loc cc0_scratch9 ↦{fullShare} (T19 : Buf (Elt F) ((c : Thread nD τ).loc cc0_scratch9))) ∗ Chunks2 c X e s k ∗ (∃ W, owes (c : Thread nD τ) 0 W))) ?hb) $$ [Ho Hh H18 H19 Hc HO]
  case hb =>
    intro k _
    rw [chunks2_split c X e s k, chunks2_join c X e s k]
    iintro ⟨Ho, Hh, H18, H19, ⟨Hf, Hr⟩, HO⟩
    unfold k0_t6_body
    iapply (waitW2 c X s k e (off86_eq hs k)) $$ [Hf HO]
    · iframe Hf HO
    iintro ⟨Ha, Hd, Hv, HO⟩
    iapply (t7_loop_run c X e s h T18 T19 v5 hw3 k0_t2 hs v21 w k _ old) $$ [Ho Hh H18 H19 Hd]
    · unfold DnRes
      iframe Ho Hh H18 H19 Hd
    unfold DnRes
    iintro Ho ⟨Hh, H18, H19, Hd⟩
    iapply wp_ret_of
    iframe Ho Hh H18 H19 Hr HO
    unfold idleW2 Idle
    isplitl [Ha]; · iexact Ha
    isplitl [Hd]; · iexists _; iexact Hd
    iexact Hv
  · rw [show part old (oFull h (X main_arg6) e T18 T19 w old) (6 * 0) = old from part_zero _ _]
    iframe Ho Hh H18 H19 Hc HO
  · rw [show part old (oFull h (X main_arg6) e T18 T19 w old) (6 * Scf.trips k0_t6_loop.lb k0_t6_loop.ub k0_t6_loop.st) = oFull h (X main_arg6) e T18 T19 w old from part_all old _ (by decide),
      show Scf.trips k0_t6_loop.lb k0_t6_loop.ub k0_t6_loop.st = 2 from by decide]
    iintro %acc ⟨Ho, Hh, H18, H19, Hc, HO⟩
    iapply HQ $$ [Ho] [Hh] [H18] [H19] [Hc] [HO]
    · iexact Ho
    · iexact Hh
    · iexact H18
    · iexact H19
    · iexact Hc
    · iexact HO

/-- One slot with nothing in flight. -/
def IdleSlot (X : (b : Ref sig .tc) → Buf (Elt F) ((c : Thread nD τ).loc b)) (s : Fin 2) : sProp (MT nD τ sig Unit (Elt F) ℕ (Pipeline.UD sig nD τ) ℕ) :=
  iprop(idleQ0 c X s ∗ idleQ1 c X s ∗ idleQ2 c X s ∗ idleQ3 c X s ∗ (idleW1 c X s 0 ∗ idleW1 c X s 1 ∗ idleW1 c X s 2 ∗ idleW1 c X s 3) ∗ (idleW2 c X s 0 ∗ idleW2 c X s 1))

/-- One slot with every copy of expert `e` in flight. -/
def FlySlot (X : (b : Ref sig .tc) → Buf (Elt F) ((c : Thread nD τ).loc b)) (e : Fin 16) (s : Fin 2) : sProp (MT nD τ sig Unit (Elt F) ℕ (Pipeline.UD sig nD τ) ℕ) :=
  iprop(flyQ0 c X s e ∗ flyQ1 c X s e ∗ flyQ2 c X s e ∗ flyQ3 c X s e ∗ (flyW1 c X s 0 e 0 ∗ flyW1 c X s 1 e 0 ∗ flyW1 c X s 2 e 0 ∗ flyW1 c X s 3 e 0) ∗ (flyW2 c X s 0 e ∗ flyW2 c X s 1 e))

theorem chunks1_fly (X : (b : Ref sig .tc) → Buf (Elt F) ((c : Thread nD τ).loc b)) (e : Fin 16) (s : Fin 2) : Chunks1 c X e s 0 = iprop(flyW1 c X s 0 e 0 ∗ flyW1 c X s 1 e 0 ∗ flyW1 c X s 2 e 0 ∗ flyW1 c X s 3 e 0) := by
  unfold Chunks1
  rw [bigSep_four]
  rfl
theorem chunks1_idle (X : (b : Ref sig .tc) → Buf (Elt F) ((c : Thread nD τ).loc b)) (e : Fin 16) (s : Fin 2) : Chunks1 c X e s 4 = iprop(idleW1 c X s 0 ∗ idleW1 c X s 1 ∗ idleW1 c X s 2 ∗ idleW1 c X s 3) := by
  unfold Chunks1
  rw [bigSep_four]
  rfl
theorem chunks2_fly (X : (b : Ref sig .tc) → Buf (Elt F) ((c : Thread nD τ).loc b)) (e : Fin 16) (s : Fin 2) : Chunks2 c X e s 0 = iprop(flyW2 c X s 0 e ∗ flyW2 c X s 1 e) := by
  unfold Chunks2
  rw [BI.bigSep_univ_two]
  rfl
theorem chunks2_idle (X : (b : Ref sig .tc) → Buf (Elt F) ((c : Thread nD τ).loc b)) (e : Fin 16) (s : Fin 2) : Chunks2 c X e s 2 = iprop(idleW2 c X s 0 ∗ idleW2 c X s 1) := by
  unfold Chunks2
  rw [BI.bigSep_univ_two]
  rfl

/-- The word of the list at place `k`. -/
def lst (L : Vec F S17 .i32) (k : ℕ) : BitVec 32 := L (ix1 (Fin.ofNat 17 k))

theorem load_sm (L : Vec F S17 .i32) (k' : ℕ) {off : Fin 1 → ℕ} (ho : off = ![k']) {inb : ∀ a, off a + S1.size a ≤ S17.size a} {hl} {α : Type}
    {k : Vec F S1 .i32 → Prog (TpuEff nD τ sig (Elt F) Λ .tc) α} {q : PosShare TreeShare} {Q : α → sProp (MT nD τ sig Unit (Elt F) ℕ (Pipeline.UD sig nD τ) ℕ)} :
    ((c : Thread nD τ).loc cc0_scratch13 ↦{q} (L : Buf (Elt F) ((c : Thread nD τ).loc cc0_scratch13))) ⊢ iprop((((c : Thread nD τ).loc cc0_scratch13 ↦{q} (L : Buf (Elt F) ((c : Thread nD τ).loc cc0_scratch13))) -∗ wp frame (wpE defs 𝒱 (c : Thread nD τ) bd) Set.univ (k (fun _ => lst L k')) Q)
      -∗ wp frame (wpE defs 𝒱 (c : Thread nD τ) bd) Set.univ (.op (.load (Memref.whole cc0_scratch13) (Rect.unit (s := S17) off S1.size inb).toLoadRect hl) k) Q) := by
  subst ho
  refine loadAt (F := F) c (m := Memref.whole cc0_scratch13) (r := Rect.unit (s := S17) ![k'] S1.size inb) (f := (L : Buf (Elt F) ((c : Thread nD τ).loc cc0_scratch13))) (fun _ => lst L k') (Finset.subset_univ _) ?_
  funext y
  have i0 := inb 0
  change k' + 1 ≤ 17 at i0
  have h0 : (y 0).val < 1 := (y 0).isLt
  refine congrArg L (funext fun a => Fin.ext ?_)
  fin_cases a
  show k' + 1 * (y 0).val = k' % 17
  rw [Nat.mod_eq_of_lt (by omega)]
  omega

/-- The tables of expert `e`: the two scales and the two zero points. -/
def T16 (X : (b : Ref sig .tc) → Buf (Elt F) ((c : Thread nD τ).loc b)) (e : Fin 16) : Vec F S24x4096 .f32 := k0_pay35 (blkQ0 c X e)
def T18 (X : (b : Ref sig .tc) → Buf (Elt F) ((c : Thread nD τ).loc b)) (e : Fin 16) : Vec F S16x3072 .f32 := k0_pay36 (blkQ2 c X e)

/-- Two matrices side by side. -/
def join2 {n0 m n1 : ℕ} [NeZero m] {β : Type} (a b : (⟨2, ![n0, m]⟩ : Shape).Idx → β) : (⟨2, ![n0, n1]⟩ : Shape).Idx → β :=
  fun i => if (i 1).val < m then a (ix2 (i 0) (Fin.ofNat m (i 1).val)) else b (ix2 (i 0) (Fin.ofNat m ((i 1).val - m)))

theorem updC_join {n0 m n1 : ℕ} [NeZero m] {β : Type} (f : (⟨2, ![n0, n1]⟩ : Shape).Idx → β) (a b : (⟨2, ![n0, m]⟩ : Shape).Idx → β) (h : n1 = 2 * m) :
    updC (updC f 0 a) m b = join2 a b := by
  funext i
  have hi : (i 1).val < n1 := (i 1).isLt
  unfold join2
  by_cases h1 : (i 1).val < m
  · rw [if_pos h1]
    unfold updC
    rw [dif_neg (by omega), dif_pos (by omega)]
    refine congrArg a (congrArg (ix2 (i 0)) (Fin.ext ?_))
    show (i 1).val - 0 = (i 1).val % m
    rw [Nat.mod_eq_of_lt h1, Nat.sub_zero]
  · rw [if_neg h1]
    unfold updC
    rw [dif_pos (by omega)]
    refine congrArg b (congrArg (ix2 (i 0)) (Fin.ext ?_))
    show (i 1).val - m = ((i 1).val - m) % m
    rw [Nat.mod_eq_of_lt (by omega)]

def T17 (X : (b : Ref sig .tc) → Buf (Elt F) ((c : Thread nD τ).loc b)) (e : Fin 16) : Vec F S24x4096 .f32 := join2 (m := 2048) (k0_pay38 (blkQ1 c X e)) (k0_pay39 (blkQ1 c X e))
def T19 (X : (b : Ref sig .tc) → Buf (Elt F) ((c : Thread nD τ).loc b)) (e : Fin 16) : Vec F S16x3072 .f32 := join2 (m := 1536) (k0_pay7 (k0_pay41 (blkQ3 c X e))) (k0_pay8 (k0_pay40 (blkQ3 c X e)))

/-- The accumulator after expert `e`. -/
def expOut (X : (b : Ref sig .tc) → Buf (Elt F) ((c : Thread nD τ).loc b)) (x : Vec F S96x3072 .bf16) (cw : Vec F S16x2x96x128 .f32) (e : Fin 16) (old : Vec F S96x3072 .f32) : Vec F S96x3072 .f32 :=
  oFull (hFull x (X main_arg3) e (T16 c X e) (T17 c X e) (rowT cw e 1)) (X main_arg6) e (T18 c X e) (T19 c X e) (rowT cw e 0) old

/-- The buffers of the expert loop beside the slots. -/
def ExpRes (x : Vec F S96x3072 .bf16) (cw : Vec F S16x2x96x128 .f32) (L : Vec F S17 .i32) (acc : Vec F S96x3072 .f32) : sProp (MT nD τ sig Unit (Elt F) ℕ (Pipeline.UD sig nD τ) ℕ) :=
  iprop(((c : Thread nD τ).loc cc0_stg0_0 ↦{fullShare} (x : Buf (Elt F) ((c : Thread nD τ).loc cc0_stg0_0))) ∗ ((c : Thread nD τ).loc cc0_scratch12 ↦{fullShare} (cw : Buf (Elt F) ((c : Thread nD τ).loc cc0_scratch12))) ∗ ((c : Thread nD τ).loc cc0_scratch13 ↦{fullShare} (L : Buf (Elt F) ((c : Thread nD τ).loc cc0_scratch13))) ∗ (∃ f : Vec F S24x4096 .f32, ((c : Thread nD τ).loc cc0_scratch6 ↦{fullShare} (f : Buf (Elt F) ((c : Thread nD τ).loc cc0_scratch6)))) ∗ (∃ f : Vec F S24x4096 .f32, ((c : Thread nD τ).loc cc0_scratch7 ↦{fullShare} (f : Buf (Elt F) ((c : Thread nD τ).loc cc0_scratch7)))) ∗ (∃ f : Vec F S16x3072 .f32, ((c : Thread nD τ).loc cc0_scratch8 ↦{fullShare} (f : Buf (Elt F) ((c : Thread nD τ).loc cc0_scratch8)))) ∗ (∃ f : Vec F S16x3072 .f32, ((c : Thread nD τ).loc cc0_scratch9 ↦{fullShare} (f : Buf (Elt F) ((c : Thread nD τ).loc cc0_scratch9)))) ∗ (∃ f : Vec F S96x2048 .bf16, ((c : Thread nD τ).loc cc0_scratch10 ↦{fullShare} (f : Buf (Elt F) ((c : Thread nD τ).loc cc0_scratch10)))) ∗ ((c : Thread nD τ).loc cc0_scratch11 ↦{fullShare} (acc : Buf (Elt F) ((c : Thread nD τ).loc cc0_scratch11))))

/-- The slot of the next expert: in flight if there is one. -/
def NextSlot (X : (b : Ref sig .tc) → Buf (Elt F) ((c : Thread nD τ).loc b)) (E : ℕ → Fin 16) (n k : ℕ) : sProp (MT nD τ sig Unit (Elt F) ℕ (Pipeline.UD sig nD τ) ℕ) :=
  if k < n then FlySlot c X (E k) (sl k) else IdleSlot c X (sl k)

/-- The starts of the next expert's copies, at the head of an expert's turn. -/
theorem part10_run [Facts] (X : (b : Ref sig .tc) → Buf (Elt F) ((c : Thread nD τ).loc b)) (E : ℕ → Fin 16) (n : Fin 17) (L : Vec F S17 .i32)
    (hL : ∀ k, k < n.val → lst L k = BitVec.ofNat 32 (E k).val) (hw3 : k0_chk3 (BitVec.ofNat 32 n.val)) (k0_t2 : Fin (k0_t2_loop (BitVec.ofNat 32 n.val)).trips) {β : Type}
    {kk : (Σ' (v21 : BitVec 32) (v23 : Elt F .i32), k0_chk5 v23) → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch13 ↦{fullShare} (L : Buf (Elt F) ((c : Thread nD τ).loc cc0_scratch13))) ∗ FlySlot c X (E k0_t2.val) (sl k0_t2.val) ∗ IdleSlot c X (sl (k0_t2.val + 1)) ∗ (∃ W, owes (c : Thread nD τ) 0 W))
    ⊢ iprop((∀ v21, ((c : Thread nD τ).loc cc0_scratch13 ↦{fullShare} (L : Buf (Elt F) ((c : Thread nD τ).loc cc0_scratch13))) -∗ NextSlot c X E n.val (k0_t2.val + 1)
          -∗ (((c : Thread nD τ).loc main_arg4 ↦{hf (sl k0_t2.val) fullShare} X main_arg4) ∗ ((c : Thread nD τ).loc cc0_scratch2 ↦[(dstQ0 (sl k0_t2.val)).view.set]{fullShare} (gQ0 c X (E k0_t2.val) : Buf (Elt F) ((c : Thread nD τ).loc cc0_scratch2))) ∗ semVal ((c : Thread nD τ), .dma (semQ0 (sl k0_t2.val))) 0)
          -∗ (((c : Thread nD τ).loc main_arg5 ↦{hf (sl k0_t2.val) fullShare} X main_arg5) ∗ ((c : Thread nD τ).loc cc0_scratch3 ↦[(dstQ1 (sl k0_t2.val)).view.set]{fullShare} (gQ1 c X (E k0_t2.val) : Buf (Elt F) ((c : Thread nD τ).loc cc0_scratch3))) ∗ semVal ((c : Thread nD τ), .dma (semQ1 (sl k0_t2.val))) 0)
          -∗ (((c : Thread nD τ).loc main_arg7 ↦{hf (sl k0_t2.val) fullShare} X main_arg7) ∗ ((c : Thread nD τ).loc cc0_scratch4 ↦[(dstQ2 (sl k0_t2.val)).view.set]{fullShare} (gQ2 c X (E k0_t2.val) : Buf (Elt F) ((c : Thread nD τ).loc cc0_scratch4))) ∗ semVal ((c : Thread nD τ), .dma (semQ2 (sl k0_t2.val))) 0)
          -∗ flyQ3 c X (sl k0_t2.val) (E k0_t2.val) -∗ Chunks1 c X (E k0_t2.val) (sl k0_t2.val) 0 -∗ Chunks2 c X (E k0_t2.val) (sl k0_t2.val) 0
          -∗ (∃ W, owes (c : Thread nD τ) 0 W) -∗ wp frame (wpE defs 𝒱 (c : Thread nD τ) bd) Set.univ (kk ⟨v21, BitVec.ofNat 32 (E k0_t2.val).val, chk5_of (E k0_t2.val)⟩) Q)
      -∗ wp frame (wpE defs 𝒱 (c : Thread nD τ) bd) Set.univ (k0_part10 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 (BitVec.ofNat 32 n.val) hw3 0#32 1#32 k0_t2 >>= kk) Q) := by
  have hkn : k0_t2.val < n.val := lt_of_lt_of_eq k0_t2.isLt (trips2 n)
  have hk16 : k0_t2.val < 16 := by omega
  have hs : wSlot k0_t2 = (sl k0_t2.val).val := wSlot_eq ⟨k0_t2.val, hk16⟩
  have hn : wNext k0_t2 = (sl (k0_t2.val + 1)).val := wNext_eq ⟨k0_t2.val, hk16⟩
  have o18 : k0_off18 (BitVec.ofNat 32 n.val) k0_t2 = ![k0_t2.val] :=
    (show k0_off18 (BitVec.ofNat 32 n.val) k0_t2 = ![(Scf.iv (0#32 : BitVec 32) 1#32 k0_t2.val).toNat] from rfl).trans (by rw [iv16 ⟨k0_t2.val, hk16⟩])
  have cu : ∀ (f : Fin 2 → ℕ) (b : ℕ), f = ![wSlot k0_t2, b] → f = ![(sl k0_t2.val).val, b] := fun f b h => h.trans (by rw [hs])
  have nx : ∀ (f : Fin 3 → ℕ) (b : ℕ), f = ![wNext k0_t2, 0, b] → f = ![(sl (k0_t2.val + 1)).val, 0, b] := fun f b h => h.trans (by rw [hn])
  have nx2 : ∀ (f : Fin 2 → ℕ) (b : ℕ), f = ![wNext k0_t2, b] → f = ![(sl (k0_t2.val + 1)).val, b] := fun f b h => h.trans (by rw [hn])
  iintro ⟨HL, Hf, Hi, HO⟩ HQ
  rw [k0_part10_eq_skeleton]
  unfold k0_part10_skel
  iapply (load_sm c L _ o18) $$ HL
  iintro HL
  have h23 : lst L k0_t2.val = BitVec.ofNat 32 (E k0_t2.val).val := hL _ hkn
  simp only [ret_bind', h23]
  iapply (wp_assume 𝒱 (c : Thread nD τ) bd Set.univ (chk5_of (E k0_t2.val)))
  by_cases h2 : k0_cond2 (BitVec.ofNat 32 n.val) k0_t2 = 1#1
  · have hlt : k0_t2.val + 1 < n.val := (cond2_iff n k0_t2).1 h2
    have o19 : k0_off19 (BitVec.ofNat 32 n.val) k0_t2 = ![k0_t2.val + 1] :=
      (show k0_off19 (BitVec.ofNat 32 n.val) k0_t2 = ![(Scalar.addi (Scf.iv (0#32 : BitVec 32) 1#32 k0_t2.val) 1#32).toNat] from rfl).trans (by rw [iv16s ⟨k0_t2.val, hk16⟩])
    have sr : ∀ (f : Fin 3 → ℕ) (b : ℕ), f = ![(BitVec.ofNat 32 (E (k0_t2.val + 1)).val).toNat, 0, b] → f = ![(E (k0_t2.val + 1)).val, 0, b] := fun f b h => h.trans (by rw [ofE])
    have h112 : lst L (k0_t2.val + 1) = BitVec.ofNat 32 (E (k0_t2.val + 1)).val := hL _ hlt
    unfold IdleSlot FlySlot
    icases Hi with ⟨I0, I1, I2, I3, ⟨J0, J1, J2, J3⟩, K0, K1⟩
    icases Hf with ⟨F0, F1, F2, F3, HW1, HW2⟩
    simp only [dif_pos h2]
    rw [k0_part4_eq_skeleton, k0_part5_eq_skeleton]
    unfold k0_part4_skel k0_part5_skel
    iapply (load_sm c L _ o19) $$ HL
    iintro HL
    simp only [ret_bind', h112]
    iapply (wp_assume 𝒱 (c : Thread nD τ) bd Set.univ (chk4_of n k0_t2 (E (k0_t2.val + 1))))
    iapply (startQ0 c X (sl (k0_t2.val + 1)) (E (k0_t2.val + 1)) (nx (k0_off21 _ k0_t2) _ rfl) (sr (k0_off22 _) _ rfl) (nx2 (k0_off20 _ k0_t2) _ rfl)) $$ I0
    iintro I0
    iapply (startQ1 c X (sl (k0_t2.val + 1)) (E (k0_t2.val + 1)) (nx (k0_off24 _ k0_t2) _ rfl) (sr (k0_off25 _) _ rfl) (nx2 (k0_off23 _ k0_t2) _ rfl)) $$ I1
    iintro I1
    iapply (startQ2 c X (sl (k0_t2.val + 1)) (E (k0_t2.val + 1)) (nx (k0_off27 _ k0_t2) _ rfl) (sr (k0_off28 _) _ rfl) (nx2 (k0_off26 _ k0_t2) _ rfl)) $$ I2
    iintro I2
    iapply (startQ3 c X (sl (k0_t2.val + 1)) (E (k0_t2.val + 1)) (nx (k0_off30 _ k0_t2) _ rfl) (sr (k0_off31 _) _ rfl) (nx2 (k0_off29 _ k0_t2) _ rfl)) $$ I3
    iintro I3
    iapply (startW1a c X (sl (k0_t2.val + 1)) 0 (E (k0_t2.val + 1)) (nx (k0_off33 _ k0_t2) _ rfl) (sr (k0_off34 _) _ rfl) (nx2 (k0_off32 _ k0_t2) _ rfl)) $$ J0
    iintro J0
    iapply (startW1b c X (sl (k0_t2.val + 1)) 0 (E (k0_t2.val + 1)) (nx (k0_off35 _ k0_t2) _ rfl) (sr (k0_off36 _) _ rfl) (nx2 (k0_off32 _ k0_t2) _ rfl)) $$ J0
    iintro J0
    iapply (startW1a c X (sl (k0_t2.val + 1)) 1 (E (k0_t2.val + 1)) (nx (k0_off37 _ k0_t2) _ rfl) (sr (k0_off38 _) _ rfl) (nx2 (k0_off23 _ k0_t2) _ rfl)) $$ J1
    iintro J1
    iapply (startW1b c X (sl (k0_t2.val + 1)) 1 (E (k0_t2.val + 1)) (nx (k0_off39 _ k0_t2) _ rfl) (sr (k0_off40 _) _ rfl) (nx2 (k0_off23 _ k0_t2) _ rfl)) $$ J1
    iintro J1
    iapply (startW1a c X (sl (k0_t2.val + 1)) 2 (E (k0_t2.val + 1)) (nx (k0_off41 _ k0_t2) _ rfl) (sr (k0_off42 _) _ rfl) (nx2 (k0_off26 _ k0_t2) _ rfl)) $$ J2
    iintro J2
    iapply (startW1b c X (sl (k0_t2.val + 1)) 2 (E (k0_t2.val + 1)) (nx (k0_off43 _ k0_t2) _ rfl) (sr (k0_off44 _) _ rfl) (nx2 (k0_off26 _ k0_t2) _ rfl)) $$ J2
    iintro J2
    iapply (startW1a c X (sl (k0_t2.val + 1)) 3 (E (k0_t2.val + 1)) (nx (k0_off45 _ k0_t2) _ rfl) (sr (k0_off46 _) _ rfl) (nx2 (k0_off29 _ k0_t2) _ rfl)) $$ J3
    iintro J3
    iapply (startW1b c X (sl (k0_t2.val + 1)) 3 (E (k0_t2.val + 1)) (nx (k0_off47 _ k0_t2) _ rfl) (sr (k0_off48 _) _ rfl) (nx2 (k0_off29 _ k0_t2) _ rfl)) $$ J3
    iintro J3
    iapply (startW2 c X (sl (k0_t2.val + 1)) 0 (E (k0_t2.val + 1)) (nx (k0_off50 _ k0_t2) _ rfl) (sr (k0_off51 _) _ rfl) (nx2 (k0_off49 _ k0_t2) _ rfl)) $$ K0
    iintro K0
    iapply (startW2 c X (sl (k0_t2.val + 1)) 1 (E (k0_t2.val + 1)) (nx (k0_off53 _ k0_t2) _ rfl) (sr (k0_off54 _) _ rfl) (nx2 (k0_off52 _ k0_t2) _ rfl)) $$ K1
    iintro K1
    iapply (waitQ0 c X (sl k0_t2.val) (E k0_t2.val) (cu (k0_off55 _ k0_t2) _ rfl)) $$ [F0 HO]
    · iframe F0 HO
    iintro ⟨A0, D0, V0, HO⟩
    iapply (waitQ1 c X (sl k0_t2.val) (E k0_t2.val) (cu (k0_off58 _ k0_t2) _ rfl)) $$ [F1 HO]
    · iframe F1 HO
    iintro ⟨A1, D1, V1, HO⟩
    iapply (waitQ2 c X (sl k0_t2.val) (E k0_t2.val) (cu (k0_off61 _ k0_t2) _ rfl)) $$ [F2 HO]
    · iframe F2 HO
    iintro ⟨A2, D2, V2, HO⟩
    iapply HQ $$ [HL] [I0 I1 I2 I3 J0 J1 J2 J3 K0 K1] [A0 D0 V0] [A1 D1 V1] [A2 D2 V2] [F3] [HW1] [HW2] [HO]
    · iexact HL
    · unfold NextSlot
      rw [if_pos hlt]
      unfold FlySlot
      iframe I0 I1 I2 I3 J0 J1 J2 J3 K0 K1
    · iframe A0 D0 V0
    · iframe A1 D1 V1
    · iframe A2 D2 V2
    · iexact F3
    · rw [chunks1_fly]
      iexact HW1
    · rw [chunks2_fly]
      iexact HW2
    · iexact HO
  · have hlt : ¬ k0_t2.val + 1 < n.val := fun h => h2 ((cond2_iff n k0_t2).2 h)
    unfold FlySlot
    icases Hf with ⟨F0, F1, F2, F3, HW1, HW2⟩
    simp only [dif_neg h2]
    iapply (waitQ0 c X (sl k0_t2.val) (E k0_t2.val) (cu (k0_off55 _ k0_t2) _ rfl)) $$ [F0 HO]
    · iframe F0 HO
    iintro ⟨A0, D0, V0, HO⟩
    iapply (waitQ1 c X (sl k0_t2.val) (E k0_t2.val) (cu (k0_off58 _ k0_t2) _ rfl)) $$ [F1 HO]
    · iframe F1 HO
    iintro ⟨A1, D1, V1, HO⟩
    iapply (waitQ2 c X (sl k0_t2.val) (E k0_t2.val) (cu (k0_off61 _ k0_t2) _ rfl)) $$ [F2 HO]
    · iframe F2 HO
    iintro ⟨A2, D2, V2, HO⟩
    iapply HQ $$ [HL] [Hi] [A0 D0 V0] [A1 D1 V1] [A2 D2 V2] [F3] [HW1] [HW2] [HO]
    · iexact HL
    · unfold NextSlot
      rw [if_neg hlt]
      iexact Hi
    · iframe A0 D0 V0
    · iframe A1 D1 V1
    · iframe A2 D2 V2
    · iexact F3
    · rw [chunks1_fly]
      iexact HW1
    · rw [chunks2_fly]
      iexact HW2
    · iexact HO

theorem t2_body_run [Facts] (X : (b : Ref sig .tc) → Buf (Elt F) ((c : Thread nD τ).loc b)) (E : ℕ → Fin 16) (n : Fin 17) (x : Vec F S96x3072 .bf16) (cw : Vec F S16x2x96x128 .f32) (L : Vec F S17 .i32)
    (hL : ∀ k, k < n.val → lst L k = BitVec.ofNat 32 (E k).val) (hw3 : k0_chk3 (BitVec.ofNat 32 n.val)) (k0_t2 : Fin (k0_t2_loop (BitVec.ofNat 32 n.val)).trips) (acc : Vec F S96x3072 .f32)
    {Q : Unit → sProp (MT nD τ sig Unit (Elt F) ℕ (Pipeline.UD sig nD τ) ℕ)} {𝒱 : Variants} {bd : Option 𝒱.V} {defs : Defs nD τ sig (Elt F) Λ₀} :
    iprop(ExpRes c x cw L acc ∗ FlySlot c X (E k0_t2.val) (sl k0_t2.val) ∗ IdleSlot c X (sl (k0_t2.val + 1)) ∗ (∃ W, owes (c : Thread nD τ) 0 W))
    ⊢ iprop((ExpRes c x cw L (expOut c X x cw (E k0_t2.val) acc) -∗ NextSlot c X E n.val (k0_t2.val + 1) -∗ IdleSlot c X (sl k0_t2.val) -∗ (∃ W, owes (c : Thread nD τ) 0 W) -∗ Q ⟨⟩)
      -∗ wp frame (wpE defs 𝒱 (c : Thread nD τ) bd) Set.univ (k0_t2_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 (BitVec.ofNat 32 n.val) hw3 k0_t2 ⟨⟩) Q) := by
  have hkn : k0_t2.val < n.val := lt_of_lt_of_eq k0_t2.isLt (trips2 n)
  have hk16 : k0_t2.val < 16 := by omega
  have hs : wSlot k0_t2 = (sl k0_t2.val).val := wSlot_eq ⟨k0_t2.val, hk16⟩
  have cu : ∀ (f : Fin 2 → ℕ) (b : ℕ), f = ![wSlot k0_t2, b] → f = ![(sl k0_t2.val).val, b] := fun f b h => h.trans (by rw [hs])
  have cu3 : ∀ (f : Fin 3 → ℕ), f = ![wSlot k0_t2, 0, 0] → f = ![(sl k0_t2.val).val, 0, 0] := fun f h => h.trans (by rw [hs])
  have cwo : ∀ (f : Fin 4 → ℕ) (b : ℕ), f = ![(BitVec.ofNat 32 (E k0_t2.val).val).toNat, b, 0, 0] → f = ![(E k0_t2.val).val, b, 0, 0] := fun f b h => h.trans (by rw [ofE])
  unfold ExpRes
  iintro ⟨⟨Hx, Hcw, HL, ⟨%f6, H6⟩, ⟨%f7, H7⟩, ⟨%f8, H8⟩, ⟨%f9, H9⟩, ⟨%f10, H10⟩, H11⟩, Hf, Hi, HO⟩ HQ
  unfold k0_t2_body
  iapply (part10_run c X E n L hL hw3 k0_t2) $$ [HL Hf Hi HO]
  · iframe HL Hf Hi HO
  iintro %v21 HL Hnext ⟨A0, D0, V0⟩ ⟨A1, D1, V1⟩ ⟨A2, D2, V2⟩ F3 HW1 HW2 HO
  rw [k0_part11_eq_skeleton]
  unfold k0_part11_skel
  iapply (waitQ3 c X (sl k0_t2.val) (E k0_t2.val) (cu (k0_off64 _ k0_t2) _ rfl)) $$ [F3 HO]
  · iframe F3 HO
  iintro ⟨A3, D3, V3, HO⟩
  iapply (load_Q0 c X (E k0_t2.val) (sl k0_t2.val) (cu3 (k0_off67 _ k0_t2) rfl)) $$ D0
  iintro D0
  iapply (loadAll_cc0_scratch6 c rfl f6) $$ H6
  iintro H6
  iapply (storeAll_cc0_scratch6 c rfl f6 (k0_pay35 (blkQ0 c X (E k0_t2.val)))) $$ H6
  iintro H6
  iapply (load_Q2 c X (E k0_t2.val) (sl k0_t2.val) (cu3 (k0_off68 _ k0_t2) rfl)) $$ D2
  iintro D2
  iapply (loadAll_cc0_scratch8 c rfl f8) $$ H8
  iintro H8
  iapply (storeAll_cc0_scratch8 c rfl f8 (k0_pay36 (blkQ2 c X (E k0_t2.val)))) $$ H8
  iintro H8
  iapply (load_Q1 c X (E k0_t2.val) (sl k0_t2.val) (cu3 (k0_off69 _ k0_t2) rfl)) $$ D1
  iintro D1
  iapply (loadAny_cc0_scratch7 c f7) $$ H7
  iintro H7 %u7
  iapply (store_cc0_scratch7 c 0 rfl f7 (k0_pay38 (blkQ1 c X (E k0_t2.val)))) $$ H7
  iintro H7
  iapply (loadAny_cc0_scratch7 c _) $$ H7
  iintro H7 %u7'
  iapply (store_cc0_scratch7 c 2048 rfl _ (k0_pay39 (blkQ1 c X (E k0_t2.val)))) $$ H7
  iintro H7
  iapply (load_Q3 c X (E k0_t2.val) (sl k0_t2.val) (cu3 (k0_off70 _ k0_t2) rfl)) $$ D3
  iintro D3
  iapply (loadAny_cc0_scratch9 c f9) $$ H9
  iintro H9 %u9
  iapply (store_cc0_scratch9 c 0 rfl f9 (k0_pay7 (k0_pay41 (blkQ3 c X (E k0_t2.val))))) $$ H9
  iintro H9
  iapply (loadAny_cc0_scratch9 c _) $$ H9
  iintro H9 %u9'
  iapply (store_cc0_scratch9 c 1536 rfl _ (k0_pay8 (k0_pay40 (blkQ3 c X (E k0_t2.val))))) $$ H9
  iintro H9
  iapply (load_cc0_scratch12 c (E k0_t2.val) 1 (cwo (k0_off71 _) _ rfl) cw) $$ Hcw
  iintro Hcw
  rw [updC_join f7 _ _ rfl, updC_join f9 _ _ rfl]
  iapply (t3_loop_run c X (E k0_t2.val) (sl k0_t2.val) x (k0_pay35 (blkQ0 c X (E k0_t2.val))) (join2 (m := 2048) (k0_pay38 (blkQ1 c X (E k0_t2.val))) (k0_pay39 (blkQ1 c X (E k0_t2.val)))) (BitVec.ofNat 32 n.val) hw3 k0_t2 hs v21 _ _ (rowT cw (E k0_t2.val) 1) f10) $$ [H10 Hx H6 H7 HW1 HO]
  · iframe H10 Hx H6 H7 HW1 HO
  iintro H10 Hx H6 H7 HW1 HO
  iapply (load_cc0_scratch12 c (E k0_t2.val) 0 (cwo (k0_off85 _) _ rfl) cw) $$ Hcw
  iintro Hcw
  iapply (t6_loop_run c X (E k0_t2.val) (sl k0_t2.val) (hFull x (X main_arg3) (E k0_t2.val) (T16 c X (E k0_t2.val)) (T17 c X (E k0_t2.val)) (rowT cw (E k0_t2.val) 1)) (k0_pay36 (blkQ2 c X (E k0_t2.val))) (join2 (m := 1536) (k0_pay7 (k0_pay41 (blkQ3 c X (E k0_t2.val)))) (k0_pay8 (k0_pay40 (blkQ3 c X (E k0_t2.val))))) (BitVec.ofNat 32 n.val) hw3 k0_t2 hs v21 _ _ (rowT cw (E k0_t2.val) 0) acc) $$ [H11 H10 H8 H9 HW2 HO]
  · iframe H8 H9 HW2 HO
    isplitl [H11]
    · iexact H11
    iexact H10
  iintro H11 H10 H8 H9 HW2 HO
  iapply wp_ret_of
  iapply HQ $$ [Hx Hcw HL H6 H7 H8 H9 H10 H11] [Hnext] [A0 D0 V0 A1 D1 V1 A2 D2 V2 A3 D3 V3 HW1 HW2] [HO]
  · iframe Hx Hcw HL
    isplitl [H6]; · iexists _; iexact H6
    isplitl [H7]; · iexists _; iexact H7
    isplitl [H8]; · iexists _; iexact H8
    isplitl [H9]; · iexists _; iexact H9
    isplitl [H10]; · iexists _; iexact H10
    iexact H11
  · iexact Hnext
  · unfold IdleSlot
    rw [← chunks1_idle c X (E k0_t2.val) (sl k0_t2.val), ← chunks2_idle c X (E k0_t2.val) (sl k0_t2.val)]
    iframe HW1 HW2
    unfold idleQ0 idleQ1 idleQ2 idleQ3 Idle
    iframe A0 A1 A2 A3 V0 V1 V2 V3
    isplitl [D0]; · iexists _; iexact D0
    isplitl [D1]; · iexists _; iexact D1
    isplitl [D2]; · iexists _; iexact D2
    iexists _; iexact D3
  · iexact HO

/-- The accumulator after the first `k` experts of the list. -/
def expFold (X : (b : Ref sig .tc) → Buf (Elt F) ((c : Thread nD τ).loc b)) (E : ℕ → Fin 16) (x : Vec F S96x3072 .bf16) (cw : Vec F S16x2x96x128 .f32) (acc : Vec F S96x3072 .f32) : ℕ → Vec F S96x3072 .f32
  | 0 => acc
  | k + 1 => expOut c X x cw (E k) (expFold X E x cw acc k)

theorem sl_two (k : ℕ) : sl (k + 1 + 1) = sl k := Fin.ext (by show (k + 1 + 1) % 2 = k % 2; omega)

theorem t2_loop_run [Facts] (X : (b : Ref sig .tc) → Buf (Elt F) ((c : Thread nD τ).loc b)) (E : ℕ → Fin 16) (n : Fin 17) (x : Vec F S96x3072 .bf16) (cw : Vec F S16x2x96x128 .f32) (L : Vec F S17 .i32)
    (hL : ∀ k, k < n.val → lst L k = BitVec.ofNat 32 (E k).val) (hw3 : k0_chk3 (BitVec.ofNat 32 n.val)) (acc : Vec F S96x3072 .f32) {β : Type}
    {kk : Unit → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(ExpRes c x cw L acc ∗ NextSlot c X E n.val 0 ∗ IdleSlot c X (sl 1) ∗ (∃ W, owes (c : Thread nD τ) 0 W))
    ⊢ iprop((ExpRes c x cw L (expFold c X E x cw acc n.val) -∗ IdleSlot c X (sl n.val) -∗ IdleSlot c X (sl (n.val + 1)) -∗ (∃ W, owes (c : Thread nD τ) 0 W) -∗ wp frame (wpE defs 𝒱 (c : Thread nD τ) bd) Set.univ (kk ⟨⟩) Q)
      -∗ wp frame (wpE defs 𝒱 (c : Thread nD τ) bd) Set.univ (Scf.Loop.for (k0_t2_loop (BitVec.ofNat 32 n.val)) (k0_t2_ok (BitVec.ofNat 32 n.val) hw3) ⟨⟩ (k0_t2_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 (BitVec.ofNat 32 n.val) hw3) >>= kk) Q) := by
  iintro ⟨HR, HN, HI, HO⟩ HQ
  iapply (Scf.wp_for_bind frame (wpE defs 𝒱 (c : Thread nD τ) bd) Set.univ (k0_t2_loop (BitVec.ofNat 32 n.val)).lb (k0_t2_loop (BitVec.ofNat 32 n.val)).ub (k0_t2_loop (BitVec.ofNat 32 n.val)).st (k0_t2_ok (BitVec.ofNat 32 n.val) hw3) ⟨⟩ (k0_t2_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 (BitVec.ofNat 32 n.val) hw3)
    (fun k _ => iprop(ExpRes c x cw L (expFold c X E x cw acc k) ∗ NextSlot c X E n.val k ∗ IdleSlot c X (sl (k + 1)) ∗ (∃ W, owes (c : Thread nD τ) 0 W))) ?hb) $$ [HR HN HI HO]
  case hb =>
    intro k _
    have hkn : k.val < n.val := lt_of_lt_of_eq k.isLt (trips2 n)
    rw [show NextSlot c X E n.val k.val = FlySlot c X (E k.val) (sl k.val) from if_pos hkn, sl_two]
    iintro ⟨HR, HN, HI, HO⟩
    iapply (t2_body_run c X E n x cw L hL hw3 k _) $$ [HR HN HI HO]
    · iframe HR HN HI HO
    iintro HR HN HI HO
    iframe HN HI HO
    iexact HR
  · iframe HR HN HI HO
  · rw [show Scf.trips (k0_t2_loop (BitVec.ofNat 32 n.val)).lb (k0_t2_loop (BitVec.ofNat 32 n.val)).ub (k0_t2_loop (BitVec.ofNat 32 n.val)).st = n.val from trips2 n,
      show NextSlot c X E n.val n.val = IdleSlot c X (sl n.val) from if_neg (lt_irrefl _)]
    iintro %a ⟨HR, HN, HI, HO⟩
    iapply HQ $$ [HR] [HN] [HI] [HO]
    · iexact HR
    · iexact HN
    · iexact HI
    · iexact HO

end Cert.KernelIdeal.Hand

end
-- ==== Proof.IdealScan.lean ====
/-
  The routing scan: for every expert its combine weights and its hit marks are written to a table, and the experts some
  token chose are listed in order.
-/
module

public import proofs.«01_k».proof.Proof.IdealExpert

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

/-- Some token chose expert `e`. -/
def Active (v0 : Vec F S96x8 .i32) (e : Fin 16) : Prop := Scalar.cmpf .ogt (k0_pay5 (F := F) v0 e) (Scalar.ofBits .f32 0x00000000#32) = 1#1

instance (v0 : Vec F S96x8 .i32) (e : Fin 16) : Decidable (Active (F := F) v0 e) := by unfold Active; infer_instance

/-- The active experts among the first `k`, in order. -/
def act (v0 : Vec F S96x8 .i32) : ℕ → List (Fin 16)
  | 0 => []
  | k + 1 => if h : k < 16 then (if Active (F := F) v0 ⟨k, h⟩ then act v0 k ++ [⟨k, h⟩] else act v0 k) else act v0 k

theorem act_length (v0 : Vec F S96x8 .i32) (k : ℕ) : (act (F := F) v0 k).length ≤ k := by
  induction k with
  | zero => exact le_refl _
  | succ k ih =>
    unfold act
    split
    · split
      · rw [List.length_append]; exact Nat.succ_le_succ ih
      · omega
    · omega

/-- The two tables of the scan: the combine weights and the hit counts of each expert. -/
def cwAll (v0 : Vec F S96x8 .i32) (v2 : Vec F S96x8 .f32) : Vec F S16x2x96x128 .f32 :=
  fun i => if (i 1).val = 0 then k0_pay3 v0 v2 (i 0) (ix4 0 0 (i 2) (i 3)) else k0_pay4 v0 (i 0) (ix4 0 0 (i 2) (i 3))

theorem ix4_eta (y : (⟨4, ![1, 1, 96, 128]⟩ : Shape).Idx) : (ix4 0 0 (y 2) (y 3) : (⟨4, ![1, 1, 96, 128]⟩ : Shape).Idx) = y := by
  funext a
  refine Fin.ext ?_
  have h0 : (y 0).val < 1 := (y 0).isLt
  have h1 : (y 1).val < 1 := (y 1).isLt
  fin_cases a
  · show 0 = (y 0).val; omega
  · show 0 = (y 1).val; omega
  · rfl
  · rfl

theorem cwAll_zero (v0 : Vec F S96x8 .i32) (v2 : Vec F S96x8 .f32) (e : Fin 16) : rowT (cwAll v0 v2) e 0 = k0_pay3 v0 v2 e := by
  funext y
  exact congrArg (k0_pay3 v0 v2 e) (ix4_eta y)

theorem cwAll_one (v0 : Vec F S96x8 .i32) (v2 : Vec F S96x8 .f32) (e : Fin 16) : rowT (cwAll v0 v2) e 1 = k0_pay4 v0 e := by
  funext y
  exact congrArg (k0_pay4 v0 e) (ix4_eta y)

theorem cwAll_eq (v0 : Vec F S96x8 .i32) (v2 : Vec F S96x8 .f32) (f : Vec F S16x2x96x128 .f32)
    (h : ∀ e : Fin 16, rowT f e 0 = k0_pay3 v0 v2 e ∧ rowT f e 1 = k0_pay4 v0 e) : f = cwAll v0 v2 := by
  funext i
  have hb : (i 1).val < 2 := (i 1).isLt
  have hi : ∀ b : Fin 2, (i 1).val = b.val → f i = rowT f (i 0) b (ix4 0 0 (i 2) (i 3)) := by
    intro b hb
    refine congrArg f (funext fun a => ?_)
    fin_cases a
    · rfl
    · exact Fin.ext hb
    · rfl
    · rfl
  unfold cwAll
  split
  · rename_i h0
    rw [hi 0 h0, (h (i 0)).1]
  · rename_i h0
    rw [hi 1 (by show (i 1).val = 1; omega), (h (i 0)).2]

theorem rowT_updT {β : Type} (f : (⟨4, ![16, 2, 96, 128]⟩ : Shape).Idx → β) (e : Fin 16) (b : Fin 2) (e' b' : ℕ) (w : (⟨4, ![1, 1, 96, 128]⟩ : Shape).Idx → β) :
    rowT (updT f e' b' w) e b = if e.val = e' ∧ b.val = b' then w else rowT f e b := by
  funext y
  unfold rowT updT
  show (if e.val = e' ∧ b.val = b' then w (ix4 0 0 (y 2) (y 3)) else f (ix4 e b (y 2) (y 3))) = _
  split
  · exact congrArg w (ix4_eta y)
  · rfl

/-- The list with the word at place `k` overwritten. -/
def updL (L : Vec F S17 .i32) (k : ℕ) (w : BitVec 32) : Vec F S17 .i32 := fun i => if (i 0).val = k then w else L i

theorem lst_updL (L : Vec F S17 .i32) (k : ℕ) (w : BitVec 32) (j : ℕ) (hj : j < 17) : lst (F := F) (updL L k w) j = if j = k then w else lst (F := F) L j := by
  unfold lst updL
  refine if_congr ?_ rfl rfl
  show j % 17 = k ↔ j = k
  rw [Nat.mod_eq_of_lt hj]

theorem store_sm (L : Vec F S17 .i32) (k' : ℕ) (w : BitVec 32) {off : Fin 1 → ℕ} (ho : off = ![k']) {inb : ∀ a, off a + S1.size a ≤ S17.size a} {hx hm} {α : Type}
    {k : PUnit → Prog (TpuEff nD τ sig (Elt F) Λ .tc) α} {Q : α → sProp (MT nD τ sig Unit (Elt F) ℕ (Pipeline.UD sig nD τ) ℕ)} :
    ((c : Thread nD τ).loc cc0_scratch13 ↦{fullShare} (L : Buf (Elt F) ((c : Thread nD τ).loc cc0_scratch13))) ⊢ iprop((((c : Thread nD τ).loc cc0_scratch13 ↦{fullShare} ((updL L k' w : Vec F S17 .i32) : Buf (Elt F) ((c : Thread nD τ).loc cc0_scratch13))) -∗ wp frame (wpE defs 𝒱 (c : Thread nD τ) bd) Set.univ (k ⟨⟩) Q)
      -∗ wp frame (wpE defs 𝒱 (c : Thread nD τ) bd) Set.univ (.op (.store (Memref.whole cc0_scratch13) (Rect.unit (s := S17) off S1.size inb) (fun _ => w) Finset.univ hx hm) k) Q) := by
  subst ho
  refine storeAt (F := F) c (m := Memref.whole cc0_scratch13) (r := Rect.unit (s := S17) ![k'] S1.size inb) (w := fun _ => w) (f := (L : Buf (Elt F) ((c : Thread nD τ).loc cc0_scratch13))) (updL L k' w : Vec F S17 .i32) ?_
  funext i
  unfold updL
  split
  · rename_i h
    have he : (Rect.unit (s := S17) ![k'] S1.size inb).emb (ix1 0) = i := by
      refine funext fun a => Fin.ext ?_
      fin_cases a
      show k' + 1 * 0 = (i 0).val; omega
    exact (congrArg (((Memref.whole cc0_scratch13).access (Rect.unit (s := S17) ![k'] S1.size inb)).write (Elt F) L (fun _ => w) Finset.univ) he.symm).trans
      (View.write_emb_of_mem (v := (Memref.whole cc0_scratch13).access (Rect.unit (s := S17) ![k'] S1.size inb)) L (fun _ => w) (Finset.mem_univ _))
  · rename_i h
    refine View.write_of_not_mem (v := (Memref.whole cc0_scratch13).access (Rect.unit (s := S17) ![k'] S1.size inb)) L (fun _ => w) Finset.univ (i := i) fun hm => h ?_
    obtain ⟨x, -, rfl⟩ := Finset.mem_map.mp hm
    have h0 : (x 0).val < 1 := (x 0).isLt
    show k' + 1 * (x 0).val = k'
    omega

theorem off1_eq (k : Fin 16) : k0_off1 k = ![k.val, 0, 0, 0] :=
  (show k0_off1 k = ![(Scf.iv (0#32 : BitVec 32) 1#32 k.val).toNat, 0, 0, 0] from rfl).trans (by rw [iv16 k])
theorem off2_eq (k : Fin 16) : k0_off2 k = ![k.val, 1, 0, 0] :=
  (show k0_off2 k = ![(Scf.iv (0#32 : BitVec 32) 1#32 k.val).toNat, 1, 0, 0] from rfl).trans (by rw [iv16 k])
theorem off3_eq : ∀ m : Fin 16, k0_off3 (BitVec.ofNat 32 m.val) = ![m.val] := by decide +kernel
theorem iv_ofNat : ∀ k : Fin 16, Scf.iv (0#32 : BitVec 32) 1#32 k.val = BitVec.ofNat 32 k.val := by decide +kernel
theorem next_one : ∀ m : Fin 16, Scalar.addi (BitVec.ofNat 32 m.val) (Scalar.extui (1#1 : BitVec 1)) = BitVec.ofNat 32 (m.val + 1) := by decide +kernel
theorem next_zero : ∀ m : Fin 16, Scalar.addi (BitVec.ofNat 32 m.val) (Scalar.extui (0#1 : BitVec 1)) = BitVec.ofNat 32 m.val := by decide +kernel

/-- What the scan has established after `k` experts. -/
def ScanOk (v0 : Vec F S96x8 .i32) (v2 : Vec F S96x8 .f32) (k : ℕ) (f : Vec F S16x2x96x128 .f32) (L : Vec F S17 .i32) (a : BitVec 32) : Prop :=
  (∀ e : Fin 16, e.val < k → rowT f e 0 = k0_pay3 v0 v2 e ∧ rowT f e 1 = k0_pay4 v0 e)
  ∧ (∀ j, j < (act (F := F) v0 k).length → lst (F := F) L j = BitVec.ofNat 32 ((act (F := F) v0 k).getD j 0).val)
  ∧ a = BitVec.ofNat 32 (act (F := F) v0 k).length

theorem scan_step (v0 : Vec F S96x8 .i32) (v2 : Vec F S96x8 .f32) (k : Fin 16) (f : Vec F S16x2x96x128 .f32) (L : Vec F S17 .i32) (m : ℕ)
    (hm : (act (F := F) v0 k.val).length = m) (h : ScanOk v0 v2 k.val f L (BitVec.ofNat 32 m)) :
    ScanOk v0 v2 (k.val + 1) (updT (updT f k.val 0 (k0_pay3 v0 v2 k)) k.val 1 (k0_pay4 v0 k)) (updL L m (Scf.iv 0#32 1#32 k.val))
      (Scalar.addi (BitVec.ofNat 32 m) (Scalar.extui (Scalar.cmpf .ogt (k0_pay5 (F := F) v0 k) (Scalar.ofBits .f32 0x00000000#32)))) := by
  obtain ⟨h1, h2, h3⟩ := h
  have hmk : m ≤ k.val := hm ▸ act_length v0 k.val
  have hk := k.isLt
  refine ⟨fun e he => ?_, ?_⟩
  · rw [rowT_updT, rowT_updT, rowT_updT, rowT_updT]
    by_cases hek : e.val = k.val
    · have : e = k := Fin.ext hek
      subst this
      constructor
      · rw [if_neg (by rintro ⟨-, h⟩; exact absurd h (by decide)), if_pos ⟨rfl, rfl⟩]
      · rw [if_pos ⟨rfl, rfl⟩]
    · rw [if_neg (fun h => hek h.1), if_neg (fun h => hek h.1), if_neg (fun h => hek h.1), if_neg (fun h => hek h.1)]
      exact h1 e (by omega)
  · have hact : act (F := F) v0 (k.val + 1) = if Active (F := F) v0 k then act (F := F) v0 k.val ++ [k] else act (F := F) v0 k.val := by
      conv_lhs => unfold act
      rw [dif_pos hk]
    rw [hact]
    by_cases ha : Active (F := F) v0 k
    · rw [if_pos ha, show Scalar.cmpf .ogt (k0_pay5 (F := F) v0 k) (Scalar.ofBits .f32 0x00000000#32) = 1#1 from ha, List.length_append, hm]
      refine ⟨fun j hj => ?_, next_one ⟨m, by omega⟩⟩
      have hj' : j < m + 1 := hj
      rw [lst_updL _ _ _ _ (by omega)]
      by_cases hjm : j = m
      · rw [if_pos hjm, iv_ofNat k, List.getD_eq_getElem?_getD, List.getElem?_append_right (by omega), hm, hjm, Nat.sub_self]
        rfl
      · rw [if_neg hjm, h2 j (by omega), List.getD_eq_getElem?_getD, List.getD_eq_getElem?_getD, List.getElem?_append_left (by omega)]
    · have h0 : Scalar.cmpf .ogt (k0_pay5 (F := F) v0 k) (Scalar.ofBits .f32 0x00000000#32) = 0#1 := by
        have hb : ∀ b : BitVec 1, b ≠ 1#1 → b = 0#1 := by decide
        exact hb _ ha
      rw [if_neg ha, h0, hm]
      refine ⟨fun j hj => ?_, next_zero ⟨m, by omega⟩⟩
      rw [lst_updL _ _ _ _ (by omega), if_neg (by omega)]
      exact h2 j (by omega)

theorem t1_loop_run [Facts] (v0 : Vec F S96x8 .i32) (v2 : Vec F S96x8 .f32) (f0 : Vec F S16x2x96x128 .f32) (L0 : Vec F S17 .i32) {β : Type}
    {kk : BitVec 32 → Prog (TpuEff nD τ sig (Elt F) Λ₀ .tc) β} {Q : β → sProp (MT nD τ sig Unit (Elt F) ℕ (Pipeline.UD sig nD τ) ℕ)} {𝒱 : Variants} {bd : Option 𝒱.V} {defs : Defs nD τ sig (Elt F) Λ₀} :
    iprop(((c : Thread nD τ).loc cc0_scratch12 ↦{fullShare} (f0 : Buf (Elt F) ((c : Thread nD τ).loc cc0_scratch12))) ∗ ((c : Thread nD τ).loc cc0_scratch13 ↦{fullShare} (L0 : Buf (Elt F) ((c : Thread nD τ).loc cc0_scratch13))))
    ⊢ iprop((∀ L : Vec F S17 .i32, ⌜∀ j, j < (act (F := F) v0 16).length → lst (F := F) L j = BitVec.ofNat 32 ((act (F := F) v0 16).getD j 0).val⌝ -∗ ((c : Thread nD τ).loc cc0_scratch12 ↦{fullShare} ((cwAll v0 v2 : Vec F S16x2x96x128 .f32) : Buf (Elt F) ((c : Thread nD τ).loc cc0_scratch12))) -∗ ((c : Thread nD τ).loc cc0_scratch13 ↦{fullShare} (L : Buf (Elt F) ((c : Thread nD τ).loc cc0_scratch13))) -∗ wp frame (wpE defs 𝒱 (c : Thread nD τ) bd) Set.univ (kk (BitVec.ofNat 32 (act (F := F) v0 16).length)) Q)
      -∗ wp frame (wpE defs 𝒱 (c : Thread nD τ) bd) Set.univ (Scf.Loop.for k0_t1_loop k0_t1_ok 0#32 (k0_t1_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v0 v2) >>= kk) Q) := by
  iintro ⟨Hf, HL⟩ HQ
  iapply (Scf.wp_for_bind frame (wpE defs 𝒱 (c : Thread nD τ) bd) Set.univ k0_t1_loop.lb k0_t1_loop.ub k0_t1_loop.st k0_t1_ok 0#32 (k0_t1_body (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 v0 v2)
    (fun k a => iprop(∃ (f : Vec F S16x2x96x128 .f32) (L : Vec F S17 .i32), ((c : Thread nD τ).loc cc0_scratch12 ↦{fullShare} (f : Buf (Elt F) ((c : Thread nD τ).loc cc0_scratch12))) ∗ ((c : Thread nD τ).loc cc0_scratch13 ↦{fullShare} (L : Buf (Elt F) ((c : Thread nD τ).loc cc0_scratch13))) ∗ ⌜ScanOk v0 v2 k f L a⌝)) ?hb) $$ [Hf HL]
  case hb =>
    intro k a
    iintro ⟨%f, %L, Hf, HL, %hok⟩
    have hmk : (act (F := F) v0 k.val).length ≤ k.val := act_length v0 k.val
    have hk16 : k.val < 16 := k.isLt
    obtain ⟨m, hm⟩ : ∃ m, (act (F := F) v0 k.val).length = m := ⟨_, rfl⟩
    have ha : a = BitVec.ofNat 32 m := hm ▸ hok.2.2
    subst ha
    unfold k0_t1_body
    iapply (wp_assume 𝒱 (c : Thread nD τ) bd Set.univ (chk1_of ⟨m, by omega⟩))
    iapply (load_cc0_scratch12 c k 0 (off1_eq k) f) $$ Hf
    iintro Hf
    iapply (store_cc0_scratch12 c k.val 0 (off1_eq k) f (k0_pay3 v0 v2 k)) $$ Hf
    iintro Hf
    iapply (load_cc0_scratch12 c k 1 (off2_eq k) _) $$ Hf
    iintro Hf
    iapply (store_cc0_scratch12 c k.val 1 (off2_eq k) _ (k0_pay4 v0 k)) $$ Hf
    iintro Hf
    iapply (load_sm c L m (off3_eq ⟨m, by omega⟩)) $$ HL
    iintro HL
    iapply (store_sm c L m (Scf.iv 0#32 1#32 k.val) (off3_eq ⟨m, by omega⟩)) $$ HL
    iintro HL
    iapply wp_ret_of
    iexists _
    iexists _
    isplitl [Hf]; · iexact Hf
    isplitl [HL]; · iexact HL
    ipureintro
    exact scan_step v0 v2 k f L m hm hok
  · iexists f0
    iexists L0
    isplitl [Hf]; · iexact Hf
    isplitl [HL]; · iexact HL
    ipureintro
    exact ⟨fun e he => absurd he (Nat.not_lt_zero _), fun j hj => absurd hj (Nat.not_lt_zero _), rfl⟩
  · rw [show Scf.trips k0_t1_loop.lb k0_t1_loop.ub k0_t1_loop.st = 16 from by decide]
    iintro %a ⟨%f, %L, Hf, HL, %hok⟩
    have ha := hok.2.2
    subst ha
    have hf := cwAll_eq v0 v2 f fun e => hok.1 e e.isLt
    subst hf
    iapply HQ $$ %L [] [Hf] [HL]
    · ipureintro
      exact hok.2.1
    · iexact Hf
    · iexact HL

end Cert.KernelIdeal.Hand

end
-- ==== Proof.IdealDeal.lean ====
/-
  The weight arrays and the ring buffers, held whole, are dealt out to the two slots, and gathered again.
-/
module

public import Idealize.ShloMosaic.Lib.Ring
public import proofs.«01_k».proof.Proof.IdealExpert

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

theorem ent_of_eq {P Q : sProp (MT nD τ sig Unit (Elt F) ℕ (Pipeline.UD sig nD τ) ℕ)} (h : P = Q) : P ⊢ Q := by
  rw [h]

theorem mem_dstQ0 (s : Fin 2) (i : S2x24x4096.Idx) : i ∈ (dstQ0 s).view.set ↔ s.val = (i 0).val := by
  have hd : (dstQ0 s).view.set = (Rect.unit (s := S2x24x4096) ![s.val, 0, 0] S1x24x4096.size (inbQ0d s)).set := by
    show (((View.whole cc0_scratch2).slice _).reshape _ _).set = _
    rw [View.set_reshape]
    exact View.set_slice_whole (b := cc0_scratch2) _
  rw [hd]
  refine Rect.mem_set_unit.trans ⟨fun h => ?_, fun h a => ?_⟩
  · have h0 := h 0
    change s.val ≤ (i 0).val ∧ (i 0).val < s.val + 1 at h0
    omega
  · have h1 : (i 1).val < 24 := (i 1).isLt
    have h2 : (i 2).val < 4096 := (i 2).isLt
    fin_cases a
    · show s.val ≤ (i 0).val ∧ (i 0).val < s.val + 1; omega
    · show 0 ≤ (i 1).val ∧ (i 1).val < 0 + 24; omega
    · show 0 ≤ (i 2).val ∧ (i 2).val < 0 + 4096; omega

theorem disj_dstQ0 (s s' : Fin 2) (h : s ≠ s') : Disjoint (dstQ0 s).view.set (dstQ0 s').view.set :=
  Finset.disjoint_left.mpr fun i hi hi' => h (Fin.ext (((mem_dstQ0 s i).1 hi).trans ((mem_dstQ0 s' i).1 hi').symm))

theorem cover_dstQ0 : @Finset.biUnion (Fin 2) S2x24x4096.Idx _ Finset.univ (fun s => (dstQ0 s).view.set) = Finset.univ := by
  ext i
  simp only [Finset.mem_biUnion, Finset.mem_univ, true_and, iff_true]
  exact ⟨i 0, (mem_dstQ0 (i 0) i).2 rfl⟩

theorem dealQ0 (X : (b : Ref sig .tc) → Buf (Elt F) ((c : Thread nD τ).loc b)) :
    iprop((∃ f : Buf (Elt F) ((c : Thread nD τ).loc cc0_scratch2), ((c : Thread nD τ).loc cc0_scratch2 ↦{fullShare} f)) ∗ ((c : Thread nD τ).loc main_arg4 ↦{fullShare} X main_arg4) ∗ semVal ((c : Thread nD τ), .dma (semQ0 0)) 0 ∗ semVal ((c : Thread nD τ), .dma (semQ0 1)) 0) ⊢ (iprop(idleQ0 c X 0 ∗ idleQ0 c X 1) : sProp (MT nD τ sig Unit (Elt F) ℕ (Pipeline.UD sig nD τ) ℕ)) := by
  rw [pointsTo_halves (ℓ := (c : Thread nD τ).loc main_arg4) fullShare]
  iintro ⟨⟨%f, Hr⟩, ⟨Ha0, Ha1⟩, V0, V1⟩
  ihave Hr' := ((ent_of_eq ((Ring.pointsTo_blocks (ℓ := (c : Thread nD τ).loc cc0_scratch2) (fun s : Fin 2 => ((dstQ0 s).view.set : Finset (Idx ((c : Thread nD τ).loc cc0_scratch2)))) disj_dstQ0 cover_dstQ0 (q := fullShare) f).trans (BI.bigSep_univ_two _)))) $$ Hr
  icases Hr' with ⟨D0, D1⟩
  unfold idleQ0 Idle
  iframe Ha0 Ha1 V0 V1
  isplitl [D0]
  · iexists _; iexact D0
  · iexists _; iexact D1

theorem gatherQ0 (X : (b : Ref sig .tc) → Buf (Elt F) ((c : Thread nD τ).loc b)) :
    (iprop(idleQ0 c X 0 ∗ idleQ0 c X 1) : sProp (MT nD τ sig Unit (Elt F) ℕ (Pipeline.UD sig nD τ) ℕ)) ⊢ iprop((∃ f : Buf (Elt F) ((c : Thread nD τ).loc cc0_scratch2), ((c : Thread nD τ).loc cc0_scratch2 ↦{fullShare} f)) ∗ ((c : Thread nD τ).loc main_arg4 ↦{fullShare} X main_arg4) ∗ semVal ((c : Thread nD τ), .dma (semQ0 0)) 0 ∗ semVal ((c : Thread nD τ), .dma (semQ0 1)) 0) := by
  rw [pointsTo_halves (ℓ := (c : Thread nD τ).loc main_arg4) fullShare]
  unfold idleQ0 Idle
  iintro ⟨⟨Ha0, ⟨%f0, D0⟩, V0⟩, ⟨Ha1, ⟨%f1, D1⟩, V1⟩⟩
  iframe V0 V1
  isplitl [D0 D1]
  · iapply (Ring.pointsTo_blocks_join_exists (ℓ := (c : Thread nD τ).loc cc0_scratch2) (fun s : Fin 2 => ((dstQ0 s).view.set : Finset (Idx ((c : Thread nD τ).loc cc0_scratch2)))) disj_dstQ0 cover_dstQ0 (q := fullShare) f0)
    rw [BI.bigSep_univ_two]
    isplitl [D0]
    · iexists _; iexact D0
    · iexists _; iexact D1
  · isplitl [Ha0]
    · iexact Ha0
    · iexact Ha1

theorem mem_dstQ1 (s : Fin 2) (i : S2x24x2048.Idx) : i ∈ (dstQ1 s).view.set ↔ s.val = (i 0).val := by
  have hd : (dstQ1 s).view.set = (Rect.unit (s := S2x24x2048) ![s.val, 0, 0] S1x24x2048.size (inbQ1d s)).set := by
    show (((View.whole cc0_scratch3).slice _).reshape _ _).set = _
    rw [View.set_reshape]
    exact View.set_slice_whole (b := cc0_scratch3) _
  rw [hd]
  refine Rect.mem_set_unit.trans ⟨fun h => ?_, fun h a => ?_⟩
  · have h0 := h 0
    change s.val ≤ (i 0).val ∧ (i 0).val < s.val + 1 at h0
    omega
  · have h1 : (i 1).val < 24 := (i 1).isLt
    have h2 : (i 2).val < 2048 := (i 2).isLt
    fin_cases a
    · show s.val ≤ (i 0).val ∧ (i 0).val < s.val + 1; omega
    · show 0 ≤ (i 1).val ∧ (i 1).val < 0 + 24; omega
    · show 0 ≤ (i 2).val ∧ (i 2).val < 0 + 2048; omega

theorem disj_dstQ1 (s s' : Fin 2) (h : s ≠ s') : Disjoint (dstQ1 s).view.set (dstQ1 s').view.set :=
  Finset.disjoint_left.mpr fun i hi hi' => h (Fin.ext (((mem_dstQ1 s i).1 hi).trans ((mem_dstQ1 s' i).1 hi').symm))

theorem cover_dstQ1 : @Finset.biUnion (Fin 2) S2x24x2048.Idx _ Finset.univ (fun s => (dstQ1 s).view.set) = Finset.univ := by
  ext i
  simp only [Finset.mem_biUnion, Finset.mem_univ, true_and, iff_true]
  exact ⟨i 0, (mem_dstQ1 (i 0) i).2 rfl⟩

theorem dealQ1 (X : (b : Ref sig .tc) → Buf (Elt F) ((c : Thread nD τ).loc b)) :
    iprop((∃ f : Buf (Elt F) ((c : Thread nD τ).loc cc0_scratch3), ((c : Thread nD τ).loc cc0_scratch3 ↦{fullShare} f)) ∗ ((c : Thread nD τ).loc main_arg5 ↦{fullShare} X main_arg5) ∗ semVal ((c : Thread nD τ), .dma (semQ1 0)) 0 ∗ semVal ((c : Thread nD τ), .dma (semQ1 1)) 0) ⊢ (iprop(idleQ1 c X 0 ∗ idleQ1 c X 1) : sProp (MT nD τ sig Unit (Elt F) ℕ (Pipeline.UD sig nD τ) ℕ)) := by
  rw [pointsTo_halves (ℓ := (c : Thread nD τ).loc main_arg5) fullShare]
  iintro ⟨⟨%f, Hr⟩, ⟨Ha0, Ha1⟩, V0, V1⟩
  ihave Hr' := ((ent_of_eq ((Ring.pointsTo_blocks (ℓ := (c : Thread nD τ).loc cc0_scratch3) (fun s : Fin 2 => ((dstQ1 s).view.set : Finset (Idx ((c : Thread nD τ).loc cc0_scratch3)))) disj_dstQ1 cover_dstQ1 (q := fullShare) f).trans (BI.bigSep_univ_two _)))) $$ Hr
  icases Hr' with ⟨D0, D1⟩
  unfold idleQ1 Idle
  iframe Ha0 Ha1 V0 V1
  isplitl [D0]
  · iexists _; iexact D0
  · iexists _; iexact D1

theorem gatherQ1 (X : (b : Ref sig .tc) → Buf (Elt F) ((c : Thread nD τ).loc b)) :
    (iprop(idleQ1 c X 0 ∗ idleQ1 c X 1) : sProp (MT nD τ sig Unit (Elt F) ℕ (Pipeline.UD sig nD τ) ℕ)) ⊢ iprop((∃ f : Buf (Elt F) ((c : Thread nD τ).loc cc0_scratch3), ((c : Thread nD τ).loc cc0_scratch3 ↦{fullShare} f)) ∗ ((c : Thread nD τ).loc main_arg5 ↦{fullShare} X main_arg5) ∗ semVal ((c : Thread nD τ), .dma (semQ1 0)) 0 ∗ semVal ((c : Thread nD τ), .dma (semQ1 1)) 0) := by
  rw [pointsTo_halves (ℓ := (c : Thread nD τ).loc main_arg5) fullShare]
  unfold idleQ1 Idle
  iintro ⟨⟨Ha0, ⟨%f0, D0⟩, V0⟩, ⟨Ha1, ⟨%f1, D1⟩, V1⟩⟩
  iframe V0 V1
  isplitl [D0 D1]
  · iapply (Ring.pointsTo_blocks_join_exists (ℓ := (c : Thread nD τ).loc cc0_scratch3) (fun s : Fin 2 => ((dstQ1 s).view.set : Finset (Idx ((c : Thread nD τ).loc cc0_scratch3)))) disj_dstQ1 cover_dstQ1 (q := fullShare) f0)
    rw [BI.bigSep_univ_two]
    isplitl [D0]
    · iexists _; iexact D0
    · iexists _; iexact D1
  · isplitl [Ha0]
    · iexact Ha0
    · iexact Ha1

theorem mem_dstQ2 (s : Fin 2) (i : S2x16x3072.Idx) : i ∈ (dstQ2 s).view.set ↔ s.val = (i 0).val := by
  have hd : (dstQ2 s).view.set = (Rect.unit (s := S2x16x3072) ![s.val, 0, 0] S1x16x3072.size (inbQ2d s)).set := by
    show (((View.whole cc0_scratch4).slice _).reshape _ _).set = _
    rw [View.set_reshape]
    exact View.set_slice_whole (b := cc0_scratch4) _
  rw [hd]
  refine Rect.mem_set_unit.trans ⟨fun h => ?_, fun h a => ?_⟩
  · have h0 := h 0
    change s.val ≤ (i 0).val ∧ (i 0).val < s.val + 1 at h0
    omega
  · have h1 : (i 1).val < 16 := (i 1).isLt
    have h2 : (i 2).val < 3072 := (i 2).isLt
    fin_cases a
    · show s.val ≤ (i 0).val ∧ (i 0).val < s.val + 1; omega
    · show 0 ≤ (i 1).val ∧ (i 1).val < 0 + 16; omega
    · show 0 ≤ (i 2).val ∧ (i 2).val < 0 + 3072; omega

theorem disj_dstQ2 (s s' : Fin 2) (h : s ≠ s') : Disjoint (dstQ2 s).view.set (dstQ2 s').view.set :=
  Finset.disjoint_left.mpr fun i hi hi' => h (Fin.ext (((mem_dstQ2 s i).1 hi).trans ((mem_dstQ2 s' i).1 hi').symm))

theorem cover_dstQ2 : @Finset.biUnion (Fin 2) S2x16x3072.Idx _ Finset.univ (fun s => (dstQ2 s).view.set) = Finset.univ := by
  ext i
  simp only [Finset.mem_biUnion, Finset.mem_univ, true_and, iff_true]
  exact ⟨i 0, (mem_dstQ2 (i 0) i).2 rfl⟩

theorem dealQ2 (X : (b : Ref sig .tc) → Buf (Elt F) ((c : Thread nD τ).loc b)) :
    iprop((∃ f : Buf (Elt F) ((c : Thread nD τ).loc cc0_scratch4), ((c : Thread nD τ).loc cc0_scratch4 ↦{fullShare} f)) ∗ ((c : Thread nD τ).loc main_arg7 ↦{fullShare} X main_arg7) ∗ semVal ((c : Thread nD τ), .dma (semQ2 0)) 0 ∗ semVal ((c : Thread nD τ), .dma (semQ2 1)) 0) ⊢ (iprop(idleQ2 c X 0 ∗ idleQ2 c X 1) : sProp (MT nD τ sig Unit (Elt F) ℕ (Pipeline.UD sig nD τ) ℕ)) := by
  rw [pointsTo_halves (ℓ := (c : Thread nD τ).loc main_arg7) fullShare]
  iintro ⟨⟨%f, Hr⟩, ⟨Ha0, Ha1⟩, V0, V1⟩
  ihave Hr' := ((ent_of_eq ((Ring.pointsTo_blocks (ℓ := (c : Thread nD τ).loc cc0_scratch4) (fun s : Fin 2 => ((dstQ2 s).view.set : Finset (Idx ((c : Thread nD τ).loc cc0_scratch4)))) disj_dstQ2 cover_dstQ2 (q := fullShare) f).trans (BI.bigSep_univ_two _)))) $$ Hr
  icases Hr' with ⟨D0, D1⟩
  unfold idleQ2 Idle
  iframe Ha0 Ha1 V0 V1
  isplitl [D0]
  · iexists _; iexact D0
  · iexists _; iexact D1

theorem gatherQ2 (X : (b : Ref sig .tc) → Buf (Elt F) ((c : Thread nD τ).loc b)) :
    (iprop(idleQ2 c X 0 ∗ idleQ2 c X 1) : sProp (MT nD τ sig Unit (Elt F) ℕ (Pipeline.UD sig nD τ) ℕ)) ⊢ iprop((∃ f : Buf (Elt F) ((c : Thread nD τ).loc cc0_scratch4), ((c : Thread nD τ).loc cc0_scratch4 ↦{fullShare} f)) ∗ ((c : Thread nD τ).loc main_arg7 ↦{fullShare} X main_arg7) ∗ semVal ((c : Thread nD τ), .dma (semQ2 0)) 0 ∗ semVal ((c : Thread nD τ), .dma (semQ2 1)) 0) := by
  rw [pointsTo_halves (ℓ := (c : Thread nD τ).loc main_arg7) fullShare]
  unfold idleQ2 Idle
  iintro ⟨⟨Ha0, ⟨%f0, D0⟩, V0⟩, ⟨Ha1, ⟨%f1, D1⟩, V1⟩⟩
  iframe V0 V1
  isplitl [D0 D1]
  · iapply (Ring.pointsTo_blocks_join_exists (ℓ := (c : Thread nD τ).loc cc0_scratch4) (fun s : Fin 2 => ((dstQ2 s).view.set : Finset (Idx ((c : Thread nD τ).loc cc0_scratch4)))) disj_dstQ2 cover_dstQ2 (q := fullShare) f0)
    rw [BI.bigSep_univ_two]
    isplitl [D0]
    · iexists _; iexact D0
    · iexists _; iexact D1
  · isplitl [Ha0]
    · iexact Ha0
    · iexact Ha1

theorem mem_dstQ3 (s : Fin 2) (i : S2x16x1536.Idx) : i ∈ (dstQ3 s).view.set ↔ s.val = (i 0).val := by
  have hd : (dstQ3 s).view.set = (Rect.unit (s := S2x16x1536) ![s.val, 0, 0] S1x16x1536.size (inbQ3d s)).set := by
    show (((View.whole cc0_scratch5).slice _).reshape _ _).set = _
    rw [View.set_reshape]
    exact View.set_slice_whole (b := cc0_scratch5) _
  rw [hd]
  refine Rect.mem_set_unit.trans ⟨fun h => ?_, fun h a => ?_⟩
  · have h0 := h 0
    change s.val ≤ (i 0).val ∧ (i 0).val < s.val + 1 at h0
    omega
  · have h1 : (i 1).val < 16 := (i 1).isLt
    have h2 : (i 2).val < 1536 := (i 2).isLt
    fin_cases a
    · show s.val ≤ (i 0).val ∧ (i 0).val < s.val + 1; omega
    · show 0 ≤ (i 1).val ∧ (i 1).val < 0 + 16; omega
    · show 0 ≤ (i 2).val ∧ (i 2).val < 0 + 1536; omega

theorem disj_dstQ3 (s s' : Fin 2) (h : s ≠ s') : Disjoint (dstQ3 s).view.set (dstQ3 s').view.set :=
  Finset.disjoint_left.mpr fun i hi hi' => h (Fin.ext (((mem_dstQ3 s i).1 hi).trans ((mem_dstQ3 s' i).1 hi').symm))

theorem cover_dstQ3 : @Finset.biUnion (Fin 2) S2x16x1536.Idx _ Finset.univ (fun s => (dstQ3 s).view.set) = Finset.univ := by
  ext i
  simp only [Finset.mem_biUnion, Finset.mem_univ, true_and, iff_true]
  exact ⟨i 0, (mem_dstQ3 (i 0) i).2 rfl⟩

theorem dealQ3 (X : (b : Ref sig .tc) → Buf (Elt F) ((c : Thread nD τ).loc b)) :
    iprop((∃ f : Buf (Elt F) ((c : Thread nD τ).loc cc0_scratch5), ((c : Thread nD τ).loc cc0_scratch5 ↦{fullShare} f)) ∗ ((c : Thread nD τ).loc main_arg8 ↦{fullShare} X main_arg8) ∗ semVal ((c : Thread nD τ), .dma (semQ3 0)) 0 ∗ semVal ((c : Thread nD τ), .dma (semQ3 1)) 0) ⊢ (iprop(idleQ3 c X 0 ∗ idleQ3 c X 1) : sProp (MT nD τ sig Unit (Elt F) ℕ (Pipeline.UD sig nD τ) ℕ)) := by
  rw [pointsTo_halves (ℓ := (c : Thread nD τ).loc main_arg8) fullShare]
  iintro ⟨⟨%f, Hr⟩, ⟨Ha0, Ha1⟩, V0, V1⟩
  ihave Hr' := ((ent_of_eq ((Ring.pointsTo_blocks (ℓ := (c : Thread nD τ).loc cc0_scratch5) (fun s : Fin 2 => ((dstQ3 s).view.set : Finset (Idx ((c : Thread nD τ).loc cc0_scratch5)))) disj_dstQ3 cover_dstQ3 (q := fullShare) f).trans (BI.bigSep_univ_two _)))) $$ Hr
  icases Hr' with ⟨D0, D1⟩
  unfold idleQ3 Idle
  iframe Ha0 Ha1 V0 V1
  isplitl [D0]
  · iexists _; iexact D0
  · iexists _; iexact D1

theorem gatherQ3 (X : (b : Ref sig .tc) → Buf (Elt F) ((c : Thread nD τ).loc b)) :
    (iprop(idleQ3 c X 0 ∗ idleQ3 c X 1) : sProp (MT nD τ sig Unit (Elt F) ℕ (Pipeline.UD sig nD τ) ℕ)) ⊢ iprop((∃ f : Buf (Elt F) ((c : Thread nD τ).loc cc0_scratch5), ((c : Thread nD τ).loc cc0_scratch5 ↦{fullShare} f)) ∗ ((c : Thread nD τ).loc main_arg8 ↦{fullShare} X main_arg8) ∗ semVal ((c : Thread nD τ), .dma (semQ3 0)) 0 ∗ semVal ((c : Thread nD τ), .dma (semQ3 1)) 0) := by
  rw [pointsTo_halves (ℓ := (c : Thread nD τ).loc main_arg8) fullShare]
  unfold idleQ3 Idle
  iintro ⟨⟨Ha0, ⟨%f0, D0⟩, V0⟩, ⟨Ha1, ⟨%f1, D1⟩, V1⟩⟩
  iframe V0 V1
  isplitl [D0 D1]
  · iapply (Ring.pointsTo_blocks_join_exists (ℓ := (c : Thread nD τ).loc cc0_scratch5) (fun s : Fin 2 => ((dstQ3 s).view.set : Finset (Idx ((c : Thread nD τ).loc cc0_scratch5)))) disj_dstQ3 cover_dstQ3 (q := fullShare) f0)
    rw [BI.bigSep_univ_two]
    isplitl [D0]
    · iexists _; iexact D0
    · iexists _; iexact D1
  · isplitl [Ha0]
    · iexact Ha0
    · iexact Ha1

theorem mem_dstW2 (p : Fin 2 × Fin 2) (i : S2x1024x3072.Idx) : i ∈ (dstW2 p.1 p.2).view.set ↔ p.1.val = (i 0).val ∧ 1536 * p.2.val ≤ (i 2).val ∧ (i 2).val < 1536 * p.2.val + 1536 := by
  have hd : (dstW2 p.1 p.2).view.set = (Rect.unit (s := S2x1024x3072) ![p.1.val, 0, 1536 * p.2.val] S1x1024x1536.size (inbW2d p.1 p.2)).set := by
    show (((View.whole cc0_scratch1).slice _).reshape _ _).set = _
    rw [View.set_reshape]
    exact View.set_slice_whole (b := cc0_scratch1) _
  rw [hd]
  refine Rect.mem_set_unit.trans ⟨fun h => ?_, fun h a => ?_⟩
  · have h0 := h 0
    have h2 := h 2
    change p.1.val ≤ (i 0).val ∧ (i 0).val < p.1.val + 1 at h0
    change 1536 * p.2.val ≤ (i 2).val ∧ (i 2).val < 1536 * p.2.val + 1536 at h2
    exact ⟨by omega, h2⟩
  · have h1 : (i 1).val < 1024 := (i 1).isLt
    fin_cases a
    · show p.1.val ≤ (i 0).val ∧ (i 0).val < p.1.val + 1; omega
    · show 0 ≤ (i 1).val ∧ (i 1).val < 0 + 1024; omega
    · exact h.2

theorem disj_dstW2 (p p' : Fin 2 × Fin 2) (h : p ≠ p') : Disjoint (dstW2 p.1 p.2).view.set (dstW2 p'.1 p'.2).view.set :=
  Finset.disjoint_left.mpr fun i hi hi' => h (by
    have h1 := (mem_dstW2 p i).1 hi
    have h2 := (mem_dstW2 p' i).1 hi'
    have l1 := p.2.isLt
    exact Prod.ext (Fin.ext (by omega)) (Fin.ext (by omega)))

theorem cover_dstW2 : @Finset.biUnion (Fin 2 × Fin 2) S2x1024x3072.Idx _ Finset.univ (fun p => (dstW2 p.1 p.2).view.set) = Finset.univ := by
  ext i
  simp only [Finset.mem_biUnion, Finset.mem_univ, true_and, iff_true]
  have h2 : (i 2).val < 3072 := (i 2).isLt
  obtain ⟨p, hp⟩ : ∃ p : Fin 2 × Fin 2, p.1.val = (i 0).val ∧ 1536 * p.2.val ≤ (i 2).val ∧ (i 2).val < 1536 * p.2.val + 1536 := ⟨(i 0, ⟨(i 2).val / 1536, by omega⟩), rfl, by show 1536 * ((i 2).val / 1536) ≤ (i 2).val; omega, by show (i 2).val < 1536 * ((i 2).val / 1536) + 1536; omega⟩
  exact ⟨p, (mem_dstW2 p i).2 hp⟩

theorem joinW2 (f0 : Buf (Elt F) ((c : Thread nD τ).loc cc0_scratch1)) :
    (bigSep Finset.univ fun p : Fin 2 × Fin 2 => iprop(∃ f, (c : Thread nD τ).loc cc0_scratch1 ↦[(dstW2 p.1 p.2).view.set]{fullShare} f) : sProp (MT nD τ sig Unit (Elt F) ℕ (Pipeline.UD sig nD τ) ℕ)) ⊢ (∃ f : Buf (Elt F) ((c : Thread nD τ).loc cc0_scratch1), ((c : Thread nD τ).loc cc0_scratch1 ↦{fullShare} f)) :=
  Ring.pointsTo_blocks_join_exists (ℓ := (c : Thread nD τ).loc cc0_scratch1) (fun p : Fin 2 × Fin 2 => ((dstW2 p.1 p.2).view.set : Finset (Idx ((c : Thread nD τ).loc cc0_scratch1)))) disj_dstW2 cover_dstW2 (q := fullShare) f0

theorem dealW2 (X : (b : Ref sig .tc) → Buf (Elt F) ((c : Thread nD τ).loc b)) :
    iprop((∃ f : Buf (Elt F) ((c : Thread nD τ).loc cc0_scratch1), ((c : Thread nD τ).loc cc0_scratch1 ↦{fullShare} f)) ∗ ((c : Thread nD τ).loc main_arg6 ↦{fullShare} X main_arg6) ∗ semVal ((c : Thread nD τ), .dma (semW2 0 0)) 0 ∗ semVal ((c : Thread nD τ), .dma (semW2 0 1)) 0 ∗ semVal ((c : Thread nD τ), .dma (semW2 1 0)) 0 ∗ semVal ((c : Thread nD τ), .dma (semW2 1 1)) 0) ⊢ (iprop(idleW2 c X 0 0 ∗ idleW2 c X 0 1 ∗ idleW2 c X 1 0 ∗ idleW2 c X 1 1) : sProp (MT nD τ sig Unit (Elt F) ℕ (Pipeline.UD sig nD τ) ℕ)) := by
  rw [pointsTo_halves (ℓ := (c : Thread nD τ).loc main_arg6) fullShare, pointsTo_halves (ℓ := (c : Thread nD τ).loc main_arg6) (hf 0 fullShare), pointsTo_halves (ℓ := (c : Thread nD τ).loc main_arg6) (hf 1 fullShare)]
  iintro ⟨⟨%f, Hr⟩, ⟨⟨A00, A01⟩, ⟨A10, A11⟩⟩, V0, V1, V2, V3⟩
  have hsp : ((c : Thread nD τ).loc cc0_scratch1 ↦{fullShare} f : sProp (MT nD τ sig Unit (Elt F) ℕ (Pipeline.UD sig nD τ) ℕ)) = _ := (Ring.pointsTo_blocks (ℓ := (c : Thread nD τ).loc cc0_scratch1) (fun p : Fin 2 × Fin 2 => ((dstW2 p.1 p.2).view.set : Finset (Idx ((c : Thread nD τ).loc cc0_scratch1)))) disj_dstW2 cover_dstW2 (q := fullShare) f)
  simp only [BI.bigSep_univ_prod, BI.bigSep_univ_two] at hsp
  ihave Hr' := (ent_of_eq hsp) $$ Hr
  icases Hr' with ⟨⟨D00, D01⟩, ⟨D10, D11⟩⟩
  isplitl [A00 D00 V0]
  · unfold idleW2
    unfold Idle
    isplitl [A00]; · iexact A00
    isplitl [D00]; · iexists _; iexact D00
    iexact V0
  isplitl [A01 D01 V1]
  · unfold idleW2
    unfold Idle
    isplitl [A01]; · iexact A01
    isplitl [D01]; · iexists _; iexact D01
    iexact V1
  isplitl [A10 D10 V2]
  · unfold idleW2
    unfold Idle
    isplitl [A10]; · iexact A10
    isplitl [D10]; · iexists _; iexact D10
    iexact V2
  unfold idleW2
  unfold Idle
  isplitl [A11]; · iexact A11
  isplitl [D11]; · iexists _; iexact D11
  iexact V3

theorem gatherW2 (X : (b : Ref sig .tc) → Buf (Elt F) ((c : Thread nD τ).loc b)) :
    (iprop(idleW2 c X 0 0 ∗ idleW2 c X 0 1 ∗ idleW2 c X 1 0 ∗ idleW2 c X 1 1) : sProp (MT nD τ sig Unit (Elt F) ℕ (Pipeline.UD sig nD τ) ℕ)) ⊢ iprop((∃ f : Buf (Elt F) ((c : Thread nD τ).loc cc0_scratch1), ((c : Thread nD τ).loc cc0_scratch1 ↦{fullShare} f)) ∗ ((c : Thread nD τ).loc main_arg6 ↦{fullShare} X main_arg6) ∗ semVal ((c : Thread nD τ), .dma (semW2 0 0)) 0 ∗ semVal ((c : Thread nD τ), .dma (semW2 0 1)) 0 ∗ semVal ((c : Thread nD τ), .dma (semW2 1 0)) 0 ∗ semVal ((c : Thread nD τ), .dma (semW2 1 1)) 0) := by
  rw [pointsTo_halves (ℓ := (c : Thread nD τ).loc main_arg6) fullShare, pointsTo_halves (ℓ := (c : Thread nD τ).loc main_arg6) (hf 0 fullShare), pointsTo_halves (ℓ := (c : Thread nD τ).loc main_arg6) (hf 1 fullShare)]
  unfold idleW2 Idle
  iintro ⟨⟨A00, ⟨%f00, D00⟩, V0⟩, ⟨A01, ⟨%f01, D01⟩, V1⟩, ⟨A10, ⟨%f10, D10⟩, V2⟩, ⟨A11, ⟨%f11, D11⟩, V3⟩⟩
  iframe V0 V1 V2 V3
  have hj := joinW2 (F := F) c (f00 : Buf (Elt F) ((c : Thread nD τ).loc cc0_scratch1))
  simp only [BI.bigSep_univ_prod, BI.bigSep_univ_two] at hj
  isplitl [D00 D01 D10 D11]
  · iapply hj
    isplitl [D00 D01]
    · isplitl [D00]
      · iexists _; iexact D00
      iexists _; iexact D01
    isplitl [D10]
    · iexists _; iexact D10
    iexists _; iexact D11
  · skip
    isplitl [A00 A01]
    · isplitl [A00]
      · iexact A00
      iexact A01
    isplitl [A10]
    · iexact A10
    iexact A11

theorem mem_dstW1 (p : Fin 2 × Fin 2 × Fin 4) (i : S2x1536x4096.Idx) : i ∈ (dstW1 p.1 p.2.1 p.2.2).view.set ↔ p.1.val = (i 0).val ∧ 2048 * p.2.1.val + 512 * p.2.2.val ≤ (i 2).val ∧ (i 2).val < 2048 * p.2.1.val + 512 * p.2.2.val + 512 := by
  have hd : (dstW1 p.1 p.2.1 p.2.2).view.set = (Rect.unit (s := S2x1536x4096) ![p.1.val, 0, 2048 * p.2.1.val + 512 * p.2.2.val] S1x1536x512.size (inbW1d p.1 p.2.1 p.2.2)).set := by
    show (((View.whole cc0_scratch0).slice _).reshape _ _).set = _
    rw [View.set_reshape]
    exact View.set_slice_whole (b := cc0_scratch0) _
  rw [hd]
  refine Rect.mem_set_unit.trans ⟨fun h => ?_, fun h a => ?_⟩
  · have h0 := h 0
    have h2 := h 2
    change p.1.val ≤ (i 0).val ∧ (i 0).val < p.1.val + 1 at h0
    change 2048 * p.2.1.val + 512 * p.2.2.val ≤ (i 2).val ∧ (i 2).val < 2048 * p.2.1.val + 512 * p.2.2.val + 512 at h2
    exact ⟨by omega, h2⟩
  · have h1 : (i 1).val < 1536 := (i 1).isLt
    fin_cases a
    · show p.1.val ≤ (i 0).val ∧ (i 0).val < p.1.val + 1; omega
    · show 0 ≤ (i 1).val ∧ (i 1).val < 0 + 1536; omega
    · exact h.2

theorem disj_dstW1 (p p' : Fin 2 × Fin 2 × Fin 4) (h : p ≠ p') : Disjoint (dstW1 p.1 p.2.1 p.2.2).view.set (dstW1 p'.1 p'.2.1 p'.2.2).view.set :=
  Finset.disjoint_left.mpr fun i hi hi' => h (by
    have h1 := (mem_dstW1 p i).1 hi
    have h2 := (mem_dstW1 p' i).1 hi'
    have l1 := p.2.1.isLt; have l2 := p.2.2.isLt; have l3 := p'.2.1.isLt; have l4 := p'.2.2.isLt
    exact Prod.ext (Fin.ext (by omega)) (Prod.ext (Fin.ext (by omega)) (Fin.ext (by omega))))

theorem cover_dstW1 : @Finset.biUnion (Fin 2 × Fin 2 × Fin 4) S2x1536x4096.Idx _ Finset.univ (fun p => (dstW1 p.1 p.2.1 p.2.2).view.set) = Finset.univ := by
  ext i
  simp only [Finset.mem_biUnion, Finset.mem_univ, true_and, iff_true]
  have h2 : (i 2).val < 4096 := (i 2).isLt
  obtain ⟨p, hp⟩ : ∃ p : Fin 2 × Fin 2 × Fin 4, p.1.val = (i 0).val ∧ 2048 * p.2.1.val + 512 * p.2.2.val ≤ (i 2).val ∧ (i 2).val < 2048 * p.2.1.val + 512 * p.2.2.val + 512 := ⟨(i 0, ⟨(i 2).val / 2048, by omega⟩, ⟨(i 2).val % 2048 / 512, by omega⟩), rfl, by show 2048 * ((i 2).val / 2048) + 512 * ((i 2).val % 2048 / 512) ≤ (i 2).val; omega, by show (i 2).val < 2048 * ((i 2).val / 2048) + 512 * ((i 2).val % 2048 / 512) + 512; omega⟩
  exact ⟨p, (mem_dstW1 p i).2 hp⟩

theorem joinW1 (f0 : Buf (Elt F) ((c : Thread nD τ).loc cc0_scratch0)) :
    (bigSep Finset.univ fun p : Fin 2 × Fin 2 × Fin 4 => iprop(∃ f, (c : Thread nD τ).loc cc0_scratch0 ↦[(dstW1 p.1 p.2.1 p.2.2).view.set]{fullShare} f) : sProp (MT nD τ sig Unit (Elt F) ℕ (Pipeline.UD sig nD τ) ℕ)) ⊢ (∃ f : Buf (Elt F) ((c : Thread nD τ).loc cc0_scratch0), ((c : Thread nD τ).loc cc0_scratch0 ↦{fullShare} f)) :=
  Ring.pointsTo_blocks_join_exists (ℓ := (c : Thread nD τ).loc cc0_scratch0) (fun p : Fin 2 × Fin 2 × Fin 4 => ((dstW1 p.1 p.2.1 p.2.2).view.set : Finset (Idx ((c : Thread nD τ).loc cc0_scratch0)))) disj_dstW1 cover_dstW1 (q := fullShare) f0

theorem dealW1 (X : (b : Ref sig .tc) → Buf (Elt F) ((c : Thread nD τ).loc b)) :
    iprop((∃ f : Buf (Elt F) ((c : Thread nD τ).loc cc0_scratch0), ((c : Thread nD τ).loc cc0_scratch0 ↦{fullShare} f)) ∗ ((c : Thread nD τ).loc main_arg3 ↦{fullShare} X main_arg3) ∗ semVal ((c : Thread nD τ), .dma (semW1 0 0)) 0 ∗ semVal ((c : Thread nD τ), .dma (semW1 0 1)) 0 ∗ semVal ((c : Thread nD τ), .dma (semW1 0 2)) 0 ∗ semVal ((c : Thread nD τ), .dma (semW1 0 3)) 0 ∗ semVal ((c : Thread nD τ), .dma (semW1 1 0)) 0 ∗ semVal ((c : Thread nD τ), .dma (semW1 1 1)) 0 ∗ semVal ((c : Thread nD τ), .dma (semW1 1 2)) 0 ∗ semVal ((c : Thread nD τ), .dma (semW1 1 3)) 0) ⊢ (iprop(idleW1 c X 0 0 ∗ idleW1 c X 0 1 ∗ idleW1 c X 0 2 ∗ idleW1 c X 0 3 ∗ idleW1 c X 1 0 ∗ idleW1 c X 1 1 ∗ idleW1 c X 1 2 ∗ idleW1 c X 1 3) : sProp (MT nD τ sig Unit (Elt F) ℕ (Pipeline.UD sig nD τ) ℕ)) := by
  rw [pointsTo_halves (ℓ := (c : Thread nD τ).loc main_arg3) fullShare, pointsTo_halves (ℓ := (c : Thread nD τ).loc main_arg3) (hf 0 fullShare), pointsTo_halves (ℓ := (c : Thread nD τ).loc main_arg3) (hf 1 fullShare)]
  rw [pointsTo_halves (ℓ := (c : Thread nD τ).loc main_arg3) (hf 0 (hf 0 fullShare)), pointsTo_halves (ℓ := (c : Thread nD τ).loc main_arg3) (hf 0 (hf 0 (hf 0 fullShare))), pointsTo_halves (ℓ := (c : Thread nD τ).loc main_arg3) (hf 1 (hf 0 (hf 0 fullShare)))]
  rw [pointsTo_halves (ℓ := (c : Thread nD τ).loc main_arg3) (hf 1 (hf 0 fullShare)), pointsTo_halves (ℓ := (c : Thread nD τ).loc main_arg3) (hf 0 (hf 1 (hf 0 fullShare))), pointsTo_halves (ℓ := (c : Thread nD τ).loc main_arg3) (hf 1 (hf 1 (hf 0 fullShare)))]
  rw [pointsTo_halves (ℓ := (c : Thread nD τ).loc main_arg3) (hf 0 (hf 1 fullShare)), pointsTo_halves (ℓ := (c : Thread nD τ).loc main_arg3) (hf 0 (hf 0 (hf 1 fullShare))), pointsTo_halves (ℓ := (c : Thread nD τ).loc main_arg3) (hf 1 (hf 0 (hf 1 fullShare)))]
  rw [pointsTo_halves (ℓ := (c : Thread nD τ).loc main_arg3) (hf 1 (hf 1 fullShare)), pointsTo_halves (ℓ := (c : Thread nD τ).loc main_arg3) (hf 0 (hf 1 (hf 1 fullShare))), pointsTo_halves (ℓ := (c : Thread nD τ).loc main_arg3) (hf 1 (hf 1 (hf 1 fullShare)))]
  iintro ⟨⟨%f, Hr⟩, ⟨⟨⟨⟨A000, A001⟩, ⟨A002, A003⟩⟩, ⟨⟨A010, A011⟩, ⟨A012, A013⟩⟩⟩, ⟨⟨⟨A100, A101⟩, ⟨A102, A103⟩⟩, ⟨⟨A110, A111⟩, ⟨A112, A113⟩⟩⟩⟩, V0, V1, V2, V3, V4, V5, V6, V7⟩
  have hsp : ((c : Thread nD τ).loc cc0_scratch0 ↦{fullShare} f : sProp (MT nD τ sig Unit (Elt F) ℕ (Pipeline.UD sig nD τ) ℕ)) = _ := (Ring.pointsTo_blocks (ℓ := (c : Thread nD τ).loc cc0_scratch0) (fun p : Fin 2 × Fin 2 × Fin 4 => ((dstW1 p.1 p.2.1 p.2.2).view.set : Finset (Idx ((c : Thread nD τ).loc cc0_scratch0)))) disj_dstW1 cover_dstW1 (q := fullShare) f)
  simp only [BI.bigSep_univ_prod, BI.bigSep_univ_two, bigSep_four] at hsp
  ihave Hr' := (ent_of_eq hsp) $$ Hr
  icases Hr' with ⟨⟨⟨D000, D001, D002, D003⟩, ⟨D010, D011, D012, D013⟩⟩, ⟨⟨D100, D101, D102, D103⟩, ⟨D110, D111, D112, D113⟩⟩⟩
  isplitl [A000 A010 D000 D010 V0]
  · unfold idleW1
    unfold Idle2
    isplitl [A000]; · iexact A000
    isplitl [A010]; · iexact A010
    isplitl [D000]; · iexists _; iexact D000
    isplitl [D010]; · iexists _; iexact D010
    iexact V0
  isplitl [A001 A011 D001 D011 V1]
  · unfold idleW1
    unfold Idle2
    isplitl [A001]; · iexact A001
    isplitl [A011]; · iexact A011
    isplitl [D001]; · iexists _; iexact D001
    isplitl [D011]; · iexists _; iexact D011
    iexact V1
  isplitl [A002 A012 D002 D012 V2]
  · unfold idleW1
    unfold Idle2
    isplitl [A002]; · iexact A002
    isplitl [A012]; · iexact A012
    isplitl [D002]; · iexists _; iexact D002
    isplitl [D012]; · iexists _; iexact D012
    iexact V2
  isplitl [A003 A013 D003 D013 V3]
  · unfold idleW1
    unfold Idle2
    isplitl [A003]; · iexact A003
    isplitl [A013]; · iexact A013
    isplitl [D003]; · iexists _; iexact D003
    isplitl [D013]; · iexists _; iexact D013
    iexact V3
  isplitl [A100 A110 D100 D110 V4]
  · unfold idleW1
    unfold Idle2
    isplitl [A100]; · iexact A100
    isplitl [A110]; · iexact A110
    isplitl [D100]; · iexists _; iexact D100
    isplitl [D110]; · iexists _; iexact D110
    iexact V4
  isplitl [A101 A111 D101 D111 V5]
  · unfold idleW1
    unfold Idle2
    isplitl [A101]; · iexact A101
    isplitl [A111]; · iexact A111
    isplitl [D101]; · iexists _; iexact D101
    isplitl [D111]; · iexists _; iexact D111
    iexact V5
  isplitl [A102 A112 D102 D112 V6]
  · unfold idleW1
    unfold Idle2
    isplitl [A102]; · iexact A102
    isplitl [A112]; · iexact A112
    isplitl [D102]; · iexists _; iexact D102
    isplitl [D112]; · iexists _; iexact D112
    iexact V6
  unfold idleW1
  unfold Idle2
  isplitl [A103]; · iexact A103
  isplitl [A113]; · iexact A113
  isplitl [D103]; · iexists _; iexact D103
  isplitl [D113]; · iexists _; iexact D113
  iexact V7

theorem gatherW1 (X : (b : Ref sig .tc) → Buf (Elt F) ((c : Thread nD τ).loc b)) :
    (iprop(idleW1 c X 0 0 ∗ idleW1 c X 0 1 ∗ idleW1 c X 0 2 ∗ idleW1 c X 0 3 ∗ idleW1 c X 1 0 ∗ idleW1 c X 1 1 ∗ idleW1 c X 1 2 ∗ idleW1 c X 1 3) : sProp (MT nD τ sig Unit (Elt F) ℕ (Pipeline.UD sig nD τ) ℕ)) ⊢ iprop((∃ f : Buf (Elt F) ((c : Thread nD τ).loc cc0_scratch0), ((c : Thread nD τ).loc cc0_scratch0 ↦{fullShare} f)) ∗ ((c : Thread nD τ).loc main_arg3 ↦{fullShare} X main_arg3) ∗ semVal ((c : Thread nD τ), .dma (semW1 0 0)) 0 ∗ semVal ((c : Thread nD τ), .dma (semW1 0 1)) 0 ∗ semVal ((c : Thread nD τ), .dma (semW1 0 2)) 0 ∗ semVal ((c : Thread nD τ), .dma (semW1 0 3)) 0 ∗ semVal ((c : Thread nD τ), .dma (semW1 1 0)) 0 ∗ semVal ((c : Thread nD τ), .dma (semW1 1 1)) 0 ∗ semVal ((c : Thread nD τ), .dma (semW1 1 2)) 0 ∗ semVal ((c : Thread nD τ), .dma (semW1 1 3)) 0) := by
  rw [pointsTo_halves (ℓ := (c : Thread nD τ).loc main_arg3) fullShare, pointsTo_halves (ℓ := (c : Thread nD τ).loc main_arg3) (hf 0 fullShare), pointsTo_halves (ℓ := (c : Thread nD τ).loc main_arg3) (hf 1 fullShare)]
  rw [pointsTo_halves (ℓ := (c : Thread nD τ).loc main_arg3) (hf 0 (hf 0 fullShare)), pointsTo_halves (ℓ := (c : Thread nD τ).loc main_arg3) (hf 0 (hf 0 (hf 0 fullShare))), pointsTo_halves (ℓ := (c : Thread nD τ).loc main_arg3) (hf 1 (hf 0 (hf 0 fullShare)))]
  rw [pointsTo_halves (ℓ := (c : Thread nD τ).loc main_arg3) (hf 1 (hf 0 fullShare)), pointsTo_halves (ℓ := (c : Thread nD τ).loc main_arg3) (hf 0 (hf 1 (hf 0 fullShare))), pointsTo_halves (ℓ := (c : Thread nD τ).loc main_arg3) (hf 1 (hf 1 (hf 0 fullShare)))]
  rw [pointsTo_halves (ℓ := (c : Thread nD τ).loc main_arg3) (hf 0 (hf 1 fullShare)), pointsTo_halves (ℓ := (c : Thread nD τ).loc main_arg3) (hf 0 (hf 0 (hf 1 fullShare))), pointsTo_halves (ℓ := (c : Thread nD τ).loc main_arg3) (hf 1 (hf 0 (hf 1 fullShare)))]
  rw [pointsTo_halves (ℓ := (c : Thread nD τ).loc main_arg3) (hf 1 (hf 1 fullShare)), pointsTo_halves (ℓ := (c : Thread nD τ).loc main_arg3) (hf 0 (hf 1 (hf 1 fullShare))), pointsTo_halves (ℓ := (c : Thread nD τ).loc main_arg3) (hf 1 (hf 1 (hf 1 fullShare)))]
  unfold idleW1 Idle2
  iintro ⟨⟨A000, A010, ⟨%f000, D000⟩, ⟨%f010, D010⟩, V0⟩, ⟨A001, A011, ⟨%f001, D001⟩, ⟨%f011, D011⟩, V1⟩, ⟨A002, A012, ⟨%f002, D002⟩, ⟨%f012, D012⟩, V2⟩, ⟨A003, A013, ⟨%f003, D003⟩, ⟨%f013, D013⟩, V3⟩, ⟨A100, A110, ⟨%f100, D100⟩, ⟨%f110, D110⟩, V4⟩, ⟨A101, A111, ⟨%f101, D101⟩, ⟨%f111, D111⟩, V5⟩, ⟨A102, A112, ⟨%f102, D102⟩, ⟨%f112, D112⟩, V6⟩, ⟨A103, A113, ⟨%f103, D103⟩, ⟨%f113, D113⟩, V7⟩⟩
  iframe V0 V1 V2 V3 V4 V5 V6 V7
  have hj := joinW1 (F := F) c (f000 : Buf (Elt F) ((c : Thread nD τ).loc cc0_scratch0))
  simp only [BI.bigSep_univ_prod, BI.bigSep_univ_two, bigSep_four] at hj
  isplitl [D000 D001 D002 D003 D010 D011 D012 D013 D100 D101 D102 D103 D110 D111 D112 D113]
  · iapply hj
    isplitl [D000 D001 D002 D003 D010 D011 D012 D013]
    · isplitl [D000 D001 D002 D003]
      · isplitl [D000]
        · iexists _; iexact D000
        isplitl [D001]
        · iexists _; iexact D001
        isplitl [D002]
        · iexists _; iexact D002
        iexists _; iexact D003
      isplitl [D010]
      · iexists _; iexact D010
      isplitl [D011]
      · iexists _; iexact D011
      isplitl [D012]
      · iexists _; iexact D012
      iexists _; iexact D013
    isplitl [D100 D101 D102 D103]
    · isplitl [D100]
      · iexists _; iexact D100
      isplitl [D101]
      · iexists _; iexact D101
      isplitl [D102]
      · iexists _; iexact D102
      iexists _; iexact D103
    isplitl [D110]
    · iexists _; iexact D110
    isplitl [D111]
    · iexists _; iexact D111
    isplitl [D112]
    · iexists _; iexact D112
    iexists _; iexact D113
  · skip
    isplitl [A000 A001 A002 A003 A010 A011 A012 A013]
    · isplitl [A000 A001 A002 A003]
      · isplitl [A000 A001]
        · isplitl [A000]
          · iexact A000
          iexact A001
        isplitl [A002]
        · iexact A002
        iexact A003
      isplitl [A010 A011]
      · isplitl [A010]
        · iexact A010
        iexact A011
      isplitl [A012]
      · iexact A012
      iexact A013
    isplitl [A100 A101 A102 A103]
    · isplitl [A100 A101]
      · isplitl [A100]
        · iexact A100
        iexact A101
      isplitl [A102]
      · iexact A102
      iexact A103
    isplitl [A110 A111]
    · isplitl [A110]
      · iexact A110
      iexact A111
    isplitl [A112]
    · iexact A112
    iexact A113

end Cert.KernelIdeal.Hand

end
-- ==== Proof.IdealBody.lean ====
/-
  The whole kernel body, run from its staged inputs, its weight arrays and its buffers at any contents: it ends with the
  output buffer at the accumulated value and everything else returned.
-/
module

public import proofs.«01_k».proof.Proof.IdealScan
public import proofs.«01_k».proof.Proof.IdealDeal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Copies

variable {F : FTy → Type} [FloatOps F]

local notation "𝕄" => MT nD τ sig Unit (Elt F) ℕ (Pipeline.UD sig nD τ) ℕ

variable {Λ : Labels} {defs : Defs nD τ sig (Elt F) Λ} {𝒱 : Variants} (c : Dev nD) {bd : Option 𝒱.V}

/-- What the body holds beside its staged windows: the weight arrays, its buffers at any contents, its counters at zero. -/
def BodyRes (X : (b : Ref sig .tc) → Buf (Elt F) ((c : Thread nD τ).loc b)) : sProp (MT nD τ sig Unit (Elt F) ℕ (Pipeline.UD sig nD τ) ℕ) :=
  iprop(((c : Thread nD τ).loc main_arg3 ↦{fullShare} X main_arg3) ∗ ((c : Thread nD τ).loc main_arg4 ↦{fullShare} X main_arg4) ∗ ((c : Thread nD τ).loc main_arg5 ↦{fullShare} X main_arg5) ∗ ((c : Thread nD τ).loc main_arg6 ↦{fullShare} X main_arg6) ∗ ((c : Thread nD τ).loc main_arg7 ↦{fullShare} X main_arg7) ∗ ((c : Thread nD τ).loc main_arg8 ↦{fullShare} X main_arg8) ∗ (∃ f : Buf (Elt F) ((c : Thread nD τ).loc cc0_scratch0), ((c : Thread nD τ).loc cc0_scratch0 ↦{fullShare} f)) ∗ (∃ f : Buf (Elt F) ((c : Thread nD τ).loc cc0_scratch1), ((c : Thread nD τ).loc cc0_scratch1 ↦{fullShare} f)) ∗ (∃ f : Buf (Elt F) ((c : Thread nD τ).loc cc0_scratch2), ((c : Thread nD τ).loc cc0_scratch2 ↦{fullShare} f)) ∗ (∃ f : Buf (Elt F) ((c : Thread nD τ).loc cc0_scratch3), ((c : Thread nD τ).loc cc0_scratch3 ↦{fullShare} f)) ∗ (∃ f : Buf (Elt F) ((c : Thread nD τ).loc cc0_scratch4), ((c : Thread nD τ).loc cc0_scratch4 ↦{fullShare} f)) ∗ (∃ f : Buf (Elt F) ((c : Thread nD τ).loc cc0_scratch5), ((c : Thread nD τ).loc cc0_scratch5 ↦{fullShare} f)) ∗ (∃ f : Buf (Elt F) ((c : Thread nD τ).loc cc0_scratch6), ((c : Thread nD τ).loc cc0_scratch6 ↦{fullShare} f)) ∗ (∃ f : Buf (Elt F) ((c : Thread nD τ).loc cc0_scratch7), ((c : Thread nD τ).loc cc0_scratch7 ↦{fullShare} f)) ∗ (∃ f : Buf (Elt F) ((c : Thread nD τ).loc cc0_scratch8), ((c : Thread nD τ).loc cc0_scratch8 ↦{fullShare} f)) ∗ (∃ f : Buf (Elt F) ((c : Thread nD τ).loc cc0_scratch9), ((c : Thread nD τ).loc cc0_scratch9 ↦{fullShare} f)) ∗ (∃ f : Buf (Elt F) ((c : Thread nD τ).loc cc0_scratch10), ((c : Thread nD τ).loc cc0_scratch10 ↦{fullShare} f)) ∗ (∃ f : Buf (Elt F) ((c : Thread nD τ).loc cc0_scratch11), ((c : Thread nD τ).loc cc0_scratch11 ↦{fullShare} f)) ∗ (∃ f : Buf (Elt F) ((c : Thread nD τ).loc cc0_scratch12), ((c : Thread nD τ).loc cc0_scratch12 ↦{fullShare} f)) ∗ (∃ f : Buf (Elt F) ((c : Thread nD τ).loc cc0_scratch13), ((c : Thread nD τ).loc cc0_scratch13 ↦{fullShare} f)) ∗ semVal ((c : Thread nD τ), .dma (semW1 0 0)) 0 ∗ semVal ((c : Thread nD τ), .dma (semW1 0 1)) 0 ∗ semVal ((c : Thread nD τ), .dma (semW1 0 2)) 0 ∗ semVal ((c : Thread nD τ), .dma (semW1 0 3)) 0 ∗ semVal ((c : Thread nD τ), .dma (semW1 1 0)) 0 ∗ semVal ((c : Thread nD τ), .dma (semW1 1 1)) 0 ∗ semVal ((c : Thread nD τ), .dma (semW1 1 2)) 0 ∗ semVal ((c : Thread nD τ), .dma (semW1 1 3)) 0 ∗ semVal ((c : Thread nD τ), .dma (semW2 0 0)) 0 ∗ semVal ((c : Thread nD τ), .dma (semW2 0 1)) 0 ∗ semVal ((c : Thread nD τ), .dma (semW2 1 0)) 0 ∗ semVal ((c : Thread nD τ), .dma (semW2 1 1)) 0 ∗ semVal ((c : Thread nD τ), .dma (semQ0 0)) 0 ∗ semVal ((c : Thread nD τ), .dma (semQ1 0)) 0 ∗ semVal ((c : Thread nD τ), .dma (semQ2 0)) 0 ∗ semVal ((c : Thread nD τ), .dma (semQ3 0)) 0 ∗ semVal ((c : Thread nD τ), .dma (semQ0 1)) 0 ∗ semVal ((c : Thread nD τ), .dma (semQ1 1)) 0 ∗ semVal ((c : Thread nD τ), .dma (semQ2 1)) 0 ∗ semVal ((c : Thread nD τ), .dma (semQ3 1)) 0)

/-- The weight arrays, the rings and the counters. -/
def Weights (X : (b : Ref sig .tc) → Buf (Elt F) ((c : Thread nD τ).loc b)) : sProp (MT nD τ sig Unit (Elt F) ℕ (Pipeline.UD sig nD τ) ℕ) :=
  iprop(((c : Thread nD τ).loc main_arg3 ↦{fullShare} X main_arg3) ∗ ((c : Thread nD τ).loc main_arg4 ↦{fullShare} X main_arg4) ∗ ((c : Thread nD τ).loc main_arg5 ↦{fullShare} X main_arg5) ∗ ((c : Thread nD τ).loc main_arg6 ↦{fullShare} X main_arg6) ∗ ((c : Thread nD τ).loc main_arg7 ↦{fullShare} X main_arg7) ∗ ((c : Thread nD τ).loc main_arg8 ↦{fullShare} X main_arg8) ∗ (∃ f : Buf (Elt F) ((c : Thread nD τ).loc cc0_scratch0), ((c : Thread nD τ).loc cc0_scratch0 ↦{fullShare} f)) ∗ (∃ f : Buf (Elt F) ((c : Thread nD τ).loc cc0_scratch1), ((c : Thread nD τ).loc cc0_scratch1 ↦{fullShare} f)) ∗ (∃ f : Buf (Elt F) ((c : Thread nD τ).loc cc0_scratch2), ((c : Thread nD τ).loc cc0_scratch2 ↦{fullShare} f)) ∗ (∃ f : Buf (Elt F) ((c : Thread nD τ).loc cc0_scratch3), ((c : Thread nD τ).loc cc0_scratch3 ↦{fullShare} f)) ∗ (∃ f : Buf (Elt F) ((c : Thread nD τ).loc cc0_scratch4), ((c : Thread nD τ).loc cc0_scratch4 ↦{fullShare} f)) ∗ (∃ f : Buf (Elt F) ((c : Thread nD τ).loc cc0_scratch5), ((c : Thread nD τ).loc cc0_scratch5 ↦{fullShare} f)) ∗ semVal ((c : Thread nD τ), .dma (semW1 0 0)) 0 ∗ semVal ((c : Thread nD τ), .dma (semW1 0 1)) 0 ∗ semVal ((c : Thread nD τ), .dma (semW1 0 2)) 0 ∗ semVal ((c : Thread nD τ), .dma (semW1 0 3)) 0 ∗ semVal ((c : Thread nD τ), .dma (semW1 1 0)) 0 ∗ semVal ((c : Thread nD τ), .dma (semW1 1 1)) 0 ∗ semVal ((c : Thread nD τ), .dma (semW1 1 2)) 0 ∗ semVal ((c : Thread nD τ), .dma (semW1 1 3)) 0 ∗ semVal ((c : Thread nD τ), .dma (semW2 0 0)) 0 ∗ semVal ((c : Thread nD τ), .dma (semW2 0 1)) 0 ∗ semVal ((c : Thread nD τ), .dma (semW2 1 0)) 0 ∗ semVal ((c : Thread nD τ), .dma (semW2 1 1)) 0 ∗ semVal ((c : Thread nD τ), .dma (semQ0 0)) 0 ∗ semVal ((c : Thread nD τ), .dma (semQ1 0)) 0 ∗ semVal ((c : Thread nD τ), .dma (semQ2 0)) 0 ∗ semVal ((c : Thread nD τ), .dma (semQ3 0)) 0 ∗ semVal ((c : Thread nD τ), .dma (semQ0 1)) 0 ∗ semVal ((c : Thread nD τ), .dma (semQ1 1)) 0 ∗ semVal ((c : Thread nD τ), .dma (semQ2 1)) 0 ∗ semVal ((c : Thread nD τ), .dma (semQ3 1)) 0)

theorem weights_deal (X : (b : Ref sig .tc) → Buf (Elt F) ((c : Thread nD τ).loc b)) : (Weights c X : sProp (MT nD τ sig Unit (Elt F) ℕ (Pipeline.UD sig nD τ) ℕ)) ⊢ iprop(IdleSlot c X (sl 0) ∗ IdleSlot c X (sl 1)) := by
  rw [show sl 0 = 0 from rfl, show sl 1 = 1 from rfl]
  unfold Weights
  iintro ⟨A3, A4, A5, A6, A7, A8, S0, S1, S2, S3, S4, S5, SW100, SW101, SW102, SW103, SW110, SW111, SW112, SW113, SW200, SW201, SW210, SW211, SQ00, SQ10, SQ20, SQ30, SQ01, SQ11, SQ21, SQ31⟩
  ihave HD := (dealW1 c X) $$ [S0 A3 SW100 SW101 SW102 SW103 SW110 SW111 SW112 SW113]
  · iframe S0 A3 SW100 SW101 SW102 SW103 SW110 SW111 SW112 SW113
  icases HD with ⟨IW100, IW101, IW102, IW103, IW110, IW111, IW112, IW113⟩
  ihave HD := (dealW2 c X) $$ [S1 A6 SW200 SW201 SW210 SW211]
  · iframe S1 A6 SW200 SW201 SW210 SW211
  icases HD with ⟨IW200, IW201, IW210, IW211⟩
  ihave HD := (dealQ0 c X) $$ [S2 A4 SQ00 SQ01]
  · iframe S2 A4 SQ00 SQ01
  icases HD with ⟨IQ00, IQ01⟩
  ihave HD := (dealQ1 c X) $$ [S3 A5 SQ10 SQ11]
  · iframe S3 A5 SQ10 SQ11
  icases HD with ⟨IQ10, IQ11⟩
  ihave HD := (dealQ2 c X) $$ [S4 A7 SQ20 SQ21]
  · iframe S4 A7 SQ20 SQ21
  icases HD with ⟨IQ20, IQ21⟩
  ihave HD := (dealQ3 c X) $$ [S5 A8 SQ30 SQ31]
  · iframe S5 A8 SQ30 SQ31
  icases HD with ⟨IQ30, IQ31⟩
  unfold IdleSlot
  isplitl [IQ00 IQ10 IQ20 IQ30 IW100 IW101 IW102 IW103 IW200 IW201]
  · iframe IQ00 IQ10 IQ20 IQ30 IW100 IW101 IW102 IW103 IW200 IW201
  · iframe IQ01 IQ11 IQ21 IQ31 IW110 IW111 IW112 IW113 IW210 IW211

theorem weights_gather (X : (b : Ref sig .tc) → Buf (Elt F) ((c : Thread nD τ).loc b)) : (iprop(IdleSlot c X 0 ∗ IdleSlot c X 1) : sProp (MT nD τ sig Unit (Elt F) ℕ (Pipeline.UD sig nD τ) ℕ)) ⊢ Weights c X := by
  unfold IdleSlot
  iintro ⟨⟨IQ00, IQ10, IQ20, IQ30, ⟨IW100, IW101, IW102, IW103⟩, IW200, IW201⟩, ⟨IQ01, IQ11, IQ21, IQ31, ⟨IW110, IW111, IW112, IW113⟩, IW210, IW211⟩⟩
  ihave HD := (gatherW1 c X) $$ [IW100 IW101 IW102 IW103 IW110 IW111 IW112 IW113]
  · iframe IW100 IW101 IW102 IW103 IW110 IW111 IW112 IW113
  icases HD with ⟨S0, A3, SW100, SW101, SW102, SW103, SW110, SW111, SW112, SW113⟩
  ihave HD := (gatherW2 c X) $$ [IW200 IW201 IW210 IW211]
  · iframe IW200 IW201 IW210 IW211
  icases HD with ⟨S1, A6, SW200, SW201, SW210, SW211⟩
  ihave HD := (gatherQ0 c X) $$ [IQ00 IQ01]
  · iframe IQ00 IQ01
  icases HD with ⟨S2, A4, SQ00, SQ01⟩
  ihave HD := (gatherQ1 c X) $$ [IQ10 IQ11]
  · iframe IQ10 IQ11
  icases HD with ⟨S3, A5, SQ10, SQ11⟩
  ihave HD := (gatherQ2 c X) $$ [IQ20 IQ21]
  · iframe IQ20 IQ21
  icases HD with ⟨S4, A7, SQ20, SQ21⟩
  ihave HD := (gatherQ3 c X) $$ [IQ30 IQ31]
  · iframe IQ30 IQ31
  icases HD with ⟨S5, A8, SQ30, SQ31⟩
  unfold Weights
  iframe A3 A4 A5 A6 A7 A8 S0 S1 S2 S3 S4 S5 SW100 SW101 SW102 SW103 SW110 SW111 SW112 SW113 SW200 SW201 SW210 SW211 SQ00 SQ10 SQ20 SQ30 SQ01 SQ11 SQ21 SQ31

theorem weights_gather' (X : (b : Ref sig .tc) → Buf (Elt F) ((c : Thread nD τ).loc b)) (n : ℕ) : (iprop(IdleSlot c X (sl n) ∗ IdleSlot c X (sl (n + 1))) : sProp (MT nD τ sig Unit (Elt F) ℕ (Pipeline.UD sig nD τ) ℕ)) ⊢ Weights c X := by
  rcases Nat.mod_two_eq_zero_or_one n with h | h
  · rw [show sl n = 0 from Fin.ext h, show sl (n + 1) = 1 from Fin.ext (by show (n + 1) % 2 = 1; omega)]
    exact weights_gather c X
  · rw [show sl n = 1 from Fin.ext h, show sl (n + 1) = 0 from Fin.ext (by show (n + 1) % 2 = 0; omega)]
    iintro ⟨H1, H0⟩
    iapply (weights_gather c X)
    iframe H0 H1

/-- The experts of the list, in order. -/
def expert (v0 : Vec F S96x8 .i32) (k : ℕ) : Fin 16 := (act (F := F) v0 16).getD k 0

/-- The value the body leaves in its output window. -/
def outVal (X : (b : Ref sig .tc) → Buf (Elt F) ((c : Thread nD τ).loc b)) (x : Vec F S96x3072 .bf16) (v0 : Vec F S96x8 .i32) (v2 : Vec F S96x8 .f32) : Vec F S96x3072 .bf16 :=
  k0_pay23 (expFold c X (expert (F := F) v0) x (cwAll v0 v2) (k0_pay6 (F := F)) (act (F := F) v0 16).length)

theorem body_run [Facts] (X : (b : Ref sig .tc) → Buf (Elt F) ((c : Thread nD τ).loc b)) (x : Vec F S96x3072 .bf16) (v0 : Vec F S96x8 .i32) (v2 : Vec F S96x8 .f32) (g3 : Vec F S96x3072 .bf16)
    {Q : PUnit → sProp (MT nD τ sig Unit (Elt F) ℕ (Pipeline.UD sig nD τ) ℕ)} {𝒱 : Variants} {bd : Option 𝒱.V} {defs : Defs nD τ sig (Elt F) Λ₀} :
    iprop(((c : Thread nD τ).loc cc0_stg0_0 ↦{fullShare} (x : Buf (Elt F) ((c : Thread nD τ).loc cc0_stg0_0))) ∗ ((c : Thread nD τ).loc cc0_stg1_0 ↦{fullShare} (v0 : Buf (Elt F) ((c : Thread nD τ).loc cc0_stg1_0))) ∗ ((c : Thread nD τ).loc cc0_stg2_0 ↦{fullShare} (v2 : Buf (Elt F) ((c : Thread nD τ).loc cc0_stg2_0))) ∗ ((c : Thread nD τ).loc cc0_stg3_0 ↦{fullShare} (g3 : Buf (Elt F) ((c : Thread nD τ).loc cc0_stg3_0))) ∗ BodyRes c X ∗ (∃ W, owes (c : Thread nD τ) 0 W))
    ⊢ iprop((((c : Thread nD τ).loc cc0_stg0_0 ↦{fullShare} (x : Buf (Elt F) ((c : Thread nD τ).loc cc0_stg0_0))) -∗ ((c : Thread nD τ).loc cc0_stg1_0 ↦{fullShare} (v0 : Buf (Elt F) ((c : Thread nD τ).loc cc0_stg1_0))) -∗ ((c : Thread nD τ).loc cc0_stg2_0 ↦{fullShare} (v2 : Buf (Elt F) ((c : Thread nD τ).loc cc0_stg2_0))) -∗ ((c : Thread nD τ).loc cc0_stg3_0 ↦{fullShare} ((outVal c X x v0 v2 : Vec F S96x3072 .bf16) : Buf (Elt F) ((c : Thread nD τ).loc cc0_stg3_0))) -∗ BodyRes c X -∗ (∃ W, owes (c : Thread nD τ) 0 W) -∗ Q ⟨⟩)
      -∗ wp frame (wpE defs 𝒱 (c : Thread nD τ) bd) Set.univ (cc0_moe_swiglu (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16) Q) := by
  unfold BodyRes
  iintro ⟨Hx, H1, H2, H3, ⟨A3, A4, A5, A6, A7, A8, S0, S1, S2, S3, S4, S5, S6, S7, S8, S9, S10, S11, S12, S13, SW100, SW101, SW102, SW103, SW110, SW111, SW112, SW113, SW200, SW201, SW210, SW211, SQ00, SQ10, SQ20, SQ30, SQ01, SQ11, SQ21, SQ31⟩, HO⟩ HQ
  icases S11 with ⟨%g11, S11⟩
  icases S12 with ⟨%g12, S12⟩
  icases S13 with ⟨%g13, S13⟩
  rw [cc0_moe_swiglu_eq_skeleton]
  unfold cc0_moe_swiglu_skel
  iapply (loadAll_cc0_stg1_0 c rfl v0) $$ H1
  iintro H1
  iapply (loadAll_cc0_stg2_0 c rfl v2) $$ H2
  iintro H2
  iapply (t1_loop_run c v0 v2 g12 g13) $$ [S12 S13]
  · iframe S12 S13
  iintro %L %hL0 S12 S13
  ihave HW := (weights_deal c X) $$ [A3 A4 A5 A6 A7 A8 S0 S1 S2 S3 S4 S5 SW100 SW101 SW102 SW103 SW110 SW111 SW112 SW113 SW200 SW201 SW210 SW211 SQ00 SQ10 SQ20 SQ30 SQ01 SQ11 SQ21 SQ31]
  · unfold Weights
    iframe A3 A4 A5 A6 A7 A8 S0 S1 S2 S3 S4 S5 SW100 SW101 SW102 SW103 SW110 SW111 SW112 SW113 SW200 SW201 SW210 SW211 SQ00 SQ10 SQ20 SQ30 SQ01 SQ11 SQ21 SQ31
  icases HW with ⟨Hi0, Hi1⟩
  have hlen : (act (F := F) v0 16).length ≤ 16 := act_length v0 16
  obtain ⟨nF, hnF⟩ : ∃ nF : Fin 17, nF.val = (act (F := F) v0 16).length := ⟨⟨_, by omega⟩, rfl⟩
  have hL : ∀ k, k < nF.val → lst (F := F) L k = BitVec.ofNat 32 (expert (F := F) v0 k).val := fun k hk => hL0 k (hnF ▸ hk)
  unfold outVal
  rw [← hnF]
  iapply (wp_assume 𝒱 (c : Thread nD τ) bd Set.univ (chk3_of nF))
  by_cases h1 : k0_cond1 (BitVec.ofNat 32 nF.val) = 1#1
  · have hpos : 0 < nF.val := (cond1_iff nF).1 h1
    have sr : ∀ (f : Fin 3 → ℕ) (b : ℕ), f = ![(BitVec.ofNat 32 (expert (F := F) v0 0).val).toNat, 0, b] → f = ![(expert (F := F) v0 0).val, 0, b] := fun f b h => h.trans (by rw [ofE])
    have h21 : lst (F := F) L 0 = BitVec.ofNat 32 (expert (F := F) v0 0).val := hL 0 hpos
    simp only [dif_pos h1]
    rw [k0_part1_eq_skeleton, k0_part2_eq_skeleton, k0_part3_eq_skeleton]
    unfold k0_part1_skel k0_part2_skel k0_part3_skel
    iapply (load_sm c L 0 rfl) $$ S13
    iintro S13
    simp only [ret_bind', h21]
    iapply (wp_assume 𝒱 (c : Thread nD τ) bd Set.univ (chk2_of nF (expert (F := F) v0 0)))
    unfold IdleSlot
    icases Hi0 with ⟨IQ00, IQ10, IQ20, IQ30, ⟨IW100, IW101, IW102, IW103⟩, IW200, IW201⟩
    iapply (startQ0 c X (sl 0) (expert (F := F) v0 0) rfl (sr (k0_off4 _) _ rfl) rfl) $$ IQ00
    iintro IQ00
    iapply (startQ1 c X (sl 0) (expert (F := F) v0 0) rfl (sr (k0_off5 _) _ rfl) rfl) $$ IQ10
    iintro IQ10
    iapply (startQ2 c X (sl 0) (expert (F := F) v0 0) rfl (sr (k0_off6 _) _ rfl) rfl) $$ IQ20
    iintro IQ20
    iapply (startQ3 c X (sl 0) (expert (F := F) v0 0) rfl (sr (k0_off7 _) _ rfl) rfl) $$ IQ30
    iintro IQ30
    iapply (startW1a c X (sl 0) 0 (expert (F := F) v0 0) rfl (sr (k0_off8 _) _ rfl) rfl) $$ IW100
    iintro IW100
    iapply (startW1b c X (sl 0) 0 (expert (F := F) v0 0) rfl (sr (k0_off9 _) _ rfl) rfl) $$ IW100
    iintro IW100
    iapply (startW1a c X (sl 0) 1 (expert (F := F) v0 0) rfl (sr (k0_off10 _) _ rfl) rfl) $$ IW101
    iintro IW101
    iapply (startW1b c X (sl 0) 1 (expert (F := F) v0 0) rfl (sr (k0_off11 _) _ rfl) rfl) $$ IW101
    iintro IW101
    iapply (startW1a c X (sl 0) 2 (expert (F := F) v0 0) rfl (sr (k0_off12 _) _ rfl) rfl) $$ IW102
    iintro IW102
    iapply (startW1b c X (sl 0) 2 (expert (F := F) v0 0) rfl (sr (k0_off13 _) _ rfl) rfl) $$ IW102
    iintro IW102
    iapply (startW1a c X (sl 0) 3 (expert (F := F) v0 0) rfl (sr (k0_off14 _) _ rfl) rfl) $$ IW103
    iintro IW103
    iapply (startW1b c X (sl 0) 3 (expert (F := F) v0 0) rfl (sr (k0_off15 _) _ rfl) rfl) $$ IW103
    iintro IW103
    iapply (startW2 c X (sl 0) 0 (expert (F := F) v0 0) rfl (sr (k0_off16 _) _ rfl) rfl) $$ IW200
    iintro IW200
    iapply (startW2 c X (sl 0) 1 (expert (F := F) v0 0) rfl (sr (k0_off17 _) _ rfl) rfl) $$ IW201
    iintro IW201
    iapply (loadAll_cc0_scratch11 c rfl g11) $$ S11
    iintro S11
    iapply (storeAll_cc0_scratch11 c rfl g11 (k0_pay6 (F := F))) $$ S11
    iintro S11
    iapply (t2_loop_run c X (expert (F := F) v0) nF x (cwAll v0 v2) L hL (chk3_of nF) (k0_pay6 (F := F))) $$ [Hx S12 S13 S6 S7 S8 S9 S10 S11 IQ00 IQ10 IQ20 IQ30 IW100 IW101 IW102 IW103 IW200 IW201 Hi1 HO]
    · unfold ExpRes
      isplitl [Hx S12 S13 S6 S7 S8 S9 S10 S11]
      · isplitl [Hx]; · iexact Hx
        isplitl [S12]; · iexact S12
        isplitl [S13]; · iexact S13
        isplitl [S6]; · iexact S6
        isplitl [S7]; · iexact S7
        isplitl [S8]; · iexact S8
        isplitl [S9]; · iexact S9
        isplitl [S10]; · iexact S10
        iexact S11
      isplitr [Hi1 HO]
      swap
      · unfold IdleSlot
        isplitl [Hi1]; · iexact Hi1
        iexact HO
      unfold NextSlot
      rw [if_pos hpos]
      unfold FlySlot
      iframe IQ00 IQ10 IQ20 IQ30 IW100 IW101 IW102 IW103 IW200 IW201
    unfold ExpRes
    iintro ⟨Hx, S12, S13, S6, S7, S8, S9, S10, S11⟩ HA HB HO
    iapply (Scf.wp_for_bind frame (wpE defs 𝒱 (c : Thread nD τ) bd) Set.univ (k0_t9_loop (BitVec.ofNat 32 nF.val)).lb (k0_t9_loop (BitVec.ofNat 32 nF.val)).ub (k0_t9_loop (BitVec.ofNat 32 nF.val)).st (k0_t9_ok (BitVec.ofNat 32 nF.val) (chk3_of nF)) ⟨⟩ _
      (fun _ _ => ((c : Thread nD τ).loc cc0_scratch11 ↦{fullShare} ((expFold c X (expert (F := F) v0) x (cwAll v0 v2) (k0_pay6 (F := F)) nF.val : Vec F S96x3072 .f32) : Buf (Elt F) ((c : Thread nD τ).loc cc0_scratch11)))) (fun k _ => absurd (lt_of_lt_of_eq k.isLt (trips9 nF)) (Nat.not_lt_zero _))) $$ [S11]
    · iexact S11
    iintro %a9 S11
    iapply (loadAll_cc0_scratch11 c rfl _) $$ S11
    iintro S11
    iapply (loadAll_cc0_stg3_0 c rfl g3) $$ H3
    iintro H3
    iapply (storeAll_cc0_stg3_0 c rfl g3 (k0_pay23 (expFold c X (expert (F := F) v0) x (cwAll v0 v2) (k0_pay6 (F := F)) nF.val))) $$ H3
    iintro H3
    iapply wp_ret_of
    ihave HW := (weights_gather' c X nF.val) $$ [HA HB]
    · iframe HA HB
    unfold Weights
    icases HW with ⟨A3, A4, A5, A6, A7, A8, S0, S1, S2, S3, S4, S5, SW100, SW101, SW102, SW103, SW110, SW111, SW112, SW113, SW200, SW201, SW210, SW211, SQ00, SQ10, SQ20, SQ30, SQ01, SQ11, SQ21, SQ31⟩
    iapply HQ $$ [Hx] [H1] [H2] [H3] [A3 A4 A5 A6 A7 A8 S0 S1 S2 S3 S4 S5 SW100 SW101 SW102 SW103 SW110 SW111 SW112 SW113 SW200 SW201 SW210 SW211 SQ00 SQ10 SQ20 SQ30 SQ01 SQ11 SQ21 SQ31 S6 S7 S8 S9 S10 S11 S12 S13] [HO]
    · iexact Hx
    · iexact H1
    · iexact H2
    · iexact H3
    · try unfold BodyRes
      iframe A3 A4 A5 A6 A7 A8 S0 S1 S2 S3 S4 S5 SW100 SW101 SW102 SW103 SW110 SW111 SW112 SW113 SW200 SW201 SW210 SW211 SQ00 SQ10 SQ20 SQ30 SQ01 SQ11 SQ21 SQ31
      isplitl [S6]; · iexact S6
      isplitl [S7]; · iexact S7
      isplitl [S8]; · iexact S8
      isplitl [S9]; · iexact S9
      isplitl [S10]; · iexact S10
      isplitl [S11]; · iexists _; iexact S11
      isplitl [S12]; · iexists _; iexact S12
      iexists _; iexact S13
    · iexact HO
  · have hpos : ¬ 0 < nF.val := fun h => h1 ((cond1_iff nF).2 h)
    simp only [dif_neg h1]
    iapply (loadAll_cc0_scratch11 c rfl g11) $$ S11
    iintro S11
    iapply (storeAll_cc0_scratch11 c rfl g11 (k0_pay6 (F := F))) $$ S11
    iintro S11
    iapply (t2_loop_run c X (expert (F := F) v0) nF x (cwAll v0 v2) L hL (chk3_of nF) (k0_pay6 (F := F))) $$ [Hx S12 S13 S6 S7 S8 S9 S10 S11 Hi0 Hi1 HO]
    · unfold ExpRes
      isplitl [Hx S12 S13 S6 S7 S8 S9 S10 S11]
      · isplitl [Hx]; · iexact Hx
        isplitl [S12]; · iexact S12
        isplitl [S13]; · iexact S13
        isplitl [S6]; · iexact S6
        isplitl [S7]; · iexact S7
        isplitl [S8]; · iexact S8
        isplitl [S9]; · iexact S9
        isplitl [S10]; · iexact S10
        iexact S11
      isplitr [Hi1 HO]
      swap
      · unfold IdleSlot
        isplitl [Hi1]; · iexact Hi1
        iexact HO
      unfold NextSlot
      rw [if_neg hpos]
      iexact Hi0
    unfold ExpRes
    iintro ⟨Hx, S12, S13, S6, S7, S8, S9, S10, S11⟩ HA HB HO
    iapply (Scf.wp_for_bind frame (wpE defs 𝒱 (c : Thread nD τ) bd) Set.univ (k0_t9_loop (BitVec.ofNat 32 nF.val)).lb (k0_t9_loop (BitVec.ofNat 32 nF.val)).ub (k0_t9_loop (BitVec.ofNat 32 nF.val)).st (k0_t9_ok (BitVec.ofNat 32 nF.val) (chk3_of nF)) ⟨⟩ _
      (fun _ _ => ((c : Thread nD τ).loc cc0_scratch11 ↦{fullShare} ((expFold c X (expert (F := F) v0) x (cwAll v0 v2) (k0_pay6 (F := F)) nF.val : Vec F S96x3072 .f32) : Buf (Elt F) ((c : Thread nD τ).loc cc0_scratch11)))) (fun k _ => absurd (lt_of_lt_of_eq k.isLt (trips9 nF)) (Nat.not_lt_zero _))) $$ [S11]
    · iexact S11
    iintro %a9 S11
    iapply (loadAll_cc0_scratch11 c rfl _) $$ S11
    iintro S11
    iapply (loadAll_cc0_stg3_0 c rfl g3) $$ H3
    iintro H3
    iapply (storeAll_cc0_stg3_0 c rfl g3 (k0_pay23 (expFold c X (expert (F := F) v0) x (cwAll v0 v2) (k0_pay6 (F := F)) nF.val))) $$ H3
    iintro H3
    iapply wp_ret_of
    ihave HW := (weights_gather' c X nF.val) $$ [HA HB]
    · iframe HA HB
    unfold Weights
    icases HW with ⟨A3, A4, A5, A6, A7, A8, S0, S1, S2, S3, S4, S5, SW100, SW101, SW102, SW103, SW110, SW111, SW112, SW113, SW200, SW201, SW210, SW211, SQ00, SQ10, SQ20, SQ30, SQ01, SQ11, SQ21, SQ31⟩
    iapply HQ $$ [Hx] [H1] [H2] [H3] [A3 A4 A5 A6 A7 A8 S0 S1 S2 S3 S4 S5 SW100 SW101 SW102 SW103 SW110 SW111 SW112 SW113 SW200 SW201 SW210 SW211 SQ00 SQ10 SQ20 SQ30 SQ01 SQ11 SQ21 SQ31 S6 S7 S8 S9 S10 S11 S12 S13] [HO]
    · iexact Hx
    · iexact H1
    · iexact H2
    · iexact H3
    · try unfold BodyRes
      iframe A3 A4 A5 A6 A7 A8 S0 S1 S2 S3 S4 S5 SW100 SW101 SW102 SW103 SW110 SW111 SW112 SW113 SW200 SW201 SW210 SW211 SQ00 SQ10 SQ20 SQ30 SQ01 SQ11 SQ21 SQ31
      isplitl [S6]; · iexact S6
      isplitl [S7]; · iexact S7
      isplitl [S8]; · iexact S8
      isplitl [S9]; · iexact S9
      isplitl [S10]; · iexact S10
      isplitl [S11]; · iexists _; iexact S11
      isplitl [S12]; · iexists _; iexact S12
      iexists _; iexact S13
    · iexact HO

end Cert.KernelIdeal.Hand

end
-- ==== Proof.IdealFrame.lean ====
/-
  The kernel's run from any launch memory: the staged pipeline around the body's run. It terminates without a fault, every
  argument ends as launched, every counter ends at zero, and the result is the body's value.
-/
module

public import proofs.«01_k».proof.Proof.Gen.KernelIdeal.Frame
public import proofs.«01_k».proof.Proof.IdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local instance] Gen.facts

/-! ## The host lines around the region, at the algebra of a kernel with copies of its own -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem ends_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem ends_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem ends_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem ends_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem ends_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem ends_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem ends_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem ends_main_arg7 (dats : (p : Fin _) → (c : Dev nD) → Dat τ (Elt F) Unit ℕ (Pipeline.UD sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem ends_main_arg8 (dats : (p : Fin _) → (c : Dev nD) → Dat τ (Elt F) Unit ℕ (Pipeline.UD sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-! ## The windows' blocks -/

/-- What window 0's staging buffer holds when the body runs. -/
theorem staged0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- What window 1's staging buffer holds when the body runs. -/
theorem staged0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- What window 2's staging buffer holds when the body runs. -/
theorem staged0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's own counters and the arrays it reads where they lie -/

/-- The counters of the body's own copies. -/
abbrev osem0 : Fin 20 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23] : Fin 20 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c osem0 [0, 1, 2, 3, 4, 5, 6, 7, 8, 9, 10, 11, 12, 13, 14, 15, 16, 17, 18, 19] (by decide) (by decide)]; rfl
/-- The weight arrays. -/
def H0 : Finset (Ref sig .tc) := {main_arg3, main_arg4, main_arg5, main_arg6, main_arg7, main_arg8}
theorem H0_sub : H0 ⊆ Pipeline.restRefs sig spec0 := by decide
theorem hbmPts0_eq (c : Dev nD) :
    (bigSep H0 (fun b => ((c : Thread nD τ).loc b) ↦{fullShare} V m c b) : sProp 𝕄) = iprop((((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8)) := by
  rw [BI.bigSep_eq_bigSepL_of_eq [main_arg3, main_arg4, main_arg5, main_arg6, main_arg7, main_arg8] (by decide) (by decide)]; rfl
theorem PhiD0_eq (c : Dev nD) :
    (Pipeline.ΦD osem0 spec0 H0 (V m) c : sProp 𝕄)
      = iprop(iprop((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f) ∗ (∃ f, ((c : Thread nD τ).loc cc0_scratch8) ↦{fullShare} f) ∗ (∃ f, ((c : Thread nD τ).loc cc0_scratch9) ↦{fullShare} f) ∗ (∃ f, ((c : Thread nD τ).loc cc0_scratch10) ↦{fullShare} f) ∗ (∃ f, ((c : Thread nD τ).loc cc0_scratch11) ↦{fullShare} f) ∗ (∃ f, ((c : Thread nD τ).loc cc0_scratch12) ↦{fullShare} f) ∗ (∃ f, ((c : Thread nD τ).loc cc0_scratch13) ↦{fullShare} f)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop((((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8))) := by
  rw [Pipeline.ΦD_eq, scopedRest0_eq, ownSems00_eq, hbmPts0_eq]

/-- The lines after the region touch none of the weight arrays. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb hmem
  have hb' : b ≠ main_v3 ∧ b ≠ main_v4 := (by decide : ∀ b ∈ H0, b ≠ main_v3 ∧ b ≠ main_v4) b hb
  rw [StableHlo.reshape_bufs, Finset.mem_insert, Finset.mem_singleton] at hmem
  rcases hmem with h | h
  · exact hb'.1 (Proc.devRef_injective _ h)
  · exact hb'.2 (Proc.devRef_injective _ h)

theorem phi_body (c : Dev nD) : (Pipeline.ΦD osem0 spec0 H0 (V m) c : sProp 𝕄) ⊢ iprop(BodyRes c (V m c) ∗ (∃ r, prngReg c r)) := by
  rw [PhiD0_eq]
  unfold BodyRes
  iintro ⟨⟨S0, S1, S2, S3, S4, S5, S6, S7, S8, S9, S10, S11, S12, S13⟩, Hg, ⟨M4, M5, M6, M7, M8, M9, M10, M11, M12, M13, M14, M15, M16, M17, M18, M19, M20, M21, M22, M23⟩, ⟨A3, A4, A5, A6, A7, A8⟩⟩
  isplitl [S0 S1 S2 S3 S4 S5 S6 S7 S8 S9 S10 S11 S12 S13 M4 M5 M6 M7 M8 M9 M10 M11 M12 M13 M14 M15 M16 M17 M18 M19 M20 M21 M22 M23 A3 A4 A5 A6 A7 A8]
  ·
    isplitl [A3]; · iexact A3
    isplitl [A4]; · iexact A4
    isplitl [A5]; · iexact A5
    isplitl [A6]; · iexact A6
    isplitl [A7]; · iexact A7
    isplitl [A8]; · iexact A8
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [M4]; · iexact M4
    isplitl [M5]; · iexact M5
    isplitl [M6]; · iexact M6
    isplitl [M7]; · iexact M7
    isplitl [M8]; · iexact M8
    isplitl [M9]; · iexact M9
    isplitl [M10]; · iexact M10
    isplitl [M11]; · iexact M11
    isplitl [M12]; · iexact M12
    isplitl [M13]; · iexact M13
    isplitl [M14]; · iexact M14
    isplitl [M15]; · iexact M15
    isplitl [M16]; · iexact M16
    isplitl [M17]; · iexact M17
    isplitl [M18]; · iexact M18
    isplitl [M19]; · iexact M19
    isplitl [M20]; · iexact M20
    isplitl [M21]; · iexact M21
    isplitl [M22]; · iexact M22
    iexact M23
  iexact Hg
theorem body_phi (c : Dev nD) : iprop(BodyRes c (V m c) ∗ (∃ r, prngReg c r)) ⊢ (Pipeline.ΦD osem0 spec0 H0 (V m) c : sProp 𝕄) := by
  rw [PhiD0_eq]
  unfold BodyRes
  iintro ⟨⟨A3, A4, A5, A6, A7, A8, S0, S1, S2, S3, S4, S5, S6, S7, S8, S9, S10, S11, S12, S13, M4, M5, M6, M7, M8, M9, M10, M11, M12, M13, M14, M15, M16, M17, M18, M19, M20, M21, M22, M23⟩, Hg⟩
  isplitl [S0 S1 S2 S3 S4 S5 S6 S7 S8 S9 S10 S11 S12 S13]
  ·
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  isplitl [Hg]; · iexact Hg
  isplitl [M4 M5 M6 M7 M8 M9 M10 M11 M12 M13 M14 M15 M16 M17 M18 M19 M20 M21 M22 M23]
  ·
    isplitl [M4]; · iexact M4
    isplitl [M5]; · iexact M5
    isplitl [M6]; · iexact M6
    isplitl [M7]; · iexact M7
    isplitl [M8]; · iexact M8
    isplitl [M9]; · iexact M9
    isplitl [M10]; · iexact M10
    isplitl [M11]; · iexact M11
    isplitl [M12]; · iexact M12
    isplitl [M13]; · iexact M13
    isplitl [M14]; · iexact M14
    isplitl [M15]; · iexact M15
    isplitl [M16]; · iexact M16
    isplitl [M17]; · iexact M17
    isplitl [M18]; · iexact M18
    isplitl [M19]; · iexact M19
    isplitl [M20]; · iexact M20
    isplitl [M21]; · iexact M21
    isplitl [M22]; · iexact M22
    iexact M23
  isplitl [A3]; · iexact A3
  isplitl [A4]; · iexact A4
  isplitl [A5]; · iexact A5
  isplitl [A6]; · iexact A6
  isplitl [A7]; · iexact A7
  iexact A8

/-! ## The proof data -/

/-- The block of a staged window, which is the whole array. -/
abbrev inX (c : Dev nD) (t : Fin cfg0.N) : Vec F S96x3072 .bf16 := iblk m c 0 t
abbrev inIds (c : Dev nD) (t : Fin cfg0.N) : Vec F S96x8 .i32 := iblk m c 1 t
abbrev inWts (c : Dev nD) (t : Fin cfg0.N) : Vec F S96x8 .f32 := iblk m c 2 t
/-- What the body leaves in the result's staging buffer. -/
def outBlk (c : Dev nD) (t : Fin cfg0.N) : Vec F S96x3072 .bf16 := outVal c (V m c) (inX m c t) (inIds m c t) (inWts m c t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlk m c t := by dsimp only [dats]

theorem before0_0 (c : Dev nD) (t : Fin cfg0.N) (d) : (dats m 0 c).before 0 t d = iblk m c 0 t :=
  staged0_0_of m (dats m 0 c) (A_eq m c 0) (after0_0 m c) t d
theorem before0_1 (c : Dev nD) (t : Fin cfg0.N) (d) : (dats m 0 c).before 1 t d = iblk m c 1 t :=
  staged0_1_of m (dats m 0 c) (A_eq m c 1) (after0_1 m c) t d
theorem before0_2 (c : Dev nD) (t : Fin cfg0.N) (d) : (dats m 0 c).before 2 t d = iblk m c 2 t :=
  staged0_2_of m (dats m 0 c) (A_eq m c 2) (after0_2 m c) t d

/-! ## The body obligation -/

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem owns0_0 (c : Dev nD) (d : Vec F S96x3072 .bf16) :
    (owns (c : Thread nD τ) (st0_0 t0_0) fullShare d : sProp 𝕄) = ((c : Thread nD τ).loc cc0_stg0_0 ↦{fullShare} (d : Buf (Elt F) ((c : Thread nD τ).loc cc0_stg0_0))) :=
  owns_whole (c : Thread nD τ) cc0_stg0_0 fullShare d
theorem owns0_1 (c : Dev nD) (d : Vec F S96x8 .i32) :
    (owns (c : Thread nD τ) (st0_1 t0_0) fullShare d : sProp 𝕄) = ((c : Thread nD τ).loc cc0_stg1_0 ↦{fullShare} (d : Buf (Elt F) ((c : Thread nD τ).loc cc0_stg1_0))) :=
  owns_whole (c : Thread nD τ) cc0_stg1_0 fullShare d
theorem owns0_2 (c : Dev nD) (d : Vec F S96x8 .f32) :
    (owns (c : Thread nD τ) (st0_2 t0_0) fullShare d : sProp 𝕄) = ((c : Thread nD τ).loc cc0_stg2_0 ↦{fullShare} (d : Buf (Elt F) ((c : Thread nD τ).loc cc0_stg2_0))) :=
  owns_whole (c : Thread nD τ) cc0_stg2_0 fullShare d
theorem owns0_3 (c : Dev nD) (d : Vec F S96x3072 .bf16) :
    (owns (c : Thread nD τ) (st0_3 t0_0) fullShare d : sProp 𝕄) = ((c : Thread nD τ).loc cc0_stg3_0 ↦{fullShare} (d : Buf (Elt F) ((c : Thread nD τ).loc cc0_stg3_0))) :=
  owns_whole (c : Thread nD τ) cc0_stg3_0 fullShare d

theorem pre_run (c : Dev nD) : bodyPre m c t0_0 ⊢ iprop((((c : Thread nD τ).loc cc0_stg0_0 ↦{fullShare} (inX m c t0_0 : Buf (Elt F) ((c : Thread nD τ).loc cc0_stg0_0)))
      ∗ ((c : Thread nD τ).loc cc0_stg1_0 ↦{fullShare} (inIds m c t0_0 : Buf (Elt F) ((c : Thread nD τ).loc cc0_stg1_0)))
      ∗ ((c : Thread nD τ).loc cc0_stg2_0 ↦{fullShare} (inWts m c t0_0 : Buf (Elt F) ((c : Thread nD τ).loc cc0_stg2_0)))
      ∗ (∃ g3 : Vec F S96x3072 .bf16, ((c : Thread nD τ).loc cc0_stg3_0 ↦{fullShare} (g3 : Buf (Elt F) ((c : Thread nD τ).loc cc0_stg3_0))))
      ∗ BodyRes c (V m c) ∗ (∃ W, owes (c : Thread nD τ) 0 W)) ∗ (∃ r, prngReg c r)) := by
  unfold bodyPre
  rw [show (dats m 0 c).Φ (t0_0 : Fin cfg0.N).castSucc = Pipeline.ΦD osem0 spec0 H0 (V m) c from rfl]
  unfold Dat.owesAt Pipeline.owesWithin
  rw [show (dats m 0 c).owed (t0_0 : Fin cfg0.N).castSucc = 0 from rfl]
  iintro ⟨HΦ, ⟨%W, -, HW⟩, ⟨%d0, H0⟩, ⟨%d1, H1⟩, ⟨%d2, H2⟩, ⟨%d3, H3⟩⟩
  rw [before0_0, before0_1, before0_2]
  ihave HB := (phi_body m c) $$ HΦ
  icases HB with ⟨HB, Hg⟩
  isplitr [Hg]
  swap; · iexact Hg
  isplitl [H0]; · iapply (ent_of_eq (owns0_0 c (inX m c t0_0))); iexact H0
  isplitl [H1]; · iapply (ent_of_eq (owns0_1 c (inIds m c t0_0))); iexact H1
  isplitl [H2]; · iapply (ent_of_eq (owns0_2 c (inWts m c t0_0))); iexact H2
  isplitl [H3]; · iexists ((dats m 0 c).before 3 t0_0 d3); iapply (ent_of_eq (owns0_3 c ((dats m 0 c).before 3 t0_0 d3))); iexact H3
  isplitl [HB]; · iexact HB
  iexists W; iexact HW

theorem post_run (c : Dev nD) : iprop(((c : Thread nD τ).loc cc0_stg0_0 ↦{fullShare} (inX m c t0_0 : Buf (Elt F) ((c : Thread nD τ).loc cc0_stg0_0)))
      ∗ ((c : Thread nD τ).loc cc0_stg1_0 ↦{fullShare} (inIds m c t0_0 : Buf (Elt F) ((c : Thread nD τ).loc cc0_stg1_0)))
      ∗ ((c : Thread nD τ).loc cc0_stg2_0 ↦{fullShare} (inWts m c t0_0 : Buf (Elt F) ((c : Thread nD τ).loc cc0_stg2_0)))
      ∗ ((c : Thread nD τ).loc cc0_stg3_0 ↦{fullShare} (outBlk m c t0_0 : Buf (Elt F) ((c : Thread nD τ).loc cc0_stg3_0)))
      ∗ BodyRes c (V m c) ∗ (∃ W, owes (c : Thread nD τ) 0 W) ∗ (∃ r, prngReg c r)) ⊢ bodyPost m c t0_0 := by
  unfold bodyPost
  rw [show (dats m 0 c).Φ (t0_0 : Fin cfg0.N).succ = Pipeline.ΦD osem0 spec0 H0 (V m) c from rfl]
  unfold Dat.owesAt Pipeline.owesWithin
  rw [show (dats m 0 c).owed (t0_0 : Fin cfg0.N).succ = 0 from rfl]
  rw [after0_0, after0_1, after0_2, after0_3]
  iintro ⟨H0, H1, H2, H3, HB, ⟨%W, HW⟩, Hg⟩
  isplitl [HB Hg]
  · iapply (body_phi m c)
    isplitl [HB]; · iexact HB
    iexact Hg
  isplitl [HW]
  · iexists W; isplitr
    · ipureintro; exact fun _ _ => Or.inl trivial
    iexact HW
  isplitl [H0]; · iapply (ent_of_eq (owns0_0 c (inX m c t0_0)).symm); iexact H0
  isplitl [H1]; · iapply (ent_of_eq (owns0_1 c (inIds m c t0_0)).symm); iexact H1
  isplitl [H2]; · iapply (ent_of_eq (owns0_2 c (inWts m c t0_0)).symm); iexact H2
  iapply (ent_of_eq (owns0_3 c (outBlk m c t0_0)).symm); iexact H3

theorem sound_body (c : Dev nD) (t : Fin cfg0.N) :
    bodyPre m c t ⊢ wp frame (wpE (defs₀ (F := F)) Variants.none c none) Set.univ (bodyAt0 t) (fun _ => bodyPost m c t) := by
  obtain rfl := fin_N0 t
  refine (pre_run m c).trans ?_
  iintro ⟨⟨H0, H1, H2, ⟨%g3, H3⟩, HB, HO⟩, Hg⟩
  iapply (body_run (Q := fun _ => bodyPost m c t0_0) c (V m c) (inX m c t0_0) (inIds m c t0_0) (inWts m c t0_0) g3) $$ [H0 H1 H2 H3 HB HO]
  · isplitl [H0]; · iexact H0
    isplitl [H1]; · iexact H1
    isplitl [H2]; · iexact H2
    isplitl [H3]; · iexact H3
    isplitl [HB]; · iexact HB
    iexact HO
  iintro H0 H1 H2 H3 HB HO
  iapply (post_run m c)
  isplitl [H0]; · iexact H0
  isplitl [H1]; · iexact H1
  isplitl [H2]; · iexact H2
  isplitl [H3]; · iexact H3
  isplitl [HB]; · iexact HB
  isplitl [HO]; · iexact HO
  iexact Hg

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := fun _ => .rfl) (hout := fun _ => .rfl)

/-- What the result holds in the end: the reshaped block the body left. -/
theorem run_value : θ_run defs (onTc (τ := τ) (main (F := F))) ⟨m, fun _ => 0, ρ⟩ (fun r => (∀ c : Dev nD,
      r.2.mem ((c.tc : Thread nD τ).loc main_v4) = Pipeline.afterTail₀ cfgs (dats m) 0 (V0 m) [hostOps1] c main_v4
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  (θ_run defs _ _).mono (fun _ h => ⟨fun c => ⟨(h.1 c).2 main_v4 (Pipeline.mem_restRefs_of main_v4 (by decide) (by decide)),
      ((h.1 c).2 main_arg0 (Pipeline.mem_restRefs_of main_arg0 (by decide) (by decide))).trans (ends_main_arg0 m (dats m) c), ((h.1 c).2 main_arg1 (Pipeline.mem_restRefs_of main_arg1 (by decide) (by decide))).trans (ends_main_arg1 m (dats m) c), ((h.1 c).2 main_arg2 (Pipeline.mem_restRefs_of main_arg2 (by decide) (by decide))).trans (ends_main_arg2 m (dats m) c), ((h.1 c).2 main_arg3 (Pipeline.mem_restRefs_of main_arg3 (by decide) (by decide))).trans (ends_main_arg3 m (dats m) c), ((h.1 c).2 main_arg4 (Pipeline.mem_restRefs_of main_arg4 (by decide) (by decide))).trans (ends_main_arg4 m (dats m) c), ((h.1 c).2 main_arg5 (Pipeline.mem_restRefs_of main_arg5 (by decide) (by decide))).trans (ends_main_arg5 m (dats m) c), ((h.1 c).2 main_arg6 (Pipeline.mem_restRefs_of main_arg6 (by decide) (by decide))).trans (ends_main_arg6 m (dats m) c), ((h.1 c).2 main_arg7 (Pipeline.mem_restRefs_of main_arg7 (by decide) (by decide))).trans (ends_main_arg7 m (dats m) c), ((h.1 c).2 main_arg8 (Pipeline.mem_restRefs_of main_arg8 (by decide) (by decide))).trans (ends_main_arg8 m (dats m) c)⟩, h.2⟩) (run_main m ρ)

end Cert.KernelIdeal.Hand

end
-- ==== Proof.Spec.lean ====
/-
  The layer's mathematics over the extended reals: the codes a packed weight holds, the weight they stand for, the gated
  hidden activation, an expert's output, and the mixture of the experts' outputs, the last in two forms that agree when no
  routing weight is negative.
-/
module

public import Idealize.ShloMosaic.Lib.Pointwise

@[expose] public section

noncomputable section

namespace Cert.Spec

open Idealize.ShloMosaic

/-- An element of a stack of matrices, its row and column given as numbers. -/
def at3 {n0 n1 n2 : ℕ} [NeZero n1] [NeZero n2] {β : Type} (A : (⟨3, ![n0, n1, n2]⟩ : Shape).Idx → β) (e : Fin n0) (r c : ℕ) : β :=
  A (ix3 e (Fin.ofNat n1 r) (Fin.ofNat n2 c))

theorem at3_eq {n0 n1 n2 : ℕ} [NeZero n1] [NeZero n2] {β : Type} (A : (⟨3, ![n0, n1, n2]⟩ : Shape).Idx → β) (e : Fin n0) {r c : ℕ}
    {a : Fin n1} {b : Fin n2} (ha : a.val = r) (hb : b.val = c) : A (ix3 e a b) = at3 A e r c := by
  subst ha hb
  unfold at3
  rw [Fin.ofNat_eq_cast, Fin.ofNat_eq_cast, Fin.cast_val_eq_self, Fin.cast_val_eq_self]

/-- The low code of a byte. -/
def lo (b : BitVec 8) : EReal := (((IntOp.andi (b.setWidth 32) 15#32).toInt : ℝ) : EReal)
/-- The high code of a byte. -/
def hi (b : BitVec 8) : EReal := (((IntOp.shrsi .vector (b.setWidth 32) 4#32).toInt : ℝ) : EReal)

theorem shrsi_unit (u : ArithUnit) (x : BitVec 32) : IntOp.shrsi u x 4#32 = IntOp.shrsi .vector x 4#32 := by
  have h : (4#32 : BitVec 32).toNat < 32 := by decide
  unfold IntOp.shrsi
  rw [if_pos h, if_pos h]

/-- The code of row `r`: two rows share a byte, the even one in its low half. -/
def code {n0 n1 n2 : ℕ} [NeZero n1] [NeZero n2] (W : (⟨3, ![n0, n1, n2]⟩ : Shape).Idx → BitVec 8) (e : Fin n0) (r c : ℕ) : EReal :=
  if r % 2 < 1 then lo (at3 W e (r / 2) c) else hi (at3 W e (r / 2) c)

/-- The zero point of a group and a column: the two halves of the columns share bytes. -/
def zero {n0 n1 n2 : ℕ} [NeZero n1] [NeZero n2] (half : ℕ) (Z : (⟨3, ![n0, n1, n2]⟩ : Shape).Idx → BitVec 8) (e : Fin n0) (g c : ℕ) : EReal :=
  if c < half then lo (at3 Z e g c) else hi (at3 Z e g (c - half))

/-- The weight a code stands for; a group is 128 rows. -/
def deq {n0 n1 n2 n3 n4 n5 n6 : ℕ} [NeZero n1] [NeZero n2] [NeZero n3] [NeZero n4] [NeZero n5] [NeZero n6] (half : ℕ)
    (W : (⟨3, ![n0, n1, n2]⟩ : Shape).Idx → BitVec 8) (S : (⟨3, ![n0, n3, n4]⟩ : Shape).Idx → EReal)
    (Z : (⟨3, ![n0, n5, n6]⟩ : Shape).Idx → BitVec 8) (e : Fin n0) (r c : ℕ) : EReal :=
  (code W e r c - zero half Z e (r / 128) c) * at3 S e (r / 128) c

theorem code_eq {n0 n1 n2 : ℕ} [NeZero n1] [NeZero n2] (W : (⟨3, ![n0, n1, n2]⟩ : Shape).Idx → BitVec 8) (e : Fin n0) {r c : ℕ}
    {a : Fin n1} {b : Fin n2} {p : Prop} [Decidable p] (u : ArithUnit) (φ : FTy) (hp : p ↔ r % 2 < 1) (ha : a.val = r / 2) (hb : b.val = c) :
    (FloatOps.sitofp (F := Ideal) φ (if _h : p then IntOp.andi ((W (ix3 e a b)).setWidth 32) 15#32 else IntOp.shrsi u ((W (ix3 e a b)).setWidth 32) 4#32) : EReal)
      = code W e r c := by
  unfold code
  rw [at3_eq W e ha hb, shrsi_unit u]
  by_cases h : p
  · rw [dif_pos h, if_pos (hp.1 h)]; rfl
  · rw [dif_neg h, if_neg (fun h' => h (hp.2 h'))]; rfl

theorem lo_eq {n0 n1 n2 : ℕ} [NeZero n1] [NeZero n2] (Z : (⟨3, ![n0, n1, n2]⟩ : Shape).Idx → BitVec 8) (e : Fin n0) {half g c : ℕ}
    {a : Fin n1} {b : Fin n2} (φ : FTy) (hp : c < half) (ha : a.val = g) (hb : b.val = c) :
    (FloatOps.sitofp (F := Ideal) φ (IntOp.andi ((Z (ix3 e a b)).setWidth 32) 15#32) : EReal) = zero half Z e g c := by
  unfold zero
  rw [at3_eq Z e ha hb, if_pos hp]; rfl

theorem hi_eq {n0 n1 n2 : ℕ} [NeZero n1] [NeZero n2] (Z : (⟨3, ![n0, n1, n2]⟩ : Shape).Idx → BitVec 8) (e : Fin n0) {half g c : ℕ}
    {a : Fin n1} {b : Fin n2} (u : ArithUnit) (φ : FTy) (hp : ¬ c < half) (ha : a.val = g) (hb : b.val = c - half) :
    (FloatOps.sitofp (F := Ideal) φ (IntOp.shrsi u ((Z (ix3 e a b)).setWidth 32) 4#32) : EReal) = zero half Z e g c := by
  unfold zero
  rw [at3_eq Z e ha hb, if_neg hp, shrsi_unit u]; rfl

theorem zero_eq {n0 n1 n2 : ℕ} [NeZero n1] [NeZero n2] (Z : (⟨3, ![n0, n1, n2]⟩ : Shape).Idx → BitVec 8) (e : Fin n0) {half g c : ℕ}
    {a : Fin n1} {b b' : ¬ c < half → Fin n2} {b0 : c < half → Fin n2} (u : ArithUnit) (φ : FTy) (ha : a.val = g)
    (hb0 : ∀ h, (b0 h).val = c) (hb : ∀ h, (b h).val = c - half) :
    (FloatOps.sitofp (F := Ideal) φ (if h : c < half then IntOp.andi ((Z (ix3 e a (b0 h))).setWidth 32) 15#32 else IntOp.shrsi u ((Z (ix3 e a (b h))).setWidth 32) 4#32) : EReal)
      = zero half Z e g c := by
  by_cases h : c < half
  · rw [dif_pos h]; exact lo_eq Z e φ h ha (hb0 h)
  · rw [dif_neg h]; exact hi_eq Z e u φ h ha (hb h)

/-- One element of the first product. -/
def gu (D : ℕ → ℕ → EReal) (x : ℕ → EReal) (c : ℕ) : EReal := ∑ r ∈ Finset.range 3072, D r c * x r

/-- One hidden activation: the gate through its sigmoid unit, times the other half's product. -/
def hid (D : ℕ → ℕ → EReal) (x : ℕ → EReal) (f : ℕ) : EReal :=
  gu D x f * Ideal.div 1 (1 + Ideal.exp (-gu D x f)) * gu D x (2048 + f)

/-- One element of an expert's output. -/
def yv (D1 D2 : ℕ → ℕ → EReal) (x : ℕ → EReal) (d : ℕ) : EReal := ∑ f ∈ Finset.range 2048, hid D1 x f * D2 f d

/-- The mixture, one assignment at a time: its expert's output times its routing weight. -/
def mix (y : Fin 16 → EReal) (id : Fin 8 → BitVec 32) (w : Fin 8 → EReal) : EReal :=
  ∑ k, (∑ e : Fin 16, if id k = BitVec.ofNat 32 e.val then y e else 0) * w k

/-- The mixture, one expert at a time: its output times the sum of the routing weights that name it. -/
def mixK (y : Fin 16 → EReal) (id : Fin 8 → BitVec 32) (w : Fin 8 → EReal) : EReal :=
  ∑ e : Fin 16, y e * ∑ k, if id k = BitVec.ofNat 32 e.val then w k else 0

theorem mul_sum_nonneg {ι : Type} (s : Finset ι) (y : EReal) (f : ι → EReal) (hf : ∀ i, 0 ≤ f i) : y * ∑ i ∈ s, f i = ∑ i ∈ s, y * f i := by
  classical
  induction s using Finset.induction_on with
  | empty => rw [Finset.sum_empty, Finset.sum_empty, mul_zero]
  | insert a s ha ih =>
    rw [Finset.sum_insert ha, Finset.sum_insert ha, EReal.left_distrib_of_nonneg (hf a) (Finset.sum_nonneg fun i _ => hf i), ih]

theorem ofNat_inj16 {a b : Fin 16} (h : BitVec.ofNat 32 a.val = BitVec.ofNat 32 b.val) : a = b := by
  have := congrArg BitVec.toNat h
  rw [BitVec.toNat_ofNat, BitVec.toNat_ofNat, Nat.mod_eq_of_lt (by omega), Nat.mod_eq_of_lt (by omega)] at this
  exact Fin.ext this

theorem pick_mul (y : Fin 16 → EReal) (i : BitVec 32) (w : EReal) :
    (∑ e : Fin 16, if i = BitVec.ofNat 32 e.val then y e else 0) * w = ∑ e : Fin 16, if i = BitVec.ofNat 32 e.val then y e * w else 0 := by
  by_cases h : ∃ e0 : Fin 16, i = BitVec.ofNat 32 e0.val
  · obtain ⟨e0, h0⟩ := h
    have hc : ∀ e : Fin 16, (i = BitVec.ofNat 32 e.val) = (e0 = e) := fun e =>
      propext ⟨fun h' => ofNat_inj16 (h0.symm.trans h'), fun h' => h' ▸ h0⟩
    simp only [hc, Finset.sum_ite_eq, Finset.mem_univ, if_true]
  · have hc : ∀ e : Fin 16, ¬ i = BitVec.ofNat 32 e.val := fun e he => h ⟨e, he⟩
    simp only [hc, if_false, Finset.sum_const_zero, zero_mul]

theorem mix_eq (y : Fin 16 → EReal) (id : Fin 8 → BitVec 32) (w : Fin 8 → EReal) (hw : ∀ k, 0 ≤ w k) : mix y id w = mixK y id w := by
  unfold mix mixK
  simp only [pick_mul]
  rw [Finset.sum_comm]
  refine Finset.sum_congr rfl fun e _ => ?_
  rw [mul_sum_nonneg _ _ _ (fun k => by split; exacts [hw k, le_refl _])]
  refine Finset.sum_congr rfl fun k _ => ?_
  split
  · rfl
  · rw [mul_zero]

/-- A comparison that selects. -/
theorem select_eq {α : Type} (a b : BitVec 32) (x y : α) : Scalar.select (IntOp.cmpi .eq a b) x y = if a = b then x else y := by
  by_cases h : a = b
  · subst h; rw [if_pos rfl, IntOp.cmpi_eq_self]; rfl
  · rw [if_neg h]
    have hb : (a == b) = false := by simpa using h
    exact Scalar.select_of_ne_one (by simp [IntOp.cmpi, hb]) _ _

/-- One more block of 256 addends. -/
theorem sum_block (f : ℕ → EReal) (k : ℕ) :
    (∑ r ∈ Finset.range (256 * k), f r) + ((∑ r : Fin 128, f (256 * k + r.val)) + ∑ r : Fin 128, f (256 * k + 128 + r.val)) = ∑ r ∈ Finset.range (256 * (k + 1)), f r := by
  rw [show 256 * (k + 1) = 256 * k + 128 + 128 from by omega, Finset.sum_range_add, Finset.sum_range_add, add_assoc]
  rw [Finset.sum_range (n := 128) (fun x => f (256 * k + x)), Finset.sum_range (n := 128) (fun x => f (256 * k + 128 + x))]

end Cert.Spec

end
-- ==== Proof.IdealTiles.lean ====
/-
  The kernel's tiles at the ideal instance, element by element: a dequantised tile of the packed weights, the sums the
  contraction loops carry, the hidden activations and the accumulator after one expert.
-/
module

public import proofs.«01_k».proof.Proof.IdealExpert
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe
open Cert.Spec

/-! ## One dequantised tile -/

theorem half_eq {n0 n1 n2 n3 n4 n5 n6 : ℕ} [NeZero n1] [NeZero n2] [NeZero n3] [NeZero n4] [NeZero n5] [NeZero n6] (half : ℕ)
    (W : (⟨3, ![n0, n1, n2]⟩ : Shape).Idx → BitVec 8) (S : (⟨3, ![n0, n3, n4]⟩ : Shape).Idx → EReal)
    (Z : (⟨3, ![n0, n5, n6]⟩ : Shape).Idx → BitVec 8) (e : Fin n0) (b g C : ℕ) (hb : b = 64 * g) (r : Fin 128) (c : Fin 256)
    (φ : FTy) (u : ArithUnit) (z s : EReal) (hz : z = zero half Z e g (C + c.val)) (hs : s = at3 S e g (C + c.val)) (i : Fin 64) (hi : i.val = r.val / 2) :
    ((FloatOps.sitofp (F := Ideal) φ (if _h : r.val % 2 < 1 then IntOp.andi ((blk3 W e b C (ix3 0 i c)).setWidth 32) 15#32
        else IntOp.shrsi u ((blk3 W e b C (ix3 0 i c)).setWidth 32) 4#32) : EReal) - z) * s = deq half W S Z e (128 * g + r.val) (C + c.val) := by
  subst hz hs hb
  have h1 : (128 * g + r.val) / 128 = g := by omega
  unfold deq
  rw [h1]
  congr 2
  unfold code
  have h2 : (128 * g + r.val) % 2 = r.val % 2 := by omega
  have h3 : (128 * g + r.val) / 2 = 64 * g + i.val := by omega
  rw [h2, h3, shrsi_unit u]
  by_cases h : r.val % 2 < 1
  · rw [dif_pos h, if_pos h]; rfl
  · rw [dif_neg h, if_neg h]; rfl

theorem pay25_at (W : Vec Ideal S1x64x256 .i8) (S Z : Vec Ideal S1x256 .f32) (r : Fin 128) (c : Fin 256) :
    (k0_pay25 (F := Ideal) W S Z (ix2 r c) : EReal) = ((FloatOps.sitofp (F := Ideal) .bf16 (if _h : r.val % 2 < 1 then IntOp.andi ((W (ix3 0 ⟨r.val / 2, by omega⟩ c)).setWidth 32) 15#32
        else IntOp.shrsi .vector ((W (ix3 0 ⟨r.val / 2, by omega⟩ c)).setWidth 32) 4#32) : EReal) - Z (ix2 0 c)) * S (ix2 0 c) := by
  pointwise [k0_pay25]

theorem pay10_at (acc : FVec Ideal S96x256 .f32) (x : FVec Ideal S96x256 .bf16) (a b : FVec Ideal S128x256 .bf16) (r : Fin 96) (c : Fin 256) :
    (k0_pay10 (F := Ideal) acc x a b (ix2 r c) : EReal)
      = (acc (ix2 r c) : EReal) + ((∑ j : Fin 128, (x (ix2 r ⟨j.val, by omega⟩) : EReal) * a (ix2 j c)) + ∑ j : Fin 128, (x (ix2 r ⟨128 + j.val, by omega⟩) : EReal) * b (ix2 j c)) := by
  pointwise [k0_pay10]

theorem pay31_at (W : Vec Ideal S1x64x256 .i8) (S Z : Vec Ideal S1x256 .f32) : k0_pay31 (F := Ideal) (k0_pay28 W) (k0_pay29 S) (k0_pay30 Z) = k0_pay25 W S Z := rfl
theorem pay32_at (W : Vec Ideal S1x64x256 .i8) (S Z : Vec Ideal S1x256 .f32) : k0_pay32 (F := Ideal) W S Z = k0_pay25 W S Z := rfl
theorem pay33_at (W : Vec Ideal S1x64x256 .i8) (S Z : Vec Ideal S1x256 .f32) : k0_pay33 (F := Ideal) W S Z = k0_pay25 W S Z := rfl
theorem pay27_at (acc : FVec Ideal S96x256 .f32) (x : FVec Ideal S96x256 .bf16) (a : FVec Ideal S128x256 .bf16) (W : Vec Ideal S1x64x256 .i8) (S Z : Vec Ideal S1x256 .f32) :
    k0_pay27 (F := Ideal) acc x a (k0_pay26 W) S Z = k0_pay10 acc x a (k0_pay25 W S Z) := rfl
theorem pay13_at (acc : FVec Ideal S96x256 .f32) (x : FVec Ideal S96x256 .bf16) (a : FVec Ideal S128x256 .bf16) (W : Vec Ideal S1x64x256 .i8) (S Z : Vec Ideal S1x256 .f32) :
    k0_pay13 (F := Ideal) acc x a (k0_pay34 W) S Z = k0_pay10 acc x a (k0_pay25 W S Z) := rfl
theorem pay24_at (x : Vec Ideal S96x256 .bf16) (i : Fin 96) (j : Fin 256) : k0_pay24 (F := Ideal) x (ix2 i j) = x (ix2 i j) := by
  pointwise [k0_pay24]
theorem pay9_at (i : Fin 96) (j : Fin 256) : (k0_pay9 (F := Ideal) (ix2 i j) : EReal) = 0 := by
  pointwise [k0_pay9]
theorem pay12_at (i : Fin 96) (j : Fin 256) : (k0_pay12 (F := Ideal) (ix2 i j) : EReal) = 0 := by
  pointwise [k0_pay12]

/-- An element of a row block. -/
theorem row_at {n1 m1 : ℕ} [NeZero n1] {β : Type} (T : (⟨2, ![96, n1]⟩ : Shape).Idx → β) (C : ℕ) (i : Fin 96) (j : Fin m1) :
    blk2 96 m1 T 0 C (ix2 i j) = T (ix2 i (Fin.ofNat n1 (C + j.val))) := by
  show T (ix2 (Fin.ofNat 96 (0 + i.val)) (Fin.ofNat n1 (C + j.val))) = _
  rw [show Fin.ofNat 96 (0 + i.val) = i from Fin.ext (show (0 + i.val) % 96 = i.val by omega)]

/-! ## One contraction step -/

/-- A product of one row block with the two dequantised tiles of a contraction step. -/
theorem step_eq {n0 n1 n2 n3 n4 n5 n6 : ℕ} [NeZero n1] [NeZero n2] [NeZero n3] [NeZero n4] [NeZero n5] [NeZero n6] (half : ℕ)
    (W : (⟨3, ![n0, n1, n2]⟩ : Shape).Idx → BitVec 8) (S : (⟨3, ![n0, n3, n4]⟩ : Shape).Idx → EReal)
    (Z : (⟨3, ![n0, n5, n6]⟩ : Shape).Idx → BitVec 8) (e : Fin n0) (T U : (⟨2, ![n3, n4]⟩ : Shape).Idx → EReal) (lim : ℕ)
    (hS : ∀ g C, T (ix2 (Fin.ofNat n3 g) (Fin.ofNat n4 C)) = at3 S e g C)
    (hZ : ∀ g C, C < lim → U (ix2 (Fin.ofNat n3 g) (Fin.ofNat n4 C)) = zero half Z e g C)
    (X : ℕ → EReal) (acc : FVec Ideal S96x256 .f32) (xb : FVec Ideal S96x256 .bf16) (k C : ℕ) (hC : C + 256 ≤ lim) (i : Fin 96) (c : Fin 256)
    (hx : ∀ j : Fin 256, (xb (ix2 i j) : EReal) = X (256 * k + j.val))
    (hacc : (acc (ix2 i c) : EReal) = ∑ r ∈ Finset.range (256 * k), deq half W S Z e r (C + c.val) * X r) :
    (k0_pay10 (F := Ideal) acc xb (k0_pay25 (F := Ideal) (blk3 W e (128 * k) C) (blk2 1 256 T (2 * k) C) (blk2 1 256 U (2 * k) C))
        (k0_pay25 (F := Ideal) (blk3 W e (128 * k + 64) C) (blk2 1 256 T (2 * k + 1) C) (blk2 1 256 U (2 * k + 1) C)) (ix2 i c) : EReal)
      = ∑ r ∈ Finset.range (256 * (k + 1)), deq half W S Z e r (C + c.val) * X r := by
  rw [pay10_at, hacc, ← sum_block]
  congr 2
  · refine Finset.sum_congr rfl fun j _ => ?_
    rw [hx, pay25_at, half_eq half W S Z e (128 * k) (2 * k) C (by omega) j c .bf16 .vector (blk2 1 256 U (2 * k) C (ix2 0 c)) (blk2 1 256 T (2 * k) C (ix2 0 c)) (hZ (2 * k + 0) (C + c.val) (by omega)) (hS (2 * k + 0) (C + c.val)) ⟨j.val / 2, by omega⟩ rfl, mul_comm]
    congr 2; omega
  · refine Finset.sum_congr rfl fun j _ => ?_
    rw [hx, pay25_at, half_eq half W S Z e (128 * k + 64) (2 * k + 1) C (by omega) j c .bf16 .vector (blk2 1 256 U (2 * k + 1) C (ix2 0 c)) (blk2 1 256 T (2 * k + 1) C (ix2 0 c)) (hZ (2 * k + 1 + 0) (C + c.val) (by omega)) (hS (2 * k + 1 + 0) (C + c.val)) ⟨j.val / 2, by omega⟩ rfl, mul_comm]
    congr 2
    · omega
    · show 256 * k + (128 + j.val) = _
      omega

/-! ## The two halves of the first product -/

theorem up_at (x : Vec Ideal S96x3072 .bf16) (W : Vec Ideal S16x1536x4096 .i8) (S : Vec Ideal S16x24x4096 .bf16) (Z : Vec Ideal S16x24x2048 .i8) (e : Fin 16)
    (T16 T17 : Vec Ideal S24x4096 .f32)
    (hS : ∀ g C, T16 (ix2 (Fin.ofNat 24 g) (Fin.ofNat 4096 C)) = at3 S e g C)
    (hZ : ∀ g C, C < 4096 → T17 (ix2 (Fin.ofNat 24 g) (Fin.ofNat 4096 C)) = zero 2048 Z e g C) (t : ℕ) (ht : t < 8) (i : Fin 96) (c : Fin 256) (k : ℕ) :
    ((upFold (F := Ideal) x W e T16 T17 t k).1 (ix2 i c) : EReal)
        = ∑ r ∈ Finset.range (256 * k), deq 2048 W S Z e r (256 * t + c.val) * (x (ix2 i (Fin.ofNat 3072 r)) : EReal)
      ∧ ((upFold (F := Ideal) x W e T16 T17 t k).2 (ix2 i c) : EReal)
        = ∑ r ∈ Finset.range (256 * k), deq 2048 W S Z e r (2048 + 256 * t + c.val) * (x (ix2 i (Fin.ofNat 3072 r)) : EReal) := by
  induction k with
  | zero => exact ⟨pay9_at i c, pay9_at i c⟩
  | succ k ih =>
    have hx : ∀ j : Fin 256, (k0_pay24 (F := Ideal) (xBlk x k) (ix2 i j) : EReal) = (fun r => (x (ix2 i (Fin.ofNat 3072 r)) : EReal)) (256 * k + j.val) :=
      fun j => (pay24_at _ i j).trans (row_at x (256 * k) i j)
    unfold upFold upStep
    refine ⟨?_, ?_⟩
    · dsimp only
      rw [pay27_at]
      exact step_eq 2048 W S Z e T16 T17 4096 hS hZ _ _ _ k (256 * t) (by omega) i c hx ih.1
    · dsimp only
      rw [pay31_at, pay32_at]
      exact step_eq 2048 W S Z e T16 T17 4096 hS hZ _ _ _ k (2048 + 256 * t) (by omega) i c hx ih.2

/-! ## The tables of scales and zero points -/

theorem T16_at (c : Dev nD) (X : (b : Ref sig .tc) → Buf (Elt Ideal) ((c : Thread nD τ).loc b)) (e : Fin 16) (g C : ℕ) :
    T16 (F := Ideal) c X e (ix2 (Fin.ofNat 24 g) (Fin.ofNat 4096 C)) = at3 (X main_arg4 : Vec Ideal S16x24x4096 .bf16) e g C := by
  have h : ∀ (v : Vec Ideal S1x24x4096 .bf16) (a : Fin 24) (b : Fin 4096), k0_pay35 (F := Ideal) v (ix2 a b) = v (ix3 0 a b) := by
    intro v a b; pointwise [k0_pay35]
  exact h _ _ _

theorem T18_at (c : Dev nD) (X : (b : Ref sig .tc) → Buf (Elt Ideal) ((c : Thread nD τ).loc b)) (e : Fin 16) (g C : ℕ) :
    T18 (F := Ideal) c X e (ix2 (Fin.ofNat 16 g) (Fin.ofNat 3072 C)) = at3 (X main_arg7 : Vec Ideal S16x16x3072 .bf16) e g C := by
  have h : ∀ (v : Vec Ideal S1x16x3072 .bf16) (a : Fin 16) (b : Fin 3072), k0_pay36 (F := Ideal) v (ix2 a b) = v (ix3 0 a b) := by
    intro v a b; pointwise [k0_pay36]
  exact h _ _ _

theorem T17_at (c : Dev nD) (X : (b : Ref sig .tc) → Buf (Elt Ideal) ((c : Thread nD τ).loc b)) (e : Fin 16) (g C : ℕ) (hC : C < 4096) :
    T17 (F := Ideal) c X e (ix2 (Fin.ofNat 24 g) (Fin.ofNat 4096 C)) = zero 2048 (X main_arg5 : Vec Ideal S16x24x2048 .i8) e g C := by
  have h1 : ∀ (v : Vec Ideal S1x24x2048 .i8) (a : Fin 24) (b : Fin 2048),
      k0_pay38 (F := Ideal) v (ix2 a b) = (FloatOps.sitofp (F := Ideal) .f32 (IntOp.andi ((v (ix3 0 a b)).setWidth 32) 15#32) : EReal) := by
    intro v a b; pointwise [k0_pay38, k0_pay37]
  have h2 : ∀ (v : Vec Ideal S1x24x2048 .i8) (a : Fin 24) (b : Fin 2048),
      k0_pay39 (F := Ideal) v (ix2 a b) = (FloatOps.sitofp (F := Ideal) .f32 (IntOp.shrsi .vector ((v (ix3 0 a b)).setWidth 32) 4#32) : EReal) := by
    intro v a b; pointwise [k0_pay39, k0_pay37]
  have hv : (Fin.ofNat 4096 C).val = C := Nat.mod_eq_of_lt hC
  unfold T17 join2
  show (if (Fin.ofNat 4096 C).val < 2048 then _ else _) = _
  rw [hv]
  unfold zero
  refine if_congr Iff.rfl ?_ ?_
  · refine (h1 _ _ _).trans ?_
    show lo ((X main_arg5 : Vec Ideal S16x24x2048 .i8) (ix3 e (Fin.ofNat 24 g) (Fin.ofNat 2048 (Fin.ofNat 4096 C).val))) = _
    rw [hv]; rfl
  · refine (h2 _ _ _).trans ?_
    show hi ((X main_arg5 : Vec Ideal S16x24x2048 .i8) (ix3 e (Fin.ofNat 24 g) (Fin.ofNat 2048 ((Fin.ofNat 4096 C).val - 2048)))) = _
    rw [hv]; rfl

theorem T19_at (c : Dev nD) (X : (b : Ref sig .tc) → Buf (Elt Ideal) ((c : Thread nD τ).loc b)) (e : Fin 16) (g C : ℕ) (hC : C < 3072) :
    T19 (F := Ideal) c X e (ix2 (Fin.ofNat 16 g) (Fin.ofNat 3072 C)) = zero 1536 (X main_arg8 : Vec Ideal S16x16x1536 .i8) e g C := by
  have h1 : ∀ (v : Vec Ideal S1x16x1536 .i8) (a : Fin 16) (b : Fin 1536),
      k0_pay7 (F := Ideal) (k0_pay41 v) (ix2 a b) = (FloatOps.sitofp (F := Ideal) .f32 (IntOp.andi ((v (ix3 0 a b)).setWidth 32) 15#32) : EReal) := by
    intro v a b; pointwise [k0_pay7, k0_pay41, k0_pay40]
  have h2 : ∀ (v : Vec Ideal S1x16x1536 .i8) (a : Fin 16) (b : Fin 1536),
      k0_pay8 (F := Ideal) (k0_pay40 v) (ix2 a b) = (FloatOps.sitofp (F := Ideal) .f32 (IntOp.shrsi .vector ((v (ix3 0 a b)).setWidth 32) 4#32) : EReal) := by
    intro v a b; pointwise [k0_pay8, k0_pay40]
  have hv : (Fin.ofNat 3072 C).val = C := Nat.mod_eq_of_lt hC
  unfold T19 join2
  show (if (Fin.ofNat 3072 C).val < 1536 then _ else _) = _
  rw [hv]
  unfold zero
  refine if_congr Iff.rfl ?_ ?_
  · refine (h1 _ _ _).trans ?_
    show lo ((X main_arg8 : Vec Ideal S16x16x1536 .i8) (ix3 e (Fin.ofNat 16 g) (Fin.ofNat 1536 (Fin.ofNat 3072 C).val))) = _
    rw [hv]; rfl
  · refine (h2 _ _ _).trans ?_
    show hi ((X main_arg8 : Vec Ideal S16x16x1536 .i8) (ix3 e (Fin.ofNat 16 g) (Fin.ofNat 1536 ((Fin.ofNat 3072 C).val - 1536)))) = _
    rw [hv]; rfl

/-! ## The hidden activations and the accumulator -/

theorem pay11_at (m : Vec Ideal S1x1x96x128 .f32) (a b : FVec Ideal S96x256 .f32) (i : Fin 96) (c : Fin 256) (n : EReal)
    (hm : ∀ l : Fin 128, (m (ix4 0 0 i l) : EReal) = n) :
    (k0_pay11 (F := Ideal) m a b (ix2 i c) : EReal)
      = if 0 < n then (a (ix2 i c) : EReal) * Ideal.div 1 (1 + Ideal.exp (-(a (ix2 i c) : EReal))) * b (ix2 i c) else 0 := by
  have h : (k0_pay11 (F := Ideal) m a b (ix2 i c) : EReal)
      = Scalar.select (if _h : c.val < 128 then BitVec.ofBool (decide ((0 : EReal) < m (ix4 0 0 i ⟨c.val, by omega⟩))) else BitVec.ofBool (decide ((0 : EReal) < m (ix4 0 0 i ⟨c.val - 128, by omega⟩))))
          ((a (ix2 i c) : EReal) * Ideal.div 1 (1 + Ideal.exp (0 - (a (ix2 i c) : EReal))) * b (ix2 i c)) 0 := by
    pointwise [k0_pay11]
  rw [h]
  simp only [hm, dite_eq_ite, ite_self, zero_sub]
  by_cases hn : 0 < n
  · rw [if_pos hn, decide_eq_true hn]; rfl
  · rw [if_neg hn, decide_eq_false hn]; rfl

theorem pay14_at (w : Vec Ideal S1x1x96x128 .f32) (a b : FVec Ideal S96x256 .f32) (i : Fin 96) (c : Fin 256) (n : EReal)
    (hw : ∀ l : Fin 128, (w (ix4 0 0 i l) : EReal) = n) :
    (k0_pay14 (F := Ideal) w a b (ix2 i c) : EReal) = (b (ix2 i c) : EReal) + (a (ix2 i c) : EReal) * n := by
  have h : (k0_pay14 (F := Ideal) w a b (ix2 i c) : EReal)
      = (b (ix2 i c) : EReal) + (a (ix2 i c) : EReal) * (if _h : c.val < 128 then w (ix4 0 0 i ⟨c.val, by omega⟩) else w (ix4 0 0 i ⟨c.val - 128, by omega⟩)) := by
    pointwise [k0_pay14]
  rw [h]
  simp only [hw, dite_eq_ite, ite_self]

theorem hFull_at (x : Vec Ideal S96x3072 .bf16) (W : Vec Ideal S16x1536x4096 .i8) (S : Vec Ideal S16x24x4096 .bf16) (Z : Vec Ideal S16x24x2048 .i8) (e : Fin 16)
    (T16 T17 : Vec Ideal S24x4096 .f32)
    (hS : ∀ g C, T16 (ix2 (Fin.ofNat 24 g) (Fin.ofNat 4096 C)) = at3 S e g C)
    (hZ : ∀ g C, C < 4096 → T17 (ix2 (Fin.ofNat 24 g) (Fin.ofNat 4096 C)) = zero 2048 Z e g C)
    (m : Vec Ideal S1x1x96x128 .f32) (i : Fin 96) (n : EReal) (hm : ∀ l : Fin 128, (m (ix4 0 0 i l) : EReal) = n) (f : ℕ) (hf : f < 2048) :
    (hFull (F := Ideal) x W e T16 T17 m (ix2 i (Fin.ofNat 2048 f)) : EReal)
      = if 0 < n then hid (deq 2048 W S Z e) (fun r => (x (ix2 i (Fin.ofNat 3072 r)) : EReal)) f else 0 := by
  have hv : (Fin.ofNat 2048 f).val = f := Nat.mod_eq_of_lt hf
  have hq : f / 256 < 8 := by omega
  have hd : 256 * (f / 256) + f % 256 = f := by omega
  have hd' : 2048 + 256 * (f / 256) + f % 256 = 2048 + f := by omega
  obtain ⟨h1, h2⟩ := up_at x W S Z e T16 T17 hS hZ (f / 256) hq i ⟨f % 256, Nat.mod_lt _ (by decide)⟩ 12
  dsimp only at h1 h2
  rw [hd] at h1
  rw [hd'] at h2
  have ht : (hFull (F := Ideal) x W e T16 T17 m (ix2 i (Fin.ofNat 2048 f)) : EReal)
      = hTile (F := Ideal) x W e T16 T17 m (f / 256) (ix2 i ⟨f % 256, Nat.mod_lt _ (by decide)⟩) := by
    unfold hFull tiles
    show hTile (F := Ideal) x W e T16 T17 m ((Fin.ofNat 2048 f).val / 256) (ix2 i ⟨(Fin.ofNat 2048 f).val % 256, _⟩) = _
    simp only [hv]
  rw [ht]
  unfold hTile
  rw [pay11_at m _ _ i _ n hm, h1, h2]
  rfl

theorem dn_at (h : Vec Ideal S96x2048 .bf16) (W : Vec Ideal S16x1024x3072 .i8) (S : Vec Ideal S16x16x3072 .bf16) (Z : Vec Ideal S16x16x1536 .i8) (e : Fin 16)
    (T18 T19 : Vec Ideal S16x3072 .f32)
    (hS : ∀ g C, T18 (ix2 (Fin.ofNat 16 g) (Fin.ofNat 3072 C)) = at3 S e g C)
    (hZ : ∀ g C, C < 3072 → T19 (ix2 (Fin.ofNat 16 g) (Fin.ofNat 3072 C)) = zero 1536 Z e g C) (t : ℕ) (ht : t < 12) (i : Fin 96) (c : Fin 256) (k : ℕ) :
    (dnFold (F := Ideal) h W e T18 T19 t k (ix2 i c) : EReal)
        = ∑ r ∈ Finset.range (256 * k), deq 1536 W S Z e r (256 * t + c.val) * (h (ix2 i (Fin.ofNat 2048 r)) : EReal) := by
  induction k with
  | zero => exact pay12_at i c
  | succ k ih =>
    unfold dnFold dnStep
    rw [pay13_at, pay33_at]
    exact step_eq 1536 W S Z e T18 T19 3072 hS hZ (fun r => (h (ix2 i (Fin.ofNat 2048 r)) : EReal)) _ _ k (256 * t) (by omega) i c (fun j => row_at h (256 * k) i j) ih

/-- What one expert adds to the accumulator. -/
theorem expOut_at (c : Dev nD) (X : (b : Ref sig .tc) → Buf (Elt Ideal) ((c : Thread nD τ).loc b)) (x : Vec Ideal S96x3072 .bf16) (cw : Vec Ideal S16x2x96x128 .f32)
    (e : Fin 16) (old : Vec Ideal S96x3072 .f32) (i : Fin 96) (d : Fin 3072) (n w : EReal)
    (hn : ∀ l : Fin 128, (rowT cw e 1 (ix4 0 0 i l) : EReal) = n) (hw : ∀ l : Fin 128, (rowT cw e 0 (ix4 0 0 i l) : EReal) = w) :
    (expOut (F := Ideal) c X x cw e old (ix2 i d) : EReal)
      = (old (ix2 i d) : EReal)
        + (if 0 < n then yv (deq 2048 (X main_arg3 : Vec Ideal S16x1536x4096 .i8) (X main_arg4 : Vec Ideal S16x24x4096 .bf16) (X main_arg5 : Vec Ideal S16x24x2048 .i8) e)
              (deq 1536 (X main_arg6 : Vec Ideal S16x1024x3072 .i8) (X main_arg7 : Vec Ideal S16x16x3072 .bf16) (X main_arg8 : Vec Ideal S16x16x1536 .i8) e)
              (fun r => (x (ix2 i (Fin.ofNat 3072 r)) : EReal)) d.val else 0) * w := by
  have hq : d.val / 256 < 12 := by omega
  have hd : 256 * (d.val / 256) + d.val % 256 = d.val := by omega
  unfold expOut oFull tiles oTile
  show (k0_pay14 (F := Ideal) _ (dnFold (F := Ideal) _ _ e _ _ (d.val / 256) 8) (blk2 96 256 old 0 (256 * (d.val / 256))) (ix2 i ⟨d.val % 256, _⟩) : EReal) = _
  rw [pay14_at _ _ _ i _ w hw, row_at]
  dsimp only
  rw [hd, show Fin.ofNat 3072 d.val = d from Fin.ext (Nat.mod_eq_of_lt d.isLt)]
  congr 2
  rw [dn_at _ (X main_arg6 : Vec Ideal S16x1024x3072 .i8) (X main_arg7 : Vec Ideal S16x16x3072 .bf16) (X main_arg8 : Vec Ideal S16x16x1536 .i8) e _ _
    (T18_at c X e) (T19_at c X e) _ hq i]
  dsimp only
  rw [hd]
  unfold yv
  have hh : ∀ f ∈ Finset.range (256 * 8), _ = _ := fun f hf =>
    congrArg (fun z : EReal => deq 1536 (X main_arg6 : Vec Ideal S16x1024x3072 .i8) (X main_arg7 : Vec Ideal S16x16x3072 .bf16) (X main_arg8 : Vec Ideal S16x16x1536 .i8) e f d.val * z)
      (hFull_at x (X main_arg3 : Vec Ideal S16x1536x4096 .i8) (X main_arg4 : Vec Ideal S16x24x4096 .bf16) (X main_arg5 : Vec Ideal S16x24x2048 .i8) e _ _
        (T16_at c X e) (T17_at c X e) (rowT cw e 1) i n hn f (by simpa using hf))
  refine (Finset.sum_congr rfl hh).trans ?_
  by_cases h0 : 0 < n
  · simp only [if_pos h0]
    exact Finset.sum_congr rfl fun f _ => mul_comm _ _
  · simp only [if_neg h0, mul_zero, Finset.sum_const_zero]

end Cert.KernelIdeal.Hand

end
-- ==== Proof.IdealValue.lean ====
/-
  The kernel's result at the ideal instance, element by element: the sum over the experts of an expert's output times the
  sum of the routing weights that name it. An expert no token is routed to is not visited; its addend is zero.
-/
module

public import proofs.«01_k».proof.Proof.IdealTiles
public import proofs.«01_k».proof.Proof.IdealBody

@[expose] public section

set_option maxRecDepth 16384

noncomputable section

namespace Cert.KernelIdeal.Hand

open Cert.KernelIdeal Cert.KernelIdeal.Gen
open Idealize.ShloMosaic Idealize.ShloMosaic.TcCoe
open Cert.Spec

/-! ## The routing sums -/

theorem pay3_at (v0 : Vec Ideal S96x8 .i32) (v2 : Vec Ideal S96x8 .f32) (e : Fin 16) (i : Fin 96) (l : Fin 128) :
    (k0_pay3 (F := Ideal) v0 v2 e (ix4 0 0 i l) : EReal) = ∑ k : Fin 8, if v0 (ix2 i k) = BitVec.ofNat 32 e.val then (v2 (ix2 i k) : EReal) else 0 := by
  have h : (k0_pay3 (F := Ideal) v0 v2 e (ix4 0 0 i l) : EReal)
      = ∑ k : Fin 8, Scalar.select (IntOp.cmpi .eq (v0 (ix2 i k)) (Scf.iv 0#32 1#32 e.val)) (v2 (ix2 i k) : EReal) 0 := by
    pointwise [k0_pay3, k0_pay1]
  rw [h]
  simp only [select_eq, iv_ofNat]

theorem pay4_at (v0 : Vec Ideal S96x8 .i32) (e : Fin 16) (i : Fin 96) (l : Fin 128) :
    (k0_pay4 (F := Ideal) v0 e (ix4 0 0 i l) : EReal) = ∑ k : Fin 8, if v0 (ix2 i k) = BitVec.ofNat 32 e.val then (1 : EReal) else 0 := by
  have h : (k0_pay4 (F := Ideal) v0 e (ix4 0 0 i l) : EReal)
      = ∑ k : Fin 8, Scalar.select (IntOp.cmpi .eq (v0 (ix2 i k)) (Scf.iv 0#32 1#32 e.val)) (1 : EReal) 0 := by
    pointwise [k0_pay4, k0_pay2, k0_pay1]
  rw [h]
  simp only [select_eq, iv_ofNat]

theorem pay5_at (v0 : Vec Ideal S96x8 .i32) (e : Fin 16) :
    (k0_pay5 (F := Ideal) v0 e : EReal) = ∑ i : Fin 96, ∑ k : Fin 8, if v0 (ix2 i k) = BitVec.ofNat 32 e.val then (1 : EReal) else 0 := by
  have h : (k0_pay5 (F := Ideal) v0 e : EReal)
      = ∑ i : Fin 96, ∑ _ : Fin 1, ∑ k : Fin 8, Scalar.select (IntOp.cmpi .eq (v0 (ix2 i k)) (Scf.iv 0#32 1#32 e.val)) (1 : EReal) 0 := by
    pointwise [k0_pay5, k0_pay2, k0_pay1]
  rw [h]
  simp only [select_eq, iv_ofNat, Finset.univ_unique, Finset.sum_const, Finset.card_singleton, one_smul]

theorem one_nonneg_ite (p : Prop) [Decidable p] : (0 : EReal) ≤ if p then 1 else 0 := by
  split
  · exact zero_le_one
  · exact le_refl _

/-- A token some expert of its row is `e` makes `e` active. -/
theorem active_of (v0 : Vec Ideal S96x8 .i32) (e : Fin 16) (i : Fin 96) (k : Fin 8) (h : v0 (ix2 i k) = BitVec.ofNat 32 e.val) : Active (F := Ideal) v0 e := by
  have h1 : (1 : EReal) ≤ ∑ k : Fin 8, if v0 (ix2 i k) = BitVec.ofNat 32 e.val then (1 : EReal) else 0 := by
    refine le_trans (by rw [if_pos h]) (Finset.single_le_sum (f := fun k : Fin 8 => if v0 (ix2 i k) = BitVec.ofNat 32 e.val then (1 : EReal) else 0)
      (fun k _ => one_nonneg_ite _) (Finset.mem_univ k))
  have h2 : (1 : EReal) ≤ (k0_pay5 (F := Ideal) v0 e : EReal) := by
    rw [pay5_at]
    exact h1.trans (Finset.single_le_sum (f := fun i : Fin 96 => ∑ k : Fin 8, if v0 (ix2 i k) = BitVec.ofNat 32 e.val then (1 : EReal) else 0)
      (fun i _ => Finset.sum_nonneg fun k _ => one_nonneg_ite _) (Finset.mem_univ i))
  have h3 : (0 : EReal) < (k0_pay5 (F := Ideal) v0 e : EReal) := lt_of_lt_of_le zero_lt_one h2
  have h4 : (Scalar.ofBits (F := Ideal) .f32 0x00000000#32 : EReal) = 0 := by
    show Ideal.ofBits .f32 0x00000000#32 = 0
    simp [Ideal.ofBits, Ideal.ieee]
  unfold Active
  show BitVec.ofBool (decide ((Scalar.ofBits (F := Ideal) .f32 0x00000000#32 : EReal) < (k0_pay5 (F := Ideal) v0 e : EReal))) = 1#1
  rw [h4, decide_eq_true h3]; rfl

/-! ## The sum over the visited experts -/

/-- The routing weight of a token for an expert. -/
def wt (v0 : Vec Ideal S96x8 .i32) (v2 : Vec Ideal S96x8 .f32) (i : Fin 96) (e : Fin 16) : EReal :=
  ∑ k : Fin 8, if v0 (ix2 i k) = BitVec.ofNat 32 e.val then (v2 (ix2 i k) : EReal) else 0

theorem wt_zero (v0 : Vec Ideal S96x8 .i32) (v2 : Vec Ideal S96x8 .f32) (i : Fin 96) (e : Fin 16) (h : ∀ k, ¬ v0 (ix2 i k) = BitVec.ofNat 32 e.val) : wt v0 v2 i e = 0 :=
  Finset.sum_eq_zero fun k _ => if_neg (h k)

theorem masked (v0 : Vec Ideal S96x8 .i32) (v2 : Vec Ideal S96x8 .f32) (i : Fin 96) (e : Fin 16) (y : EReal) :
    (if (0 : EReal) < ∑ k : Fin 8, (if v0 (ix2 i k) = BitVec.ofNat 32 e.val then (1 : EReal) else 0) then y else 0) * wt v0 v2 i e = y * wt v0 v2 i e := by
  by_cases h : ∃ k, v0 (ix2 i k) = BitVec.ofNat 32 e.val
  · obtain ⟨k, hk⟩ := h
    rw [if_pos]
    refine lt_of_lt_of_le zero_lt_one (le_trans (by rw [if_pos hk]) (Finset.single_le_sum (f := fun k : Fin 8 => if v0 (ix2 i k) = BitVec.ofNat 32 e.val then (1 : EReal) else 0)
      (fun k _ => one_nonneg_ite _) (Finset.mem_univ k)))
  · rw [wt_zero v0 v2 i e fun k hk => h ⟨k, hk⟩, mul_zero, mul_zero]

theorem act_sum (v0 : Vec Ideal S96x8 .i32) (g : Fin 16 → EReal) (hg : ∀ e, ¬ Active (F := Ideal) v0 e → g e = 0) (k : ℕ) :
    ((act (F := Ideal) v0 k).map g).sum = ∑ j ∈ Finset.range k, if h : j < 16 then g ⟨j, h⟩ else 0 := by
  induction k with
  | zero => rfl
  | succ k ih =>
    rw [Finset.sum_range_succ, ← ih, act]
    by_cases h : k < 16
    · rw [dif_pos h, dif_pos h]
      by_cases ha : Active (F := Ideal) v0 ⟨k, h⟩
      · rw [if_pos ha, List.map_append, List.sum_append, List.map_singleton, List.sum_singleton]
      · rw [if_neg ha, hg _ ha, add_zero]
    · rw [dif_neg h, dif_neg h, add_zero]

theorem getD_sum (L : List (Fin 16)) (g : Fin 16 → EReal) : ∑ j ∈ Finset.range L.length, g (L.getD j 0) = (L.map g).sum := by
  induction L with
  | nil => rfl
  | cons a L ih =>
    rw [List.length_cons, Finset.sum_range_succ', List.map_cons, List.sum_cons, add_comm, ← ih]
    rfl

section
variable (c : Dev nD) (X : (b : Ref sig .tc) → Buf (Elt Ideal) ((c : Thread nD τ).loc b))

/-- An expert's output for a token. -/
def yAt (x : Vec Ideal S96x3072 .bf16) (i : Fin 96) (d : Fin 3072) (e : Fin 16) : EReal :=
  yv (deq 2048 (X main_arg3 : Vec Ideal S16x1536x4096 .i8) (X main_arg4 : Vec Ideal S16x24x4096 .bf16) (X main_arg5 : Vec Ideal S16x24x2048 .i8) e)
    (deq 1536 (X main_arg6 : Vec Ideal S16x1024x3072 .i8) (X main_arg7 : Vec Ideal S16x16x3072 .bf16) (X main_arg8 : Vec Ideal S16x16x1536 .i8) e)
    (fun r => (x (ix2 i (Fin.ofNat 3072 r)) : EReal)) d.val

theorem expFold_at (x : Vec Ideal S96x3072 .bf16) (v0 : Vec Ideal S96x8 .i32) (v2 : Vec Ideal S96x8 .f32) (E : ℕ → Fin 16) (acc : Vec Ideal S96x3072 .f32)
    (i : Fin 96) (d : Fin 3072) (k : ℕ) :
    (expFold (F := Ideal) c X E x (cwAll v0 v2) acc k (ix2 i d) : EReal)
      = (acc (ix2 i d) : EReal) + ∑ j ∈ Finset.range k, yAt c X x i d (E j) * wt v0 v2 i (E j) := by
  induction k with
  | zero => exact (add_zero _).symm
  | succ k ih =>
    rw [Finset.sum_range_succ, ← add_assoc, ← ih, ← masked, expFold]
    exact expOut_at c X x (cwAll v0 v2) (E k) _ i d _ _ (fun l => (congrFun (cwAll_one v0 v2 (E k)) (ix4 0 0 i l)).trans (pay4_at v0 (E k) i l))
      (fun l => (congrFun (cwAll_zero v0 v2 (E k)) (ix4 0 0 i l)).trans (pay3_at v0 v2 (E k) i l))

/-- The kernel's value. -/
theorem outVal_at (x : Vec Ideal S96x3072 .bf16) (v0 : Vec Ideal S96x8 .i32) (v2 : Vec Ideal S96x8 .f32) (i : Fin 96) (d : Fin 3072) :
    (outVal (F := Ideal) c X x v0 v2 (ix2 i d) : EReal) = mixK (yAt c X x i d) (fun k => v0 (ix2 i k)) (fun k => (v2 (ix2 i k) : EReal)) := by
  have h23 : ∀ v : Vec Ideal S96x3072 .f32, (k0_pay23 (F := Ideal) v (ix2 i d) : EReal) = v (ix2 i d) := by
    intro v; pointwise [k0_pay23]
  have h6 : (k0_pay6 (F := Ideal) (ix2 i d) : EReal) = 0 := by
    pointwise [k0_pay6]
  unfold outVal
  rw [h23, expFold_at, h6, zero_add]
  refine (getD_sum (act (F := Ideal) v0 16) fun e => yAt c X x i d e * wt v0 v2 i e).trans ?_
  rw [act_sum v0 (fun e => yAt c X x i d e * wt v0 v2 i e) (fun e he => by rw [wt_zero v0 v2 i e fun k hk => he (active_of v0 e i k hk), mul_zero]) 16,
    Finset.sum_range]
  refine Finset.sum_congr rfl fun e _ => ?_
  rw [dif_pos e.isLt]
  rfl

end

end Cert.KernelIdeal.Hand

end
-- ==== Proof.IdealResult.lean ====
/-
  The kernel's result array at the ideal instance, in terms of its arguments as launched.
-/
module

public import proofs.«01_k».proof.Proof.IdealFrame
public import proofs.«01_k».proof.Proof.IdealValue

@[expose] public section

set_option maxRecDepth 16384

noncomputable section

namespace Cert.KernelIdeal.Hand

open Cert.KernelIdeal Cert.KernelIdeal.Gen
open Idealize.ShloMosaic Idealize.ShloMosaic.TcCoe
open Idealize.ShloMosaic.StableHlo
open Cert.Spec

attribute [local instance] Gen.facts

variable (m : (ℓ : Loc nD τ sig) → Buf (Elt Ideal) ℓ) (c : Dev nD)

/-! ## The arrays the region reads and writes -/

theorem V_x : (V m c main_v0 : Vec Ideal S96x3072 .bf16) = shapeCast S96x3072 (m ((c : Thread nD τ).loc main_arg0) : Vec Ideal S96x1x3072 .bf16) shapeCasts_S96x1x3072_S96x3072 := by
  dsimp only [V, V0, hostOps0]
  show after (_ :: _ :: _ :: []) _ _ = _
  after_results; rfl
theorem V_ids : (V m c main_v1 : Vec Ideal S96x8 .i32) = shapeCast S96x8 (m ((c : Thread nD τ).loc main_arg1) : Vec Ideal S96x1x8 .i32) shapeCasts_S96x1x8_S96x8 := by
  dsimp only [V, V0, hostOps0]
  show after (_ :: _ :: _ :: []) _ _ = _
  after_results; rfl
theorem V_wts : (V m c main_v2 : Vec Ideal S96x8 .f32) = shapeCast S96x8 (m ((c : Thread nD τ).loc main_arg2) : Vec Ideal S96x1x8 .f32) shapeCasts_S96x1x8_S96x8 := by
  dsimp only [V, V0, hostOps0]
  show after (_ :: _ :: _ :: []) _ _ = _
  after_results; rfl

theorem inX_eq : inX m c t0_0 = (V m c main_v0 : Vec Ideal S96x3072 .bf16) := by
  have hz : (fun a => (win0_0.index t0_0) a * main_v0.ty.shape.size a) = fun _ => 0 := funext fun a => by fin_cases a <;> decide
  exact Memref.read_access_unit_zero (Elt Ideal) main_v0 hz (fun a => by fin_cases a <;> decide) _
theorem inIds_eq : inIds m c t0_0 = (V m c main_v1 : Vec Ideal S96x8 .i32) := by
  have hz : (fun a => (win0_1.index t0_0) a * main_v1.ty.shape.size a) = fun _ => 0 := funext fun a => by fin_cases a <;> decide
  exact Memref.read_access_unit_zero (Elt Ideal) main_v1 hz (fun a => by fin_cases a <;> decide) _
theorem inWts_eq : inWts m c t0_0 = (V m c main_v2 : Vec Ideal S96x8 .f32) := by
  have hz : (fun a => (win0_2.index t0_0) a * main_v2.ty.shape.size a) = fun _ => 0 := funext fun a => by fin_cases a <;> decide
  exact Memref.read_access_unit_zero (Elt Ideal) main_v2 hz (fun a => by fin_cases a <;> decide) _

theorem out_eq : ((dats m 0 c).arrAt 3 cfg0.N : Vec Ideal S96x3072 .bf16) = outBlk m c t0_0 := by
  have hz : (fun a => (win0_3.index t0_0) a * main_v3.ty.shape.size a) = fun _ => 0 := funext fun a => by fin_cases a <;> decide
  have hr := fun f => Memref.read_access_unit_zero (Elt Ideal) main_v3 hz (fun a => by fin_cases a <;> decide) f
  refine (hr _).symm.trans ?_
  have h := (dats m 0 c).arrAt_succ 3 t0_0
  rw [show (cfg0.win 3).flush t0_0 = true from by decide, if_pos rfl] at h
  rw [show (dats m 0 c).arrAt 3 cfg0.N = _ from h]
  refine (View.read_write_univ _ _).trans ?_
  rfl

theorem tail_eq : (Pipeline.afterTail₀ cfgs (dats m) 0 (V0 m) [hostOps1] c main_v4 : Vec Ideal S96x1x3072 .bf16)
    = shapeCast S96x1x3072 (outBlk m c t0_0) shapeCasts_S96x3072_S96x1x3072 := by
  rw [← out_eq]
  unfold Pipeline.afterTail₀
  dsimp only [hostOps1, List.flatten_cons, List.flatten_nil, List.append_nil, List.cons_append, List.nil_append]
  after_results
  rw [show (Pipeline.withArrays (cfgs 0).spec c (V0 m c) fun w => (dats m 0 c).arrAt w (cfgs 0).N) (Proc.tc.devRef main_v3) = (dats m 0 c).arrAt 3 cfg0.N from
    Pipeline.withArrays_arr spec0 (by decide) c (V0 m c) (fun w => (dats m 0 c).arrAt w cfg0.N) 3]
  rfl

/-- The kernel's result, element by element. -/
theorem result_at (i : Fin 96) (u : Fin 1) (d : Fin 3072) :
    ((Pipeline.afterTail₀ cfgs (dats m) 0 (V0 m) [hostOps1] c main_v4 : Vec Ideal S96x1x3072 .bf16) (ix3 i u d) : EReal)
      = mixK (fun e => yv
          (deq 2048 (m ((c : Thread nD τ).loc main_arg3) : Vec Ideal S16x1536x4096 .i8) (m ((c : Thread nD τ).loc main_arg4) : Vec Ideal S16x24x4096 .bf16) (m ((c : Thread nD τ).loc main_arg5) : Vec Ideal S16x24x2048 .i8) e)
          (deq 1536 (m ((c : Thread nD τ).loc main_arg6) : Vec Ideal S16x1024x3072 .i8) (m ((c : Thread nD τ).loc main_arg7) : Vec Ideal S16x16x3072 .bf16) (m ((c : Thread nD τ).loc main_arg8) : Vec Ideal S16x16x1536 .i8) e)
          (fun r => at3 (m ((c : Thread nD τ).loc main_arg0) : Vec Ideal S96x1x3072 .bf16) i 0 r) d.val)
        (fun k => (m ((c : Thread nD τ).loc main_arg1) : Vec Ideal S96x1x8 .i32) (ix3 i 0 k))
        (fun k => ((m ((c : Thread nD τ).loc main_arg2) : Vec Ideal S96x1x8 .f32) (ix3 i 0 k) : EReal)) := by
  have h1 : ∀ v : Vec Ideal S96x3072 .bf16, shapeCast S96x1x3072 v shapeCasts_S96x3072_S96x1x3072 (ix3 i u d) = v (ix2 i d) := by
    intro v; pointwise
  have h2 : ∀ (v : Vec Ideal S96x1x3072 .bf16) (j : Fin 3072), shapeCast S96x3072 v shapeCasts_S96x1x3072_S96x3072 (ix2 i j) = v (ix3 i 0 j) := by
    intro v j; pointwise
  have h3 : ∀ (v : Vec Ideal S96x1x8 .i32) (j : Fin 8), shapeCast S96x8 v shapeCasts_S96x1x8_S96x8 (ix2 i j) = v (ix3 i 0 j) := by
    intro v j; pointwise
  have h4 : ∀ (v : Vec Ideal S96x1x8 .f32) (j : Fin 8), shapeCast S96x8 v shapeCasts_S96x1x8_S96x8 (ix2 i j) = v (ix3 i 0 j) := by
    intro v j; pointwise
  rw [tail_eq, h1]
  unfold outBlk
  rw [outVal_at, inX_eq, inIds_eq, inWts_eq, V_x, V_ids, V_wts]
  unfold yAt
  rw [V_main_arg3, V_main_arg4, V_main_arg5, V_main_arg6, V_main_arg7, V_main_arg8]
  simp only [h2, h3, h4]
  rfl

end Cert.KernelIdeal.Hand

end
-- ==== Proof.RefValue.lean ====
/-
  The reference's result at the ideal instance, element by element: the mixture, one assignment at a time.
-/
module

public import proofs.«01_k».proof.Proof.Gen.ReferenceIdeal.Run
public import proofs.«01_k».proof.Proof.Spec

@[expose] public section

noncomputable section

namespace Cert.ReferenceIdeal.Hand

open Cert.ReferenceIdeal Cert.ReferenceIdeal.Gen Cert.ReferenceIdeal.Value
open Idealize.ShloMosaic Idealize.ShloMosaic.TcCoe
open Cert.Spec

variable (m : (ℓ : Loc nD τ sig) → Buf (Elt Ideal) ℓ) (c : Dev nD)

/-- The dequantised first weight. -/
def D1 (e : Fin 16) : ℕ → ℕ → EReal :=
  deq 2048 (m ((c.tc : Thread nD τ).loc main_arg3) : Vec Ideal S16x1536x4096 .i8) (m ((c.tc : Thread nD τ).loc main_arg4) : Vec Ideal S16x24x4096 .bf16)
    (m ((c.tc : Thread nD τ).loc main_arg5) : Vec Ideal S16x24x2048 .i8) e
/-- The dequantised second weight. -/
def D2 (e : Fin 16) : ℕ → ℕ → EReal :=
  deq 1536 (m ((c.tc : Thread nD τ).loc main_arg6) : Vec Ideal S16x1024x3072 .i8) (m ((c.tc : Thread nD τ).loc main_arg7) : Vec Ideal S16x16x3072 .bf16)
    (m ((c.tc : Thread nD τ).loc main_arg8) : Vec Ideal S16x16x1536 .i8) e
/-- A token's activations. -/
def xRow (t : Fin 96) (r : ℕ) : EReal := at3 (m ((c.tc : Thread nD τ).loc main_arg0) : Vec Ideal S96x1x3072 .bf16) t 0 r

/-- The product with a column of the gate half, as the reference computes it. -/
theorem gate_eq (t : Fin 96) (e : Fin 16) (f : Fin 2048) :
    (∑ r : Fin 3072, ((FloatOps.sitofp (F := Ideal) .bf16 (if _h : r.val % 128 % 2 < 1 then IntOp.andi (((m ((c.tc : Thread nD τ).loc main_arg3) : Vec Ideal S16x1536x4096 .i8) (ix3 e ⟨r.val / 128 * 64 + r.val % 128 / 2, by omega⟩ ⟨f.val, by omega⟩)).setWidth 32) 15#32
        else IntOp.shrsi .host (((m ((c.tc : Thread nD τ).loc main_arg3) : Vec Ideal S16x1536x4096 .i8) (ix3 e ⟨r.val / 128 * 64 + r.val % 128 / 2, by omega⟩ ⟨f.val, by omega⟩)).setWidth 32) 4#32) : EReal)
        - (FloatOps.sitofp (F := Ideal) .bf16 (IntOp.andi (((m ((c.tc : Thread nD τ).loc main_arg5) : Vec Ideal S16x24x2048 .i8) (ix3 e ⟨r.val / 128, by omega⟩ f)).setWidth 32) 15#32) : EReal))
        * ((m ((c.tc : Thread nD τ).loc main_arg4) : Vec Ideal S16x24x4096 .bf16) (ix3 e ⟨r.val / 128, by omega⟩ ⟨f.val, by omega⟩) : EReal) * ((m ((c.tc : Thread nD τ).loc main_arg0) : Vec Ideal S96x1x3072 .bf16) (ix3 t 0 r) : EReal))
      = gu (D1 m c e) (xRow m c t) f.val := by
  unfold gu D1 deq xRow
  rw [Finset.sum_range (n := 3072)]
  refine Finset.sum_congr rfl fun r _ => ?_
  rw [← code_eq (m ((c.tc : Thread nD τ).loc main_arg3) : Vec Ideal S16x1536x4096 .i8) e (a := ⟨r.val / 128 * 64 + r.val % 128 / 2, by omega⟩) (b := ⟨f.val, by omega⟩) (p := r.val % 128 % 2 < 1) .host .bf16 (by omega) (by dsimp only; omega) rfl,
    ← lo_eq (m ((c.tc : Thread nD τ).loc main_arg5) : Vec Ideal S16x24x2048 .i8) e (a := ⟨r.val / 128, by omega⟩) (b := f) .bf16 f.isLt rfl rfl,
    ← at3_eq (m ((c.tc : Thread nD τ).loc main_arg4) : Vec Ideal S16x24x4096 .bf16) e (a := ⟨r.val / 128, by omega⟩) (b := ⟨f.val, by omega⟩) rfl rfl,
    ← at3_eq (m ((c.tc : Thread nD τ).loc main_arg0) : Vec Ideal S96x1x3072 .bf16) t (r := 0) (c := r.val) (a := 0) (b := r) rfl rfl]

/-- The same for the other half. -/
theorem up_eq (t : Fin 96) (e : Fin 16) (f : Fin 2048) :
    (∑ r : Fin 3072, ((FloatOps.sitofp (F := Ideal) .bf16 (if _h : r.val % 128 % 2 < 1 then IntOp.andi (((m ((c.tc : Thread nD τ).loc main_arg3) : Vec Ideal S16x1536x4096 .i8) (ix3 e ⟨r.val / 128 * 64 + r.val % 128 / 2, by omega⟩ ⟨2048 + f.val, by omega⟩)).setWidth 32) 15#32
        else IntOp.shrsi .host (((m ((c.tc : Thread nD τ).loc main_arg3) : Vec Ideal S16x1536x4096 .i8) (ix3 e ⟨r.val / 128 * 64 + r.val % 128 / 2, by omega⟩ ⟨2048 + f.val, by omega⟩)).setWidth 32) 4#32) : EReal)
        - (FloatOps.sitofp (F := Ideal) .bf16 (IntOp.shrsi .host (((m ((c.tc : Thread nD τ).loc main_arg5) : Vec Ideal S16x24x2048 .i8) (ix3 e ⟨r.val / 128, by omega⟩ f)).setWidth 32) 4#32) : EReal))
        * ((m ((c.tc : Thread nD τ).loc main_arg4) : Vec Ideal S16x24x4096 .bf16) (ix3 e ⟨r.val / 128, by omega⟩ ⟨2048 + f.val, by omega⟩) : EReal) * ((m ((c.tc : Thread nD τ).loc main_arg0) : Vec Ideal S96x1x3072 .bf16) (ix3 t 0 r) : EReal))
      = gu (D1 m c e) (xRow m c t) (2048 + f.val) := by
  unfold gu D1 deq xRow
  rw [Finset.sum_range (n := 3072)]
  refine Finset.sum_congr rfl fun r _ => ?_
  rw [← code_eq (m ((c.tc : Thread nD τ).loc main_arg3) : Vec Ideal S16x1536x4096 .i8) e (a := ⟨r.val / 128 * 64 + r.val % 128 / 2, by omega⟩) (b := ⟨2048 + f.val, by omega⟩) (p := r.val % 128 % 2 < 1) .host .bf16 (by omega) (by dsimp only; omega) rfl,
    ← hi_eq (m ((c.tc : Thread nD τ).loc main_arg5) : Vec Ideal S16x24x2048 .i8) e (a := ⟨r.val / 128, by omega⟩) (b := f) .host .bf16 (by omega : ¬ 2048 + f.val < 2048) rfl (by omega),
    ← at3_eq (m ((c.tc : Thread nD τ).loc main_arg4) : Vec Ideal S16x24x4096 .bf16) e (a := ⟨r.val / 128, by omega⟩) (b := ⟨2048 + f.val, by omega⟩) rfl rfl,
    ← at3_eq (m ((c.tc : Thread nD τ).loc main_arg0) : Vec Ideal S96x1x3072 .bf16) t (r := 0) (c := r.val) (a := 0) (b := r) rfl rfl]

/-- One element of the dequantised second weight, as the reference computes it. -/
theorem down_eq (e : Fin 16) (f : Fin 2048) (d : Fin 3072) :
    ((FloatOps.sitofp (F := Ideal) .bf16 (if _h : f.val % 128 % 2 < 1 then IntOp.andi (((m ((c.tc : Thread nD τ).loc main_arg6) : Vec Ideal S16x1024x3072 .i8) (ix3 e ⟨f.val / 128 * 64 + f.val % 128 / 2, by omega⟩ d)).setWidth 32) 15#32
        else IntOp.shrsi .host (((m ((c.tc : Thread nD τ).loc main_arg6) : Vec Ideal S16x1024x3072 .i8) (ix3 e ⟨f.val / 128 * 64 + f.val % 128 / 2, by omega⟩ d)).setWidth 32) 4#32) : EReal)
        - (FloatOps.sitofp (F := Ideal) .bf16 (if h : d.val < 1536 then IntOp.andi (((m ((c.tc : Thread nD τ).loc main_arg8) : Vec Ideal S16x16x1536 .i8) (ix3 e ⟨f.val / 128, by omega⟩ ⟨d.val, h⟩)).setWidth 32) 15#32
          else IntOp.shrsi .host (((m ((c.tc : Thread nD τ).loc main_arg8) : Vec Ideal S16x16x1536 .i8) (ix3 e ⟨f.val / 128, by omega⟩ ⟨d.val - 1536, by omega⟩)).setWidth 32) 4#32) : EReal))
        * ((m ((c.tc : Thread nD τ).loc main_arg7) : Vec Ideal S16x16x3072 .bf16) (ix3 e ⟨f.val / 128, by omega⟩ d) : EReal)
      = D2 m c e f.val d.val := by
  unfold D2 deq
  rw [← code_eq (m ((c.tc : Thread nD τ).loc main_arg6) : Vec Ideal S16x1024x3072 .i8) e (a := ⟨f.val / 128 * 64 + f.val % 128 / 2, by omega⟩) (b := d) (p := f.val % 128 % 2 < 1) .host .bf16 (by omega) (by dsimp only; omega) rfl,
    ← zero_eq (m ((c.tc : Thread nD τ).loc main_arg8) : Vec Ideal S16x16x1536 .i8) e (a := ⟨f.val / 128, by omega⟩) (half := 1536) (c := d.val) (b := fun _ => ⟨d.val - 1536, by omega⟩) (b' := fun _ => 0) (b0 := fun h => ⟨d.val, h⟩) .host .bf16 rfl (fun _ => rfl) (fun _ => rfl),
    ← at3_eq (m ((c.tc : Thread nD τ).loc main_arg7) : Vec Ideal S16x16x3072 .bf16) e (a := ⟨f.val / 128, by omega⟩) (b := d) rfl rfl]

/-- An expert's output as a sum over the hidden activations. -/
theorem yv_eq (t : Fin 96) (e : Fin 16) (d : Fin 3072) (G U W : Fin 2048 → EReal) (hG : ∀ f, G f = gu (D1 m c e) (xRow m c t) f.val)
    (hU : ∀ f, U f = gu (D1 m c e) (xRow m c t) (2048 + f.val)) (hW : ∀ f, W f = D2 m c e f.val d.val) :
    (∑ f : Fin 2048, (G f * Ideal.div 1 (1 + Ideal.exp (-G f)) * U f) * W f) = yv (D1 m c e) (D2 m c e) (xRow m c t) d.val := by
  unfold yv hid
  rw [Finset.sum_range]
  exact Finset.sum_congr rfl fun f _ => by rw [hG, hU, hW]

set_option maxRecDepth 30000 in
set_option maxHeartbeats 8000000 in
theorem ref_at (t : Fin 96) (u : Fin 1) (d : Fin 3072) :
    (res_main_v74 (F := Ideal) m c (ix3 t u d) : EReal)
      = mix (fun e => yv (D1 m c e) (D2 m c e) (xRow m c t) d.val)
          (fun k => (m ((c.tc : Thread nD τ).loc main_arg1) : Vec Ideal S96x1x8 .i32) (ix3 t 0 k))
          (fun k => ((m ((c.tc : Thread nD τ).loc main_arg2) : Vec Ideal S96x1x8 .f32) (ix3 t 0 k) : EReal)) := by
  pointwise [res_main_v74]
  change @Eq EReal _ _
  unfold mix
  refine Finset.sum_congr rfl fun k _ => congrArg₂ (· * ·) (Finset.sum_congr rfl fun e _ => ?_) rfl
  refine (select_eq _ _ _ _).trans (if_congr Iff.rfl ?_ ?_)
  · exact yv_eq m c t e d _ _ _ (gate_eq m c t e) (up_eq m c t e) (fun f => down_eq m c e f d)
  · show Ideal.ofBits .f32 0#32 = 0
    simp [Ideal.ofBits, Ideal.ieee]

end Cert.ReferenceIdeal.Hand

end
-- ==== Proof.Weights.lean ====
/-
  What the precondition says: every routing weight is at least zero.
-/
module

public import proofs.«01_k».proof.Pre_weights_nonneg
public import Idealize.ShloMosaic.Lib.Pointwise

@[expose] public section

noncomputable section

namespace Cert.Pre_weights_nonneg

open Idealize.ShloMosaic

/-- The one shape relation the precondition's operations take. -/
theorem facts : Facts where
  bcast_S_S96x1x8 := by decide

attribute [local instance] facts

/-- Where the precondition is all ones, a weight is at least zero. -/
theorem nonneg (a0 : FVec Ideal S96x1x3072 .bf16) (a1 : IVec S96x1x8 32) (a2 : FVec Ideal S96x1x8 .f32) (a3 : IVec S16x1536x4096 8)
    (a4 : FVec Ideal S16x24x4096 .bf16) (a5 : IVec S16x24x2048 8) (a6 : IVec S16x1024x3072 8) (a7 : FVec Ideal S16x16x3072 .bf16)
    (a8 : IVec S16x16x1536 8) (i : S96x1x8.Idx) (h : fn (F := Ideal) a0 a1 a2 a3 a4 a5 a6 a7 a8 i = 1#1) : (0 : EReal) ≤ a2 i := by
  have h0 : (Ideal.ofBits .f32 0x00000000#32 : EReal) = 0 := by simp [Ideal.ofBits, Ideal.ieee]
  have h1 : Ideal.cmp .oge (a2 i) (Ideal.ofBits .f32 0x00000000#32) = 1#1 := h
  rw [h0] at h1
  by_contra hn
  simp [Ideal.cmp, hn] at h1

end Cert.Pre_weights_nonneg

end
-- ==== Proof.lean ====
/-
  The proof of `Cert.Claim` (proof/Defs.lean).

    quiescent_Kernel, quiescent_KernelIdeal — `run_value` (Proof/BitsFrame.lean, Proof/IdealFrame.lean), read at the
      arguments and at the counters.
    quiescent_ReferenceIdeal — the generated run of the reference, read at the arguments; it declares no counter.
    algebraic_… — both results read element by element (Proof/IdealResult.lean, Proof/RefValue.lean), and the two mixtures
      equal since no routing weight is negative (Proof/Spec.lean, `mix_eq`; Proof/Weights.lean).
-/
module

public import proofs.«01_k».proof.Defs
public import proofs.«01_k».proof.Proof.BitsFrame
public import proofs.«01_k».proof.Proof.IdealFrame
public import proofs.«01_k».proof.Proof.IdealResult
public import proofs.«01_k».proof.Proof.RefValue
public import proofs.«01_k».proof.Proof.Weights
public import proofs.«01_k».proof.Proof.Gen.ReferenceIdeal
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts Cert.Pre_weights_nonneg.facts

/-- Every run of the kernel terminates without a fault, leaves its arguments as launched and its counters at zero. -/
theorem frame_k : Cert.quiescent_Kernel := fun m g _ =>
  (θ_run _ _ _).mono (fun _ h => ⟨fun c => (h.1 c).2, h.2⟩) (Cert.Kernel.Hand.run_value m g)

/-- The same at the ideal instance. -/
theorem frame_i : Cert.quiescent_KernelIdeal := fun m g _ =>
  (θ_run _ _ _).mono (fun _ h => ⟨fun c => (h.1 c).2, h.2⟩) (Cert.KernelIdeal.Hand.run_value m g)

/-- Every run of the reference leaves its arguments as launched. -/
theorem frame_r : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The two results are the same array, where the memories agree on the arguments and no weight is negative. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_weights_nonneg m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    : (Pipeline.afterTail₀ Cert.KernelIdeal.cfgs (Cert.KernelIdeal.Hand.dats m) 0 (Cert.KernelIdeal.Gen.V0 m) [Cert.KernelIdeal.Gen.hostOps1] c Cert.KernelIdeal.main_v4 : Vec Ideal Cert.KernelIdeal.S96x1x3072 .bf16)
      = Cert.ReferenceIdeal.Value.res_main_v74 (F := Ideal) m' c := by
  funext i
  rw [show i = ix3 (i 0) (i 1) (i 2) from by funext a; fin_cases a <;> rfl]
  refine (Cert.KernelIdeal.Hand.result_at m c (i 0) (i 1) (i 2)).trans ?_
  refine Eq.trans ?_ (Cert.ReferenceIdeal.Hand.ref_at m' c (i 0) (i 1) (i 2)).symm
  unfold Cert.ReferenceIdeal.Hand.D1 Cert.ReferenceIdeal.Hand.D2 Cert.ReferenceIdeal.Hand.xRow
  rw [h0, h1, h2, h3, h4, h5, h6, h7, h8]
  exact (Cert.Spec.mix_eq _ _ _ fun k => Cert.Pre_weights_nonneg.nonneg _ _ _ _ _ _ _ _ _ _ (congrFun (hpre c) _)).symm

/-- The kernel's result, over the extended reals, is the reference's. -/
theorem algebraic : Cert.algebraic_KernelIdeal_ReferenceIdeal_pre_weights_nonneg := fun m g m' g' hpre hagree =>
  ⟨fun c => Cert.ReferenceIdeal.Value.res_main_v74 (F := Ideal) m' c,
    (θ_run _ _ _).mono (fun _ h c => by
      obtain ⟨h0, h1, h2, h3, h4, h5, h6, h7, h8⟩ := hagree c
      exact ⟨(h.1 c).1.trans (results m m' hpre c h0 h1 h2 h3 h4 h5 h6 h7 h8), (h.1 c).2⟩) (Cert.KernelIdeal.Hand.run_value m g),
    Cert.ReferenceIdeal.Value.run (F := Ideal) m' g'⟩

theorem claim : Cert.Claim :=
  ⟨Cert.Kernel.Gen.facts, Cert.KernelIdeal.Gen.facts, Cert.ReferenceIdeal.Gen.facts, Cert.Pre_weights_nonneg.facts,
    frame_k, frame_i, fun m g _ => frame_i m g trivial, frame_r, fun m g _ => frame_r m g trivial, trivial, algebraic⟩

end Cert.Proof

end
